-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ preserves_Kernel_KernelIdeal
    ∧ algebraic_KernelIdeal_ReferenceIdeal_pre_finite_scores (hKernelIdeal := hKernelIdeal) (hReferenceIdeal := hReferenceIdeal) (hPre_finite_scores := hPre_finite_scores)
-- ==== Pre_finite_scores.lean ====
abbrev S2x8192x1024 : Shape := ⟨3, ![2, 8192, 1024]⟩
abbrev S1x1024 : Shape := ⟨2, ![1, 1024]⟩
abbrev S1x1024x7424 : Shape := ⟨3, ![1, 1024, 7424]⟩
abbrev S1x2048 : Shape := ⟨2, ![1, 2048]⟩
abbrev S1x16 : Shape := ⟨2, ![1, 16]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S_ : Shape := ⟨0, ![]⟩

class Facts : Prop where
  bcast_S_S2x8192x1024 : S_.BroadcastsInDim S2x8192x1024 (![] : Fin 0 → Fin S2x8192x1024.rank)
  bcast_S_S1x1024 : S_.BroadcastsInDim S1x1024 (![] : Fin 0 → Fin S1x1024.rank)
  bcast_S_S1x1024x7424 : S_.BroadcastsInDim S1x1024x7424 (![] : Fin 0 → Fin S1x1024x7424.rank)
  bcast_S_S1x16 : S_.BroadcastsInDim S1x16 (![] : Fin 0 → Fin S1x16.rank)

variable [Facts]

def fn_part1 {F : FTy → Type} [FloatOps F] (main_arg4 : FVec F S1x16 .f32) (main_v5 : IVec S2x8192x1024 1) (main_v11 : IVec S1x1024 1) (main_v17 : IVec S1x1024x7424 1) : IVec S2x8192x1024 1 × IVec S1x1024 1 × IVec S1x1024x7424 1 × IVec S1x16 1 :=
  let main_cst_5 : FVec F S_ .f32 := constant S_ .f32 0x7F800000#32
  let main_v18 : FVec F S1x16 .f32 := broadcastInDim S1x16 ![] bcast_S_S1x16 main_cst_5
  let main_v19 : IVec S1x16 1 := cmpf .olt main_arg4 main_v18
  (main_v5, main_v11, main_v17, main_v19)

def fn {F : FTy → Type} [FloatOps F] (main_arg0 : FVec F S2x8192x1024 .f32) (main_arg1 : FVec F S1x1024 .f32) (main_arg2 : FVec F S1x1024x7424 .f32) (main_arg3 : FVec F S1x2048 .f32) (main_arg4 : FVec F S1x16 .f32) (main_arg5 : FVec F S1x8x128x128 .f32) (main_arg6 : FVec F S1x8x128 .f32) (main_arg7 : FVec F S1x1024 .f32) (main_arg8 : FVec F S1x1024 .f32) (main_arg9 : FVec F S1x1024x1024 .f32) (main_arg10 : FVec F S1x1024x1024 .f32) (main_arg11 : FVec F S1x1024x1024 .f32) (main_arg12 : FVec F S1024 .f32) : IVec S2x8192x1024 1 × IVec S1x1024 1 × IVec S1x1024x7424 1 × IVec S1x16 1 :=
  let main_cst : FVec F S_ .f32 := constant S_ .f32 0x7F800000#32
  let main_v0 : FVec F S2x8192x1024 .f32 := broadcastInDim S2x8192x1024 ![] bcast_S_S2x8192x1024 main_cst
  let main_v1 : IVec S2x8192x1024 1 := cmpf .olt main_arg0 main_v0
  let main_cst_0 : FVec F S_ .f32 := constant S_ .f32 0x7F800000#32
  let main_v2 : FVec F S_ .f32 := Host.negf main_cst_0
  let main_v3 : FVec F S2x8192x1024 .f32 := broadcastInDim S2x8192x1024 ![] bcast_S_S2x8192x1024 main_v2
  let main_v4 : IVec S2x8192x1024 1 := cmpf .ogt main_arg0 main_v3
  let main_v5 : IVec S2x8192x1024 1 := andi main_v1 main_v4
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_arg1 main_v6
  let main_cst_2 : FVec F S_ .f32 := constant S_ .f32 0x7F800000#32
  let main_v8 : FVec F S_ .f32 := Host.negf main_cst_2
  let main_v9 : FVec F S1x1024 .f32 := broadcastInDim S1x1024 ![] bcast_S_S1x1024 main_v8
  let main_v10 : IVec S1x1024 1 := cmpf .ogt main_arg1 main_v9
  let main_v11 : IVec S1x1024 1 := andi main_v7 main_v10
  let main_cst_3 : FVec F S_ .f32 := constant S_ .f32 0x7F800000#32
  let main_v12 : FVec F S1x1024x7424 .f32 := broadcastInDim S1x1024x7424 ![] bcast_S_S1x1024x7424 main_cst_3
  let main_v13 : IVec S1x1024x7424 1 := cmpf .olt main_arg2 main_v12
  let main_cst_4 : FVec F S_ .f32 := constant S_ .f32 0x7F800000#32
  let main_v14 : FVec F S_ .f32 := Host.negf main_cst_4
  let main_v15 : FVec F S1x1024x7424 .f32 := broadcastInDim S1x1024x7424 ![] bcast_S_S1x1024x7424 main_v14
  let main_v16 : IVec S1x1024x7424 1 := cmpf .ogt main_arg2 main_v15
  let main_v17 : IVec S1x1024x7424 1 := andi main_v13 main_v16
  fn_part1 (F := F) main_arg4 main_v5 main_v11 main_v17
-- ==== Kernel.lean ====
abbrev S2x8192x1024 : Shape := ⟨3, ![2, 8192, 1024]⟩
abbrev S1x1024 : Shape := ⟨2, ![1, 1024]⟩
abbrev S1x1024x7424 : Shape := ⟨3, ![1, 1024, 7424]⟩
abbrev S1x2048 : Shape := ⟨2, ![1, 2048]⟩
abbrev S1x16 : Shape := ⟨2, ![1, 16]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S8 : Shape := ⟨1, ![8]⟩
abbrev S_ : Shape := ⟨0, ![]⟩
abbrev S8192 : Shape := ⟨1, ![8192]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S16 : Shape := ⟨1, ![16]⟩
abbrev S1024x7424 : Shape := ⟨2, ![1024, 7424]⟩
abbrev S2048 : Shape := ⟨1, ![2048]⟩
abbrev S8x128x128 : Shape := ⟨3, ![8, 128, 128]⟩
abbrev S8x128 : Shape := ⟨2, ![8, 128]⟩
abbrev S1024x1024 : Shape := ⟨2, ![1024, 1024]⟩
abbrev S128x8 : Shape := ⟨2, ![128, 8]⟩
abbrev S128x8x128 : Shape := ⟨3, ![128, 8, 128]⟩
abbrev S128x1024 : Shape := ⟨2, ![128, 1024]⟩
abbrev S1x256x1024 : Shape := ⟨3, ![1, 256, 1024]⟩
abbrev S256x128 : Shape := ⟨2, ![256, 128]⟩
abbrev S256x1024 : Shape := ⟨2, ![256, 1024]⟩
abbrev S256x2048 : Shape := ⟨2, ![256, 2048]⟩
abbrev S2x384x128 : Shape := ⟨3, ![2, 384, 128]⟩
abbrev S512x256 : Shape := ⟨2, ![512, 256]⟩
abbrev S128x128 : Shape := ⟨2, ![128, 128]⟩
abbrev S1x128x128 : Shape := ⟨3, ![1, 128, 128]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256x128 : Shape := ⟨3, ![1, 256, 128]⟩
abbrev S1024x2048 : Shape := ⟨2, ![1024, 2048]⟩
abbrev S128x256 : Shape := ⟨2, ![128, 256]⟩
abbrev S512x128 : Shape := ⟨2, ![512, 128]⟩
abbrev S1 : Shape := ⟨1, ![1]⟩
abbrev S128 : Shape := ⟨1, ![128]⟩
abbrev S128x1 : Shape := ⟨2, ![128, 1]⟩

abbrev nBuf : Space → Nat
  | .hbm => 70
  | .vmem => 35
  | .smem => 1
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x7424, .f32⟩
  | .hbm, ⟨3, _⟩ => ⟨S1x2048, .f32⟩
  | .hbm, ⟨4, _⟩ => ⟨S1x16, .f32⟩
  | .hbm, ⟨5, _⟩ => ⟨S1x8x128x128, .f32⟩
  | .hbm, ⟨6, _⟩ => ⟨S1x8x128, .f32⟩
  | .hbm, ⟨7, _⟩ => ⟨S1x1024, .f32⟩
  | .hbm, ⟨8, _⟩ => ⟨S1x1024, .f32⟩
  | .hbm, ⟨9, _⟩ => ⟨S1x1024x1024, .f32⟩
  | .hbm, ⟨10, _⟩ => ⟨S1x1024x1024, .f32⟩
  | .hbm, ⟨11, _⟩ => ⟨S1x1024x1024, .f32⟩
  | .hbm, ⟨12, _⟩ => ⟨S1024, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S8192, .i32⟩
  | .hbm, ⟨25, _⟩ => ⟨S8192, .f32⟩
  | .hbm, ⟨26, _⟩ => ⟨S8192x1, .f32⟩
  | .hbm, ⟨27, _⟩ => ⟨S1x8, .f32⟩
  | .hbm, ⟨28, _⟩ => ⟨S8192x8, .f32⟩
  | .hbm, ⟨29, _⟩ => ⟨S8192x8, .f32⟩
  | .hbm, ⟨30, _⟩ => ⟨S8192x8, .f32⟩
  | .hbm, ⟨31, _⟩ => ⟨S8192x8, .f32⟩
  | .hbm, ⟨32, _⟩ => ⟨S8192x8, .f32⟩
  | .hbm, ⟨33, _⟩ => ⟨S_, .f32⟩
  | .hbm, ⟨34, _⟩ => ⟨S8192x48, .f32⟩
  | .hbm, ⟨35, _⟩ => ⟨S8192x64, .f32⟩
  | .hbm, ⟨36, _⟩ => ⟨S8192x8, .f32⟩
  | .hbm, ⟨37, _⟩ => ⟨S_, .f32⟩
  | .hbm, ⟨38, _⟩ => ⟨S8192x48, .f32⟩
  | .hbm, ⟨39, _⟩ => ⟨S8192x64, .f32⟩
  | .hbm, ⟨40, _⟩ => ⟨S1x8192x1x64, .f32⟩
  | .hbm, ⟨41, _⟩ => ⟨S1x8192x2x64, .f32⟩
  | .hbm, ⟨42, _⟩ => ⟨S8192x128, .f32⟩
  | .hbm, ⟨43, _⟩ => ⟨S1x8192x1x64, .f32⟩
  | .hbm, ⟨44, _⟩ => ⟨S1x8192x2x64, .f32⟩
  | .hbm, ⟨45, _⟩ => ⟨S8192x128, .f32⟩
  | .hbm, ⟨46, _⟩ => ⟨S16, .f32⟩
  | .hbm, ⟨47, _⟩ => ⟨S1024, .f32⟩
  | .hbm, ⟨48, _⟩ => ⟨S1024x7424, .f32⟩
  | .hbm, ⟨49, _⟩ => ⟨S2048, .f32⟩
  | .hbm, ⟨50, _⟩ => ⟨S8x128x128, .f32⟩
  | .hbm, ⟨51, _⟩ => ⟨S8x128, .f32⟩
  | .hbm, ⟨52, _⟩ => ⟨S1024, .f32⟩
  | .hbm, ⟨53, _⟩ => ⟨S1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S128x8, .f32⟩
  | .hbm, ⟨58, _⟩ => ⟨S128x8x128, .f32⟩
  | .hbm, ⟨59, _⟩ => ⟨S128x1024, .f32⟩
  | .hbm, ⟨60, _⟩ => ⟨S1x1024, .f32⟩
  | .hbm, ⟨61, _⟩ => ⟨S1024x7424, .bf16⟩
  | .hbm, ⟨62, _⟩ => ⟨S1x2048, .f32⟩
  | .hbm, ⟨63, _⟩ => ⟨S1x1024, .f32⟩
  | .hbm, ⟨64, _⟩ => ⟨S1x1024, .f32⟩
  | .hbm, ⟨65, _⟩ => ⟨S1024x1024, .bf16⟩
  | .hbm, ⟨66, _⟩ => ⟨S1024x1024, .bf16⟩
  | .hbm, ⟨67, _⟩ => ⟨S1024x1024, .bf16⟩
  | .hbm, ⟨68, _⟩ => ⟨S1x1024, .f32⟩
  | .hbm, ⟨69, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x1024, .f32⟩
  | .local _ .vmem, ⟨7, _⟩ => ⟨S1024x7424, .bf16⟩
  | .local _ .vmem, ⟨8, _⟩ => ⟨S1x2048, .f32⟩
  | .local _ .vmem, ⟨9, _⟩ => ⟨S8x128x128, .f32⟩
  | .local _ .vmem, ⟨10, _⟩ => ⟨S128x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1x256x1024, .f32⟩
  | .local _ .vmem, ⟨18, _⟩ => ⟨S1x256x1024, .f32⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x2048, .f32⟩
  | .local _ .vmem, ⟨25, _⟩ => ⟨S2x384x128, .bf16⟩
  | .local _ .vmem, ⟨26, _⟩ => ⟨S2x384x128, .bf16⟩
  | .local _ .vmem, ⟨27, _⟩ => ⟨S2x384x128, .bf16⟩
  | .local _ .vmem, ⟨28, _⟩ => ⟨S2x384x128, .bf16⟩
  | .local _ .vmem, ⟨29, _⟩ => ⟨S512x256, .f32⟩
  | .local _ .vmem, ⟨30, _⟩ => ⟨S512x256, .f32⟩
  | .local _ .vmem, ⟨31, _⟩ => ⟨S512x256, .bf16⟩
  | .local _ .vmem, ⟨32, _⟩ => ⟨S512x256, .bf16⟩
  | .local _ .vmem, ⟨33, _⟩ => ⟨S256x1024, .bf16⟩
  | .local _ .vmem, ⟨34, _⟩ => ⟨S256x1024, .bf16⟩
  | .local _ .smem, ⟨0, _⟩ => ⟨S16, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_scratch8 : Ref sig .tc := ⟨.vmem, 27, rfl⟩
abbrev cc0_scratch9 : Ref sig .tc := ⟨.vmem, 28, rfl⟩
abbrev cc0_scratch10 : Ref sig .tc := ⟨.vmem, 29, rfl⟩
abbrev cc0_scratch11 : Ref sig .tc := ⟨.vmem, 30, rfl⟩
abbrev cc0_scratch12 : Ref sig .tc := ⟨.vmem, 31, rfl⟩
abbrev cc0_scratch13 : Ref sig .tc := ⟨.vmem, 32, rfl⟩
abbrev cc0_scratch14 : Ref sig .tc := ⟨.vmem, 33, rfl⟩
abbrev cc0_scratch15 : Ref sig .tc := ⟨.vmem, 34, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x7424 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x1024 : Shape := ⟨3, ![2, 8192, 1024]⟩
abbrev S1x1024 : Shape := ⟨2, ![1, 1024]⟩
abbrev S1x1024x7424 : Shape := ⟨3, ![1, 1024, 7424]⟩
abbrev S1x2048 : Shape := ⟨2, ![1, 2048]⟩
abbrev S1x16 : Shape := ⟨2, ![1, 16]⟩
abbrev S1x8x128x128 : Shape := ⟨4, ![1, 8, 128, 128]⟩
abbrev S1x8x128 : Shape := ⟨3, ![1, 8, 128]⟩
abbrev S1x1024x1024 : Shape := ⟨3, ![1, 1024, 1024]⟩
abbrev S1024 : Shape := ⟨1, ![1024]⟩
abbrev S8192 : Shape := ⟨1, ![8192]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x7424 : Shape := ⟨2, ![1024, 7424]⟩
abbrev S2x8192x7424 : Shape := ⟨3, ![2, 8192, 7424]⟩
abbrev S2x8192x128 : Shape := ⟨3, ![2, 8192, 128]⟩
abbrev S2x8192x2048 : Shape := ⟨3, ![2, 8192, 2048]⟩
abbrev S2x8192x16x64 : Shape := ⟨4, ![2, 8192, 16, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S2x8192x16x8 : Shape := ⟨4, ![2, 8192, 16, 8]⟩
abbrev S2x8192x16x48 : Shape := ⟨4, ![2, 8192, 16, 48]⟩
abbrev S2x8192x2x64 : Shape := ⟨4, ![2, 8192, 2, 64]⟩
abbrev S2x8192x2x8 : Shape := ⟨4, ![2, 8192, 2, 8]⟩
abbrev S2x8192x2x48 : Shape := ⟨4, ![2, 8192, 2, 48]⟩
abbrev S16 : Shape := ⟨1, ![16]⟩
abbrev S2x128x64x2x8x64 : Shape := ⟨6, ![2, 128, 64, 2, 8, 64]⟩
abbrev S2x128x64x2x64 : Shape := ⟨5, ![2, 128, 64, 2, 64]⟩
abbrev S2x130x64x2x64 : Shape := ⟨5, ![2, 130, 64, 2, 64]⟩
abbrev S2x128x192x2x64 : Shape := ⟨5, ![2, 128, 192, 2, 64]⟩
abbrev S2x2x128x192x64x8 : Shape := ⟨6, ![2, 2, 128, 192, 64, 8]⟩
abbrev S2x2x8x128x64x192 : Shape := ⟨6, ![2, 2, 8, 128, 64, 192]⟩
abbrev S128 : Shape := ⟨1, ![128]⟩
abbrev S128x1 : Shape := ⟨2, ![128, 1]⟩
abbrev S3 : Shape := ⟨1, ![3]⟩
abbrev S1x3 : Shape := ⟨2, ![1, 3]⟩
abbrev S128x3 : Shape := ⟨2, ![128, 3]⟩
abbrev S128x3x64 : Shape := ⟨3, ![128, 3, 64]⟩
abbrev S128x192 : Shape := ⟨2, ![128, 192]⟩
abbrev S1x1x1x128x1x192 : Shape := ⟨6, ![1, 1, 1, 128, 1, 192]⟩
abbrev S2x8 : Shape := ⟨2, ![2, 8]⟩
abbrev S1x2x8x1x1x1 : Shape := ⟨6, ![1, 2, 8, 1, 1, 1]⟩
abbrev S2x2x8x128x64 : Shape := ⟨5, ![2, 2, 8, 128, 64]⟩
abbrev S2x2x8x128x64x1 : Shape := ⟨6, ![2, 2, 8, 128, 64, 1]⟩
abbrev S2x128x2x64x8x64 : Shape := ⟨6, ![2, 128, 2, 64, 8, 64]⟩
abbrev S1024x1024 : Shape := ⟨2, ![1024, 1024]⟩
abbrev S8x128x128 : Shape := ⟨3, ![8, 128, 128]⟩
abbrev S8x128 : Shape := ⟨2, ![8, 128]⟩
abbrev S2x64x128x8x128 : Shape := ⟨5, ![2, 64, 128, 8, 128]⟩
abbrev S1x128 : Shape := ⟨2, ![1, 128]⟩
abbrev S128x128 : Shape := ⟨2, ![128, 128]⟩
abbrev S1x128x128 : Shape := ⟨3, ![1, 128, 128]⟩
abbrev S8x2x64x128x128 : Shape := ⟨5, ![8, 2, 64, 128, 128]⟩
abbrev S128x8 : Shape := ⟨2, ![128, 8]⟩
abbrev S1x1x128x8x1 : Shape := ⟨5, ![1, 1, 128, 8, 1]⟩
abbrev S2048 : Shape := ⟨1, ![2048]⟩
abbrev S1x1x2048 : Shape := ⟨3, ![1, 1, 2048]⟩

abbrev nBuf : Space → Nat
  | .hbm => 327
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x7424, .f32⟩
  | 3 => ⟨S1x2048, .f32⟩
  | 4 => ⟨S1x16, .f32⟩
  | 5 => ⟨S1x8x128x128, .f32⟩
  | 6 => ⟨S1x8x128, .f32⟩
  | 7 => ⟨S1x1024, .f32⟩
  | 8 => ⟨S1x1024, .f32⟩
  | 9 => ⟨S1x1024x1024, .f32⟩
  | 10 => ⟨S1x1024x1024, .f32⟩
  | 11 => ⟨S1x1024x1024, .f32⟩
  | 12 => ⟨S1024, .f32⟩
  | 13 => ⟨S8192, .i32⟩
  | 14 => ⟨S1024, .f32⟩
  | 15 => ⟨S2x8192x1024, .f32⟩
  | 16 => ⟨S_, .f32⟩
  | 17 => ⟨S2x8192, .f32⟩
  | 18 => ⟨S2x8192x1, .f32⟩
  | 19 => ⟨S_, .f32⟩
  | 20 => ⟨S2x8192x1, .f32⟩
  | 21 => ⟨S2x8192x1, .f32⟩
  | 22 => ⟨S_, .f32⟩
  | 23 => ⟨S2x8192x1, .f32⟩
  | 24 => ⟨S2x8192x1, .f32⟩
  | 25 => ⟨S2x8192x1, .f32⟩
  | 26 => ⟨S2x8192x1024, .f32⟩
  | 27 => ⟨S2x8192x1024, .f32⟩
  | 28 => ⟨S1x1x1024, .f32⟩
  | 29 => ⟨S2x8192x1024, .f32⟩
  | 30 => ⟨S2x8192x1024, .f32⟩
  | 31 => ⟨S1024x7424, .f32⟩
  | 32 => ⟨S2x8192x7424, .f32⟩
  | 33 => ⟨S2x8192x1024, .f32⟩
  | 34 => ⟨S2x8192x128, .f32⟩
  | 35 => ⟨S2x8192x128, .f32⟩
  | 36 => ⟨S2x8192x1024, .f32⟩
  | 37 => ⟨S2x8192x1024, .f32⟩
  | 38 => ⟨S2x8192x1024, .f32⟩
  | 39 => ⟨S2x8192x1024, .f32⟩
  | 40 => ⟨S2x8192x2048, .f32⟩
  | 41 => ⟨S2x8192x16x64, .f32⟩
  | 42 => ⟨S8, .f32⟩
  | 43 => ⟨S_, .f32⟩
  | 44 => ⟨S8, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S8192, .f32⟩
  | 54 => ⟨S8192x1, .f32⟩
  | 55 => ⟨S1x8, .f32⟩
  | 56 => ⟨S8192x8, .f32⟩
  | 57 => ⟨S8192x8, .f32⟩
  | 58 => ⟨S8192x8, .f32⟩
  | 59 => ⟨S8192x8, .f32⟩
  | 60 => ⟨S1x8192x1x8, .f32⟩
  | 61 => ⟨S8192x8, .f32⟩
  | 62 => ⟨S1x8192x1x8, .f32⟩
  | 63 => ⟨S2x8192x16x8, .f32⟩
  | 64 => ⟨S2x8192x16x8, .f32⟩
  | 65 => ⟨S2x8192x16x48, .f32⟩
  | 66 => ⟨S2x8192x16x8, .f32⟩
  | 67 => ⟨S2x8192x16x8, .f32⟩
  | 68 => ⟨S2x8192x16x8, .f32⟩
  | 69 => ⟨S2x8192x16x8, .f32⟩
  | 70 => ⟨S2x8192x16x8, .f32⟩
  | 71 => ⟨S2x8192x16x8, .f32⟩
  | 72 => ⟨S2x8192x16x8, .f32⟩
  | 73 => ⟨S2x8192x16x8, .f32⟩
  | 74 => ⟨S2x8192x16x8, .f32⟩
  | 75 => ⟨S2x8192x16x8, .f32⟩
  | 76 => ⟨S2x8192x16x64, .f32⟩
  | 77 => ⟨S2x8192x2x64, .f32⟩
  | 78 => ⟨S8, .f32⟩
  | 79 => ⟨S_, .f32⟩
  | 80 => ⟨S8, .f32⟩
  | 81 => ⟨S8, .f32⟩
  | 82 => ⟨S8, .f32⟩
  | 83 => ⟨S_, .f32⟩
  | 84 => ⟨S8, .f32⟩
  | 85 => ⟨S8, .f32⟩
  | 86 => ⟨S_, .f32⟩
  | 87 => ⟨S8, .f32⟩
  | 88 => ⟨S8, .f32⟩
  | 89 => ⟨S8192, .f32⟩
  | 90 => ⟨S8192x1, .f32⟩
  | 91 => ⟨S1x8, .f32⟩
  | 92 => ⟨S8192x8, .f32⟩
  | 93 => ⟨S8192x8, .f32⟩
  | 94 => ⟨S8192x8, .f32⟩
  | 95 => ⟨S8192x8, .f32⟩
  | 96 => ⟨S1x8192x1x8, .f32⟩
  | 97 => ⟨S8192x8, .f32⟩
  | 98 => ⟨S1x8192x1x8, .f32⟩
  | 99 => ⟨S2x8192x2x8, .f32⟩
  | 100 => ⟨S2x8192x2x8, .f32⟩
  | 101 => ⟨S2x8192x2x48, .f32⟩
  | 102 => ⟨S2x8192x2x8, .f32⟩
  | 103 => ⟨S2x8192x2x8, .f32⟩
  | 104 => ⟨S2x8192x2x8, .f32⟩
  | 105 => ⟨S2x8192x2x8, .f32⟩
  | 106 => ⟨S2x8192x2x8, .f32⟩
  | 107 => ⟨S2x8192x2x8, .f32⟩
  | 108 => ⟨S2x8192x2x8, .f32⟩
  | 109 => ⟨S2x8192x2x8, .f32⟩
  | 110 => ⟨S2x8192x2x8, .f32⟩
  | 111 => ⟨S2x8192x2x8, .f32⟩
  | 112 => ⟨S2x8192x2x64, .f32⟩
  | 113 => ⟨S2x8192x2x64, .f32⟩
  | 114 => ⟨S16, .f32⟩
  | 115 => ⟨S2x128x64x2x8x64, .f32⟩
  | 116 => ⟨S2x128x64x2x64, .f32⟩
  | 117 => ⟨S_, .i32⟩
  | 118 => ⟨S_, .f32⟩
  | 119 => ⟨S2x130x64x2x64, .f32⟩
  | 120 => ⟨S2x128x64x2x64, .f32⟩
  | 121 => ⟨S_, .i32⟩
  | 122 => ⟨S_, .f32⟩
  | 123 => ⟨S2x130x64x2x64, .f32⟩
  | 124 => ⟨S2x128x64x2x64, .f32⟩
  | 125 => ⟨S2x128x64x2x64, .f32⟩
  | 126 => ⟨S2x128x64x2x64, .f32⟩
  | 127 => ⟨S2x128x192x2x64, .f32⟩
  | _ => ⟨S2x8192x1024, .f32⟩

abbrev hbmTy0_1 (i : Nat) : BufTy := match i % 128 with
  | 0 => ⟨S2x128x64x2x64, .f32⟩
  | 1 => ⟨S2x128x64x2x64, .f32⟩
  | 2 => ⟨S2x128x64x2x64, .f32⟩
  | 3 => ⟨S2x128x192x2x64, .f32⟩
  | 4 => ⟨S2x2x128x192x64x8, .f32⟩
  | 5 => ⟨S2x2x8x128x64x192, .f32⟩
  | 6 => ⟨S_, .f32⟩
  | 7 => ⟨S2x2x8x128x64x192, .f32⟩
  | 8 => ⟨S2x2x8x128x64x192, .f32⟩
  | 9 => ⟨S128, .i32⟩
  | 10 => ⟨S128x1, .i32⟩
  | 11 => ⟨S_, .i32⟩
  | 12 => ⟨S128x1, .i32⟩
  | 13 => ⟨S128x1, .i32⟩
  | 14 => ⟨S3, .i32⟩
  | 15 => ⟨S1x3, .i32⟩
  | 16 => ⟨S128x3, .i32⟩
  | 17 => ⟨S128x3, .i32⟩
  | 18 => ⟨S128x3, .i32⟩
  | 19 => ⟨S_, .i32⟩
  | 20 => ⟨S128x3, .i32⟩
  | 21 => ⟨S128x3, .i1⟩
  | 22 => ⟨S128x3x64, .i1⟩
  | 23 => ⟨S128x192, .i1⟩
  | 24 => ⟨S1x1x1x128x1x192, .i1⟩
  | 25 => ⟨S_, .f32⟩
  | 26 => ⟨S_, .f32⟩
  | 27 => ⟨S2x2x8x128x64x192, .i1⟩
  | 28 => ⟨S2x2x8x128x64x192, .f32⟩
  | 29 => ⟨S2x2x8x128x64x192, .f32⟩
  | 30 => ⟨S2x8, .f32⟩
  | 31 => ⟨S1x2x8x1x1x1, .f32⟩
  | 32 => ⟨S_, .f32⟩
  | 33 => ⟨S2x2x8x128x64, .f32⟩
  | 34 => ⟨S2x2x8x128x64x1, .f32⟩
  | 35 => ⟨S2x2x8x128x64x1, .f32⟩
  | 36 => ⟨S2x2x8x128x64x1, .f32⟩
  | 37 => ⟨S2x2x8x128x64x192, .f32⟩
  | 38 => ⟨S2x2x8x128x64x192, .f32⟩
  | 39 => ⟨S2x2x8x128x64x192, .f32⟩
  | 40 => ⟨S_, .f32⟩
  | 41 => ⟨S2x2x8x128x64, .f32⟩
  | 42 => ⟨S2x2x8x128x64x1, .f32⟩
  | 43 => ⟨S2x2x8x128x64x1, .f32⟩
  | 44 => ⟨S2x2x8x128x64x1, .f32⟩
  | 45 => ⟨S2x2x8x128x64x1, .f32⟩
  | 46 => ⟨S2x2x8x128x64x1, .f32⟩
  | 47 => ⟨S2x2x8x128x64x192, .f32⟩
  | 48 => ⟨S2x2x8x128x64x192, .f32⟩
  | 49 => ⟨S2x128x2x64x8x64, .f32⟩
  | 50 => ⟨S2x128x64x2x8x64, .f32⟩
  | 51 => ⟨S2x8192x1024, .f32⟩
  | 52 => ⟨S2x8192x1024, .f32⟩
  | 53 => ⟨S2x8192x1024, .f32⟩
  | 54 => ⟨S_, .f32⟩
  | 55 => ⟨S2x8192x1024, .f32⟩
  | 56 => ⟨S2x8192x1024, .f32⟩
  | 57 => ⟨S_, .f32⟩
  | 58 => ⟨S2x8192x1024, .f32⟩
  | 59 => ⟨S2x8192x1024, .f32⟩
  | 60 => ⟨S2x8192x1024, .f32⟩
  | 61 => ⟨S2x8192x1024, .f32⟩
  | 62 => ⟨S1024x1024, .f32⟩
  | 63 => ⟨S2x8192x1024, .f32⟩
  | 64 => ⟨S_, .f32⟩
  | 65 => ⟨S2x8192x1024, .f32⟩
  | 66 => ⟨S2x8192x1024, .f32⟩
  | 67 => ⟨S2x8192x1024, .f32⟩
  | 68 => ⟨S_, .f32⟩
  | 69 => ⟨S2x8192x1024, .f32⟩
  | 70 => ⟨S2x8192x1024, .f32⟩
  | 71 => ⟨S2x8192x1024, .f32⟩
  | 72 => ⟨S2x8192x1024, .f32⟩
  | 73 => ⟨S_, .f32⟩
  | 74 => ⟨S2x8192x1024, .f32⟩
  | 75 => ⟨S2x8192x1024, .f32⟩
  | 76 => ⟨S2x8192x1024, .f32⟩
  | 77 => ⟨S_, .f32⟩
  | 78 => ⟨S2x8192x1024, .f32⟩
  | 79 => ⟨S2x8192x1024, .f32⟩
  | 80 => ⟨S2x8192x1024, .f32⟩
  | 81 => ⟨S2x8192x1024, .f32⟩
  | 82 => ⟨S8x128x128, .f32⟩
  | 83 => ⟨S8x128, .f32⟩
  | 84 => ⟨S1024, .f32⟩
  | 85 => ⟨S1024, .f32⟩
  | 86 => ⟨S_, .f32⟩
  | 87 => ⟨S2x8192, .f32⟩
  | 88 => ⟨S2x8192x1, .f32⟩
  | 89 => ⟨S_, .f32⟩
  | 90 => ⟨S2x8192x1, .f32⟩
  | 91 => ⟨S2x8192x1, .f32⟩
  | 92 => ⟨S2x8192x1024, .f32⟩
  | 93 => ⟨S2x8192x1024, .f32⟩
  | 94 => ⟨S2x8192x1024, .f32⟩
  | 95 => ⟨S_, .f32⟩
  | 96 => ⟨S2x8192, .f32⟩
  | 97 => ⟨S2x8192x1, .f32⟩
  | 98 => ⟨S_, .f32⟩
  | 99 => ⟨S2x8192x1, .f32⟩
  | 100 => ⟨S2x8192x1, .f32⟩
  | 101 => ⟨S_, .f32⟩
  | 102 => ⟨S2x8192x1, .f32⟩
  | 103 => ⟨S2x8192x1, .f32⟩
  | 104 => ⟨S2x8192x1, .f32⟩
  | 105 => ⟨S2x8192x1024, .f32⟩
  | 106 => ⟨S2x8192x1024, .f32⟩
  | 107 => ⟨S1x1x1024, .f32⟩
  | 108 => ⟨S2x8192x1024, .f32⟩
  | 109 => ⟨S2x8192x1024, .f32⟩
  | 110 => ⟨S1x1x1024, .f32⟩
  | 111 => ⟨S2x8192x1024, .f32⟩
  | 112 => ⟨S2x8192x1024, .f32⟩
  | 113 => ⟨S2x64x128x8x128, .f32⟩
  | 114 => ⟨S128, .i32⟩
  | 115 => ⟨S_, .i32⟩
  | 116 => ⟨S_, .i32⟩
  | 117 => ⟨S128, .i32⟩
  | 118 => ⟨S128, .i32⟩
  | 119 => ⟨S128, .i32⟩
  | 120 => ⟨S_, .i32⟩
  | 121 => ⟨S128, .i32⟩
  | 122 => ⟨S128, .i1⟩
  | 123 => ⟨S128, .i32⟩
  | 124 => ⟨S128, .i32⟩
  | 125 => ⟨S_, .i32⟩
  | 126 => ⟨S128, .i32⟩
  | 127 => ⟨S128, .i1⟩
  | _ => ⟨S2x8192x1024, .f32⟩

abbrev hbmTy0_2 (i : Nat) : BufTy := match i % 128 with
  | 0 => ⟨S128, .i1⟩
  | 1 => ⟨S_, .i32⟩
  | 2 => ⟨S128, .i32⟩
  | 3 => ⟨S128, .i32⟩
  | 4 => ⟨S128, .i32⟩
  | 5 => ⟨S1x128, .i32⟩
  | 6 => ⟨S128x1, .i32⟩
  | 7 => ⟨S128x128, .i32⟩
  | 8 => ⟨S128x128, .i32⟩
  | 9 => ⟨S128x128, .i1⟩
  | 10 => ⟨S1x128x128, .i1⟩
  | 11 => ⟨S_, .f32⟩
  | 12 => ⟨S8x128x128, .f32⟩
  | 13 => ⟨S8x128x128, .i1⟩
  | 14 => ⟨S8x128x128, .f32⟩
  | 15 => ⟨S8x2x64x128x128, .f32⟩
  | 16 => ⟨S2x64x128x8x128, .f32⟩
  | 17 => ⟨S128x8, .f32⟩
  | 18 => ⟨S1x1x128x8x1, .f32⟩
  | 19 => ⟨S2x64x128x8x128, .f32⟩
  | 20 => ⟨S2x64x128x8x128, .f32⟩
  | 21 => ⟨S2x8192x1024, .f32⟩
  | 22 => ⟨S2x8192x1024, .f32⟩
  | 23 => ⟨S2x8192x1024, .f32⟩
  | 24 => ⟨S2x8192x1024, .f32⟩
  | 25 => ⟨S_, .f32⟩
  | 26 => ⟨S2x8192x1024, .f32⟩
  | 27 => ⟨S2x8192x1024, .f32⟩
  | 28 => ⟨S_, .f32⟩
  | 29 => ⟨S2x8192x1024, .f32⟩
  | 30 => ⟨S2x8192x1024, .f32⟩
  | 31 => ⟨S2x8192x1024, .f32⟩
  | 32 => ⟨S2x8192x1024, .f32⟩
  | 33 => ⟨S1024x1024, .f32⟩
  | 34 => ⟨S2x8192x1024, .f32⟩
  | 35 => ⟨S2048, .f32⟩
  | 36 => ⟨S1x1x2048, .f32⟩
  | 37 => ⟨S2x8192x2048, .f32⟩
  | 38 => ⟨S2x8192x2048, .f32⟩
  | 39 => ⟨S2x8192x2048, .f32⟩
  | 40 => ⟨S2x8192x2048, .f32⟩
  | 41 => ⟨S_, .f32⟩
  | 42 => ⟨S2x8192x2048, .f32⟩
  | 43 => ⟨S2x8192x2048, .f32⟩
  | 44 => ⟨S_, .f32⟩
  | 45 => ⟨S2x8192x2048, .f32⟩
  | 46 => ⟨S2x8192x2048, .f32⟩
  | 47 => ⟨S2x8192x1024, .f32⟩
  | 48 => ⟨S2x8192x1024, .f32⟩
  | 49 => ⟨S2x8192x1024, .f32⟩
  | 50 => ⟨S2x8192x1024, .f32⟩
  | 51 => ⟨S2x8192x1024, .f32⟩
  | 52 => ⟨S1024x1024, .f32⟩
  | 53 => ⟨S2x8192x1024, .f32⟩
  | 54 => ⟨S2x8192x1024, .f32⟩
  | 55 => ⟨S2x8192x1024, .f32⟩
  | 56 => ⟨S_, .f32⟩
  | 57 => ⟨S2x8192, .f32⟩
  | 58 => ⟨S2x8192x1, .f32⟩
  | 59 => ⟨S_, .f32⟩
  | 60 => ⟨S2x8192x1, .f32⟩
  | 61 => ⟨S2x8192x1, .f32⟩
  | 62 => ⟨S_, .f32⟩
  | 63 => ⟨S2x8192x1, .f32⟩
  | 64 => ⟨S2x8192x1, .f32⟩
  | 65 => ⟨S2x8192x1, .f32⟩
  | 66 => ⟨S2x8192x1024, .f32⟩
  | 67 => ⟨S2x8192x1024, .f32⟩
  | 68 => ⟨S1x1x1024, .f32⟩
  | 69 => ⟨S2x8192x1024, .f32⟩
  | 70 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_cst_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_5 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_6 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_c : Ref sig .tc := ⟨.hbm, 117, rfl⟩
abbrev main_call0_v0 : Ref sig .tc := ⟨.hbm, 118, rfl⟩
abbrev main_v95 : Ref sig .tc := ⟨.hbm, 119, rfl⟩
abbrev main_v96 : Ref sig .tc := ⟨.hbm, 120, rfl⟩
abbrev main_c_8 : Ref sig .tc := ⟨.hbm, 121, rfl⟩
abbrev main_call1_v0 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_cst_9 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_c_10 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_c_11 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_cst_12 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_13 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_cst_14 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_call3_v0 : Ref sig .tc := ⟨.hbm, 180, rfl⟩
abbrev main_call3_v1 : Ref sig .tc := ⟨.hbm, 181, rfl⟩
abbrev main_call3_cst : Ref sig .tc := ⟨.hbm, 182, rfl⟩
abbrev main_call3_v2 : Ref sig .tc := ⟨.hbm, 183, rfl⟩
abbrev main_call3_v3 : Ref sig .tc := ⟨.hbm, 184, rfl⟩
abbrev main_call3_cst_0 : Ref sig .tc := ⟨.hbm, 185, rfl⟩
abbrev main_call3_v4 : Ref sig .tc := ⟨.hbm, 186, rfl⟩
abbrev main_call3_v5 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_cst_15 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_cst_16 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_17 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_cst_18 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_19 : Ref sig .tc := ⟨.hbm, 214, rfl⟩
abbrev main_v167 : Ref sig .tc := ⟨.hbm, 215, rfl⟩
abbrev main_v168 : Ref sig .tc := ⟨.hbm, 216, rfl⟩
abbrev main_cst_20 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_21 : Ref sig .tc := ⟨.hbm, 223, rfl⟩
abbrev main_v174 : Ref sig .tc := ⟨.hbm, 224, rfl⟩
abbrev main_v175 : Ref sig .tc := ⟨.hbm, 225, rfl⟩
abbrev main_cst_22 : Ref sig .tc := ⟨.hbm, 226, rfl⟩
abbrev main_v176 : Ref sig .tc := ⟨.hbm, 227, rfl⟩
abbrev main_v177 : Ref sig .tc := ⟨.hbm, 228, rfl⟩
abbrev main_cst_23 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_v190 : Ref sig .tc := ⟨.hbm, 242, rfl⟩
abbrev main_c_24 : Ref sig .tc := ⟨.hbm, 243, rfl⟩
abbrev main_call4_v0 : Ref sig .tc := ⟨.hbm, 244, rfl⟩
abbrev main_call4_v1 : Ref sig .tc := ⟨.hbm, 245, rfl⟩
abbrev main_call4_v2 : Ref sig .tc := ⟨.hbm, 246, rfl⟩
abbrev main_call4_v3 : Ref sig .tc := ⟨.hbm, 247, rfl⟩
abbrev main_call4_v4 : Ref sig .tc := ⟨.hbm, 248, rfl⟩
abbrev main_call4_v5 : Ref sig .tc := ⟨.hbm, 249, rfl⟩
abbrev main_call4_v6 : Ref sig .tc := ⟨.hbm, 250, rfl⟩
abbrev main_call4_v7 : Ref sig .tc := ⟨.hbm, 251, rfl⟩
abbrev main_call4_v8 : Ref sig .tc := ⟨.hbm, 252, rfl⟩
abbrev main_call4_c : Ref sig .tc := ⟨.hbm, 253, rfl⟩
abbrev main_call4_v9 : Ref sig .tc := ⟨.hbm, 254, rfl⟩
abbrev main_call4_v10 : Ref sig .tc := ⟨.hbm, 255, rfl⟩
abbrev main_call4_v11 : Ref sig .tc := ⟨.hbm, 256, rfl⟩
abbrev main_call4_c_0 : Ref sig .tc := ⟨.hbm, 257, rfl⟩
abbrev main_call4_v12 : Ref sig .tc := ⟨.hbm, 258, rfl⟩
abbrev main_call4_v13 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_v194 : Ref sig .tc := ⟨.hbm, 263, rfl⟩
abbrev main_v195 : Ref sig .tc := ⟨.hbm, 264, rfl⟩
abbrev main_v196 : Ref sig .tc := ⟨.hbm, 265, rfl⟩
abbrev main_v197 : Ref sig .tc := ⟨.hbm, 266, rfl⟩
abbrev main_cst_25 : Ref sig .tc := ⟨.hbm, 267, rfl⟩
abbrev main_v198 : Ref sig .tc := ⟨.hbm, 268, rfl⟩
abbrev main_call5_v0 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_call6_v0 : Ref sig .tc := ⟨.hbm, 279, rfl⟩
abbrev main_call6_v1 : Ref sig .tc := ⟨.hbm, 280, rfl⟩
abbrev main_call6_cst : Ref sig .tc := ⟨.hbm, 281, rfl⟩
abbrev main_call6_v2 : Ref sig .tc := ⟨.hbm, 282, rfl⟩
abbrev main_call6_v3 : Ref sig .tc := ⟨.hbm, 283, rfl⟩
abbrev main_call6_cst_0 : Ref sig .tc := ⟨.hbm, 284, rfl⟩
abbrev main_call6_v4 : Ref sig .tc := ⟨.hbm, 285, rfl⟩
abbrev main_call6_v5 : Ref sig .tc := ⟨.hbm, 286, rfl⟩
abbrev main_v208 : Ref sig .tc := ⟨.hbm, 287, rfl⟩
abbrev main_v209 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_v217 : Ref sig .tc := ⟨.hbm, 296, rfl⟩
abbrev main_cst_26 : Ref sig .tc := ⟨.hbm, 297, rfl⟩
abbrev main_v218 : Ref sig .tc := ⟨.hbm, 298, rfl⟩
abbrev main_v219 : Ref sig .tc := ⟨.hbm, 299, rfl⟩
abbrev main_cst_27 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_cst_28 : Ref sig .tc := ⟨.hbm, 312, rfl⟩
abbrev main_v231 : Ref sig .tc := ⟨.hbm, 313, rfl⟩
abbrev main_v232 : Ref sig .tc := ⟨.hbm, 314, rfl⟩
abbrev main_cst_29 : Ref sig .tc := ⟨.hbm, 315, rfl⟩
abbrev main_v233 : Ref sig .tc := ⟨.hbm, 316, rfl⟩
abbrev main_v234 : Ref sig .tc := ⟨.hbm, 317, rfl⟩
abbrev main_cst_30 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩

abbrev nD : Nat := 1
abbrev τ : Topo := Topo.v7x

variable {F : FTy → Type} [FloatOps F]
-- ==== Proof.Spec.lean ====
/- The layer as plain functions of natural-number coordinates (batch, token, feature), over the extended reals: what both the
   kernel and the reference are shown to compute. Tokens are positions in the sequence, columns those of the combined input
   projection; outside an array's extent a function's value is irrelevant (`0`). -/
module

public import Idealize.ShloMosaic.PureOps.Ideal.Laws
public import Idealize.ShloMosaic.Lib.IdealHost

@[expose] public section

noncomputable section

namespace Cert.Spec

open Idealize.ShloMosaic

/-- The arguments of the layer and its rotation tables, read at natural-number coordinates. -/
structure Args where
  /-- the input, by batch, token, feature -/
  x : ℕ → ℕ → ℕ → EReal
  /-- the gain of the first norm -/
  ng : ℕ → EReal
  /-- the combined input projection, by feature and column -/
  win : ℕ → ℕ → EReal
  /-- the bias of the merge gates -/
  bm : ℕ → EReal
  /-- the sink of each head -/
  sk : ℕ → EReal
  /-- the spatial mixing matrices, by group, row, column -/
  sgw : ℕ → ℕ → ℕ → EReal
  /-- the spatial bias, by group and row -/
  sgb : ℕ → ℕ → EReal
  /-- the layer norm's gain -/
  lng : ℕ → EReal
  /-- the layer norm's offset -/
  lnb : ℕ → EReal
  /-- the attention branch's output projection -/
  wao : ℕ → ℕ → EReal
  /-- the gating branch's output projection -/
  wso : ℕ → ℕ → EReal
  /-- the merged output projection -/
  wo : ℕ → ℕ → EReal
  /-- the gain of the last norm -/
  fg : ℕ → EReal
  /-- the cosine of a token's angle at a frequency -/
  ct : ℕ → ℕ → EReal
  /-- the sine of a token's angle at a frequency -/
  st : ℕ → ℕ → EReal

/-- The feature count, as the float literal both programs divide by. -/
def cN : EReal := Ideal.ofBits .f32 1149239296#32
/-- The norms' epsilon, as its float literal. -/
def eps : EReal := Ideal.ofBits .f32 897988541#32
/-- One half, as its float literal. -/
def half : EReal := Ideal.ofBits .f32 1056964608#32
/-- The float literal of the reciprocal square root of two. -/
def rs2 : EReal := Ideal.ofBits .f32 1060439283#32
/-- The scores' scale, an eighth, as its float literal. -/
def eighth : EReal := Ideal.ofBits .f32 1040187392#32

/-- A row divided by its root mean square. -/
def rms (v : ℕ → EReal) (d : ℕ) : EReal :=
  v d * Ideal.rsqrt (Ideal.div (∑ e : Fin 1024, v e * v e) cN + eps)

/-- A row centred and divided by its standard deviation. -/
def lnv (v : ℕ → EReal) (d : ℕ) : EReal :=
  (v d - Ideal.div (∑ e : Fin 1024, v e) cN) *
    Ideal.rsqrt (Ideal.div (∑ e : Fin 1024, (v e - Ideal.div (∑ e' : Fin 1024, v e') cN) * (v e - Ideal.div (∑ e' : Fin 1024, v e') cN)) cN + eps)

/-- The error-function gelu. -/
def gelu (z : EReal) : EReal := half * z * (1 + Ideal.erf (z * rs2))

/-- The sigmoid-weighted unit. -/
def silu (z : EReal) : EReal := z * Ideal.logistic z

/-- Rotation of the first sixteen of a head's features, in half-split pairs. -/
def rope (z c s : ℕ → EReal) (e : ℕ) : EReal :=
  if e < 8 then z e * c e - z (e + 8) * s e
  else if e < 16 then z e * c (e - 8) + z (e - 8) * s (e - 8)
  else z e

variable (a : Args)

/-- The normed input. -/
def hid (b s d : ℕ) : EReal := rms (a.x b s) d * a.ng d
/-- The combined projection at a column. -/
def PJ (b s n : ℕ) : EReal := ∑ d : Fin 1024, hid a b s d * a.win d n
/-- A head's rotated query. -/
def Q (b s h e : ℕ) : EReal := rope (fun e' => PJ a b s (h * 64 + e')) (a.ct s) (a.st s) e
/-- A key group's rotated key. -/
def K (b s g e : ℕ) : EReal := rope (fun e' => PJ a b s (1024 + (g * 64 + e'))) (a.ct s) (a.st s) e
/-- A key group's value. -/
def V (b s g e : ℕ) : EReal := PJ a b s (1152 + (g * 64 + e))
/-- The keys, with 128 rows of zeros in front. -/
def KH (b n g e : ℕ) : EReal := if 128 ≤ n then K a b (n - 128) g e else 0
/-- The values, with 128 rows of zeros in front. -/
def VH (b n g e : ℕ) : EReal := if 128 ≤ n then V a b (n - 128) g e else 0

/-- The score of key `k` of a token's 192 against head `h`; minus infinity before the sequence. -/
def SC (b s h k : ℕ) : EReal :=
  if 128 ≤ 64 * (s / 64) + k then (∑ e : Fin 64, KH a b (64 * (s / 64) + k) (h / 8) e * Q a b s h e) * eighth else ⊥
/-- The largest of the scores and the sink. -/
def mx (b s h : ℕ) : EReal := max (Finset.univ.sup fun k : Fin 192 => SC a b s h k) (a.sk h)
/-- The softmax denominator, the sink's term included. -/
def den (b s h : ℕ) : EReal :=
  (∑ k : Fin 192, Ideal.exp (SC a b s h k - mx a b s h)) + Ideal.exp (a.sk h - mx a b s h)
/-- Attention: the weighted values of head `h`. -/
def att (b s h e : ℕ) : EReal :=
  ∑ k : Fin 192, VH a b (64 * (s / 64) + k) (h / 8) e * Ideal.div (Ideal.exp (SC a b s h k - mx a b s h)) (den a b s h)
/-- The attention branch, gated. -/
def AIN (b s c : ℕ) : EReal := att a b s (c / 64) (c % 64) * silu (PJ a b s (1280 + c))

/-- The normed value half of the gating branch. -/
def VN (b s c : ℕ) : EReal := lnv (fun c' => gelu (PJ a b s (3328 + c'))) c * a.lng c + a.lnb c
/-- The mixing matrix of a group, causal by chunks of 64. -/
def wm (g i j : ℕ) : EReal := if j / 64 ≤ i / 64 then a.sgw g i j else 0
/-- The spatially mixed values. -/
def MX (b s c : ℕ) : EReal :=
  (∑ j : Fin 128, wm a (c / 128) (s % 128) j * VN a b (128 * (s / 128) + j) c) + a.sgb (c / 128) (s % 128)
/-- The gating branch, gated. -/
def SIN (b s c : ℕ) : EReal := gelu (PJ a b s (2304 + c)) * MX a b s c * silu (PJ a b s (4352 + c))

/-- The merge gates. -/
def gate (b s n : ℕ) : EReal := Ideal.logistic (PJ a b s (5376 + n) + a.bm n)
/-- The merged branches. -/
def Y (b s c : ℕ) : EReal :=
  gate a b s c * (∑ k : Fin 1024, AIN a b s k * a.wao k c) + gate a b s (1024 + c) * (∑ k : Fin 1024, SIN a b s k * a.wso k c)
/-- The layer's output before the last norm. -/
def O (b s c : ℕ) : EReal := a.x b s c + ∑ k : Fin 1024, Y a b s k * a.wo k c
/-- The result. -/
def OUT (b s c : ℕ) : EReal := rms (O a b s) c * a.fg c

end Cert.Spec

end
-- ==== Proof.Alg.lean ====
/- The algebra between the kernel's attention and the reference's, over the extended reals: a window of 256 rows whose
   masked entries vanish is the window of 192 keys; a common factor leaves a sum; a product with the reciprocal of the
   denominator is the quotient, the denominator not being zero when the scores are finite. -/
module

public import proofs.«01_k».proof.Proof.Spec

@[expose] public section

noncomputable section

namespace Cert.Spec

open Idealize.ShloMosaic

/-! ### Sums and maxima over a window -/

/-- A sum over 256 rows that vanishes off the 192 from `64 * c` on. -/
theorem sum_window (c : ℕ) (hc : c < 2) (f : ℕ → EReal)
    (hz : ∀ k < 256, k < 64 * c ∨ 64 * c + 192 ≤ k → f k = 0) :
    ∑ k : Fin 256, f k = ∑ k : Fin 192, f (64 * c + k) := by
  rw [Fin.sum_univ_eq_sum_range f 256, Fin.sum_univ_eq_sum_range (fun k => f (64 * c + k)) 192]
  obtain rfl | rfl : c = 0 ∨ c = 1 := by omega
  · rw [Finset.sum_range_add f 192 64]
    rw [Finset.sum_eq_zero (s := Finset.range 64)]
    · simp
    · intro k hk
      have := Finset.mem_range.mp hk
      exact hz _ (by omega) (by omega)
  · rw [Finset.sum_range_add f 64 192]
    rw [Finset.sum_eq_zero (s := Finset.range 64)]
    · simp
    · intro k hk
      have := Finset.mem_range.mp hk
      exact hz _ (by omega) (by omega)

/-- A maximum over 256 rows that is minus infinity off the 192 from `64 * c` on. -/
theorem sup_window (c : ℕ) (hc : c < 2) (f : ℕ → EReal)
    (hz : ∀ k < 256, k < 64 * c ∨ 64 * c + 192 ≤ k → f k = ⊥) :
    (Finset.univ.sup fun k : Fin 256 => f k) = Finset.univ.sup fun k : Fin 192 => f (64 * c + k) := by
  apply le_antisymm
  · refine Finset.sup_le fun k _ => ?_
    by_cases h : (k : ℕ) < 64 * c ∨ 64 * c + 192 ≤ (k : ℕ)
    · rw [hz k k.2 h]; exact bot_le
    · have hk : (k : ℕ) = 64 * c + ((k : ℕ) - 64 * c) := by omega
      rw [hk]
      exact Finset.le_sup (f := fun j : Fin 192 => f (64 * c + j)) (Finset.mem_univ ⟨(k : ℕ) - 64 * c, by omega⟩)
  · refine Finset.sup_le fun k _ => ?_
    exact Finset.le_sup (f := fun j : Fin 256 => f j) (Finset.mem_univ ⟨64 * c + (k : ℕ), by have := k.2; omega⟩)

/-- A factor that is not negative and not infinite leaves a sum. -/
theorem sum_mul_of_nonneg {n : ℕ} (f : Fin n → EReal) {c : EReal} (h0 : 0 ≤ c) (ht : c ≠ ⊤) :
    (∑ k, f k) * c = ∑ k, f k * c := by
  have : ∀ s : Finset (Fin n), (∑ k ∈ s, f k) * c = ∑ k ∈ s, f k * c := by
    intro s
    induction s using Finset.cons_induction with
    | empty => simp
    | cons a s ha ih => rw [Finset.sum_cons, Finset.sum_cons, EReal.right_distrib_of_nonneg_of_ne_top h0 ht, ih]
  exact this _

/-- A sum over 128 lanes that vanishes on the high half. -/
theorem sum_low (f : ℕ → EReal) (hz : ∀ l, 64 ≤ l → f l = 0) : ∑ l : Fin 128, f l = ∑ e : Fin 64, f e := by
  rw [Fin.sum_univ_eq_sum_range f 128, Fin.sum_univ_eq_sum_range f 64, Finset.sum_range_add f 64 64,
    Finset.sum_eq_zero (s := Finset.range 64) (f := fun x => f (64 + x)) (fun k _ => hz _ (by omega)), add_zero]

/-- A sum over 128 lanes that vanishes on the low half. -/
theorem sum_high (f : ℕ → EReal) (hz : ∀ l, l < 64 → f l = 0) : ∑ l : Fin 128, f l = ∑ e : Fin 64, f (64 + e) := by
  rw [Fin.sum_univ_eq_sum_range f 128, Fin.sum_univ_eq_sum_range (fun e => f (64 + e)) 64, Finset.sum_range_add f 64 64,
    Finset.sum_eq_zero (s := Finset.range 64) (f := f) (fun k hk => hz _ (Finset.mem_range.mp hk)), zero_add]

/-! ### Real values -/

/-- A value that is a real number. -/
def IsR (v : EReal) : Prop := ∃ r : ℝ, v = r

theorem IsR.add {u v : EReal} (hu : IsR u) (hv : IsR v) : IsR (u + v) := by
  obtain ⟨r, rfl⟩ := hu; obtain ⟨q, rfl⟩ := hv; exact ⟨r + q, (EReal.coe_add r q).symm⟩
theorem IsR.mul {u v : EReal} (hu : IsR u) (hv : IsR v) : IsR (u * v) := by
  obtain ⟨r, rfl⟩ := hu; obtain ⟨q, rfl⟩ := hv; exact ⟨r * q, (EReal.coe_mul r q).symm⟩
theorem IsR.sub {u v : EReal} (hu : IsR u) (hv : IsR v) : IsR (u - v) := by
  obtain ⟨r, rfl⟩ := hu; obtain ⟨q, rfl⟩ := hv; exact ⟨r - q, (EReal.coe_sub r q).symm⟩
theorem IsR.zero : IsR 0 := ⟨0, rfl⟩
theorem IsR.sum {n : ℕ} {f : Fin n → EReal} (h : ∀ k, IsR (f k)) : IsR (∑ k, f k) :=
  Finset.sum_induction f IsR (fun _ _ => IsR.add) IsR.zero fun k _ => h k
theorem IsR.of_lt {v : EReal} (h : v < ⊤) (h' : ⊥ < v) : IsR v := ⟨v.toReal, (EReal.coe_toReal h.ne h'.ne').symm⟩

theorem cN_eq : cN = ((1024 : ℝ) : EReal) := by
  unfold cN; simp [Ideal.ofBits, Ideal.ieee, -EReal.coe_mul, -EReal.coe_pow]; norm_num
theorem eps_pos : ∃ r : ℝ, 0 < r ∧ eps = r := by
  unfold eps; simp [Ideal.ofBits, Ideal.ieee, -EReal.coe_mul, -EReal.coe_pow]
theorem eighth_pos : ∃ r : ℝ, 0 < r ∧ eighth = r := by
  unfold eighth; simp [Ideal.ofBits, Ideal.ieee, -EReal.coe_mul, -EReal.coe_pow]

theorem exp_nonneg (v : EReal) : 0 ≤ Ideal.exp v := by
  induction v with
  | bot => simp
  | top => simp
  | coe r => rw [Ideal.exp_coe]; exact EReal.coe_nonneg.mpr (Real.exp_pos r).le

theorem coe_sum {n : ℕ} (f : Fin n → ℝ) : ((∑ k, f k : ℝ) : EReal) = ∑ k, (f k : EReal) := by
  have : ∀ s : Finset (Fin n), ((∑ k ∈ s, f k : ℝ) : EReal) = ∑ k ∈ s, (f k : EReal) := by
    intro s
    induction s using Finset.cons_induction with
    | empty => simp
    | cons a s ha ih => rw [Finset.sum_cons, Finset.sum_cons, EReal.coe_add, ih]
  exact this _

/-- The root mean square of a real row with a positive epsilon has a real reciprocal. -/
theorem IsR.rms {v : ℕ → EReal} (h : ∀ d, IsR (v d)) (d : ℕ) : IsR (rms v d) := by
  refine (h d).mul ?_
  obtain ⟨e, he, hE⟩ := eps_pos
  choose f hf using h
  have hs : (∑ e : Fin 1024, v e * v e) = ((∑ e : Fin 1024, f e * f e : ℝ) : EReal) := by
    rw [coe_sum]
    exact Finset.sum_congr rfl fun k _ => by rw [hf, EReal.coe_mul]
  have hp : 0 ≤ ∑ e : Fin 1024, f e * f e := Finset.sum_nonneg fun k _ => mul_self_nonneg _
  rw [hs, cN_eq, hE]
  have hd : Ideal.div ((∑ e : Fin 1024, f e * f e : ℝ) : EReal) ((1024 : ℝ) : EReal)
      = (((∑ e : Fin 1024, f e * f e) * (1024 : ℝ)⁻¹ : ℝ) : EReal) := by
    unfold Ideal.div
    rw [if_neg (by norm_num), EReal.coe_mul, EReal.coe_inv]
  rw [hd, ← EReal.coe_add, Ideal.rsqrt_coe]
  have hq : 0 < (∑ e : Fin 1024, f e * f e) * (1024 : ℝ)⁻¹ + e := by positivity
  rw [if_neg hq.not_gt, if_neg hq.ne']
  exact ⟨_, rfl⟩

theorem IsR.rope {z c s : ℕ → EReal} (hz : ∀ e, IsR (z e)) (hc : ∀ e, IsR (c e)) (hs : ∀ e, IsR (s e)) (e : ℕ) :
    IsR (rope z c s e) := by
  unfold Spec.rope
  split
  · exact ((hz _).mul (hc _)).sub ((hz _).mul (hs _))
  · split
    · exact ((hz _).mul (hc _)).add ((hz _).mul (hs _))
    · exact hz _

variable (a : Args)

/-- The operands of the scores are real numbers and no sink is infinite. -/
structure Finite : Prop where
  x : ∀ b s d, IsR (a.x b s d)
  ng : ∀ d, IsR (a.ng d)
  win : ∀ d n, IsR (a.win d n)
  ct : ∀ s e, IsR (a.ct s e)
  st : ∀ s e, IsR (a.st s e)
  sk : ∀ h, a.sk h < ⊤

variable {a} (fa : Finite a)
include fa

theorem Finite.pj (b s n : ℕ) : IsR (PJ a b s n) :=
  IsR.sum fun d => ((IsR.rms (fa.x b s) d).mul (fa.ng d)).mul (fa.win d n)
theorem Finite.q (b s h e : ℕ) : IsR (Q a b s h e) := IsR.rope (fun _ => fa.pj _ _ _) (fa.ct s) (fa.st s) e
theorem Finite.kh (b n g e : ℕ) : IsR (KH a b n g e) := by
  unfold KH
  split
  · exact IsR.rope (fun _ => fa.pj _ _ _) (fa.ct _) (fa.st _) e
  · exact IsR.zero
theorem Finite.sc (b s h k : ℕ) (hk : 128 ≤ 64 * (s / 64) + k) : IsR (SC a b s h k) := by
  obtain ⟨r, _, hr⟩ := eighth_pos
  unfold SC
  rw [if_pos hk]
  exact (IsR.sum fun e => (fa.kh _ _ _ _).mul (fa.q _ _ _ _)).mul ⟨r, hr⟩

theorem Finite.mx_lt (b s h : ℕ) : mx a b s h < ⊤ := by
  refine max_lt ((Finset.sup_lt_iff (by simp)).mpr fun k _ => ?_) (fa.sk h)
  by_cases hk : 128 ≤ 64 * (s / 64) + (k : ℕ)
  · obtain ⟨r, hr⟩ := fa.sc b s h k hk
    rw [hr]; exact EReal.coe_lt_top r
  · unfold SC; rw [if_neg hk]; simp

/-- The denominator is not zero: a token's own key has a real score and the maximum is real. -/
theorem Finite.den_pos (b s h : ℕ) : 0 < den a b s h := by
  have hk : 128 + s % 64 < 192 := by omega
  obtain ⟨r, hr⟩ := fa.sc b s h (128 + s % 64) (by omega)
  have hle : SC a b s h (128 + s % 64) ≤ mx a b s h :=
    (Finset.le_sup (f := fun k : Fin 192 => SC a b s h k) (Finset.mem_univ ⟨128 + s % 64, hk⟩)).trans (le_max_left _ _)
  obtain ⟨m, hm⟩ : IsR (mx a b s h) := IsR.of_lt (fa.mx_lt b s h) (by
    refine lt_of_lt_of_le ?_ hle
    rw [hr]; exact EReal.bot_lt_coe r)
  have hp : 0 < Ideal.exp (SC a b s h (128 + s % 64) - mx a b s h) := by
    rw [hr, hm, ← EReal.coe_sub, Ideal.exp_coe]
    exact EReal.coe_pos.mpr (Real.exp_pos _)
  refine lt_of_lt_of_le hp (le_trans ?_ (le_add_of_nonneg_right (exp_nonneg _)))
  exact Finset.single_le_sum (f := fun k : Fin 192 => Ideal.exp (SC a b s h k - mx a b s h))
    (fun k _ => exp_nonneg _) (Finset.mem_univ ⟨128 + s % 64, hk⟩)

omit fa

/-! ### The kernel's window -/

variable (a)

/-- The kernel's masked score of window row `k` (of 256, from 128 before the token's block on). -/
def kS (b s h k : ℕ) : EReal :=
  if s % 128 / 64 ≤ k / 64 ∧ k / 64 ≤ s % 128 / 64 + 2 ∧ 128 ≤ 128 * (s / 128) + k then
    ∑ e : Fin 64, (Q a b s h e * eighth) * KH a b (128 * (s / 128) + k) (h / 8) e
  else ⊥

/-- The kernel's maximum. -/
def kmx (b s h : ℕ) : EReal := max (Finset.univ.sup fun k : Fin 256 => kS a b s h k) (a.sk h)
/-- The kernel's denominator. -/
def kden (b s h : ℕ) : EReal :=
  (∑ k : Fin 256, Ideal.exp (kS a b s h k - kmx a b s h)) + Ideal.exp (a.sk h - kmx a b s h)
/-- The kernel's attention. -/
def katt (b s h e : ℕ) : EReal :=
  (∑ k : Fin 256, Ideal.exp (kS a b s h k - kmx a b s h) * VH a b (128 * (s / 128) + k) (h / 8) e) * Ideal.div 1 (kden a b s h)

theorem kS_in (b s h k : ℕ) (hk : k < 192) : kS a b s h (64 * (s % 128 / 64) + k) = SC a b s h k := by
  obtain ⟨r, hr0, hr⟩ := eighth_pos
  have e1 : 128 * (s / 128) + (64 * (s % 128 / 64) + k) = 64 * (s / 64) + k := by omega
  unfold kS SC
  rw [e1]
  by_cases hv : 128 ≤ 64 * (s / 64) + k
  · rw [if_pos ⟨by omega, by omega, hv⟩, if_pos hv, sum_mul_of_nonneg _ (by rw [hr]; exact EReal.coe_nonneg.mpr hr0.le) (by rw [hr]; exact EReal.coe_ne_top r)]
    exact Finset.sum_congr rfl fun e _ => by rw [mul_right_comm, mul_comm (Q a b s h e)]
  · rw [if_neg (fun h => hv h.2.2), if_neg hv]

theorem kS_out (b s h k : ℕ) (_ : k < 256) (hk : k < 64 * (s % 128 / 64) ∨ 64 * (s % 128 / 64) + 192 ≤ k) :
    kS a b s h k = ⊥ := by
  unfold kS
  rw [if_neg (by omega)]

theorem kmx_eq (b s h : ℕ) : kmx a b s h = mx a b s h := by
  unfold kmx mx
  rw [sup_window (s % 128 / 64) (by omega) (kS a b s h) (kS_out a b s h)]
  congr 1
  exact Finset.sup_congr rfl fun k _ => kS_in a b s h k k.2

theorem kden_eq (b s h : ℕ) : kden a b s h = den a b s h := by
  unfold kden den
  rw [kmx_eq, sum_window (s % 128 / 64) (by omega) (fun k => Ideal.exp (kS a b s h k - mx a b s h))
    (fun k h1 h2 => by simp only [kS_out a b s h k h1 h2, EReal.bot_sub, Ideal.exp_bot])]
  congr 1
  exact Finset.sum_congr rfl fun k _ => by rw [kS_in a b s h k k.2]

/-- The kernel's attention is the reference's, the operands of the scores being finite. -/
theorem katt_eq {a : Args} (fa : Finite a) (b s h e : ℕ) : katt a b s h e = att a b s h e := by
  have hd := fa.den_pos b s h
  have hi0 : 0 ≤ (den a b s h)⁻¹ := EReal.inv_nonneg_of_nonneg hd.le
  have hit : (den a b s h)⁻¹ ≠ ⊤ := (EReal.inv_lt_top _).ne
  have hdiv : ∀ p : EReal, Ideal.div p (den a b s h) = p * (den a b s h)⁻¹ := fun p => by
    unfold Ideal.div; rw [if_neg hd.ne']
  unfold katt att
  rw [kden_eq, kmx_eq, sum_window (s % 128 / 64) (by omega)
    (fun k => Ideal.exp (kS a b s h k - mx a b s h) * VH a b (128 * (s / 128) + k) (h / 8) e)
    (fun k h1 h2 => by simp only [kS_out a b s h k h1 h2, EReal.bot_sub, Ideal.exp_bot, zero_mul]), hdiv, one_mul,
    sum_mul_of_nonneg _ hi0 hit]
  refine Finset.sum_congr rfl fun k _ => ?_
  have e1 : 128 * (s / 128) + (64 * (s % 128 / 64) + (k : ℕ)) = 64 * (s / 64) + k := by omega
  rw [kS_in a b s h k k.2, e1, hdiv, mul_right_comm, mul_comm (VH _ _ _ _ _)]

end Cert.Spec

end
-- ==== Proof.KOps.lean ====
/- The kernel's vector operations read at an index, as the layer's functions of natural-number coordinates: each theorem takes what the
   operands read and gives what the operation's value reads. Token offsets are `o` (of a block of 256 tokens) or `128 * m`. -/
module

public import proofs.«01_k».proof.Proof.Gen.KernelIdeal.Skeleton
public import proofs.«01_k».proof.Proof.Alg
public import Idealize.ShloMosaic.Lib.Pipeline.ValueKit

@[expose] public section

set_option maxRecDepth 16384

noncomputable section

namespace Cert.KOps

open Idealize.ShloMosaic Idealize.ShloMosaic.TcCoe Idealize.SL.Sem
open Cert.KernelIdeal Cert.KernelIdeal.Gen Cert.Spec

variable (a : Args) (b : ℕ)

/-! ### What the arrays of a block hold -/

/-- The cosine table's row of a token, by lane. -/
def cosF (t l : ℕ) : EReal := if l % 64 < 8 then a.ct t (l % 64) else if l % 64 < 16 then a.ct t (l % 64 - 8) else 1
/-- The signed sine table's row of a token, by lane. -/
def sinF (t l : ℕ) : EReal := if l % 64 < 8 then -a.st t (l % 64) else if l % 64 < 16 then a.st t (l % 64 - 8) else 0
/-- The scaled query's columns. -/
def qF (t c : ℕ) : EReal := Q a b t (c / 64) (c % 64) * eighth
/-- Keys in the low lanes, by shifted token, group, lane. -/
def kaF (n g l : ℕ) : EReal := if l < 64 then KH a b n g l else 0
/-- Keys in the high lanes. -/
def kbF (n g l : ℕ) : EReal := if l < 64 then 0 else KH a b n g (l - 64)
/-- Values in the low lanes. -/
def vaF (n g l : ℕ) : EReal := if l < 64 then VH a b n g l else 0
/-- Values in the high lanes. -/
def vbF (n g l : ℕ) : EReal := if l < 64 then 0 else VH a b n g (l - 64)
/-- The raw score of a row of block `m` against row `k` of the block's 256 keys. -/
def scF (m h r k : ℕ) : EReal := ∑ e : Fin 64, (Q a b (128 * m + r) h e * eighth) * KH a b (128 * m + k) (h / 8) e
/-- The unnormalised weight. -/
def exF (m h r k : ℕ) : EReal := Ideal.exp (kS a b (128 * m + r) h k - kmx a b (128 * m + r) h)
/-- The keys a row of block `m` may see. -/
def vis (m r k : ℕ) : Prop := r / 64 ≤ k / 64 ∧ k / 64 ≤ r / 64 + 2 ∧ 128 ≤ 128 * m + k

instance (m r k : ℕ) : Decidable (vis m r k) := by unfold vis; infer_instance

variable {a b}

/-! ### The input projection -/

theorem hid_of {o : ℕ} {x1 : Vec Ideal S1x256x1024 .f32} {x4 : Vec Ideal S1x1024 .f32}
    (hx : ∀ (r : Fin 256) (d : Fin 1024), x1 (ix3 0 r d) = a.x b (o + r) d) (hg : ∀ d : Fin 1024, x4 (ix2 0 d) = a.ng d)
    (r : Fin 256) (d : Fin 1024) : k0_pay12 x1 x4 (ix2 r d) = hid a b (o + r) d := by
  pointwise [k0_pay12, k0_pay11]
  simp only [hx, hg]
  rfl

theorem proj1024_of {o c0 : ℕ} {H : FVec Ideal S256x1024 .bf16} {W : Vec Ideal S1024x1024 .bf16}
    (hH : ∀ (r : Fin 256) (d : Fin 1024), H (ix2 r d) = hid a b (o + r) d)
    (hW : ∀ d n : Fin 1024, W (ix2 d n) = a.win d (c0 + n)) (r : Fin 256) (n : Fin 1024) :
    k0_pay21 H W (ix2 r n) = PJ a b (o + r) (c0 + n) := by
  pointwise [k0_pay21]
  simp only [hH, hW]
  rfl

theorem proj256_of {o c0 : ℕ} {H : FVec Ideal S256x1024 .bf16} {W : Vec Ideal S1024x256 .bf16}
    (hH : ∀ (r : Fin 256) (d : Fin 1024), H (ix2 r d) = hid a b (o + r) d)
    (hW : ∀ (d : Fin 1024) (n : Fin 256), W (ix2 d n) = a.win d (c0 + n)) (r n : Fin 256) :
    k0_pay33 H W (ix2 r n) = PJ a b (o + r) (c0 + n) := by
  pointwise [k0_pay33]
  simp only [hH, hW]
  rfl

theorem proj2048_of {o c0 : ℕ} {H : FVec Ideal S256x1024 .bf16} {W : Vec Ideal S1024x2048 .bf16}
    (hH : ∀ (r : Fin 256) (d : Fin 1024), H (ix2 r d) = hid a b (o + r) d)
    (hW : ∀ (d : Fin 1024) (n : Fin 2048), W (ix2 d n) = a.win d (c0 + n)) (r : Fin 256) (n : Fin 2048) :
    k0_pay53 H W (ix2 r n) = PJ a b (o + r) (c0 + n) := by
  pointwise [k0_pay53]
  simp only [hH, hW]
  rfl

/-! ### The rotation -/

/-- A pair of heads rotated: the vector times the cosines plus its lanes exchanged in eights, times the signed sines. -/
def ropeV (m : IVec S256x128 1) (c s P : FVec Ideal S256x128 .f32) : FVec Ideal S256x128 .f32 :=
  addf (mulf P c) (mulf (select m (dynamicRotate 1 8#32 none P rotates_S256x128_d1) (dynamicRotate 1 120#32 none P rotates_S256x128_d1)) s)

theorem ropeV_of {o c0 : ℕ} {m : IVec S256x128 1} {c s P : FVec Ideal S256x128 .f32}
    (hm : ∀ (r : Fin 256) (l : Fin 128), m (ix2 r l) = if 8 ≤ l.val % 64 ∧ l.val % 64 < 16 then 1#1 else 0#1)
    (hc : ∀ (r : Fin 256) (l : Fin 128), c (ix2 r l) = cosF a (o + r) l)
    (hs : ∀ (r : Fin 256) (l : Fin 128), s (ix2 r l) = sinF a (o + r) l)
    (hP : ∀ (r : Fin 256) (l : Fin 128), P (ix2 r l) = PJ a b (o + r) (c0 + l)) (r : Fin 256) (l : Fin 128) :
    ropeV m c s P (ix2 r l) =
      rope (fun e => PJ a b (o + r) (c0 + (64 * (l / 64) + e))) (a.ct (o + r)) (a.st (o + r)) (l % 64) := by
  pointwise [ropeV]
  simp only [hm, hc, hs, hP, cosF, sinF, rope]
  have hl := l.isLt
  by_cases h8 : l.val % 64 < 8
  · rw [if_neg (show ¬(8 ≤ l.val % 64 ∧ l.val % 64 < 16) by omega), if_pos h8, if_pos h8, if_pos h8, Scalar.select, if_neg (by decide),
      mul_neg, ← sub_eq_add_neg]
    congr 3 <;> omega
  · by_cases h16 : l.val % 64 < 16
    · rw [if_pos (show 8 ≤ l.val % 64 ∧ l.val % 64 < 16 by omega), if_neg h8, if_neg h8, if_neg h8, if_pos h16, if_pos h16, if_pos h16,
        Scalar.select, if_pos (by decide)]
      congr 3 <;> omega
    · rw [if_neg (show ¬(8 ≤ l.val % 64 ∧ l.val % 64 < 16) by omega), if_neg h8, if_neg h8, if_neg h8, if_neg h16, if_neg h16, if_neg h16,
        mul_one, mul_zero, add_zero]
      congr 1; omega

/-- A pair of heads of the scaled query, as stored. -/
def qV (m : IVec S256x128 1) (c s P : FVec Ideal S256x128 .f32) : FVec Ideal S256x128 .bf16 :=
  shapeCast S256x128 (truncf .bf16 (mulf (ropeV m c s P) (broadcast S256x128 (Scalar.ofBits .f32 0x3E000000#32))) bitsLt_bf16_f32) shapeCasts_S256x128_S256x128

theorem qV_of {o p : ℕ} {m : IVec S256x128 1} {c s P : FVec Ideal S256x128 .f32}
    (hm : ∀ (r : Fin 256) (l : Fin 128), m (ix2 r l) = if 8 ≤ l.val % 64 ∧ l.val % 64 < 16 then 1#1 else 0#1)
    (hc : ∀ (r : Fin 256) (l : Fin 128), c (ix2 r l) = cosF a (o + r) l)
    (hs : ∀ (r : Fin 256) (l : Fin 128), s (ix2 r l) = sinF a (o + r) l)
    (hP : ∀ (r : Fin 256) (l : Fin 128), P (ix2 r l) = PJ a b (o + r) (128 * p + l)) (r : Fin 256) (l : Fin 128) :
    qV m c s P (ix2 r l) = qF a b (o + r) (128 * p + l) := by
  pointwise [qV]
  rw [ropeV_of hm hc hs hP]
  have hl := l.isLt
  unfold qF Q
  rw [show (128 * p + l.val) % 64 = l.val % 64 by omega]
  congr 2
  funext e
  congr 1; omega

/-- The rotated keys, by lane. -/
theorem kR_of {o : ℕ} {m : IVec S256x128 1} {c s P : FVec Ideal S256x128 .f32}
    (hm : ∀ (r : Fin 256) (l : Fin 128), m (ix2 r l) = if 8 ≤ l.val % 64 ∧ l.val % 64 < 16 then 1#1 else 0#1)
    (hc : ∀ (r : Fin 256) (l : Fin 128), c (ix2 r l) = cosF a (o + r) l)
    (hs : ∀ (r : Fin 256) (l : Fin 128), s (ix2 r l) = sinF a (o + r) l)
    (hP : ∀ (r : Fin 256) (l : Fin 128), P (ix2 r l) = PJ a b (o + r) (1024 + l)) (r : Fin 256) (l : Fin 128) :
    ropeV m c s P (ix2 r l) = KH a b (o + (128 + r)) (l / 64) (l % 64) := by
  rw [ropeV_of hm hc hs hP]
  unfold KH K
  rw [if_pos (by omega), show o + (128 + r.val) - 128 = o + r by omega]
  congr 1
  funext e
  congr 2; omega

theorem vR_of {o : ℕ} {P : FVec Ideal S256x128 .f32}
    (hP : ∀ (r : Fin 256) (l : Fin 128), P (ix2 r l) = PJ a b (o + r) (1152 + l)) (r : Fin 256) (l : Fin 128) :
    P (ix2 r l) = VH a b (o + (128 + r)) (l / 64) (l % 64) := by
  rw [hP]
  unfold VH V
  rw [if_pos (by omega), show o + (128 + r.val) - 128 = o + r by omega]
  congr 1; omega

/-! ### Keys and values stored in one half of the lanes -/

/-- The low half of the lanes kept. -/
def loV (m : IVec S256x128 1) (P : FVec Ideal S256x128 .f32) : FVec Ideal S1x256x128 .bf16 :=
  shapeCast S1x256x128 (truncf .bf16 (select m P (broadcast S256x128 (Scalar.ofBits .f32 0x00000000#32))) bitsLt_bf16_f32) shapeCasts_S256x128_S1x256x128
/-- The high half of the lanes kept. -/
def hiV (m : IVec S256x128 1) (P : FVec Ideal S256x128 .f32) : FVec Ideal S1x256x128 .bf16 :=
  shapeCast S1x256x128 (truncf .bf16 (select m (broadcast S256x128 (Scalar.ofBits .f32 0x00000000#32)) P) bitsLt_bf16_f32) shapeCasts_S256x128_S1x256x128
/-- The halves of the lanes exchanged. -/
def swV (P : FVec Ideal S256x128 .f32) : FVec Ideal S256x128 .f32 := dynamicRotate 1 64#32 none P rotates_S256x128_d1

theorem loV_of {G : ℕ → ℕ → EReal} {m : IVec S256x128 1} {P : FVec Ideal S256x128 .f32}
    (hm : ∀ (r : Fin 256) (l : Fin 128), m (ix2 r l) = if l.val < 64 then 1#1 else 0#1)
    (hP : ∀ (r : Fin 256) (l : Fin 128), l.val < 64 → P (ix2 r l) = G r l) (r : Fin 256) (l : Fin 128) :
    loV m P (ix3 0 r l) = if l.val < 64 then G r l else 0 := by
  pointwise [loV]
  rw [hm]
  by_cases h : l.val < 64
  · rw [if_pos h, if_pos h, Scalar.select, if_pos (by decide), hP _ _ h]
  · rw [if_neg h, if_neg h, Scalar.select, if_neg (by decide)]

theorem hiV_of {G : ℕ → ℕ → EReal} {m : IVec S256x128 1} {P : FVec Ideal S256x128 .f32}
    (hm : ∀ (r : Fin 256) (l : Fin 128), m (ix2 r l) = if l.val < 64 then 1#1 else 0#1)
    (hP : ∀ (r : Fin 256) (l : Fin 128), ¬ l.val < 64 → P (ix2 r l) = G r (l - 64)) (r : Fin 256) (l : Fin 128) :
    hiV m P (ix3 0 r l) = if l.val < 64 then 0 else G r (l - 64) := by
  pointwise [hiV]
  rw [hm]
  by_cases h : l.val < 64
  · rw [if_pos h, if_pos h, Scalar.select, if_pos (by decide)]
  · rw [if_neg h, if_neg h, Scalar.select, if_neg (by decide), hP _ _ h]

theorem swV_apply (P : FVec Ideal S256x128 .f32) (r : Fin 256) (l : Fin 128) :
    swV P (ix2 r l) = P (ix2 r ⟨(l + 64) % 128, by omega⟩) := by
  pointwise [swV]
  congr 3

section Halves
variable {G : ℕ → ℕ → ℕ → EReal} {m : IVec S256x128 1} {P : FVec Ideal S256x128 .f32}
    (hm : ∀ (r : Fin 256) (l : Fin 128), m (ix2 r l) = if l.val < 64 then 1#1 else 0#1)
    (hP : ∀ (r : Fin 256) (l : Fin 128), P (ix2 r l) = G r (l / 64) (l % 64))
include hm hP

theorem lo0_of (r : Fin 256) (l : Fin 128) : loV m P (ix3 0 r l) = if l.val < 64 then G r 0 l else 0 :=
  loV_of (G := fun r l => G r 0 l) hm (fun r l h => by rw [hP]; congr 1 <;> omega) r l
theorem lo1_of (r : Fin 256) (l : Fin 128) : loV m (swV P) (ix3 0 r l) = if l.val < 64 then G r 1 l else 0 :=
  loV_of (G := fun r l => G r 1 l) hm (fun r l h => by rw [swV_apply, hP]; congr 1 <;> simp only <;> omega) r l
theorem hi0_of (r : Fin 256) (l : Fin 128) : hiV m (swV P) (ix3 0 r l) = if l.val < 64 then 0 else G r 0 (l - 64) :=
  hiV_of (G := fun r l => G r 0 l) hm (fun r l h => by rw [swV_apply, hP]; congr 1 <;> simp only <;> omega) r l
theorem hi1_of (r : Fin 256) (l : Fin 128) : hiV m P (ix3 0 r l) = if l.val < 64 then 0 else G r 1 (l - 64) :=
  hiV_of (G := fun r l => G r 1 l) hm (fun r l h => by rw [hP]; congr 1 <;> omega) r l
end Halves

/-! ### Scores -/

theorem score_row (q0 q1 q2 q3 : Vec Ideal S128x128 .bf16) (ka : Vec Ideal S1x256x128 .bf16) (q : ℕ → ℕ → ℕ → EReal)
    (h0 : ∀ r l : Fin 128, q0 (ix2 r l) = q 0 r l) (h1 : ∀ r l : Fin 128, q1 (ix2 r l) = q 1 r l)
    (h2 : ∀ r l : Fin 128, q2 (ix2 r l) = q 2 r l) (h3 : ∀ r l : Fin 128, q3 (ix2 r l) = q 3 r l) (R : Fin 512) (k : Fin 256) :
    k0_pay63 q0 q1 q2 q3 ka (ix2 R k) = ∑ l : Fin 128, q (R / 128) (R % 128) l * ka (ix3 0 k l) := by
  pointwise [k0_pay63, k0_pay62]
  have hR := R.isLt
  refine Finset.sum_congr rfl fun l _ => ?_
  congr 1
  by_cases c0 : R.val < 128
  · rw [dif_pos c0]; exact (h0 _ _).trans (by show q 0 R.val l = _; congr 1 <;> omega)
  · rw [dif_neg c0]
    by_cases c1 : R.val - 128 < 128
    · rw [dif_pos c1]; exact (h1 _ _).trans (by show q 1 (R.val - 128) l = _; congr 1 <;> omega)
    · rw [dif_neg c1]
      by_cases c2 : R.val - 128 - 128 < 128
      · rw [dif_pos c2]; exact (h2 _ _).trans (by show q 2 (R.val - 128 - 128) l = _; congr 1 <;> omega)
      · rw [dif_neg c2]; exact (h3 _ _).trans (by show q 3 (R.val - 128 - 128 - 128) l = _; congr 1 <;> omega)

section Score
variable {m g : ℕ} {q0 q1 q2 q3 : Vec Ideal S128x128 .bf16} {ka : Vec Ideal S1x256x128 .bf16}
    (h0 : ∀ r l : Fin 128, q0 (ix2 r l) = qF a b (128 * m + r) (128 * (4 * g + 0) + l))
    (h1 : ∀ r l : Fin 128, q1 (ix2 r l) = qF a b (128 * m + r) (128 * (4 * g + 1) + l))
    (h2 : ∀ r l : Fin 128, q2 (ix2 r l) = qF a b (128 * m + r) (128 * (4 * g + 2) + l))
    (h3 : ∀ r l : Fin 128, q3 (ix2 r l) = qF a b (128 * m + r) (128 * (4 * g + 3) + l))
include h0 h1 h2 h3

theorem scoreE_of (hk : ∀ (k : Fin 256) (l : Fin 128), ka (ix3 0 k l) = kaF a b (128 * m + k) g l) (R : Fin 512) (k : Fin 256) :
    k0_pay63 q0 q1 q2 q3 ka (ix2 R k) = scF a b m (8 * g + 2 * (R / 128)) (R % 128) k := by
  rw [score_row q0 q1 q2 q3 ka (fun p r l => qF a b (128 * m + r) (128 * (4 * g + p) + l)) h0 h1 h2 h3 R k]
  have hR := R.isLt
  simp only [hk]
  rw [sum_low (fun l => qF a b (128 * m + R % 128) (128 * (4 * g + R / 128) + l) * kaF a b (128 * m + k) g l)
    fun l hl => by simp only [kaF]; rw [if_neg (by omega), mul_zero]]
  unfold scF
  refine Finset.sum_congr rfl fun e _ => ?_
  have he := e.isLt
  simp only [kaF, qF]
  rw [if_pos he, show (8 * g + 2 * (R.val / 128)) / 8 = g by omega,
    show (128 * (4 * g + R.val / 128) + e.val) / 64 = 8 * g + 2 * (R.val / 128) by omega,
    show (128 * (4 * g + R.val / 128) + e.val) % 64 = e by omega]

theorem scoreO_of (hk : ∀ (k : Fin 256) (l : Fin 128), ka (ix3 0 k l) = kbF a b (128 * m + k) g l) (R : Fin 512) (k : Fin 256) :
    k0_pay63 q0 q1 q2 q3 ka (ix2 R k) = scF a b m (8 * g + (2 * (R / 128) + 1)) (R % 128) k := by
  rw [score_row q0 q1 q2 q3 ka (fun p r l => qF a b (128 * m + r) (128 * (4 * g + p) + l)) h0 h1 h2 h3 R k]
  have hR := R.isLt
  simp only [hk]
  rw [sum_high (fun l => qF a b (128 * m + R % 128) (128 * (4 * g + R / 128) + l) * kbF a b (128 * m + k) g l)
    fun l hl => by simp only [kbF]; rw [if_pos hl, mul_zero]]
  unfold scF
  refine Finset.sum_congr rfl fun e _ => ?_
  have he := e.isLt
  simp only [kbF, qF]
  rw [if_neg (by omega), show (8 * g + (2 * (R.val / 128) + 1)) / 8 = g by omega,
    show (128 * (4 * g + R.val / 128) + (64 + e.val)) / 64 = 8 * g + (2 * (R.val / 128) + 1) by omega,
    show (128 * (4 * g + R.val / 128) + (64 + e.val)) % 64 = e by omega, show 64 + e.val - 64 = e by omega]
end Score

/-! ### The softmax of one head's block -/

theorem named_mask : (Named.named κ "mask" 4048155338#32 : Ideal .f32) = (⊥ : EReal) := by
  rfl

theorem fold_max (f : Fin 256 → EReal) : Finset.fold max (Ideal.ofBits FTy.f32 4286578688#32) f Finset.univ = Finset.univ.sup f := by
  rw [show Ideal.ofBits FTy.f32 4286578688#32 = (⊥ : EReal) by simp [Ideal.ofBits, Ideal.ieee]]
  rfl

section Softmax
variable {m h : ℕ} {V : IVec S128x256 1} {s : Elt Ideal .f32} {S : Vec Ideal S128x256 .f32}
    (hV : ∀ (r : Fin 128) (k : Fin 256), V (ix2 r k) = if vis m r k then 1#1 else 0#1)
    (hs : s = a.sk h)
    (hS : ∀ (r : Fin 128) (k : Fin 256), S (ix2 r k) = scF a b m h r k)
include hV hs hS

theorem masked_of (r : Fin 128) (k : Fin 256) :
    (Scalar.select (V (ix2 r k)) (S (ix2 r k)) (Named.named κ "mask" 4048155338#32 : Ideal .f32)) = kS a b (128 * m + r) h k := by
  have hr := r.isLt
  rw [hV, hS, named_mask]
  unfold kS
  rw [show (128 * m + r.val) / 128 = m by omega, show (128 * m + r.val) % 128 = r by omega]
  by_cases hv : vis m r k
  · rw [if_pos hv]; exact (if_pos hv).symm
  · rw [if_neg hv]; exact (if_neg hv).symm

theorem ex_of (r : Fin 128) (k : Fin 256) : k0_pay74 V s S (ix2 r k) = exF a b m h r k := by
  pointwise [k0_pay74, k0_pay73, k0_pay72, k0_pay71]
  simp only [masked_of hV hs hS, fold_max, hs]
  rfl

theorem rden_of (r : Fin 128) : k0_pay75 V s S (ix2 r 0) = Ideal.div 1 (kden a b (128 * m + r) h) := by
  pointwise [k0_pay75, k0_pay73, k0_pay72, k0_pay71]
  simp only [masked_of hV hs hS, fold_max, hs]
  rfl
end Softmax

/-! ### The weighted values, normalised and gated -/

theorem wv_of {m g : ℕ} {pe po : Vec Ideal S512x256 .bf16} {va vb : Vec Ideal S1x256x128 .bf16}
    (he : ∀ (R : Fin 512) (k : Fin 256), pe (ix2 R k) = exF a b m (8 * g + 2 * (R / 128)) (R % 128) k)
    (ho : ∀ (R : Fin 512) (k : Fin 256), po (ix2 R k) = exF a b m (8 * g + (2 * (R / 128) + 1)) (R % 128) k)
    (ha : ∀ (k : Fin 256) (l : Fin 128), va (ix3 0 k l) = vaF a b (128 * m + k) g l)
    (hb : ∀ (k : Fin 256) (l : Fin 128), vb (ix3 0 k l) = vbF a b (128 * m + k) g l) (R : Fin 512) (l : Fin 128) :
    k0_pay112 pe va po vb (ix2 R l) =
      ∑ k : Fin 256, exF a b m (8 * g + 2 * (R / 128) + l / 64) (R % 128) k * VH a b (128 * m + k) g (l % 64) := by
  pointwise [k0_pay112]
  simp only [he, ho, ha, hb, vaF, vbF]
  have hl := l.isLt
  by_cases h : l.val < 64
  · simp only [if_pos h, mul_zero, Finset.sum_const_zero, add_zero]
    rw [show l.val / 64 = 0 by omega, show l.val % 64 = l by omega]
    rfl
  · simp only [if_neg h, mul_zero, Finset.sum_const_zero, zero_add]
    rw [show l.val / 64 = 1 by omega, show l.val % 64 = l - 64 by omega]
    rfl

/-- A pair of heads' outputs, as stored. -/
def ainV (off : ℕ) (hsl : S512x128.Slices ![off, 0] S128x128) (lo : IVec S128x128 1) (d e : FVec Ideal S128x1 .f32) (O : FVec Ideal S512x128 .f32)
    (za : Vec Ideal S128x128 .f32) : FVec Ideal S128x128 .bf16 :=
  shapeCast S128x128 (truncf .bf16 (mulf (mulf (extractStridedSlice S128x128 ![off, 0] O hsl)
    (select lo (broadcastTo S128x128 (shapeCast S128x1 d shapeCasts_S128x1_S128x1) broadcasts_S128x1_S128x128)
      (broadcastTo S128x128 (shapeCast S128x1 e shapeCasts_S128x1_S128x1) broadcasts_S128x1_S128x128))) (mulf za (logistic za))) bitsLt_bf16_f32)
    shapeCasts_S128x128_S128x128

theorem ainV_of {m g p : ℕ} (hp : p < 4) {off : ℕ} {hsl : S512x128.Slices ![off, 0] S128x128} (hoff : off = 128 * p) {lo : IVec S128x128 1}
    {d e : FVec Ideal S128x1 .f32} {O : FVec Ideal S512x128 .f32} {za : Vec Ideal S128x128 .f32}
    (hlo : ∀ r l : Fin 128, lo (ix2 r l) = if l.val < 64 then 1#1 else 0#1)
    (hd : ∀ r : Fin 128, d (ix2 r 0) = Ideal.div 1 (kden a b (128 * m + r) (8 * g + 2 * p)))
    (he : ∀ r : Fin 128, e (ix2 r 0) = Ideal.div 1 (kden a b (128 * m + r) (8 * g + (2 * p + 1))))
    (hO : ∀ (R : Fin 512) (l : Fin 128), O (ix2 R l) =
      ∑ k : Fin 256, exF a b m (8 * g + 2 * (R / 128) + l / 64) (R % 128) k * VH a b (128 * m + k) g (l % 64))
    (hz : ∀ r l : Fin 128, za (ix2 r l) = PJ a b (128 * m + r) (1280 + (128 * (4 * g + p) + l))) (fa : Finite a) (r l : Fin 128) :
    ainV off hsl lo d e O za (ix2 r l) = AIN a b (128 * m + r) (128 * (4 * g + p) + l) := by
  pointwise [ainV]
  subst hoff
  have hr := r.isLt
  have hl := l.isLt
  simp only [hlo, hd, he, hO, hz]
  unfold AIN silu
  congr 1
  rw [← katt_eq fa]
  unfold katt
  rw [show (128 * m + r.val) / 128 = m by omega, show (128 * p + r.val) / 128 = p by omega, show (128 * p + r.val) % 128 = r by omega,
    show (128 * (4 * g + p) + l.val) / 64 = 8 * g + 2 * p + l.val / 64 by omega,
    show (128 * (4 * g + p) + l.val) % 64 = l.val % 64 by omega, show (8 * g + 2 * p + l.val / 64) / 8 = g by omega]
  congr 1
  by_cases h : l.val < 64
  · rw [if_pos h, show l.val / 64 = 0 by omega]; rfl
  · rw [if_neg h, show l.val / 64 = 1 by omega]; rfl

/-! ### The gating branch -/

theorem wm_of {g : ℕ} {c : IVec S128x128 1} {W : Vec Ideal S1x128x128 .f32}
    (hc : ∀ i j : Fin 128, c (ix2 i j) = if j.val / 64 ≤ i.val / 64 then 1#1 else 0#1)
    (hW : ∀ i j : Fin 128, W (ix3 0 i j) = a.sgw g i j) (i j : Fin 128) : k0_pay303 c W (ix2 i j) = wm a g i j := by
  pointwise [k0_pay303]
  rw [hc, hW]
  unfold wm
  by_cases h : j.val / 64 ≤ i.val / 64
  · rw [if_pos h, if_pos h]; rfl
  · rw [if_neg h, if_neg h]; rfl

theorem vn_of {τ : ℕ} {v : Vec Ideal S128x1024 .f32} {g o : Vec Ideal S1x1024 .f32}
    (hv : ∀ (r : Fin 128) (c : Fin 1024), v (ix2 r c) = PJ a b (τ + r) (3328 + c))
    (hg : ∀ c : Fin 1024, g (ix2 0 c) = a.lng c) (ho : ∀ c : Fin 1024, o (ix2 0 c) = a.lnb c) (r : Fin 128) (c : Fin 1024) :
    k0_pay304 v g o (ix2 r c) = VN a b (τ + r) c := by
  pointwise [k0_pay304]
  simp only [hv, hg, ho]
  rfl

/-- A group's mixed values, gated, as stored. -/
def sinV (off : ℕ) (hsl : S128x1024.Slices ![0, off] S128x128) (W : FVec Ideal S128x128 .bf16) (N : FVec Ideal S128x1024 .bf16)
    (bias u zs : Vec Ideal S128x128 .f32) : FVec Ideal S128x128 .bf16 :=
  shapeCast S128x128 (truncf .bf16 (mulf (mulf
    (mulf (mulf (broadcast S128x128 (Scalar.ofBits .f32 0x3F000000#32)) u)
      (addf (broadcast S128x128 (Scalar.ofBits .f32 0x3F800000#32)) (erf (mulf u (broadcast S128x128 (Scalar.ofBits .f32 0x3F3504F3#32))))))
    (addf (matmul dot_S128x128_S128x128_S128x128_1_0_0_1_n_n none W (extractStridedSlice S128x128 ![0, off] N hsl) (constant S128x128 .f32 0x00000000#32))
      (shapeCast S128x128 bias shapeCasts_S128x128_S128x128))) (mulf zs (logistic zs))) bitsLt_bf16_f32) shapeCasts_S128x128_S128x128

theorem sinV_of {m g : ℕ} {off : ℕ} {hsl : S128x1024.Slices ![0, off] S128x128} (hoff : off = 128 * g) {W : FVec Ideal S128x128 .bf16}
    {N : FVec Ideal S128x1024 .bf16} {bias u zs : Vec Ideal S128x128 .f32}
    (hW : ∀ i j : Fin 128, W (ix2 i j) = wm a g i j)
    (hN : ∀ (r : Fin 128) (c : Fin 1024), N (ix2 r c) = VN a b (128 * m + r) c)
    (hb : ∀ i j : Fin 128, bias (ix2 i j) = a.sgb g i)
    (hu : ∀ r l : Fin 128, u (ix2 r l) = PJ a b (128 * m + r) (2304 + (128 * g + l)))
    (hz : ∀ r l : Fin 128, zs (ix2 r l) = PJ a b (128 * m + r) (4352 + (128 * g + l))) (r l : Fin 128) :
    sinV off hsl W N bias u zs (ix2 r l) = SIN a b (128 * m + r) (128 * g + l) := by
  pointwise [sinV]
  subst hoff
  have hr := r.isLt
  have hl := l.isLt
  simp only [hW, hN, hb, hu, hz]
  unfold SIN silu MX
  rw [show (128 * m + r.val) / 128 = m by omega, show (128 * m + r.val) % 128 = r by omega, show (128 * g + l.val) / 128 = g by omega]
  rfl

/-! ### The merge and the last norm -/

/-- The merged branches. -/
def yV (A : Vec Ideal S256x1024 .bf16) (wa : Vec Ideal S1024x1024 .bf16) (S : Vec Ideal S256x1024 .bf16) (ws : Vec Ideal S1024x1024 .bf16)
    (gm : Vec Ideal S256x2048 .f32) (bm : Vec Ideal S1x2048 .f32) : FVec Ideal S256x1024 .bf16 :=
  truncf .bf16 (addf
    (mulf (extractStridedSlice S256x1024 ![0, 0]
        (logistic (addf gm (broadcastTo S256x2048 (shapeCast S1x2048 bm shapeCasts_S1x2048_S1x2048) broadcasts_S1x2048_S256x2048))) slices_S256x2048_o0_0_S256x1024)
      (matmul (φ₁ := .bf16) (φ₂ := .bf16) dot_S256x1024_S1024x1024_S256x1024_1_0_0_1_n_n none A (shapeCast S1024x1024 wa shapeCasts_S1024x1024_S1024x1024) (constant S256x1024 .f32 0x00000000#32)))
    (mulf (extractStridedSlice S256x1024 ![0, 1024]
        (logistic (addf gm (broadcastTo S256x2048 (shapeCast S1x2048 bm shapeCasts_S1x2048_S1x2048) broadcasts_S1x2048_S256x2048))) slices_S256x2048_o0_1024_S256x1024)
      (matmul (φ₁ := .bf16) (φ₂ := .bf16) dot_S256x1024_S1024x1024_S256x1024_1_0_0_1_n_n none S (shapeCast S1024x1024 ws shapeCasts_S1024x1024_S1024x1024) (constant S256x1024 .f32 0x00000000#32)))) bitsLt_bf16_f32

theorem yV_of {o : ℕ} {A S : Vec Ideal S256x1024 .bf16} {wa ws : Vec Ideal S1024x1024 .bf16} {gm : Vec Ideal S256x2048 .f32}
    {bm : Vec Ideal S1x2048 .f32}
    (hA : ∀ (r : Fin 256) (c : Fin 1024), A (ix2 r c) = AIN a b (o + r) c)
    (hS : ∀ (r : Fin 256) (c : Fin 1024), S (ix2 r c) = SIN a b (o + r) c)
    (hwa : ∀ k n : Fin 1024, wa (ix2 k n) = a.wao k n) (hws : ∀ k n : Fin 1024, ws (ix2 k n) = a.wso k n)
    (hgm : ∀ (r : Fin 256) (n : Fin 2048), gm (ix2 r n) = PJ a b (o + r) (5376 + n))
    (hbm : ∀ n : Fin 2048, bm (ix2 0 n) = a.bm n) (r : Fin 256) (c : Fin 1024) :
    yV A wa S ws gm bm (ix2 r c) = Y a b (o + r) c := by
  pointwise [yV]
  simp only [hA, hS, hwa, hws, hgm, hbm]
  simp only [Y, gate, Nat.zero_add]

/-- The block's output before the last norm. -/
def oV (x : Vec Ideal S1x256x1024 .f32) (y : FVec Ideal S256x1024 .bf16) (wo : Vec Ideal S1024x1024 .bf16) : FVec Ideal S256x1024 .f32 :=
  addf (shapeCast S256x1024 x shapeCasts_S1x256x1024_S256x1024)
    (matmul (φ₁ := .bf16) (φ₂ := .bf16) dot_S256x1024_S1024x1024_S256x1024_1_0_0_1_n_n none y (shapeCast S1024x1024 wo shapeCasts_S1024x1024_S1024x1024) (constant S256x1024 .f32 0x00000000#32))

theorem oV_of {o : ℕ} {x : Vec Ideal S1x256x1024 .f32} {y : FVec Ideal S256x1024 .bf16} {wo : Vec Ideal S1024x1024 .bf16}
    (hx : ∀ (r : Fin 256) (d : Fin 1024), x (ix3 0 r d) = a.x b (o + r) d)
    (hy : ∀ (r : Fin 256) (c : Fin 1024), y (ix2 r c) = Y a b (o + r) c) (hw : ∀ k n : Fin 1024, wo (ix2 k n) = a.wo k n)
    (r : Fin 256) (c : Fin 1024) : oV x y wo (ix2 r c) = O a b (o + r) c := by
  pointwise [oV]
  simp only [hx, hy, hw]
  rfl

/-- The block's result. -/
def outV (O : FVec Ideal S256x1024 .f32) (g : Vec Ideal S1x1024 .f32) : FVec Ideal S1x256x1024 .f32 :=
  k0_pay1 (k0_pay339 O (divf (shapeCast S256x1 (multiReduction .add [1] S256 (mulf O O) 0x00000000#32 reduces_S256x1024_S256 (.inl rfl) rfl) shapeCasts_S256_S256x1)
    (broadcast S256x1 (Scalar.ofBits .f32 0x44800000#32))) (Scalar.ofBits .f32 0x358637BD#32)) (k0_pay340 g)

theorem outV_of {o : ℕ} {O : FVec Ideal S256x1024 .f32} {g : Vec Ideal S1x1024 .f32}
    (hO : ∀ (r : Fin 256) (c : Fin 1024), O (ix2 r c) = Spec.O a b (o + r) c) (hg : ∀ c : Fin 1024, g (ix2 0 c) = a.fg c)
    (r : Fin 256) (c : Fin 1024) : outV O g (ix3 0 r c) = OUT a b (o + r) c := by
  pointwise [outV, k0_pay1, k0_pay339, k0_pay340]
  simp only [hO, hg]
  rfl

end Cert.KOps

end
-- ==== Proof.KRead.lean ====
/- Loads and stores of the kernel's buffers in natural-number coordinates: what a load of a box reads of a buffer whose contents, or
   whose stores, are a function of the coordinates; and the grid point's inputs as the layer's arguments. -/
module

public import proofs.«01_k».proof.Proof.KOps
public import Idealize.ShloMosaic.Lib.Pipeline.ReadBack

@[expose] public section

set_option maxRecDepth 16384

noncomputable section

namespace Cert.KRead

open Idealize.ShloMosaic Idealize.ShloMosaic.TcCoe Idealize.SL.Sem
open Cert.KernelIdeal Cert.KernelIdeal.Gen Cert.Spec Cert.KOps

section Generic

variable {κ : Kind} {sp : Space} {s : Shape} {e : EltTy}

/-- A load of a box after stores over `f`, all agreeing with `G`, reads `G`, where `f` agrees with `G` off the stores. -/
theorem read_writes_of (v : View sig κ sp s e) (f : v.ty.Contents (Elt Ideal)) (G : s.Idx → Elt Ideal e) (y : s.Idx) :
    ∀ (L : List (View.Piece (Elt Ideal) s e)), View.PiecesOf G L → ((∀ p ∈ L, y ∉ p.1.set) → v.read (Elt Ideal) f y = G y) →
      v.read (Elt Ideal) (v.writes (Elt Ideal) f L) y = G y
  | [], _, h => h (fun _ hp => absurd hp List.not_mem_nil)
  | p :: L, hp, h => by
    by_cases hy : y ∈ p.1.set
    · obtain ⟨r, w⟩ := p
      obtain ⟨x, rfl⟩ : ∃ x, r.emb x = y := r.exists_idx_of_mem hy
      rw [View.read_writes_cons_emb]; exact hp.1 x
    · have hy' : y ∉ Finset.univ.map p.1.emb := by rwa [Rect.map_emb_univ]
      rw [View.writes_cons, View.read_slice_write_of_not_mem p.1 _ _ _ hy']
      exact read_writes_of v f G y L hp.2 fun hL => h fun q hq => by
        rcases List.mem_cons.mp hq with rfl | hq
        · exact hy
        · exact hL q hq

/-- The same of stores alone, over a box the first of them cover. -/
theorem readCov_of (v : View sig κ sp s e) (G : s.Idx → Elt Ideal e) {L L1 L2 : List (View.Piece (Elt Ideal) s e)} (hL : L = L1 ++ L2)
    (h : View.PiecesOf G L1) (B : LoadRect s) (j : B.shape.Idx) (hc : ∃ p ∈ L1, B.idx j ∈ p.1.set) : v.readCov L B j = G (B.idx j) := by
  rw [View.readCov_eq_canon' v L B, hL]
  exact View.canon_append_of_piecesOf G L2 L1 h _ hc

theorem pieces_mem {G : s.Idx → Elt Ideal e} {r : Rect s} {w : r.shape.Idx → Elt Ideal e} {L : List (View.Piece (Elt Ideal) s e)}
    (h : ∀ x, w x = G (r.emb x)) (hL : View.PiecesOf G L) : View.PiecesOf G (⟨r, w⟩ :: L) := ⟨h, hL⟩

/-- The head of a list is in it. -/
theorem mh {α : Type*} {p : α} {L : List α} : p ∈ p :: L := List.mem_cons_self

/-- What is in the tail of a list is in it. -/
theorem mt {α : Type*} {p q : α} {L : List α} (h : p ∈ L) : p ∈ q :: L := List.mem_cons_of_mem _ h

end Generic

section Two
variable {κ : Kind} {sp : Space} {n0 n1 : ℕ} {e : EltTy}

/-- A function of two coordinates as a function of the index. -/
def at2 (g : ℕ → ℕ → Elt Ideal e) : (⟨2, ![n0, n1]⟩ : Shape).Idx → Elt Ideal e := fun j => g (j 0) (j 1)

theorem rd2 {M : Memref sig κ sp (⟨2, ![n0, n1]⟩ : Shape) e} (hM : M.IsWhole) {x : Vec Ideal (⟨2, ![n0, n1]⟩ : Shape) e}
    {g : ℕ → ℕ → Elt Ideal e} (hx : ∀ (r : Fin n0) (l : Fin n1), x (ix2 r l) = g r l) {o0 o1 m0 m1 : ℕ}
    (inb : ∀ a, ![o0, o1] a + ![m0, m1] a ≤ (⟨2, ![n0, n1]⟩ : Shape).size a) (r : Fin m0) (l : Fin m1) :
    (View.readAt (Elt Ideal) M.view (Rect.unit (s := ⟨2, ![n0, n1]⟩) ![o0, o1] ![m0, m1] inb).toLoadRect (hM.unread x) : Vec Ideal (⟨2, ![m0, m1]⟩ : Shape) e) (ix2 r l) = g (o0 + r) (o1 + l) := by
  show M.view.read (Elt Ideal) (hM.unread x) _ = _
  rw [hM.read_unread]
  refine (congrArg x (eq_ix2 _)).trans ((hx _ _).trans ?_)
  show g (o0 + 1 * r) (o1 + 1 * l) = _
  rw [Nat.one_mul, Nat.one_mul]

theorem piece2 {g : ℕ → ℕ → Elt Ideal e} {o0 o1 m0 m1 : ℕ} {inb : ∀ a, ![o0, o1] a + ![m0, m1] a ≤ (⟨2, ![n0, n1]⟩ : Shape).size a}
    {w : (⟨2, ![m0, m1]⟩ : Shape).Idx → Elt Ideal e} (hw : ∀ (r : Fin m0) (l : Fin m1), w (ix2 r l) = g (o0 + r) (o1 + l))
    (x : (Rect.unit (s := ⟨2, ![n0, n1]⟩) ![o0, o1] ![m0, m1] inb).shape.Idx) :
    w x = at2 g ((Rect.unit (s := ⟨2, ![n0, n1]⟩) ![o0, o1] ![m0, m1] inb).emb x) := by
  refine (congrArg w (eq_ix2 (n0 := m0) (n1 := m1) x)).trans ((hw _ _).trans ?_)
  show _ = g (o0 + 1 * (x 0).val) (o1 + 1 * (x 1).val)
  rw [Nat.one_mul, Nat.one_mul]

theorem rc2 {v : View sig κ sp (⟨2, ![n0, n1]⟩ : Shape) e} {g : ℕ → ℕ → Elt Ideal e}
    {L L1 L2 : List (View.Piece (Elt Ideal) (⟨2, ![n0, n1]⟩ : Shape) e)} (hL : L = L1 ++ L2) (h : View.PiecesOf (at2 g) L1) {o0 o1 m0 m1 : ℕ}
    (inb : ∀ a, ![o0, o1] a + ![m0, m1] a ≤ (⟨2, ![n0, n1]⟩ : Shape).size a)
    (hc : ∀ y : (⟨2, ![n0, n1]⟩ : Shape).Idx, o0 ≤ (y 0).val → (y 0).val < o0 + m0 → o1 ≤ (y 1).val → (y 1).val < o1 + m1 → ∃ p ∈ L1, y ∈ p.1.set)
    (r : Fin m0) (l : Fin m1) :
    (v.readCov L (Rect.unit (s := ⟨2, ![n0, n1]⟩) ![o0, o1] ![m0, m1] inb).toLoadRect : Vec Ideal (⟨2, ![m0, m1]⟩ : Shape) e) (ix2 r l) = g (o0 + r) (o1 + l) := by
  refine (readCov_of v (at2 g) hL h _ _ (hc _ ?_ ?_ ?_ ?_)).trans ?_
  · show o0 ≤ o0 + 1 * r.val; omega
  · show o0 + 1 * r.val < _; omega
  · show o1 ≤ o1 + 1 * l.val; omega
  · show o1 + 1 * l.val < _; omega
  · show g (o0 + 1 * r) (o1 + 1 * l) = _
    rw [Nat.one_mul, Nat.one_mul]

theorem in2 {o0 o1 m0 m1 : ℕ} {inb : ∀ a, ![o0, o1] a + ![m0, m1] a ≤ (⟨2, ![n0, n1]⟩ : Shape).size a} {y : (⟨2, ![n0, n1]⟩ : Shape).Idx}
    (h : (o0 ≤ (y 0).val ∧ (y 0).val < o0 + m0) ∧ o1 ≤ (y 1).val ∧ (y 1).val < o1 + m1) :
    y ∈ (Rect.unit (s := ⟨2, ![n0, n1]⟩) ![o0, o1] ![m0, m1] inb).set :=
  Rect.mem_set_unit.mpr fun a => by match a with | ⟨0, _⟩ => exact h.1 | ⟨1, _⟩ => exact h.2

/-- A store of a box at the head of a list of stores. -/
theorem pc2 (n0 n1 o0 o1 m0 m1 : ℕ) {g : ℕ → ℕ → Elt Ideal e} {inb : ∀ a, ![o0, o1] a + ![m0, m1] a ≤ (⟨2, ![n0, n1]⟩ : Shape).size a}
    {w : (⟨2, ![m0, m1]⟩ : Shape).Idx → Elt Ideal e} {L : List (View.Piece (Elt Ideal) (⟨2, ![n0, n1]⟩ : Shape) e)}
    (hw : ∀ (r : Fin m0) (l : Fin m1), w (ix2 r l) = g (o0 + r) (o1 + l)) (hL : View.PiecesOf (at2 g) L) :
    View.PiecesOf (at2 g) (⟨Rect.unit (s := ⟨2, ![n0, n1]⟩) ![o0, o1] ![m0, m1] inb, w⟩ :: L) := pieces_mem (piece2 hw) hL

/-- A load of a box that one of the stores covers. -/
theorem rcm {v : View sig κ sp (⟨2, ![n0, n1]⟩ : Shape) e} {g : ℕ → ℕ → Elt Ideal e} {L : List (View.Piece (Elt Ideal) (⟨2, ![n0, n1]⟩ : Shape) e)}
    (h : View.PiecesOf (at2 g) L) {o0 o1 m0 m1 : ℕ} (inb : ∀ a, ![o0, o1] a + ![m0, m1] a ≤ (⟨2, ![n0, n1]⟩ : Shape).size a)
    {p0 p1 q0 q1 : ℕ} {inb' : ∀ a, ![p0, p1] a + ![q0, q1] a ≤ (⟨2, ![n0, n1]⟩ : Shape).size a} {w : (⟨2, ![q0, q1]⟩ : Shape).Idx → Elt Ideal e}
    (hm : ⟨Rect.unit (s := ⟨2, ![n0, n1]⟩) ![p0, p1] ![q0, q1] inb', w⟩ ∈ L) (hb : (p0 ≤ o0 ∧ o0 + m0 ≤ p0 + q0) ∧ p1 ≤ o1 ∧ o1 + m1 ≤ p1 + q1)
    (r : Fin m0) (l : Fin m1) :
    (v.readCov L (Rect.unit (s := ⟨2, ![n0, n1]⟩) ![o0, o1] ![m0, m1] inb).toLoadRect : Vec Ideal (⟨2, ![m0, m1]⟩ : Shape) e) (ix2 r l) = g (o0 + r) (o1 + l) :=
  rc2 (List.append_nil _).symm h inb (fun _ _ _ _ _ => ⟨_, hm, in2 (inb := inb') (by omega)⟩) r l

end Two

section Three
variable {κ : Kind} {sp : Space} {n0 n1 n2 : ℕ} {e : EltTy}

/-- A function of three coordinates as a function of the index. -/
def at3 (g : ℕ → ℕ → ℕ → Elt Ideal e) : (⟨3, ![n0, n1, n2]⟩ : Shape).Idx → Elt Ideal e := fun j => g (j 0) (j 1) (j 2)

theorem rd3 {M : Memref sig κ sp (⟨3, ![n0, n1, n2]⟩ : Shape) e} (hM : M.IsWhole) {x : Vec Ideal (⟨3, ![n0, n1, n2]⟩ : Shape) e}
    {g : ℕ → ℕ → ℕ → Elt Ideal e} (hx : ∀ (p : Fin n0) (r : Fin n1) (l : Fin n2), x (ix3 p r l) = g p r l) {o0 o1 o2 m0 m1 m2 : ℕ}
    (inb : ∀ a, ![o0, o1, o2] a + ![m0, m1, m2] a ≤ (⟨3, ![n0, n1, n2]⟩ : Shape).size a) (p : Fin m0) (r : Fin m1) (l : Fin m2) :
    (View.readAt (Elt Ideal) M.view (Rect.unit (s := ⟨3, ![n0, n1, n2]⟩) ![o0, o1, o2] ![m0, m1, m2] inb).toLoadRect (hM.unread x) : Vec Ideal (⟨3, ![m0, m1, m2]⟩ : Shape) e) (ix3 p r l) = g (o0 + p) (o1 + r) (o2 + l) := by
  show M.view.read (Elt Ideal) (hM.unread x) _ = _
  rw [hM.read_unread]
  refine (congrArg x (eq_ix3 _)).trans ((hx _ _ _).trans ?_)
  show g (o0 + 1 * p) (o1 + 1 * r) (o2 + 1 * l) = _
  rw [Nat.one_mul, Nat.one_mul, Nat.one_mul]

theorem piece3 {g : ℕ → ℕ → ℕ → Elt Ideal e} {o0 o1 o2 m0 m1 m2 : ℕ}
    {inb : ∀ a, ![o0, o1, o2] a + ![m0, m1, m2] a ≤ (⟨3, ![n0, n1, n2]⟩ : Shape).size a}
    {w : (⟨3, ![m0, m1, m2]⟩ : Shape).Idx → Elt Ideal e} (hw : ∀ (p : Fin m0) (r : Fin m1) (l : Fin m2), w (ix3 p r l) = g (o0 + p) (o1 + r) (o2 + l))
    (x : (Rect.unit (s := ⟨3, ![n0, n1, n2]⟩) ![o0, o1, o2] ![m0, m1, m2] inb).shape.Idx) :
    w x = at3 g ((Rect.unit (s := ⟨3, ![n0, n1, n2]⟩) ![o0, o1, o2] ![m0, m1, m2] inb).emb x) := by
  refine (congrArg w (eq_ix3 (n0 := m0) (n1 := m1) (n2 := m2) x)).trans ((hw _ _ _).trans ?_)
  show _ = g (o0 + 1 * (x 0).val) (o1 + 1 * (x 1).val) (o2 + 1 * (x 2).val)
  rw [Nat.one_mul, Nat.one_mul, Nat.one_mul]

theorem rc3 {v : View sig κ sp (⟨3, ![n0, n1, n2]⟩ : Shape) e} {g : ℕ → ℕ → ℕ → Elt Ideal e}
    {L L1 L2 : List (View.Piece (Elt Ideal) (⟨3, ![n0, n1, n2]⟩ : Shape) e)} (hL : L = L1 ++ L2) (h : View.PiecesOf (at3 g) L1) {o0 o1 o2 m0 m1 m2 : ℕ}
    (inb : ∀ a, ![o0, o1, o2] a + ![m0, m1, m2] a ≤ (⟨3, ![n0, n1, n2]⟩ : Shape).size a)
    (hc : ∀ y : (⟨3, ![n0, n1, n2]⟩ : Shape).Idx, o0 ≤ (y 0).val → (y 0).val < o0 + m0 → o1 ≤ (y 1).val → (y 1).val < o1 + m1 →
      o2 ≤ (y 2).val → (y 2).val < o2 + m2 → ∃ p ∈ L1, y ∈ p.1.set)
    (p : Fin m0) (r : Fin m1) (l : Fin m2) :
    (v.readCov L (Rect.unit (s := ⟨3, ![n0, n1, n2]⟩) ![o0, o1, o2] ![m0, m1, m2] inb).toLoadRect : Vec Ideal (⟨3, ![m0, m1, m2]⟩ : Shape) e) (ix3 p r l) = g (o0 + p) (o1 + r) (o2 + l) := by
  refine (readCov_of v (at3 g) hL h _ _ (hc _ ?_ ?_ ?_ ?_ ?_ ?_)).trans ?_
  · show o0 ≤ o0 + 1 * p.val; omega
  · show o0 + 1 * p.val < _; omega
  · show o1 ≤ o1 + 1 * r.val; omega
  · show o1 + 1 * r.val < _; omega
  · show o2 ≤ o2 + 1 * l.val; omega
  · show o2 + 1 * l.val < _; omega
  · show g (o0 + 1 * p) (o1 + 1 * r) (o2 + 1 * l) = _
    rw [Nat.one_mul, Nat.one_mul, Nat.one_mul]

/-- A load of a box after stores into contents, the stores and the contents they leave all agreeing with `g`. -/
theorem rw3 {M : Memref sig κ sp (⟨3, ![n0, n1, n2]⟩ : Shape) e} (hM : M.IsWhole) {x : Vec Ideal (⟨3, ![n0, n1, n2]⟩ : Shape) e}
    {g : ℕ → ℕ → ℕ → Elt Ideal e} {L : List (View.Piece (Elt Ideal) (⟨3, ![n0, n1, n2]⟩ : Shape) e)} (h : View.PiecesOf (at3 g) L) {o0 o1 o2 m0 m1 m2 : ℕ}
    (inb : ∀ a, ![o0, o1, o2] a + ![m0, m1, m2] a ≤ (⟨3, ![n0, n1, n2]⟩ : Shape).size a)
    (hx : ∀ y : (⟨3, ![n0, n1, n2]⟩ : Shape).Idx, (∀ p ∈ L, y ∉ p.1.set) → x y = g (y 0) (y 1) (y 2))
    (p : Fin m0) (r : Fin m1) (l : Fin m2) :
    (View.readAt (Elt Ideal) M.view (Rect.unit (s := ⟨3, ![n0, n1, n2]⟩) ![o0, o1, o2] ![m0, m1, m2] inb).toLoadRect (M.view.writes (Elt Ideal) (hM.unread x) L) : Vec Ideal (⟨3, ![m0, m1, m2]⟩ : Shape) e) (ix3 p r l)
      = g (o0 + p) (o1 + r) (o2 + l) := by
  refine (read_writes_of M.view (hM.unread x) (at3 g) _ L h fun hp => ?_).trans ?_
  · rw [hM.read_unread]; exact hx _ hp
  · show g (o0 + 1 * p) (o1 + 1 * r) (o2 + 1 * l) = _
    rw [Nat.one_mul, Nat.one_mul, Nat.one_mul]

theorem in3 {o0 o1 o2 m0 m1 m2 : ℕ} {inb : ∀ a, ![o0, o1, o2] a + ![m0, m1, m2] a ≤ (⟨3, ![n0, n1, n2]⟩ : Shape).size a} {y : (⟨3, ![n0, n1, n2]⟩ : Shape).Idx}
    (h : (o0 ≤ (y 0).val ∧ (y 0).val < o0 + m0) ∧ (o1 ≤ (y 1).val ∧ (y 1).val < o1 + m1) ∧ o2 ≤ (y 2).val ∧ (y 2).val < o2 + m2) :
    y ∈ (Rect.unit (s := ⟨3, ![n0, n1, n2]⟩) ![o0, o1, o2] ![m0, m1, m2] inb).set :=
  Rect.mem_set_unit.mpr fun a => by match a with | ⟨0, _⟩ => exact h.1 | ⟨1, _⟩ => exact h.2.1 | ⟨2, _⟩ => exact h.2.2

/-- A store of a box at the head of a list of stores. -/
theorem pc3 (n0 n1 n2 o0 o1 o2 m0 m1 m2 : ℕ) {g : ℕ → ℕ → ℕ → Elt Ideal e}
    {inb : ∀ a, ![o0, o1, o2] a + ![m0, m1, m2] a ≤ (⟨3, ![n0, n1, n2]⟩ : Shape).size a}
    {w : (⟨3, ![m0, m1, m2]⟩ : Shape).Idx → Elt Ideal e} {L : List (View.Piece (Elt Ideal) (⟨3, ![n0, n1, n2]⟩ : Shape) e)}
    (hw : ∀ (p : Fin m0) (r : Fin m1) (l : Fin m2), w (ix3 p r l) = g (o0 + p) (o1 + r) (o2 + l)) (hL : View.PiecesOf (at3 g) L) :
    View.PiecesOf (at3 g) (⟨Rect.unit (s := ⟨3, ![n0, n1, n2]⟩) ![o0, o1, o2] ![m0, m1, m2] inb, w⟩ :: L) := pieces_mem (piece3 hw) hL

end Three

/-! ### Reads of the scores and the weights of a query block against a key group: the rows of four heads, one under another -/

section Heads
variable {κ : Kind} {sp : Space} {a : Args} {b m q : ℕ}

/-- The shape of the four heads' rows against the 256 keys. -/
abbrev Sh : Shape := ⟨2, ![512, 256]⟩

/-- A load of a head's rows after the store of four even heads' scores. -/
theorem scE_rd {v : View sig κ sp Sh .f32} {L : List (View.Piece (Elt Ideal) Sh .f32)} {w : Sh.Idx → Elt Ideal .f32}
    {inb' : ∀ a, ![0, 0] a + ![512, 256] a ≤ Sh.size a} (hw : ∀ (R : Fin 512) (k : Fin 256), w (ix2 R k) = scF a b m (8 * q + 2 * (R / 128)) (R % 128) k)
    {o h : ℕ} (inb : ∀ a, ![o, 0] a + ![128, 256] a ≤ Sh.size a) (ho : o % 128 = 0 ∧ h = 8 * q + 2 * (o / 128) ∧ o + 128 ≤ 512) (r : Fin 128) (k : Fin 256) :
    (v.readCov (⟨Rect.unit (s := Sh) ![0, 0] ![512, 256] inb', w⟩ :: L) (Rect.unit (s := Sh) ![o, 0] ![128, 256] inb).toLoadRect :
      Vec Ideal (⟨2, ![128, 256]⟩ : Shape) .f32) (ix2 r k) = scF a b m h r k := by
  refine (rc2 (n0 := 512) (n1 := 256) (g := fun R k => scF a b m (8 * q + 2 * (R / 128)) (R % 128) k) (L1 := [⟨Rect.unit (s := Sh) ![0, 0] ![512, 256] inb', w⟩])
    (L2 := L) rfl (pc2 512 256 0 0 512 256 (fun R k => (hw R k).trans (by simp only [Nat.zero_add])) True.intro) inb
    (fun _ _ _ _ _ => ⟨_, mh, in2 (inb := inb') (by omega)⟩) r k).trans ?_
  beta_reduce
  congr 1 <;> omega

/-- A load of a head's rows after the store of four odd heads' scores. -/
theorem scO_rd {v : View sig κ sp Sh .f32} {L : List (View.Piece (Elt Ideal) Sh .f32)} {w : Sh.Idx → Elt Ideal .f32}
    {inb' : ∀ a, ![0, 0] a + ![512, 256] a ≤ Sh.size a} (hw : ∀ (R : Fin 512) (k : Fin 256), w (ix2 R k) = scF a b m (8 * q + (2 * (R / 128) + 1)) (R % 128) k)
    {o h : ℕ} (inb : ∀ a, ![o, 0] a + ![128, 256] a ≤ Sh.size a) (ho : o % 128 = 0 ∧ h = 8 * q + (2 * (o / 128) + 1) ∧ o + 128 ≤ 512) (r : Fin 128) (k : Fin 256) :
    (v.readCov (⟨Rect.unit (s := Sh) ![0, 0] ![512, 256] inb', w⟩ :: L) (Rect.unit (s := Sh) ![o, 0] ![128, 256] inb).toLoadRect :
      Vec Ideal (⟨2, ![128, 256]⟩ : Shape) .f32) (ix2 r k) = scF a b m h r k := by
  refine (rc2 (n0 := 512) (n1 := 256) (g := fun R k => scF a b m (8 * q + (2 * (R / 128) + 1)) (R % 128) k) (L1 := [⟨Rect.unit (s := Sh) ![0, 0] ![512, 256] inb', w⟩])
    (L2 := L) rfl (pc2 512 256 0 0 512 256 (fun R k => (hw R k).trans (by simp only [Nat.zero_add])) True.intro) inb
    (fun _ _ _ _ _ => ⟨_, mh, in2 (inb := inb') (by omega)⟩) r k).trans ?_
  beta_reduce
  congr 1 <;> omega

/-- A load of all the rows after the stores of the four heads' rows, the rows of head number `t` holding `F t`. -/
theorem four_rd {F : ℕ → ℕ → ℕ → Elt Ideal .bf16} {v : View sig κ sp Sh .bf16} {L : List (View.Piece (Elt Ideal) Sh .bf16)}
    {w0 w1 w2 w3 : (⟨2, ![128, 256]⟩ : Shape).Idx → Elt Ideal .bf16}
    {b0 : ∀ a, ![0, 0] a + ![128, 256] a ≤ Sh.size a} {b1 : ∀ a, ![128, 0] a + ![128, 256] a ≤ Sh.size a}
    {b2 : ∀ a, ![256, 0] a + ![128, 256] a ≤ Sh.size a} {b3 : ∀ a, ![384, 0] a + ![128, 256] a ≤ Sh.size a}
    (h3 : ∀ (r : Fin 128) (k : Fin 256), w3 (ix2 r k) = F 3 r k) (h2 : ∀ (r : Fin 128) (k : Fin 256), w2 (ix2 r k) = F 2 r k)
    (h1 : ∀ (r : Fin 128) (k : Fin 256), w1 (ix2 r k) = F 1 r k) (h0 : ∀ (r : Fin 128) (k : Fin 256), w0 (ix2 r k) = F 0 r k)
    (inb : ∀ a, ![0, 0] a + ![512, 256] a ≤ Sh.size a) (R : Fin 512) (k : Fin 256) :
    (v.readCov (⟨Rect.unit (s := Sh) ![384, 0] ![128, 256] b3, w3⟩ :: ⟨Rect.unit (s := Sh) ![256, 0] ![128, 256] b2, w2⟩ ::
        ⟨Rect.unit (s := Sh) ![128, 0] ![128, 256] b1, w1⟩ :: ⟨Rect.unit (s := Sh) ![0, 0] ![128, 256] b0, w0⟩ :: L)
      (Rect.unit (s := Sh) ![0, 0] ![512, 256] inb).toLoadRect : Vec Ideal (⟨2, ![512, 256]⟩ : Shape) .bf16) (ix2 R k) = F (R / 128) (R % 128) k := by
  refine (rc2 (n0 := 512) (n1 := 256) (g := fun R k => F (R / 128) (R % 128) k)
    (L1 := [⟨Rect.unit (s := Sh) ![384, 0] ![128, 256] b3, w3⟩, ⟨Rect.unit (s := Sh) ![256, 0] ![128, 256] b2, w2⟩,
      ⟨Rect.unit (s := Sh) ![128, 0] ![128, 256] b1, w1⟩, ⟨Rect.unit (s := Sh) ![0, 0] ![128, 256] b0, w0⟩]) (L2 := L) rfl
    (pc2 512 256 384 0 128 256 (fun r k => (h3 r k).trans ?_) (pc2 512 256 256 0 128 256 (fun r k => (h2 r k).trans ?_)
      (pc2 512 256 128 0 128 256 (fun r k => (h1 r k).trans ?_) (pc2 512 256 0 0 128 256 (fun r k => (h0 r k).trans ?_) True.intro)))) inb ?_ R k).trans
    (by beta_reduce; congr 1 <;> omega)
  · beta_reduce; congr 1 <;> omega
  · beta_reduce; congr 1 <;> omega
  · beta_reduce; congr 1 <;> omega
  · beta_reduce; congr 1 <;> omega
  · intro y h1 h2 h3 h4
    rcases (show (y 0).val / 128 = 0 ∨ (y 0).val / 128 = 1 ∨ (y 0).val / 128 = 2 ∨ (y 0).val / 128 = 3 by omega) with h | h | h | h
    · exact ⟨_, mt (mt (mt mh)), in2 (inb := b0) (by omega)⟩
    · exact ⟨_, mt (mt mh), in2 (inb := b1) (by omega)⟩
    · exact ⟨_, mt mh, in2 (inb := b2) (by omega)⟩
    · exact ⟨_, mh, in2 (inb := b3) (by omega)⟩

end Heads

/-- A scalar load. -/
theorem rd1 {κ : Kind} {sp : Space} {n : ℕ} {e : EltTy} {M : Memref sig κ sp (⟨1, ![n]⟩ : Shape) e} (hM : M.IsWhole) {x : Vec Ideal (⟨1, ![n]⟩ : Shape) e}
    {g : ℕ → Elt Ideal e} (hx : ∀ r : Fin n, x (ix1 r) = g r) {o : ℕ}
    (inb : ∀ a, ![o] a + ![1] a ≤ (⟨1, ![n]⟩ : Shape).size a) (j : (⟨1, ![1]⟩ : Shape).Idx) :
    (View.readAt (Elt Ideal) M.view (Rect.unit (s := ⟨1, ![n]⟩) ![o] ![1] inb).toLoadRect (hM.unread x) : Vec Ideal (⟨1, ![1]⟩ : Shape) e) j = g o := by
  show M.view.read (Elt Ideal) (hM.unread x) _ = _
  rw [hM.read_unread]
  refine (congrArg x (eq_ix1 _)).trans ((hx _).trans ?_)
  show g (o + 1 * (j 0).val) = _
  have : (j 0).val < 1 := (j 0).isLt
  rw [show o + 1 * (j 0).val = o by omega]

/-- The inputs of a grid point of batch `b`, tokens `256 * j` to `256 * j + 255`, are the layer's arguments there. -/
structure Blk (a : Args) (b j : ℕ) (x0 : Vec Ideal S16 .f32) (x1 : Vec Ideal S1x256x1024 .f32) (x2 x3 : Vec Ideal S256x128 .f32)
    (x4 : Vec Ideal S1x1024 .f32) (x5 : Vec Ideal S1024x7424 .bf16) (x6 : Vec Ideal S1x2048 .f32) (x7 : Vec Ideal S8x128x128 .f32)
    (x8 : Vec Ideal S128x1024 .f32) (x9 x10 : Vec Ideal S1x1024 .f32) (x11 x12 x13 : Vec Ideal S1024x1024 .bf16) (x14 : Vec Ideal S1x1024 .f32) : Prop where
  h0 : ∀ h : Fin 16, x0 (ix1 h) = a.sk h
  h1 : ∀ (p : Fin 1) (r : Fin 256) (d : Fin 1024), x1 (ix3 p r d) = a.x b (256 * j + r) d
  h2 : ∀ (r : Fin 256) (l : Fin 128), x2 (ix2 r l) = cosF a (256 * j + r) l
  h3 : ∀ (r : Fin 256) (l : Fin 128), x3 (ix2 r l) = sinF a (256 * j + r) l
  h4 : ∀ (p : Fin 1) (d : Fin 1024), x4 (ix2 p d) = a.ng d
  h5 : ∀ (k : Fin 1024) (n : Fin 7424), x5 (ix2 k n) = a.win k n
  h6 : ∀ (p : Fin 1) (n : Fin 2048), x6 (ix2 p n) = a.bm n
  h7 : ∀ (g : Fin 8) (i j : Fin 128), x7 (ix3 g i j) = a.sgw g i j
  h8 : ∀ (i : Fin 128) (c : Fin 1024), x8 (ix2 i c) = a.sgb (c / 128) i
  h9 : ∀ (p : Fin 1) (c : Fin 1024), x9 (ix2 p c) = a.lng c
  h10 : ∀ (p : Fin 1) (c : Fin 1024), x10 (ix2 p c) = a.lnb c
  h11 : ∀ k n : Fin 1024, x11 (ix2 k n) = a.wao k n
  h12 : ∀ k n : Fin 1024, x12 (ix2 k n) = a.wso k n
  h13 : ∀ k n : Fin 1024, x13 (ix2 k n) = a.wo k n
  h14 : ∀ (p : Fin 1) (c : Fin 1024), x14 (ix2 p c) = a.fg c

/-- The rows of keys and values left by the point before. -/
structure Halo (a : Args) (b j : ℕ) (xs6 xs7 xs8 xs9 : Vec Ideal S2x384x128 .bf16) : Prop where
  h6 : ∀ (g : Fin 2) (R : Fin 384) (l : Fin 128), R.val < 128 → xs6 (ix3 g R l) = kaF a b (256 * j + R) g l
  h7 : ∀ (g : Fin 2) (R : Fin 384) (l : Fin 128), R.val < 128 → xs7 (ix3 g R l) = kbF a b (256 * j + R) g l
  h8 : ∀ (g : Fin 2) (R : Fin 384) (l : Fin 128), R.val < 128 → xs8 (ix3 g R l) = vaF a b (256 * j + R) g l
  h9 : ∀ (g : Fin 2) (R : Fin 384) (l : Fin 128), R.val < 128 → xs9 (ix3 g R l) = vbF a b (256 * j + R) g l

end Cert.KRead

end
-- ==== Proof.KMask.lean ====
/- The kernel's integer masks, on words of small naturals: the chunk (64 lanes or tokens) of a coordinate as the kernel divides it, and the
   comparisons of chunks. -/
module

public import proofs.«01_k».proof.Proof.KRead

@[expose] public section

noncomputable section

namespace Cert.KMask

open Idealize.ShloMosaic Idealize.ShloMosaic.TcCoe Idealize.SL.Sem
open Cert.KernelIdeal Cert.KernelIdeal.Gen Cert.Spec Cert.KOps Cert.KRead

/-- A coordinate's chunk, as the kernel computes it: the quotient by 64 rounded down. -/
def fd (n : ℕ) : BitVec 32 :=
  Scalar.select
    (IntOp.andi
      (IntOp.cmpi .ne
        (IntOp.subi (BitVec.setWidth 32 (IntOp.cmpi .sgt (BitVec.ofNat 32 n) 0#32)) (BitVec.setWidth 32 (IntOp.cmpi .slt (BitVec.ofNat 32 n) 0#32)))
        1#32)
      (IntOp.cmpi .ne (IntOp.remsi .vector (BitVec.ofNat 32 n) 64#32) 0#32))
    (IntOp.subi (IntOp.divsi .vector (BitVec.ofNat 32 n) 64#32) 1#32) (IntOp.divsi .vector (BitVec.ofNat 32 n) 64#32)

theorem fd_fin : ∀ n : Fin 256, fd n = BitVec.ofNat 32 (n / 64) := by decide +kernel

theorem fd_eq {n : ℕ} (h : n < 256) : fd n = BitVec.ofNat 32 (n / 64) := fd_fin ⟨n, h⟩

theorem causal_fin : ∀ x y : Fin 4, IntOp.cmpi .sle (BitVec.ofNat 32 x) (BitVec.ofNat 32 y) = if x.val ≤ y.val then 1#1 else 0#1 := by decide +kernel

theorem causal_eq (r l : Fin 128) : IntOp.cmpi .sle (fd l) (fd r) = if l.val / 64 ≤ r.val / 64 then 1#1 else 0#1 := by
  rw [fd_eq (by omega), fd_eq (by omega)]
  exact causal_fin ⟨l / 64, by omega⟩ ⟨r / 64, by omega⟩

theorem band_fin : ∀ x y : Fin 4, IntOp.andi (IntOp.cmpi .sge (BitVec.ofNat 32 x) (BitVec.ofNat 32 y))
    (IntOp.cmpi .sle (BitVec.ofNat 32 x) (IntOp.addi (BitVec.ofNat 32 y) 2#32)) = if y.val ≤ x.val ∧ x.val ≤ y.val + 2 then 1#1 else 0#1 := by decide +kernel

theorem band_eq {m : ℕ} (hm : 1 ≤ m) (r : Fin 128) (k : Fin 256) :
    IntOp.andi (IntOp.cmpi .sge (fd k) (fd r)) (IntOp.cmpi .sle (fd k) (IntOp.addi (fd r) 2#32)) = if vis m r k then 1#1 else 0#1 := by
  rw [fd_eq (by omega), fd_eq (by omega)]
  refine (band_fin ⟨k / 64, by omega⟩ ⟨r / 64, by omega⟩).trans (if_congr ?_ rfl rfl)
  unfold vis
  constructor
  · intro h; exact ⟨h.1, h.2, by omega⟩
  · intro h; exact ⟨h.1, h.2.1⟩

theorem first_fin : ∀ (x y : Fin 4) (j : Fin 32),
    IntOp.andi (IntOp.andi (IntOp.cmpi .sge (BitVec.ofNat 32 x) (BitVec.ofNat 32 y))
      (IntOp.cmpi .sle (BitVec.ofNat 32 x) (IntOp.addi (BitVec.ofNat 32 y) 2#32)))
      (IntOp.cmpi .sge (BitVec.ofNat 32 x) (Scalar.select (IntOp.cmpi .sgt (BitVec.ofNat 32 j) 0#32) 0#32 2#32))
      = if y.val ≤ x.val ∧ x.val ≤ y.val + 2 ∧ (1 ≤ j.val ∨ 2 ≤ x.val) then 1#1 else 0#1 := by decide +kernel

theorem first_eq {j : ℕ} (hj : j < 32) (r : Fin 128) (k : Fin 256) :
    IntOp.andi (IntOp.andi (IntOp.cmpi .sge (fd k) (fd r)) (IntOp.cmpi .sle (fd k) (IntOp.addi (fd r) 2#32)))
      (IntOp.cmpi .sge (fd k) (Scalar.select (IntOp.cmpi .sgt (BitVec.ofNat 32 j) 0#32) 0#32 2#32)) = if vis (2 * j) r k then 1#1 else 0#1 := by
  rw [fd_eq (by omega), fd_eq (by omega)]
  refine (first_fin ⟨k / 64, by omega⟩ ⟨r / 64, by omega⟩ ⟨j, hj⟩).trans (if_congr ?_ rfl rfl)
  unfold vis
  constructor
  · intro h; exact ⟨h.1, h.2.1, by have := h.2.2; simp only at this; omega⟩
  · intro h; exact ⟨h.1, h.2.1, by have := h.2.2; simp only; omega⟩

/-! ### The rows of keys and values before the first token, and those the stores of a point leave -/

variable {a : Args} {b n g l : ℕ}

theorem kaF_lo (h : n < 128) : kaF a b n g l = 0 := by unfold kaF KH; rw [if_neg (by omega : ¬128 ≤ n), ite_self]
theorem kbF_lo (h : n < 128) : kbF a b n g l = 0 := by unfold kbF KH; rw [if_neg (by omega : ¬128 ≤ n), ite_self]
theorem vaF_lo (h : n < 128) : vaF a b n g l = 0 := by unfold vaF VH; rw [if_neg (by omega : ¬128 ≤ n), ite_self]
theorem vbF_lo (h : n < 128) : vbF a b n g l = 0 := by unfold vbF VH; rw [if_neg (by omega : ¬128 ≤ n), ite_self]

/-- A row none of a point's two stores of a plane writes is a row of the point before. -/
theorem off_rows {w1 w0 : (⟨3, ![1, 256, 128]⟩ : Shape).Idx → Elt Ideal .bf16} {y : S2x384x128.Idx}
    (hy : ∀ p ∈ ([⟨Rect.unit (s := S2x384x128) ![1, 128, 0] ![1, 256, 128] (by decide), w1⟩, ⟨Rect.unit (s := S2x384x128) ![0, 128, 0] ![1, 256, 128] (by decide), w0⟩] :
      List (View.Piece (Elt Ideal) S2x384x128 .bf16)), y ∉ p.1.set) : (y 1).val < 128 := by
  by_contra hR
  have a0 : (y 0).val < 2 := (y 0).isLt
  have a1 : (y 1).val < 384 := (y 1).isLt
  have a2 : (y 2).val < 128 := (y 2).isLt
  rcases (show (y 0).val = 1 ∨ (y 0).val = 0 by omega) with h | h
  · exact hy _ List.mem_cons_self (in3 (inb := by decide) ⟨by omega, by omega, by omega⟩)
  · exact hy _ (List.mem_cons_of_mem _ List.mem_cons_self) (in3 (inb := by decide) ⟨by omega, by omega, by omega⟩)

end Cert.KMask

end
-- ==== Proof.PtA1.lean ====
/- Grid points of case A, first part: the masks, the projections, the rotated and scaled queries, the keys and values with the rows of the
   point before, each of the body's values read at an index as the layer's functions. -/
module

public import proofs.«01_k».proof.Proof.KMask
public import proofs.«01_k».proof.Proof.Gen.KernelIdeal.Frame.RunA

@[expose] public section

set_option maxRecDepth 16384

noncomputable section

namespace Cert.PtA

open Idealize.ShloMosaic Idealize.ShloMosaic.TcCoe Idealize.SL.Sem
open Cert.KernelIdeal Cert.KernelIdeal.Gen Cert.Spec Cert.KOps Cert.KRead Cert.KMask

theorem lo256 (r : Fin 256) (l : Fin 128) : cmpi .slt kernelRun0_A.sl.v24 kernelRun0_A.sl.v27 (ix2 r l) = if l.val < 64 then 1#1 else 0#1 := by
  pointwise [kernelRun0_A.sl.v24, kernelRun0_A.sl.v27]
  revert l; decide +kernel

theorem lo128 (r l : Fin 128) : cmpi .slt kernelRun0_A.sl.v64 kernelRun0_A.sl.v65 (ix2 r l) = if l.val < 64 then 1#1 else 0#1 := by
  pointwise [kernelRun0_A.sl.v64, kernelRun0_A.sl.v65]
  revert l; decide +kernel

theorem v61 (r : Fin 256) (l : Fin 128) : kernelRun0_A.sl.v61 (ix2 r l) = if 8 ≤ l.val % 64 ∧ l.val % 64 < 16 then 1#1 else 0#1 := by
  pointwise [kernelRun0_A.sl.v61, kernelRun0_A.sl.v40, kernelRun0_A.sl.v36, kernelRun0_A.sl.v32, kernelRun0_A.sl.v24, kernelRun0_A.sl.v27, kernelRun0_A.sl.v29, kernelRun0_A.sl.v34, kernelRun0_A.sl.v30, kernelRun0_A.sl.v39, kernelRun0_A.sl.v41, kernelRun0_A.sl.v59]
  revert l; decide +kernel

theorem causal (r l : Fin 128) : cmpi .sle kernelRun0_A.sl.v1487 kernelRun0_A.sl.v1462 (ix2 r l) = if l.val / 64 ≤ r.val / 64 then 1#1 else 0#1 := by
  pointwise [kernelRun0_A.sl.v1487, kernelRun0_A.sl.v1479, kernelRun0_A.sl.v1468, kernelRun0_A.sl.v64, kernelRun0_A.sl.v1441, kernelRun0_A.sl.v1471, kernelRun0_A.sl.v1453, kernelRun0_A.sl.v1483, kernelRun0_A.sl.v65, kernelRun0_A.sl.v1486, kernelRun0_A.sl.v1462, kernelRun0_A.sl.v1454, kernelRun0_A.sl.v1443, kernelRun0_A.sl.v1438, kernelRun0_A.sl.v1446, kernelRun0_A.sl.v1458, kernelRun0_A.sl.v1461]
  exact causal_eq r l

theorem r_1 {m : ℕ} (hm : 1 ≤ m) (r : Fin 128) (k : Fin 256) : kernelRun0_A.sl.r_1 (ix2 r k) = if vis m r k then 1#1 else 0#1 := by
  pointwise [kernelRun0_A.sl.r_1, kernelRun0_A.sl.v307, kernelRun0_A.sl.v299, kernelRun0_A.sl.v288, kernelRun0_A.sl.v283, kernelRun0_A.sl.v261, kernelRun0_A.sl.v291, kernelRun0_A.sl.v273, kernelRun0_A.sl.v303, kernelRun0_A.sl.v259, kernelRun0_A.sl.v306, kernelRun0_A.sl.v282, kernelRun0_A.sl.v274, kernelRun0_A.sl.v263, kernelRun0_A.sl.v258, kernelRun0_A.sl.v266, kernelRun0_A.sl.v278, kernelRun0_A.sl.v281, kernelRun0_A.sl.v309, k0_pay60]
  exact band_eq hm r k

variable {a : Args} {b j : ℕ} {c : Dev nD} {i : grid0.Coords}
  {arg3 : Memref sig .tc .vmem S1x256x1024 .f32} {arg4 arg5 : Memref sig .tc .vmem S256x128 .f32} {arg6 : Memref sig .tc .vmem S1x1024 .f32}
  {arg7 : Memref sig .tc .vmem S1024x7424 .bf16} {harg3 : arg3.IsWhole} {harg4 : arg4.IsWhole} {harg5 : arg5.IsWhole} {harg6 : arg6.IsWhole}
  {harg7 : arg7.IsWhole} {x0 : Vec Ideal S16 .f32} {x1 : Vec Ideal S1x256x1024 .f32} {x2 x3 : Vec Ideal S256x128 .f32}
  {x4 x9 x10 x14 : Vec Ideal S1x1024 .f32} {x5 : Vec Ideal S1024x7424 .bf16} {x6 : Vec Ideal S1x2048 .f32} {x7 : Vec Ideal S8x128x128 .f32}
  {x8 : Vec Ideal S128x1024 .f32} {x11 x12 x13 : Vec Ideal S1024x1024 .bf16}

include i in
theorem r_2 (hi : (i 1).val = j) (r : Fin 128) (k : Fin 256) : kernelRun0_A.sl.r_2 i (ix2 r k) = if vis (2 * j) r k then 1#1 else 0#1 := by
  pointwise [kernelRun0_A.sl.r_2, kernelRun0_A.sl.v307, kernelRun0_A.sl.v299, kernelRun0_A.sl.v288, kernelRun0_A.sl.v283, kernelRun0_A.sl.v261, kernelRun0_A.sl.v291, kernelRun0_A.sl.v273, kernelRun0_A.sl.v303, kernelRun0_A.sl.v259, kernelRun0_A.sl.v306, kernelRun0_A.sl.v282, kernelRun0_A.sl.v274, kernelRun0_A.sl.v263, kernelRun0_A.sl.v258, kernelRun0_A.sl.v266, kernelRun0_A.sl.v278, kernelRun0_A.sl.v281, kernelRun0_A.sl.v309, k0_pay60, k0_pay61]
  subst hi
  exact first_eq (i 1).isLt r k

theorem v19 (H : Blk a b j x0 x1 x2 x3 x4 x5 x6 x7 x8 x9 x10 x11 x12 x13 x14) (r : Fin 256) (d : Fin 1024) :
    (kernelRun0_A.sl.v19 c arg3 harg3 arg6 harg6 x1 x4) (ix2 r d) = hid a b (256 * j + r) d :=
  hid_of (fun r d => (rd3 harg3 (g := fun _ r d => a.x b (256 * j + r) d) H.h1 _ 0 r d).trans (by beta_reduce; congr 1 <;> omega)) (fun d => (rd2 harg6 (g := fun _ d => a.ng d) H.h4 _ 0 d).trans (by beta_reduce; congr 1 <;> omega)) r d

theorem v21 (H : Blk a b j x0 x1 x2 x3 x4 x5 x6 x7 x8 x9 x10 x11 x12 x13 x14) (r : Fin 256) (l : Fin 128) :
    (kernelRun0_A.sl.v21 c arg4 harg4 x2) (ix2 r l) = cosF a (256 * j + r) l :=
  by
  pointwise [kernelRun0_A.sl.v21]
  exact (rd2 harg4 (g := fun r l => cosF a (256 * j + r) l) H.h2 _ r l).trans (by beta_reduce; congr 1 <;> omega)

theorem v23 (H : Blk a b j x0 x1 x2 x3 x4 x5 x6 x7 x8 x9 x10 x11 x12 x13 x14) (r : Fin 256) (l : Fin 128) :
    (kernelRun0_A.sl.v23 c arg5 harg5 x3) (ix2 r l) = sinF a (256 * j + r) l :=
  by
  pointwise [kernelRun0_A.sl.v23]
  exact (rd2 harg5 (g := fun r l => sinF a (256 * j + r) l) H.h3 _ r l).trans (by beta_reduce; congr 1 <;> omega)

theorem v69 (H : Blk a b j x0 x1 x2 x3 x4 x5 x6 x7 x8 x9 x10 x11 x12 x13 x14) (r : Fin 256) (n : Fin 1024) :
    (kernelRun0_A.sl.v69 c arg3 harg3 arg6 harg6 arg7 harg7 x1 x4 x5) (ix2 r n) = PJ a b (256 * j + r) (0 + n) :=
  proj1024_of (c0 := 0) (v19 H) (fun d n => (rd2 harg7 H.h5 _ d n).trans (by beta_reduce; congr 1 <;> omega)) r n

theorem v82 (H : Blk a b j x0 x1 x2 x3 x4 x5 x6 x7 x8 x9 x10 x11 x12 x13 x14) (r : Fin 256) (l : Fin 128) :
    (kernelRun0_A.sl.v82 c arg3 harg3 arg4 harg4 arg5 harg5 arg6 harg6 arg7 harg7 x1 x2 x3 x4 x5) (ix2 r l) = qF a b (256 * j + r) (128 * 0 + l) :=
  qV_of (p := 0) v61 (v21 H) (v23 H) (fun r l => by
    pointwise [kernelRun0_A.sl.v70]
    exact (v69 H _ _).trans (by first | (dsimp only; done) | (dsimp only; congr 1 <;> omega))) r l

theorem v95 (H : Blk a b j x0 x1 x2 x3 x4 x5 x6 x7 x8 x9 x10 x11 x12 x13 x14) (r : Fin 256) (l : Fin 128) :
    (kernelRun0_A.sl.v95 c arg3 harg3 arg4 harg4 arg5 harg5 arg6 harg6 arg7 harg7 x1 x2 x3 x4 x5) (ix2 r l) = qF a b (256 * j + r) (128 * 1 + l) :=
  qV_of (p := 1) v61 (v21 H) (v23 H) (fun r l => by
    pointwise [kernelRun0_A.sl.v83]
    exact (v69 H _ _).trans (by first | (dsimp only; done) | (dsimp only; congr 1 <;> omega))) r l

theorem v108 (H : Blk a b j x0 x1 x2 x3 x4 x5 x6 x7 x8 x9 x10 x11 x12 x13 x14) (r : Fin 256) (l : Fin 128) :
    (kernelRun0_A.sl.v108 c arg3 harg3 arg4 harg4 arg5 harg5 arg6 harg6 arg7 harg7 x1 x2 x3 x4 x5) (ix2 r l) = qF a b (256 * j + r) (128 * 2 + l) :=
  qV_of (p := 2) v61 (v21 H) (v23 H) (fun r l => by
    pointwise [kernelRun0_A.sl.v96]
    exact (v69 H _ _).trans (by first | (dsimp only; done) | (dsimp only; congr 1 <;> omega))) r l

theorem v121 (H : Blk a b j x0 x1 x2 x3 x4 x5 x6 x7 x8 x9 x10 x11 x12 x13 x14) (r : Fin 256) (l : Fin 128) :
    (kernelRun0_A.sl.v121 c arg3 harg3 arg4 harg4 arg5 harg5 arg6 harg6 arg7 harg7 x1 x2 x3 x4 x5) (ix2 r l) = qF a b (256 * j + r) (128 * 3 + l) :=
  qV_of (p := 3) v61 (v21 H) (v23 H) (fun r l => by
    pointwise [kernelRun0_A.sl.v109]
    exact (v69 H _ _).trans (by first | (dsimp only; done) | (dsimp only; congr 1 <;> omega))) r l

theorem v134 (H : Blk a b j x0 x1 x2 x3 x4 x5 x6 x7 x8 x9 x10 x11 x12 x13 x14) (r : Fin 256) (l : Fin 128) :
    (kernelRun0_A.sl.v134 c arg3 harg3 arg4 harg4 arg5 harg5 arg6 harg6 arg7 harg7 x1 x2 x3 x4 x5) (ix2 r l) = qF a b (256 * j + r) (128 * 4 + l) :=
  qV_of (p := 4) v61 (v21 H) (v23 H) (fun r l => by
    pointwise [kernelRun0_A.sl.v122]
    exact (v69 H _ _).trans (by first | (dsimp only; done) | (dsimp only; congr 1 <;> omega))) r l

theorem v147 (H : Blk a b j x0 x1 x2 x3 x4 x5 x6 x7 x8 x9 x10 x11 x12 x13 x14) (r : Fin 256) (l : Fin 128) :
    (kernelRun0_A.sl.v147 c arg3 harg3 arg4 harg4 arg5 harg5 arg6 harg6 arg7 harg7 x1 x2 x3 x4 x5) (ix2 r l) = qF a b (256 * j + r) (128 * 5 + l) :=
  qV_of (p := 5) v61 (v21 H) (v23 H) (fun r l => by
    pointwise [kernelRun0_A.sl.v135]
    exact (v69 H _ _).trans (by first | (dsimp only; done) | (dsimp only; congr 1 <;> omega))) r l

theorem v160 (H : Blk a b j x0 x1 x2 x3 x4 x5 x6 x7 x8 x9 x10 x11 x12 x13 x14) (r : Fin 256) (l : Fin 128) :
    (kernelRun0_A.sl.v160 c arg3 harg3 arg4 harg4 arg5 harg5 arg6 harg6 arg7 harg7 x1 x2 x3 x4 x5) (ix2 r l) = qF a b (256 * j + r) (128 * 6 + l) :=
  qV_of (p := 6) v61 (v21 H) (v23 H) (fun r l => by
    pointwise [kernelRun0_A.sl.v148]
    exact (v69 H _ _).trans (by first | (dsimp only; done) | (dsimp only; congr 1 <;> omega))) r l

theorem v173 (H : Blk a b j x0 x1 x2 x3 x4 x5 x6 x7 x8 x9 x10 x11 x12 x13 x14) (r : Fin 256) (l : Fin 128) :
    (kernelRun0_A.sl.v173 c arg3 harg3 arg4 harg4 arg5 harg5 arg6 harg6 arg7 harg7 x1 x2 x3 x4 x5) (ix2 r l) = qF a b (256 * j + r) (128 * 7 + l) :=
  qV_of (p := 7) v61 (v21 H) (v23 H) (fun r l => by
    pointwise [kernelRun0_A.sl.v161]
    exact (v69 H _ _).trans (by first | (dsimp only; done) | (dsimp only; congr 1 <;> omega))) r l

theorem v176 (H : Blk a b j x0 x1 x2 x3 x4 x5 x6 x7 x8 x9 x10 x11 x12 x13 x14) (r n : Fin 256) :
    (kernelRun0_A.sl.v176 c arg3 harg3 arg6 harg6 arg7 harg7 x1 x4 x5) (ix2 r n) = PJ a b (256 * j + r) (1024 + n) :=
  proj256_of (v19 H) (fun d n => (rd2 harg7 H.h5 _ d n).trans (by beta_reduce; congr 1 <;> omega)) r n

theorem v183 (H : Blk a b j x0 x1 x2 x3 x4 x5 x6 x7 x8 x9 x10 x11 x12 x13 x14) (r : Fin 256) (l : Fin 128) :
    (kernelRun0_A.sl.v183 c arg3 harg3 arg4 harg4 arg5 harg5 arg6 harg6 arg7 harg7 x1 x2 x3 x4 x5) (ix2 r l) = KH a b (256 * j + (128 + r)) (l / 64) (l % 64) :=
  kR_of v61 (v21 H) (v23 H) (fun r l => by
    pointwise [kernelRun0_A.sl.v177]
    exact (v176 H _ _).trans (by first | (dsimp only; done) | (dsimp only; congr 1 <;> omega))) r l

theorem v184 (H : Blk a b j x0 x1 x2 x3 x4 x5 x6 x7 x8 x9 x10 x11 x12 x13 x14) (r : Fin 256) (l : Fin 128) :
    (kernelRun0_A.sl.v184 c arg3 harg3 arg6 harg6 arg7 harg7 x1 x4 x5) (ix2 r l) = VH a b (256 * j + (128 + r)) (l / 64) (l % 64) :=
  vR_of (fun r l => by
    pointwise [kernelRun0_A.sl.v184]
    exact (v176 H _ _).trans (by first | (dsimp only; done) | (dsimp only; congr 1 <;> omega))) r l

theorem v191 (H : Blk a b j x0 x1 x2 x3 x4 x5 x6 x7 x8 x9 x10 x11 x12 x13 x14) (p : Fin 1) (r : Fin 256) (l : Fin 128) :
    (kernelRun0_A.sl.v191 c arg3 harg3 arg4 harg4 arg5 harg5 arg6 harg6 arg7 harg7 x1 x2 x3 x4 x5) (ix3 p r l) = kaF a b (256 * j + (128 + r)) 0 l :=
  by
  obtain rfl : p = 0 := Subsingleton.elim _ _
  exact lo0_of (G := fun r g l => KH a b (256 * j + (128 + r)) g l) lo256 (v183 H) r l

theorem v201 (H : Blk a b j x0 x1 x2 x3 x4 x5 x6 x7 x8 x9 x10 x11 x12 x13 x14) (p : Fin 1) (r : Fin 256) (l : Fin 128) :
    (kernelRun0_A.sl.v201 c arg3 harg3 arg4 harg4 arg5 harg5 arg6 harg6 arg7 harg7 x1 x2 x3 x4 x5) (ix3 p r l) = kaF a b (256 * j + (128 + r)) 1 l :=
  by
  obtain rfl : p = 0 := Subsingleton.elim _ _
  exact lo1_of (G := fun r g l => KH a b (256 * j + (128 + r)) g l) lo256 (v183 H) r l

theorem v196 (H : Blk a b j x0 x1 x2 x3 x4 x5 x6 x7 x8 x9 x10 x11 x12 x13 x14) (p : Fin 1) (r : Fin 256) (l : Fin 128) :
    (kernelRun0_A.sl.v196 c arg3 harg3 arg4 harg4 arg5 harg5 arg6 harg6 arg7 harg7 x1 x2 x3 x4 x5) (ix3 p r l) = kbF a b (256 * j + (128 + r)) 0 l :=
  by
  obtain rfl : p = 0 := Subsingleton.elim _ _
  exact hi0_of (G := fun r g l => KH a b (256 * j + (128 + r)) g l) lo256 (v183 H) r l

theorem v206 (H : Blk a b j x0 x1 x2 x3 x4 x5 x6 x7 x8 x9 x10 x11 x12 x13 x14) (p : Fin 1) (r : Fin 256) (l : Fin 128) :
    (kernelRun0_A.sl.v206 c arg3 harg3 arg4 harg4 arg5 harg5 arg6 harg6 arg7 harg7 x1 x2 x3 x4 x5) (ix3 p r l) = kbF a b (256 * j + (128 + r)) 1 l :=
  by
  obtain rfl : p = 0 := Subsingleton.elim _ _
  exact hi1_of (G := fun r g l => KH a b (256 * j + (128 + r)) g l) lo256 (v183 H) r l

theorem v212 (H : Blk a b j x0 x1 x2 x3 x4 x5 x6 x7 x8 x9 x10 x11 x12 x13 x14) (p : Fin 1) (r : Fin 256) (l : Fin 128) :
    (kernelRun0_A.sl.v212 c arg3 harg3 arg6 harg6 arg7 harg7 x1 x4 x5) (ix3 p r l) = vaF a b (256 * j + (128 + r)) 0 l :=
  by
  obtain rfl : p = 0 := Subsingleton.elim _ _
  exact lo0_of (G := fun r g l => VH a b (256 * j + (128 + r)) g l) lo256 (v184 H) r l

theorem v222 (H : Blk a b j x0 x1 x2 x3 x4 x5 x6 x7 x8 x9 x10 x11 x12 x13 x14) (p : Fin 1) (r : Fin 256) (l : Fin 128) :
    (kernelRun0_A.sl.v222 c arg3 harg3 arg6 harg6 arg7 harg7 x1 x4 x5) (ix3 p r l) = vaF a b (256 * j + (128 + r)) 1 l :=
  by
  obtain rfl : p = 0 := Subsingleton.elim _ _
  exact lo1_of (G := fun r g l => VH a b (256 * j + (128 + r)) g l) lo256 (v184 H) r l

theorem v217 (H : Blk a b j x0 x1 x2 x3 x4 x5 x6 x7 x8 x9 x10 x11 x12 x13 x14) (p : Fin 1) (r : Fin 256) (l : Fin 128) :
    (kernelRun0_A.sl.v217 c arg3 harg3 arg6 harg6 arg7 harg7 x1 x4 x5) (ix3 p r l) = vbF a b (256 * j + (128 + r)) 0 l :=
  by
  obtain rfl : p = 0 := Subsingleton.elim _ _
  exact hi0_of (G := fun r g l => VH a b (256 * j + (128 + r)) g l) lo256 (v184 H) r l

theorem v227 (H : Blk a b j x0 x1 x2 x3 x4 x5 x6 x7 x8 x9 x10 x11 x12 x13 x14) (p : Fin 1) (r : Fin 256) (l : Fin 128) :
    (kernelRun0_A.sl.v227 c arg3 harg3 arg6 harg6 arg7 harg7 x1 x4 x5) (ix3 p r l) = vbF a b (256 * j + (128 + r)) 1 l :=
  by
  obtain rfl : p = 0 := Subsingleton.elim _ _
  exact hi1_of (G := fun r g l => VH a b (256 * j + (128 + r)) g l) lo256 (v184 H) r l

theorem v233 (H : Blk a b j x0 x1 x2 x3 x4 x5 x6 x7 x8 x9 x10 x11 x12 x13 x14) (r : Fin 256) (n : Fin 1024) :
    (kernelRun0_A.sl.v233 c arg3 harg3 arg6 harg6 arg7 harg7 x1 x4 x5) (ix2 r n) = PJ a b (256 * j + r) (1280 + n) :=
  by
  pointwise [kernelRun0_A.sl.v233]
  exact proj1024_of (v19 H) (fun d n => (rd2 harg7 H.h5 _ d n).trans (by beta_reduce; congr 1 <;> omega)) r n

theorem v239 (H : Blk a b j x0 x1 x2 x3 x4 x5 x6 x7 x8 x9 x10 x11 x12 x13 x14) (r : Fin 256) (n : Fin 1024) :
    (kernelRun0_A.sl.v239 c arg3 harg3 arg6 harg6 arg7 harg7 x1 x4 x5) (ix2 r n) = PJ a b (256 * j + r) (2304 + n) :=
  by
  pointwise [kernelRun0_A.sl.v239]
  exact proj1024_of (v19 H) (fun d n => (rd2 harg7 H.h5 _ d n).trans (by beta_reduce; congr 1 <;> omega)) r n

theorem v245 (H : Blk a b j x0 x1 x2 x3 x4 x5 x6 x7 x8 x9 x10 x11 x12 x13 x14) (r : Fin 256) (n : Fin 1024) :
    (kernelRun0_A.sl.v245 c arg3 harg3 arg6 harg6 arg7 harg7 x1 x4 x5) (ix2 r n) = PJ a b (256 * j + r) (3328 + n) :=
  by
  pointwise [kernelRun0_A.sl.v245]
  exact proj1024_of (v19 H) (fun d n => (rd2 harg7 H.h5 _ d n).trans (by beta_reduce; congr 1 <;> omega)) r n

theorem v251 (H : Blk a b j x0 x1 x2 x3 x4 x5 x6 x7 x8 x9 x10 x11 x12 x13 x14) (r : Fin 256) (n : Fin 1024) :
    (kernelRun0_A.sl.v251 c arg3 harg3 arg6 harg6 arg7 harg7 x1 x4 x5) (ix2 r n) = PJ a b (256 * j + r) (4352 + n) :=
  by
  pointwise [kernelRun0_A.sl.v251]
  exact proj1024_of (v19 H) (fun d n => (rd2 harg7 H.h5 _ d n).trans (by beta_reduce; congr 1 <;> omega)) r n

theorem v257 (H : Blk a b j x0 x1 x2 x3 x4 x5 x6 x7 x8 x9 x10 x11 x12 x13 x14) (r : Fin 256) (n : Fin 2048) :
    (kernelRun0_A.sl.v257 c arg3 harg3 arg6 harg6 arg7 harg7 x1 x4 x5) (ix2 r n) = PJ a b (256 * j + r) (5376 + n) :=
  proj2048_of (v19 H) (fun d n => (rd2 harg7 H.h5 _ d n).trans (by beta_reduce; congr 1 <;> omega)) r n

end Cert.PtA

end
-- ==== Proof.PtA2.lean ====
/- Grid points of case A, second part: the loads of queries, keys, values and sinks. -/
module

public import proofs.«01_k».proof.Proof.PtA1

@[expose] public section

set_option maxRecDepth 16384
set_option maxHeartbeats 1000000

noncomputable section

namespace Cert.PtA

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg24 arg25 arg26 arg27 : Memref sig .tc .vmem S2x384x128 .bf16} {harg2 : arg2.IsWhole} {harg3 : arg3.IsWhole} {harg4 : arg4.IsWhole}
  {harg5 : arg5.IsWhole} {harg6 : arg6.IsWhole} {harg7 : arg7.IsWhole} {x0 : Vec Ideal S16 .f32} {x1 : Vec Ideal S1x256x1024 .f32}
  {x2 x3 : Vec Ideal S256x128 .f32} {x4 x9 x10 x14 : Vec Ideal S1x1024 .f32} {x5 : Vec Ideal S1024x7424 .bf16} {x6 : Vec Ideal S1x2048 .f32}
  {x7 : Vec Ideal S8x128x128 .f32} {x8 : Vec Ideal S128x1024 .f32} {x11 x12 x13 : Vec Ideal S1024x1024 .bf16}

variable (H : Blk a b j x0 x1 x2 x3 x4 x5 x6 x7 x8 x9 x10 x11 x12 x13 x14) (hj : j = 0)

theorem v2009 (p : Fin 1) (r l : Fin 128) : kernelRun0_A.sl.v2009 (ix3 p r l) = (0 : Ideal .bf16) := by
  pointwise [kernelRun0_A.sl.v2009, kernelRun0_A.sl.v2006, kernelRun0_A.sl.cst_930]

include H in
theorem hs0 : View.PiecesOf (at2 (fun r c => qF a b (256 * j + r) c)) (kernelRun0_A.sl.HS0_8 c arg3 harg3 arg4 harg4 arg5 harg5 arg6 harg6 arg7 harg7 x1 x2 x3 x4 x5) :=
  by
  refine pc2 256 1024 0 896 256 128 (fun r l => ?_) ?_
  · exact (v173 H r l).trans (by beta_reduce; congr 1 <;> omega)
  refine pc2 256 1024 0 768 256 128 (fun r l => ?_) ?_
  · exact (v160 H r l).trans (by beta_reduce; congr 1 <;> omega)
  refine pc2 256 1024 0 640 256 128 (fun r l => ?_) ?_
  · exact (v147 H r l).trans (by beta_reduce; congr 1 <;> omega)
  refine pc2 256 1024 0 512 256 128 (fun r l => ?_) ?_
  · exact (v134 H r l).trans (by beta_reduce; congr 1 <;> omega)
  refine pc2 256 1024 0 384 256 128 (fun r l => ?_) ?_
  · exact (v121 H r l).trans (by beta_reduce; congr 1 <;> omega)
  refine pc2 256 1024 0 256 256 128 (fun r l => ?_) ?_
  · exact (v108 H r l).trans (by beta_reduce; congr 1 <;> omega)
  refine pc2 256 1024 0 128 256 128 (fun r l => ?_) ?_
  · exact (v95 H r l).trans (by beta_reduce; congr 1 <;> omega)
  refine pc2 256 1024 0 0 256 128 (fun r l => ?_) ?_
  · exact (v82 H r l).trans (by beta_reduce; congr 1 <;> omega)
  exact True.intro

include H in
theorem v318 (r l : Fin 128) : (kernelRun0_A.sl.v318 c arg3 harg3 arg4 harg4 arg5 harg5 arg6 harg6 arg7 harg7 arg18 x1 x2 x3 x4 x5) (ix2 r l) = qF a b (128 * (2 * j + 0) + r) (128 * (4 * 0 + 0) + l) :=
  (rcm (hs0 H) _ (mt (mt (mt (mt (mt (mt (mt mh))))))) (by decide) r l).trans (by beta_reduce; congr 1 <;> omega)

include H in
theorem v319 (r l : Fin 128) : (kernelRun0_A.sl.v319 c arg3 harg3 arg4 harg4 arg5 harg5 arg6 harg6 arg7 harg7 arg18 x1 x2 x3 x4 x5) (ix2 r l) = qF a b (128 * (2 * j + 0) + r) (128 * (4 * 0 + 1) + l) :=
  (rcm (hs0 H) _ (mt (mt (mt (mt (mt (mt mh)))))) (by decide) r l).trans (by beta_reduce; congr 1 <;> omega)

include H in
theorem v320 (r l : Fin 128) : (kernelRun0_A.sl.v320 c arg3 harg3 arg4 harg4 arg5 harg5 arg6 harg6 arg7 harg7 arg18 x1 x2 x3 x4 x5) (ix2 r l) = qF a b (128 * (2 * j + 0) + r) (128 * (4 * 0 + 2) + l) :=
  (rcm (hs0 H) _ (mt (mt (mt (mt (mt mh))))) (by decide) r l).trans (by beta_reduce; congr 1 <;> omega)

include H in
theorem v321 (r l : Fin 128) : (kernelRun0_A.sl.v321 c arg3 harg3 arg4 harg4 arg5 harg5 arg6 harg6 arg7 harg7 arg18 x1 x2 x3 x4 x5) (ix2 r l) = qF a b (128 * (2 * j + 0) + r) (128 * (4 * 0 + 3) + l) :=
  (rcm (hs0 H) _ (mt (mt (mt (mt mh)))) (by decide) r l).trans (by beta_reduce; congr 1 <;> omega)

include H in
theorem v588 (r l : Fin 128) : (kernelRun0_A.sl.v588 c arg3 harg3 arg4 harg4 arg5 harg5 arg6 harg6 arg7 harg7 arg18 x1 x2 x3 x4 x5) (ix2 r l) = qF a b (128 * (2 * j + 0) + r) (128 * (4 * 1 + 0) + l) :=
  (rcm (hs0 H) _ (mt (mt (mt mh))) (by decide) r l).trans (by beta_reduce; congr 1 <;> omega)

include H in
theorem v589 (r l : Fin 128) : (kernelRun0_A.sl.v589 c arg3 harg3 arg4 harg4 arg5 harg5 arg6 harg6 arg7 harg7 arg18 x1 x2 x3 x4 x5) (ix2 r l) = qF a b (128 * (2 * j + 0) + r) (128 * (4 * 1 + 1) + l) :=
  (rcm (hs0 H) _ (mt (mt mh)) (by decide) r l).trans (by beta_reduce; congr 1 <;> omega)

include H in
theorem v590 (r l : Fin 128) : (kernelRun0_A.sl.v590 c arg3 harg3 arg4 harg4 arg5 harg5 arg6 harg6 arg7 harg7 arg18 x1 x2 x3 x4 x5) (ix2 r l) = qF a b (128 * (2 * j + 0) + r) (128 * (4 * 1 + 2) + l) :=
  (rcm (hs0 H) _ (mt mh) (by decide) r l).trans (by beta_reduce; congr 1 <;> omega)

include H in
theorem v591 (r l : Fin 128) : (kernelRun0_A.sl.v591 c arg3 harg3 arg4 harg4 arg5 harg5 arg6 harg6 arg7 harg7 arg18 x1 x2 x3 x4 x5) (ix2 r l) = qF a b (128 * (2 * j + 0) + r) (128 * (4 * 1 + 3) + l) :=
  (rcm (hs0 H) _ mh (by decide) r l).trans (by beta_reduce; congr 1 <;> omega)

include H in
theorem v858 (r l : Fin 128) : (kernelRun0_A.sl.v858 c arg3 harg3 arg4 harg4 arg5 harg5 arg6 harg6 arg7 harg7 arg18 x1 x2 x3 x4 x5) (ix2 r l) = qF a b (128 * (2 * j + 1) + r) (128 * (4 * 0 + 0) + l) :=
  (rcm (hs0 H) _ (mt (mt (mt (mt (mt (mt (mt mh))))))) (by decide) r l).trans (by beta_reduce; congr 1 <;> omega)

include H in
theorem v859 (r l : Fin 128) : (kernelRun0_A.sl.v859 c arg3 harg3 arg4 harg4 arg5 harg5 arg6 harg6 arg7 harg7 arg18 x1 x2 x3 x4 x5) (ix2 r l) = qF a b (128 * (2 * j + 1) + r) (128 * (4 * 0 + 1) + l) :=
  (rcm (hs0 H) _ (mt (mt (mt (mt (mt (mt mh)))))) (by decide) r l).trans (by beta_reduce; congr 1 <;> omega)

include H in
theorem v860 (r l : Fin 128) : (kernelRun0_A.sl.v860 c arg3 harg3 arg4 harg4 arg5 harg5 arg6 harg6 arg7 harg7 arg18 x1 x2 x3 x4 x5) (ix2 r l) = qF a b (128 * (2 * j + 1) + r) (128 * (4 * 0 + 2) + l) :=
  (rcm (hs0 H) _ (mt (mt (mt (mt (mt mh))))) (by decide) r l).trans (by beta_reduce; congr 1 <;> omega)

include H in
theorem v861 (r l : Fin 128) : (kernelRun0_A.sl.v861 c arg3 harg3 arg4 harg4 arg5 harg5 arg6 harg6 arg7 harg7 arg18 x1 x2 x3 x4 x5) (ix2 r l) = qF a b (128 * (2 * j + 1) + r) (128 * (4 * 0 + 3) + l) :=
  (rcm (hs0 H) _ (mt (mt (mt (mt mh)))) (by decide) r l).trans (by beta_reduce; congr 1 <;> omega)

include H in
theorem v1128 (r l : Fin 128) : (kernelRun0_A.sl.v1128 c arg3 harg3 arg4 harg4 arg5 harg5 arg6 harg6 arg7 harg7 arg18 x1 x2 x3 x4 x5) (ix2 r l) = qF a b (128 * (2 * j + 1) + r) (128 * (4 * 1 + 0) + l) :=
  (rcm (hs0 H) _ (mt (mt (mt mh))) (by decide) r l).trans (by beta_reduce; congr 1 <;> omega)

include H in
theorem v1129 (r l : Fin 128) : (kernelRun0_A.sl.v1129 c arg3 harg3 arg4 harg4 arg5 harg5 arg6 harg6 arg7 harg7 arg18 x1 x2 x3 x4 x5) (ix2 r l) = qF a b (128 * (2 * j + 1) + r) (128 * (4 * 1 + 1) + l) :=
  (rcm (hs0 H) _ (mt (mt mh)) (by decide) r l).trans (by beta_reduce; congr 1 <;> omega)

include H in
theorem v1130 (r l : Fin 128) : (kernelRun0_A.sl.v1130 c arg3 harg3 arg4 harg4 arg5 harg5 arg6 harg6 arg7 harg7 arg18 x1 x2 x3 x4 x5) (ix2 r l) = qF a b (128 * (2 * j + 1) + r) (128 * (4 * 1 + 2) + l) :=
  (rcm (hs0 H) _ (mt mh) (by decide) r l).trans (by beta_reduce; congr 1 <;> omega)

include H in
theorem v1131 (r l : Fin 128) : (kernelRun0_A.sl.v1131 c arg3 harg3 arg4 harg4 arg5 harg5 arg6 harg6 arg7 harg7 arg18 x1 x2 x3 x4 x5) (ix2 r l) = qF a b (128 * (2 * j + 1) + r) (128 * (4 * 1 + 3) + l) :=
  (rcm (hs0 H) _ mh (by decide) r l).trans (by beta_reduce; congr 1 <;> omega)

include H hj in
theorem hs6 : View.PiecesOf (at3 (fun g R l => kaF a b (256 * j + R) g l)) (kernelRun0_A.sl.HS6_4 c arg3 harg3 arg4 harg4 arg5 harg5 arg6 harg6 arg7 harg7 x1 x2 x3 x4 x5) :=
  by
  refine pc3 2 384 128 1 128 0 1 256 128 (fun p r l => ?_) ?_
  · exact (v201 H p r l).trans (by beta_reduce; congr 1 <;> omega)
  refine pc3 2 384 128 0 128 0 1 256 128 (fun p r l => ?_) ?_
  · exact (v191 H p r l).trans (by beta_reduce; congr 1 <;> omega)
  refine pc3 2 384 128 1 0 0 1 128 128 (fun p r l => ?_) ?_
  · exact (v2009 p r l).trans (kaF_lo (by omega)).symm
  refine pc3 2 384 128 0 0 0 1 128 128 (fun p r l => ?_) ?_
  · exact (v2009 p r l).trans (kaF_lo (by omega)).symm
  exact True.intro

include H hj in
theorem hs7 : View.PiecesOf (at3 (fun g R l => kbF a b (256 * j + R) g l)) (kernelRun0_A.sl.HS7_4 c arg3 harg3 arg4 harg4 arg5 harg5 arg6 harg6 arg7 harg7 x1 x2 x3 x4 x5) :=
  by
  refine pc3 2 384 128 1 128 0 1 256 128 (fun p r l => ?_) ?_
  · exact (v206 H p r l).trans (by beta_reduce; congr 1 <;> omega)
  refine pc3 2 384 128 0 128 0 1 256 128 (fun p r l => ?_) ?_
  · exact (v196 H p r l).trans (by beta_reduce; congr 1 <;> omega)
  refine pc3 2 384 128 1 0 0 1 128 128 (fun p r l => ?_) ?_
  · exact (v2009 p r l).trans (kbF_lo (by omega)).symm
  refine pc3 2 384 128 0 0 0 1 128 128 (fun p r l => ?_) ?_
  · exact (v2009 p r l).trans (kbF_lo (by omega)).symm
  exact True.intro

include H hj in
theorem hs8 : View.PiecesOf (at3 (fun g R l => vaF a b (256 * j + R) g l)) (kernelRun0_A.sl.HS8_4 c arg3 harg3 arg6 harg6 arg7 harg7 x1 x4 x5) :=
  by
  refine pc3 2 384 128 1 128 0 1 256 128 (fun p r l => ?_) ?_
  · exact (v222 H p r l).trans (by beta_reduce; congr 1 <;> omega)
  refine pc3 2 384 128 0 128 0 1 256 128 (fun p r l => ?_) ?_
  · exact (v212 H p r l).trans (by beta_reduce; congr 1 <;> omega)
  refine pc3 2 384 128 1 0 0 1 128 128 (fun p r l => ?_) ?_
  · exact (v2009 p r l).trans (vaF_lo (by omega)).symm
  refine pc3 2 384 128 0 0 0 1 128 128 (fun p r l => ?_) ?_
  · exact (v2009 p r l).trans (vaF_lo (by omega)).symm
  exact True.intro

include H hj in
theorem hs9 : View.PiecesOf (at3 (fun g R l => vbF a b (256 * j + R) g l)) (kernelRun0_A.sl.HS9_4 c arg3 harg3 arg6 harg6 arg7 harg7 x1 x4 x5) :=
  by
  refine pc3 2 384 128 1 128 0 1 256 128 (fun p r l => ?_) ?_
  · exact (v227 H p r l).trans (by beta_reduce; congr 1 <;> omega)
  refine pc3 2 384 128 0 128 0 1 256 128 (fun p r l => ?_) ?_
  · exact (v217 H p r l).trans (by beta_reduce; congr 1 <;> omega)
  refine pc3 2 384 128 1 0 0 1 128 128 (fun p r l => ?_) ?_
  · exact (v2009 p r l).trans (vbF_lo (by omega)).symm
  refine pc3 2 384 128 0 0 0 1 128 128 (fun p r l => ?_) ?_
  · exact (v2009 p r l).trans (vbF_lo (by omega)).symm
  exact True.intro

include H hj in
theorem v323 (k : Fin 256) (l : Fin 128) : (kernelRun0_A.sl.v323 c arg3 harg3 arg4 harg4 arg5 harg5 arg6 harg6 arg7 harg7 arg24 x1 x2 x3 x4 x5) (ix3 0 k l) = kaF a b (128 * (2 * j + 0) + k) 0 l :=
  (rc3 (L2 := []) (List.append_nil _).symm (hs6 H hj) _ (fun y h1 h2 h3 h4 h5 h6 => by
    by_cases h : (y 1).val < 128
    · exact ⟨_, (mt (mt (mt mh))), in3 (inb := by decide) (by omega)⟩
    · exact ⟨_, (mt mh), in3 (inb := by decide) (by omega)⟩) 0 k l).trans (by beta_reduce; congr 1 <;> (try simp only [Fin.val_zero]) <;> omega)

include H hj in
theorem v329 (k : Fin 256) (l : Fin 128) : (kernelRun0_A.sl.v329 c arg3 harg3 arg4 harg4 arg5 harg5 arg6 harg6 arg7 harg7 arg25 x1 x2 x3 x4 x5) (ix3 0 k l) = kbF a b (128 * (2 * j + 0) + k) 0 l :=
  (rc3 (L2 := []) (List.append_nil _).symm (hs7 H hj) _ (fun y h1 h2 h3 h4 h5 h6 => by
    by_cases h : (y 1).val < 128
    · exact ⟨_, (mt (mt (mt mh))), in3 (inb := by decide) (by omega)⟩
    · exact ⟨_, (mt mh), in3 (inb := by decide) (by omega)⟩) 0 k l).trans (by beta_reduce; congr 1 <;> (try simp only [Fin.val_zero]) <;> omega)

include H hj in
theorem v520 (k : Fin 256) (l : Fin 128) : (kernelRun0_A.sl.v520 c arg3 harg3 arg6 harg6 arg7 harg7 arg26 x1 x4 x5) (ix3 0 k l) = vaF a b (128 * (2 * j + 0) + k) 0 l :=
  (rc3 (L2 := []) (List.append_nil _).symm (hs8 H hj) _ (fun y h1 h2 h3 h4 h5 h6 => by
    by_cases h : (y 1).val < 128
    · exact ⟨_, (mt (mt (mt mh))), in3 (inb := by decide) (by omega)⟩
    · exact ⟨_, (mt mh), in3 (inb := by decide) (by omega)⟩) 0 k l).trans (by beta_reduce; congr 1 <;> (try simp only [Fin.val_zero]) <;> omega)

include H hj in
theorem v524 (k : Fin 256) (l : Fin 128) : (kernelRun0_A.sl.v524 c arg3 harg3 arg6 harg6 arg7 harg7 arg27 x1 x4 x5) (ix3 0 k l) = vbF a b (128 * (2 * j + 0) + k) 0 l :=
  (rc3 (L2 := []) (List.append_nil _).symm (hs9 H hj) _ (fun y h1 h2 h3 h4 h5 h6 => by
    by_cases h : (y 1).val < 128
    · exact ⟨_, (mt (mt (mt mh))), in3 (inb := by decide) (by omega)⟩
    · exact ⟨_, (mt mh), in3 (inb := by decide) (by omega)⟩) 0 k l).trans (by beta_reduce; congr 1 <;> (try simp only [Fin.val_zero]) <;> omega)

include H hj in
theorem v593 (k : Fin 256) (l : Fin 128) : (kernelRun0_A.sl.v593 c arg3 harg3 arg4 harg4 arg5 harg5 arg6 harg6 arg7 harg7 arg24 x1 x2 x3 x4 x5) (ix3 0 k l) = kaF a b (128 * (2 * j + 0) + k) 1 l :=
  (rc3 (L2 := []) (List.append_nil _).symm (hs6 H hj) _ (fun y h1 h2 h3 h4 h5 h6 => by
    by_cases h : (y 1).val < 128
    · exact ⟨_, (mt (mt mh)), in3 (inb := by decide) (by omega)⟩
    · exact ⟨_, mh, in3 (inb := by decide) (by omega)⟩) 0 k l).trans (by beta_reduce; congr 1 <;> (try simp only [Fin.val_zero]) <;> omega)

include H hj in
theorem v599 (k : Fin 256) (l : Fin 128) : (kernelRun0_A.sl.v599 c arg3 harg3 arg4 harg4 arg5 harg5 arg6 harg6 arg7 harg7 arg25 x1 x2 x3 x4 x5) (ix3 0 k l) = kbF a b (128 * (2 * j + 0) + k) 1 l :=
  (rc3 (L2 := []) (List.append_nil _).symm (hs7 H hj) _ (fun y h1 h2 h3 h4 h5 h6 => by
    by_cases h : (y 1).val < 128
    · exact ⟨_, (mt (mt mh)), in3 (inb := by decide) (by omega)⟩
    · exact ⟨_, mh, in3 (inb := by decide) (by omega)⟩) 0 k l).trans (by beta_reduce; congr 1 <;> (try simp only [Fin.val_zero]) <;> omega)

include H hj in
theorem v790 (k : Fin 256) (l : Fin 128) : (kernelRun0_A.sl.v790 c arg3 harg3 arg6 harg6 arg7 harg7 arg26 x1 x4 x5) (ix3 0 k l) = vaF a b (128 * (2 * j + 0) + k) 1 l :=
  (rc3 (L2 := []) (List.append_nil _).symm (hs8 H hj) _ (fun y h1 h2 h3 h4 h5 h6 => by
    by_cases h : (y 1).val < 128
    · exact ⟨_, (mt (mt mh)), in3 (inb := by decide) (by omega)⟩
    · exact ⟨_, mh, in3 (inb := by decide) (by omega)⟩) 0 k l).trans (by beta_reduce; congr 1 <;> (try simp only [Fin.val_zero]) <;> omega)

include H hj in
theorem v794 (k : Fin 256) (l : Fin 128) : (kernelRun0_A.sl.v794 c arg3 harg3 arg6 harg6 arg7 harg7 arg27 x1 x4 x5) (ix3 0 k l) = vbF a b (128 * (2 * j + 0) + k) 1 l :=
  (rc3 (L2 := []) (List.append_nil _).symm (hs9 H hj) _ (fun y h1 h2 h3 h4 h5 h6 => by
    by_cases h : (y 1).val < 128
    · exact ⟨_, (mt (mt mh)), in3 (inb := by decide) (by omega)⟩
    · exact ⟨_, mh, in3 (inb := by decide) (by omega)⟩) 0 k l).trans (by beta_reduce; congr 1 <;> (try simp only [Fin.val_zero]) <;> omega)

include H hj in
theorem v863 (k : Fin 256) (l : Fin 128) : (kernelRun0_A.sl.v863 c arg3 harg3 arg4 harg4 arg5 harg5 arg6 harg6 arg7 harg7 arg24 x1 x2 x3 x4 x5) (ix3 0 k l) = kaF a b (128 * (2 * j + 1) + k) 0 l :=
  (rc3 (L2 := []) (List.append_nil _).symm (hs6 H hj) _ (fun y h1 h2 h3 h4 h5 h6 => ⟨_, (mt mh), in3 (inb := by decide) (by omega)⟩) 0 k l).trans (by beta_reduce; congr 1 <;> (try simp only [Fin.val_zero]) <;> omega)

include H hj in
theorem v869 (k : Fin 256) (l : Fin 128) : (kernelRun0_A.sl.v869 c arg3 harg3 arg4 harg4 arg5 harg5 arg6 harg6 arg7 harg7 arg25 x1 x2 x3 x4 x5) (ix3 0 k l) = kbF a b (128 * (2 * j + 1) + k) 0 l :=
  (rc3 (L2 := []) (List.append_nil _).symm (hs7 H hj) _ (fun y h1 h2 h3 h4 h5 h6 => ⟨_, (mt mh), in3 (inb := by decide) (by omega)⟩) 0 k l).trans (by beta_reduce; congr 1 <;> (try simp only [Fin.val_zero]) <;> omega)

include H hj in
theorem v1060 (k : Fin 256) (l : Fin 128) : (kernelRun0_A.sl.v1060 c arg3 harg3 arg6 harg6 arg7 harg7 arg26 x1 x4 x5) (ix3 0 k l) = vaF a b (128 * (2 * j + 1) + k) 0 l :=
  (rc3 (L2 := []) (List.append_nil _).symm (hs8 H hj) _ (fun y h1 h2 h3 h4 h5 h6 => ⟨_, (mt mh), in3 (inb := by decide) (by omega)⟩) 0 k l).trans (by beta_reduce; congr 1 <;> (try simp only [Fin.val_zero]) <;> omega)

include H hj in
theorem v1064 (k : Fin 256) (l : Fin 128) : (kernelRun0_A.sl.v1064 c arg3 harg3 arg6 harg6 arg7 harg7 arg27 x1 x4 x5) (ix3 0 k l) = vbF a b (128 * (2 * j + 1) + k) 0 l :=
  (rc3 (L2 := []) (List.append_nil _).symm (hs9 H hj) _ (fun y h1 h2 h3 h4 h5 h6 => ⟨_, (mt mh), in3 (inb := by decide) (by omega)⟩) 0 k l).trans (by beta_reduce; congr 1 <;> (try simp only [Fin.val_zero]) <;> omega)

include H hj in
theorem v1133 (k : Fin 256) (l : Fin 128) : (kernelRun0_A.sl.v1133 c arg3 harg3 arg4 harg4 arg5 harg5 arg6 harg6 arg7 harg7 arg24 x1 x2 x3 x4 x5) (ix3 0 k l) = kaF a b (128 * (2 * j + 1) + k) 1 l :=
  (rc3 (L2 := []) (List.append_nil _).symm (hs6 H hj) _ (fun y h1 h2 h3 h4 h5 h6 => ⟨_, mh, in3 (inb := by decide) (by omega)⟩) 0 k l).trans (by beta_reduce; congr 1 <;> (try simp only [Fin.val_zero]) <;> omega)

include H hj in
theorem v1139 (k : Fin 256) (l : Fin 128) : (kernelRun0_A.sl.v1139 c arg3 harg3 arg4 harg4 arg5 harg5 arg6 harg6 arg7 harg7 arg25 x1 x2 x3 x4 x5) (ix3 0 k l) = kbF a b (128 * (2 * j + 1) + k) 1 l :=
  (rc3 (L2 := []) (List.append_nil _).symm (hs7 H hj) _ (fun y h1 h2 h3 h4 h5 h6 => ⟨_, mh, in3 (inb := by decide) (by omega)⟩) 0 k l).trans (by beta_reduce; congr 1 <;> (try simp only [Fin.val_zero]) <;> omega)

include H hj in
theorem v1330 (k : Fin 256) (l : Fin 128) : (kernelRun0_A.sl.v1330 c arg3 harg3 arg6 harg6 arg7 harg7 arg26 x1 x4 x5) (ix3 0 k l) = vaF a b (128 * (2 * j + 1) + k) 1 l :=
  (rc3 (L2 := []) (List.append_nil _).symm (hs8 H hj) _ (fun y h1 h2 h3 h4 h5 h6 => ⟨_, mh, in3 (inb := by decide) (by omega)⟩) 0 k l).trans (by beta_reduce; congr 1 <;> (try simp only [Fin.val_zero]) <;> omega)

include H hj in
theorem v1334 (k : Fin 256) (l : Fin 128) : (kernelRun0_A.sl.v1334 c arg3 harg3 arg6 harg6 arg7 harg7 arg27 x1 x4 x5) (ix3 0 k l) = vbF a b (128 * (2 * j + 1) + k) 1 l :=
  (rc3 (L2 := []) (List.append_nil _).symm (hs9 H hj) _ (fun y h1 h2 h3 h4 h5 h6 => ⟨_, mh, in3 (inb := by decide) (by omega)⟩) 0 k l).trans (by beta_reduce; congr 1 <;> (try simp only [Fin.val_zero]) <;> omega)

include H in
theorem sk0 : (kernelRun0_A.sl.r c arg2 harg2 x0) = a.sk 0 :=
  rd1 harg2 (g := fun n => a.sk n) H.h0 _ _

include H in
theorem sk1 : (kernelRun0_A.sl.r_5 c arg2 harg2 x0) = a.sk 1 :=
  rd1 harg2 (g := fun n => a.sk n) H.h0 _ _

include H in
theorem sk2 : (kernelRun0_A.sl.r_6 c arg2 harg2 x0) = a.sk 2 :=
  rd1 harg2 (g := fun n => a.sk n) H.h0 _ _

include H in
theorem sk3 : (kernelRun0_A.sl.r_9 c arg2 harg2 x0) = a.sk 3 :=
  rd1 harg2 (g := fun n => a.sk n) H.h0 _ _

include H in
theorem sk4 : (kernelRun0_A.sl.r_12 c arg2 harg2 x0) = a.sk 4 :=
  rd1 harg2 (g := fun n => a.sk n) H.h0 _ _

include H in
theorem sk5 : (kernelRun0_A.sl.r_13 c arg2 harg2 x0) = a.sk 5 :=
  rd1 harg2 (g := fun n => a.sk n) H.h0 _ _

include H in
theorem sk6 : (kernelRun0_A.sl.r_18 c arg2 harg2 x0) = a.sk 6 :=
  rd1 harg2 (g := fun n => a.sk n) H.h0 _ _

include H in
theorem sk7 : (kernelRun0_A.sl.r_19 c arg2 harg2 x0) = a.sk 7 :=
  rd1 harg2 (g := fun n => a.sk n) H.h0 _ _

include H in
theorem sk8 : (kernelRun0_A.sl.r_26 c arg2 harg2 x0) = a.sk 8 :=
  rd1 harg2 (g := fun n => a.sk n) H.h0 _ _

include H in
theorem sk9 : (kernelRun0_A.sl.r_29 c arg2 harg2 x0) = a.sk 9 :=
  rd1 harg2 (g := fun n => a.sk n) H.h0 _ _

include H in
theorem sk10 : (kernelRun0_A.sl.r_30 c arg2 harg2 x0) = a.sk 10 :=
  rd1 harg2 (g := fun n => a.sk n) H.h0 _ _

include H in
theorem sk11 : (kernelRun0_A.sl.r_36 c arg2 harg2 x0) = a.sk 11 :=
  rd1 harg2 (g := fun n => a.sk n) H.h0 _ _

include H in
theorem sk12 : (kernelRun0_A.sl.r_37 c arg2 harg2 x0) = a.sk 12 :=
  rd1 harg2 (g := fun n => a.sk n) H.h0 _ _

include H in
theorem sk13 : (kernelRun0_A.sl.r_42 c arg2 harg2 x0) = a.sk 13 :=
  rd1 harg2 (g := fun n => a.sk n) H.h0 _ _

include H in
theorem sk14 : (kernelRun0_A.sl.r_43 c arg2 harg2 x0) = a.sk 14 :=
  rd1 harg2 (g := fun n => a.sk n) H.h0 _ _

include H in
theorem sk15 : (kernelRun0_A.sl.r_47 c arg2 harg2 x0) = a.sk 15 :=
  rd1 harg2 (g := fun n => a.sk n) H.h0 _ _

include H in
theorem hs1 : View.PiecesOf (at2 (fun r c => PJ a b (256 * j + r) (1280 + c))) (kernelRun0_A.sl.HS1_1 c arg3 harg3 arg6 harg6 arg7 harg7 x1 x4 x5) :=
  by
  refine pc2 256 1024 0 0 256 1024 (fun r l => ?_) ?_
  · exact (v233 H r l).trans (by beta_reduce; congr 1 <;> omega)
  exact True.intro

include H in
theorem hs2 : View.PiecesOf (at2 (fun r c => PJ a b (256 * j + r) (2304 + c))) (kernelRun0_A.sl.HS2_1 c arg3 harg3 arg6 harg6 arg7 harg7 x1 x4 x5) :=
  by
  refine pc2 256 1024 0 0 256 1024 (fun r l => ?_) ?_
  · exact (v239 H r l).trans (by beta_reduce; congr 1 <;> omega)
  exact True.intro

include H in
theorem hs3 : View.PiecesOf (at2 (fun r c => PJ a b (256 * j + r) (3328 + c))) (kernelRun0_A.sl.HS3_1 c arg3 harg3 arg6 harg6 arg7 harg7 x1 x4 x5) :=
  by
  refine pc2 256 1024 0 0 256 1024 (fun r l => ?_) ?_
  · exact (v245 H r l).trans (by beta_reduce; congr 1 <;> omega)
  exact True.intro

include H in
theorem hs4 : View.PiecesOf (at2 (fun r c => PJ a b (256 * j + r) (4352 + c))) (kernelRun0_A.sl.HS4_1 c arg3 harg3 arg6 harg6 arg7 harg7 x1 x4 x5) :=
  by
  refine pc2 256 1024 0 0 256 1024 (fun r l => ?_) ?_
  · exact (v251 H r l).trans (by beta_reduce; congr 1 <;> omega)
  exact True.intro

include H in
theorem hs5 : View.PiecesOf (at2 (fun r c => PJ a b (256 * j + r) (5376 + c))) (kernelRun0_A.sl.HS5_1 c arg3 harg3 arg6 harg6 arg7 harg7 x1 x4 x5) :=
  by
  refine pc2 256 2048 0 0 256 2048 (fun r l => ?_) ?_
  · exact (v257 H r l).trans (by beta_reduce; congr 1 <;> omega)
  exact True.intro

end Cert.PtA

end
-- ==== Proof.PtA3.lean ====
/- Grid points of case A: the attention of query block 0 against key group 0. -/
module

public import proofs.«01_k».proof.Proof.PtA2

@[expose] public section

set_option maxRecDepth 16384
set_option maxHeartbeats 1000000

noncomputable section

namespace Cert.PtA

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg19 : Memref sig .tc .vmem S256x1024 .f32} {arg24 arg25 arg26 arg27 : Memref sig .tc .vmem S2x384x128 .bf16}
  {arg28 arg29 : Memref sig .tc .vmem S512x256 .f32} {arg30 arg31 : Memref sig .tc .vmem S512x256 .bf16} {harg2 : arg2.IsWhole} {harg3 : arg3.IsWhole}
  {harg4 : arg4.IsWhole} {harg5 : arg5.IsWhole} {harg6 : arg6.IsWhole} {harg7 : arg7.IsWhole} {x0 : Vec Ideal S16 .f32}
  {x1 : Vec Ideal S1x256x1024 .f32} {x2 x3 : Vec Ideal S256x128 .f32} {x4 x9 x10 x14 : Vec Ideal S1x1024 .f32} {x5 : Vec Ideal S1024x7424 .bf16}
  {x6 : Vec Ideal S1x2048 .f32} {x7 : Vec Ideal S8x128x128 .f32} {x8 : Vec Ideal S128x1024 .f32} {x11 x12 x13 : Vec Ideal S1024x1024 .bf16}

variable (H : Blk a b j x0 x1 x2 x3 x4 x5 x6 x7 x8 x9 x10 x11 x12 x13 x14) (hj : j = 0) (hi : (i 1).val = j) (fa : Finite a)

include H hj in
theorem sce1 (R : Fin 512) (k : Fin 256) : k0_pay63 (kernelRun0_A.sl.v318 c arg3 harg3 arg4 harg4 arg5 harg5 arg6 harg6 arg7 harg7 arg18 x1 x2 x3 x4 x5) (kernelRun0_A.sl.v319 c arg3 harg3 arg4 harg4 arg5 harg5 arg6 harg6 arg7 harg7 arg18 x1 x2 x3 x4 x5) (kernelRun0_A.sl.v320 c arg3 harg3 arg4 harg4 arg5 harg5 arg6 harg6 arg7 harg7 arg18 x1 x2 x3 x4 x5) (kernelRun0_A.sl.v321 c arg3 harg3 arg4 harg4 arg5 harg5 arg6 harg6 arg7 harg7 arg18 x1 x2 x3 x4 x5) (kernelRun0_A.sl.v323 c arg3 harg3 arg4 harg4 arg5 harg5 arg6 harg6 arg7 harg7 arg24 x1 x2 x3 x4 x5) (ix2 R k) = scF a b (2 * j + 0) (8 * 0 + 2 * (R / 128)) (R % 128) k :=
  scoreE_of (v318 H) (v319 H) (v320 H) (v321 H) (v323 H hj) R k

include H hj in
theorem v336 (r : Fin 128) (k : Fin 256) : (kernelRun0_A.sl.v336 c arg3 harg3 arg4 harg4 arg5 harg5 arg6 harg6 arg7 harg7 arg18 arg24 arg28 x1 x2 x3 x4 x5) (ix2 r k) = scF a b (2 * j + 0) 0 r k :=
  scE_rd (sce1 H hj) _ (by decide) r k

include H hj in
theorem v382 (r : Fin 128) (k : Fin 256) : (kernelRun0_A.sl.v382 c arg3 harg3 arg4 harg4 arg5 harg5 arg6 harg6 arg7 harg7 arg18 arg24 arg28 x1 x2 x3 x4 x5) (ix2 r k) = scF a b (2 * j + 0) 2 r k :=
  scE_rd (sce1 H hj) _ (by decide) r k

include H hj in
theorem v428 (r : Fin 128) (k : Fin 256) : (kernelRun0_A.sl.v428 c arg3 harg3 arg4 harg4 arg5 harg5 arg6 harg6 arg7 harg7 arg18 arg24 arg28 x1 x2 x3 x4 x5) (ix2 r k) = scF a b (2 * j + 0) 4 r k :=
  scE_rd (sce1 H hj) _ (by decide) r k

include H hj in
theorem v474 (r : Fin 128) (k : Fin 256) : (kernelRun0_A.sl.v474 c arg3 harg3 arg4 harg4 arg5 harg5 arg6 harg6 arg7 harg7 arg18 arg24 arg28 x1 x2 x3 x4 x5) (ix2 r k) = scF a b (2 * j + 0) 6 r k :=
  scE_rd (sce1 H hj) _ (by decide) r k

include H hj in
theorem sco1 (R : Fin 512) (k : Fin 256) : k0_pay63 (kernelRun0_A.sl.v318 c arg3 harg3 arg4 harg4 arg5 harg5 arg6 harg6 arg7 harg7 arg18 x1 x2 x3 x4 x5) (kernelRun0_A.sl.v319 c arg3 harg3 arg4 harg4 arg5 harg5 arg6 harg6 arg7 harg7 arg18 x1 x2 x3 x4 x5) (kernelRun0_A.sl.v320 c arg3 harg3 arg4 harg4 arg5 harg5 arg6 harg6 arg7 harg7 arg18 x1 x2 x3 x4 x5) (kernelRun0_A.sl.v321 c arg3 harg3 arg4 harg4 arg5 harg5 arg6 harg6 arg7 harg7 arg18 x1 x2 x3 x4 x5) (kernelRun0_A.sl.v329 c arg3 harg3 arg4 harg4 arg5 harg5 arg6 harg6 arg7 harg7 arg25 x1 x2 x3 x4 x5) (ix2 R k) = scF a b (2 * j + 0) (8 * 0 + (2 * (R / 128) + 1)) (R % 128) k :=
  scoreO_of (v318 H) (v319 H) (v320 H) (v321 H) (v329 H hj) R k

include H hj in
theorem v359 (r : Fin 128) (k : Fin 256) : (kernelRun0_A.sl.v359 c arg3 harg3 arg4 harg4 arg5 harg5 arg6 harg6 arg7 harg7 arg18 arg25 arg29 x1 x2 x3 x4 x5) (ix2 r k) = scF a b (2 * j + 0) 1 r k :=
  scO_rd (sco1 H hj) _ (by decide) r k

include H hj in
theorem v405 (r : Fin 128) (k : Fin 256) : (kernelRun0_A.sl.v405 c arg3 harg3 arg4 harg4 arg5 harg5 arg6 harg6 arg7 harg7 arg18 arg25 arg29 x1 x2 x3 x4 x5) (ix2 r k) = scF a b (2 * j + 0) 3 r k :=
  scO_rd (sco1 H hj) _ (by decide) r k

include H hj in
theorem v451 (r : Fin 128) (k : Fin 256) : (kernelRun0_A.sl.v451 c arg3 harg3 arg4 harg4 arg5 harg5 arg6 harg6 arg7 harg7 arg18 arg25 arg29 x1 x2 x3 x4 x5) (ix2 r k) = scF a b (2 * j + 0) 5 r k :=
  scO_rd (sco1 H hj) _ (by decide) r k

include H hj in
theorem v497 (r : Fin 128) (k : Fin 256) : (kernelRun0_A.sl.v497 c arg3 harg3 arg4 harg4 arg5 harg5 arg6 harg6 arg7 harg7 arg18 arg25 arg29 x1 x2 x3 x4 x5) (ix2 r k) = scF a b (2 * j + 0) 7 r k :=
  scO_rd (sco1 H hj) _ (by decide) r k

include H hj hi in
theorem e1_0 (r : Fin 128) (k : Fin 256) : (k0_pay69 (kernelRun0_A.sl.r c arg2 harg2 x0) (kernelRun0_A.sl.r_3 c i arg3 harg3 arg4 harg4 arg5 harg5 arg6 harg6 arg7 harg7 arg18 arg24 arg28 x1 x2 x3 x4 x5) (kernelRun0_A.sl.r_4 c i arg3 harg3 arg4 harg4 arg5 harg5 arg6 harg6 arg7 harg7 arg18 arg24 arg28 x1 x2 x3 x4 x5)) (ix2 r k) = exF a b (2 * j + 0) 0 r k := by
  show k0_pay74 (kernelRun0_A.sl.r_2 i) (kernelRun0_A.sl.r c arg2 harg2 x0) (kernelRun0_A.sl.v336 c arg3 harg3 arg4 harg4 arg5 harg5 arg6 harg6 arg7 harg7 arg18 arg24 arg28 x1 x2 x3 x4 x5) (ix2 r k) = _
  exact ex_of (r_2 hi) (sk0 H) (v336 H hj) r k

include H hj hi in
theorem d1_0 (r : Fin 128) : (kernelRun0_A.sl.r_7 c i arg2 harg2 arg3 harg3 arg4 harg4 arg5 harg5 arg6 harg6 arg7 harg7 arg18 arg24 arg28 x0 x1 x2 x3 x4 x5) (ix2 r 0) = Ideal.div 1 (kden a b (128 * (2 * j + 0) + r) 0) := by
  show k0_pay75 (kernelRun0_A.sl.r_2 i) (kernelRun0_A.sl.r c arg2 harg2 x0) (kernelRun0_A.sl.v336 c arg3 harg3 arg4 harg4 arg5 harg5 arg6 harg6 arg7 harg7 arg18 arg24 arg28 x1 x2 x3 x4 x5) (ix2 r 0) = _
  exact rden_of (r_2 hi) (sk0 H) (v336 H hj) r

include H hj hi in
theorem e1_2 (r : Fin 128) (k : Fin 256) : (k0_pay79 (kernelRun0_A.sl.r_2 i) (kernelRun0_A.sl.r_6 c arg2 harg2 x0) (kernelRun0_A.sl.v382 c arg3 harg3 arg4 harg4 arg5 harg5 arg6 harg6 arg7 harg7 arg18 arg24 arg28 x1 x2 x3 x4 x5)) (ix2 r k) = exF a b (2 * j + 0) 2 r k := by
  show k0_pay74 (kernelRun0_A.sl.r_2 i) (kernelRun0_A.sl.r_6 c arg2 harg2 x0) (kernelRun0_A.sl.v382 c arg3 harg3 arg4 harg4 arg5 harg5 arg6 harg6 arg7 harg7 arg18 arg24 arg28 x1 x2 x3 x4 x5) (ix2 r k) = _
  exact ex_of (r_2 hi) (sk2 H) (v382 H hj) r k

include H hj hi in
theorem d1_2 (r : Fin 128) : (kernelRun0_A.sl.r_10 c i arg2 harg2 arg3 harg3 arg4 harg4 arg5 harg5 arg6 harg6 arg7 harg7 arg18 arg24 arg28 x0 x1 x2 x3 x4 x5) (ix2 r 0) = Ideal.div 1 (kden a b (128 * (2 * j + 0) + r) 2) := by
  show k0_pay75 (kernelRun0_A.sl.r_2 i) (kernelRun0_A.sl.r_6 c arg2 harg2 x0) (kernelRun0_A.sl.v382 c arg3 harg3 arg4 harg4 arg5 harg5 arg6 harg6 arg7 harg7 arg18 arg24 arg28 x1 x2 x3 x4 x5) (ix2 r 0) = _
  exact rden_of (r_2 hi) (sk2 H) (v382 H hj) r

include H hj hi in
theorem e1_4 (r : Fin 128) (k : Fin 256) : (k0_pay91 (kernelRun0_A.sl.r_2 i) (kernelRun0_A.sl.r_12 c arg2 harg2 x0) (kernelRun0_A.sl.v428 c arg3 harg3 arg4 harg4 arg5 harg5 arg6 harg6 arg7 harg7 arg18 arg24 arg28 x1 x2 x3 x4 x5)) (ix2 r k) = exF a b (2 * j + 0) 4 r k := by
  show k0_pay74 (kernelRun0_A.sl.r_2 i) (kernelRun0_A.sl.r_12 c arg2 harg2 x0) (kernelRun0_A.sl.v428 c arg3 harg3 arg4 harg4 arg5 harg5 arg6 harg6 arg7 harg7 arg18 arg24 arg28 x1 x2 x3 x4 x5) (ix2 r k) = _
  exact ex_of (r_2 hi) (sk4 H) (v428 H hj) r k

include H hj hi in
theorem d1_4 (r : Fin 128) : (kernelRun0_A.sl.r_15 c i arg2 harg2 arg3 harg3 arg4 harg4 arg5 harg5 arg6 harg6 arg7 harg7 arg18 arg24 arg28 x0 x1 x2 x3 x4 x5) (ix2 r 0) = Ideal.div 1 (kden a b (128 * (2 * j + 0) + r) 4) := by
  show k0_pay75 (kernelRun0_A.sl.r_2 i) (kernelRun0_A.sl.r_12 c arg2 harg2 x0) (kernelRun0_A.sl.v428 c arg3 harg3 arg4 harg4 arg5 harg5 arg6 harg6 arg7 harg7 arg18 arg24 arg28 x1 x2 x3 x4 x5) (ix2 r 0) = _
  exact rden_of (r_2 hi) (sk4 H) (v428 H hj) r

include H hj hi in
theorem e1_6 (r : Fin 128) (k : Fin 256) : (k0_pay103 (kernelRun0_A.sl.r_2 i) (kernelRun0_A.sl.r_18 c arg2 harg2 x0) (kernelRun0_A.sl.v474 c arg3 harg3 arg4 harg4 arg5 harg5 arg6 harg6 arg7 harg7 arg18 arg24 arg28 x1 x2 x3 x4 x5)) (ix2 r k) = exF a b (2 * j + 0) 6 r k := by
  show k0_pay74 (kernelRun0_A.sl.r_2 i) (kernelRun0_A.sl.r_18 c arg2 harg2 x0) (kernelRun0_A.sl.v474 c arg3 harg3 arg4 harg4 arg5 harg5 arg6 harg6 arg7 harg7 arg18 arg24 arg28 x1 x2 x3 x4 x5) (ix2 r k) = _
  exact ex_of (r_2 hi) (sk6 H) (v474 H hj) r k

include H hj hi in
theorem d1_6 (r : Fin 128) : (kernelRun0_A.sl.r_21 c i arg2 harg2 arg3 harg3 arg4 harg4 arg5 harg5 arg6 harg6 arg7 harg7 arg18 arg24 arg28 x0 x1 x2 x3 x4 x5) (ix2 r 0) = Ideal.div 1 (kden a b (128 * (2 * j + 0) + r) 6) := by
  show k0_pay75 (kernelRun0_A.sl.r_2 i) (kernelRun0_A.sl.r_18 c arg2 harg2 x0) (kernelRun0_A.sl.v474 c arg3 harg3 arg4 harg4 arg5 harg5 arg6 harg6 arg7 harg7 arg18 arg24 arg28 x1 x2 x3 x4 x5) (ix2 r 0) = _
  exact rden_of (r_2 hi) (sk6 H) (v474 H hj) r

include H hj hi in
theorem v519 (R : Fin 512) (k : Fin 256) : (kernelRun0_A.sl.v519 c i arg2 harg2 arg3 harg3 arg4 harg4 arg5 harg5 arg6 harg6 arg7 harg7 arg18 arg24 arg28 arg30 x0 x1 x2 x3 x4 x5) (ix2 R k) = exF a b (2 * j + 0) (8 * 0 + 2 * (R / 128)) (R % 128) k :=
  four_rd (F := fun t => exF a b (2 * j + 0) (8 * 0 + 2 * t)) (e1_6 H hj hi) (e1_4 H hj hi) (e1_2 H hj hi) (e1_0 H hj hi) _ R k

include H hj hi in
theorem e1_1 (r : Fin 128) (k : Fin 256) : (k0_pay74 (kernelRun0_A.sl.r_2 i) (kernelRun0_A.sl.r_5 c arg2 harg2 x0) (kernelRun0_A.sl.v359 c arg3 harg3 arg4 harg4 arg5 harg5 arg6 harg6 arg7 harg7 arg18 arg25 arg29 x1 x2 x3 x4 x5)) (ix2 r k) = exF a b (2 * j + 0) 1 r k := by
  show k0_pay74 (kernelRun0_A.sl.r_2 i) (kernelRun0_A.sl.r_5 c arg2 harg2 x0) (kernelRun0_A.sl.v359 c arg3 harg3 arg4 harg4 arg5 harg5 arg6 harg6 arg7 harg7 arg18 arg25 arg29 x1 x2 x3 x4 x5) (ix2 r k) = _
  exact ex_of (r_2 hi) (sk1 H) (v359 H hj) r k

include H hj hi in
theorem d1_1 (r : Fin 128) : (kernelRun0_A.sl.r_8 c i arg2 harg2 arg3 harg3 arg4 harg4 arg5 harg5 arg6 harg6 arg7 harg7 arg18 arg25 arg29 x0 x1 x2 x3 x4 x5) (ix2 r 0) = Ideal.div 1 (kden a b (128 * (2 * j + 0) + r) 1) := by
  show k0_pay75 (kernelRun0_A.sl.r_2 i) (kernelRun0_A.sl.r_5 c arg2 harg2 x0) (kernelRun0_A.sl.v359 c arg3 harg3 arg4 harg4 arg5 harg5 arg6 harg6 arg7 harg7 arg18 arg25 arg29 x1 x2 x3 x4 x5) (ix2 r 0) = _
  exact rden_of (r_2 hi) (sk1 H) (v359 H hj) r

include H hj hi in
theorem e1_3 (r : Fin 128) (k : Fin 256) : (k0_pay85 (kernelRun0_A.sl.r_2 i) (kernelRun0_A.sl.r_9 c arg2 harg2 x0) (kernelRun0_A.sl.v405 c arg3 harg3 arg4 harg4 arg5 harg5 arg6 harg6 arg7 harg7 arg18 arg25 arg29 x1 x2 x3 x4 x5)) (ix2 r k) = exF a b (2 * j + 0) 3 r k := by
  show k0_pay74 (kernelRun0_A.sl.r_2 i) (kernelRun0_A.sl.r_9 c arg2 harg2 x0) (kernelRun0_A.sl.v405 c arg3 harg3 arg4 harg4 arg5 harg5 arg6 harg6 arg7 harg7 arg18 arg25 arg29 x1 x2 x3 x4 x5) (ix2 r k) = _
  exact ex_of (r_2 hi) (sk3 H) (v405 H hj) r k

include H hj hi in
theorem d1_3 (r : Fin 128) : (kernelRun0_A.sl.r_14 c i arg2 harg2 arg3 harg3 arg4 harg4 arg5 harg5 arg6 harg6 arg7 harg7 arg18 arg25 arg29 x0 x1 x2 x3 x4 x5) (ix2 r 0) = Ideal.div 1 (kden a b (128 * (2 * j + 0) + r) 3) := by
  show k0_pay75 (kernelRun0_A.sl.r_2 i) (kernelRun0_A.sl.r_9 c arg2 harg2 x0) (kernelRun0_A.sl.v405 c arg3 harg3 arg4 harg4 arg5 harg5 arg6 harg6 arg7 harg7 arg18 arg25 arg29 x1 x2 x3 x4 x5) (ix2 r 0) = _
  exact rden_of (r_2 hi) (sk3 H) (v405 H hj) r

include H hj hi in
theorem e1_5 (r : Fin 128) (k : Fin 256) : (k0_pay98 (kernelRun0_A.sl.r_17 c i arg2 harg2 arg3 harg3 arg4 harg4 arg5 harg5 arg6 harg6 arg7 harg7 arg18 arg25 arg29 x0 x1 x2 x3 x4 x5)) (ix2 r k) = exF a b (2 * j + 0) 5 r k := by
  show k0_pay74 (kernelRun0_A.sl.r_2 i) (kernelRun0_A.sl.r_13 c arg2 harg2 x0) (kernelRun0_A.sl.v451 c arg3 harg3 arg4 harg4 arg5 harg5 arg6 harg6 arg7 harg7 arg18 arg25 arg29 x1 x2 x3 x4 x5) (ix2 r k) = _
  exact ex_of (r_2 hi) (sk5 H) (v451 H hj) r k

include H hj hi in
theorem d1_5 (r : Fin 128) : (kernelRun0_A.sl.r_20 c i arg2 harg2 arg3 harg3 arg4 harg4 arg5 harg5 arg6 harg6 arg7 harg7 arg18 arg25 arg29 x0 x1 x2 x3 x4 x5) (ix2 r 0) = Ideal.div 1 (kden a b (128 * (2 * j + 0) + r) 5) := by
  show k0_pay75 (kernelRun0_A.sl.r_2 i) (kernelRun0_A.sl.r_13 c arg2 harg2 x0) (kernelRun0_A.sl.v451 c arg3 harg3 arg4 harg4 arg5 harg5 arg6 harg6 arg7 harg7 arg18 arg25 arg29 x1 x2 x3 x4 x5) (ix2 r 0) = _
  exact rden_of (r_2 hi) (sk5 H) (v451 H hj) r

include H hj hi in
theorem e1_7 (r : Fin 128) (k : Fin 256) : (kernelRun0_A.sl.v516 c i arg2 harg2 arg3 harg3 arg4 harg4 arg5 harg5 arg6 harg6 arg7 harg7 arg18 arg25 arg29 x0 x1 x2 x3 x4 x5) (ix2 r k) = exF a b (2 * j + 0) 7 r k := by
  show k0_pay74 (kernelRun0_A.sl.r_2 i) (kernelRun0_A.sl.r_19 c arg2 harg2 x0) (kernelRun0_A.sl.v497 c arg3 harg3 arg4 harg4 arg5 harg5 arg6 harg6 arg7 harg7 arg18 arg25 arg29 x1 x2 x3 x4 x5) (ix2 r k) = _
  exact ex_of (r_2 hi) (sk7 H) (v497 H hj) r k

include H hj hi in
theorem d1_7 (r : Fin 128) : (kernelRun0_A.sl.v518 c i arg2 harg2 arg3 harg3 arg4 harg4 arg5 harg5 arg6 harg6 arg7 harg7 arg18 arg25 arg29 x0 x1 x2 x3 x4 x5) (ix2 r 0) = Ideal.div 1 (kden a b (128 * (2 * j + 0) + r) 7) := by
  show k0_pay75 (kernelRun0_A.sl.r_2 i) (kernelRun0_A.sl.r_19 c arg2 harg2 x0) (kernelRun0_A.sl.v497 c arg3 harg3 arg4 harg4 arg5 harg5 arg6 harg6 arg7 harg7 arg18 arg25 arg29 x1 x2 x3 x4 x5) (ix2 r 0) = _
  exact rden_of (r_2 hi) (sk7 H) (v497 H hj) r

include H hj hi in
theorem v523 (R : Fin 512) (k : Fin 256) : (kernelRun0_A.sl.v523 c i arg2 harg2 arg3 harg3 arg4 harg4 arg5 harg5 arg6 harg6 arg7 harg7 arg18 arg25 arg29 arg31 x0 x1 x2 x3 x4 x5) (ix2 R k) = exF a b (2 * j + 0) (8 * 0 + (2 * (R / 128) + 1)) (R % 128) k :=
  four_rd (F := fun t => exF a b (2 * j + 0) (8 * 0 + (2 * t + 1))) (e1_7 H hj hi) (e1_5 H hj hi) (e1_3 H hj hi) (e1_1 H hj hi) _ R k

include H hj hi in
theorem v527 (R : Fin 512) (l : Fin 128) : (kernelRun0_A.sl.v527 c i arg2 harg2 arg3 harg3 arg4 harg4 arg5 harg5 arg6 harg6 arg7 harg7 arg18 arg24 arg25 arg26 arg27 arg28 arg29 arg30 arg31 x0 x1 x2 x3 x4 x5) (ix2 R l) =
    ∑ k : Fin 256, exF a b (2 * j + 0) (8 * 0 + 2 * (R / 128) + l / 64) (R % 128) k * VH a b (128 * (2 * j + 0) + k) 0 (l % 64) := by
  show k0_pay112 (kernelRun0_A.sl.v519 c i arg2 harg2 arg3 harg3 arg4 harg4 arg5 harg5 arg6 harg6 arg7 harg7 arg18 arg24 arg28 arg30 x0 x1 x2 x3 x4 x5) (kernelRun0_A.sl.v520 c arg3 harg3 arg6 harg6 arg7 harg7 arg26 x1 x4 x5) (kernelRun0_A.sl.v523 c i arg2 harg2 arg3 harg3 arg4 harg4 arg5 harg5 arg6 harg6 arg7 harg7 arg18 arg25 arg29 arg31 x0 x1 x2 x3 x4 x5) (kernelRun0_A.sl.v524 c arg3 harg3 arg6 harg6 arg7 harg7 arg27 x1 x4 x5) (ix2 R l) = _
  exact wv_of (v519 H hj hi) (v523 H hj hi) (v520 H hj) (v524 H hj) R l

include H in
theorem v535 (r l : Fin 128) : (kernelRun0_A.sl.v535 c arg3 harg3 arg6 harg6 arg7 harg7 arg19 x1 x4 x5) (ix2 r l) = PJ a b (128 * (2 * j + 0) + r) (1280 + (128 * (4 * 0 + 0) + l)) :=
  (rcm (hs1 H) _ mh (by decide) r l).trans (by beta_reduce; congr 1 <;> omega)

include H hj hi fa in
theorem v542 (r l : Fin 128) : (kernelRun0_A.sl.v542 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 0) + r) (128 * (4 * 0 + 0) + l) := by
  show ainV 0 slices_S512x128_o0_0_S128x128 (cmpi .slt kernelRun0_A.sl.v64 kernelRun0_A.sl.v65) (kernelRun0_A.sl.r_7 c i arg2 harg2 arg3 harg3 arg4 harg4 arg5 harg5 arg6 harg6 arg7 harg7 arg18 arg24 arg28 x0 x1 x2 x3 x4 x5) (kernelRun0_A.sl.r_8 c i arg2 harg2 arg3 harg3 arg4 harg4 arg5 harg5 arg6 harg6 arg7 harg7 arg18 arg25 arg29 x0 x1 x2 x3 x4 x5) (kernelRun0_A.sl.v527 c i arg2 harg2 arg3 harg3 arg4 harg4 arg5 harg5 arg6 harg6 arg7 harg7 arg18 arg24 arg25 arg26 arg27 arg28 arg29 arg30 arg31 x0 x1 x2 x3 x4 x5) (kernelRun0_A.sl.v535 c arg3 harg3 arg6 harg6 arg7 harg7 arg19 x1 x4 x5) (ix2 r l) = _
  exact ainV_of (m := (2 * j + 0)) (g := 0) (p := 0) (by omega) (by omega) lo128 (d1_0 H hj hi) (d1_1 H hj hi) (v527 H hj hi) (v535 H) fa r l

include H in
theorem v550 (r l : Fin 128) : (kernelRun0_A.sl.v550 c arg3 harg3 arg6 harg6 arg7 harg7 arg19 x1 x4 x5) (ix2 r l) = PJ a b (128 * (2 * j + 0) + r) (1280 + (128 * (4 * 0 + 1) + l)) :=
  (rcm (hs1 H) _ mh (by decide) r l).trans (by beta_reduce; congr 1 <;> omega)

include H hj hi fa in
theorem v557 (r l : Fin 128) : (kernelRun0_A.sl.v557 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 0) + r) (128 * (4 * 0 + 1) + l) := by
  show ainV 128 slices_S512x128_o128_0_S128x128 (cmpi .slt kernelRun0_A.sl.v64 kernelRun0_A.sl.v65) (kernelRun0_A.sl.r_10 c i arg2 harg2 arg3 harg3 arg4 harg4 arg5 harg5 arg6 harg6 arg7 harg7 arg18 arg24 arg28 x0 x1 x2 x3 x4 x5) (kernelRun0_A.sl.r_14 c i arg2 harg2 arg3 harg3 arg4 harg4 arg5 harg5 arg6 harg6 arg7 harg7 arg18 arg25 arg29 x0 x1 x2 x3 x4 x5) (kernelRun0_A.sl.v527 c i arg2 harg2 arg3 harg3 arg4 harg4 arg5 harg5 arg6 harg6 arg7 harg7 arg18 arg24 arg25 arg26 arg27 arg28 arg29 arg30 arg31 x0 x1 x2 x3 x4 x5) (kernelRun0_A.sl.v550 c arg3 harg3 arg6 harg6 arg7 harg7 arg19 x1 x4 x5) (ix2 r l) = _
  exact ainV_of (m := (2 * j + 0)) (g := 0) (p := 1) (by omega) (by omega) lo128 (d1_2 H hj hi) (d1_3 H hj hi) (v527 H hj hi) (v550 H) fa r l

include H in
theorem v565 (r l : Fin 128) : (kernelRun0_A.sl.v565 c arg3 harg3 arg6 harg6 arg7 harg7 arg19 x1 x4 x5) (ix2 r l) = PJ a b (128 * (2 * j + 0) + r) (1280 + (128 * (4 * 0 + 2) + l)) :=
  (rcm (hs1 H) _ mh (by decide) r l).trans (by beta_reduce; congr 1 <;> omega)

include H hj hi fa in
theorem v572 (r l : Fin 128) : (kernelRun0_A.sl.v572 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 0) + r) (128 * (4 * 0 + 2) + l) := by
  show ainV 256 slices_S512x128_o256_0_S128x128 (cmpi .slt kernelRun0_A.sl.v64 kernelRun0_A.sl.v65) (kernelRun0_A.sl.r_15 c i arg2 harg2 arg3 harg3 arg4 harg4 arg5 harg5 arg6 harg6 arg7 harg7 arg18 arg24 arg28 x0 x1 x2 x3 x4 x5) (kernelRun0_A.sl.r_20 c i arg2 harg2 arg3 harg3 arg4 harg4 arg5 harg5 arg6 harg6 arg7 harg7 arg18 arg25 arg29 x0 x1 x2 x3 x4 x5) (kernelRun0_A.sl.v527 c i arg2 harg2 arg3 harg3 arg4 harg4 arg5 harg5 arg6 harg6 arg7 harg7 arg18 arg24 arg25 arg26 arg27 arg28 arg29 arg30 arg31 x0 x1 x2 x3 x4 x5) (kernelRun0_A.sl.v565 c arg3 harg3 arg6 harg6 arg7 harg7 arg19 x1 x4 x5) (ix2 r l) = _
  exact ainV_of (m := (2 * j + 0)) (g := 0) (p := 2) (by omega) (by omega) lo128 (d1_4 H hj hi) (d1_5 H hj hi) (v527 H hj hi) (v565 H) fa r l

include H in
theorem v580 (r l : Fin 128) : (kernelRun0_A.sl.v580 c arg3 harg3 arg6 harg6 arg7 harg7 arg19 x1 x4 x5) (ix2 r l) = PJ a b (128 * (2 * j + 0) + r) (1280 + (128 * (4 * 0 + 3) + l)) :=
  (rcm (hs1 H) _ mh (by decide) r l).trans (by beta_reduce; congr 1 <;> omega)

include H hj hi fa in
theorem v587 (r l : Fin 128) : (kernelRun0_A.sl.v587 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 0) + r) (128 * (4 * 0 + 3) + l) := by
  show ainV 384 slices_S512x128_o384_0_S128x128 (cmpi .slt kernelRun0_A.sl.v64 kernelRun0_A.sl.v65) (kernelRun0_A.sl.r_21 c i arg2 harg2 arg3 harg3 arg4 harg4 arg5 harg5 arg6 harg6 arg7 harg7 arg18 arg24 arg28 x0 x1 x2 x3 x4 x5) (kernelRun0_A.sl.v518 c i arg2 harg2 arg3 harg3 arg4 harg4 arg5 harg5 arg6 harg6 arg7 harg7 arg18 arg25 arg29 x0 x1 x2 x3 x4 x5) (kernelRun0_A.sl.v527 c i arg2 harg2 arg3 harg3 arg4 harg4 arg5 harg5 arg6 harg6 arg7 harg7 arg18 arg24 arg25 arg26 arg27 arg28 arg29 arg30 arg31 x0 x1 x2 x3 x4 x5) (kernelRun0_A.sl.v580 c arg3 harg3 arg6 harg6 arg7 harg7 arg19 x1 x4 x5) (ix2 r l) = _
  exact ainV_of (m := (2 * j + 0)) (g := 0) (p := 3) (by omega) (by omega) lo128 (d1_6 H hj hi) (d1_7 H hj hi) (v527 H hj hi) (v580 H) fa r l

end Cert.PtA

end
-- ==== Proof.PtA4.lean ====
/- Grid points of case A: the attention of query block 0 against key group 1. -/
module

public import proofs.«01_k».proof.Proof.PtA2

@[expose] public section

set_option maxRecDepth 16384
set_option maxHeartbeats 1000000

noncomputable section

namespace Cert.PtA

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg19 : Memref sig .tc .vmem S256x1024 .f32} {arg24 arg25 arg26 arg27 : Memref sig .tc .vmem S2x384x128 .bf16}
  {arg28 arg29 : Memref sig .tc .vmem S512x256 .f32} {arg30 arg31 : Memref sig .tc .vmem S512x256 .bf16} {harg2 : arg2.IsWhole} {harg3 : arg3.IsWhole}
  {harg4 : arg4.IsWhole} {harg5 : arg5.IsWhole} {harg6 : arg6.IsWhole} {harg7 : arg7.IsWhole} {x0 : Vec Ideal S16 .f32}
  {x1 : Vec Ideal S1x256x1024 .f32} {x2 x3 : Vec Ideal S256x128 .f32} {x4 x9 x10 x14 : Vec Ideal S1x1024 .f32} {x5 : Vec Ideal S1024x7424 .bf16}
  {x6 : Vec Ideal S1x2048 .f32} {x7 : Vec Ideal S8x128x128 .f32} {x8 : Vec Ideal S128x1024 .f32} {x11 x12 x13 : Vec Ideal S1024x1024 .bf16}

variable (H : Blk a b j x0 x1 x2 x3 x4 x5 x6 x7 x8 x9 x10 x11 x12 x13 x14) (hj : j = 0) (hi : (i 1).val = j) (fa : Finite a)

include H hj in
theorem sce2 (R : Fin 512) (k : Fin 256) : k0_pay63 (kernelRun0_A.sl.v588 c arg3 harg3 arg4 harg4 arg5 harg5 arg6 harg6 arg7 harg7 arg18 x1 x2 x3 x4 x5) (kernelRun0_A.sl.v589 c arg3 harg3 arg4 harg4 arg5 harg5 arg6 harg6 arg7 harg7 arg18 x1 x2 x3 x4 x5) (kernelRun0_A.sl.v590 c arg3 harg3 arg4 harg4 arg5 harg5 arg6 harg6 arg7 harg7 arg18 x1 x2 x3 x4 x5) (kernelRun0_A.sl.v591 c arg3 harg3 arg4 harg4 arg5 harg5 arg6 harg6 arg7 harg7 arg18 x1 x2 x3 x4 x5) (kernelRun0_A.sl.v593 c arg3 harg3 arg4 harg4 arg5 harg5 arg6 harg6 arg7 harg7 arg24 x1 x2 x3 x4 x5) (ix2 R k) = scF a b (2 * j + 0) (8 * 1 + 2 * (R / 128)) (R % 128) k :=
  scoreE_of (v588 H) (v589 H) (v590 H) (v591 H) (v593 H hj) R k

include H hj in
theorem v606 (r : Fin 128) (k : Fin 256) : (kernelRun0_A.sl.v606 c arg3 harg3 arg4 harg4 arg5 harg5 arg6 harg6 arg7 harg7 arg18 arg24 arg28 x1 x2 x3 x4 x5) (ix2 r k) = scF a b (2 * j + 0) 8 r k :=
  scE_rd (sce2 H hj) _ (by decide) r k

include H hj in
theorem v652 (r : Fin 128) (k : Fin 256) : (kernelRun0_A.sl.v652 c arg3 harg3 arg4 harg4 arg5 harg5 arg6 harg6 arg7 harg7 arg18 arg24 arg28 x1 x2 x3 x4 x5) (ix2 r k) = scF a b (2 * j + 0) 10 r k :=
  scE_rd (sce2 H hj) _ (by decide) r k

include H hj in
theorem v698 (r : Fin 128) (k : Fin 256) : (kernelRun0_A.sl.v698 c arg3 harg3 arg4 harg4 arg5 harg5 arg6 harg6 arg7 harg7 arg18 arg24 arg28 x1 x2 x3 x4 x5) (ix2 r k) = scF a b (2 * j + 0) 12 r k :=
  scE_rd (sce2 H hj) _ (by decide) r k

include H hj in
theorem v744 (r : Fin 128) (k : Fin 256) : (kernelRun0_A.sl.v744 c arg3 harg3 arg4 harg4 arg5 harg5 arg6 harg6 arg7 harg7 arg18 arg24 arg28 x1 x2 x3 x4 x5) (ix2 r k) = scF a b (2 * j + 0) 14 r k :=
  scE_rd (sce2 H hj) _ (by decide) r k

include H hj in
theorem sco2 (R : Fin 512) (k : Fin 256) : k0_pay63 (kernelRun0_A.sl.v588 c arg3 harg3 arg4 harg4 arg5 harg5 arg6 harg6 arg7 harg7 arg18 x1 x2 x3 x4 x5) (kernelRun0_A.sl.v589 c arg3 harg3 arg4 harg4 arg5 harg5 arg6 harg6 arg7 harg7 arg18 x1 x2 x3 x4 x5) (kernelRun0_A.sl.v590 c arg3 harg3 arg4 harg4 arg5 harg5 arg6 harg6 arg7 harg7 arg18 x1 x2 x3 x4 x5) (kernelRun0_A.sl.v591 c arg3 harg3 arg4 harg4 arg5 harg5 arg6 harg6 arg7 harg7 arg18 x1 x2 x3 x4 x5) (kernelRun0_A.sl.v599 c arg3 harg3 arg4 harg4 arg5 harg5 arg6 harg6 arg7 harg7 arg25 x1 x2 x3 x4 x5) (ix2 R k) = scF a b (2 * j + 0) (8 * 1 + (2 * (R / 128) + 1)) (R % 128) k :=
  scoreO_of (v588 H) (v589 H) (v590 H) (v591 H) (v599 H hj) R k

include H hj in
theorem v629 (r : Fin 128) (k : Fin 256) : (kernelRun0_A.sl.v629 c arg3 harg3 arg4 harg4 arg5 harg5 arg6 harg6 arg7 harg7 arg18 arg25 arg29 x1 x2 x3 x4 x5) (ix2 r k) = scF a b (2 * j + 0) 9 r k :=
  scO_rd (sco2 H hj) _ (by decide) r k

include H hj in
theorem v675 (r : Fin 128) (k : Fin 256) : (kernelRun0_A.sl.v675 c arg3 harg3 arg4 harg4 arg5 harg5 arg6 harg6 arg7 harg7 arg18 arg25 arg29 x1 x2 x3 x4 x5) (ix2 r k) = scF a b (2 * j + 0) 11 r k :=
  scO_rd (sco2 H hj) _ (by decide) r k

include H hj in
theorem v721 (r : Fin 128) (k : Fin 256) : (kernelRun0_A.sl.v721 c arg3 harg3 arg4 harg4 arg5 harg5 arg6 harg6 arg7 harg7 arg18 arg25 arg29 x1 x2 x3 x4 x5) (ix2 r k) = scF a b (2 * j + 0) 13 r k :=
  scO_rd (sco2 H hj) _ (by decide) r k

include H hj in
theorem v767 (r : Fin 128) (k : Fin 256) : (kernelRun0_A.sl.v767 c arg3 harg3 arg4 harg4 arg5 harg5 arg6 harg6 arg7 harg7 arg18 arg25 arg29 x1 x2 x3 x4 x5) (ix2 r k) = scF a b (2 * j + 0) 15 r k :=
  scO_rd (sco2 H hj) _ (by decide) r k

include H hj hi in
theorem e2_8 (r : Fin 128) (k : Fin 256) : (k0_pay127 (kernelRun0_A.sl.r_28 c i arg2 harg2 arg3 harg3 arg4 harg4 arg5 harg5 arg6 harg6 arg7 harg7 arg18 arg24 arg28 x0 x1 x2 x3 x4 x5)) (ix2 r k) = exF a b (2 * j + 0) 8 r k := by
  show k0_pay74 (kernelRun0_A.sl.r_2 i) (kernelRun0_A.sl.r_26 c arg2 harg2 x0) (kernelRun0_A.sl.v606 c arg3 harg3 arg4 harg4 arg5 harg5 arg6 harg6 arg7 harg7 arg18 arg24 arg28 x1 x2 x3 x4 x5) (ix2 r k) = _
  exact ex_of (r_2 hi) (sk8 H) (v606 H hj) r k

include H hj hi in
theorem d2_8 (r : Fin 128) : (kernelRun0_A.sl.r_31 c i arg2 harg2 arg3 harg3 arg4 harg4 arg5 harg5 arg6 harg6 arg7 harg7 arg18 arg24 arg28 x0 x1 x2 x3 x4 x5) (ix2 r 0) = Ideal.div 1 (kden a b (128 * (2 * j + 0) + r) 8) := by
  show k0_pay75 (kernelRun0_A.sl.r_2 i) (kernelRun0_A.sl.r_26 c arg2 harg2 x0) (kernelRun0_A.sl.v606 c arg3 harg3 arg4 harg4 arg5 harg5 arg6 harg6 arg7 harg7 arg18 arg24 arg28 x1 x2 x3 x4 x5) (ix2 r 0) = _
  exact rden_of (r_2 hi) (sk8 H) (v606 H hj) r

include H hj hi in
theorem e2_10 (r : Fin 128) (k : Fin 256) : (k0_pay139 (kernelRun0_A.sl.r_33 c i arg2 harg2 arg3 harg3 arg4 harg4 arg5 harg5 arg6 harg6 arg7 harg7 arg18 arg24 arg28 x0 x1 x2 x3 x4 x5)) (ix2 r k) = exF a b (2 * j + 0) 10 r k := by
  show k0_pay74 (kernelRun0_A.sl.r_2 i) (kernelRun0_A.sl.r_30 c arg2 harg2 x0) (kernelRun0_A.sl.v652 c arg3 harg3 arg4 harg4 arg5 harg5 arg6 harg6 arg7 harg7 arg18 arg24 arg28 x1 x2 x3 x4 x5) (ix2 r k) = _
  exact ex_of (r_2 hi) (sk10 H) (v652 H hj) r k

include H hj hi in
theorem d2_10 (r : Fin 128) : (kernelRun0_A.sl.r_38 c i arg2 harg2 arg3 harg3 arg4 harg4 arg5 harg5 arg6 harg6 arg7 harg7 arg18 arg24 arg28 x0 x1 x2 x3 x4 x5) (ix2 r 0) = Ideal.div 1 (kden a b (128 * (2 * j + 0) + r) 10) := by
  show k0_pay75 (kernelRun0_A.sl.r_2 i) (kernelRun0_A.sl.r_30 c arg2 harg2 x0) (kernelRun0_A.sl.v652 c arg3 harg3 arg4 harg4 arg5 harg5 arg6 harg6 arg7 harg7 arg18 arg24 arg28 x1 x2 x3 x4 x5) (ix2 r 0) = _
  exact rden_of (r_2 hi) (sk10 H) (v652 H hj) r

include H hj hi in
theorem e2_12 (r : Fin 128) (k : Fin 256) : (k0_pay150 (kernelRun0_A.sl.r_41 c i arg2 harg2 arg3 harg3 arg4 harg4 arg5 harg5 arg6 harg6 arg7 harg7 arg18 arg24 arg28 x0 x1 x2 x3 x4 x5)) (ix2 r k) = exF a b (2 * j + 0) 12 r k := by
  show k0_pay74 (kernelRun0_A.sl.r_2 i) (kernelRun0_A.sl.r_37 c arg2 harg2 x0) (kernelRun0_A.sl.v698 c arg3 harg3 arg4 harg4 arg5 harg5 arg6 harg6 arg7 harg7 arg18 arg24 arg28 x1 x2 x3 x4 x5) (ix2 r k) = _
  exact ex_of (r_2 hi) (sk12 H) (v698 H hj) r k

include H hj hi in
theorem d2_12 (r : Fin 128) : (kernelRun0_A.sl.r_44 c i arg2 harg2 arg3 harg3 arg4 harg4 arg5 harg5 arg6 harg6 arg7 harg7 arg18 arg24 arg28 x0 x1 x2 x3 x4 x5) (ix2 r 0) = Ideal.div 1 (kden a b (128 * (2 * j + 0) + r) 12) := by
  show k0_pay75 (kernelRun0_A.sl.r_2 i) (kernelRun0_A.sl.r_37 c arg2 harg2 x0) (kernelRun0_A.sl.v698 c arg3 harg3 arg4 harg4 arg5 harg5 arg6 harg6 arg7 harg7 arg18 arg24 arg28 x1 x2 x3 x4 x5) (ix2 r 0) = _
  exact rden_of (r_2 hi) (sk12 H) (v698 H hj) r

include H hj hi in
theorem e2_14 (r : Fin 128) (k : Fin 256) : (k0_pay160 (kernelRun0_A.sl.r_43 c arg2 harg2 x0) (kernelRun0_A.sl.r_46 c i arg3 harg3 arg4 harg4 arg5 harg5 arg6 harg6 arg7 harg7 arg18 arg24 arg28 x1 x2 x3 x4 x5)) (ix2 r k) = exF a b (2 * j + 0) 14 r k := by
  show k0_pay74 (kernelRun0_A.sl.r_2 i) (kernelRun0_A.sl.r_43 c arg2 harg2 x0) (kernelRun0_A.sl.v744 c arg3 harg3 arg4 harg4 arg5 harg5 arg6 harg6 arg7 harg7 arg18 arg24 arg28 x1 x2 x3 x4 x5) (ix2 r k) = _
  exact ex_of (r_2 hi) (sk14 H) (v744 H hj) r k

include H hj hi in
theorem d2_14 (r : Fin 128) : (kernelRun0_A.sl.r_48 c i arg2 harg2 arg3 harg3 arg4 harg4 arg5 harg5 arg6 harg6 arg7 harg7 arg18 arg24 arg28 x0 x1 x2 x3 x4 x5) (ix2 r 0) = Ideal.div 1 (kden a b (128 * (2 * j + 0) + r) 14) := by
  show k0_pay75 (kernelRun0_A.sl.r_2 i) (kernelRun0_A.sl.r_43 c arg2 harg2 x0) (kernelRun0_A.sl.v744 c arg3 harg3 arg4 harg4 arg5 harg5 arg6 harg6 arg7 harg7 arg18 arg24 arg28 x1 x2 x3 x4 x5) (ix2 r 0) = _
  exact rden_of (r_2 hi) (sk14 H) (v744 H hj) r

include H hj hi in
theorem v789 (R : Fin 512) (k : Fin 256) : (kernelRun0_A.sl.v789 c i arg2 harg2 arg3 harg3 arg4 harg4 arg5 harg5 arg6 harg6 arg7 harg7 arg18 arg24 arg28 arg30 x0 x1 x2 x3 x4 x5) (ix2 R k) = exF a b (2 * j + 0) (8 * 1 + 2 * (R / 128)) (R % 128) k :=
  four_rd (F := fun t => exF a b (2 * j + 0) (8 * 1 + 2 * t)) (e2_14 H hj hi) (e2_12 H hj hi) (e2_10 H hj hi) (e2_8 H hj hi) _ R k

include H hj hi in
theorem e2_9 (r : Fin 128) (k : Fin 256) : (k0_pay132 (kernelRun0_A.sl.r_2 i) (kernelRun0_A.sl.r_29 c arg2 harg2 x0) (kernelRun0_A.sl.v629 c arg3 harg3 arg4 harg4 arg5 harg5 arg6 harg6 arg7 harg7 arg18 arg25 arg29 x1 x2 x3 x4 x5)) (ix2 r k) = exF a b (2 * j + 0) 9 r k := by
  show k0_pay74 (kernelRun0_A.sl.r_2 i) (kernelRun0_A.sl.r_29 c arg2 harg2 x0) (kernelRun0_A.sl.v629 c arg3 harg3 arg4 harg4 arg5 harg5 arg6 harg6 arg7 harg7 arg18 arg25 arg29 x1 x2 x3 x4 x5) (ix2 r k) = _
  exact ex_of (r_2 hi) (sk9 H) (v629 H hj) r k

include H hj hi in
theorem d2_9 (r : Fin 128) : (kernelRun0_A.sl.r_32 c i arg2 harg2 arg3 harg3 arg4 harg4 arg5 harg5 arg6 harg6 arg7 harg7 arg18 arg25 arg29 x0 x1 x2 x3 x4 x5) (ix2 r 0) = Ideal.div 1 (kden a b (128 * (2 * j + 0) + r) 9) := by
  show k0_pay75 (kernelRun0_A.sl.r_2 i) (kernelRun0_A.sl.r_29 c arg2 harg2 x0) (kernelRun0_A.sl.v629 c arg3 harg3 arg4 harg4 arg5 harg5 arg6 harg6 arg7 harg7 arg18 arg25 arg29 x1 x2 x3 x4 x5) (ix2 r 0) = _
  exact rden_of (r_2 hi) (sk9 H) (v629 H hj) r

include H hj hi in
theorem e2_11 (r : Fin 128) (k : Fin 256) : (k0_pay144 (kernelRun0_A.sl.r_2 i) (kernelRun0_A.sl.r_36 c arg2 harg2 x0) (kernelRun0_A.sl.v675 c arg3 harg3 arg4 harg4 arg5 harg5 arg6 harg6 arg7 harg7 arg18 arg25 arg29 x1 x2 x3 x4 x5)) (ix2 r k) = exF a b (2 * j + 0) 11 r k := by
  show k0_pay74 (kernelRun0_A.sl.r_2 i) (kernelRun0_A.sl.r_36 c arg2 harg2 x0) (kernelRun0_A.sl.v675 c arg3 harg3 arg4 harg4 arg5 harg5 arg6 harg6 arg7 harg7 arg18 arg25 arg29 x1 x2 x3 x4 x5) (ix2 r k) = _
  exact ex_of (r_2 hi) (sk11 H) (v675 H hj) r k

include H hj hi in
theorem d2_11 (r : Fin 128) : (kernelRun0_A.sl.r_39 c i arg2 harg2 arg3 harg3 arg4 harg4 arg5 harg5 arg6 harg6 arg7 harg7 arg18 arg25 arg29 x0 x1 x2 x3 x4 x5) (ix2 r 0) = Ideal.div 1 (kden a b (128 * (2 * j + 0) + r) 11) := by
  show k0_pay75 (kernelRun0_A.sl.r_2 i) (kernelRun0_A.sl.r_36 c arg2 harg2 x0) (kernelRun0_A.sl.v675 c arg3 harg3 arg4 harg4 arg5 harg5 arg6 harg6 arg7 harg7 arg18 arg25 arg29 x1 x2 x3 x4 x5) (ix2 r 0) = _
  exact rden_of (r_2 hi) (sk11 H) (v675 H hj) r

include H hj hi in
theorem e2_13 (r : Fin 128) (k : Fin 256) : (k0_pay155 (kernelRun0_A.sl.r_2 i) (kernelRun0_A.sl.r_42 c arg2 harg2 x0) (kernelRun0_A.sl.v721 c arg3 harg3 arg4 harg4 arg5 harg5 arg6 harg6 arg7 harg7 arg18 arg25 arg29 x1 x2 x3 x4 x5)) (ix2 r k) = exF a b (2 * j + 0) 13 r k := by
  show k0_pay74 (kernelRun0_A.sl.r_2 i) (kernelRun0_A.sl.r_42 c arg2 harg2 x0) (kernelRun0_A.sl.v721 c arg3 harg3 arg4 harg4 arg5 harg5 arg6 harg6 arg7 harg7 arg18 arg25 arg29 x1 x2 x3 x4 x5) (ix2 r k) = _
  exact ex_of (r_2 hi) (sk13 H) (v721 H hj) r k

include H hj hi in
theorem d2_13 (r : Fin 128) : (kernelRun0_A.sl.r_45 c i arg2 harg2 arg3 harg3 arg4 harg4 arg5 harg5 arg6 harg6 arg7 harg7 arg18 arg25 arg29 x0 x1 x2 x3 x4 x5) (ix2 r 0) = Ideal.div 1 (kden a b (128 * (2 * j + 0) + r) 13) := by
  show k0_pay75 (kernelRun0_A.sl.r_2 i) (kernelRun0_A.sl.r_42 c arg2 harg2 x0) (kernelRun0_A.sl.v721 c arg3 harg3 arg4 harg4 arg5 harg5 arg6 harg6 arg7 harg7 arg18 arg25 arg29 x1 x2 x3 x4 x5) (ix2 r 0) = _
  exact rden_of (r_2 hi) (sk13 H) (v721 H hj) r

include H hj hi in
theorem e2_15 (r : Fin 128) (k : Fin 256) : (k0_pay165 (kernelRun0_A.sl.r_2 i) (kernelRun0_A.sl.r_47 c arg2 harg2 x0) (kernelRun0_A.sl.v767 c arg3 harg3 arg4 harg4 arg5 harg5 arg6 harg6 arg7 harg7 arg18 arg25 arg29 x1 x2 x3 x4 x5)) (ix2 r k) = exF a b (2 * j + 0) 15 r k := by
  show k0_pay74 (kernelRun0_A.sl.r_2 i) (kernelRun0_A.sl.r_47 c arg2 harg2 x0) (kernelRun0_A.sl.v767 c arg3 harg3 arg4 harg4 arg5 harg5 arg6 harg6 arg7 harg7 arg18 arg25 arg29 x1 x2 x3 x4 x5) (ix2 r k) = _
  exact ex_of (r_2 hi) (sk15 H) (v767 H hj) r k

include H hj hi in
theorem d2_15 (r : Fin 128) : (kernelRun0_A.sl.r_49 c i arg2 harg2 arg3 harg3 arg4 harg4 arg5 harg5 arg6 harg6 arg7 harg7 arg18 arg25 arg29 x0 x1 x2 x3 x4 x5) (ix2 r 0) = Ideal.div 1 (kden a b (128 * (2 * j + 0) + r) 15) := by
  show k0_pay75 (kernelRun0_A.sl.r_2 i) (kernelRun0_A.sl.r_47 c arg2 harg2 x0) (kernelRun0_A.sl.v767 c arg3 harg3 arg4 harg4 arg5 harg5 arg6 harg6 arg7 harg7 arg18 arg25 arg29 x1 x2 x3 x4 x5) (ix2 r 0) = _
  exact rden_of (r_2 hi) (sk15 H) (v767 H hj) r

include H hj hi in
theorem v793 (R : Fin 512) (k : Fin 256) : (kernelRun0_A.sl.v793 c i arg2 harg2 arg3 harg3 arg4 harg4 arg5 harg5 arg6 harg6 arg7 harg7 arg18 arg25 arg29 arg31 x0 x1 x2 x3 x4 x5) (ix2 R k) = exF a b (2 * j + 0) (8 * 1 + (2 * (R / 128) + 1)) (R % 128) k :=
  four_rd (F := fun t => exF a b (2 * j + 0) (8 * 1 + (2 * t + 1))) (e2_15 H hj hi) (e2_13 H hj hi) (e2_11 H hj hi) (e2_9 H hj hi) _ R k

include H hj hi in
theorem v797 (R : Fin 512) (l : Fin 128) : (kernelRun0_A.sl.v797 c i arg2 harg2 arg3 harg3 arg4 harg4 arg5 harg5 arg6 harg6 arg7 harg7 arg18 arg24 arg25 arg26 arg27 arg28 arg29 arg30 arg31 x0 x1 x2 x3 x4 x5) (ix2 R l) =
    ∑ k : Fin 256, exF a b (2 * j + 0) (8 * 1 + 2 * (R / 128) + l / 64) (R % 128) k * VH a b (128 * (2 * j + 0) + k) 1 (l % 64) := by
  show k0_pay112 (kernelRun0_A.sl.v789 c i arg2 harg2 arg3 harg3 arg4 harg4 arg5 harg5 arg6 harg6 arg7 harg7 arg18 arg24 arg28 arg30 x0 x1 x2 x3 x4 x5) (kernelRun0_A.sl.v790 c arg3 harg3 arg6 harg6 arg7 harg7 arg26 x1 x4 x5) (kernelRun0_A.sl.v793 c i arg2 harg2 arg3 harg3 arg4 harg4 arg5 harg5 arg6 harg6 arg7 harg7 arg18 arg25 arg29 arg31 x0 x1 x2 x3 x4 x5) (kernelRun0_A.sl.v794 c arg3 harg3 arg6 harg6 arg7 harg7 arg27 x1 x4 x5) (ix2 R l) = _
  exact wv_of (v789 H hj hi) (v793 H hj hi) (v790 H hj) (v794 H hj) R l

include H in
theorem v805 (r l : Fin 128) : (kernelRun0_A.sl.v805 c arg3 harg3 arg6 harg6 arg7 harg7 arg19 x1 x4 x5) (ix2 r l) = PJ a b (128 * (2 * j + 0) + r) (1280 + (128 * (4 * 1 + 0) + l)) :=
  (rcm (hs1 H) _ mh (by decide) r l).trans (by beta_reduce; congr 1 <;> omega)

include H hj hi fa in
theorem v812 (r l : Fin 128) : (kernelRun0_A.sl.v812 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 0) + r) (128 * (4 * 1 + 0) + l) := by
  show ainV 0 slices_S512x128_o0_0_S128x128 (cmpi .slt kernelRun0_A.sl.v64 kernelRun0_A.sl.v65) (kernelRun0_A.sl.r_31 c i arg2 harg2 arg3 harg3 arg4 harg4 arg5 harg5 arg6 harg6 arg7 harg7 arg18 arg24 arg28 x0 x1 x2 x3 x4 x5) (kernelRun0_A.sl.r_32 c i arg2 harg2 arg3 harg3 arg4 harg4 arg5 harg5 arg6 harg6 arg7 harg7 arg18 arg25 arg29 x0 x1 x2 x3 x4 x5) (kernelRun0_A.sl.v797 c i arg2 harg2 arg3 harg3 arg4 harg4 arg5 harg5 arg6 harg6 arg7 harg7 arg18 arg24 arg25 arg26 arg27 arg28 arg29 arg30 arg31 x0 x1 x2 x3 x4 x5) (kernelRun0_A.sl.v805 c arg3 harg3 arg6 harg6 arg7 harg7 arg19 x1 x4 x5) (ix2 r l) = _
  exact ainV_of (m := (2 * j + 0)) (g := 1) (p := 0) (by omega) (by omega) lo128 (d2_8 H hj hi) (d2_9 H hj hi) (v797 H hj hi) (v805 H) fa r l

include H in
theorem v820 (r l : Fin 128) : (kernelRun0_A.sl.v820 c arg3 harg3 arg6 harg6 arg7 harg7 arg19 x1 x4 x5) (ix2 r l) = PJ a b (128 * (2 * j + 0) + r) (1280 + (128 * (4 * 1 + 1) + l)) :=
  (rcm (hs1 H) _ mh (by decide) r l).trans (by beta_reduce; congr 1 <;> omega)

include H hj hi fa in
theorem v827 (r l : Fin 128) : (kernelRun0_A.sl.v827 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 0) + r) (128 * (4 * 1 + 1) + l) := by
  show ainV 128 slices_S512x128_o128_0_S128x128 (cmpi .slt kernelRun0_A.sl.v64 kernelRun0_A.sl.v65) (kernelRun0_A.sl.r_38 c i arg2 harg2 arg3 harg3 arg4 harg4 arg5 harg5 arg6 harg6 arg7 harg7 arg18 arg24 arg28 x0 x1 x2 x3 x4 x5) (kernelRun0_A.sl.r_39 c i arg2 harg2 arg3 harg3 arg4 harg4 arg5 harg5 arg6 harg6 arg7 harg7 arg18 arg25 arg29 x0 x1 x2 x3 x4 x5) (kernelRun0_A.sl.v797 c i arg2 harg2 arg3 harg3 arg4 harg4 arg5 harg5 arg6 harg6 arg7 harg7 arg18 arg24 arg25 arg26 arg27 arg28 arg29 arg30 arg31 x0 x1 x2 x3 x4 x5) (kernelRun0_A.sl.v820 c arg3 harg3 arg6 harg6 arg7 harg7 arg19 x1 x4 x5) (ix2 r l) = _
  exact ainV_of (m := (2 * j + 0)) (g := 1) (p := 1) (by omega) (by omega) lo128 (d2_10 H hj hi) (d2_11 H hj hi) (v797 H hj hi) (v820 H) fa r l

include H in
theorem v835 (r l : Fin 128) : (kernelRun0_A.sl.v835 c arg3 harg3 arg6 harg6 arg7 harg7 arg19 x1 x4 x5) (ix2 r l) = PJ a b (128 * (2 * j + 0) + r) (1280 + (128 * (4 * 1 + 2) + l)) :=
  (rcm (hs1 H) _ mh (by decide) r l).trans (by beta_reduce; congr 1 <;> omega)

include H hj hi fa in
theorem v842 (r l : Fin 128) : (kernelRun0_A.sl.v842 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 0) + r) (128 * (4 * 1 + 2) + l) := by
  show ainV 256 slices_S512x128_o256_0_S128x128 (cmpi .slt kernelRun0_A.sl.v64 kernelRun0_A.sl.v65) (kernelRun0_A.sl.r_44 c i arg2 harg2 arg3 harg3 arg4 harg4 arg5 harg5 arg6 harg6 arg7 harg7 arg18 arg24 arg28 x0 x1 x2 x3 x4 x5) (kernelRun0_A.sl.r_45 c i arg2 harg2 arg3 harg3 arg4 harg4 arg5 harg5 arg6 harg6 arg7 harg7 arg18 arg25 arg29 x0 x1 x2 x3 x4 x5) (kernelRun0_A.sl.v797 c i arg2 harg2 arg3 harg3 arg4 harg4 arg5 harg5 arg6 harg6 arg7 harg7 arg18 arg24 arg25 arg26 arg27 arg28 arg29 arg30 arg31 x0 x1 x2 x3 x4 x5) (kernelRun0_A.sl.v835 c arg3 harg3 arg6 harg6 arg7 harg7 arg19 x1 x4 x5) (ix2 r l) = _
  exact ainV_of (m := (2 * j + 0)) (g := 1) (p := 2) (by omega) (by omega) lo128 (d2_12 H hj hi) (d2_13 H hj hi) (v797 H hj hi) (v835 H) fa r l

include H in
theorem v850 (r l : Fin 128) : (kernelRun0_A.sl.v850 c arg3 harg3 arg6 harg6 arg7 harg7 arg19 x1 x4 x5) (ix2 r l) = PJ a b (128 * (2 * j + 0) + r) (1280 + (128 * (4 * 1 + 3) + l)) :=
  (rcm (hs1 H) _ mh (by decide) r l).trans (by beta_reduce; congr 1 <;> omega)

include H hj hi fa in
theorem v857 (r l : Fin 128) : (kernelRun0_A.sl.v857 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 0) + r) (128 * (4 * 1 + 3) + l) := by
  show ainV 384 slices_S512x128_o384_0_S128x128 (cmpi .slt kernelRun0_A.sl.v64 kernelRun0_A.sl.v65) (kernelRun0_A.sl.r_48 c i arg2 harg2 arg3 harg3 arg4 harg4 arg5 harg5 arg6 harg6 arg7 harg7 arg18 arg24 arg28 x0 x1 x2 x3 x4 x5) (kernelRun0_A.sl.r_49 c i arg2 harg2 arg3 harg3 arg4 harg4 arg5 harg5 arg6 harg6 arg7 harg7 arg18 arg25 arg29 x0 x1 x2 x3 x4 x5) (kernelRun0_A.sl.v797 c i arg2 harg2 arg3 harg3 arg4 harg4 arg5 harg5 arg6 harg6 arg7 harg7 arg18 arg24 arg25 arg26 arg27 arg28 arg29 arg30 arg31 x0 x1 x2 x3 x4 x5) (kernelRun0_A.sl.v850 c arg3 harg3 arg6 harg6 arg7 harg7 arg19 x1 x4 x5) (ix2 r l) = _
  exact ainV_of (m := (2 * j + 0)) (g := 1) (p := 3) (by omega) (by omega) lo128 (d2_14 H hj hi) (d2_15 H hj hi) (v797 H hj hi) (v850 H) fa r l

end Cert.PtA

end
-- ==== Proof.PtA5.lean ====
/- Grid points of case A: the attention of query block 1 against key group 0. -/
module

public import proofs.«01_k».proof.Proof.PtA2

@[expose] public section

set_option maxRecDepth 16384
set_option maxHeartbeats 1000000

noncomputable section

namespace Cert.PtA

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg19 : Memref sig .tc .vmem S256x1024 .f32} {arg24 arg25 arg26 arg27 : Memref sig .tc .vmem S2x384x128 .bf16}
  {arg28 arg29 : Memref sig .tc .vmem S512x256 .f32} {arg30 arg31 : Memref sig .tc .vmem S512x256 .bf16} {harg2 : arg2.IsWhole} {harg3 : arg3.IsWhole}
  {harg4 : arg4.IsWhole} {harg5 : arg5.IsWhole} {harg6 : arg6.IsWhole} {harg7 : arg7.IsWhole} {x0 : Vec Ideal S16 .f32}
  {x1 : Vec Ideal S1x256x1024 .f32} {x2 x3 : Vec Ideal S256x128 .f32} {x4 x9 x10 x14 : Vec Ideal S1x1024 .f32} {x5 : Vec Ideal S1024x7424 .bf16}
  {x6 : Vec Ideal S1x2048 .f32} {x7 : Vec Ideal S8x128x128 .f32} {x8 : Vec Ideal S128x1024 .f32} {x11 x12 x13 : Vec Ideal S1024x1024 .bf16}

variable (H : Blk a b j x0 x1 x2 x3 x4 x5 x6 x7 x8 x9 x10 x11 x12 x13 x14) (hj : j = 0) (hi : (i 1).val = j) (fa : Finite a)

include H hj in
theorem sce3 (R : Fin 512) (k : Fin 256) : k0_pay63 (kernelRun0_A.sl.v858 c arg3 harg3 arg4 harg4 arg5 harg5 arg6 harg6 arg7 harg7 arg18 x1 x2 x3 x4 x5) (kernelRun0_A.sl.v859 c arg3 harg3 arg4 harg4 arg5 harg5 arg6 harg6 arg7 harg7 arg18 x1 x2 x3 x4 x5) (kernelRun0_A.sl.v860 c arg3 harg3 arg4 harg4 arg5 harg5 arg6 harg6 arg7 harg7 arg18 x1 x2 x3 x4 x5) (kernelRun0_A.sl.v861 c arg3 harg3 arg4 harg4 arg5 harg5 arg6 harg6 arg7 harg7 arg18 x1 x2 x3 x4 x5) (kernelRun0_A.sl.v863 c arg3 harg3 arg4 harg4 arg5 harg5 arg6 harg6 arg7 harg7 arg24 x1 x2 x3 x4 x5) (ix2 R k) = scF a b (2 * j + 1) (8 * 0 + 2 * (R / 128)) (R % 128) k :=
  scoreE_of (v858 H) (v859 H) (v860 H) (v861 H) (v863 H hj) R k

include H hj in
theorem v876 (r : Fin 128) (k : Fin 256) : (kernelRun0_A.sl.v876 c arg3 harg3 arg4 harg4 arg5 harg5 arg6 harg6 arg7 harg7 arg18 arg24 arg28 x1 x2 x3 x4 x5) (ix2 r k) = scF a b (2 * j + 1) 0 r k :=
  scE_rd (sce3 H hj) _ (by decide) r k

include H hj in
theorem v922 (r : Fin 128) (k : Fin 256) : (kernelRun0_A.sl.v922 c arg3 harg3 arg4 harg4 arg5 harg5 arg6 harg6 arg7 harg7 arg18 arg24 arg28 x1 x2 x3 x4 x5) (ix2 r k) = scF a b (2 * j + 1) 2 r k :=
  scE_rd (sce3 H hj) _ (by decide) r k

include H hj in
theorem v968 (r : Fin 128) (k : Fin 256) : (kernelRun0_A.sl.v968 c arg3 harg3 arg4 harg4 arg5 harg5 arg6 harg6 arg7 harg7 arg18 arg24 arg28 x1 x2 x3 x4 x5) (ix2 r k) = scF a b (2 * j + 1) 4 r k :=
  scE_rd (sce3 H hj) _ (by decide) r k

include H hj in
theorem v1014 (r : Fin 128) (k : Fin 256) : (kernelRun0_A.sl.v1014 c arg3 harg3 arg4 harg4 arg5 harg5 arg6 harg6 arg7 harg7 arg18 arg24 arg28 x1 x2 x3 x4 x5) (ix2 r k) = scF a b (2 * j + 1) 6 r k :=
  scE_rd (sce3 H hj) _ (by decide) r k

include H hj in
theorem sco3 (R : Fin 512) (k : Fin 256) : k0_pay63 (kernelRun0_A.sl.v858 c arg3 harg3 arg4 harg4 arg5 harg5 arg6 harg6 arg7 harg7 arg18 x1 x2 x3 x4 x5) (kernelRun0_A.sl.v859 c arg3 harg3 arg4 harg4 arg5 harg5 arg6 harg6 arg7 harg7 arg18 x1 x2 x3 x4 x5) (kernelRun0_A.sl.v860 c arg3 harg3 arg4 harg4 arg5 harg5 arg6 harg6 arg7 harg7 arg18 x1 x2 x3 x4 x5) (kernelRun0_A.sl.v861 c arg3 harg3 arg4 harg4 arg5 harg5 arg6 harg6 arg7 harg7 arg18 x1 x2 x3 x4 x5) (kernelRun0_A.sl.v869 c arg3 harg3 arg4 harg4 arg5 harg5 arg6 harg6 arg7 harg7 arg25 x1 x2 x3 x4 x5) (ix2 R k) = scF a b (2 * j + 1) (8 * 0 + (2 * (R / 128) + 1)) (R % 128) k :=
  scoreO_of (v858 H) (v859 H) (v860 H) (v861 H) (v869 H hj) R k

include H hj in
theorem v899 (r : Fin 128) (k : Fin 256) : (kernelRun0_A.sl.v899 c arg3 harg3 arg4 harg4 arg5 harg5 arg6 harg6 arg7 harg7 arg18 arg25 arg29 x1 x2 x3 x4 x5) (ix2 r k) = scF a b (2 * j + 1) 1 r k :=
  scO_rd (sco3 H hj) _ (by decide) r k

include H hj in
theorem v945 (r : Fin 128) (k : Fin 256) : (kernelRun0_A.sl.v945 c arg3 harg3 arg4 harg4 arg5 harg5 arg6 harg6 arg7 harg7 arg18 arg25 arg29 x1 x2 x3 x4 x5) (ix2 r k) = scF a b (2 * j + 1) 3 r k :=
  scO_rd (sco3 H hj) _ (by decide) r k

include H hj in
theorem v991 (r : Fin 128) (k : Fin 256) : (kernelRun0_A.sl.v991 c arg3 harg3 arg4 harg4 arg5 harg5 arg6 harg6 arg7 harg7 arg18 arg25 arg29 x1 x2 x3 x4 x5) (ix2 r k) = scF a b (2 * j + 1) 5 r k :=
  scO_rd (sco3 H hj) _ (by decide) r k

include H hj in
theorem v1037 (r : Fin 128) (k : Fin 256) : (kernelRun0_A.sl.v1037 c arg3 harg3 arg4 harg4 arg5 harg5 arg6 harg6 arg7 harg7 arg18 arg25 arg29 x1 x2 x3 x4 x5) (ix2 r k) = scF a b (2 * j + 1) 7 r k :=
  scO_rd (sco3 H hj) _ (by decide) r k

include H hj in
theorem e3_0 (r : Fin 128) (k : Fin 256) : (k0_pay180 kernelRun0_A.sl.r_1 (kernelRun0_A.sl.r c arg2 harg2 x0) (kernelRun0_A.sl.v876 c arg3 harg3 arg4 harg4 arg5 harg5 arg6 harg6 arg7 harg7 arg18 arg24 arg28 x1 x2 x3 x4 x5)) (ix2 r k) = exF a b (2 * j + 1) 0 r k := by
  show k0_pay74 kernelRun0_A.sl.r_1 (kernelRun0_A.sl.r c arg2 harg2 x0) (kernelRun0_A.sl.v876 c arg3 harg3 arg4 harg4 arg5 harg5 arg6 harg6 arg7 harg7 arg18 arg24 arg28 x1 x2 x3 x4 x5) (ix2 r k) = _
  exact ex_of (r_1 (by omega)) (sk0 H) (v876 H hj) r k

include H hj in
theorem d3_0 (r : Fin 128) : (kernelRun0_A.sl.r_50 c arg2 harg2 arg3 harg3 arg4 harg4 arg5 harg5 arg6 harg6 arg7 harg7 arg18 arg24 arg28 x0 x1 x2 x3 x4 x5) (ix2 r 0) = Ideal.div 1 (kden a b (128 * (2 * j + 1) + r) 0) := by
  show k0_pay75 kernelRun0_A.sl.r_1 (kernelRun0_A.sl.r c arg2 harg2 x0) (kernelRun0_A.sl.v876 c arg3 harg3 arg4 harg4 arg5 harg5 arg6 harg6 arg7 harg7 arg18 arg24 arg28 x1 x2 x3 x4 x5) (ix2 r 0) = _
  exact rden_of (r_1 (by omega)) (sk0 H) (v876 H hj) r

include H hj in
theorem e3_2 (r : Fin 128) (k : Fin 256) : (k0_pay191 kernelRun0_A.sl.r_1 (kernelRun0_A.sl.r_6 c arg2 harg2 x0) (kernelRun0_A.sl.v922 c arg3 harg3 arg4 harg4 arg5 harg5 arg6 harg6 arg7 harg7 arg18 arg24 arg28 x1 x2 x3 x4 x5)) (ix2 r k) = exF a b (2 * j + 1) 2 r k := by
  show k0_pay74 kernelRun0_A.sl.r_1 (kernelRun0_A.sl.r_6 c arg2 harg2 x0) (kernelRun0_A.sl.v922 c arg3 harg3 arg4 harg4 arg5 harg5 arg6 harg6 arg7 harg7 arg18 arg24 arg28 x1 x2 x3 x4 x5) (ix2 r k) = _
  exact ex_of (r_1 (by omega)) (sk2 H) (v922 H hj) r k

include H hj in
theorem d3_2 (r : Fin 128) : (kernelRun0_A.sl.r_54 c arg2 harg2 arg3 harg3 arg4 harg4 arg5 harg5 arg6 harg6 arg7 harg7 arg18 arg24 arg28 x0 x1 x2 x3 x4 x5) (ix2 r 0) = Ideal.div 1 (kden a b (128 * (2 * j + 1) + r) 2) := by
  show k0_pay75 kernelRun0_A.sl.r_1 (kernelRun0_A.sl.r_6 c arg2 harg2 x0) (kernelRun0_A.sl.v922 c arg3 harg3 arg4 harg4 arg5 harg5 arg6 harg6 arg7 harg7 arg18 arg24 arg28 x1 x2 x3 x4 x5) (ix2 r 0) = _
  exact rden_of (r_1 (by omega)) (sk2 H) (v922 H hj) r

include H hj in
theorem e3_4 (r : Fin 128) (k : Fin 256) : (k0_pay202 kernelRun0_A.sl.r_1 (kernelRun0_A.sl.r_12 c arg2 harg2 x0) (kernelRun0_A.sl.v968 c arg3 harg3 arg4 harg4 arg5 harg5 arg6 harg6 arg7 harg7 arg18 arg24 arg28 x1 x2 x3 x4 x5)) (ix2 r k) = exF a b (2 * j + 1) 4 r k := by
  show k0_pay74 kernelRun0_A.sl.r_1 (kernelRun0_A.sl.r_12 c arg2 harg2 x0) (kernelRun0_A.sl.v968 c arg3 harg3 arg4 harg4 arg5 harg5 arg6 harg6 arg7 harg7 arg18 arg24 arg28 x1 x2 x3 x4 x5) (ix2 r k) = _
  exact ex_of (r_1 (by omega)) (sk4 H) (v968 H hj) r k

include H hj in
theorem d3_4 (r : Fin 128) : (kernelRun0_A.sl.r_57 c arg2 harg2 arg3 harg3 arg4 harg4 arg5 harg5 arg6 harg6 arg7 harg7 arg18 arg24 arg28 x0 x1 x2 x3 x4 x5) (ix2 r 0) = Ideal.div 1 (kden a b (128 * (2 * j + 1) + r) 4) := by
  show k0_pay75 kernelRun0_A.sl.r_1 (kernelRun0_A.sl.r_12 c arg2 harg2 x0) (kernelRun0_A.sl.v968 c arg3 harg3 arg4 harg4 arg5 harg5 arg6 harg6 arg7 harg7 arg18 arg24 arg28 x1 x2 x3 x4 x5) (ix2 r 0) = _
  exact rden_of (r_1 (by omega)) (sk4 H) (v968 H hj) r

include H hj in
theorem e3_6 (r : Fin 128) (k : Fin 256) : (k0_pay214 (kernelRun0_A.sl.r_60 c arg2 harg2 arg3 harg3 arg4 harg4 arg5 harg5 arg6 harg6 arg7 harg7 arg18 arg24 arg28 x0 x1 x2 x3 x4 x5)) (ix2 r k) = exF a b (2 * j + 1) 6 r k := by
  show k0_pay74 kernelRun0_A.sl.r_1 (kernelRun0_A.sl.r_18 c arg2 harg2 x0) (kernelRun0_A.sl.v1014 c arg3 harg3 arg4 harg4 arg5 harg5 arg6 harg6 arg7 harg7 arg18 arg24 arg28 x1 x2 x3 x4 x5) (ix2 r k) = _
  exact ex_of (r_1 (by omega)) (sk6 H) (v1014 H hj) r k

include H hj in
theorem d3_6 (r : Fin 128) : (kernelRun0_A.sl.r_61 c arg2 harg2 arg3 harg3 arg4 harg4 arg5 harg5 arg6 harg6 arg7 harg7 arg18 arg24 arg28 x0 x1 x2 x3 x4 x5) (ix2 r 0) = Ideal.div 1 (kden a b (128 * (2 * j + 1) + r) 6) := by
  show k0_pay75 kernelRun0_A.sl.r_1 (kernelRun0_A.sl.r_18 c arg2 harg2 x0) (kernelRun0_A.sl.v1014 c arg3 harg3 arg4 harg4 arg5 harg5 arg6 harg6 arg7 harg7 arg18 arg24 arg28 x1 x2 x3 x4 x5) (ix2 r 0) = _
  exact rden_of (r_1 (by omega)) (sk6 H) (v1014 H hj) r

include H hj in
theorem v1059 (R : Fin 512) (k : Fin 256) : (kernelRun0_A.sl.v1059 c i arg2 harg2 arg3 harg3 arg4 harg4 arg5 harg5 arg6 harg6 arg7 harg7 arg18 arg24 arg28 arg30 x0 x1 x2 x3 x4 x5) (ix2 R k) = exF a b (2 * j + 1) (8 * 0 + 2 * (R / 128)) (R % 128) k := by
  refine (rc2 (e := .bf16) (n0 := 512) (n1 := 256) (g := (fun R k => exF a b (2 * j + 1) (8 * 0 + 2 * (R / 128)) (R % 128) k)) (L1 := ((kernelRun0_A.sl.HS12_12 c i arg2 harg2 arg3 harg3 arg4 harg4 arg5 harg5 arg6 harg6 arg7 harg7 arg18 arg24 arg28 x0 x1 x2 x3 x4 x5)).take 4) (List.take_append_drop 4 _).symm ?_ _ ?_ R k).trans (by beta_reduce; congr 1 <;> omega)
  · refine pc2 512 256 384 0 128 256 (fun r l => ?_) ?_
    · exact (e3_6 H hj r l).trans (by beta_reduce; congr 1 <;> omega)
    refine pc2 512 256 256 0 128 256 (fun r l => ?_) ?_
    · exact (e3_4 H hj r l).trans (by beta_reduce; congr 1 <;> omega)
    refine pc2 512 256 128 0 128 256 (fun r l => ?_) ?_
    · exact (e3_2 H hj r l).trans (by beta_reduce; congr 1 <;> omega)
    refine pc2 512 256 0 0 128 256 (fun r l => ?_) ?_
    · exact (e3_0 H hj r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H hj in
theorem e3_1 (r : Fin 128) (k : Fin 256) : (k0_pay186 (kernelRun0_A.sl.r_5 c arg2 harg2 x0) (kernelRun0_A.sl.r_51 c arg3 harg3 arg4 harg4 arg5 harg5 arg6 harg6 arg7 harg7 arg18 arg25 arg29 x1 x2 x3 x4 x5) (kernelRun0_A.sl.r_52 c arg3 harg3 arg4 harg4 arg5 harg5 arg6 harg6 arg7 harg7 arg18 arg25 arg29 x1 x2 x3 x4 x5)) (ix2 r k) = exF a b (2 * j + 1) 1 r k := by
  show k0_pay74 kernelRun0_A.sl.r_1 (kernelRun0_A.sl.r_5 c arg2 harg2 x0) (kernelRun0_A.sl.v899 c arg3 harg3 arg4 harg4 arg5 harg5 arg6 harg6 arg7 harg7 arg18 arg25 arg29 x1 x2 x3 x4 x5) (ix2 r k) = _
  exact ex_of (r_1 (by omega)) (sk1 H) (v899 H hj) r k

include H hj in
theorem d3_1 (r : Fin 128) : (kernelRun0_A.sl.r_53 c arg2 harg2 arg3 harg3 arg4 harg4 arg5 harg5 arg6 harg6 arg7 harg7 arg18 arg25 arg29 x0 x1 x2 x3 x4 x5) (ix2 r 0) = Ideal.div 1 (kden a b (128 * (2 * j + 1) + r) 1) := by
  show k0_pay75 kernelRun0_A.sl.r_1 (kernelRun0_A.sl.r_5 c arg2 harg2 x0) (kernelRun0_A.sl.v899 c arg3 harg3 arg4 harg4 arg5 harg5 arg6 harg6 arg7 harg7 arg18 arg25 arg29 x1 x2 x3 x4 x5) (ix2 r 0) = _
  exact rden_of (r_1 (by omega)) (sk1 H) (v899 H hj) r

include H hj in
theorem e3_3 (r : Fin 128) (k : Fin 256) : (k0_pay196 kernelRun0_A.sl.r_1 (kernelRun0_A.sl.r_9 c arg2 harg2 x0) (kernelRun0_A.sl.v945 c arg3 harg3 arg4 harg4 arg5 harg5 arg6 harg6 arg7 harg7 arg18 arg25 arg29 x1 x2 x3 x4 x5)) (ix2 r k) = exF a b (2 * j + 1) 3 r k := by
  show k0_pay74 kernelRun0_A.sl.r_1 (kernelRun0_A.sl.r_9 c arg2 harg2 x0) (kernelRun0_A.sl.v945 c arg3 harg3 arg4 harg4 arg5 harg5 arg6 harg6 arg7 harg7 arg18 arg25 arg29 x1 x2 x3 x4 x5) (ix2 r k) = _
  exact ex_of (r_1 (by omega)) (sk3 H) (v945 H hj) r k

include H hj in
theorem d3_3 (r : Fin 128) : (kernelRun0_A.sl.r_55 c arg2 harg2 arg3 harg3 arg4 harg4 arg5 harg5 arg6 harg6 arg7 harg7 arg18 arg25 arg29 x0 x1 x2 x3 x4 x5) (ix2 r 0) = Ideal.div 1 (kden a b (128 * (2 * j + 1) + r) 3) := by
  show k0_pay75 kernelRun0_A.sl.r_1 (kernelRun0_A.sl.r_9 c arg2 harg2 x0) (kernelRun0_A.sl.v945 c arg3 harg3 arg4 harg4 arg5 harg5 arg6 harg6 arg7 harg7 arg18 arg25 arg29 x1 x2 x3 x4 x5) (ix2 r 0) = _
  exact rden_of (r_1 (by omega)) (sk3 H) (v945 H hj) r

include H hj in
theorem e3_5 (r : Fin 128) (k : Fin 256) : (k0_pay207 kernelRun0_A.sl.r_1 (kernelRun0_A.sl.r_13 c arg2 harg2 x0) (kernelRun0_A.sl.v991 c arg3 harg3 arg4 harg4 arg5 harg5 arg6 harg6 arg7 harg7 arg18 arg25 arg29 x1 x2 x3 x4 x5)) (ix2 r k) = exF a b (2 * j + 1) 5 r k := by
  show k0_pay74 kernelRun0_A.sl.r_1 (kernelRun0_A.sl.r_13 c arg2 harg2 x0) (kernelRun0_A.sl.v991 c arg3 harg3 arg4 harg4 arg5 harg5 arg6 harg6 arg7 harg7 arg18 arg25 arg29 x1 x2 x3 x4 x5) (ix2 r k) = _
  exact ex_of (r_1 (by omega)) (sk5 H) (v991 H hj) r k

include H hj in
theorem d3_5 (r : Fin 128) : (kernelRun0_A.sl.r_58 c arg2 harg2 arg3 harg3 arg4 harg4 arg5 harg5 arg6 harg6 arg7 harg7 arg18 arg25 arg29 x0 x1 x2 x3 x4 x5) (ix2 r 0) = Ideal.div 1 (kden a b (128 * (2 * j + 1) + r) 5) := by
  show k0_pay75 kernelRun0_A.sl.r_1 (kernelRun0_A.sl.r_13 c arg2 harg2 x0) (kernelRun0_A.sl.v991 c arg3 harg3 arg4 harg4 arg5 harg5 arg6 harg6 arg7 harg7 arg18 arg25 arg29 x1 x2 x3 x4 x5) (ix2 r 0) = _
  exact rden_of (r_1 (by omega)) (sk5 H) (v991 H hj) r

include H hj in
theorem e3_7 (r : Fin 128) (k : Fin 256) : (k0_pay219 kernelRun0_A.sl.r_1 (kernelRun0_A.sl.r_19 c arg2 harg2 x0) (kernelRun0_A.sl.v1037 c arg3 harg3 arg4 harg4 arg5 harg5 arg6 harg6 arg7 harg7 arg18 arg25 arg29 x1 x2 x3 x4 x5)) (ix2 r k) = exF a b (2 * j + 1) 7 r k := by
  show k0_pay74 kernelRun0_A.sl.r_1 (kernelRun0_A.sl.r_19 c arg2 harg2 x0) (kernelRun0_A.sl.v1037 c arg3 harg3 arg4 harg4 arg5 harg5 arg6 harg6 arg7 harg7 arg18 arg25 arg29 x1 x2 x3 x4 x5) (ix2 r k) = _
  exact ex_of (r_1 (by omega)) (sk7 H) (v1037 H hj) r k

include H hj in
theorem d3_7 (r : Fin 128) : (kernelRun0_A.sl.r_62 c arg2 harg2 arg3 harg3 arg4 harg4 arg5 harg5 arg6 harg6 arg7 harg7 arg18 arg25 arg29 x0 x1 x2 x3 x4 x5) (ix2 r 0) = Ideal.div 1 (kden a b (128 * (2 * j + 1) + r) 7) := by
  show k0_pay75 kernelRun0_A.sl.r_1 (kernelRun0_A.sl.r_19 c arg2 harg2 x0) (kernelRun0_A.sl.v1037 c arg3 harg3 arg4 harg4 arg5 harg5 arg6 harg6 arg7 harg7 arg18 arg25 arg29 x1 x2 x3 x4 x5) (ix2 r 0) = _
  exact rden_of (r_1 (by omega)) (sk7 H) (v1037 H hj) r

include H hj in
theorem v1063 (R : Fin 512) (k : Fin 256) : (kernelRun0_A.sl.v1063 c i arg2 harg2 arg3 harg3 arg4 harg4 arg5 harg5 arg6 harg6 arg7 harg7 arg18 arg25 arg29 arg31 x0 x1 x2 x3 x4 x5) (ix2 R k) = exF a b (2 * j + 1) (8 * 0 + (2 * (R / 128) + 1)) (R % 128) k := by
  refine (rc2 (e := .bf16) (n0 := 512) (n1 := 256) (g := (fun R k => exF a b (2 * j + 1) (8 * 0 + (2 * (R / 128) + 1)) (R % 128) k)) (L1 := ((kernelRun0_A.sl.HS13_12 c i arg2 harg2 arg3 harg3 arg4 harg4 arg5 harg5 arg6 harg6 arg7 harg7 arg18 arg25 arg29 x0 x1 x2 x3 x4 x5)).take 4) (List.take_append_drop 4 _).symm ?_ _ ?_ R k).trans (by beta_reduce; congr 1 <;> omega)
  · refine pieces_mem (piece2 (g := (fun R k => exF a b (2 * j + 1) (8 * 0 + (2 * (R / 128) + 1)) (R % 128) k)) (e := .bf16) (n0 := 512) (n1 := 256) (o0 := 384) (o1 := 0) (m0 := 128) (m1 := 256) (inb := by decide) fun r l => ?_) ?_
    · exact (e3_7 H hj r l).trans (by beta_reduce; congr 1 <;> omega)
    refine pieces_mem (piece2 (g := (fun R k => exF a b (2 * j + 1) (8 * 0 + (2 * (R / 128) + 1)) (R % 128) k)) (e := .bf16) (n0 := 512) (n1 := 256) (o0 := 256) (o1 := 0) (m0 := 128) (m1 := 256) (inb := by decide) fun r l => ?_) ?_
    · exact (e3_5 H hj r l).trans (by beta_reduce; congr 1 <;> omega)
    refine pieces_mem (piece2 (g := (fun R k => exF a b (2 * j + 1) (8 * 0 + (2 * (R / 128) + 1)) (R % 128) k)) (e := .bf16) (n0 := 512) (n1 := 256) (o0 := 128) (o1 := 0) (m0 := 128) (m1 := 256) (inb := by decide) fun r l => ?_) ?_
    · exact (e3_3 H hj r l).trans (by beta_reduce; congr 1 <;> omega)
    refine pieces_mem (piece2 (g := (fun R k => exF a b (2 * j + 1) (8 * 0 + (2 * (R / 128) + 1)) (R % 128) k)) (e := .bf16) (n0 := 512) (n1 := 256) (o0 := 0) (o1 := 0) (m0 := 128) (m1 := 256) (inb := by decide) fun r l => ?_) ?_
    · exact (e3_1 H hj r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H hj in
theorem v1067 (R : Fin 512) (l : Fin 128) : (kernelRun0_A.sl.v1067 c i arg2 harg2 arg3 harg3 arg4 harg4 arg5 harg5 arg6 harg6 arg7 harg7 arg18 arg24 arg25 arg26 arg27 arg28 arg29 arg30 arg31 x0 x1 x2 x3 x4 x5) (ix2 R l) =
    ∑ k : Fin 256, exF a b (2 * j + 1) (8 * 0 + 2 * (R / 128) + l / 64) (R % 128) k * VH a b (128 * (2 * j + 1) + k) 0 (l % 64) := by
  show k0_pay112 (kernelRun0_A.sl.v1059 c i arg2 harg2 arg3 harg3 arg4 harg4 arg5 harg5 arg6 harg6 arg7 harg7 arg18 arg24 arg28 arg30 x0 x1 x2 x3 x4 x5) (kernelRun0_A.sl.v1060 c arg3 harg3 arg6 harg6 arg7 harg7 arg26 x1 x4 x5) (kernelRun0_A.sl.v1063 c i arg2 harg2 arg3 harg3 arg4 harg4 arg5 harg5 arg6 harg6 arg7 harg7 arg18 arg25 arg29 arg31 x0 x1 x2 x3 x4 x5) (kernelRun0_A.sl.v1064 c arg3 harg3 arg6 harg6 arg7 harg7 arg27 x1 x4 x5) (ix2 R l) = _
  exact wv_of (v1059 H hj) (v1063 H hj) (v1060 H hj) (v1064 H hj) R l

include H in
theorem v1075 (r l : Fin 128) : (kernelRun0_A.sl.v1075 c arg3 harg3 arg6 harg6 arg7 harg7 arg19 x1 x4 x5) (ix2 r l) = PJ a b (128 * (2 * j + 1) + r) (1280 + (128 * (4 * 0 + 0) + l)) :=
  (rcm (hs1 H) _ mh (by decide) r l).trans (by beta_reduce; congr 1 <;> omega)

include H hj fa in
theorem v1082 (r l : Fin 128) : (kernelRun0_A.sl.v1082 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 1) + r) (128 * (4 * 0 + 0) + l) := by
  show ainV 0 slices_S512x128_o0_0_S128x128 (cmpi .slt kernelRun0_A.sl.v64 kernelRun0_A.sl.v65) (kernelRun0_A.sl.r_50 c arg2 harg2 arg3 harg3 arg4 harg4 arg5 harg5 arg6 harg6 arg7 harg7 arg18 arg24 arg28 x0 x1 x2 x3 x4 x5) (kernelRun0_A.sl.r_53 c arg2 harg2 arg3 harg3 arg4 harg4 arg5 harg5 arg6 harg6 arg7 harg7 arg18 arg25 arg29 x0 x1 x2 x3 x4 x5) (kernelRun0_A.sl.v1067 c i arg2 harg2 arg3 harg3 arg4 harg4 arg5 harg5 arg6 harg6 arg7 harg7 arg18 arg24 arg25 arg26 arg27 arg28 arg29 arg30 arg31 x0 x1 x2 x3 x4 x5) (kernelRun0_A.sl.v1075 c arg3 harg3 arg6 harg6 arg7 harg7 arg19 x1 x4 x5) (ix2 r l) = _
  exact ainV_of (m := (2 * j + 1)) (g := 0) (p := 0) (by omega) (by omega) lo128 (d3_0 H hj) (d3_1 H hj) (v1067 H hj) (v1075 H) fa r l

include H in
theorem v1090 (r l : Fin 128) : (kernelRun0_A.sl.v1090 c arg3 harg3 arg6 harg6 arg7 harg7 arg19 x1 x4 x5) (ix2 r l) = PJ a b (128 * (2 * j + 1) + r) (1280 + (128 * (4 * 0 + 1) + l)) :=
  (rcm (hs1 H) _ mh (by decide) r l).trans (by beta_reduce; congr 1 <;> omega)

include H hj fa in
theorem v1097 (r l : Fin 128) : (kernelRun0_A.sl.v1097 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 1) + r) (128 * (4 * 0 + 1) + l) := by
  show ainV 128 slices_S512x128_o128_0_S128x128 (cmpi .slt kernelRun0_A.sl.v64 kernelRun0_A.sl.v65) (kernelRun0_A.sl.r_54 c arg2 harg2 arg3 harg3 arg4 harg4 arg5 harg5 arg6 harg6 arg7 harg7 arg18 arg24 arg28 x0 x1 x2 x3 x4 x5) (kernelRun0_A.sl.r_55 c arg2 harg2 arg3 harg3 arg4 harg4 arg5 harg5 arg6 harg6 arg7 harg7 arg18 arg25 arg29 x0 x1 x2 x3 x4 x5) (kernelRun0_A.sl.v1067 c i arg2 harg2 arg3 harg3 arg4 harg4 arg5 harg5 arg6 harg6 arg7 harg7 arg18 arg24 arg25 arg26 arg27 arg28 arg29 arg30 arg31 x0 x1 x2 x3 x4 x5) (kernelRun0_A.sl.v1090 c arg3 harg3 arg6 harg6 arg7 harg7 arg19 x1 x4 x5) (ix2 r l) = _
  exact ainV_of (m := (2 * j + 1)) (g := 0) (p := 1) (by omega) (by omega) lo128 (d3_2 H hj) (d3_3 H hj) (v1067 H hj) (v1090 H) fa r l

include H in
theorem v1105 (r l : Fin 128) : (kernelRun0_A.sl.v1105 c arg3 harg3 arg6 harg6 arg7 harg7 arg19 x1 x4 x5) (ix2 r l) = PJ a b (128 * (2 * j + 1) + r) (1280 + (128 * (4 * 0 + 2) + l)) :=
  (rcm (hs1 H) _ mh (by decide) r l).trans (by beta_reduce; congr 1 <;> omega)

include H hj fa in
theorem v1112 (r l : Fin 128) : (kernelRun0_A.sl.v1112 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 1) + r) (128 * (4 * 0 + 2) + l) := by
  show ainV 256 slices_S512x128_o256_0_S128x128 (cmpi .slt kernelRun0_A.sl.v64 kernelRun0_A.sl.v65) (kernelRun0_A.sl.r_57 c arg2 harg2 arg3 harg3 arg4 harg4 arg5 harg5 arg6 harg6 arg7 harg7 arg18 arg24 arg28 x0 x1 x2 x3 x4 x5) (kernelRun0_A.sl.r_58 c arg2 harg2 arg3 harg3 arg4 harg4 arg5 harg5 arg6 harg6 arg7 harg7 arg18 arg25 arg29 x0 x1 x2 x3 x4 x5) (kernelRun0_A.sl.v1067 c i arg2 harg2 arg3 harg3 arg4 harg4 arg5 harg5 arg6 harg6 arg7 harg7 arg18 arg24 arg25 arg26 arg27 arg28 arg29 arg30 arg31 x0 x1 x2 x3 x4 x5) (kernelRun0_A.sl.v1105 c arg3 harg3 arg6 harg6 arg7 harg7 arg19 x1 x4 x5) (ix2 r l) = _
  exact ainV_of (m := (2 * j + 1)) (g := 0) (p := 2) (by omega) (by omega) lo128 (d3_4 H hj) (d3_5 H hj) (v1067 H hj) (v1105 H) fa r l

include H in
theorem v1120 (r l : Fin 128) : (kernelRun0_A.sl.v1120 c arg3 harg3 arg6 harg6 arg7 harg7 arg19 x1 x4 x5) (ix2 r l) = PJ a b (128 * (2 * j + 1) + r) (1280 + (128 * (4 * 0 + 3) + l)) :=
  (rcm (hs1 H) _ mh (by decide) r l).trans (by beta_reduce; congr 1 <;> omega)

include H hj fa in
theorem v1127 (r l : Fin 128) : (kernelRun0_A.sl.v1127 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 1) + r) (128 * (4 * 0 + 3) + l) := by
  show ainV 384 slices_S512x128_o384_0_S128x128 (cmpi .slt kernelRun0_A.sl.v64 kernelRun0_A.sl.v65) (kernelRun0_A.sl.r_61 c arg2 harg2 arg3 harg3 arg4 harg4 arg5 harg5 arg6 harg6 arg7 harg7 arg18 arg24 arg28 x0 x1 x2 x3 x4 x5) (kernelRun0_A.sl.r_62 c arg2 harg2 arg3 harg3 arg4 harg4 arg5 harg5 arg6 harg6 arg7 harg7 arg18 arg25 arg29 x0 x1 x2 x3 x4 x5) (kernelRun0_A.sl.v1067 c i arg2 harg2 arg3 harg3 arg4 harg4 arg5 harg5 arg6 harg6 arg7 harg7 arg18 arg24 arg25 arg26 arg27 arg28 arg29 arg30 arg31 x0 x1 x2 x3 x4 x5) (kernelRun0_A.sl.v1120 c arg3 harg3 arg6 harg6 arg7 harg7 arg19 x1 x4 x5) (ix2 r l) = _
  exact ainV_of (m := (2 * j + 1)) (g := 0) (p := 3) (by omega) (by omega) lo128 (d3_6 H hj) (d3_7 H hj) (v1067 H hj) (v1120 H) fa r l

end Cert.PtA

end
-- ==== Proof.PtA6.lean ====
/- Grid points of case A: the attention of query block 1 against key group 1. -/
module

public import proofs.«01_k».proof.Proof.PtA2

@[expose] public section

set_option maxRecDepth 16384
set_option maxHeartbeats 1000000

noncomputable section

namespace Cert.PtA

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg19 : Memref sig .tc .vmem S256x1024 .f32} {arg24 arg25 arg26 arg27 : Memref sig .tc .vmem S2x384x128 .bf16}
  {arg28 arg29 : Memref sig .tc .vmem S512x256 .f32} {arg30 arg31 : Memref sig .tc .vmem S512x256 .bf16} {harg2 : arg2.IsWhole} {harg3 : arg3.IsWhole}
  {harg4 : arg4.IsWhole} {harg5 : arg5.IsWhole} {harg6 : arg6.IsWhole} {harg7 : arg7.IsWhole} {x0 : Vec Ideal S16 .f32}
  {x1 : Vec Ideal S1x256x1024 .f32} {x2 x3 : Vec Ideal S256x128 .f32} {x4 x9 x10 x14 : Vec Ideal S1x1024 .f32} {x5 : Vec Ideal S1024x7424 .bf16}
  {x6 : Vec Ideal S1x2048 .f32} {x7 : Vec Ideal S8x128x128 .f32} {x8 : Vec Ideal S128x1024 .f32} {x11 x12 x13 : Vec Ideal S1024x1024 .bf16}

variable (H : Blk a b j x0 x1 x2 x3 x4 x5 x6 x7 x8 x9 x10 x11 x12 x13 x14) (hj : j = 0) (hi : (i 1).val = j) (fa : Finite a)

include H hj in
theorem sce4 (R : Fin 512) (k : Fin 256) : k0_pay63 (kernelRun0_A.sl.v1128 c arg3 harg3 arg4 harg4 arg5 harg5 arg6 harg6 arg7 harg7 arg18 x1 x2 x3 x4 x5) (kernelRun0_A.sl.v1129 c arg3 harg3 arg4 harg4 arg5 harg5 arg6 harg6 arg7 harg7 arg18 x1 x2 x3 x4 x5) (kernelRun0_A.sl.v1130 c arg3 harg3 arg4 harg4 arg5 harg5 arg6 harg6 arg7 harg7 arg18 x1 x2 x3 x4 x5) (kernelRun0_A.sl.v1131 c arg3 harg3 arg4 harg4 arg5 harg5 arg6 harg6 arg7 harg7 arg18 x1 x2 x3 x4 x5) (kernelRun0_A.sl.v1133 c arg3 harg3 arg4 harg4 arg5 harg5 arg6 harg6 arg7 harg7 arg24 x1 x2 x3 x4 x5) (ix2 R k) = scF a b (2 * j + 1) (8 * 1 + 2 * (R / 128)) (R % 128) k :=
  scoreE_of (v1128 H) (v1129 H) (v1130 H) (v1131 H) (v1133 H hj) R k

include H hj in
theorem v1146 (r : Fin 128) (k : Fin 256) : (kernelRun0_A.sl.v1146 c arg3 harg3 arg4 harg4 arg5 harg5 arg6 harg6 arg7 harg7 arg18 arg24 arg28 x1 x2 x3 x4 x5) (ix2 r k) = scF a b (2 * j + 1) 8 r k :=
  scE_rd (sce4 H hj) _ (by decide) r k

include H hj in
theorem v1192 (r : Fin 128) (k : Fin 256) : (kernelRun0_A.sl.v1192 c arg3 harg3 arg4 harg4 arg5 harg5 arg6 harg6 arg7 harg7 arg18 arg24 arg28 x1 x2 x3 x4 x5) (ix2 r k) = scF a b (2 * j + 1) 10 r k :=
  scE_rd (sce4 H hj) _ (by decide) r k

include H hj in
theorem v1238 (r : Fin 128) (k : Fin 256) : (kernelRun0_A.sl.v1238 c arg3 harg3 arg4 harg4 arg5 harg5 arg6 harg6 arg7 harg7 arg18 arg24 arg28 x1 x2 x3 x4 x5) (ix2 r k) = scF a b (2 * j + 1) 12 r k :=
  scE_rd (sce4 H hj) _ (by decide) r k

include H hj in
theorem v1284 (r : Fin 128) (k : Fin 256) : (kernelRun0_A.sl.v1284 c arg3 harg3 arg4 harg4 arg5 harg5 arg6 harg6 arg7 harg7 arg18 arg24 arg28 x1 x2 x3 x4 x5) (ix2 r k) = scF a b (2 * j + 1) 14 r k :=
  scE_rd (sce4 H hj) _ (by decide) r k

include H hj in
theorem sco4 (R : Fin 512) (k : Fin 256) : k0_pay63 (kernelRun0_A.sl.v1128 c arg3 harg3 arg4 harg4 arg5 harg5 arg6 harg6 arg7 harg7 arg18 x1 x2 x3 x4 x5) (kernelRun0_A.sl.v1129 c arg3 harg3 arg4 harg4 arg5 harg5 arg6 harg6 arg7 harg7 arg18 x1 x2 x3 x4 x5) (kernelRun0_A.sl.v1130 c arg3 harg3 arg4 harg4 arg5 harg5 arg6 harg6 arg7 harg7 arg18 x1 x2 x3 x4 x5) (kernelRun0_A.sl.v1131 c arg3 harg3 arg4 harg4 arg5 harg5 arg6 harg6 arg7 harg7 arg18 x1 x2 x3 x4 x5) (kernelRun0_A.sl.v1139 c arg3 harg3 arg4 harg4 arg5 harg5 arg6 harg6 arg7 harg7 arg25 x1 x2 x3 x4 x5) (ix2 R k) = scF a b (2 * j + 1) (8 * 1 + (2 * (R / 128) + 1)) (R % 128) k :=
  scoreO_of (v1128 H) (v1129 H) (v1130 H) (v1131 H) (v1139 H hj) R k

include H hj in
theorem v1169 (r : Fin 128) (k : Fin 256) : (kernelRun0_A.sl.v1169 c arg3 harg3 arg4 harg4 arg5 harg5 arg6 harg6 arg7 harg7 arg18 arg25 arg29 x1 x2 x3 x4 x5) (ix2 r k) = scF a b (2 * j + 1) 9 r k :=
  scO_rd (sco4 H hj) _ (by decide) r k

include H hj in
theorem v1215 (r : Fin 128) (k : Fin 256) : (kernelRun0_A.sl.v1215 c arg3 harg3 arg4 harg4 arg5 harg5 arg6 harg6 arg7 harg7 arg18 arg25 arg29 x1 x2 x3 x4 x5) (ix2 r k) = scF a b (2 * j + 1) 11 r k :=
  scO_rd (sco4 H hj) _ (by decide) r k

include H hj in
theorem v1261 (r : Fin 128) (k : Fin 256) : (kernelRun0_A.sl.v1261 c arg3 harg3 arg4 harg4 arg5 harg5 arg6 harg6 arg7 harg7 arg18 arg25 arg29 x1 x2 x3 x4 x5) (ix2 r k) = scF a b (2 * j + 1) 13 r k :=
  scO_rd (sco4 H hj) _ (by decide) r k

include H hj in
theorem v1307 (r : Fin 128) (k : Fin 256) : (kernelRun0_A.sl.v1307 c arg3 harg3 arg4 harg4 arg5 harg5 arg6 harg6 arg7 harg7 arg18 arg25 arg29 x1 x2 x3 x4 x5) (ix2 r k) = scF a b (2 * j + 1) 15 r k :=
  scO_rd (sco4 H hj) _ (by decide) r k

include H hj in
theorem e4_8 (r : Fin 128) (k : Fin 256) : (k0_pay235 kernelRun0_A.sl.r_1 (kernelRun0_A.sl.r_26 c arg2 harg2 x0) (kernelRun0_A.sl.v1146 c arg3 harg3 arg4 harg4 arg5 harg5 arg6 harg6 arg7 harg7 arg18 arg24 arg28 x1 x2 x3 x4 x5)) (ix2 r k) = exF a b (2 * j + 1) 8 r k := by
  show k0_pay74 kernelRun0_A.sl.r_1 (kernelRun0_A.sl.r_26 c arg2 harg2 x0) (kernelRun0_A.sl.v1146 c arg3 harg3 arg4 harg4 arg5 harg5 arg6 harg6 arg7 harg7 arg18 arg24 arg28 x1 x2 x3 x4 x5) (ix2 r k) = _
  exact ex_of (r_1 (by omega)) (sk8 H) (v1146 H hj) r k

include H hj in
theorem d4_8 (r : Fin 128) : (kernelRun0_A.sl.r_65 c arg2 harg2 arg3 harg3 arg4 harg4 arg5 harg5 arg6 harg6 arg7 harg7 arg18 arg24 arg28 x0 x1 x2 x3 x4 x5) (ix2 r 0) = Ideal.div 1 (kden a b (128 * (2 * j + 1) + r) 8) := by
  show k0_pay75 kernelRun0_A.sl.r_1 (kernelRun0_A.sl.r_26 c arg2 harg2 x0) (kernelRun0_A.sl.v1146 c arg3 harg3 arg4 harg4 arg5 harg5 arg6 harg6 arg7 harg7 arg18 arg24 arg28 x1 x2 x3 x4 x5) (ix2 r 0) = _
  exact rden_of (r_1 (by omega)) (sk8 H) (v1146 H hj) r

include H hj in
theorem e4_10 (r : Fin 128) (k : Fin 256) : (k0_pay247 kernelRun0_A.sl.r_1 (kernelRun0_A.sl.r_30 c arg2 harg2 x0) (kernelRun0_A.sl.v1192 c arg3 harg3 arg4 harg4 arg5 harg5 arg6 harg6 arg7 harg7 arg18 arg24 arg28 x1 x2 x3 x4 x5)) (ix2 r k) = exF a b (2 * j + 1) 10 r k := by
  show k0_pay74 kernelRun0_A.sl.r_1 (kernelRun0_A.sl.r_30 c arg2 harg2 x0) (kernelRun0_A.sl.v1192 c arg3 harg3 arg4 harg4 arg5 harg5 arg6 harg6 arg7 harg7 arg18 arg24 arg28 x1 x2 x3 x4 x5) (ix2 r k) = _
  exact ex_of (r_1 (by omega)) (sk10 H) (v1192 H hj) r k

include H hj in
theorem d4_10 (r : Fin 128) : (kernelRun0_A.sl.r_69 c arg2 harg2 arg3 harg3 arg4 harg4 arg5 harg5 arg6 harg6 arg7 harg7 arg18 arg24 arg28 x0 x1 x2 x3 x4 x5) (ix2 r 0) = Ideal.div 1 (kden a b (128 * (2 * j + 1) + r) 10) := by
  show k0_pay75 kernelRun0_A.sl.r_1 (kernelRun0_A.sl.r_30 c arg2 harg2 x0) (kernelRun0_A.sl.v1192 c arg3 harg3 arg4 harg4 arg5 harg5 arg6 harg6 arg7 harg7 arg18 arg24 arg28 x1 x2 x3 x4 x5) (ix2 r 0) = _
  exact rden_of (r_1 (by omega)) (sk10 H) (v1192 H hj) r

include H hj in
theorem e4_12 (r : Fin 128) (k : Fin 256) : (k0_pay259 kernelRun0_A.sl.r_1 (kernelRun0_A.sl.r_37 c arg2 harg2 x0) (kernelRun0_A.sl.v1238 c arg3 harg3 arg4 harg4 arg5 harg5 arg6 harg6 arg7 harg7 arg18 arg24 arg28 x1 x2 x3 x4 x5)) (ix2 r k) = exF a b (2 * j + 1) 12 r k := by
  show k0_pay74 kernelRun0_A.sl.r_1 (kernelRun0_A.sl.r_37 c arg2 harg2 x0) (kernelRun0_A.sl.v1238 c arg3 harg3 arg4 harg4 arg5 harg5 arg6 harg6 arg7 harg7 arg18 arg24 arg28 x1 x2 x3 x4 x5) (ix2 r k) = _
  exact ex_of (r_1 (by omega)) (sk12 H) (v1238 H hj) r k

include H hj in
theorem d4_12 (r : Fin 128) : (kernelRun0_A.sl.r_75 c arg2 harg2 arg3 harg3 arg4 harg4 arg5 harg5 arg6 harg6 arg7 harg7 arg18 arg24 arg28 x0 x1 x2 x3 x4 x5) (ix2 r 0) = Ideal.div 1 (kden a b (128 * (2 * j + 1) + r) 12) := by
  show k0_pay75 kernelRun0_A.sl.r_1 (kernelRun0_A.sl.r_37 c arg2 harg2 x0) (kernelRun0_A.sl.v1238 c arg3 harg3 arg4 harg4 arg5 harg5 arg6 harg6 arg7 harg7 arg18 arg24 arg28 x1 x2 x3 x4 x5) (ix2 r 0) = _
  exact rden_of (r_1 (by omega)) (sk12 H) (v1238 H hj) r

include H hj in
theorem e4_14 (r : Fin 128) (k : Fin 256) : (k0_pay270 kernelRun0_A.sl.r_1 (kernelRun0_A.sl.r_43 c arg2 harg2 x0) (kernelRun0_A.sl.v1284 c arg3 harg3 arg4 harg4 arg5 harg5 arg6 harg6 arg7 harg7 arg18 arg24 arg28 x1 x2 x3 x4 x5)) (ix2 r k) = exF a b (2 * j + 1) 14 r k := by
  show k0_pay74 kernelRun0_A.sl.r_1 (kernelRun0_A.sl.r_43 c arg2 harg2 x0) (kernelRun0_A.sl.v1284 c arg3 harg3 arg4 harg4 arg5 harg5 arg6 harg6 arg7 harg7 arg18 arg24 arg28 x1 x2 x3 x4 x5) (ix2 r k) = _
  exact ex_of (r_1 (by omega)) (sk14 H) (v1284 H hj) r k

include H hj in
theorem d4_14 (r : Fin 128) : (kernelRun0_A.sl.r_80 c arg2 harg2 arg3 harg3 arg4 harg4 arg5 harg5 arg6 harg6 arg7 harg7 arg18 arg24 arg28 x0 x1 x2 x3 x4 x5) (ix2 r 0) = Ideal.div 1 (kden a b (128 * (2 * j + 1) + r) 14) := by
  show k0_pay75 kernelRun0_A.sl.r_1 (kernelRun0_A.sl.r_43 c arg2 harg2 x0) (kernelRun0_A.sl.v1284 c arg3 harg3 arg4 harg4 arg5 harg5 arg6 harg6 arg7 harg7 arg18 arg24 arg28 x1 x2 x3 x4 x5) (ix2 r 0) = _
  exact rden_of (r_1 (by omega)) (sk14 H) (v1284 H hj) r

include H hj in
theorem v1329 (R : Fin 512) (k : Fin 256) : (kernelRun0_A.sl.v1329 c i arg2 harg2 arg3 harg3 arg4 harg4 arg5 harg5 arg6 harg6 arg7 harg7 arg18 arg24 arg28 arg30 x0 x1 x2 x3 x4 x5) (ix2 R k) = exF a b (2 * j + 1) (8 * 1 + 2 * (R / 128)) (R % 128) k := by
  refine (rc2 (e := .bf16) (n0 := 512) (n1 := 256) (g := (fun R k => exF a b (2 * j + 1) (8 * 1 + 2 * (R / 128)) (R % 128) k)) (L1 := ((kernelRun0_A.sl.HS12_16 c i arg2 harg2 arg3 harg3 arg4 harg4 arg5 harg5 arg6 harg6 arg7 harg7 arg18 arg24 arg28 x0 x1 x2 x3 x4 x5)).take 4) (List.take_append_drop 4 _).symm ?_ _ ?_ R k).trans (by beta_reduce; congr 1 <;> omega)
  · refine pc2 512 256 384 0 128 256 (fun r l => ?_) ?_
    · exact (e4_14 H hj r l).trans (by beta_reduce; congr 1 <;> omega)
    refine pc2 512 256 256 0 128 256 (fun r l => ?_) ?_
    · exact (e4_12 H hj r l).trans (by beta_reduce; congr 1 <;> omega)
    refine pc2 512 256 128 0 128 256 (fun r l => ?_) ?_
    · exact (e4_10 H hj r l).trans (by beta_reduce; congr 1 <;> omega)
    refine pc2 512 256 0 0 128 256 (fun r l => ?_) ?_
    · exact (e4_8 H hj r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H hj in
theorem e4_9 (r : Fin 128) (k : Fin 256) : (k0_pay242 (kernelRun0_A.sl.r_67 c arg2 harg2 arg3 harg3 arg4 harg4 arg5 harg5 arg6 harg6 arg7 harg7 arg18 arg25 arg29 x0 x1 x2 x3 x4 x5)) (ix2 r k) = exF a b (2 * j + 1) 9 r k := by
  show k0_pay74 kernelRun0_A.sl.r_1 (kernelRun0_A.sl.r_29 c arg2 harg2 x0) (kernelRun0_A.sl.v1169 c arg3 harg3 arg4 harg4 arg5 harg5 arg6 harg6 arg7 harg7 arg18 arg25 arg29 x1 x2 x3 x4 x5) (ix2 r k) = _
  exact ex_of (r_1 (by omega)) (sk9 H) (v1169 H hj) r k

include H hj in
theorem d4_9 (r : Fin 128) : (kernelRun0_A.sl.r_68 c arg2 harg2 arg3 harg3 arg4 harg4 arg5 harg5 arg6 harg6 arg7 harg7 arg18 arg25 arg29 x0 x1 x2 x3 x4 x5) (ix2 r 0) = Ideal.div 1 (kden a b (128 * (2 * j + 1) + r) 9) := by
  show k0_pay75 kernelRun0_A.sl.r_1 (kernelRun0_A.sl.r_29 c arg2 harg2 x0) (kernelRun0_A.sl.v1169 c arg3 harg3 arg4 harg4 arg5 harg5 arg6 harg6 arg7 harg7 arg18 arg25 arg29 x1 x2 x3 x4 x5) (ix2 r 0) = _
  exact rden_of (r_1 (by omega)) (sk9 H) (v1169 H hj) r

include H hj in
theorem e4_11 (r : Fin 128) (k : Fin 256) : (k0_pay254 (kernelRun0_A.sl.r_71 c arg2 harg2 arg3 harg3 arg4 harg4 arg5 harg5 arg6 harg6 arg7 harg7 arg18 arg25 arg29 x0 x1 x2 x3 x4 x5)) (ix2 r k) = exF a b (2 * j + 1) 11 r k := by
  show k0_pay74 kernelRun0_A.sl.r_1 (kernelRun0_A.sl.r_36 c arg2 harg2 x0) (kernelRun0_A.sl.v1215 c arg3 harg3 arg4 harg4 arg5 harg5 arg6 harg6 arg7 harg7 arg18 arg25 arg29 x1 x2 x3 x4 x5) (ix2 r k) = _
  exact ex_of (r_1 (by omega)) (sk11 H) (v1215 H hj) r k

include H hj in
theorem d4_11 (r : Fin 128) : (kernelRun0_A.sl.r_74 c arg2 harg2 arg3 harg3 arg4 harg4 arg5 harg5 arg6 harg6 arg7 harg7 arg18 arg25 arg29 x0 x1 x2 x3 x4 x5) (ix2 r 0) = Ideal.div 1 (kden a b (128 * (2 * j + 1) + r) 11) := by
  show k0_pay75 kernelRun0_A.sl.r_1 (kernelRun0_A.sl.r_36 c arg2 harg2 x0) (kernelRun0_A.sl.v1215 c arg3 harg3 arg4 harg4 arg5 harg5 arg6 harg6 arg7 harg7 arg18 arg25 arg29 x1 x2 x3 x4 x5) (ix2 r 0) = _
  exact rden_of (r_1 (by omega)) (sk11 H) (v1215 H hj) r

include H hj in
theorem e4_13 (r : Fin 128) (k : Fin 256) : (k0_pay265 (kernelRun0_A.sl.r_76 c arg3 harg3 arg4 harg4 arg5 harg5 arg6 harg6 arg7 harg7 arg18 arg25 arg29 x1 x2 x3 x4 x5) (kernelRun0_A.sl.r_78 c arg2 harg2 arg3 harg3 arg4 harg4 arg5 harg5 arg6 harg6 arg7 harg7 arg18 arg25 arg29 x0 x1 x2 x3 x4 x5)) (ix2 r k) = exF a b (2 * j + 1) 13 r k := by
  show k0_pay74 kernelRun0_A.sl.r_1 (kernelRun0_A.sl.r_42 c arg2 harg2 x0) (kernelRun0_A.sl.v1261 c arg3 harg3 arg4 harg4 arg5 harg5 arg6 harg6 arg7 harg7 arg18 arg25 arg29 x1 x2 x3 x4 x5) (ix2 r k) = _
  exact ex_of (r_1 (by omega)) (sk13 H) (v1261 H hj) r k

include H hj in
theorem d4_13 (r : Fin 128) : (kernelRun0_A.sl.r_79 c arg2 harg2 arg3 harg3 arg4 harg4 arg5 harg5 arg6 harg6 arg7 harg7 arg18 arg25 arg29 x0 x1 x2 x3 x4 x5) (ix2 r 0) = Ideal.div 1 (kden a b (128 * (2 * j + 1) + r) 13) := by
  show k0_pay75 kernelRun0_A.sl.r_1 (kernelRun0_A.sl.r_42 c arg2 harg2 x0) (kernelRun0_A.sl.v1261 c arg3 harg3 arg4 harg4 arg5 harg5 arg6 harg6 arg7 harg7 arg18 arg25 arg29 x1 x2 x3 x4 x5) (ix2 r 0) = _
  exact rden_of (r_1 (by omega)) (sk13 H) (v1261 H hj) r

include H hj in
theorem e4_15 (r : Fin 128) (k : Fin 256) : (kernelRun0_A.sl.v1326 c arg2 harg2 arg3 harg3 arg4 harg4 arg5 harg5 arg6 harg6 arg7 harg7 arg18 arg25 arg29 x0 x1 x2 x3 x4 x5) (ix2 r k) = exF a b (2 * j + 1) 15 r k := by
  show k0_pay74 kernelRun0_A.sl.r_1 (kernelRun0_A.sl.r_47 c arg2 harg2 x0) (kernelRun0_A.sl.v1307 c arg3 harg3 arg4 harg4 arg5 harg5 arg6 harg6 arg7 harg7 arg18 arg25 arg29 x1 x2 x3 x4 x5) (ix2 r k) = _
  exact ex_of (r_1 (by omega)) (sk15 H) (v1307 H hj) r k

include H hj in
theorem d4_15 (r : Fin 128) : (kernelRun0_A.sl.v1328 c arg2 harg2 arg3 harg3 arg4 harg4 arg5 harg5 arg6 harg6 arg7 harg7 arg18 arg25 arg29 x0 x1 x2 x3 x4 x5) (ix2 r 0) = Ideal.div 1 (kden a b (128 * (2 * j + 1) + r) 15) := by
  show k0_pay75 kernelRun0_A.sl.r_1 (kernelRun0_A.sl.r_47 c arg2 harg2 x0) (kernelRun0_A.sl.v1307 c arg3 harg3 arg4 harg4 arg5 harg5 arg6 harg6 arg7 harg7 arg18 arg25 arg29 x1 x2 x3 x4 x5) (ix2 r 0) = _
  exact rden_of (r_1 (by omega)) (sk15 H) (v1307 H hj) r

include H hj in
theorem v1333 (R : Fin 512) (k : Fin 256) : (kernelRun0_A.sl.v1333 c i arg2 harg2 arg3 harg3 arg4 harg4 arg5 harg5 arg6 harg6 arg7 harg7 arg18 arg25 arg29 arg31 x0 x1 x2 x3 x4 x5) (ix2 R k) = exF a b (2 * j + 1) (8 * 1 + (2 * (R / 128) + 1)) (R % 128) k := by
  refine (rc2 (e := .bf16) (n0 := 512) (n1 := 256) (g := (fun R k => exF a b (2 * j + 1) (8 * 1 + (2 * (R / 128) + 1)) (R % 128) k)) (L1 := ((kernelRun0_A.sl.HS13_16 c i arg2 harg2 arg3 harg3 arg4 harg4 arg5 harg5 arg6 harg6 arg7 harg7 arg18 arg25 arg29 x0 x1 x2 x3 x4 x5)).take 4) (List.take_append_drop 4 _).symm ?_ _ ?_ R k).trans (by beta_reduce; congr 1 <;> omega)
  · refine pieces_mem (piece2 (g := (fun R k => exF a b (2 * j + 1) (8 * 1 + (2 * (R / 128) + 1)) (R % 128) k)) (e := .bf16) (n0 := 512) (n1 := 256) (o0 := 384) (o1 := 0) (m0 := 128) (m1 := 256) (inb := by decide) fun r l => ?_) ?_
    · exact (e4_15 H hj r l).trans (by beta_reduce; congr 1 <;> omega)
    refine pieces_mem (piece2 (g := (fun R k => exF a b (2 * j + 1) (8 * 1 + (2 * (R / 128) + 1)) (R % 128) k)) (e := .bf16) (n0 := 512) (n1 := 256) (o0 := 256) (o1 := 0) (m0 := 128) (m1 := 256) (inb := by decide) fun r l => ?_) ?_
    · exact (e4_13 H hj r l).trans (by beta_reduce; congr 1 <;> omega)
    refine pieces_mem (piece2 (g := (fun R k => exF a b (2 * j + 1) (8 * 1 + (2 * (R / 128) + 1)) (R % 128) k)) (e := .bf16) (n0 := 512) (n1 := 256) (o0 := 128) (o1 := 0) (m0 := 128) (m1 := 256) (inb := by decide) fun r l => ?_) ?_
    · exact (e4_11 H hj r l).trans (by beta_reduce; congr 1 <;> omega)
    refine pieces_mem (piece2 (g := (fun R k => exF a b (2 * j + 1) (8 * 1 + (2 * (R / 128) + 1)) (R % 128) k)) (e := .bf16) (n0 := 512) (n1 := 256) (o0 := 0) (o1 := 0) (m0 := 128) (m1 := 256) (inb := by decide) fun r l => ?_) ?_
    · exact (e4_9 H hj r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H hj in
theorem v1337 (R : Fin 512) (l : Fin 128) : (kernelRun0_A.sl.v1337 c i arg2 harg2 arg3 harg3 arg4 harg4 arg5 harg5 arg6 harg6 arg7 harg7 arg18 arg24 arg25 arg26 arg27 arg28 arg29 arg30 arg31 x0 x1 x2 x3 x4 x5) (ix2 R l) =
    ∑ k : Fin 256, exF a b (2 * j + 1) (8 * 1 + 2 * (R / 128) + l / 64) (R % 128) k * VH a b (128 * (2 * j + 1) + k) 1 (l % 64) := by
  show k0_pay112 (kernelRun0_A.sl.v1329 c i arg2 harg2 arg3 harg3 arg4 harg4 arg5 harg5 arg6 harg6 arg7 harg7 arg18 arg24 arg28 arg30 x0 x1 x2 x3 x4 x5) (kernelRun0_A.sl.v1330 c arg3 harg3 arg6 harg6 arg7 harg7 arg26 x1 x4 x5) (kernelRun0_A.sl.v1333 c i arg2 harg2 arg3 harg3 arg4 harg4 arg5 harg5 arg6 harg6 arg7 harg7 arg18 arg25 arg29 arg31 x0 x1 x2 x3 x4 x5) (kernelRun0_A.sl.v1334 c arg3 harg3 arg6 harg6 arg7 harg7 arg27 x1 x4 x5) (ix2 R l) = _
  exact wv_of (v1329 H hj) (v1333 H hj) (v1330 H hj) (v1334 H hj) R l

include H in
theorem v1345 (r l : Fin 128) : (kernelRun0_A.sl.v1345 c arg3 harg3 arg6 harg6 arg7 harg7 arg19 x1 x4 x5) (ix2 r l) = PJ a b (128 * (2 * j + 1) + r) (1280 + (128 * (4 * 1 + 0) + l)) :=
  (rcm (hs1 H) _ mh (by decide) r l).trans (by beta_reduce; congr 1 <;> omega)

include H hj fa in
theorem v1352 (r l : Fin 128) : (kernelRun0_A.sl.v1352 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 1) + r) (128 * (4 * 1 + 0) + l) := by
  show ainV 0 slices_S512x128_o0_0_S128x128 (cmpi .slt kernelRun0_A.sl.v64 kernelRun0_A.sl.v65) (kernelRun0_A.sl.r_65 c arg2 harg2 arg3 harg3 arg4 harg4 arg5 harg5 arg6 harg6 arg7 harg7 arg18 arg24 arg28 x0 x1 x2 x3 x4 x5) (kernelRun0_A.sl.r_68 c arg2 harg2 arg3 harg3 arg4 harg4 arg5 harg5 arg6 harg6 arg7 harg7 arg18 arg25 arg29 x0 x1 x2 x3 x4 x5) (kernelRun0_A.sl.v1337 c i arg2 harg2 arg3 harg3 arg4 harg4 arg5 harg5 arg6 harg6 arg7 harg7 arg18 arg24 arg25 arg26 arg27 arg28 arg29 arg30 arg31 x0 x1 x2 x3 x4 x5) (kernelRun0_A.sl.v1345 c arg3 harg3 arg6 harg6 arg7 harg7 arg19 x1 x4 x5) (ix2 r l) = _
  exact ainV_of (m := (2 * j + 1)) (g := 1) (p := 0) (by omega) (by omega) lo128 (d4_8 H hj) (d4_9 H hj) (v1337 H hj) (v1345 H) fa r l

include H in
theorem v1360 (r l : Fin 128) : (kernelRun0_A.sl.v1360 c arg3 harg3 arg6 harg6 arg7 harg7 arg19 x1 x4 x5) (ix2 r l) = PJ a b (128 * (2 * j + 1) + r) (1280 + (128 * (4 * 1 + 1) + l)) :=
  (rcm (hs1 H) _ mh (by decide) r l).trans (by beta_reduce; congr 1 <;> omega)

include H hj fa in
theorem v1367 (r l : Fin 128) : (kernelRun0_A.sl.v1367 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 1) + r) (128 * (4 * 1 + 1) + l) := by
  show ainV 128 slices_S512x128_o128_0_S128x128 (cmpi .slt kernelRun0_A.sl.v64 kernelRun0_A.sl.v65) (kernelRun0_A.sl.r_69 c arg2 harg2 arg3 harg3 arg4 harg4 arg5 harg5 arg6 harg6 arg7 harg7 arg18 arg24 arg28 x0 x1 x2 x3 x4 x5) (kernelRun0_A.sl.r_74 c arg2 harg2 arg3 harg3 arg4 harg4 arg5 harg5 arg6 harg6 arg7 harg7 arg18 arg25 arg29 x0 x1 x2 x3 x4 x5) (kernelRun0_A.sl.v1337 c i arg2 harg2 arg3 harg3 arg4 harg4 arg5 harg5 arg6 harg6 arg7 harg7 arg18 arg24 arg25 arg26 arg27 arg28 arg29 arg30 arg31 x0 x1 x2 x3 x4 x5) (kernelRun0_A.sl.v1360 c arg3 harg3 arg6 harg6 arg7 harg7 arg19 x1 x4 x5) (ix2 r l) = _
  exact ainV_of (m := (2 * j + 1)) (g := 1) (p := 1) (by omega) (by omega) lo128 (d4_10 H hj) (d4_11 H hj) (v1337 H hj) (v1360 H) fa r l

include H in
theorem v1375 (r l : Fin 128) : (kernelRun0_A.sl.v1375 c arg3 harg3 arg6 harg6 arg7 harg7 arg19 x1 x4 x5) (ix2 r l) = PJ a b (128 * (2 * j + 1) + r) (1280 + (128 * (4 * 1 + 2) + l)) :=
  (rcm (hs1 H) _ mh (by decide) r l).trans (by beta_reduce; congr 1 <;> omega)

include H hj fa in
theorem v1382 (r l : Fin 128) : (kernelRun0_A.sl.v1382 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 1) + r) (128 * (4 * 1 + 2) + l) := by
  show ainV 256 slices_S512x128_o256_0_S128x128 (cmpi .slt kernelRun0_A.sl.v64 kernelRun0_A.sl.v65) (kernelRun0_A.sl.r_75 c arg2 harg2 arg3 harg3 arg4 harg4 arg5 harg5 arg6 harg6 arg7 harg7 arg18 arg24 arg28 x0 x1 x2 x3 x4 x5) (kernelRun0_A.sl.r_79 c arg2 harg2 arg3 harg3 arg4 harg4 arg5 harg5 arg6 harg6 arg7 harg7 arg18 arg25 arg29 x0 x1 x2 x3 x4 x5) (kernelRun0_A.sl.v1337 c i arg2 harg2 arg3 harg3 arg4 harg4 arg5 harg5 arg6 harg6 arg7 harg7 arg18 arg24 arg25 arg26 arg27 arg28 arg29 arg30 arg31 x0 x1 x2 x3 x4 x5) (kernelRun0_A.sl.v1375 c arg3 harg3 arg6 harg6 arg7 harg7 arg19 x1 x4 x5) (ix2 r l) = _
  exact ainV_of (m := (2 * j + 1)) (g := 1) (p := 2) (by omega) (by omega) lo128 (d4_12 H hj) (d4_13 H hj) (v1337 H hj) (v1375 H) fa r l

include H in
theorem v1390 (r l : Fin 128) : (kernelRun0_A.sl.v1390 c arg3 harg3 arg6 harg6 arg7 harg7 arg19 x1 x4 x5) (ix2 r l) = PJ a b (128 * (2 * j + 1) + r) (1280 + (128 * (4 * 1 + 3) + l)) :=
  (rcm (hs1 H) _ mh (by decide) r l).trans (by beta_reduce; congr 1 <;> omega)

include H hj fa in
theorem v1397 (r l : Fin 128) : (kernelRun0_A.sl.v1397 c i arg2 harg2 arg3 harg3 arg4 harg4 arg5 harg5 arg6 harg6 arg7 harg7 arg18 arg19 arg24 arg25 arg26 arg27 arg28 arg29 arg30 arg31 x0 x1 x2 x3 x4 x5) (ix2 r l) = AIN a b (128 * (2 * j + 1) + r) (128 * (4 * 1 + 3) + l) := by
  show ainV 384 slices_S512x128_o384_0_S128x128 (cmpi .slt kernelRun0_A.sl.v64 kernelRun0_A.sl.v65) (kernelRun0_A.sl.r_80 c arg2 harg2 arg3 harg3 arg4 harg4 arg5 harg5 arg6 harg6 arg7 harg7 arg18 arg24 arg28 x0 x1 x2 x3 x4 x5) (kernelRun0_A.sl.v1328 c arg2 harg2 arg3 harg3 arg4 harg4 arg5 harg5 arg6 harg6 arg7 harg7 arg18 arg25 arg29 x0 x1 x2 x3 x4 x5) (kernelRun0_A.sl.v1337 c i arg2 harg2 arg3 harg3 arg4 harg4 arg5 harg5 arg6 harg6 arg7 harg7 arg18 arg24 arg25 arg26 arg27 arg28 arg29 arg30 arg31 x0 x1 x2 x3 x4 x5) (kernelRun0_A.sl.v1390 c arg3 harg3 arg6 harg6 arg7 harg7 arg19 x1 x4 x5) (ix2 r l) = _
  exact ainV_of (m := (2 * j + 1)) (g := 1) (p := 3) (by omega) (by omega) lo128 (d4_14 H hj) (d4_15 H hj) (v1337 H hj) (v1390 H) fa r l

end Cert.PtA

end
-- ==== Proof.PtA7.lean ====
/- Grid points of case A: the spatial gating branch. -/
module

public import proofs.«01_k».proof.Proof.PtA2

@[expose] public section

set_option maxRecDepth 16384
set_option maxHeartbeats 1000000

noncomputable section

namespace Cert.PtA

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg3 : Memref sig .tc .vmem S1x256x1024 .f32} {arg6 arg11 arg12 : Memref sig .tc .vmem S1x1024 .f32} {arg7 : Memref sig .tc .vmem S1024x7424 .bf16}
  {arg9 : Memref sig .tc .vmem S8x128x128 .f32} {arg10 : Memref sig .tc .vmem S128x1024 .f32}
  {arg20 arg21 arg22 : Memref sig .tc .vmem S256x1024 .f32} {harg3 : arg3.IsWhole} {harg6 : arg6.IsWhole} {harg7 : arg7.IsWhole}
  {harg9 : arg9.IsWhole} {harg10 : arg10.IsWhole} {harg11 : arg11.IsWhole} {harg12 : arg12.IsWhole} {x0 : Vec Ideal S16 .f32}
  {x1 : Vec Ideal S1x256x1024 .f32} {x2 x3 : Vec Ideal S256x128 .f32} {x4 x9 x10 x14 : Vec Ideal S1x1024 .f32} {x5 : Vec Ideal S1024x7424 .bf16}
  {x6 : Vec Ideal S1x2048 .f32} {x7 : Vec Ideal S8x128x128 .f32} {x8 : Vec Ideal S128x1024 .f32} {x11 x12 x13 : Vec Ideal S1024x1024 .bf16}

variable (H : Blk a b j x0 x1 x2 x3 x4 x5 x6 x7 x8 x9 x10 x11 x12 x13 x14)

include H in
theorem v1493 (r l : Fin 128) : (kernelRun0_A.sl.v1493 c arg9 harg9 x7) (ix2 r l) = wm a 0 r l :=
  wm_of causal (fun r l => (rd3 harg9 (g := fun g i j => a.sgw g i j) H.h7 _ 0 r l).trans (by beta_reduce; congr 1 <;> omega)) r l

include H in
theorem v1498 (r l : Fin 128) : (kernelRun0_A.sl.v1498 c arg9 harg9 x7) (ix2 r l) = wm a 1 r l :=
  wm_of causal (fun r l => (rd3 harg9 (g := fun g i j => a.sgw g i j) H.h7 _ 0 r l).trans (by beta_reduce; congr 1 <;> omega)) r l

include H in
theorem v1503 (r l : Fin 128) : (kernelRun0_A.sl.v1503 c arg9 harg9 x7) (ix2 r l) = wm a 2 r l :=
  wm_of causal (fun r l => (rd3 harg9 (g := fun g i j => a.sgw g i j) H.h7 _ 0 r l).trans (by beta_reduce; congr 1 <;> omega)) r l

include H in
theorem v1508 (r l : Fin 128) : (kernelRun0_A.sl.v1508 c arg9 harg9 x7) (ix2 r l) = wm a 3 r l :=
  wm_of causal (fun r l => (rd3 harg9 (g := fun g i j => a.sgw g i j) H.h7 _ 0 r l).trans (by beta_reduce; congr 1 <;> omega)) r l

include H in
theorem v1513 (r l : Fin 128) : (kernelRun0_A.sl.v1513 c arg9 harg9 x7) (ix2 r l) = wm a 4 r l :=
  wm_of causal (fun r l => (rd3 harg9 (g := fun g i j => a.sgw g i j) H.h7 _ 0 r l).trans (by beta_reduce; congr 1 <;> omega)) r l

include H in
theorem v1518 (r l : Fin 128) : (kernelRun0_A.sl.v1518 c arg9 harg9 x7) (ix2 r l) = wm a 5 r l :=
  wm_of causal (fun r l => (rd3 harg9 (g := fun g i j => a.sgw g i j) H.h7 _ 0 r l).trans (by beta_reduce; congr 1 <;> omega)) r l

include H in
theorem v1523 (r l : Fin 128) : (kernelRun0_A.sl.v1523 c arg9 harg9 x7) (ix2 r l) = wm a 6 r l :=
  wm_of causal (fun r l => (rd3 harg9 (g := fun g i j => a.sgw g i j) H.h7 _ 0 r l).trans (by beta_reduce; congr 1 <;> omega)) r l

include H in
theorem v1528 (r l : Fin 128) : (kernelRun0_A.sl.v1528 c arg9 harg9 x7) (ix2 r l) = wm a 7 r l :=
  wm_of causal (fun r l => (rd3 harg9 (g := fun g i j => a.sgw g i j) H.h7 _ 0 r l).trans (by beta_reduce; congr 1 <;> omega)) r l

include H in
theorem v1529 (r : Fin 128) (l : Fin 1024) : (kernelRun0_A.sl.v1529 c arg3 harg3 arg6 harg6 arg7 harg7 arg21 x1 x4 x5) (ix2 r l) = PJ a b (128 * (2 * j + 0) + r) (3328 + l) :=
  (rcm (hs3 H) _ mh (by decide) r l).trans (by beta_reduce; congr 1 <;> omega)

include H in
theorem v1562 (r : Fin 128) (q : Fin 1024) : (kernelRun0_A.sl.v1562 c arg3 harg3 arg6 harg6 arg7 harg7 arg11 harg11 arg12 harg12 arg21 x1 x4 x5 x9 x10) (ix2 r q) = VN a b (128 * (2 * j + 0) + r) q :=
  vn_of (v1529 H) (fun c => (rd2 harg11 (g := fun _ c => a.lng c) H.h9 _ 0 c).trans (by beta_reduce; congr 1 <;> omega)) (fun c => (rd2 harg12 (g := fun _ c => a.lnb c) H.h10 _ 0 c).trans (by beta_reduce; congr 1 <;> omega)) r q

include H in
theorem v1568 (r : Fin 128) (l : Fin 128) : (kernelRun0_A.sl.v1568 c arg3 harg3 arg6 harg6 arg7 harg7 arg20 x1 x4 x5) (ix2 r l) = PJ a b (128 * (2 * j + 0) + r) (2304 + (128 * 0 + l)) :=
  (rcm (hs2 H) _ mh (by decide) r l).trans (by beta_reduce; congr 1 <;> omega)

include H in
theorem v1578 (r : Fin 128) (l : Fin 128) : (kernelRun0_A.sl.v1578 c arg3 harg3 arg6 harg6 arg7 harg7 arg22 x1 x4 x5) (ix2 r l) = PJ a b (128 * (2 * j + 0) + r) (4352 + (128 * 0 + l)) :=
  (rcm (hs4 H) _ mh (by decide) r l).trans (by beta_reduce; congr 1 <;> omega)

include H in
theorem v1585 (r l : Fin 128) : (kernelRun0_A.sl.v1585 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 0 + l) := by
  show sinV 0 slices_S128x1024_o0_0_S128x128 (kernelRun0_A.sl.v1493 c arg9 harg9 x7) (kernelRun0_A.sl.v1562 c arg3 harg3 arg6 harg6 arg7 harg7 arg11 harg11 arg12 harg12 arg21 x1 x4 x5 x9 x10) (View.readAt (Elt Ideal) arg10.view (Rect.unit (s := S128x1024) ![0, 0] S128x128.size (by decide)).toLoadRect (harg10.unread x8)) (kernelRun0_A.sl.v1568 c arg3 harg3 arg6 harg6 arg7 harg7 arg20 x1 x4 x5) (kernelRun0_A.sl.v1578 c arg3 harg3 arg6 harg6 arg7 harg7 arg22 x1 x4 x5) (ix2 r l) = _
  exact sinV_of (m := 2 * j + 0) (g := 0) (by omega) (v1493 H) (v1562 H) (fun i j => (rd2 harg10 (g := fun i c => a.sgb (c / 128) i) H.h8 _ i j).trans (by beta_reduce; congr 1 <;> omega)) (v1568 H) (v1578 H) r l

include H in
theorem v1591 (r : Fin 128) (l : Fin 128) : (kernelRun0_A.sl.v1591 c arg3 harg3 arg6 harg6 arg7 harg7 arg20 x1 x4 x5) (ix2 r l) = PJ a b (128 * (2 * j + 0) + r) (2304 + (128 * 1 + l)) :=
  (rcm (hs2 H) _ mh (by decide) r l).trans (by beta_reduce; congr 1 <;> omega)

include H in
theorem v1601 (r : Fin 128) (l : Fin 128) : (kernelRun0_A.sl.v1601 c arg3 harg3 arg6 harg6 arg7 harg7 arg22 x1 x4 x5) (ix2 r l) = PJ a b (128 * (2 * j + 0) + r) (4352 + (128 * 1 + l)) :=
  (rcm (hs4 H) _ mh (by decide) r l).trans (by beta_reduce; congr 1 <;> omega)

include H in
theorem v1608 (r l : Fin 128) : (kernelRun0_A.sl.v1608 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 1 + l) := by
  show sinV 128 slices_S128x1024_o0_128_S128x128 (kernelRun0_A.sl.v1498 c arg9 harg9 x7) (kernelRun0_A.sl.v1562 c arg3 harg3 arg6 harg6 arg7 harg7 arg11 harg11 arg12 harg12 arg21 x1 x4 x5 x9 x10) (View.readAt (Elt Ideal) arg10.view (Rect.unit (s := S128x1024) ![0, 128] S128x128.size (by decide)).toLoadRect (harg10.unread x8)) (kernelRun0_A.sl.v1591 c arg3 harg3 arg6 harg6 arg7 harg7 arg20 x1 x4 x5) (kernelRun0_A.sl.v1601 c arg3 harg3 arg6 harg6 arg7 harg7 arg22 x1 x4 x5) (ix2 r l) = _
  exact sinV_of (m := 2 * j + 0) (g := 1) (by omega) (v1498 H) (v1562 H) (fun i j => (rd2 harg10 (g := fun i c => a.sgb (c / 128) i) H.h8 _ i j).trans (by beta_reduce; congr 1 <;> omega)) (v1591 H) (v1601 H) r l

include H in
theorem v1614 (r : Fin 128) (l : Fin 128) : (kernelRun0_A.sl.v1614 c arg3 harg3 arg6 harg6 arg7 harg7 arg20 x1 x4 x5) (ix2 r l) = PJ a b (128 * (2 * j + 0) + r) (2304 + (128 * 2 + l)) :=
  (rcm (hs2 H) _ mh (by decide) r l).trans (by beta_reduce; congr 1 <;> omega)

include H in
theorem v1624 (r : Fin 128) (l : Fin 128) : (kernelRun0_A.sl.v1624 c arg3 harg3 arg6 harg6 arg7 harg7 arg22 x1 x4 x5) (ix2 r l) = PJ a b (128 * (2 * j + 0) + r) (4352 + (128 * 2 + l)) :=
  (rcm (hs4 H) _ mh (by decide) r l).trans (by beta_reduce; congr 1 <;> omega)

include H in
theorem v1631 (r l : Fin 128) : (kernelRun0_A.sl.v1631 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 2 + l) := by
  show sinV 256 slices_S128x1024_o0_256_S128x128 (kernelRun0_A.sl.v1503 c arg9 harg9 x7) (kernelRun0_A.sl.v1562 c arg3 harg3 arg6 harg6 arg7 harg7 arg11 harg11 arg12 harg12 arg21 x1 x4 x5 x9 x10) (View.readAt (Elt Ideal) arg10.view (Rect.unit (s := S128x1024) ![0, 256] S128x128.size (by decide)).toLoadRect (harg10.unread x8)) (kernelRun0_A.sl.v1614 c arg3 harg3 arg6 harg6 arg7 harg7 arg20 x1 x4 x5) (kernelRun0_A.sl.v1624 c arg3 harg3 arg6 harg6 arg7 harg7 arg22 x1 x4 x5) (ix2 r l) = _
  exact sinV_of (m := 2 * j + 0) (g := 2) (by omega) (v1503 H) (v1562 H) (fun i j => (rd2 harg10 (g := fun i c => a.sgb (c / 128) i) H.h8 _ i j).trans (by beta_reduce; congr 1 <;> omega)) (v1614 H) (v1624 H) r l

include H in
theorem v1637 (r : Fin 128) (l : Fin 128) : (kernelRun0_A.sl.v1637 c arg3 harg3 arg6 harg6 arg7 harg7 arg20 x1 x4 x5) (ix2 r l) = PJ a b (128 * (2 * j + 0) + r) (2304 + (128 * 3 + l)) :=
  (rcm (hs2 H) _ mh (by decide) r l).trans (by beta_reduce; congr 1 <;> omega)

include H in
theorem v1647 (r : Fin 128) (l : Fin 128) : (kernelRun0_A.sl.v1647 c arg3 harg3 arg6 harg6 arg7 harg7 arg22 x1 x4 x5) (ix2 r l) = PJ a b (128 * (2 * j + 0) + r) (4352 + (128 * 3 + l)) :=
  (rcm (hs4 H) _ mh (by decide) r l).trans (by beta_reduce; congr 1 <;> omega)

include H in
theorem v1654 (r l : Fin 128) : (kernelRun0_A.sl.v1654 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 3 + l) := by
  show sinV 384 slices_S128x1024_o0_384_S128x128 (kernelRun0_A.sl.v1508 c arg9 harg9 x7) (kernelRun0_A.sl.v1562 c arg3 harg3 arg6 harg6 arg7 harg7 arg11 harg11 arg12 harg12 arg21 x1 x4 x5 x9 x10) (View.readAt (Elt Ideal) arg10.view (Rect.unit (s := S128x1024) ![0, 384] S128x128.size (by decide)).toLoadRect (harg10.unread x8)) (kernelRun0_A.sl.v1637 c arg3 harg3 arg6 harg6 arg7 harg7 arg20 x1 x4 x5) (kernelRun0_A.sl.v1647 c arg3 harg3 arg6 harg6 arg7 harg7 arg22 x1 x4 x5) (ix2 r l) = _
  exact sinV_of (m := 2 * j + 0) (g := 3) (by omega) (v1508 H) (v1562 H) (fun i j => (rd2 harg10 (g := fun i c => a.sgb (c / 128) i) H.h8 _ i j).trans (by beta_reduce; congr 1 <;> omega)) (v1637 H) (v1647 H) r l

include H in
theorem v1660 (r : Fin 128) (l : Fin 128) : (kernelRun0_A.sl.v1660 c arg3 harg3 arg6 harg6 arg7 harg7 arg20 x1 x4 x5) (ix2 r l) = PJ a b (128 * (2 * j + 0) + r) (2304 + (128 * 4 + l)) :=
  (rcm (hs2 H) _ mh (by decide) r l).trans (by beta_reduce; congr 1 <;> omega)

include H in
theorem v1670 (r : Fin 128) (l : Fin 128) : (kernelRun0_A.sl.v1670 c arg3 harg3 arg6 harg6 arg7 harg7 arg22 x1 x4 x5) (ix2 r l) = PJ a b (128 * (2 * j + 0) + r) (4352 + (128 * 4 + l)) :=
  (rcm (hs4 H) _ mh (by decide) r l).trans (by beta_reduce; congr 1 <;> omega)

include H in
theorem v1677 (r l : Fin 128) : (kernelRun0_A.sl.v1677 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 4 + l) := by
  show sinV 512 slices_S128x1024_o0_512_S128x128 (kernelRun0_A.sl.v1513 c arg9 harg9 x7) (kernelRun0_A.sl.v1562 c arg3 harg3 arg6 harg6 arg7 harg7 arg11 harg11 arg12 harg12 arg21 x1 x4 x5 x9 x10) (View.readAt (Elt Ideal) arg10.view (Rect.unit (s := S128x1024) ![0, 512] S128x128.size (by decide)).toLoadRect (harg10.unread x8)) (kernelRun0_A.sl.v1660 c arg3 harg3 arg6 harg6 arg7 harg7 arg20 x1 x4 x5) (kernelRun0_A.sl.v1670 c arg3 harg3 arg6 harg6 arg7 harg7 arg22 x1 x4 x5) (ix2 r l) = _
  exact sinV_of (m := 2 * j + 0) (g := 4) (by omega) (v1513 H) (v1562 H) (fun i j => (rd2 harg10 (g := fun i c => a.sgb (c / 128) i) H.h8 _ i j).trans (by beta_reduce; congr 1 <;> omega)) (v1660 H) (v1670 H) r l

include H in
theorem v1683 (r : Fin 128) (l : Fin 128) : (kernelRun0_A.sl.v1683 c arg3 harg3 arg6 harg6 arg7 harg7 arg20 x1 x4 x5) (ix2 r l) = PJ a b (128 * (2 * j + 0) + r) (2304 + (128 * 5 + l)) :=
  (rcm (hs2 H) _ mh (by decide) r l).trans (by beta_reduce; congr 1 <;> omega)

include H in
theorem v1693 (r : Fin 128) (l : Fin 128) : (kernelRun0_A.sl.v1693 c arg3 harg3 arg6 harg6 arg7 harg7 arg22 x1 x4 x5) (ix2 r l) = PJ a b (128 * (2 * j + 0) + r) (4352 + (128 * 5 + l)) :=
  (rcm (hs4 H) _ mh (by decide) r l).trans (by beta_reduce; congr 1 <;> omega)

include H in
theorem v1700 (r l : Fin 128) : (kernelRun0_A.sl.v1700 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 5 + l) := by
  show sinV 640 slices_S128x1024_o0_640_S128x128 (kernelRun0_A.sl.v1518 c arg9 harg9 x7) (kernelRun0_A.sl.v1562 c arg3 harg3 arg6 harg6 arg7 harg7 arg11 harg11 arg12 harg12 arg21 x1 x4 x5 x9 x10) (View.readAt (Elt Ideal) arg10.view (Rect.unit (s := S128x1024) ![0, 640] S128x128.size (by decide)).toLoadRect (harg10.unread x8)) (kernelRun0_A.sl.v1683 c arg3 harg3 arg6 harg6 arg7 harg7 arg20 x1 x4 x5) (kernelRun0_A.sl.v1693 c arg3 harg3 arg6 harg6 arg7 harg7 arg22 x1 x4 x5) (ix2 r l) = _
  exact sinV_of (m := 2 * j + 0) (g := 5) (by omega) (v1518 H) (v1562 H) (fun i j => (rd2 harg10 (g := fun i c => a.sgb (c / 128) i) H.h8 _ i j).trans (by beta_reduce; congr 1 <;> omega)) (v1683 H) (v1693 H) r l

include H in
theorem v1706 (r : Fin 128) (l : Fin 128) : (kernelRun0_A.sl.v1706 c arg3 harg3 arg6 harg6 arg7 harg7 arg20 x1 x4 x5) (ix2 r l) = PJ a b (128 * (2 * j + 0) + r) (2304 + (128 * 6 + l)) :=
  (rcm (hs2 H) _ mh (by decide) r l).trans (by beta_reduce; congr 1 <;> omega)

include H in
theorem v1716 (r : Fin 128) (l : Fin 128) : (kernelRun0_A.sl.v1716 c arg3 harg3 arg6 harg6 arg7 harg7 arg22 x1 x4 x5) (ix2 r l) = PJ a b (128 * (2 * j + 0) + r) (4352 + (128 * 6 + l)) :=
  (rcm (hs4 H) _ mh (by decide) r l).trans (by beta_reduce; congr 1 <;> omega)

include H in
theorem v1723 (r l : Fin 128) : (kernelRun0_A.sl.v1723 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 6 + l) := by
  show sinV 768 slices_S128x1024_o0_768_S128x128 (kernelRun0_A.sl.v1523 c arg9 harg9 x7) (kernelRun0_A.sl.v1562 c arg3 harg3 arg6 harg6 arg7 harg7 arg11 harg11 arg12 harg12 arg21 x1 x4 x5 x9 x10) (View.readAt (Elt Ideal) arg10.view (Rect.unit (s := S128x1024) ![0, 768] S128x128.size (by decide)).toLoadRect (harg10.unread x8)) (kernelRun0_A.sl.v1706 c arg3 harg3 arg6 harg6 arg7 harg7 arg20 x1 x4 x5) (kernelRun0_A.sl.v1716 c arg3 harg3 arg6 harg6 arg7 harg7 arg22 x1 x4 x5) (ix2 r l) = _
  exact sinV_of (m := 2 * j + 0) (g := 6) (by omega) (v1523 H) (v1562 H) (fun i j => (rd2 harg10 (g := fun i c => a.sgb (c / 128) i) H.h8 _ i j).trans (by beta_reduce; congr 1 <;> omega)) (v1706 H) (v1716 H) r l

include H in
theorem v1729 (r : Fin 128) (l : Fin 128) : (kernelRun0_A.sl.v1729 c arg3 harg3 arg6 harg6 arg7 harg7 arg20 x1 x4 x5) (ix2 r l) = PJ a b (128 * (2 * j + 0) + r) (2304 + (128 * 7 + l)) :=
  (rcm (hs2 H) _ mh (by decide) r l).trans (by beta_reduce; congr 1 <;> omega)

include H in
theorem v1739 (r : Fin 128) (l : Fin 128) : (kernelRun0_A.sl.v1739 c arg3 harg3 arg6 harg6 arg7 harg7 arg22 x1 x4 x5) (ix2 r l) = PJ a b (128 * (2 * j + 0) + r) (4352 + (128 * 7 + l)) :=
  (rcm (hs4 H) _ mh (by decide) r l).trans (by beta_reduce; congr 1 <;> omega)

include H in
theorem v1746 (r l : Fin 128) : (kernelRun0_A.sl.v1746 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 7 + l) := by
  show sinV 896 slices_S128x1024_o0_896_S128x128 (kernelRun0_A.sl.v1528 c arg9 harg9 x7) (kernelRun0_A.sl.v1562 c arg3 harg3 arg6 harg6 arg7 harg7 arg11 harg11 arg12 harg12 arg21 x1 x4 x5 x9 x10) (View.readAt (Elt Ideal) arg10.view (Rect.unit (s := S128x1024) ![0, 896] S128x128.size (by decide)).toLoadRect (harg10.unread x8)) (kernelRun0_A.sl.v1729 c arg3 harg3 arg6 harg6 arg7 harg7 arg20 x1 x4 x5) (kernelRun0_A.sl.v1739 c arg3 harg3 arg6 harg6 arg7 harg7 arg22 x1 x4 x5) (ix2 r l) = _
  exact sinV_of (m := 2 * j + 0) (g := 7) (by omega) (v1528 H) (v1562 H) (fun i j => (rd2 harg10 (g := fun i c => a.sgb (c / 128) i) H.h8 _ i j).trans (by beta_reduce; congr 1 <;> omega)) (v1729 H) (v1739 H) r l

include H in
theorem v1747 (r : Fin 128) (l : Fin 1024) : (kernelRun0_A.sl.v1747 c arg3 harg3 arg6 harg6 arg7 harg7 arg21 x1 x4 x5) (ix2 r l) = PJ a b (128 * (2 * j + 1) + r) (3328 + l) :=
  (rcm (hs3 H) _ mh (by decide) r l).trans (by beta_reduce; congr 1 <;> omega)

include H in
theorem v1780 (r : Fin 128) (q : Fin 1024) : (kernelRun0_A.sl.v1780 c arg3 harg3 arg6 harg6 arg7 harg7 arg11 harg11 arg12 harg12 arg21 x1 x4 x5 x9 x10) (ix2 r q) = VN a b (128 * (2 * j + 1) + r) q :=
  vn_of (v1747 H) (fun c => (rd2 harg11 (g := fun _ c => a.lng c) H.h9 _ 0 c).trans (by beta_reduce; congr 1 <;> omega)) (fun c => (rd2 harg12 (g := fun _ c => a.lnb c) H.h10 _ 0 c).trans (by beta_reduce; congr 1 <;> omega)) r q

include H in
theorem v1786 (r : Fin 128) (l : Fin 128) : (kernelRun0_A.sl.v1786 c arg3 harg3 arg6 harg6 arg7 harg7 arg20 x1 x4 x5) (ix2 r l) = PJ a b (128 * (2 * j + 1) + r) (2304 + (128 * 0 + l)) :=
  (rcm (hs2 H) _ mh (by decide) r l).trans (by beta_reduce; congr 1 <;> omega)

include H in
theorem v1796 (r : Fin 128) (l : Fin 128) : (kernelRun0_A.sl.v1796 c arg3 harg3 arg6 harg6 arg7 harg7 arg22 x1 x4 x5) (ix2 r l) = PJ a b (128 * (2 * j + 1) + r) (4352 + (128 * 0 + l)) :=
  (rcm (hs4 H) _ mh (by decide) r l).trans (by beta_reduce; congr 1 <;> omega)

include H in
theorem v1803 (r l : Fin 128) : (kernelRun0_A.sl.v1803 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 0 + l) := by
  show sinV 0 slices_S128x1024_o0_0_S128x128 (kernelRun0_A.sl.v1493 c arg9 harg9 x7) (kernelRun0_A.sl.v1780 c arg3 harg3 arg6 harg6 arg7 harg7 arg11 harg11 arg12 harg12 arg21 x1 x4 x5 x9 x10) (View.readAt (Elt Ideal) arg10.view (Rect.unit (s := S128x1024) ![0, 0] S128x128.size (by decide)).toLoadRect (harg10.unread x8)) (kernelRun0_A.sl.v1786 c arg3 harg3 arg6 harg6 arg7 harg7 arg20 x1 x4 x5) (kernelRun0_A.sl.v1796 c arg3 harg3 arg6 harg6 arg7 harg7 arg22 x1 x4 x5) (ix2 r l) = _
  exact sinV_of (m := 2 * j + 1) (g := 0) (by omega) (v1493 H) (v1780 H) (fun i j => (rd2 harg10 (g := fun i c => a.sgb (c / 128) i) H.h8 _ i j).trans (by beta_reduce; congr 1 <;> omega)) (v1786 H) (v1796 H) r l

include H in
theorem v1809 (r : Fin 128) (l : Fin 128) : (kernelRun0_A.sl.v1809 c arg3 harg3 arg6 harg6 arg7 harg7 arg20 x1 x4 x5) (ix2 r l) = PJ a b (128 * (2 * j + 1) + r) (2304 + (128 * 1 + l)) :=
  (rcm (hs2 H) _ mh (by decide) r l).trans (by beta_reduce; congr 1 <;> omega)

include H in
theorem v1819 (r : Fin 128) (l : Fin 128) : (kernelRun0_A.sl.v1819 c arg3 harg3 arg6 harg6 arg7 harg7 arg22 x1 x4 x5) (ix2 r l) = PJ a b (128 * (2 * j + 1) + r) (4352 + (128 * 1 + l)) :=
  (rcm (hs4 H) _ mh (by decide) r l).trans (by beta_reduce; congr 1 <;> omega)

include H in
theorem v1826 (r l : Fin 128) : (kernelRun0_A.sl.v1826 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 1 + l) := by
  show sinV 128 slices_S128x1024_o0_128_S128x128 (kernelRun0_A.sl.v1498 c arg9 harg9 x7) (kernelRun0_A.sl.v1780 c arg3 harg3 arg6 harg6 arg7 harg7 arg11 harg11 arg12 harg12 arg21 x1 x4 x5 x9 x10) (View.readAt (Elt Ideal) arg10.view (Rect.unit (s := S128x1024) ![0, 128] S128x128.size (by decide)).toLoadRect (harg10.unread x8)) (kernelRun0_A.sl.v1809 c arg3 harg3 arg6 harg6 arg7 harg7 arg20 x1 x4 x5) (kernelRun0_A.sl.v1819 c arg3 harg3 arg6 harg6 arg7 harg7 arg22 x1 x4 x5) (ix2 r l) = _
  exact sinV_of (m := 2 * j + 1) (g := 1) (by omega) (v1498 H) (v1780 H) (fun i j => (rd2 harg10 (g := fun i c => a.sgb (c / 128) i) H.h8 _ i j).trans (by beta_reduce; congr 1 <;> omega)) (v1809 H) (v1819 H) r l

include H in
theorem v1832 (r : Fin 128) (l : Fin 128) : (kernelRun0_A.sl.v1832 c arg3 harg3 arg6 harg6 arg7 harg7 arg20 x1 x4 x5) (ix2 r l) = PJ a b (128 * (2 * j + 1) + r) (2304 + (128 * 2 + l)) :=
  (rcm (hs2 H) _ mh (by decide) r l).trans (by beta_reduce; congr 1 <;> omega)

include H in
theorem v1842 (r : Fin 128) (l : Fin 128) : (kernelRun0_A.sl.v1842 c arg3 harg3 arg6 harg6 arg7 harg7 arg22 x1 x4 x5) (ix2 r l) = PJ a b (128 * (2 * j + 1) + r) (4352 + (128 * 2 + l)) :=
  (rcm (hs4 H) _ mh (by decide) r l).trans (by beta_reduce; congr 1 <;> omega)

include H in
theorem v1849 (r l : Fin 128) : (kernelRun0_A.sl.v1849 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 2 + l) := by
  show sinV 256 slices_S128x1024_o0_256_S128x128 (kernelRun0_A.sl.v1503 c arg9 harg9 x7) (kernelRun0_A.sl.v1780 c arg3 harg3 arg6 harg6 arg7 harg7 arg11 harg11 arg12 harg12 arg21 x1 x4 x5 x9 x10) (View.readAt (Elt Ideal) arg10.view (Rect.unit (s := S128x1024) ![0, 256] S128x128.size (by decide)).toLoadRect (harg10.unread x8)) (kernelRun0_A.sl.v1832 c arg3 harg3 arg6 harg6 arg7 harg7 arg20 x1 x4 x5) (kernelRun0_A.sl.v1842 c arg3 harg3 arg6 harg6 arg7 harg7 arg22 x1 x4 x5) (ix2 r l) = _
  exact sinV_of (m := 2 * j + 1) (g := 2) (by omega) (v1503 H) (v1780 H) (fun i j => (rd2 harg10 (g := fun i c => a.sgb (c / 128) i) H.h8 _ i j).trans (by beta_reduce; congr 1 <;> omega)) (v1832 H) (v1842 H) r l

include H in
theorem v1855 (r : Fin 128) (l : Fin 128) : (kernelRun0_A.sl.v1855 c arg3 harg3 arg6 harg6 arg7 harg7 arg20 x1 x4 x5) (ix2 r l) = PJ a b (128 * (2 * j + 1) + r) (2304 + (128 * 3 + l)) :=
  (rcm (hs2 H) _ mh (by decide) r l).trans (by beta_reduce; congr 1 <;> omega)

include H in
theorem v1865 (r : Fin 128) (l : Fin 128) : (kernelRun0_A.sl.v1865 c arg3 harg3 arg6 harg6 arg7 harg7 arg22 x1 x4 x5) (ix2 r l) = PJ a b (128 * (2 * j + 1) + r) (4352 + (128 * 3 + l)) :=
  (rcm (hs4 H) _ mh (by decide) r l).trans (by beta_reduce; congr 1 <;> omega)

include H in
theorem v1872 (r l : Fin 128) : (kernelRun0_A.sl.v1872 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 3 + l) := by
  show sinV 384 slices_S128x1024_o0_384_S128x128 (kernelRun0_A.sl.v1508 c arg9 harg9 x7) (kernelRun0_A.sl.v1780 c arg3 harg3 arg6 harg6 arg7 harg7 arg11 harg11 arg12 harg12 arg21 x1 x4 x5 x9 x10) (View.readAt (Elt Ideal) arg10.view (Rect.unit (s := S128x1024) ![0, 384] S128x128.size (by decide)).toLoadRect (harg10.unread x8)) (kernelRun0_A.sl.v1855 c arg3 harg3 arg6 harg6 arg7 harg7 arg20 x1 x4 x5) (kernelRun0_A.sl.v1865 c arg3 harg3 arg6 harg6 arg7 harg7 arg22 x1 x4 x5) (ix2 r l) = _
  exact sinV_of (m := 2 * j + 1) (g := 3) (by omega) (v1508 H) (v1780 H) (fun i j => (rd2 harg10 (g := fun i c => a.sgb (c / 128) i) H.h8 _ i j).trans (by beta_reduce; congr 1 <;> omega)) (v1855 H) (v1865 H) r l

include H in
theorem v1878 (r : Fin 128) (l : Fin 128) : (kernelRun0_A.sl.v1878 c arg3 harg3 arg6 harg6 arg7 harg7 arg20 x1 x4 x5) (ix2 r l) = PJ a b (128 * (2 * j + 1) + r) (2304 + (128 * 4 + l)) :=
  (rcm (hs2 H) _ mh (by decide) r l).trans (by beta_reduce; congr 1 <;> omega)

include H in
theorem v1888 (r : Fin 128) (l : Fin 128) : (kernelRun0_A.sl.v1888 c arg3 harg3 arg6 harg6 arg7 harg7 arg22 x1 x4 x5) (ix2 r l) = PJ a b (128 * (2 * j + 1) + r) (4352 + (128 * 4 + l)) :=
  (rcm (hs4 H) _ mh (by decide) r l).trans (by beta_reduce; congr 1 <;> omega)

include H in
theorem v1895 (r l : Fin 128) : (kernelRun0_A.sl.v1895 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 4 + l) := by
  show sinV 512 slices_S128x1024_o0_512_S128x128 (kernelRun0_A.sl.v1513 c arg9 harg9 x7) (kernelRun0_A.sl.v1780 c arg3 harg3 arg6 harg6 arg7 harg7 arg11 harg11 arg12 harg12 arg21 x1 x4 x5 x9 x10) (View.readAt (Elt Ideal) arg10.view (Rect.unit (s := S128x1024) ![0, 512] S128x128.size (by decide)).toLoadRect (harg10.unread x8)) (kernelRun0_A.sl.v1878 c arg3 harg3 arg6 harg6 arg7 harg7 arg20 x1 x4 x5) (kernelRun0_A.sl.v1888 c arg3 harg3 arg6 harg6 arg7 harg7 arg22 x1 x4 x5) (ix2 r l) = _
  exact sinV_of (m := 2 * j + 1) (g := 4) (by omega) (v1513 H) (v1780 H) (fun i j => (rd2 harg10 (g := fun i c => a.sgb (c / 128) i) H.h8 _ i j).trans (by beta_reduce; congr 1 <;> omega)) (v1878 H) (v1888 H) r l

include H in
theorem v1901 (r : Fin 128) (l : Fin 128) : (kernelRun0_A.sl.v1901 c arg3 harg3 arg6 harg6 arg7 harg7 arg20 x1 x4 x5) (ix2 r l) = PJ a b (128 * (2 * j + 1) + r) (2304 + (128 * 5 + l)) :=
  (rcm (hs2 H) _ mh (by decide) r l).trans (by beta_reduce; congr 1 <;> omega)

include H in
theorem v1911 (r : Fin 128) (l : Fin 128) : (kernelRun0_A.sl.v1911 c arg3 harg3 arg6 harg6 arg7 harg7 arg22 x1 x4 x5) (ix2 r l) = PJ a b (128 * (2 * j + 1) + r) (4352 + (128 * 5 + l)) :=
  (rcm (hs4 H) _ mh (by decide) r l).trans (by beta_reduce; congr 1 <;> omega)

include H in
theorem v1918 (r l : Fin 128) : (kernelRun0_A.sl.v1918 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 5 + l) := by
  show sinV 640 slices_S128x1024_o0_640_S128x128 (kernelRun0_A.sl.v1518 c arg9 harg9 x7) (kernelRun0_A.sl.v1780 c arg3 harg3 arg6 harg6 arg7 harg7 arg11 harg11 arg12 harg12 arg21 x1 x4 x5 x9 x10) (View.readAt (Elt Ideal) arg10.view (Rect.unit (s := S128x1024) ![0, 640] S128x128.size (by decide)).toLoadRect (harg10.unread x8)) (kernelRun0_A.sl.v1901 c arg3 harg3 arg6 harg6 arg7 harg7 arg20 x1 x4 x5) (kernelRun0_A.sl.v1911 c arg3 harg3 arg6 harg6 arg7 harg7 arg22 x1 x4 x5) (ix2 r l) = _
  exact sinV_of (m := 2 * j + 1) (g := 5) (by omega) (v1518 H) (v1780 H) (fun i j => (rd2 harg10 (g := fun i c => a.sgb (c / 128) i) H.h8 _ i j).trans (by beta_reduce; congr 1 <;> omega)) (v1901 H) (v1911 H) r l

include H in
theorem v1924 (r : Fin 128) (l : Fin 128) : (kernelRun0_A.sl.v1924 c arg3 harg3 arg6 harg6 arg7 harg7 arg20 x1 x4 x5) (ix2 r l) = PJ a b (128 * (2 * j + 1) + r) (2304 + (128 * 6 + l)) :=
  (rcm (hs2 H) _ mh (by decide) r l).trans (by beta_reduce; congr 1 <;> omega)

include H in
theorem v1934 (r : Fin 128) (l : Fin 128) : (kernelRun0_A.sl.v1934 c arg3 harg3 arg6 harg6 arg7 harg7 arg22 x1 x4 x5) (ix2 r l) = PJ a b (128 * (2 * j + 1) + r) (4352 + (128 * 6 + l)) :=
  (rcm (hs4 H) _ mh (by decide) r l).trans (by beta_reduce; congr 1 <;> omega)

include H in
theorem v1941 (r l : Fin 128) : (kernelRun0_A.sl.v1941 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 6 + l) := by
  show sinV 768 slices_S128x1024_o0_768_S128x128 (kernelRun0_A.sl.v1523 c arg9 harg9 x7) (kernelRun0_A.sl.v1780 c arg3 harg3 arg6 harg6 arg7 harg7 arg11 harg11 arg12 harg12 arg21 x1 x4 x5 x9 x10) (View.readAt (Elt Ideal) arg10.view (Rect.unit (s := S128x1024) ![0, 768] S128x128.size (by decide)).toLoadRect (harg10.unread x8)) (kernelRun0_A.sl.v1924 c arg3 harg3 arg6 harg6 arg7 harg7 arg20 x1 x4 x5) (kernelRun0_A.sl.v1934 c arg3 harg3 arg6 harg6 arg7 harg7 arg22 x1 x4 x5) (ix2 r l) = _
  exact sinV_of (m := 2 * j + 1) (g := 6) (by omega) (v1523 H) (v1780 H) (fun i j => (rd2 harg10 (g := fun i c => a.sgb (c / 128) i) H.h8 _ i j).trans (by beta_reduce; congr 1 <;> omega)) (v1924 H) (v1934 H) r l

include H in
theorem v1947 (r : Fin 128) (l : Fin 128) : (kernelRun0_A.sl.v1947 c arg3 harg3 arg6 harg6 arg7 harg7 arg20 x1 x4 x5) (ix2 r l) = PJ a b (128 * (2 * j + 1) + r) (2304 + (128 * 7 + l)) :=
  (rcm (hs2 H) _ mh (by decide) r l).trans (by beta_reduce; congr 1 <;> omega)

include H in
theorem v1957 (r : Fin 128) (l : Fin 128) : (kernelRun0_A.sl.v1957 c arg3 harg3 arg6 harg6 arg7 harg7 arg22 x1 x4 x5) (ix2 r l) = PJ a b (128 * (2 * j + 1) + r) (4352 + (128 * 7 + l)) :=
  (rcm (hs4 H) _ mh (by decide) r l).trans (by beta_reduce; congr 1 <;> omega)

include H in
theorem v1964 (r l : Fin 128) : (kernelRun0_A.sl.v1964 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 7 + l) := by
  show sinV 896 slices_S128x1024_o0_896_S128x128 (kernelRun0_A.sl.v1528 c arg9 harg9 x7) (kernelRun0_A.sl.v1780 c arg3 harg3 arg6 harg6 arg7 harg7 arg11 harg11 arg12 harg12 arg21 x1 x4 x5 x9 x10) (View.readAt (Elt Ideal) arg10.view (Rect.unit (s := S128x1024) ![0, 896] S128x128.size (by decide)).toLoadRect (harg10.unread x8)) (kernelRun0_A.sl.v1947 c arg3 harg3 arg6 harg6 arg7 harg7 arg20 x1 x4 x5) (kernelRun0_A.sl.v1957 c arg3 harg3 arg6 harg6 arg7 harg7 arg22 x1 x4 x5) (ix2 r l) = _
  exact sinV_of (m := 2 * j + 1) (g := 7) (by omega) (v1528 H) (v1780 H) (fun i j => (rd2 harg10 (g := fun i c => a.sgb (c / 128) i) H.h8 _ i j).trans (by beta_reduce; congr 1 <;> omega)) (v1947 H) (v1957 H) r l

end Cert.PtA

end
-- ==== Proof.PtA8.lean ====
/- Grid points of case A: the gated merge, the output, and the rows of keys and values left to the next point. -/
module

public import proofs.«01_k».proof.Proof.PtA3
public import proofs.«01_k».proof.Proof.PtA4
public import proofs.«01_k».proof.Proof.PtA5
public import proofs.«01_k».proof.Proof.PtA6
public import proofs.«01_k».proof.Proof.PtA7

@[expose] public section

set_option maxRecDepth 16384
set_option maxHeartbeats 1000000

noncomputable section

namespace Cert.PtA

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 arg11 arg12 arg16 : Memref sig .tc .vmem S1x1024 .f32} {arg7 : Memref sig .tc .vmem S1024x7424 .bf16}
  {arg8 : Memref sig .tc .vmem S1x2048 .f32} {arg9 : Memref sig .tc .vmem S8x128x128 .f32} {arg10 : Memref sig .tc .vmem S128x1024 .f32}
  {arg13 arg14 arg15 : Memref sig .tc .vmem S1024x1024 .bf16} {arg18 arg32 arg33 : Memref sig .tc .vmem S256x1024 .bf16}
  {arg19 arg20 arg21 arg22 : Memref sig .tc .vmem S256x1024 .f32} {arg23 : Memref sig .tc .vmem S256x2048 .f32}
  {arg24 arg25 arg26 arg27 : Memref sig .tc .vmem S2x384x128 .bf16} {arg28 arg29 : Memref sig .tc .vmem S512x256 .f32}
  {arg30 arg31 : Memref sig .tc .vmem S512x256 .bf16} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole} {harg11 : arg11.IsWhole}
  {harg12 : arg12.IsWhole} {harg13 : arg13.IsWhole} {harg14 : arg14.IsWhole} {harg15 : arg15.IsWhole} {harg16 : arg16.IsWhole}
  {x0 : Vec Ideal S16 .f32} {x1 : Vec Ideal S1x256x1024 .f32} {x2 x3 : Vec Ideal S256x128 .f32} {x4 x9 x10 x14 : Vec Ideal S1x1024 .f32}
  {x5 : Vec Ideal S1024x7424 .bf16} {x6 : Vec Ideal S1x2048 .f32} {x7 : Vec Ideal S8x128x128 .f32} {x8 : Vec Ideal S128x1024 .f32}
  {x11 x12 x13 : Vec Ideal S1024x1024 .bf16}

variable (H : Blk a b j x0 x1 x2 x3 x4 x5 x6 x7 x8 x9 x10 x11 x12 x13 x14) (hj : j = 0) (hi : (i 1).val = j) (fa : Finite a)

include H hj hi fa in
theorem hs_AIN : View.PiecesOf (at2 (fun r c => AIN a b (256 * j + r) c)) (kernelRun0_A.sl.HS14_16 c i arg2 harg2 arg3 harg3 arg4 harg4 arg5 harg5 arg6 harg6 arg7 harg7 arg18 arg19 arg24 arg25 arg26 arg27 arg28 arg29 arg30 arg31 x0 x1 x2 x3 x4 x5) :=
  by
  refine pc2 256 1024 128 896 128 128 (fun r l => ?_) ?_
  · exact (v1397 H hj fa r l).trans (by beta_reduce; congr 1 <;> omega)
  refine pc2 256 1024 128 768 128 128 (fun r l => ?_) ?_
  · exact (v1382 H hj fa r l).trans (by beta_reduce; congr 1 <;> omega)
  refine pc2 256 1024 128 640 128 128 (fun r l => ?_) ?_
  · exact (v1367 H hj fa r l).trans (by beta_reduce; congr 1 <;> omega)
  refine pc2 256 1024 128 512 128 128 (fun r l => ?_) ?_
  · exact (v1352 H hj fa r l).trans (by beta_reduce; congr 1 <;> omega)
  refine pc2 256 1024 128 384 128 128 (fun r l => ?_) ?_
  · exact (v1127 H hj fa r l).trans (by beta_reduce; congr 1 <;> omega)
  refine pc2 256 1024 128 256 128 128 (fun r l => ?_) ?_
  · exact (v1112 H hj fa r l).trans (by beta_reduce; congr 1 <;> omega)
  refine pc2 256 1024 128 128 128 128 (fun r l => ?_) ?_
  · exact (v1097 H hj fa r l).trans (by beta_reduce; congr 1 <;> omega)
  refine pc2 256 1024 128 0 128 128 (fun r l => ?_) ?_
  · exact (v1082 H hj fa r l).trans (by beta_reduce; congr 1 <;> omega)
  refine pc2 256 1024 0 896 128 128 (fun r l => ?_) ?_
  · exact (v857 H hj hi fa r l).trans (by beta_reduce; congr 1 <;> omega)
  refine pc2 256 1024 0 768 128 128 (fun r l => ?_) ?_
  · exact (v842 H hj hi fa r l).trans (by beta_reduce; congr 1 <;> omega)
  refine pc2 256 1024 0 640 128 128 (fun r l => ?_) ?_
  · exact (v827 H hj hi fa r l).trans (by beta_reduce; congr 1 <;> omega)
  refine pc2 256 1024 0 512 128 128 (fun r l => ?_) ?_
  · exact (v812 H hj hi fa r l).trans (by beta_reduce; congr 1 <;> omega)
  refine pc2 256 1024 0 384 128 128 (fun r l => ?_) ?_
  · exact (v587 H hj hi fa r l).trans (by beta_reduce; congr 1 <;> omega)
  refine pc2 256 1024 0 256 128 128 (fun r l => ?_) ?_
  · exact (v572 H hj hi fa r l).trans (by beta_reduce; congr 1 <;> omega)
  refine pc2 256 1024 0 128 128 128 (fun r l => ?_) ?_
  · exact (v557 H hj hi fa r l).trans (by beta_reduce; congr 1 <;> omega)
  refine pc2 256 1024 0 0 128 128 (fun r l => ?_) ?_
  · exact (v542 H hj hi fa r l).trans (by beta_reduce; congr 1 <;> omega)
  exact True.intro

include H hj hi fa in
theorem v1965 (r : Fin 256) (q : Fin 1024) : (kernelRun0_A.sl.v1965 c i arg2 harg2 arg3 harg3 arg4 harg4 arg5 harg5 arg6 harg6 arg7 harg7 arg18 arg19 arg24 arg25 arg26 arg27 arg28 arg29 arg30 arg31 arg32 x0 x1 x2 x3 x4 x5) (ix2 r q) = AIN a b (256 * j + r) q := by
  refine (rc2 (e := .bf16) (n0 := 256) (n1 := 1024) (g := (fun r c => AIN a b (256 * j + r) c)) (L2 := []) (List.append_nil _).symm (hs_AIN H hj hi fa) _ ?_ r q).trans (by beta_reduce; congr 1 <;> omega)
  · intro y h1 h2 h3 h4
    rcases (show (y 0).val / 128 = 0 ∨ (y 0).val / 128 = 1 by omega) with h | h <;>
      rcases (show (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 by omega) with h' | h' | h' | h' | h' | h' | h' | h'
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), in2 (inb := by decide) (by omega)⟩
    · exact ⟨_, (List.mem_cons_of_mem _ (List.mem_cons_of_mem _ (List.mem_cons_of_mem _ (List.mem_cons_of_mem _ (List.mem_cons_of_mem _ (List.mem_cons_of_mem _ List.mem_cons_self)))))), in2 (inb := by decide) (by omega)⟩
    · exact ⟨_, (List.mem_cons_of_mem _ (List.mem_cons_of_mem _ (List.mem_cons_of_mem _ (List.mem_cons_of_mem _ (List.mem_cons_of_mem _ List.mem_cons_self))))), in2 (inb := by decide) (by omega)⟩
    · exact ⟨_, (List.mem_cons_of_mem _ (List.mem_cons_of_mem _ (List.mem_cons_of_mem _ (List.mem_cons_of_mem _ List.mem_cons_self)))), in2 (inb := by decide) (by omega)⟩
    · exact ⟨_, (List.mem_cons_of_mem _ (List.mem_cons_of_mem _ (List.mem_cons_of_mem _ List.mem_cons_self))), in2 (inb := by decide) (by omega)⟩
    · exact ⟨_, (List.mem_cons_of_mem _ (List.mem_cons_of_mem _ List.mem_cons_self)), in2 (inb := by decide) (by omega)⟩
    · exact ⟨_, (List.mem_cons_of_mem _ List.mem_cons_self), in2 (inb := by decide) (by omega)⟩
    · exact ⟨_, List.mem_cons_self, in2 (inb := by decide) (by omega)⟩

include H in
theorem hs_SIN : View.PiecesOf (at2 (fun r c => SIN a b (256 * j + r) c)) (kernelRun0_A.sl.HS15_16 c arg3 harg3 arg6 harg6 arg7 harg7 arg9 harg9 arg10 harg10 arg11 harg11 arg12 harg12 arg20 arg21 arg22 x1 x4 x5 x7 x8 x9 x10) :=
  by
  refine pc2 256 1024 128 896 128 128 (fun r l => ?_) ?_
  · exact (v1964 H r l).trans (by beta_reduce; congr 1 <;> omega)
  refine pc2 256 1024 128 768 128 128 (fun r l => ?_) ?_
  · exact (v1941 H r l).trans (by beta_reduce; congr 1 <;> omega)
  refine pc2 256 1024 128 640 128 128 (fun r l => ?_) ?_
  · exact (v1918 H r l).trans (by beta_reduce; congr 1 <;> omega)
  refine pc2 256 1024 128 512 128 128 (fun r l => ?_) ?_
  · exact (v1895 H r l).trans (by beta_reduce; congr 1 <;> omega)
  refine pc2 256 1024 128 384 128 128 (fun r l => ?_) ?_
  · exact (v1872 H r l).trans (by beta_reduce; congr 1 <;> omega)
  refine pc2 256 1024 128 256 128 128 (fun r l => ?_) ?_
  · exact (v1849 H r l).trans (by beta_reduce; congr 1 <;> omega)
  refine pc2 256 1024 128 128 128 128 (fun r l => ?_) ?_
  · exact (v1826 H r l).trans (by beta_reduce; congr 1 <;> omega)
  refine pc2 256 1024 128 0 128 128 (fun r l => ?_) ?_
  · exact (v1803 H r l).trans (by beta_reduce; congr 1 <;> omega)
  refine pc2 256 1024 0 896 128 128 (fun r l => ?_) ?_
  · exact (v1746 H r l).trans (by beta_reduce; congr 1 <;> omega)
  refine pc2 256 1024 0 768 128 128 (fun r l => ?_) ?_
  · exact (v1723 H r l).trans (by beta_reduce; congr 1 <;> omega)
  refine pc2 256 1024 0 640 128 128 (fun r l => ?_) ?_
  · exact (v1700 H r l).trans (by beta_reduce; congr 1 <;> omega)
  refine pc2 256 1024 0 512 128 128 (fun r l => ?_) ?_
  · exact (v1677 H r l).trans (by beta_reduce; congr 1 <;> omega)
  refine pc2 256 1024 0 384 128 128 (fun r l => ?_) ?_
  · exact (v1654 H r l).trans (by beta_reduce; congr 1 <;> omega)
  refine pc2 256 1024 0 256 128 128 (fun r l => ?_) ?_
  · exact (v1631 H r l).trans (by beta_reduce; congr 1 <;> omega)
  refine pc2 256 1024 0 128 128 128 (fun r l => ?_) ?_
  · exact (v1608 H r l).trans (by beta_reduce; congr 1 <;> omega)
  refine pc2 256 1024 0 0 128 128 (fun r l => ?_) ?_
  · exact (v1585 H r l).trans (by beta_reduce; congr 1 <;> omega)
  exact True.intro

include H in
theorem v1969 (r : Fin 256) (q : Fin 1024) : (kernelRun0_A.sl.v1969 c arg3 harg3 arg6 harg6 arg7 harg7 arg9 harg9 arg10 harg10 arg11 harg11 arg12 harg12 arg20 arg21 arg22 arg33 x1 x4 x5 x7 x8 x9 x10) (ix2 r q) = SIN a b (256 * j + r) q := by
  refine (rc2 (e := .bf16) (n0 := 256) (n1 := 1024) (g := (fun r c => SIN a b (256 * j + r) c)) (L2 := []) (List.append_nil _).symm (hs_SIN H) _ ?_ r q).trans (by beta_reduce; congr 1 <;> omega)
  · intro y h1 h2 h3 h4
    rcases (show (y 0).val / 128 = 0 ∨ (y 0).val / 128 = 1 by omega) with h | h <;>
      rcases (show (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 by omega) with h' | h' | h' | h' | h' | h' | h' | h'
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), in2 (inb := by decide) (by omega)⟩
    · exact ⟨_, (List.mem_cons_of_mem _ (List.mem_cons_of_mem _ (List.mem_cons_of_mem _ (List.mem_cons_of_mem _ (List.mem_cons_of_mem _ (List.mem_cons_of_mem _ List.mem_cons_self)))))), in2 (inb := by decide) (by omega)⟩
    · exact ⟨_, (List.mem_cons_of_mem _ (List.mem_cons_of_mem _ (List.mem_cons_of_mem _ (List.mem_cons_of_mem _ (List.mem_cons_of_mem _ List.mem_cons_self))))), in2 (inb := by decide) (by omega)⟩
    · exact ⟨_, (List.mem_cons_of_mem _ (List.mem_cons_of_mem _ (List.mem_cons_of_mem _ (List.mem_cons_of_mem _ List.mem_cons_self)))), in2 (inb := by decide) (by omega)⟩
    · exact ⟨_, (List.mem_cons_of_mem _ (List.mem_cons_of_mem _ (List.mem_cons_of_mem _ List.mem_cons_self))), in2 (inb := by decide) (by omega)⟩
    · exact ⟨_, (List.mem_cons_of_mem _ (List.mem_cons_of_mem _ List.mem_cons_self)), in2 (inb := by decide) (by omega)⟩
    · exact ⟨_, (List.mem_cons_of_mem _ List.mem_cons_self), in2 (inb := by decide) (by omega)⟩
    · exact ⟨_, List.mem_cons_self, in2 (inb := by decide) (by omega)⟩

include H in
theorem v1973 (r : Fin 256) (n : Fin 2048) : (kernelRun0_A.sl.v1973 c arg3 harg3 arg6 harg6 arg7 harg7 arg23 x1 x4 x5) (ix2 r n) = PJ a b (256 * j + r) (5376 + n) :=
  (rcm (hs5 H) _ List.mem_cons_self (by decide) r n).trans (by beta_reduce; congr 1 <;> omega)

include H hj hi fa in
theorem v1984 (r : Fin 256) (q : Fin 1024) : (kernelRun0_A.sl.v1984 c i arg2 harg2 arg3 harg3 arg4 harg4 arg5 harg5 arg6 harg6 arg7 harg7 arg8 harg8 arg9 harg9 arg10 harg10 arg11 harg11 arg12 harg12 arg13 harg13 arg14 harg14 arg18 arg19 arg20 arg21 arg22 arg23 arg24 arg25 arg26 arg27 arg28 arg29 arg30 arg31 arg32 arg33 x0 x1 x2 x3 x4 x5 x6 x7 x8 x9 x10 x11 x12) (ix2 r q) = Y a b (256 * j + r) q := by
  show yV (kernelRun0_A.sl.v1965 c i arg2 harg2 arg3 harg3 arg4 harg4 arg5 harg5 arg6 harg6 arg7 harg7 arg18 arg19 arg24 arg25 arg26 arg27 arg28 arg29 arg30 arg31 arg32 x0 x1 x2 x3 x4 x5) (View.readAt (Elt Ideal) arg13.view (Rect.unit (s := S1024x1024) ![0, 0] S1024x1024.size (by decide)).toLoadRect (harg13.unread x11)) (kernelRun0_A.sl.v1969 c arg3 harg3 arg6 harg6 arg7 harg7 arg9 harg9 arg10 harg10 arg11 harg11 arg12 harg12 arg20 arg21 arg22 arg33 x1 x4 x5 x7 x8 x9 x10) (View.readAt (Elt Ideal) arg14.view (Rect.unit (s := S1024x1024) ![0, 0] S1024x1024.size (by decide)).toLoadRect (harg14.unread x12)) (kernelRun0_A.sl.v1973 c arg3 harg3 arg6 harg6 arg7 harg7 arg23 x1 x4 x5) (View.readAt (Elt Ideal) arg8.view (Rect.unit (s := S1x2048) ![0, 0] S1x2048.size (by decide)).toLoadRect (harg8.unread x6)) (ix2 r q) = _
  exact yV_of (v1965 H hj hi fa) (v1969 H) (fun k n => (rd2 harg13 (g := fun k n => a.wao k n) H.h11 _ k n).trans (by beta_reduce; congr 1 <;> omega)) (fun k n => (rd2 harg14 (g := fun k n => a.wso k n) H.h12 _ k n).trans (by beta_reduce; congr 1 <;> omega)) (v1973 H) (fun n => (rd2 harg8 (g := fun _ n => a.bm n) H.h6 _ 0 n).trans (by beta_reduce; congr 1 <;> omega)) r q

include H hj hi fa in
theorem v1988 (r : Fin 256) (q : Fin 1024) : (kernelRun0_A.sl.v1988 c i arg2 harg2 arg3 harg3 arg4 harg4 arg5 harg5 arg6 harg6 arg7 harg7 arg8 harg8 arg9 harg9 arg10 harg10 arg11 harg11 arg12 harg12 arg13 harg13 arg14 harg14 arg15 harg15 arg18 arg19 arg20 arg21 arg22 arg23 arg24 arg25 arg26 arg27 arg28 arg29 arg30 arg31 arg32 arg33 x0 x1 x2 x3 x4 x5 x6 x7 x8 x9 x10 x11 x12 x13) (ix2 r q) = Spec.O a b (256 * j + r) q := by
  show oV (View.readAt (Elt Ideal) arg3.view (Rect.unit (s := S1x256x1024) ![0, 0, 0] S1x256x1024.size (by decide)).toLoadRect (harg3.unread x1)) (kernelRun0_A.sl.v1984 c i arg2 harg2 arg3 harg3 arg4 harg4 arg5 harg5 arg6 harg6 arg7 harg7 arg8 harg8 arg9 harg9 arg10 harg10 arg11 harg11 arg12 harg12 arg13 harg13 arg14 harg14 arg18 arg19 arg20 arg21 arg22 arg23 arg24 arg25 arg26 arg27 arg28 arg29 arg30 arg31 arg32 arg33 x0 x1 x2 x3 x4 x5 x6 x7 x8 x9 x10 x11 x12) (View.readAt (Elt Ideal) arg15.view (Rect.unit (s := S1024x1024) ![0, 0] S1024x1024.size (by decide)).toLoadRect (harg15.unread x13)) (ix2 r q) = _
  exact oV_of (fun r d => (rd3 harg3 (g := fun _ r d => a.x b (256 * j + r) d) H.h1 _ 0 r d).trans (by beta_reduce; congr 1 <;> omega)) (v1984 H hj hi fa) (fun k n => (rd2 harg15 (g := fun k n => a.wo k n) H.h13 _ k n).trans (by beta_reduce; congr 1 <;> omega)) r q

include H hj hi fa in
/-- The block of the result. -/
theorem result (p : Fin 1) (r : Fin 256) (q : Fin 1024) : k0_pay1 (kernelRun0_A.sl.r_83 c i arg2 harg2 arg3 harg3 arg4 harg4 arg5 harg5 arg6 harg6 arg7 harg7 arg8 harg8 arg9 harg9 arg10 harg10 arg11 harg11 arg12 harg12 arg13 harg13 arg14 harg14 arg15 harg15 arg18 arg19 arg20 arg21 arg22 arg23 arg24 arg25 arg26 arg27 arg28 arg29 arg30 arg31 arg32 arg33 x0 x1 x2 x3 x4 x5 x6 x7 x8 x9 x10 x11 x12 x13) (kernelRun0_A.sl.r_84 c arg16 harg16 x14) (ix3 p r q) = OUT a b (256 * j + r) q := by
  obtain rfl : p = 0 := Subsingleton.elim _ _
  show outV (kernelRun0_A.sl.v1988 c i arg2 harg2 arg3 harg3 arg4 harg4 arg5 harg5 arg6 harg6 arg7 harg7 arg8 harg8 arg9 harg9 arg10 harg10 arg11 harg11 arg12 harg12 arg13 harg13 arg14 harg14 arg15 harg15 arg18 arg19 arg20 arg21 arg22 arg23 arg24 arg25 arg26 arg27 arg28 arg29 arg30 arg31 arg32 arg33 x0 x1 x2 x3 x4 x5 x6 x7 x8 x9 x10 x11 x12 x13) (View.readAt (Elt Ideal) arg16.view (Rect.unit (s := S1x1024) ![0, 0] S1x1024.size (by decide)).toLoadRect (harg16.unread x14)) (ix3 0 r q) = _
  exact outV_of (v1988 H hj hi fa) (fun n => (rd2 harg16 (g := fun _ n => a.fg n) H.h14 _ 0 n).trans (by beta_reduce; congr 1 <;> omega)) r q

include H hj in
theorem v1398 (r l : Fin 128) : (kernelRun0_A.sl.v1398 c arg3 harg3 arg4 harg4 arg5 harg5 arg6 harg6 arg7 harg7 arg24 x1 x2 x3 x4 x5) (ix3 0 r l) = kaF a b (256 * (j + 1) + r) 0 l :=
  (rc3 (L2 := []) (List.append_nil _).symm (hs6 H hj) _ (fun y h1 h2 h3 h4 h5 h6 => ⟨_, (List.mem_cons_of_mem _ List.mem_cons_self), in3 (inb := by decide) (by omega)⟩) 0 r l).trans (by beta_reduce; congr 1 <;> (try simp only [Fin.val_zero]) <;> omega)

include H hj in
theorem v1402 (p : Fin 1) (r l : Fin 128) : (kernelRun0_A.sl.v1402 c arg3 harg3 arg4 harg4 arg5 harg5 arg6 harg6 arg7 harg7 arg24 x1 x2 x3 x4 x5) (ix3 p r l) = kaF a b (256 * (j + 1) + r) 0 l := by
  pointwise [kernelRun0_A.sl.v1402, kernelRun0_A.sl.v1399]
  exact v1398 H hj r l

include H hj in
theorem hs6_1 : View.PiecesOf (at3 (e := .bf16) (fun g R l => if g = 0 ∧ R < 128 then kaF a b (256 * (j + 1) + R) 0 l else kaF a b (256 * j + R) g l)) (((kernelRun0_A.sl.HS6_5 c arg3 harg3 arg4 harg4 arg5 harg5 arg6 harg6 arg7 harg7 arg24 x1 x2 x3 x4 x5)).take 3) :=
  by
  refine pieces_mem (piece3 (g := (fun g R l => if g = 0 ∧ R < 128 then kaF a b (256 * (j + 1) + R) 0 l else kaF a b (256 * j + R) g l)) (e := .bf16) (n0 := 2) (n1 := 384) (n2 := 128) (o0 := 0) (o1 := 0) (o2 := 0) (m0 := 1) (m1 := 128) (m2 := 128) (inb := by decide) fun p r l => ?_) ?_
  · beta_reduce
    rw [if_pos (by omega)]
    exact (v1402 H hj p r l).trans (by beta_reduce; congr 1 <;> omega)
  refine pieces_mem (piece3 (g := (fun g R l => if g = 0 ∧ R < 128 then kaF a b (256 * (j + 1) + R) 0 l else kaF a b (256 * j + R) g l)) (e := .bf16) (n0 := 2) (n1 := 384) (n2 := 128) (o0 := 1) (o1 := 128) (o2 := 0) (m0 := 1) (m1 := 256) (m2 := 128) (inb := by decide) fun p r l => ?_) ?_
  · beta_reduce
    rw [if_neg (by omega)]
    exact (v201 H p r l).trans (by beta_reduce; congr 1 <;> omega)
  refine pieces_mem (piece3 (g := (fun g R l => if g = 0 ∧ R < 128 then kaF a b (256 * (j + 1) + R) 0 l else kaF a b (256 * j + R) g l)) (e := .bf16) (n0 := 2) (n1 := 384) (n2 := 128) (o0 := 0) (o1 := 128) (o2 := 0) (m0 := 1) (m1 := 256) (m2 := 128) (inb := by decide) fun p r l => ?_) ?_
  · beta_reduce
    rw [if_neg (by omega)]
    exact (v191 H p r l).trans (by beta_reduce; congr 1 <;> omega)
  exact True.intro

include H hj in
theorem v1418 (r l : Fin 128) : (kernelRun0_A.sl.v1418 c arg3 harg3 arg4 harg4 arg5 harg5 arg6 harg6 arg7 harg7 arg24 x1 x2 x3 x4 x5) (ix3 0 r l) = kaF a b (256 * (j + 1) + r) 1 l :=
  (rc3 (List.take_append_drop 3 _).symm (hs6_1 H hj) _ (fun y h1 h2 h3 h4 h5 h6 => ⟨_, (List.mem_cons_of_mem _ List.mem_cons_self), in3 (inb := by decide) (by omega)⟩) 0 r l).trans (by
    beta_reduce
    rw [if_neg (by omega)]
    congr 1 <;> (try simp only [Fin.val_zero]) <;> omega)

include H hj in
theorem v1422 (p : Fin 1) (r l : Fin 128) : (kernelRun0_A.sl.v1422 c arg3 harg3 arg4 harg4 arg5 harg5 arg6 harg6 arg7 harg7 arg24 x1 x2 x3 x4 x5) (ix3 p r l) = kaF a b (256 * (j + 1) + r) 1 l := by
  pointwise [kernelRun0_A.sl.v1422, kernelRun0_A.sl.v1419]
  exact v1418 H hj r l

include H hj in
theorem v1403 (r l : Fin 128) : (kernelRun0_A.sl.v1403 c arg3 harg3 arg4 harg4 arg5 harg5 arg6 harg6 arg7 harg7 arg25 x1 x2 x3 x4 x5) (ix3 0 r l) = kbF a b (256 * (j + 1) + r) 0 l :=
  (rc3 (L2 := []) (List.append_nil _).symm (hs7 H hj) _ (fun y h1 h2 h3 h4 h5 h6 => ⟨_, (List.mem_cons_of_mem _ List.mem_cons_self), in3 (inb := by decide) (by omega)⟩) 0 r l).trans (by beta_reduce; congr 1 <;> (try simp only [Fin.val_zero]) <;> omega)

include H hj in
theorem v1407 (p : Fin 1) (r l : Fin 128) : (kernelRun0_A.sl.v1407 c arg3 harg3 arg4 harg4 arg5 harg5 arg6 harg6 arg7 harg7 arg25 x1 x2 x3 x4 x5) (ix3 p r l) = kbF a b (256 * (j + 1) + r) 0 l := by
  pointwise [kernelRun0_A.sl.v1407, kernelRun0_A.sl.v1404]
  exact v1403 H hj r l

include H hj in
theorem hs7_1 : View.PiecesOf (at3 (e := .bf16) (fun g R l => if g = 0 ∧ R < 128 then kbF a b (256 * (j + 1) + R) 0 l else kbF a b (256 * j + R) g l)) (((kernelRun0_A.sl.HS7_5 c arg3 harg3 arg4 harg4 arg5 harg5 arg6 harg6 arg7 harg7 arg25 x1 x2 x3 x4 x5)).take 3) :=
  by
  refine pieces_mem (piece3 (g := (fun g R l => if g = 0 ∧ R < 128 then kbF a b (256 * (j + 1) + R) 0 l else kbF a b (256 * j + R) g l)) (e := .bf16) (n0 := 2) (n1 := 384) (n2 := 128) (o0 := 0) (o1 := 0) (o2 := 0) (m0 := 1) (m1 := 128) (m2 := 128) (inb := by decide) fun p r l => ?_) ?_
  · beta_reduce
    rw [if_pos (by omega)]
    exact (v1407 H hj p r l).trans (by beta_reduce; congr 1 <;> omega)
  refine pieces_mem (piece3 (g := (fun g R l => if g = 0 ∧ R < 128 then kbF a b (256 * (j + 1) + R) 0 l else kbF a b (256 * j + R) g l)) (e := .bf16) (n0 := 2) (n1 := 384) (n2 := 128) (o0 := 1) (o1 := 128) (o2 := 0) (m0 := 1) (m1 := 256) (m2 := 128) (inb := by decide) fun p r l => ?_) ?_
  · beta_reduce
    rw [if_neg (by omega)]
    exact (v206 H p r l).trans (by beta_reduce; congr 1 <;> omega)
  refine pieces_mem (piece3 (g := (fun g R l => if g = 0 ∧ R < 128 then kbF a b (256 * (j + 1) + R) 0 l else kbF a b (256 * j + R) g l)) (e := .bf16) (n0 := 2) (n1 := 384) (n2 := 128) (o0 := 0) (o1 := 128) (o2 := 0) (m0 := 1) (m1 := 256) (m2 := 128) (inb := by decide) fun p r l => ?_) ?_
  · beta_reduce
    rw [if_neg (by omega)]
    exact (v196 H p r l).trans (by beta_reduce; congr 1 <;> omega)
  exact True.intro

include H hj in
theorem v1423 (r l : Fin 128) : (kernelRun0_A.sl.v1423 c arg3 harg3 arg4 harg4 arg5 harg5 arg6 harg6 arg7 harg7 arg25 x1 x2 x3 x4 x5) (ix3 0 r l) = kbF a b (256 * (j + 1) + r) 1 l :=
  (rc3 (List.take_append_drop 3 _).symm (hs7_1 H hj) _ (fun y h1 h2 h3 h4 h5 h6 => ⟨_, (List.mem_cons_of_mem _ List.mem_cons_self), in3 (inb := by decide) (by omega)⟩) 0 r l).trans (by
    beta_reduce
    rw [if_neg (by omega)]
    congr 1 <;> (try simp only [Fin.val_zero]) <;> omega)

include H hj in
theorem v1427 (p : Fin 1) (r l : Fin 128) : (kernelRun0_A.sl.v1427 c arg3 harg3 arg4 harg4 arg5 harg5 arg6 harg6 arg7 harg7 arg25 x1 x2 x3 x4 x5) (ix3 p r l) = kbF a b (256 * (j + 1) + r) 1 l := by
  pointwise [kernelRun0_A.sl.v1427, kernelRun0_A.sl.v1424]
  exact v1423 H hj r l

include H hj in
theorem v1408 (r l : Fin 128) : (kernelRun0_A.sl.v1408 c arg3 harg3 arg6 harg6 arg7 harg7 arg26 x1 x4 x5) (ix3 0 r l) = vaF a b (256 * (j + 1) + r) 0 l :=
  (rc3 (L2 := []) (List.append_nil _).symm (hs8 H hj) _ (fun y h1 h2 h3 h4 h5 h6 => ⟨_, (List.mem_cons_of_mem _ List.mem_cons_self), in3 (inb := by decide) (by omega)⟩) 0 r l).trans (by beta_reduce; congr 1 <;> (try simp only [Fin.val_zero]) <;> omega)

include H hj in
theorem v1412 (p : Fin 1) (r l : Fin 128) : (kernelRun0_A.sl.v1412 c arg3 harg3 arg6 harg6 arg7 harg7 arg26 x1 x4 x5) (ix3 p r l) = vaF a b (256 * (j + 1) + r) 0 l := by
  pointwise [kernelRun0_A.sl.v1412, kernelRun0_A.sl.v1409]
  exact v1408 H hj r l

include H hj in
theorem hs8_1 : View.PiecesOf (at3 (e := .bf16) (fun g R l => if g = 0 ∧ R < 128 then vaF a b (256 * (j + 1) + R) 0 l else vaF a b (256 * j + R) g l)) (((kernelRun0_A.sl.HS8_5 c arg3 harg3 arg6 harg6 arg7 harg7 arg26 x1 x4 x5)).take 3) :=
  by
  refine pieces_mem (piece3 (g := (fun g R l => if g = 0 ∧ R < 128 then vaF a b (256 * (j + 1) + R) 0 l else vaF a b (256 * j + R) g l)) (e := .bf16) (n0 := 2) (n1 := 384) (n2 := 128) (o0 := 0) (o1 := 0) (o2 := 0) (m0 := 1) (m1 := 128) (m2 := 128) (inb := by decide) fun p r l => ?_) ?_
  · beta_reduce
    rw [if_pos (by omega)]
    exact (v1412 H hj p r l).trans (by beta_reduce; congr 1 <;> omega)
  refine pieces_mem (piece3 (g := (fun g R l => if g = 0 ∧ R < 128 then vaF a b (256 * (j + 1) + R) 0 l else vaF a b (256 * j + R) g l)) (e := .bf16) (n0 := 2) (n1 := 384) (n2 := 128) (o0 := 1) (o1 := 128) (o2 := 0) (m0 := 1) (m1 := 256) (m2 := 128) (inb := by decide) fun p r l => ?_) ?_
  · beta_reduce
    rw [if_neg (by omega)]
    exact (v222 H p r l).trans (by beta_reduce; congr 1 <;> omega)
  refine pieces_mem (piece3 (g := (fun g R l => if g = 0 ∧ R < 128 then vaF a b (256 * (j + 1) + R) 0 l else vaF a b (256 * j + R) g l)) (e := .bf16) (n0 := 2) (n1 := 384) (n2 := 128) (o0 := 0) (o1 := 128) (o2 := 0) (m0 := 1) (m1 := 256) (m2 := 128) (inb := by decide) fun p r l => ?_) ?_
  · beta_reduce
    rw [if_neg (by omega)]
    exact (v212 H p r l).trans (by beta_reduce; congr 1 <;> omega)
  exact True.intro

include H hj in
theorem v1428 (r l : Fin 128) : (kernelRun0_A.sl.v1428 c arg3 harg3 arg6 harg6 arg7 harg7 arg26 x1 x4 x5) (ix3 0 r l) = vaF a b (256 * (j + 1) + r) 1 l :=
  (rc3 (List.take_append_drop 3 _).symm (hs8_1 H hj) _ (fun y h1 h2 h3 h4 h5 h6 => ⟨_, (List.mem_cons_of_mem _ List.mem_cons_self), in3 (inb := by decide) (by omega)⟩) 0 r l).trans (by
    beta_reduce
    rw [if_neg (by omega)]
    congr 1 <;> (try simp only [Fin.val_zero]) <;> omega)

include H hj in
theorem v1432 (p : Fin 1) (r l : Fin 128) : (kernelRun0_A.sl.v1432 c arg3 harg3 arg6 harg6 arg7 harg7 arg26 x1 x4 x5) (ix3 p r l) = vaF a b (256 * (j + 1) + r) 1 l := by
  pointwise [kernelRun0_A.sl.v1432, kernelRun0_A.sl.v1429]
  exact v1428 H hj r l

include H hj in
theorem v1413 (r l : Fin 128) : (kernelRun0_A.sl.v1413 c arg3 harg3 arg6 harg6 arg7 harg7 arg27 x1 x4 x5) (ix3 0 r l) = vbF a b (256 * (j + 1) + r) 0 l :=
  (rc3 (L2 := []) (List.append_nil _).symm (hs9 H hj) _ (fun y h1 h2 h3 h4 h5 h6 => ⟨_, (List.mem_cons_of_mem _ List.mem_cons_self), in3 (inb := by decide) (by omega)⟩) 0 r l).trans (by beta_reduce; congr 1 <;> (try simp only [Fin.val_zero]) <;> omega)

include H hj in
theorem v1417 (p : Fin 1) (r l : Fin 128) : (kernelRun0_A.sl.v1417 c arg3 harg3 arg6 harg6 arg7 harg7 arg27 x1 x4 x5) (ix3 p r l) = vbF a b (256 * (j + 1) + r) 0 l := by
  pointwise [kernelRun0_A.sl.v1417, kernelRun0_A.sl.v1414]
  exact v1413 H hj r l

include H hj in
theorem hs9_1 : View.PiecesOf (at3 (e := .bf16) (fun g R l => if g = 0 ∧ R < 128 then vbF a b (256 * (j + 1) + R) 0 l else vbF a b (256 * j + R) g l)) (((kernelRun0_A.sl.HS9_5 c arg3 harg3 arg6 harg6 arg7 harg7 arg27 x1 x4 x5)).take 3) :=
  by
  refine pieces_mem (piece3 (g := (fun g R l => if g = 0 ∧ R < 128 then vbF a b (256 * (j + 1) + R) 0 l else vbF a b (256 * j + R) g l)) (e := .bf16) (n0 := 2) (n1 := 384) (n2 := 128) (o0 := 0) (o1 := 0) (o2 := 0) (m0 := 1) (m1 := 128) (m2 := 128) (inb := by decide) fun p r l => ?_) ?_
  · beta_reduce
    rw [if_pos (by omega)]
    exact (v1417 H hj p r l).trans (by beta_reduce; congr 1 <;> omega)
  refine pieces_mem (piece3 (g := (fun g R l => if g = 0 ∧ R < 128 then vbF a b (256 * (j + 1) + R) 0 l else vbF a b (256 * j + R) g l)) (e := .bf16) (n0 := 2) (n1 := 384) (n2 := 128) (o0 := 1) (o1 := 128) (o2 := 0) (m0 := 1) (m1 := 256) (m2 := 128) (inb := by decide) fun p r l => ?_) ?_
  · beta_reduce
    rw [if_neg (by omega)]
    exact (v227 H p r l).trans (by beta_reduce; congr 1 <;> omega)
  refine pieces_mem (piece3 (g := (fun g R l => if g = 0 ∧ R < 128 then vbF a b (256 * (j + 1) + R) 0 l else vbF a b (256 * j + R) g l)) (e := .bf16) (n0 := 2) (n1 := 384) (n2 := 128) (o0 := 0) (o1 := 128) (o2 := 0) (m0 := 1) (m1 := 256) (m2 := 128) (inb := by decide) fun p r l => ?_) ?_
  · beta_reduce
    rw [if_neg (by omega)]
    exact (v217 H p r l).trans (by beta_reduce; congr 1 <;> omega)
  exact True.intro

include H hj in
theorem v1433 (r l : Fin 128) : (kernelRun0_A.sl.v1433 c arg3 harg3 arg6 harg6 arg7 harg7 arg27 x1 x4 x5) (ix3 0 r l) = vbF a b (256 * (j + 1) + r) 1 l :=
  (rc3 (List.take_append_drop 3 _).symm (hs9_1 H hj) _ (fun y h1 h2 h3 h4 h5 h6 => ⟨_, (List.mem_cons_of_mem _ List.mem_cons_self), in3 (inb := by decide) (by omega)⟩) 0 r l).trans (by
    beta_reduce
    rw [if_neg (by omega)]
    congr 1 <;> (try simp only [Fin.val_zero]) <;> omega)

include H hj in
theorem v1437 (p : Fin 1) (r l : Fin 128) : (kernelRun0_A.sl.v1437 c arg3 harg3 arg6 harg6 arg7 harg7 arg27 x1 x4 x5) (ix3 p r l) = vbF a b (256 * (j + 1) + r) 1 l := by
  pointwise [kernelRun0_A.sl.v1437, kernelRun0_A.sl.v1434]
  exact v1433 H hj r l

end Cert.PtA

end
-- ==== Proof.KLast.lean ====
/- Contents after stores, read where one of the last two stores wrote. -/
module

public import proofs.«01_k».proof.Proof.KRead

@[expose] public section

noncomputable section

namespace Cert.KRead

open Idealize.ShloMosaic Idealize.ShloMosaic.TcCoe Idealize.SL.Sem
open Cert.KernelIdeal Cert.KernelIdeal.Gen Cert.Spec Cert.KOps

theorem read_first2 {κ : Kind} {sp : Space} {s : Shape} {e : EltTy} (v : View sig κ sp s e) (f : v.ty.Contents (Elt Ideal))
    (G : s.Idx → Elt Ideal e) (y : s.Idx) (p q : View.Piece (Elt Ideal) s e) (L : List (View.Piece (Elt Ideal) s e))
    (h : View.PiecesOf G [p, q]) (hc : y ∈ p.1.set ∨ y ∈ q.1.set) : v.read (Elt Ideal) (v.writes (Elt Ideal) f (p :: q :: L)) y = G y := by
  have e : v.writes (Elt Ideal) f (p :: q :: L) = v.writes (Elt Ideal) (v.writes (Elt Ideal) f L) [p, q] := by
    simp only [View.writes_cons, View.writes_nil]
  rw [e]
  refine read_writes_of v _ G y [p, q] h fun hp => ?_
  rcases hc with hc | hc
  · exact absurd hc (hp p List.mem_cons_self)
  · exact absurd hc (hp q (List.mem_cons_of_mem _ List.mem_cons_self))

end Cert.KRead

end
-- ==== Proof.PtA9.lean ====
/- Grid points of case A: the contents the case leaves in the output block and in the carried rows of keys and values. -/
module

public import proofs.«01_k».proof.Proof.PtA8
public import proofs.«01_k».proof.Proof.Gen.KernelIdeal.Frame
public import proofs.«01_k».proof.Proof.KLast

@[expose] public section

set_option maxRecDepth 16384
set_option maxHeartbeats 1000000

noncomputable section

namespace Cert.PtA

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 arg17 : Memref sig .tc .vmem S1x256x1024 .f32} {arg4 arg5 : Memref sig .tc .vmem S256x128 .f32}
  {arg6 arg11 arg12 arg16 : Memref sig .tc .vmem S1x1024 .f32} {arg7 : Memref sig .tc .vmem S1024x7424 .bf16}
  {arg8 : Memref sig .tc .vmem S1x2048 .f32} {arg9 : Memref sig .tc .vmem S8x128x128 .f32} {arg10 : Memref sig .tc .vmem S128x1024 .f32}
  {arg13 arg14 arg15 : Memref sig .tc .vmem S1024x1024 .bf16} {arg18 arg32 arg33 : Memref sig .tc .vmem S256x1024 .bf16}
  {arg19 arg20 arg21 arg22 : Memref sig .tc .vmem S256x1024 .f32} {arg23 : Memref sig .tc .vmem S256x2048 .f32}
  {arg24 arg25 arg26 arg27 : Memref sig .tc .vmem S2x384x128 .bf16} {arg28 arg29 : Memref sig .tc .vmem S512x256 .f32}
  {arg30 arg31 : Memref sig .tc .vmem S512x256 .bf16} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole} {harg11 : arg11.IsWhole}
  {harg12 : arg12.IsWhole} {harg13 : arg13.IsWhole} {harg14 : arg14.IsWhole} {harg15 : arg15.IsWhole} {harg16 : arg16.IsWhole}
  {harg17 : arg17.IsWhole} {harg18 : arg18.IsWhole} {harg19 : arg19.IsWhole} {harg20 : arg20.IsWhole} {harg21 : arg21.IsWhole}
  {harg22 : arg22.IsWhole} {harg23 : arg23.IsWhole} {harg24 : arg24.IsWhole} {harg25 : arg25.IsWhole} {harg26 : arg26.IsWhole}
  {harg27 : arg27.IsWhole} {harg28 : arg28.IsWhole} {harg29 : arg29.IsWhole} {harg30 : arg30.IsWhole} {harg31 : arg31.IsWhole}
  {harg32 : arg32.IsWhole} {harg33 : arg33.IsWhole} {x0 : Vec Ideal S16 .f32} {x1 : Vec Ideal S1x256x1024 .f32} {x2 x3 : Vec Ideal S256x128 .f32}
  {x4 x9 x10 x14 : Vec Ideal S1x1024 .f32} {x5 : Vec Ideal S1024x7424 .bf16} {x6 : Vec Ideal S1x2048 .f32} {x7 : Vec Ideal S8x128x128 .f32}
  {x8 : Vec Ideal S128x1024 .f32} {x11 x12 x13 : Vec Ideal S1024x1024 .bf16}

variable (H : Blk a b j x0 x1 x2 x3 x4 x5 x6 x7 x8 x9 x10 x11 x12 x13 x14) (hj : j = 0) (hi : (i 1).val = j) (fa : Finite a)

include H hj hi fa in
/-- The output block. -/
theorem out {hc0 : cond0_0 i} (p : Fin 1) (r : Fin 256) (q : Fin 1024) :
    out0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 (ix3 p r q) = OUT a b (256 * j + r) q := by
  unfold out0_A_15
  refine (read_writes_of VO0_15 _ (at3 (fun _ r q => OUT a b (256 * j + r) q)) (ix3 p r q) _ ?_ fun hp => ?_).trans rfl
  · unfold kernelRun0_A
    dsimp only
    refine pieces_mem (piece3 (g := (fun _ r q => OUT a b (256 * j + r) q)) (e := .f32) (n0 := 1) (n1 := 256) (n2 := 1024) (o0 := 0) (o1 := 0) (o2 := 0) (m0 := 1) (m1 := 256) (m2 := 1024) (inb := by decide) fun p r l => ?_) True.intro
    exact (result H hj hi fa p r l).trans (by beta_reduce; congr 1 <;> omega)
  · obtain ⟨pc, h1, h2⟩ := cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 (ix3 p r q)
    exact absurd h2 (hp pc h1)

include H hj in
theorem left6 {hc0 : cond0_0 i} (g : Fin 2) (R : Fin 384) (l : Fin 128) (hR : R.val < 128) :
    sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 (ix3 g R l) = kaF a b (256 * (j + 1) + R) g l := by
  unfold sout0_A_6 kernelRun0_A
  dsimp only
  refine (read_first2 VS0_6 _ (at3 (e := .bf16) (fun g R l => kaF a b (256 * (j + 1) + R) g l)) (ix3 g R l) _ _ _
    (pieces_mem (piece3 (g := (fun g R l => kaF a b (256 * (j + 1) + R) g l)) (e := .bf16) (n0 := 2) (n1 := 384) (n2 := 128) (o0 := 1) (o1 := 0) (o2 := 0) (m0 := 1) (m1 := 128) (m2 := 128) (inb := by decide) fun p r l => ?_)
    (pieces_mem (piece3 (g := (fun g R l => kaF a b (256 * (j + 1) + R) g l)) (e := .bf16) (n0 := 2) (n1 := 384) (n2 := 128) (o0 := 0) (o1 := 0) (o2 := 0) (m0 := 1) (m1 := 128) (m2 := 128) (inb := by decide) fun p r l => ?_) True.intro)) ?_).trans rfl
  · exact (v1422 H hj p r l).trans (by beta_reduce; congr 1 <;> omega)
  · exact (v1402 H hj p r l).trans (by beta_reduce; congr 1 <;> omega)
  · have hg := g.isLt
    have hl := l.isLt
    by_cases h : g.val = 1
    · exact Or.inl (in3 (inb := by decide) ⟨⟨by show 1 ≤ g.val; omega, by show g.val < 1 + 1; omega⟩, ⟨by show 0 ≤ R.val; omega, by show R.val < 0 + 128; omega⟩, ⟨by show 0 ≤ l.val; omega, by show l.val < 0 + 128; omega⟩⟩)
    · exact Or.inr (in3 (inb := by decide) ⟨⟨by show 0 ≤ g.val; omega, by show g.val < 0 + 1; omega⟩, ⟨by show 0 ≤ R.val; omega, by show R.val < 0 + 128; omega⟩, ⟨by show 0 ≤ l.val; omega, by show l.val < 0 + 128; omega⟩⟩)

include H hj in
theorem left7 {hc0 : cond0_0 i} (g : Fin 2) (R : Fin 384) (l : Fin 128) (hR : R.val < 128) :
    sout0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 (ix3 g R l) = kbF a b (256 * (j + 1) + R) g l := by
  unfold sout0_A_7 kernelRun0_A
  dsimp only
  refine (read_first2 VS0_7 _ (at3 (e := .bf16) (fun g R l => kbF a b (256 * (j + 1) + R) g l)) (ix3 g R l) _ _ _
    (pieces_mem (piece3 (g := (fun g R l => kbF a b (256 * (j + 1) + R) g l)) (e := .bf16) (n0 := 2) (n1 := 384) (n2 := 128) (o0 := 1) (o1 := 0) (o2 := 0) (m0 := 1) (m1 := 128) (m2 := 128) (inb := by decide) fun p r l => ?_)
    (pieces_mem (piece3 (g := (fun g R l => kbF a b (256 * (j + 1) + R) g l)) (e := .bf16) (n0 := 2) (n1 := 384) (n2 := 128) (o0 := 0) (o1 := 0) (o2 := 0) (m0 := 1) (m1 := 128) (m2 := 128) (inb := by decide) fun p r l => ?_) True.intro)) ?_).trans rfl
  · exact (v1427 H hj p r l).trans (by beta_reduce; congr 1 <;> omega)
  · exact (v1407 H hj p r l).trans (by beta_reduce; congr 1 <;> omega)
  · have hg := g.isLt
    have hl := l.isLt
    by_cases h : g.val = 1
    · exact Or.inl (in3 (inb := by decide) ⟨⟨by show 1 ≤ g.val; omega, by show g.val < 1 + 1; omega⟩, ⟨by show 0 ≤ R.val; omega, by show R.val < 0 + 128; omega⟩, ⟨by show 0 ≤ l.val; omega, by show l.val < 0 + 128; omega⟩⟩)
    · exact Or.inr (in3 (inb := by decide) ⟨⟨by show 0 ≤ g.val; omega, by show g.val < 0 + 1; omega⟩, ⟨by show 0 ≤ R.val; omega, by show R.val < 0 + 128; omega⟩, ⟨by show 0 ≤ l.val; omega, by show l.val < 0 + 128; omega⟩⟩)

include H hj in
theorem left8 {hc0 : cond0_0 i} (g : Fin 2) (R : Fin 384) (l : Fin 128) (hR : R.val < 128) :
    sout0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 (ix3 g R l) = vaF a b (256 * (j + 1) + R) g l := by
  unfold sout0_A_8 kernelRun0_A
  dsimp only
  refine (read_first2 VS0_8 _ (at3 (e := .bf16) (fun g R l => vaF a b (256 * (j + 1) + R) g l)) (ix3 g R l) _ _ _
    (pieces_mem (piece3 (g := (fun g R l => vaF a b (256 * (j + 1) + R) g l)) (e := .bf16) (n0 := 2) (n1 := 384) (n2 := 128) (o0 := 1) (o1 := 0) (o2 := 0) (m0 := 1) (m1 := 128) (m2 := 128) (inb := by decide) fun p r l => ?_)
    (pieces_mem (piece3 (g := (fun g R l => vaF a b (256 * (j + 1) + R) g l)) (e := .bf16) (n0 := 2) (n1 := 384) (n2 := 128) (o0 := 0) (o1 := 0) (o2 := 0) (m0 := 1) (m1 := 128) (m2 := 128) (inb := by decide) fun p r l => ?_) True.intro)) ?_).trans rfl
  · exact (v1432 H hj p r l).trans (by beta_reduce; congr 1 <;> omega)
  · exact (v1412 H hj p r l).trans (by beta_reduce; congr 1 <;> omega)
  · have hg := g.isLt
    have hl := l.isLt
    by_cases h : g.val = 1
    · exact Or.inl (in3 (inb := by decide) ⟨⟨by show 1 ≤ g.val; omega, by show g.val < 1 + 1; omega⟩, ⟨by show 0 ≤ R.val; omega, by show R.val < 0 + 128; omega⟩, ⟨by show 0 ≤ l.val; omega, by show l.val < 0 + 128; omega⟩⟩)
    · exact Or.inr (in3 (inb := by decide) ⟨⟨by show 0 ≤ g.val; omega, by show g.val < 0 + 1; omega⟩, ⟨by show 0 ≤ R.val; omega, by show R.val < 0 + 128; omega⟩, ⟨by show 0 ≤ l.val; omega, by show l.val < 0 + 128; omega⟩⟩)

include H hj in
theorem left9 {hc0 : cond0_0 i} (g : Fin 2) (R : Fin 384) (l : Fin 128) (hR : R.val < 128) :
    sout0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 (ix3 g R l) = vbF a b (256 * (j + 1) + R) g l := by
  unfold sout0_A_9 kernelRun0_A
  dsimp only
  refine (read_first2 VS0_9 _ (at3 (e := .bf16) (fun g R l => vbF a b (256 * (j + 1) + R) g l)) (ix3 g R l) _ _ _
    (pieces_mem (piece3 (g := (fun g R l => vbF a b (256 * (j + 1) + R) g l)) (e := .bf16) (n0 := 2) (n1 := 384) (n2 := 128) (o0 := 1) (o1 := 0) (o2 := 0) (m0 := 1) (m1 := 128) (m2 := 128) (inb := by decide) fun p r l => ?_)
    (pieces_mem (piece3 (g := (fun g R l => vbF a b (256 * (j + 1) + R) g l)) (e := .bf16) (n0 := 2) (n1 := 384) (n2 := 128) (o0 := 0) (o1 := 0) (o2 := 0) (m0 := 1) (m1 := 128) (m2 := 128) (inb := by decide) fun p r l => ?_) True.intro)) ?_).trans rfl
  · exact (v1437 H hj p r l).trans (by beta_reduce; congr 1 <;> omega)
  · exact (v1417 H hj p r l).trans (by beta_reduce; congr 1 <;> omega)
  · have hg := g.isLt
    have hl := l.isLt
    by_cases h : g.val = 1
    · exact Or.inl (in3 (inb := by decide) ⟨⟨by show 1 ≤ g.val; omega, by show g.val < 1 + 1; omega⟩, ⟨by show 0 ≤ R.val; omega, by show R.val < 0 + 128; omega⟩, ⟨by show 0 ≤ l.val; omega, by show l.val < 0 + 128; omega⟩⟩)
    · exact Or.inr (in3 (inb := by decide) ⟨⟨by show 0 ≤ g.val; omega, by show g.val < 0 + 1; omega⟩, ⟨by show 0 ≤ R.val; omega, by show R.val < 0 + 128; omega⟩, ⟨by show 0 ≤ l.val; omega, by show l.val < 0 + 128; omega⟩⟩)

include H hj in
/-- The rows of keys and values left to the next point. -/
theorem left {hc0 : cond0_0 i} : Halo a b (j + 1) (sout0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14) (sout0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14) (sout0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14) (sout0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14) :=
  ⟨left6 H hj, left7 H hj, left8 H hj, left9 H hj⟩

end Cert.PtA

end
-- ==== Proof.PtB1.lean ====
/- Grid points of case B, first part: the masks, the projections, the rotated and scaled queries, the keys and values with the rows of the
   point before, each of the body's values read at an index as the layer's functions. -/
module

public import proofs.«01_k».proof.Proof.KMask
public import proofs.«01_k».proof.Proof.Gen.KernelIdeal.Frame.RunB

@[expose] public section

set_option maxRecDepth 16384

noncomputable section

namespace Cert.PtB

open Idealize.ShloMosaic Idealize.ShloMosaic.TcCoe Idealize.SL.Sem
open Cert.KernelIdeal Cert.KernelIdeal.Gen Cert.Spec Cert.KOps Cert.KRead Cert.KMask

theorem lo256 (r : Fin 256) (l : Fin 128) : cmpi .slt kernelRun0_B.sl.v24 kernelRun0_B.sl.v27 (ix2 r l) = if l.val < 64 then 1#1 else 0#1 := by
  pointwise [kernelRun0_B.sl.v24, kernelRun0_B.sl.v27]
  revert l; decide +kernel

theorem lo128 (r l : Fin 128) : cmpi .slt kernelRun0_B.sl.v64 kernelRun0_B.sl.v65 (ix2 r l) = if l.val < 64 then 1#1 else 0#1 := by
  pointwise [kernelRun0_B.sl.v64, kernelRun0_B.sl.v65]
  revert l; decide +kernel

theorem v61 (r : Fin 256) (l : Fin 128) : kernelRun0_B.sl.v61 (ix2 r l) = if 8 ≤ l.val % 64 ∧ l.val % 64 < 16 then 1#1 else 0#1 := by
  pointwise [kernelRun0_B.sl.v61, kernelRun0_B.sl.v40, kernelRun0_B.sl.v36, kernelRun0_B.sl.v32, kernelRun0_B.sl.v24, kernelRun0_B.sl.v27, kernelRun0_B.sl.v29, kernelRun0_B.sl.v34, kernelRun0_B.sl.v30, kernelRun0_B.sl.v39, kernelRun0_B.sl.v41, kernelRun0_B.sl.v59]
  revert l; decide +kernel

theorem causal (r l : Fin 128) : cmpi .sle kernelRun0_B.sl.v1487 kernelRun0_B.sl.v1462 (ix2 r l) = if l.val / 64 ≤ r.val / 64 then 1#1 else 0#1 := by
  pointwise [kernelRun0_B.sl.v1487, kernelRun0_B.sl.v1479, kernelRun0_B.sl.v1468, kernelRun0_B.sl.v64, kernelRun0_B.sl.v1441, kernelRun0_B.sl.v1471, kernelRun0_B.sl.v1453, kernelRun0_B.sl.v1483, kernelRun0_B.sl.v65, kernelRun0_B.sl.v1486, kernelRun0_B.sl.v1462, kernelRun0_B.sl.v1454, kernelRun0_B.sl.v1443, kernelRun0_B.sl.v1438, kernelRun0_B.sl.v1446, kernelRun0_B.sl.v1458, kernelRun0_B.sl.v1461]
  exact causal_eq r l

theorem r_1 {m : ℕ} (hm : 1 ≤ m) (r : Fin 128) (k : Fin 256) : kernelRun0_B.sl.r_1 (ix2 r k) = if vis m r k then 1#1 else 0#1 := by
  pointwise [kernelRun0_B.sl.r_1, kernelRun0_B.sl.v307, kernelRun0_B.sl.v299, kernelRun0_B.sl.v288, kernelRun0_B.sl.v283, kernelRun0_B.sl.v261, kernelRun0_B.sl.v291, kernelRun0_B.sl.v273, kernelRun0_B.sl.v303, kernelRun0_B.sl.v259, kernelRun0_B.sl.v306, kernelRun0_B.sl.v282, kernelRun0_B.sl.v274, kernelRun0_B.sl.v263, kernelRun0_B.sl.v258, kernelRun0_B.sl.v266, kernelRun0_B.sl.v278, kernelRun0_B.sl.v281, kernelRun0_B.sl.v309, k0_pay60]
  exact band_eq hm r k

variable {a : Args} {b j : ℕ} {c : Dev nD} {i : grid0.Coords}
  {arg3 : Memref sig .tc .vmem S1x256x1024 .f32} {arg4 arg5 : Memref sig .tc .vmem S256x128 .f32} {arg6 : Memref sig .tc .vmem S1x1024 .f32}
  {arg7 : Memref sig .tc .vmem S1024x7424 .bf16} {harg3 : arg3.IsWhole} {harg4 : arg4.IsWhole} {harg5 : arg5.IsWhole} {harg6 : arg6.IsWhole}
  {harg7 : arg7.IsWhole} {x0 : Vec Ideal S16 .f32} {x1 : Vec Ideal S1x256x1024 .f32} {x2 x3 : Vec Ideal S256x128 .f32}
  {x4 x9 x10 x14 : Vec Ideal S1x1024 .f32} {x5 : Vec Ideal S1024x7424 .bf16} {x6 : Vec Ideal S1x2048 .f32} {x7 : Vec Ideal S8x128x128 .f32}
  {x8 : Vec Ideal S128x1024 .f32} {x11 x12 x13 : Vec Ideal S1024x1024 .bf16}
  {xs6 xs7 xs8 xs9 : Vec Ideal S2x384x128 .bf16}

include i in
theorem r_2 (hi : (i 1).val = j) (r : Fin 128) (k : Fin 256) : kernelRun0_B.sl.r_2 i (ix2 r k) = if vis (2 * j) r k then 1#1 else 0#1 := by
  pointwise [kernelRun0_B.sl.r_2, kernelRun0_B.sl.v307, kernelRun0_B.sl.v299, kernelRun0_B.sl.v288, kernelRun0_B.sl.v283, kernelRun0_B.sl.v261, kernelRun0_B.sl.v291, kernelRun0_B.sl.v273, kernelRun0_B.sl.v303, kernelRun0_B.sl.v259, kernelRun0_B.sl.v306, kernelRun0_B.sl.v282, kernelRun0_B.sl.v274, kernelRun0_B.sl.v263, kernelRun0_B.sl.v258, kernelRun0_B.sl.v266, kernelRun0_B.sl.v278, kernelRun0_B.sl.v281, kernelRun0_B.sl.v309, k0_pay60, k0_pay61]
  subst hi
  exact first_eq (i 1).isLt r k

theorem v19 (H : Blk a b j x0 x1 x2 x3 x4 x5 x6 x7 x8 x9 x10 x11 x12 x13 x14) (r : Fin 256) (d : Fin 1024) :
    (kernelRun0_B.sl.v19 c arg3 harg3 arg6 harg6 x1 x4) (ix2 r d) = hid a b (256 * j + r) d :=
  hid_of (fun r d => (rd3 harg3 (g := fun _ r d => a.x b (256 * j + r) d) H.h1 _ 0 r d).trans (by beta_reduce; congr 1 <;> omega)) (fun d => (rd2 harg6 (g := fun _ d => a.ng d) H.h4 _ 0 d).trans (by beta_reduce; congr 1 <;> omega)) r d

theorem v21 (H : Blk a b j x0 x1 x2 x3 x4 x5 x6 x7 x8 x9 x10 x11 x12 x13 x14) (r : Fin 256) (l : Fin 128) :
    (kernelRun0_B.sl.v21 c arg4 harg4 x2) (ix2 r l) = cosF a (256 * j + r) l :=
  by
  pointwise [kernelRun0_B.sl.v21]
  exact (rd2 harg4 (g := fun r l => cosF a (256 * j + r) l) H.h2 _ r l).trans (by beta_reduce; congr 1 <;> omega)

theorem v23 (H : Blk a b j x0 x1 x2 x3 x4 x5 x6 x7 x8 x9 x10 x11 x12 x13 x14) (r : Fin 256) (l : Fin 128) :
    (kernelRun0_B.sl.v23 c arg5 harg5 x3) (ix2 r l) = sinF a (256 * j + r) l :=
  by
  pointwise [kernelRun0_B.sl.v23]
  exact (rd2 harg5 (g := fun r l => sinF a (256 * j + r) l) H.h3 _ r l).trans (by beta_reduce; congr 1 <;> omega)

theorem v69 (H : Blk a b j x0 x1 x2 x3 x4 x5 x6 x7 x8 x9 x10 x11 x12 x13 x14) (r : Fin 256) (n : Fin 1024) :
    (kernelRun0_B.sl.v69 c arg3 harg3 arg6 harg6 arg7 harg7 x1 x4 x5) (ix2 r n) = PJ a b (256 * j + r) (0 + n) :=
  proj1024_of (c0 := 0) (v19 H) (fun d n => (rd2 harg7 H.h5 _ d n).trans (by beta_reduce; congr 1 <;> omega)) r n

theorem v82 (H : Blk a b j x0 x1 x2 x3 x4 x5 x6 x7 x8 x9 x10 x11 x12 x13 x14) (r : Fin 256) (l : Fin 128) :
    (kernelRun0_B.sl.v82 c arg3 harg3 arg4 harg4 arg5 harg5 arg6 harg6 arg7 harg7 x1 x2 x3 x4 x5) (ix2 r l) = qF a b (256 * j + r) (128 * 0 + l) :=
  qV_of (p := 0) v61 (v21 H) (v23 H) (fun r l => by
    pointwise [kernelRun0_B.sl.v70]
    exact (v69 H _ _).trans (by first | (dsimp only; done) | (dsimp only; congr 1 <;> omega))) r l

theorem v95 (H : Blk a b j x0 x1 x2 x3 x4 x5 x6 x7 x8 x9 x10 x11 x12 x13 x14) (r : Fin 256) (l : Fin 128) :
    (kernelRun0_B.sl.v95 c arg3 harg3 arg4 harg4 arg5 harg5 arg6 harg6 arg7 harg7 x1 x2 x3 x4 x5) (ix2 r l) = qF a b (256 * j + r) (128 * 1 + l) :=
  qV_of (p := 1) v61 (v21 H) (v23 H) (fun r l => by
    pointwise [kernelRun0_B.sl.v83]
    exact (v69 H _ _).trans (by first | (dsimp only; done) | (dsimp only; congr 1 <;> omega))) r l

theorem v108 (H : Blk a b j x0 x1 x2 x3 x4 x5 x6 x7 x8 x9 x10 x11 x12 x13 x14) (r : Fin 256) (l : Fin 128) :
    (kernelRun0_B.sl.v108 c arg3 harg3 arg4 harg4 arg5 harg5 arg6 harg6 arg7 harg7 x1 x2 x3 x4 x5) (ix2 r l) = qF a b (256 * j + r) (128 * 2 + l) :=
  qV_of (p := 2) v61 (v21 H) (v23 H) (fun r l => by
    pointwise [kernelRun0_B.sl.v96]
    exact (v69 H _ _).trans (by first | (dsimp only; done) | (dsimp only; congr 1 <;> omega))) r l

theorem v121 (H : Blk a b j x0 x1 x2 x3 x4 x5 x6 x7 x8 x9 x10 x11 x12 x13 x14) (r : Fin 256) (l : Fin 128) :
    (kernelRun0_B.sl.v121 c arg3 harg3 arg4 harg4 arg5 harg5 arg6 harg6 arg7 harg7 x1 x2 x3 x4 x5) (ix2 r l) = qF a b (256 * j + r) (128 * 3 + l) :=
  qV_of (p := 3) v61 (v21 H) (v23 H) (fun r l => by
    pointwise [kernelRun0_B.sl.v109]
    exact (v69 H _ _).trans (by first | (dsimp only; done) | (dsimp only; congr 1 <;> omega))) r l

theorem v134 (H : Blk a b j x0 x1 x2 x3 x4 x5 x6 x7 x8 x9 x10 x11 x12 x13 x14) (r : Fin 256) (l : Fin 128) :
    (kernelRun0_B.sl.v134 c arg3 harg3 arg4 harg4 arg5 harg5 arg6 harg6 arg7 harg7 x1 x2 x3 x4 x5) (ix2 r l) = qF a b (256 * j + r) (128 * 4 + l) :=
  qV_of (p := 4) v61 (v21 H) (v23 H) (fun r l => by
    pointwise [kernelRun0_B.sl.v122]
    exact (v69 H _ _).trans (by first | (dsimp only; done) | (dsimp only; congr 1 <;> omega))) r l

theorem v147 (H : Blk a b j x0 x1 x2 x3 x4 x5 x6 x7 x8 x9 x10 x11 x12 x13 x14) (r : Fin 256) (l : Fin 128) :
    (kernelRun0_B.sl.v147 c arg3 harg3 arg4 harg4 arg5 harg5 arg6 harg6 arg7 harg7 x1 x2 x3 x4 x5) (ix2 r l) = qF a b (256 * j + r) (128 * 5 + l) :=
  qV_of (p := 5) v61 (v21 H) (v23 H) (fun r l => by
    pointwise [kernelRun0_B.sl.v135]
    exact (v69 H _ _).trans (by first | (dsimp only; done) | (dsimp only; congr 1 <;> omega))) r l

theorem v160 (H : Blk a b j x0 x1 x2 x3 x4 x5 x6 x7 x8 x9 x10 x11 x12 x13 x14) (r : Fin 256) (l : Fin 128) :
    (kernelRun0_B.sl.v160 c arg3 harg3 arg4 harg4 arg5 harg5 arg6 harg6 arg7 harg7 x1 x2 x3 x4 x5) (ix2 r l) = qF a b (256 * j + r) (128 * 6 + l) :=
  qV_of (p := 6) v61 (v21 H) (v23 H) (fun r l => by
    pointwise [kernelRun0_B.sl.v148]
    exact (v69 H _ _).trans (by first | (dsimp only; done) | (dsimp only; congr 1 <;> omega))) r l

theorem v173 (H : Blk a b j x0 x1 x2 x3 x4 x5 x6 x7 x8 x9 x10 x11 x12 x13 x14) (r : Fin 256) (l : Fin 128) :
    (kernelRun0_B.sl.v173 c arg3 harg3 arg4 harg4 arg5 harg5 arg6 harg6 arg7 harg7 x1 x2 x3 x4 x5) (ix2 r l) = qF a b (256 * j + r) (128 * 7 + l) :=
  qV_of (p := 7) v61 (v21 H) (v23 H) (fun r l => by
    pointwise [kernelRun0_B.sl.v161]
    exact (v69 H _ _).trans (by first | (dsimp only; done) | (dsimp only; congr 1 <;> omega))) r l

theorem v176 (H : Blk a b j x0 x1 x2 x3 x4 x5 x6 x7 x8 x9 x10 x11 x12 x13 x14) (r n : Fin 256) :
    (kernelRun0_B.sl.v176 c arg3 harg3 arg6 harg6 arg7 harg7 x1 x4 x5) (ix2 r n) = PJ a b (256 * j + r) (1024 + n) :=
  proj256_of (v19 H) (fun d n => (rd2 harg7 H.h5 _ d n).trans (by beta_reduce; congr 1 <;> omega)) r n

theorem v183 (H : Blk a b j x0 x1 x2 x3 x4 x5 x6 x7 x8 x9 x10 x11 x12 x13 x14) (r : Fin 256) (l : Fin 128) :
    (kernelRun0_B.sl.v183 c arg3 harg3 arg4 harg4 arg5 harg5 arg6 harg6 arg7 harg7 x1 x2 x3 x4 x5) (ix2 r l) = KH a b (256 * j + (128 + r)) (l / 64) (l % 64) :=
  kR_of v61 (v21 H) (v23 H) (fun r l => by
    pointwise [kernelRun0_B.sl.v177]
    exact (v176 H _ _).trans (by first | (dsimp only; done) | (dsimp only; congr 1 <;> omega))) r l

theorem v184 (H : Blk a b j x0 x1 x2 x3 x4 x5 x6 x7 x8 x9 x10 x11 x12 x13 x14) (r : Fin 256) (l : Fin 128) :
    (kernelRun0_B.sl.v184 c arg3 harg3 arg6 harg6 arg7 harg7 x1 x4 x5) (ix2 r l) = VH a b (256 * j + (128 + r)) (l / 64) (l % 64) :=
  vR_of (fun r l => by
    pointwise [kernelRun0_B.sl.v184]
    exact (v176 H _ _).trans (by first | (dsimp only; done) | (dsimp only; congr 1 <;> omega))) r l

theorem v191 (H : Blk a b j x0 x1 x2 x3 x4 x5 x6 x7 x8 x9 x10 x11 x12 x13 x14) (p : Fin 1) (r : Fin 256) (l : Fin 128) :
    (kernelRun0_B.sl.v191 c arg3 harg3 arg4 harg4 arg5 harg5 arg6 harg6 arg7 harg7 x1 x2 x3 x4 x5) (ix3 p r l) = kaF a b (256 * j + (128 + r)) 0 l :=
  by
  obtain rfl : p = 0 := Subsingleton.elim _ _
  exact lo0_of (G := fun r g l => KH a b (256 * j + (128 + r)) g l) lo256 (v183 H) r l

theorem v201 (H : Blk a b j x0 x1 x2 x3 x4 x5 x6 x7 x8 x9 x10 x11 x12 x13 x14) (p : Fin 1) (r : Fin 256) (l : Fin 128) :
    (kernelRun0_B.sl.v201 c arg3 harg3 arg4 harg4 arg5 harg5 arg6 harg6 arg7 harg7 x1 x2 x3 x4 x5) (ix3 p r l) = kaF a b (256 * j + (128 + r)) 1 l :=
  by
  obtain rfl : p = 0 := Subsingleton.elim _ _
  exact lo1_of (G := fun r g l => KH a b (256 * j + (128 + r)) g l) lo256 (v183 H) r l

theorem v196 (H : Blk a b j x0 x1 x2 x3 x4 x5 x6 x7 x8 x9 x10 x11 x12 x13 x14) (p : Fin 1) (r : Fin 256) (l : Fin 128) :
    (kernelRun0_B.sl.v196 c arg3 harg3 arg4 harg4 arg5 harg5 arg6 harg6 arg7 harg7 x1 x2 x3 x4 x5) (ix3 p r l) = kbF a b (256 * j + (128 + r)) 0 l :=
  by
  obtain rfl : p = 0 := Subsingleton.elim _ _
  exact hi0_of (G := fun r g l => KH a b (256 * j + (128 + r)) g l) lo256 (v183 H) r l

theorem v206 (H : Blk a b j x0 x1 x2 x3 x4 x5 x6 x7 x8 x9 x10 x11 x12 x13 x14) (p : Fin 1) (r : Fin 256) (l : Fin 128) :
    (kernelRun0_B.sl.v206 c arg3 harg3 arg4 harg4 arg5 harg5 arg6 harg6 arg7 harg7 x1 x2 x3 x4 x5) (ix3 p r l) = kbF a b (256 * j + (128 + r)) 1 l :=
  by
  obtain rfl : p = 0 := Subsingleton.elim _ _
  exact hi1_of (G := fun r g l => KH a b (256 * j + (128 + r)) g l) lo256 (v183 H) r l

theorem v212 (H : Blk a b j x0 x1 x2 x3 x4 x5 x6 x7 x8 x9 x10 x11 x12 x13 x14) (p : Fin 1) (r : Fin 256) (l : Fin 128) :
    (kernelRun0_B.sl.v212 c arg3 harg3 arg6 harg6 arg7 harg7 x1 x4 x5) (ix3 p r l) = vaF a b (256 * j + (128 + r)) 0 l :=
  by
  obtain rfl : p = 0 := Subsingleton.elim _ _
  exact lo0_of (G := fun r g l => VH a b (256 * j + (128 + r)) g l) lo256 (v184 H) r l

theorem v222 (H : Blk a b j x0 x1 x2 x3 x4 x5 x6 x7 x8 x9 x10 x11 x12 x13 x14) (p : Fin 1) (r : Fin 256) (l : Fin 128) :
    (kernelRun0_B.sl.v222 c arg3 harg3 arg6 harg6 arg7 harg7 x1 x4 x5) (ix3 p r l) = vaF a b (256 * j + (128 + r)) 1 l :=
  by
  obtain rfl : p = 0 := Subsingleton.elim _ _
  exact lo1_of (G := fun r g l => VH a b (256 * j + (128 + r)) g l) lo256 (v184 H) r l

theorem v217 (H : Blk a b j x0 x1 x2 x3 x4 x5 x6 x7 x8 x9 x10 x11 x12 x13 x14) (p : Fin 1) (r : Fin 256) (l : Fin 128) :
    (kernelRun0_B.sl.v217 c arg3 harg3 arg6 harg6 arg7 harg7 x1 x4 x5) (ix3 p r l) = vbF a b (256 * j + (128 + r)) 0 l :=
  by
  obtain rfl : p = 0 := Subsingleton.elim _ _
  exact hi0_of (G := fun r g l => VH a b (256 * j + (128 + r)) g l) lo256 (v184 H) r l

theorem v227 (H : Blk a b j x0 x1 x2 x3 x4 x5 x6 x7 x8 x9 x10 x11 x12 x13 x14) (p : Fin 1) (r : Fin 256) (l : Fin 128) :
    (kernelRun0_B.sl.v227 c arg3 harg3 arg6 harg6 arg7 harg7 x1 x4 x5) (ix3 p r l) = vbF a b (256 * j + (128 + r)) 1 l :=
  by
  obtain rfl : p = 0 := Subsingleton.elim _ _
  exact hi1_of (G := fun r g l => VH a b (256 * j + (128 + r)) g l) lo256 (v184 H) r l

theorem v233 (H : Blk a b j x0 x1 x2 x3 x4 x5 x6 x7 x8 x9 x10 x11 x12 x13 x14) (r : Fin 256) (n : Fin 1024) :
    (kernelRun0_B.sl.v233 c arg3 harg3 arg6 harg6 arg7 harg7 x1 x4 x5) (ix2 r n) = PJ a b (256 * j + r) (1280 + n) :=
  by
  pointwise [kernelRun0_B.sl.v233]
  exact proj1024_of (v19 H) (fun d n => (rd2 harg7 H.h5 _ d n).trans (by beta_reduce; congr 1 <;> omega)) r n

theorem v239 (H : Blk a b j x0 x1 x2 x3 x4 x5 x6 x7 x8 x9 x10 x11 x12 x13 x14) (r : Fin 256) (n : Fin 1024) :
    (kernelRun0_B.sl.v239 c arg3 harg3 arg6 harg6 arg7 harg7 x1 x4 x5) (ix2 r n) = PJ a b (256 * j + r) (2304 + n) :=
  by
  pointwise [kernelRun0_B.sl.v239]
  exact proj1024_of (v19 H) (fun d n => (rd2 harg7 H.h5 _ d n).trans (by beta_reduce; congr 1 <;> omega)) r n

theorem v245 (H : Blk a b j x0 x1 x2 x3 x4 x5 x6 x7 x8 x9 x10 x11 x12 x13 x14) (r : Fin 256) (n : Fin 1024) :
    (kernelRun0_B.sl.v245 c arg3 harg3 arg6 harg6 arg7 harg7 x1 x4 x5) (ix2 r n) = PJ a b (256 * j + r) (3328 + n) :=
  by
  pointwise [kernelRun0_B.sl.v245]
  exact proj1024_of (v19 H) (fun d n => (rd2 harg7 H.h5 _ d n).trans (by beta_reduce; congr 1 <;> omega)) r n

theorem v251 (H : Blk a b j x0 x1 x2 x3 x4 x5 x6 x7 x8 x9 x10 x11 x12 x13 x14) (r : Fin 256) (n : Fin 1024) :
    (kernelRun0_B.sl.v251 c arg3 harg3 arg6 harg6 arg7 harg7 x1 x4 x5) (ix2 r n) = PJ a b (256 * j + r) (4352 + n) :=
  by
  pointwise [kernelRun0_B.sl.v251]
  exact proj1024_of (v19 H) (fun d n => (rd2 harg7 H.h5 _ d n).trans (by beta_reduce; congr 1 <;> omega)) r n

theorem v257 (H : Blk a b j x0 x1 x2 x3 x4 x5 x6 x7 x8 x9 x10 x11 x12 x13 x14) (r : Fin 256) (n : Fin 2048) :
    (kernelRun0_B.sl.v257 c arg3 harg3 arg6 harg6 arg7 harg7 x1 x4 x5) (ix2 r n) = PJ a b (256 * j + r) (5376 + n) :=
  proj2048_of (v19 H) (fun d n => (rd2 harg7 H.h5 _ d n).trans (by beta_reduce; congr 1 <;> omega)) r n

end Cert.PtB

end
-- ==== Proof.PtB2.lean ====
/- Grid points of case B, second part: the loads of queries, keys, values and sinks. -/
module

public import proofs.«01_k».proof.Proof.PtB1

@[expose] public section

set_option maxRecDepth 16384
set_option maxHeartbeats 1000000

noncomputable section

namespace Cert.PtB

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg24 arg25 arg26 arg27 : Memref sig .tc .vmem S2x384x128 .bf16} {harg2 : arg2.IsWhole} {harg3 : arg3.IsWhole} {harg4 : arg4.IsWhole}
  {harg5 : arg5.IsWhole} {harg6 : arg6.IsWhole} {harg7 : arg7.IsWhole} {harg24 : arg24.IsWhole} {harg25 : arg25.IsWhole} {harg26 : arg26.IsWhole}
  {harg27 : arg27.IsWhole} {x0 : Vec Ideal S16 .f32} {x1 : Vec Ideal S1x256x1024 .f32} {x2 x3 : Vec Ideal S256x128 .f32}
  {x4 x9 x10 x14 : Vec Ideal S1x1024 .f32} {x5 : Vec Ideal S1024x7424 .bf16} {x6 : Vec Ideal S1x2048 .f32} {x7 : Vec Ideal S8x128x128 .f32}
  {x8 : Vec Ideal S128x1024 .f32} {x11 x12 x13 : Vec Ideal S1024x1024 .bf16}
  {xs6 xs7 xs8 xs9 : Vec Ideal S2x384x128 .bf16}

variable (H : Blk a b j x0 x1 x2 x3 x4 x5 x6 x7 x8 x9 x10 x11 x12 x13 x14) (HL : Halo a b j xs6 xs7 xs8 xs9)

include H in
theorem hs0 : View.PiecesOf (at2 (fun r c => qF a b (256 * j + r) c)) (kernelRun0_B.sl.HS0_8 c arg3 harg3 arg4 harg4 arg5 harg5 arg6 harg6 arg7 harg7 x1 x2 x3 x4 x5) :=
  by
  refine pc2 256 1024 0 896 256 128 (fun r l => ?_) ?_
  · exact (v173 H r l).trans (by beta_reduce; congr 1 <;> omega)
  refine pc2 256 1024 0 768 256 128 (fun r l => ?_) ?_
  · exact (v160 H r l).trans (by beta_reduce; congr 1 <;> omega)
  refine pc2 256 1024 0 640 256 128 (fun r l => ?_) ?_
  · exact (v147 H r l).trans (by beta_reduce; congr 1 <;> omega)
  refine pc2 256 1024 0 512 256 128 (fun r l => ?_) ?_
  · exact (v134 H r l).trans (by beta_reduce; congr 1 <;> omega)
  refine pc2 256 1024 0 384 256 128 (fun r l => ?_) ?_
  · exact (v121 H r l).trans (by beta_reduce; congr 1 <;> omega)
  refine pc2 256 1024 0 256 256 128 (fun r l => ?_) ?_
  · exact (v108 H r l).trans (by beta_reduce; congr 1 <;> omega)
  refine pc2 256 1024 0 128 256 128 (fun r l => ?_) ?_
  · exact (v95 H r l).trans (by beta_reduce; congr 1 <;> omega)
  refine pc2 256 1024 0 0 256 128 (fun r l => ?_) ?_
  · exact (v82 H r l).trans (by beta_reduce; congr 1 <;> omega)
  exact True.intro

include H in
theorem v318 (r l : Fin 128) : (kernelRun0_B.sl.v318 c arg3 harg3 arg4 harg4 arg5 harg5 arg6 harg6 arg7 harg7 arg18 x1 x2 x3 x4 x5) (ix2 r l) = qF a b (128 * (2 * j + 0) + r) (128 * (4 * 0 + 0) + l) :=
  (rcm (hs0 H) _ (mt (mt (mt (mt (mt (mt (mt mh))))))) (by decide) r l).trans (by beta_reduce; congr 1 <;> omega)

include H in
theorem v319 (r l : Fin 128) : (kernelRun0_B.sl.v319 c arg3 harg3 arg4 harg4 arg5 harg5 arg6 harg6 arg7 harg7 arg18 x1 x2 x3 x4 x5) (ix2 r l) = qF a b (128 * (2 * j + 0) + r) (128 * (4 * 0 + 1) + l) :=
  (rcm (hs0 H) _ (mt (mt (mt (mt (mt (mt mh)))))) (by decide) r l).trans (by beta_reduce; congr 1 <;> omega)

include H in
theorem v320 (r l : Fin 128) : (kernelRun0_B.sl.v320 c arg3 harg3 arg4 harg4 arg5 harg5 arg6 harg6 arg7 harg7 arg18 x1 x2 x3 x4 x5) (ix2 r l) = qF a b (128 * (2 * j + 0) + r) (128 * (4 * 0 + 2) + l) :=
  (rcm (hs0 H) _ (mt (mt (mt (mt (mt mh))))) (by decide) r l).trans (by beta_reduce; congr 1 <;> omega)

include H in
theorem v321 (r l : Fin 128) : (kernelRun0_B.sl.v321 c arg3 harg3 arg4 harg4 arg5 harg5 arg6 harg6 arg7 harg7 arg18 x1 x2 x3 x4 x5) (ix2 r l) = qF a b (128 * (2 * j + 0) + r) (128 * (4 * 0 + 3) + l) :=
  (rcm (hs0 H) _ (mt (mt (mt (mt mh)))) (by decide) r l).trans (by beta_reduce; congr 1 <;> omega)

include H in
theorem v588 (r l : Fin 128) : (kernelRun0_B.sl.v588 c arg3 harg3 arg4 harg4 arg5 harg5 arg6 harg6 arg7 harg7 arg18 x1 x2 x3 x4 x5) (ix2 r l) = qF a b (128 * (2 * j + 0) + r) (128 * (4 * 1 + 0) + l) :=
  (rcm (hs0 H) _ (mt (mt (mt mh))) (by decide) r l).trans (by beta_reduce; congr 1 <;> omega)

include H in
theorem v589 (r l : Fin 128) : (kernelRun0_B.sl.v589 c arg3 harg3 arg4 harg4 arg5 harg5 arg6 harg6 arg7 harg7 arg18 x1 x2 x3 x4 x5) (ix2 r l) = qF a b (128 * (2 * j + 0) + r) (128 * (4 * 1 + 1) + l) :=
  (rcm (hs0 H) _ (mt (mt mh)) (by decide) r l).trans (by beta_reduce; congr 1 <;> omega)

include H in
theorem v590 (r l : Fin 128) : (kernelRun0_B.sl.v590 c arg3 harg3 arg4 harg4 arg5 harg5 arg6 harg6 arg7 harg7 arg18 x1 x2 x3 x4 x5) (ix2 r l) = qF a b (128 * (2 * j + 0) + r) (128 * (4 * 1 + 2) + l) :=
  (rcm (hs0 H) _ (mt mh) (by decide) r l).trans (by beta_reduce; congr 1 <;> omega)

include H in
theorem v591 (r l : Fin 128) : (kernelRun0_B.sl.v591 c arg3 harg3 arg4 harg4 arg5 harg5 arg6 harg6 arg7 harg7 arg18 x1 x2 x3 x4 x5) (ix2 r l) = qF a b (128 * (2 * j + 0) + r) (128 * (4 * 1 + 3) + l) :=
  (rcm (hs0 H) _ mh (by decide) r l).trans (by beta_reduce; congr 1 <;> omega)

include H in
theorem v858 (r l : Fin 128) : (kernelRun0_B.sl.v858 c arg3 harg3 arg4 harg4 arg5 harg5 arg6 harg6 arg7 harg7 arg18 x1 x2 x3 x4 x5) (ix2 r l) = qF a b (128 * (2 * j + 1) + r) (128 * (4 * 0 + 0) + l) :=
  (rcm (hs0 H) _ (mt (mt (mt (mt (mt (mt (mt mh))))))) (by decide) r l).trans (by beta_reduce; congr 1 <;> omega)

include H in
theorem v859 (r l : Fin 128) : (kernelRun0_B.sl.v859 c arg3 harg3 arg4 harg4 arg5 harg5 arg6 harg6 arg7 harg7 arg18 x1 x2 x3 x4 x5) (ix2 r l) = qF a b (128 * (2 * j + 1) + r) (128 * (4 * 0 + 1) + l) :=
  (rcm (hs0 H) _ (mt (mt (mt (mt (mt (mt mh)))))) (by decide) r l).trans (by beta_reduce; congr 1 <;> omega)

include H in
theorem v860 (r l : Fin 128) : (kernelRun0_B.sl.v860 c arg3 harg3 arg4 harg4 arg5 harg5 arg6 harg6 arg7 harg7 arg18 x1 x2 x3 x4 x5) (ix2 r l) = qF a b (128 * (2 * j + 1) + r) (128 * (4 * 0 + 2) + l) :=
  (rcm (hs0 H) _ (mt (mt (mt (mt (mt mh))))) (by decide) r l).trans (by beta_reduce; congr 1 <;> omega)

include H in
theorem v861 (r l : Fin 128) : (kernelRun0_B.sl.v861 c arg3 harg3 arg4 harg4 arg5 harg5 arg6 harg6 arg7 harg7 arg18 x1 x2 x3 x4 x5) (ix2 r l) = qF a b (128 * (2 * j + 1) + r) (128 * (4 * 0 + 3) + l) :=
  (rcm (hs0 H) _ (mt (mt (mt (mt mh)))) (by decide) r l).trans (by beta_reduce; congr 1 <;> omega)

include H in
theorem v1128 (r l : Fin 128) : (kernelRun0_B.sl.v1128 c arg3 harg3 arg4 harg4 arg5 harg5 arg6 harg6 arg7 harg7 arg18 x1 x2 x3 x4 x5) (ix2 r l) = qF a b (128 * (2 * j + 1) + r) (128 * (4 * 1 + 0) + l) :=
  (rcm (hs0 H) _ (mt (mt (mt mh))) (by decide) r l).trans (by beta_reduce; congr 1 <;> omega)

include H in
theorem v1129 (r l : Fin 128) : (kernelRun0_B.sl.v1129 c arg3 harg3 arg4 harg4 arg5 harg5 arg6 harg6 arg7 harg7 arg18 x1 x2 x3 x4 x5) (ix2 r l) = qF a b (128 * (2 * j + 1) + r) (128 * (4 * 1 + 1) + l) :=
  (rcm (hs0 H) _ (mt (mt mh)) (by decide) r l).trans (by beta_reduce; congr 1 <;> omega)

include H in
theorem v1130 (r l : Fin 128) : (kernelRun0_B.sl.v1130 c arg3 harg3 arg4 harg4 arg5 harg5 arg6 harg6 arg7 harg7 arg18 x1 x2 x3 x4 x5) (ix2 r l) = qF a b (128 * (2 * j + 1) + r) (128 * (4 * 1 + 2) + l) :=
  (rcm (hs0 H) _ (mt mh) (by decide) r l).trans (by beta_reduce; congr 1 <;> omega)

include H in
theorem v1131 (r l : Fin 128) : (kernelRun0_B.sl.v1131 c arg3 harg3 arg4 harg4 arg5 harg5 arg6 harg6 arg7 harg7 arg18 x1 x2 x3 x4 x5) (ix2 r l) = qF a b (128 * (2 * j + 1) + r) (128 * (4 * 1 + 3) + l) :=
  (rcm (hs0 H) _ mh (by decide) r l).trans (by beta_reduce; congr 1 <;> omega)

include H in
theorem hs6 : View.PiecesOf (at3 (fun g R l => kaF a b (256 * j + R) g l)) (kernelRun0_B.sl.HS6_2 c arg3 harg3 arg4 harg4 arg5 harg5 arg6 harg6 arg7 harg7 x1 x2 x3 x4 x5) :=
  by
  refine pc3 2 384 128 1 128 0 1 256 128 (fun p r l => ?_) ?_
  · exact (v201 H p r l).trans (by beta_reduce; congr 1 <;> omega)
  refine pc3 2 384 128 0 128 0 1 256 128 (fun p r l => ?_) ?_
  · exact (v191 H p r l).trans (by beta_reduce; congr 1 <;> omega)
  exact True.intro

include H in
theorem hs7 : View.PiecesOf (at3 (fun g R l => kbF a b (256 * j + R) g l)) (kernelRun0_B.sl.HS7_2 c arg3 harg3 arg4 harg4 arg5 harg5 arg6 harg6 arg7 harg7 x1 x2 x3 x4 x5) :=
  by
  refine pc3 2 384 128 1 128 0 1 256 128 (fun p r l => ?_) ?_
  · exact (v206 H p r l).trans (by beta_reduce; congr 1 <;> omega)
  refine pc3 2 384 128 0 128 0 1 256 128 (fun p r l => ?_) ?_
  · exact (v196 H p r l).trans (by beta_reduce; congr 1 <;> omega)
  exact True.intro

include H in
theorem hs8 : View.PiecesOf (at3 (fun g R l => vaF a b (256 * j + R) g l)) (kernelRun0_B.sl.HS8_2 c arg3 harg3 arg6 harg6 arg7 harg7 x1 x4 x5) :=
  by
  refine pc3 2 384 128 1 128 0 1 256 128 (fun p r l => ?_) ?_
  · exact (v222 H p r l).trans (by beta_reduce; congr 1 <;> omega)
  refine pc3 2 384 128 0 128 0 1 256 128 (fun p r l => ?_) ?_
  · exact (v212 H p r l).trans (by beta_reduce; congr 1 <;> omega)
  exact True.intro

include H in
theorem hs9 : View.PiecesOf (at3 (fun g R l => vbF a b (256 * j + R) g l)) (kernelRun0_B.sl.HS9_2 c arg3 harg3 arg6 harg6 arg7 harg7 x1 x4 x5) :=
  by
  refine pc3 2 384 128 1 128 0 1 256 128 (fun p r l => ?_) ?_
  · exact (v227 H p r l).trans (by beta_reduce; congr 1 <;> omega)
  refine pc3 2 384 128 0 128 0 1 256 128 (fun p r l => ?_) ?_
  · exact (v217 H p r l).trans (by beta_reduce; congr 1 <;> omega)
  exact True.intro

include H HL in
theorem v323 (k : Fin 256) (l : Fin 128) : (kernelRun0_B.sl.v323 c arg3 harg3 arg4 harg4 arg5 harg5 arg6 harg6 arg7 harg7 arg24 harg24 x1 x2 x3 x4 x5 xs6) (ix3 0 k l) = kaF a b (128 * (2 * j + 0) + k) 0 l :=
  (rw3 harg24 (hs6 H) _ (fun y hy => (congrArg xs6 (eq_ix3 y)).trans (HL.h6 _ _ _ (off_rows hy))) 0 k l).trans (by beta_reduce; congr 1 <;> (try simp only [Fin.val_zero]) <;> omega)

include H HL in
theorem v329 (k : Fin 256) (l : Fin 128) : (kernelRun0_B.sl.v329 c arg3 harg3 arg4 harg4 arg5 harg5 arg6 harg6 arg7 harg7 arg25 harg25 x1 x2 x3 x4 x5 xs7) (ix3 0 k l) = kbF a b (128 * (2 * j + 0) + k) 0 l :=
  (rw3 harg25 (hs7 H) _ (fun y hy => (congrArg xs7 (eq_ix3 y)).trans (HL.h7 _ _ _ (off_rows hy))) 0 k l).trans (by beta_reduce; congr 1 <;> (try simp only [Fin.val_zero]) <;> omega)

include H HL in
theorem v520 (k : Fin 256) (l : Fin 128) : (kernelRun0_B.sl.v520 c arg3 harg3 arg6 harg6 arg7 harg7 arg26 harg26 x1 x4 x5 xs8) (ix3 0 k l) = vaF a b (128 * (2 * j + 0) + k) 0 l :=
  (rw3 harg26 (hs8 H) _ (fun y hy => (congrArg xs8 (eq_ix3 y)).trans (HL.h8 _ _ _ (off_rows hy))) 0 k l).trans (by beta_reduce; congr 1 <;> (try simp only [Fin.val_zero]) <;> omega)

include H HL in
theorem v524 (k : Fin 256) (l : Fin 128) : (kernelRun0_B.sl.v524 c arg3 harg3 arg6 harg6 arg7 harg7 arg27 harg27 x1 x4 x5 xs9) (ix3 0 k l) = vbF a b (128 * (2 * j + 0) + k) 0 l :=
  (rw3 harg27 (hs9 H) _ (fun y hy => (congrArg xs9 (eq_ix3 y)).trans (HL.h9 _ _ _ (off_rows hy))) 0 k l).trans (by beta_reduce; congr 1 <;> (try simp only [Fin.val_zero]) <;> omega)

include H HL in
theorem v593 (k : Fin 256) (l : Fin 128) : (kernelRun0_B.sl.v593 c arg3 harg3 arg4 harg4 arg5 harg5 arg6 harg6 arg7 harg7 arg24 harg24 x1 x2 x3 x4 x5 xs6) (ix3 0 k l) = kaF a b (128 * (2 * j + 0) + k) 1 l :=
  (rw3 harg24 (hs6 H) _ (fun y hy => (congrArg xs6 (eq_ix3 y)).trans (HL.h6 _ _ _ (off_rows hy))) 0 k l).trans (by beta_reduce; congr 1 <;> (try simp only [Fin.val_zero]) <;> omega)

include H HL in
theorem v599 (k : Fin 256) (l : Fin 128) : (kernelRun0_B.sl.v599 c arg3 harg3 arg4 harg4 arg5 harg5 arg6 harg6 arg7 harg7 arg25 harg25 x1 x2 x3 x4 x5 xs7) (ix3 0 k l) = kbF a b (128 * (2 * j + 0) + k) 1 l :=
  (rw3 harg25 (hs7 H) _ (fun y hy => (congrArg xs7 (eq_ix3 y)).trans (HL.h7 _ _ _ (off_rows hy))) 0 k l).trans (by beta_reduce; congr 1 <;> (try simp only [Fin.val_zero]) <;> omega)

include H HL in
theorem v790 (k : Fin 256) (l : Fin 128) : (kernelRun0_B.sl.v790 c arg3 harg3 arg6 harg6 arg7 harg7 arg26 harg26 x1 x4 x5 xs8) (ix3 0 k l) = vaF a b (128 * (2 * j + 0) + k) 1 l :=
  (rw3 harg26 (hs8 H) _ (fun y hy => (congrArg xs8 (eq_ix3 y)).trans (HL.h8 _ _ _ (off_rows hy))) 0 k l).trans (by beta_reduce; congr 1 <;> (try simp only [Fin.val_zero]) <;> omega)

include H HL in
theorem v794 (k : Fin 256) (l : Fin 128) : (kernelRun0_B.sl.v794 c arg3 harg3 arg6 harg6 arg7 harg7 arg27 harg27 x1 x4 x5 xs9) (ix3 0 k l) = vbF a b (128 * (2 * j + 0) + k) 1 l :=
  (rw3 harg27 (hs9 H) _ (fun y hy => (congrArg xs9 (eq_ix3 y)).trans (HL.h9 _ _ _ (off_rows hy))) 0 k l).trans (by beta_reduce; congr 1 <;> (try simp only [Fin.val_zero]) <;> omega)

include H in
theorem v863 (k : Fin 256) (l : Fin 128) : (kernelRun0_B.sl.v863 c arg3 harg3 arg4 harg4 arg5 harg5 arg6 harg6 arg7 harg7 arg24 x1 x2 x3 x4 x5) (ix3 0 k l) = kaF a b (128 * (2 * j + 1) + k) 0 l :=
  (rc3 (L2 := []) (List.append_nil _).symm (hs6 H) _ (fun y h1 h2 h3 h4 h5 h6 => ⟨_, (mt mh), in3 (inb := by decide) (by omega)⟩) 0 k l).trans (by beta_reduce; congr 1 <;> (try simp only [Fin.val_zero]) <;> omega)

include H in
theorem v869 (k : Fin 256) (l : Fin 128) : (kernelRun0_B.sl.v869 c arg3 harg3 arg4 harg4 arg5 harg5 arg6 harg6 arg7 harg7 arg25 x1 x2 x3 x4 x5) (ix3 0 k l) = kbF a b (128 * (2 * j + 1) + k) 0 l :=
  (rc3 (L2 := []) (List.append_nil _).symm (hs7 H) _ (fun y h1 h2 h3 h4 h5 h6 => ⟨_, (mt mh), in3 (inb := by decide) (by omega)⟩) 0 k l).trans (by beta_reduce; congr 1 <;> (try simp only [Fin.val_zero]) <;> omega)

include H in
theorem v1060 (k : Fin 256) (l : Fin 128) : (kernelRun0_B.sl.v1060 c arg3 harg3 arg6 harg6 arg7 harg7 arg26 x1 x4 x5) (ix3 0 k l) = vaF a b (128 * (2 * j + 1) + k) 0 l :=
  (rc3 (L2 := []) (List.append_nil _).symm (hs8 H) _ (fun y h1 h2 h3 h4 h5 h6 => ⟨_, (mt mh), in3 (inb := by decide) (by omega)⟩) 0 k l).trans (by beta_reduce; congr 1 <;> (try simp only [Fin.val_zero]) <;> omega)

include H in
theorem v1064 (k : Fin 256) (l : Fin 128) : (kernelRun0_B.sl.v1064 c arg3 harg3 arg6 harg6 arg7 harg7 arg27 x1 x4 x5) (ix3 0 k l) = vbF a b (128 * (2 * j + 1) + k) 0 l :=
  (rc3 (L2 := []) (List.append_nil _).symm (hs9 H) _ (fun y h1 h2 h3 h4 h5 h6 => ⟨_, (mt mh), in3 (inb := by decide) (by omega)⟩) 0 k l).trans (by beta_reduce; congr 1 <;> (try simp only [Fin.val_zero]) <;> omega)

include H in
theorem v1133 (k : Fin 256) (l : Fin 128) : (kernelRun0_B.sl.v1133 c arg3 harg3 arg4 harg4 arg5 harg5 arg6 harg6 arg7 harg7 arg24 x1 x2 x3 x4 x5) (ix3 0 k l) = kaF a b (128 * (2 * j + 1) + k) 1 l :=
  (rc3 (L2 := []) (List.append_nil _).symm (hs6 H) _ (fun y h1 h2 h3 h4 h5 h6 => ⟨_, mh, in3 (inb := by decide) (by omega)⟩) 0 k l).trans (by beta_reduce; congr 1 <;> (try simp only [Fin.val_zero]) <;> omega)

include H in
theorem v1139 (k : Fin 256) (l : Fin 128) : (kernelRun0_B.sl.v1139 c arg3 harg3 arg4 harg4 arg5 harg5 arg6 harg6 arg7 harg7 arg25 x1 x2 x3 x4 x5) (ix3 0 k l) = kbF a b (128 * (2 * j + 1) + k) 1 l :=
  (rc3 (L2 := []) (List.append_nil _).symm (hs7 H) _ (fun y h1 h2 h3 h4 h5 h6 => ⟨_, mh, in3 (inb := by decide) (by omega)⟩) 0 k l).trans (by beta_reduce; congr 1 <;> (try simp only [Fin.val_zero]) <;> omega)

include H in
theorem v1330 (k : Fin 256) (l : Fin 128) : (kernelRun0_B.sl.v1330 c arg3 harg3 arg6 harg6 arg7 harg7 arg26 x1 x4 x5) (ix3 0 k l) = vaF a b (128 * (2 * j + 1) + k) 1 l :=
  (rc3 (L2 := []) (List.append_nil _).symm (hs8 H) _ (fun y h1 h2 h3 h4 h5 h6 => ⟨_, mh, in3 (inb := by decide) (by omega)⟩) 0 k l).trans (by beta_reduce; congr 1 <;> (try simp only [Fin.val_zero]) <;> omega)

include H in
theorem v1334 (k : Fin 256) (l : Fin 128) : (kernelRun0_B.sl.v1334 c arg3 harg3 arg6 harg6 arg7 harg7 arg27 x1 x4 x5) (ix3 0 k l) = vbF a b (128 * (2 * j + 1) + k) 1 l :=
  (rc3 (L2 := []) (List.append_nil _).symm (hs9 H) _ (fun y h1 h2 h3 h4 h5 h6 => ⟨_, mh, in3 (inb := by decide) (by omega)⟩) 0 k l).trans (by beta_reduce; congr 1 <;> (try simp only [Fin.val_zero]) <;> omega)

include H in
theorem sk0 : (kernelRun0_B.sl.r c arg2 harg2 x0) = a.sk 0 :=
  rd1 harg2 (g := fun n => a.sk n) H.h0 _ _

include H in
theorem sk1 : (kernelRun0_B.sl.r_5 c arg2 harg2 x0) = a.sk 1 :=
  rd1 harg2 (g := fun n => a.sk n) H.h0 _ _

include H in
theorem sk2 : (kernelRun0_B.sl.r_6 c arg2 harg2 x0) = a.sk 2 :=
  rd1 harg2 (g := fun n => a.sk n) H.h0 _ _

include H in
theorem sk3 : (kernelRun0_B.sl.r_9 c arg2 harg2 x0) = a.sk 3 :=
  rd1 harg2 (g := fun n => a.sk n) H.h0 _ _

include H in
theorem sk4 : (kernelRun0_B.sl.r_12 c arg2 harg2 x0) = a.sk 4 :=
  rd1 harg2 (g := fun n => a.sk n) H.h0 _ _

include H in
theorem sk5 : (kernelRun0_B.sl.r_13 c arg2 harg2 x0) = a.sk 5 :=
  rd1 harg2 (g := fun n => a.sk n) H.h0 _ _

include H in
theorem sk6 : (kernelRun0_B.sl.r_18 c arg2 harg2 x0) = a.sk 6 :=
  rd1 harg2 (g := fun n => a.sk n) H.h0 _ _

include H in
theorem sk7 : (kernelRun0_B.sl.r_19 c arg2 harg2 x0) = a.sk 7 :=
  rd1 harg2 (g := fun n => a.sk n) H.h0 _ _

include H in
theorem sk8 : (kernelRun0_B.sl.r_26 c arg2 harg2 x0) = a.sk 8 :=
  rd1 harg2 (g := fun n => a.sk n) H.h0 _ _

include H in
theorem sk9 : (kernelRun0_B.sl.r_29 c arg2 harg2 x0) = a.sk 9 :=
  rd1 harg2 (g := fun n => a.sk n) H.h0 _ _

include H in
theorem sk10 : (kernelRun0_B.sl.r_30 c arg2 harg2 x0) = a.sk 10 :=
  rd1 harg2 (g := fun n => a.sk n) H.h0 _ _

include H in
theorem sk11 : (kernelRun0_B.sl.r_36 c arg2 harg2 x0) = a.sk 11 :=
  rd1 harg2 (g := fun n => a.sk n) H.h0 _ _

include H in
theorem sk12 : (kernelRun0_B.sl.r_37 c arg2 harg2 x0) = a.sk 12 :=
  rd1 harg2 (g := fun n => a.sk n) H.h0 _ _

include H in
theorem sk13 : (kernelRun0_B.sl.r_42 c arg2 harg2 x0) = a.sk 13 :=
  rd1 harg2 (g := fun n => a.sk n) H.h0 _ _

include H in
theorem sk14 : (kernelRun0_B.sl.r_43 c arg2 harg2 x0) = a.sk 14 :=
  rd1 harg2 (g := fun n => a.sk n) H.h0 _ _

include H in
theorem sk15 : (kernelRun0_B.sl.r_47 c arg2 harg2 x0) = a.sk 15 :=
  rd1 harg2 (g := fun n => a.sk n) H.h0 _ _

include H in
theorem hs1 : View.PiecesOf (at2 (fun r c => PJ a b (256 * j + r) (1280 + c))) (kernelRun0_B.sl.HS1_1 c arg3 harg3 arg6 harg6 arg7 harg7 x1 x4 x5) :=
  by
  refine pc2 256 1024 0 0 256 1024 (fun r l => ?_) ?_
  · exact (v233 H r l).trans (by beta_reduce; congr 1 <;> omega)
  exact True.intro

include H in
theorem hs2 : View.PiecesOf (at2 (fun r c => PJ a b (256 * j + r) (2304 + c))) (kernelRun0_B.sl.HS2_1 c arg3 harg3 arg6 harg6 arg7 harg7 x1 x4 x5) :=
  by
  refine pc2 256 1024 0 0 256 1024 (fun r l => ?_) ?_
  · exact (v239 H r l).trans (by beta_reduce; congr 1 <;> omega)
  exact True.intro

include H in
theorem hs3 : View.PiecesOf (at2 (fun r c => PJ a b (256 * j + r) (3328 + c))) (kernelRun0_B.sl.HS3_1 c arg3 harg3 arg6 harg6 arg7 harg7 x1 x4 x5) :=
  by
  refine pc2 256 1024 0 0 256 1024 (fun r l => ?_) ?_
  · exact (v245 H r l).trans (by beta_reduce; congr 1 <;> omega)
  exact True.intro

include H in
theorem hs4 : View.PiecesOf (at2 (fun r c => PJ a b (256 * j + r) (4352 + c))) (kernelRun0_B.sl.HS4_1 c arg3 harg3 arg6 harg6 arg7 harg7 x1 x4 x5) :=
  by
  refine pc2 256 1024 0 0 256 1024 (fun r l => ?_) ?_
  · exact (v251 H r l).trans (by beta_reduce; congr 1 <;> omega)
  exact True.intro

include H in
theorem hs5 : View.PiecesOf (at2 (fun r c => PJ a b (256 * j + r) (5376 + c))) (kernelRun0_B.sl.HS5_1 c arg3 harg3 arg6 harg6 arg7 harg7 x1 x4 x5) :=
  by
  refine pc2 256 2048 0 0 256 2048 (fun r l => ?_) ?_
  · exact (v257 H r l).trans (by beta_reduce; congr 1 <;> omega)
  exact True.intro

end Cert.PtB

end
-- ==== Proof.PtB3.lean ====
/- Grid points of case B: the attention of query block 0 against key group 0. -/
module

public import proofs.«01_k».proof.Proof.PtB2

@[expose] public section

set_option maxRecDepth 16384
set_option maxHeartbeats 1000000

noncomputable section

namespace Cert.PtB

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg19 : Memref sig .tc .vmem S256x1024 .f32} {arg24 arg25 arg26 arg27 : Memref sig .tc .vmem S2x384x128 .bf16}
  {arg28 arg29 : Memref sig .tc .vmem S512x256 .f32} {arg30 arg31 : Memref sig .tc .vmem S512x256 .bf16} {harg2 : arg2.IsWhole} {harg3 : arg3.IsWhole}
  {harg4 : arg4.IsWhole} {harg5 : arg5.IsWhole} {harg6 : arg6.IsWhole} {harg7 : arg7.IsWhole} {harg24 : arg24.IsWhole} {harg25 : arg25.IsWhole}
  {harg26 : arg26.IsWhole} {harg27 : arg27.IsWhole} {x0 : Vec Ideal S16 .f32} {x1 : Vec Ideal S1x256x1024 .f32} {x2 x3 : Vec Ideal S256x128 .f32}
  {x4 x9 x10 x14 : Vec Ideal S1x1024 .f32} {x5 : Vec Ideal S1024x7424 .bf16} {x6 : Vec Ideal S1x2048 .f32} {x7 : Vec Ideal S8x128x128 .f32}
  {x8 : Vec Ideal S128x1024 .f32} {x11 x12 x13 : Vec Ideal S1024x1024 .bf16}
  {xs6 xs7 xs8 xs9 : Vec Ideal S2x384x128 .bf16}

variable (H : Blk a b j x0 x1 x2 x3 x4 x5 x6 x7 x8 x9 x10 x11 x12 x13 x14) (HL : Halo a b j xs6 xs7 xs8 xs9) (hi : (i 1).val = j) (fa : Finite a)

include H HL in
theorem sce1 (R : Fin 512) (k : Fin 256) : k0_pay63 (kernelRun0_B.sl.v318 c arg3 harg3 arg4 harg4 arg5 harg5 arg6 harg6 arg7 harg7 arg18 x1 x2 x3 x4 x5) (kernelRun0_B.sl.v319 c arg3 harg3 arg4 harg4 arg5 harg5 arg6 harg6 arg7 harg7 arg18 x1 x2 x3 x4 x5) (kernelRun0_B.sl.v320 c arg3 harg3 arg4 harg4 arg5 harg5 arg6 harg6 arg7 harg7 arg18 x1 x2 x3 x4 x5) (kernelRun0_B.sl.v321 c arg3 harg3 arg4 harg4 arg5 harg5 arg6 harg6 arg7 harg7 arg18 x1 x2 x3 x4 x5) (kernelRun0_B.sl.v323 c arg3 harg3 arg4 harg4 arg5 harg5 arg6 harg6 arg7 harg7 arg24 harg24 x1 x2 x3 x4 x5 xs6) (ix2 R k) = scF a b (2 * j + 0) (8 * 0 + 2 * (R / 128)) (R % 128) k :=
  scoreE_of (v318 H) (v319 H) (v320 H) (v321 H) (v323 H HL) R k

include H HL in
theorem v336 (r : Fin 128) (k : Fin 256) : (kernelRun0_B.sl.v336 c arg3 harg3 arg4 harg4 arg5 harg5 arg6 harg6 arg7 harg7 arg18 arg24 harg24 arg28 x1 x2 x3 x4 x5 xs6) (ix2 r k) = scF a b (2 * j + 0) 0 r k := by
  refine (rc2 (e := .f32) (n0 := 512) (n1 := 256) (g := (fun R k => scF a b (2 * j + 0) (8 * 0 + 2 * (R / 128)) (R % 128) k)) (L1 := ((kernelRun0_B.sl.HS10_1 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 0) (8 * 0 + 2 * (R / 128)) (R % 128) k)) (n0 := 512) (n1 := 256) (o0 := 0) (o1 := 0) (m0 := 512) (m1 := 256) (inb := by decide) fun r l => ?_) True.intro
    exact (sce1 H HL r l).trans (by beta_reduce; congr 1 <;> (first | omega | (congr 2; omega)))
  · exact fun y h1 h2 h3 h4 => ⟨_, mh, in2 (inb := by decide) (by omega)⟩

include H HL in
theorem v382 (r : Fin 128) (k : Fin 256) : (kernelRun0_B.sl.v382 c arg3 harg3 arg4 harg4 arg5 harg5 arg6 harg6 arg7 harg7 arg18 arg24 harg24 arg28 x1 x2 x3 x4 x5 xs6) (ix2 r k) = scF a b (2 * j + 0) 2 r k := by
  refine (rc2 (e := .f32) (n0 := 512) (n1 := 256) (g := (fun R k => scF a b (2 * j + 0) (8 * 0 + 2 * (R / 128)) (R % 128) k)) (L1 := ((kernelRun0_B.sl.HS10_1 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 0) (8 * 0 + 2 * (R / 128)) (R % 128) k)) (n0 := 512) (n1 := 256) (o0 := 0) (o1 := 0) (m0 := 512) (m1 := 256) (inb := by decide) fun r l => ?_) True.intro
    exact (sce1 H HL r l).trans (by beta_reduce; congr 1 <;> (first | omega | (congr 2; omega)))
  · exact fun y h1 h2 h3 h4 => ⟨_, mh, in2 (inb := by decide) (by omega)⟩

include H HL in
theorem v428 (r : Fin 128) (k : Fin 256) : (kernelRun0_B.sl.v428 c arg3 harg3 arg4 harg4 arg5 harg5 arg6 harg6 arg7 harg7 arg18 arg24 harg24 arg28 x1 x2 x3 x4 x5 xs6) (ix2 r k) = scF a b (2 * j + 0) 4 r k := by
  refine (rc2 (e := .f32) (n0 := 512) (n1 := 256) (g := (fun R k => scF a b (2 * j + 0) (8 * 0 + 2 * (R / 128)) (R % 128) k)) (L1 := ((kernelRun0_B.sl.HS10_1 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 0) (8 * 0 + 2 * (R / 128)) (R % 128) k)) (n0 := 512) (n1 := 256) (o0 := 0) (o1 := 0) (m0 := 512) (m1 := 256) (inb := by decide) fun r l => ?_) True.intro
    exact (sce1 H HL r l).trans (by beta_reduce; congr 1 <;> (first | omega | (congr 2; omega)))
  · exact fun y h1 h2 h3 h4 => ⟨_, mh, in2 (inb := by decide) (by omega)⟩

include H HL in
theorem v474 (r : Fin 128) (k : Fin 256) : (kernelRun0_B.sl.v474 c arg3 harg3 arg4 harg4 arg5 harg5 arg6 harg6 arg7 harg7 arg18 arg24 harg24 arg28 x1 x2 x3 x4 x5 xs6) (ix2 r k) = scF a b (2 * j + 0) 6 r k := by
  refine (rc2 (e := .f32) (n0 := 512) (n1 := 256) (g := (fun R k => scF a b (2 * j + 0) (8 * 0 + 2 * (R / 128)) (R % 128) k)) (L1 := ((kernelRun0_B.sl.HS10_1 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 0) (8 * 0 + 2 * (R / 128)) (R % 128) k)) (n0 := 512) (n1 := 256) (o0 := 0) (o1 := 0) (m0 := 512) (m1 := 256) (inb := by decide) fun r l => ?_) True.intro
    exact (sce1 H HL r l).trans (by beta_reduce; congr 1 <;> (first | omega | (congr 2; omega)))
  · exact fun y h1 h2 h3 h4 => ⟨_, mh, in2 (inb := by decide) (by omega)⟩

include H HL in
theorem sco1 (R : Fin 512) (k : Fin 256) : k0_pay63 (kernelRun0_B.sl.v318 c arg3 harg3 arg4 harg4 arg5 harg5 arg6 harg6 arg7 harg7 arg18 x1 x2 x3 x4 x5) (kernelRun0_B.sl.v319 c arg3 harg3 arg4 harg4 arg5 harg5 arg6 harg6 arg7 harg7 arg18 x1 x2 x3 x4 x5) (kernelRun0_B.sl.v320 c arg3 harg3 arg4 harg4 arg5 harg5 arg6 harg6 arg7 harg7 arg18 x1 x2 x3 x4 x5) (kernelRun0_B.sl.v321 c arg3 harg3 arg4 harg4 arg5 harg5 arg6 harg6 arg7 harg7 arg18 x1 x2 x3 x4 x5) (kernelRun0_B.sl.v329 c arg3 harg3 arg4 harg4 arg5 harg5 arg6 harg6 arg7 harg7 arg25 harg25 x1 x2 x3 x4 x5 xs7) (ix2 R k) = scF a b (2 * j + 0) (8 * 0 + (2 * (R / 128) + 1)) (R % 128) k :=
  scoreO_of (v318 H) (v319 H) (v320 H) (v321 H) (v329 H HL) R k

include H HL in
theorem v359 (r : Fin 128) (k : Fin 256) : (kernelRun0_B.sl.v359 c arg3 harg3 arg4 harg4 arg5 harg5 arg6 harg6 arg7 harg7 arg18 arg25 harg25 arg29 x1 x2 x3 x4 x5 xs7) (ix2 r k) = scF a b (2 * j + 0) 1 r k := by
  refine (rc2 (e := .f32) (n0 := 512) (n1 := 256) (g := (fun R k => scF a b (2 * j + 0) (8 * 0 + (2 * (R / 128) + 1)) (R % 128) k)) (L1 := ((kernelRun0_B.sl.HS11_1 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 0) (8 * 0 + (2 * (R / 128) + 1)) (R % 128) k)) (n0 := 512) (n1 := 256) (o0 := 0) (o1 := 0) (m0 := 512) (m1 := 256) (inb := by decide) fun r l => ?_) True.intro
    exact (sco1 H HL r l).trans (by beta_reduce; congr 1 <;> (first | omega | (congr 2; omega)))
  · exact fun y h1 h2 h3 h4 => ⟨_, mh, in2 (inb := by decide) (by omega)⟩

include H HL in
theorem v405 (r : Fin 128) (k : Fin 256) : (kernelRun0_B.sl.v405 c arg3 harg3 arg4 harg4 arg5 harg5 arg6 harg6 arg7 harg7 arg18 arg25 harg25 arg29 x1 x2 x3 x4 x5 xs7) (ix2 r k) = scF a b (2 * j + 0) 3 r k := by
  refine (rc2 (e := .f32) (n0 := 512) (n1 := 256) (g := (fun R k => scF a b (2 * j + 0) (8 * 0 + (2 * (R / 128) + 1)) (R % 128) k)) (L1 := ((kernelRun0_B.sl.HS11_1 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 0) (8 * 0 + (2 * (R / 128) + 1)) (R % 128) k)) (n0 := 512) (n1 := 256) (o0 := 0) (o1 := 0) (m0 := 512) (m1 := 256) (inb := by decide) fun r l => ?_) True.intro
    exact (sco1 H HL r l).trans (by beta_reduce; congr 1 <;> (first | omega | (congr 2; omega)))
  · exact fun y h1 h2 h3 h4 => ⟨_, mh, in2 (inb := by decide) (by omega)⟩

include H HL in
theorem v451 (r : Fin 128) (k : Fin 256) : (kernelRun0_B.sl.v451 c arg3 harg3 arg4 harg4 arg5 harg5 arg6 harg6 arg7 harg7 arg18 arg25 harg25 arg29 x1 x2 x3 x4 x5 xs7) (ix2 r k) = scF a b (2 * j + 0) 5 r k := by
  refine (rc2 (e := .f32) (n0 := 512) (n1 := 256) (g := (fun R k => scF a b (2 * j + 0) (8 * 0 + (2 * (R / 128) + 1)) (R % 128) k)) (L1 := ((kernelRun0_B.sl.HS11_1 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 0) (8 * 0 + (2 * (R / 128) + 1)) (R % 128) k)) (n0 := 512) (n1 := 256) (o0 := 0) (o1 := 0) (m0 := 512) (m1 := 256) (inb := by decide) fun r l => ?_) True.intro
    exact (sco1 H HL r l).trans (by beta_reduce; congr 1 <;> (first | omega | (congr 2; omega)))
  · exact fun y h1 h2 h3 h4 => ⟨_, mh, in2 (inb := by decide) (by omega)⟩

include H HL in
theorem v497 (r : Fin 128) (k : Fin 256) : (kernelRun0_B.sl.v497 c arg3 harg3 arg4 harg4 arg5 harg5 arg6 harg6 arg7 harg7 arg18 arg25 harg25 arg29 x1 x2 x3 x4 x5 xs7) (ix2 r k) = scF a b (2 * j + 0) 7 r k := by
  refine (rc2 (e := .f32) (n0 := 512) (n1 := 256) (g := (fun R k => scF a b (2 * j + 0) (8 * 0 + (2 * (R / 128) + 1)) (R % 128) k)) (L1 := ((kernelRun0_B.sl.HS11_1 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 0) (8 * 0 + (2 * (R / 128) + 1)) (R % 128) k)) (n0 := 512) (n1 := 256) (o0 := 0) (o1 := 0) (m0 := 512) (m1 := 256) (inb := by decide) fun r l => ?_) True.intro
    exact (sco1 H HL r l).trans (by beta_reduce; congr 1 <;> (first | omega | (congr 2; omega)))
  · exact fun y h1 h2 h3 h4 => ⟨_, mh, in2 (inb := by decide) (by omega)⟩

include H HL hi in
theorem e1_0 (r : Fin 128) (k : Fin 256) : (k0_pay69 (kernelRun0_B.sl.r c arg2 harg2 x0) (kernelRun0_B.sl.r_3 c i arg3 harg3 arg4 harg4 arg5 harg5 arg6 harg6 arg7 harg7 arg18 arg24 harg24 arg28 x1 x2 x3 x4 x5 xs6) (kernelRun0_B.sl.r_4 c i arg3 harg3 arg4 harg4 arg5 harg5 arg6 harg6 arg7 harg7 arg18 arg24 harg24 arg28 x1 x2 x3 x4 x5 xs6)) (ix2 r k) = exF a b (2 * j + 0) 0 r k := by
  show k0_pay74 (kernelRun0_B.sl.r_2 i) (kernelRun0_B.sl.r c arg2 harg2 x0) (kernelRun0_B.sl.v336 c arg3 harg3 arg4 harg4 arg5 harg5 arg6 harg6 arg7 harg7 arg18 arg24 harg24 arg28 x1 x2 x3 x4 x5 xs6) (ix2 r k) = _
  exact ex_of (r_2 hi) (sk0 H) (v336 H HL) r k

include H HL hi in
theorem d1_0 (r : Fin 128) : (kernelRun0_B.sl.r_7 c i arg2 harg2 arg3 harg3 arg4 harg4 arg5 harg5 arg6 harg6 arg7 harg7 arg18 arg24 harg24 arg28 x0 x1 x2 x3 x4 x5 xs6) (ix2 r 0) = Ideal.div 1 (kden a b (128 * (2 * j + 0) + r) 0) := by
  show k0_pay75 (kernelRun0_B.sl.r_2 i) (kernelRun0_B.sl.r c arg2 harg2 x0) (kernelRun0_B.sl.v336 c arg3 harg3 arg4 harg4 arg5 harg5 arg6 harg6 arg7 harg7 arg18 arg24 harg24 arg28 x1 x2 x3 x4 x5 xs6) (ix2 r 0) = _
  exact rden_of (r_2 hi) (sk0 H) (v336 H HL) r

include H HL hi in
theorem e1_2 (r : Fin 128) (k : Fin 256) : (k0_pay79 (kernelRun0_B.sl.r_2 i) (kernelRun0_B.sl.r_6 c arg2 harg2 x0) (kernelRun0_B.sl.v382 c arg3 harg3 arg4 harg4 arg5 harg5 arg6 harg6 arg7 harg7 arg18 arg24 harg24 arg28 x1 x2 x3 x4 x5 xs6)) (ix2 r k) = exF a b (2 * j + 0) 2 r k := by
  show k0_pay74 (kernelRun0_B.sl.r_2 i) (kernelRun0_B.sl.r_6 c arg2 harg2 x0) (kernelRun0_B.sl.v382 c arg3 harg3 arg4 harg4 arg5 harg5 arg6 harg6 arg7 harg7 arg18 arg24 harg24 arg28 x1 x2 x3 x4 x5 xs6) (ix2 r k) = _
  exact ex_of (r_2 hi) (sk2 H) (v382 H HL) r k

include H HL hi in
theorem d1_2 (r : Fin 128) : (kernelRun0_B.sl.r_10 c i arg2 harg2 arg3 harg3 arg4 harg4 arg5 harg5 arg6 harg6 arg7 harg7 arg18 arg24 harg24 arg28 x0 x1 x2 x3 x4 x5 xs6) (ix2 r 0) = Ideal.div 1 (kden a b (128 * (2 * j + 0) + r) 2) := by
  show k0_pay75 (kernelRun0_B.sl.r_2 i) (kernelRun0_B.sl.r_6 c arg2 harg2 x0) (kernelRun0_B.sl.v382 c arg3 harg3 arg4 harg4 arg5 harg5 arg6 harg6 arg7 harg7 arg18 arg24 harg24 arg28 x1 x2 x3 x4 x5 xs6) (ix2 r 0) = _
  exact rden_of (r_2 hi) (sk2 H) (v382 H HL) r

include H HL hi in
theorem e1_4 (r : Fin 128) (k : Fin 256) : (k0_pay91 (kernelRun0_B.sl.r_2 i) (kernelRun0_B.sl.r_12 c arg2 harg2 x0) (kernelRun0_B.sl.v428 c arg3 harg3 arg4 harg4 arg5 harg5 arg6 harg6 arg7 harg7 arg18 arg24 harg24 arg28 x1 x2 x3 x4 x5 xs6)) (ix2 r k) = exF a b (2 * j + 0) 4 r k := by
  show k0_pay74 (kernelRun0_B.sl.r_2 i) (kernelRun0_B.sl.r_12 c arg2 harg2 x0) (kernelRun0_B.sl.v428 c arg3 harg3 arg4 harg4 arg5 harg5 arg6 harg6 arg7 harg7 arg18 arg24 harg24 arg28 x1 x2 x3 x4 x5 xs6) (ix2 r k) = _
  exact ex_of (r_2 hi) (sk4 H) (v428 H HL) r k

include H HL hi in
theorem d1_4 (r : Fin 128) : (kernelRun0_B.sl.r_15 c i arg2 harg2 arg3 harg3 arg4 harg4 arg5 harg5 arg6 harg6 arg7 harg7 arg18 arg24 harg24 arg28 x0 x1 x2 x3 x4 x5 xs6) (ix2 r 0) = Ideal.div 1 (kden a b (128 * (2 * j + 0) + r) 4) := by
  show k0_pay75 (kernelRun0_B.sl.r_2 i) (kernelRun0_B.sl.r_12 c arg2 harg2 x0) (kernelRun0_B.sl.v428 c arg3 harg3 arg4 harg4 arg5 harg5 arg6 harg6 arg7 harg7 arg18 arg24 harg24 arg28 x1 x2 x3 x4 x5 xs6) (ix2 r 0) = _
  exact rden_of (r_2 hi) (sk4 H) (v428 H HL) r

include H HL hi in
theorem e1_6 (r : Fin 128) (k : Fin 256) : (k0_pay103 (kernelRun0_B.sl.r_2 i) (kernelRun0_B.sl.r_18 c arg2 harg2 x0) (kernelRun0_B.sl.v474 c arg3 harg3 arg4 harg4 arg5 harg5 arg6 harg6 arg7 harg7 arg18 arg24 harg24 arg28 x1 x2 x3 x4 x5 xs6)) (ix2 r k) = exF a b (2 * j + 0) 6 r k := by
  show k0_pay74 (kernelRun0_B.sl.r_2 i) (kernelRun0_B.sl.r_18 c arg2 harg2 x0) (kernelRun0_B.sl.v474 c arg3 harg3 arg4 harg4 arg5 harg5 arg6 harg6 arg7 harg7 arg18 arg24 harg24 arg28 x1 x2 x3 x4 x5 xs6) (ix2 r k) = _
  exact ex_of (r_2 hi) (sk6 H) (v474 H HL) r k

include H HL hi in
theorem d1_6 (r : Fin 128) : (kernelRun0_B.sl.r_21 c i arg2 harg2 arg3 harg3 arg4 harg4 arg5 harg5 arg6 harg6 arg7 harg7 arg18 arg24 harg24 arg28 x0 x1 x2 x3 x4 x5 xs6) (ix2 r 0) = Ideal.div 1 (kden a b (128 * (2 * j + 0) + r) 6) := by
  show k0_pay75 (kernelRun0_B.sl.r_2 i) (kernelRun0_B.sl.r_18 c arg2 harg2 x0) (kernelRun0_B.sl.v474 c arg3 harg3 arg4 harg4 arg5 harg5 arg6 harg6 arg7 harg7 arg18 arg24 harg24 arg28 x1 x2 x3 x4 x5 xs6) (ix2 r 0) = _
  exact rden_of (r_2 hi) (sk6 H) (v474 H HL) r

include H HL hi in
theorem v519 (R : Fin 512) (k : Fin 256) : (kernelRun0_B.sl.v519 c i arg2 harg2 arg3 harg3 arg4 harg4 arg5 harg5 arg6 harg6 arg7 harg7 arg18 arg24 harg24 arg28 arg30 x0 x1 x2 x3 x4 x5 xs6) (ix2 R k) = exF a b (2 * j + 0) (8 * 0 + 2 * (R / 128)) (R % 128) k := by
  refine (rc2 (e := .bf16) (n0 := 512) (n1 := 256) (g := (fun R k => exF a b (2 * j + 0) (8 * 0 + 2 * (R / 128)) (R % 128) k)) (L1 := ((kernelRun0_B.sl.HS12_4 c i arg2 harg2 arg3 harg3 arg4 harg4 arg5 harg5 arg6 harg6 arg7 harg7 arg18 arg24 harg24 arg28 x0 x1 x2 x3 x4 x5 xs6)).take 4) (List.take_append_drop 4 _).symm ?_ _ ?_ R k).trans (by beta_reduce; congr 1 <;> omega)
  · refine pc2 512 256 384 0 128 256 (fun r l => ?_) ?_
    · exact (e1_6 H HL hi r l).trans (by beta_reduce; congr 1 <;> omega)
    refine pc2 512 256 256 0 128 256 (fun r l => ?_) ?_
    · exact (e1_4 H HL hi r l).trans (by beta_reduce; congr 1 <;> omega)
    refine pc2 512 256 128 0 128 256 (fun r l => ?_) ?_
    · exact (e1_2 H HL hi r l).trans (by beta_reduce; congr 1 <;> omega)
    refine pc2 512 256 0 0 128 256 (fun r l => ?_) ?_
    · exact (e1_0 H HL hi r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H HL hi in
theorem e1_1 (r : Fin 128) (k : Fin 256) : (k0_pay74 (kernelRun0_B.sl.r_2 i) (kernelRun0_B.sl.r_5 c arg2 harg2 x0) (kernelRun0_B.sl.v359 c arg3 harg3 arg4 harg4 arg5 harg5 arg6 harg6 arg7 harg7 arg18 arg25 harg25 arg29 x1 x2 x3 x4 x5 xs7)) (ix2 r k) = exF a b (2 * j + 0) 1 r k := by
  show k0_pay74 (kernelRun0_B.sl.r_2 i) (kernelRun0_B.sl.r_5 c arg2 harg2 x0) (kernelRun0_B.sl.v359 c arg3 harg3 arg4 harg4 arg5 harg5 arg6 harg6 arg7 harg7 arg18 arg25 harg25 arg29 x1 x2 x3 x4 x5 xs7) (ix2 r k) = _
  exact ex_of (r_2 hi) (sk1 H) (v359 H HL) r k

include H HL hi in
theorem d1_1 (r : Fin 128) : (kernelRun0_B.sl.r_8 c i arg2 harg2 arg3 harg3 arg4 harg4 arg5 harg5 arg6 harg6 arg7 harg7 arg18 arg25 harg25 arg29 x0 x1 x2 x3 x4 x5 xs7) (ix2 r 0) = Ideal.div 1 (kden a b (128 * (2 * j + 0) + r) 1) := by
  show k0_pay75 (kernelRun0_B.sl.r_2 i) (kernelRun0_B.sl.r_5 c arg2 harg2 x0) (kernelRun0_B.sl.v359 c arg3 harg3 arg4 harg4 arg5 harg5 arg6 harg6 arg7 harg7 arg18 arg25 harg25 arg29 x1 x2 x3 x4 x5 xs7) (ix2 r 0) = _
  exact rden_of (r_2 hi) (sk1 H) (v359 H HL) r

include H HL hi in
theorem e1_3 (r : Fin 128) (k : Fin 256) : (k0_pay85 (kernelRun0_B.sl.r_2 i) (kernelRun0_B.sl.r_9 c arg2 harg2 x0) (kernelRun0_B.sl.v405 c arg3 harg3 arg4 harg4 arg5 harg5 arg6 harg6 arg7 harg7 arg18 arg25 harg25 arg29 x1 x2 x3 x4 x5 xs7)) (ix2 r k) = exF a b (2 * j + 0) 3 r k := by
  show k0_pay74 (kernelRun0_B.sl.r_2 i) (kernelRun0_B.sl.r_9 c arg2 harg2 x0) (kernelRun0_B.sl.v405 c arg3 harg3 arg4 harg4 arg5 harg5 arg6 harg6 arg7 harg7 arg18 arg25 harg25 arg29 x1 x2 x3 x4 x5 xs7) (ix2 r k) = _
  exact ex_of (r_2 hi) (sk3 H) (v405 H HL) r k

include H HL hi in
theorem d1_3 (r : Fin 128) : (kernelRun0_B.sl.r_14 c i arg2 harg2 arg3 harg3 arg4 harg4 arg5 harg5 arg6 harg6 arg7 harg7 arg18 arg25 harg25 arg29 x0 x1 x2 x3 x4 x5 xs7) (ix2 r 0) = Ideal.div 1 (kden a b (128 * (2 * j + 0) + r) 3) := by
  show k0_pay75 (kernelRun0_B.sl.r_2 i) (kernelRun0_B.sl.r_9 c arg2 harg2 x0) (kernelRun0_B.sl.v405 c arg3 harg3 arg4 harg4 arg5 harg5 arg6 harg6 arg7 harg7 arg18 arg25 harg25 arg29 x1 x2 x3 x4 x5 xs7) (ix2 r 0) = _
  exact rden_of (r_2 hi) (sk3 H) (v405 H HL) r

include H HL hi in
theorem e1_5 (r : Fin 128) (k : Fin 256) : (k0_pay98 (kernelRun0_B.sl.r_17 c i arg2 harg2 arg3 harg3 arg4 harg4 arg5 harg5 arg6 harg6 arg7 harg7 arg18 arg25 harg25 arg29 x0 x1 x2 x3 x4 x5 xs7)) (ix2 r k) = exF a b (2 * j + 0) 5 r k := by
  show k0_pay74 (kernelRun0_B.sl.r_2 i) (kernelRun0_B.sl.r_13 c arg2 harg2 x0) (kernelRun0_B.sl.v451 c arg3 harg3 arg4 harg4 arg5 harg5 arg6 harg6 arg7 harg7 arg18 arg25 harg25 arg29 x1 x2 x3 x4 x5 xs7) (ix2 r k) = _
  exact ex_of (r_2 hi) (sk5 H) (v451 H HL) r k

include H HL hi in
theorem d1_5 (r : Fin 128) : (kernelRun0_B.sl.r_20 c i arg2 harg2 arg3 harg3 arg4 harg4 arg5 harg5 arg6 harg6 arg7 harg7 arg18 arg25 harg25 arg29 x0 x1 x2 x3 x4 x5 xs7) (ix2 r 0) = Ideal.div 1 (kden a b (128 * (2 * j + 0) + r) 5) := by
  show k0_pay75 (kernelRun0_B.sl.r_2 i) (kernelRun0_B.sl.r_13 c arg2 harg2 x0) (kernelRun0_B.sl.v451 c arg3 harg3 arg4 harg4 arg5 harg5 arg6 harg6 arg7 harg7 arg18 arg25 harg25 arg29 x1 x2 x3 x4 x5 xs7) (ix2 r 0) = _
  exact rden_of (r_2 hi) (sk5 H) (v451 H HL) r

include H HL hi in
theorem e1_7 (r : Fin 128) (k : Fin 256) : (kernelRun0_B.sl.v516 c i arg2 harg2 arg3 harg3 arg4 harg4 arg5 harg5 arg6 harg6 arg7 harg7 arg18 arg25 harg25 arg29 x0 x1 x2 x3 x4 x5 xs7) (ix2 r k) = exF a b (2 * j + 0) 7 r k := by
  show k0_pay74 (kernelRun0_B.sl.r_2 i) (kernelRun0_B.sl.r_19 c arg2 harg2 x0) (kernelRun0_B.sl.v497 c arg3 harg3 arg4 harg4 arg5 harg5 arg6 harg6 arg7 harg7 arg18 arg25 harg25 arg29 x1 x2 x3 x4 x5 xs7) (ix2 r k) = _
  exact ex_of (r_2 hi) (sk7 H) (v497 H HL) r k

include H HL hi in
theorem d1_7 (r : Fin 128) : (kernelRun0_B.sl.v518 c i arg2 harg2 arg3 harg3 arg4 harg4 arg5 harg5 arg6 harg6 arg7 harg7 arg18 arg25 harg25 arg29 x0 x1 x2 x3 x4 x5 xs7) (ix2 r 0) = Ideal.div 1 (kden a b (128 * (2 * j + 0) + r) 7) := by
  show k0_pay75 (kernelRun0_B.sl.r_2 i) (kernelRun0_B.sl.r_19 c arg2 harg2 x0) (kernelRun0_B.sl.v497 c arg3 harg3 arg4 harg4 arg5 harg5 arg6 harg6 arg7 harg7 arg18 arg25 harg25 arg29 x1 x2 x3 x4 x5 xs7) (ix2 r 0) = _
  exact rden_of (r_2 hi) (sk7 H) (v497 H HL) r

include H HL hi in
theorem v523 (R : Fin 512) (k : Fin 256) : (kernelRun0_B.sl.v523 c i arg2 harg2 arg3 harg3 arg4 harg4 arg5 harg5 arg6 harg6 arg7 harg7 arg18 arg25 harg25 arg29 arg31 x0 x1 x2 x3 x4 x5 xs7) (ix2 R k) = exF a b (2 * j + 0) (8 * 0 + (2 * (R / 128) + 1)) (R % 128) k := by
  refine (rc2 (e := .bf16) (n0 := 512) (n1 := 256) (g := (fun R k => exF a b (2 * j + 0) (8 * 0 + (2 * (R / 128) + 1)) (R % 128) k)) (L1 := ((kernelRun0_B.sl.HS13_4 c i arg2 harg2 arg3 harg3 arg4 harg4 arg5 harg5 arg6 harg6 arg7 harg7 arg18 arg25 harg25 arg29 x0 x1 x2 x3 x4 x5 xs7)).take 4) (List.take_append_drop 4 _).symm ?_ _ ?_ R k).trans (by beta_reduce; congr 1 <;> omega)
  · refine pieces_mem (piece2 (g := (fun R k => exF a b (2 * j + 0) (8 * 0 + (2 * (R / 128) + 1)) (R % 128) k)) (e := .bf16) (n0 := 512) (n1 := 256) (o0 := 384) (o1 := 0) (m0 := 128) (m1 := 256) (inb := by decide) fun r l => ?_) ?_
    · exact (e1_7 H HL hi r l).trans (by beta_reduce; congr 1 <;> omega)
    refine pieces_mem (piece2 (g := (fun R k => exF a b (2 * j + 0) (8 * 0 + (2 * (R / 128) + 1)) (R % 128) k)) (e := .bf16) (n0 := 512) (n1 := 256) (o0 := 256) (o1 := 0) (m0 := 128) (m1 := 256) (inb := by decide) fun r l => ?_) ?_
    · exact (e1_5 H HL hi r l).trans (by beta_reduce; congr 1 <;> omega)
    refine pieces_mem (piece2 (g := (fun R k => exF a b (2 * j + 0) (8 * 0 + (2 * (R / 128) + 1)) (R % 128) k)) (e := .bf16) (n0 := 512) (n1 := 256) (o0 := 128) (o1 := 0) (m0 := 128) (m1 := 256) (inb := by decide) fun r l => ?_) ?_
    · exact (e1_3 H HL hi r l).trans (by beta_reduce; congr 1 <;> omega)
    refine pieces_mem (piece2 (g := (fun R k => exF a b (2 * j + 0) (8 * 0 + (2 * (R / 128) + 1)) (R % 128) k)) (e := .bf16) (n0 := 512) (n1 := 256) (o0 := 0) (o1 := 0) (m0 := 128) (m1 := 256) (inb := by decide) fun r l => ?_) ?_
    · exact (e1_1 H HL hi r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H HL hi in
theorem v527 (R : Fin 512) (l : Fin 128) : (kernelRun0_B.sl.v527 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (ix2 R l) =
    ∑ k : Fin 256, exF a b (2 * j + 0) (8 * 0 + 2 * (R / 128) + l / 64) (R % 128) k * VH a b (128 * (2 * j + 0) + k) 0 (l % 64) := by
  show k0_pay112 (kernelRun0_B.sl.v519 c i arg2 harg2 arg3 harg3 arg4 harg4 arg5 harg5 arg6 harg6 arg7 harg7 arg18 arg24 harg24 arg28 arg30 x0 x1 x2 x3 x4 x5 xs6) (kernelRun0_B.sl.v520 c arg3 harg3 arg6 harg6 arg7 harg7 arg26 harg26 x1 x4 x5 xs8) (kernelRun0_B.sl.v523 c i arg2 harg2 arg3 harg3 arg4 harg4 arg5 harg5 arg6 harg6 arg7 harg7 arg18 arg25 harg25 arg29 arg31 x0 x1 x2 x3 x4 x5 xs7) (kernelRun0_B.sl.v524 c arg3 harg3 arg6 harg6 arg7 harg7 arg27 harg27 x1 x4 x5 xs9) (ix2 R l) = _
  exact wv_of (v519 H HL hi) (v523 H HL hi) (v520 H HL) (v524 H HL) R l

include H in
theorem v535 (r l : Fin 128) : (kernelRun0_B.sl.v535 c arg3 harg3 arg6 harg6 arg7 harg7 arg19 x1 x4 x5) (ix2 r l) = PJ a b (128 * (2 * j + 0) + r) (1280 + (128 * (4 * 0 + 0) + l)) :=
  (rcm (hs1 H) _ mh (by decide) r l).trans (by beta_reduce; congr 1 <;> omega)

include H HL hi fa in
theorem v542 (r l : Fin 128) : (kernelRun0_B.sl.v542 c i arg2 harg2 arg3 harg3 arg4 harg4 arg5 harg5 arg6 harg6 arg7 harg7 arg18 arg19 arg24 harg24 arg25 harg25 arg26 harg26 arg27 harg27 arg28 arg29 arg30 arg31 x0 x1 x2 x3 x4 x5 xs6 xs7 xs8 xs9) (ix2 r l) = AIN a b (128 * (2 * j + 0) + r) (128 * (4 * 0 + 0) + l) := by
  show ainV 0 slices_S512x128_o0_0_S128x128 (cmpi .slt kernelRun0_B.sl.v64 kernelRun0_B.sl.v65) (kernelRun0_B.sl.r_7 c i arg2 harg2 arg3 harg3 arg4 harg4 arg5 harg5 arg6 harg6 arg7 harg7 arg18 arg24 harg24 arg28 x0 x1 x2 x3 x4 x5 xs6) (kernelRun0_B.sl.r_8 c i arg2 harg2 arg3 harg3 arg4 harg4 arg5 harg5 arg6 harg6 arg7 harg7 arg18 arg25 harg25 arg29 x0 x1 x2 x3 x4 x5 xs7) (kernelRun0_B.sl.v527 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (kernelRun0_B.sl.v535 c arg3 harg3 arg6 harg6 arg7 harg7 arg19 x1 x4 x5) (ix2 r l) = _
  exact ainV_of (m := (2 * j + 0)) (g := 0) (p := 0) (by omega) (by omega) lo128 (d1_0 H HL hi) (d1_1 H HL hi) (v527 H HL hi) (v535 H) fa r l

include H in
theorem v550 (r l : Fin 128) : (kernelRun0_B.sl.v550 c arg3 harg3 arg6 harg6 arg7 harg7 arg19 x1 x4 x5) (ix2 r l) = PJ a b (128 * (2 * j + 0) + r) (1280 + (128 * (4 * 0 + 1) + l)) :=
  (rcm (hs1 H) _ mh (by decide) r l).trans (by beta_reduce; congr 1 <;> omega)

include H HL hi fa in
theorem v557 (r l : Fin 128) : (kernelRun0_B.sl.v557 c i arg2 harg2 arg3 harg3 arg4 harg4 arg5 harg5 arg6 harg6 arg7 harg7 arg18 arg19 arg24 harg24 arg25 harg25 arg26 harg26 arg27 harg27 arg28 arg29 arg30 arg31 x0 x1 x2 x3 x4 x5 xs6 xs7 xs8 xs9) (ix2 r l) = AIN a b (128 * (2 * j + 0) + r) (128 * (4 * 0 + 1) + l) := by
  show ainV 128 slices_S512x128_o128_0_S128x128 (cmpi .slt kernelRun0_B.sl.v64 kernelRun0_B.sl.v65) (kernelRun0_B.sl.r_10 c i arg2 harg2 arg3 harg3 arg4 harg4 arg5 harg5 arg6 harg6 arg7 harg7 arg18 arg24 harg24 arg28 x0 x1 x2 x3 x4 x5 xs6) (kernelRun0_B.sl.r_14 c i arg2 harg2 arg3 harg3 arg4 harg4 arg5 harg5 arg6 harg6 arg7 harg7 arg18 arg25 harg25 arg29 x0 x1 x2 x3 x4 x5 xs7) (kernelRun0_B.sl.v527 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (kernelRun0_B.sl.v550 c arg3 harg3 arg6 harg6 arg7 harg7 arg19 x1 x4 x5) (ix2 r l) = _
  exact ainV_of (m := (2 * j + 0)) (g := 0) (p := 1) (by omega) (by omega) lo128 (d1_2 H HL hi) (d1_3 H HL hi) (v527 H HL hi) (v550 H) fa r l

include H in
theorem v565 (r l : Fin 128) : (kernelRun0_B.sl.v565 c arg3 harg3 arg6 harg6 arg7 harg7 arg19 x1 x4 x5) (ix2 r l) = PJ a b (128 * (2 * j + 0) + r) (1280 + (128 * (4 * 0 + 2) + l)) :=
  (rcm (hs1 H) _ mh (by decide) r l).trans (by beta_reduce; congr 1 <;> omega)

include H HL hi fa in
theorem v572 (r l : Fin 128) : (kernelRun0_B.sl.v572 c i arg2 harg2 arg3 harg3 arg4 harg4 arg5 harg5 arg6 harg6 arg7 harg7 arg18 arg19 arg24 harg24 arg25 harg25 arg26 harg26 arg27 harg27 arg28 arg29 arg30 arg31 x0 x1 x2 x3 x4 x5 xs6 xs7 xs8 xs9) (ix2 r l) = AIN a b (128 * (2 * j + 0) + r) (128 * (4 * 0 + 2) + l) := by
  show ainV 256 slices_S512x128_o256_0_S128x128 (cmpi .slt kernelRun0_B.sl.v64 kernelRun0_B.sl.v65) (kernelRun0_B.sl.r_15 c i arg2 harg2 arg3 harg3 arg4 harg4 arg5 harg5 arg6 harg6 arg7 harg7 arg18 arg24 harg24 arg28 x0 x1 x2 x3 x4 x5 xs6) (kernelRun0_B.sl.r_20 c i arg2 harg2 arg3 harg3 arg4 harg4 arg5 harg5 arg6 harg6 arg7 harg7 arg18 arg25 harg25 arg29 x0 x1 x2 x3 x4 x5 xs7) (kernelRun0_B.sl.v527 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (kernelRun0_B.sl.v565 c arg3 harg3 arg6 harg6 arg7 harg7 arg19 x1 x4 x5) (ix2 r l) = _
  exact ainV_of (m := (2 * j + 0)) (g := 0) (p := 2) (by omega) (by omega) lo128 (d1_4 H HL hi) (d1_5 H HL hi) (v527 H HL hi) (v565 H) fa r l

include H in
theorem v580 (r l : Fin 128) : (kernelRun0_B.sl.v580 c arg3 harg3 arg6 harg6 arg7 harg7 arg19 x1 x4 x5) (ix2 r l) = PJ a b (128 * (2 * j + 0) + r) (1280 + (128 * (4 * 0 + 3) + l)) :=
  (rcm (hs1 H) _ mh (by decide) r l).trans (by beta_reduce; congr 1 <;> omega)

include H HL hi fa in
theorem v587 (r l : Fin 128) : (kernelRun0_B.sl.v587 c i arg2 harg2 arg3 harg3 arg4 harg4 arg5 harg5 arg6 harg6 arg7 harg7 arg18 arg19 arg24 harg24 arg25 harg25 arg26 harg26 arg27 harg27 arg28 arg29 arg30 arg31 x0 x1 x2 x3 x4 x5 xs6 xs7 xs8 xs9) (ix2 r l) = AIN a b (128 * (2 * j + 0) + r) (128 * (4 * 0 + 3) + l) := by
  show ainV 384 slices_S512x128_o384_0_S128x128 (cmpi .slt kernelRun0_B.sl.v64 kernelRun0_B.sl.v65) (kernelRun0_B.sl.r_21 c i arg2 harg2 arg3 harg3 arg4 harg4 arg5 harg5 arg6 harg6 arg7 harg7 arg18 arg24 harg24 arg28 x0 x1 x2 x3 x4 x5 xs6) (kernelRun0_B.sl.v518 c i arg2 harg2 arg3 harg3 arg4 harg4 arg5 harg5 arg6 harg6 arg7 harg7 arg18 arg25 harg25 arg29 x0 x1 x2 x3 x4 x5 xs7) (kernelRun0_B.sl.v527 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (kernelRun0_B.sl.v580 c arg3 harg3 arg6 harg6 arg7 harg7 arg19 x1 x4 x5) (ix2 r l) = _
  exact ainV_of (m := (2 * j + 0)) (g := 0) (p := 3) (by omega) (by omega) lo128 (d1_6 H HL hi) (d1_7 H HL hi) (v527 H HL hi) (v580 H) fa r l

end Cert.PtB

end
-- ==== Proof.PtB4.lean ====
/- Grid points of case B: the attention of query block 0 against key group 1. -/
module

public import proofs.«01_k».proof.Proof.PtB2

@[expose] public section

set_option maxRecDepth 16384
set_option maxHeartbeats 1000000

noncomputable section

namespace Cert.PtB

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg19 : Memref sig .tc .vmem S256x1024 .f32} {arg24 arg25 arg26 arg27 : Memref sig .tc .vmem S2x384x128 .bf16}
  {arg28 arg29 : Memref sig .tc .vmem S512x256 .f32} {arg30 arg31 : Memref sig .tc .vmem S512x256 .bf16} {harg2 : arg2.IsWhole} {harg3 : arg3.IsWhole}
  {harg4 : arg4.IsWhole} {harg5 : arg5.IsWhole} {harg6 : arg6.IsWhole} {harg7 : arg7.IsWhole} {harg24 : arg24.IsWhole} {harg25 : arg25.IsWhole}
  {harg26 : arg26.IsWhole} {harg27 : arg27.IsWhole} {x0 : Vec Ideal S16 .f32} {x1 : Vec Ideal S1x256x1024 .f32} {x2 x3 : Vec Ideal S256x128 .f32}
  {x4 x9 x10 x14 : Vec Ideal S1x1024 .f32} {x5 : Vec Ideal S1024x7424 .bf16} {x6 : Vec Ideal S1x2048 .f32} {x7 : Vec Ideal S8x128x128 .f32}
  {x8 : Vec Ideal S128x1024 .f32} {x11 x12 x13 : Vec Ideal S1024x1024 .bf16}
  {xs6 xs7 xs8 xs9 : Vec Ideal S2x384x128 .bf16}

variable (H : Blk a b j x0 x1 x2 x3 x4 x5 x6 x7 x8 x9 x10 x11 x12 x13 x14) (HL : Halo a b j xs6 xs7 xs8 xs9) (hi : (i 1).val = j) (fa : Finite a)

include H HL in
theorem sce2 (R : Fin 512) (k : Fin 256) : k0_pay63 (kernelRun0_B.sl.v588 c arg3 harg3 arg4 harg4 arg5 harg5 arg6 harg6 arg7 harg7 arg18 x1 x2 x3 x4 x5) (kernelRun0_B.sl.v589 c arg3 harg3 arg4 harg4 arg5 harg5 arg6 harg6 arg7 harg7 arg18 x1 x2 x3 x4 x5) (kernelRun0_B.sl.v590 c arg3 harg3 arg4 harg4 arg5 harg5 arg6 harg6 arg7 harg7 arg18 x1 x2 x3 x4 x5) (kernelRun0_B.sl.v591 c arg3 harg3 arg4 harg4 arg5 harg5 arg6 harg6 arg7 harg7 arg18 x1 x2 x3 x4 x5) (kernelRun0_B.sl.v593 c arg3 harg3 arg4 harg4 arg5 harg5 arg6 harg6 arg7 harg7 arg24 harg24 x1 x2 x3 x4 x5 xs6) (ix2 R k) = scF a b (2 * j + 0) (8 * 1 + 2 * (R / 128)) (R % 128) k :=
  scoreE_of (v588 H) (v589 H) (v590 H) (v591 H) (v593 H HL) R k

include H HL in
theorem v606 (r : Fin 128) (k : Fin 256) : (kernelRun0_B.sl.v606 c arg3 harg3 arg4 harg4 arg5 harg5 arg6 harg6 arg7 harg7 arg18 arg24 harg24 arg28 x1 x2 x3 x4 x5 xs6) (ix2 r k) = scF a b (2 * j + 0) 8 r k := by
  refine (rc2 (e := .f32) (n0 := 512) (n1 := 256) (g := (fun R k => scF a b (2 * j + 0) (8 * 1 + 2 * (R / 128)) (R % 128) k)) (L1 := ((kernelRun0_B.sl.HS10_2 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 0) (8 * 1 + 2 * (R / 128)) (R % 128) k)) (n0 := 512) (n1 := 256) (o0 := 0) (o1 := 0) (m0 := 512) (m1 := 256) (inb := by decide) fun r l => ?_) True.intro
    exact (sce2 H HL r l).trans (by beta_reduce; congr 1 <;> (first | omega | (congr 2; omega)))
  · exact fun y h1 h2 h3 h4 => ⟨_, mh, in2 (inb := by decide) (by omega)⟩

include H HL in
theorem v652 (r : Fin 128) (k : Fin 256) : (kernelRun0_B.sl.v652 c arg3 harg3 arg4 harg4 arg5 harg5 arg6 harg6 arg7 harg7 arg18 arg24 harg24 arg28 x1 x2 x3 x4 x5 xs6) (ix2 r k) = scF a b (2 * j + 0) 10 r k := by
  refine (rc2 (e := .f32) (n0 := 512) (n1 := 256) (g := (fun R k => scF a b (2 * j + 0) (8 * 1 + 2 * (R / 128)) (R % 128) k)) (L1 := ((kernelRun0_B.sl.HS10_2 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 0) (8 * 1 + 2 * (R / 128)) (R % 128) k)) (n0 := 512) (n1 := 256) (o0 := 0) (o1 := 0) (m0 := 512) (m1 := 256) (inb := by decide) fun r l => ?_) True.intro
    exact (sce2 H HL r l).trans (by beta_reduce; congr 1 <;> (first | omega | (congr 2; omega)))
  · exact fun y h1 h2 h3 h4 => ⟨_, mh, in2 (inb := by decide) (by omega)⟩

include H HL in
theorem v698 (r : Fin 128) (k : Fin 256) : (kernelRun0_B.sl.v698 c arg3 harg3 arg4 harg4 arg5 harg5 arg6 harg6 arg7 harg7 arg18 arg24 harg24 arg28 x1 x2 x3 x4 x5 xs6) (ix2 r k) = scF a b (2 * j + 0) 12 r k := by
  refine (rc2 (e := .f32) (n0 := 512) (n1 := 256) (g := (fun R k => scF a b (2 * j + 0) (8 * 1 + 2 * (R / 128)) (R % 128) k)) (L1 := ((kernelRun0_B.sl.HS10_2 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 0) (8 * 1 + 2 * (R / 128)) (R % 128) k)) (n0 := 512) (n1 := 256) (o0 := 0) (o1 := 0) (m0 := 512) (m1 := 256) (inb := by decide) fun r l => ?_) True.intro
    exact (sce2 H HL r l).trans (by beta_reduce; congr 1 <;> (first | omega | (congr 2; omega)))
  · exact fun y h1 h2 h3 h4 => ⟨_, mh, in2 (inb := by decide) (by omega)⟩

include H HL in
theorem v744 (r : Fin 128) (k : Fin 256) : (kernelRun0_B.sl.v744 c arg3 harg3 arg4 harg4 arg5 harg5 arg6 harg6 arg7 harg7 arg18 arg24 harg24 arg28 x1 x2 x3 x4 x5 xs6) (ix2 r k) = scF a b (2 * j + 0) 14 r k := by
  refine (rc2 (e := .f32) (n0 := 512) (n1 := 256) (g := (fun R k => scF a b (2 * j + 0) (8 * 1 + 2 * (R / 128)) (R % 128) k)) (L1 := ((kernelRun0_B.sl.HS10_2 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 0) (8 * 1 + 2 * (R / 128)) (R % 128) k)) (n0 := 512) (n1 := 256) (o0 := 0) (o1 := 0) (m0 := 512) (m1 := 256) (inb := by decide) fun r l => ?_) True.intro
    exact (sce2 H HL r l).trans (by beta_reduce; congr 1 <;> (first | omega | (congr 2; omega)))
  · exact fun y h1 h2 h3 h4 => ⟨_, mh, in2 (inb := by decide) (by omega)⟩

include H HL in
theorem sco2 (R : Fin 512) (k : Fin 256) : k0_pay63 (kernelRun0_B.sl.v588 c arg3 harg3 arg4 harg4 arg5 harg5 arg6 harg6 arg7 harg7 arg18 x1 x2 x3 x4 x5) (kernelRun0_B.sl.v589 c arg3 harg3 arg4 harg4 arg5 harg5 arg6 harg6 arg7 harg7 arg18 x1 x2 x3 x4 x5) (kernelRun0_B.sl.v590 c arg3 harg3 arg4 harg4 arg5 harg5 arg6 harg6 arg7 harg7 arg18 x1 x2 x3 x4 x5) (kernelRun0_B.sl.v591 c arg3 harg3 arg4 harg4 arg5 harg5 arg6 harg6 arg7 harg7 arg18 x1 x2 x3 x4 x5) (kernelRun0_B.sl.v599 c arg3 harg3 arg4 harg4 arg5 harg5 arg6 harg6 arg7 harg7 arg25 harg25 x1 x2 x3 x4 x5 xs7) (ix2 R k) = scF a b (2 * j + 0) (8 * 1 + (2 * (R / 128) + 1)) (R % 128) k :=
  scoreO_of (v588 H) (v589 H) (v590 H) (v591 H) (v599 H HL) R k

include H HL in
theorem v629 (r : Fin 128) (k : Fin 256) : (kernelRun0_B.sl.v629 c arg3 harg3 arg4 harg4 arg5 harg5 arg6 harg6 arg7 harg7 arg18 arg25 harg25 arg29 x1 x2 x3 x4 x5 xs7) (ix2 r k) = scF a b (2 * j + 0) 9 r k := by
  refine (rc2 (e := .f32) (n0 := 512) (n1 := 256) (g := (fun R k => scF a b (2 * j + 0) (8 * 1 + (2 * (R / 128) + 1)) (R % 128) k)) (L1 := ((kernelRun0_B.sl.HS11_2 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 0) (8 * 1 + (2 * (R / 128) + 1)) (R % 128) k)) (n0 := 512) (n1 := 256) (o0 := 0) (o1 := 0) (m0 := 512) (m1 := 256) (inb := by decide) fun r l => ?_) True.intro
    exact (sco2 H HL r l).trans (by beta_reduce; congr 1 <;> (first | omega | (congr 2; omega)))
  · exact fun y h1 h2 h3 h4 => ⟨_, mh, in2 (inb := by decide) (by omega)⟩

include H HL in
theorem v675 (r : Fin 128) (k : Fin 256) : (kernelRun0_B.sl.v675 c arg3 harg3 arg4 harg4 arg5 harg5 arg6 harg6 arg7 harg7 arg18 arg25 harg25 arg29 x1 x2 x3 x4 x5 xs7) (ix2 r k) = scF a b (2 * j + 0) 11 r k := by
  refine (rc2 (e := .f32) (n0 := 512) (n1 := 256) (g := (fun R k => scF a b (2 * j + 0) (8 * 1 + (2 * (R / 128) + 1)) (R % 128) k)) (L1 := ((kernelRun0_B.sl.HS11_2 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 0) (8 * 1 + (2 * (R / 128) + 1)) (R % 128) k)) (n0 := 512) (n1 := 256) (o0 := 0) (o1 := 0) (m0 := 512) (m1 := 256) (inb := by decide) fun r l => ?_) True.intro
    exact (sco2 H HL r l).trans (by beta_reduce; congr 1 <;> (first | omega | (congr 2; omega)))
  · exact fun y h1 h2 h3 h4 => ⟨_, mh, in2 (inb := by decide) (by omega)⟩

include H HL in
theorem v721 (r : Fin 128) (k : Fin 256) : (kernelRun0_B.sl.v721 c arg3 harg3 arg4 harg4 arg5 harg5 arg6 harg6 arg7 harg7 arg18 arg25 harg25 arg29 x1 x2 x3 x4 x5 xs7) (ix2 r k) = scF a b (2 * j + 0) 13 r k := by
  refine (rc2 (e := .f32) (n0 := 512) (n1 := 256) (g := (fun R k => scF a b (2 * j + 0) (8 * 1 + (2 * (R / 128) + 1)) (R % 128) k)) (L1 := ((kernelRun0_B.sl.HS11_2 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 0) (8 * 1 + (2 * (R / 128) + 1)) (R % 128) k)) (n0 := 512) (n1 := 256) (o0 := 0) (o1 := 0) (m0 := 512) (m1 := 256) (inb := by decide) fun r l => ?_) True.intro
    exact (sco2 H HL r l).trans (by beta_reduce; congr 1 <;> (first | omega | (congr 2; omega)))
  · exact fun y h1 h2 h3 h4 => ⟨_, mh, in2 (inb := by decide) (by omega)⟩

include H HL in
theorem v767 (r : Fin 128) (k : Fin 256) : (kernelRun0_B.sl.v767 c arg3 harg3 arg4 harg4 arg5 harg5 arg6 harg6 arg7 harg7 arg18 arg25 harg25 arg29 x1 x2 x3 x4 x5 xs7) (ix2 r k) = scF a b (2 * j + 0) 15 r k := by
  refine (rc2 (e := .f32) (n0 := 512) (n1 := 256) (g := (fun R k => scF a b (2 * j + 0) (8 * 1 + (2 * (R / 128) + 1)) (R % 128) k)) (L1 := ((kernelRun0_B.sl.HS11_2 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 0) (8 * 1 + (2 * (R / 128) + 1)) (R % 128) k)) (n0 := 512) (n1 := 256) (o0 := 0) (o1 := 0) (m0 := 512) (m1 := 256) (inb := by decide) fun r l => ?_) True.intro
    exact (sco2 H HL r l).trans (by beta_reduce; congr 1 <;> (first | omega | (congr 2; omega)))
  · exact fun y h1 h2 h3 h4 => ⟨_, mh, in2 (inb := by decide) (by omega)⟩

include H HL hi in
theorem e2_8 (r : Fin 128) (k : Fin 256) : (k0_pay127 (kernelRun0_B.sl.r_28 c i arg2 harg2 arg3 harg3 arg4 harg4 arg5 harg5 arg6 harg6 arg7 harg7 arg18 arg24 harg24 arg28 x0 x1 x2 x3 x4 x5 xs6)) (ix2 r k) = exF a b (2 * j + 0) 8 r k := by
  show k0_pay74 (kernelRun0_B.sl.r_2 i) (kernelRun0_B.sl.r_26 c arg2 harg2 x0) (kernelRun0_B.sl.v606 c arg3 harg3 arg4 harg4 arg5 harg5 arg6 harg6 arg7 harg7 arg18 arg24 harg24 arg28 x1 x2 x3 x4 x5 xs6) (ix2 r k) = _
  exact ex_of (r_2 hi) (sk8 H) (v606 H HL) r k

include H HL hi in
theorem d2_8 (r : Fin 128) : (kernelRun0_B.sl.r_31 c i arg2 harg2 arg3 harg3 arg4 harg4 arg5 harg5 arg6 harg6 arg7 harg7 arg18 arg24 harg24 arg28 x0 x1 x2 x3 x4 x5 xs6) (ix2 r 0) = Ideal.div 1 (kden a b (128 * (2 * j + 0) + r) 8) := by
  show k0_pay75 (kernelRun0_B.sl.r_2 i) (kernelRun0_B.sl.r_26 c arg2 harg2 x0) (kernelRun0_B.sl.v606 c arg3 harg3 arg4 harg4 arg5 harg5 arg6 harg6 arg7 harg7 arg18 arg24 harg24 arg28 x1 x2 x3 x4 x5 xs6) (ix2 r 0) = _
  exact rden_of (r_2 hi) (sk8 H) (v606 H HL) r

include H HL hi in
theorem e2_10 (r : Fin 128) (k : Fin 256) : (k0_pay139 (kernelRun0_B.sl.r_33 c i arg2 harg2 arg3 harg3 arg4 harg4 arg5 harg5 arg6 harg6 arg7 harg7 arg18 arg24 harg24 arg28 x0 x1 x2 x3 x4 x5 xs6)) (ix2 r k) = exF a b (2 * j + 0) 10 r k := by
  show k0_pay74 (kernelRun0_B.sl.r_2 i) (kernelRun0_B.sl.r_30 c arg2 harg2 x0) (kernelRun0_B.sl.v652 c arg3 harg3 arg4 harg4 arg5 harg5 arg6 harg6 arg7 harg7 arg18 arg24 harg24 arg28 x1 x2 x3 x4 x5 xs6) (ix2 r k) = _
  exact ex_of (r_2 hi) (sk10 H) (v652 H HL) r k

include H HL hi in
theorem d2_10 (r : Fin 128) : (kernelRun0_B.sl.r_38 c i arg2 harg2 arg3 harg3 arg4 harg4 arg5 harg5 arg6 harg6 arg7 harg7 arg18 arg24 harg24 arg28 x0 x1 x2 x3 x4 x5 xs6) (ix2 r 0) = Ideal.div 1 (kden a b (128 * (2 * j + 0) + r) 10) := by
  show k0_pay75 (kernelRun0_B.sl.r_2 i) (kernelRun0_B.sl.r_30 c arg2 harg2 x0) (kernelRun0_B.sl.v652 c arg3 harg3 arg4 harg4 arg5 harg5 arg6 harg6 arg7 harg7 arg18 arg24 harg24 arg28 x1 x2 x3 x4 x5 xs6) (ix2 r 0) = _
  exact rden_of (r_2 hi) (sk10 H) (v652 H HL) r

include H HL hi in
theorem e2_12 (r : Fin 128) (k : Fin 256) : (k0_pay150 (kernelRun0_B.sl.r_41 c i arg2 harg2 arg3 harg3 arg4 harg4 arg5 harg5 arg6 harg6 arg7 harg7 arg18 arg24 harg24 arg28 x0 x1 x2 x3 x4 x5 xs6)) (ix2 r k) = exF a b (2 * j + 0) 12 r k := by
  show k0_pay74 (kernelRun0_B.sl.r_2 i) (kernelRun0_B.sl.r_37 c arg2 harg2 x0) (kernelRun0_B.sl.v698 c arg3 harg3 arg4 harg4 arg5 harg5 arg6 harg6 arg7 harg7 arg18 arg24 harg24 arg28 x1 x2 x3 x4 x5 xs6) (ix2 r k) = _
  exact ex_of (r_2 hi) (sk12 H) (v698 H HL) r k

include H HL hi in
theorem d2_12 (r : Fin 128) : (kernelRun0_B.sl.r_44 c i arg2 harg2 arg3 harg3 arg4 harg4 arg5 harg5 arg6 harg6 arg7 harg7 arg18 arg24 harg24 arg28 x0 x1 x2 x3 x4 x5 xs6) (ix2 r 0) = Ideal.div 1 (kden a b (128 * (2 * j + 0) + r) 12) := by
  show k0_pay75 (kernelRun0_B.sl.r_2 i) (kernelRun0_B.sl.r_37 c arg2 harg2 x0) (kernelRun0_B.sl.v698 c arg3 harg3 arg4 harg4 arg5 harg5 arg6 harg6 arg7 harg7 arg18 arg24 harg24 arg28 x1 x2 x3 x4 x5 xs6) (ix2 r 0) = _
  exact rden_of (r_2 hi) (sk12 H) (v698 H HL) r

include H HL hi in
theorem e2_14 (r : Fin 128) (k : Fin 256) : (k0_pay160 (kernelRun0_B.sl.r_43 c arg2 harg2 x0) (kernelRun0_B.sl.r_46 c i arg3 harg3 arg4 harg4 arg5 harg5 arg6 harg6 arg7 harg7 arg18 arg24 harg24 arg28 x1 x2 x3 x4 x5 xs6)) (ix2 r k) = exF a b (2 * j + 0) 14 r k := by
  show k0_pay74 (kernelRun0_B.sl.r_2 i) (kernelRun0_B.sl.r_43 c arg2 harg2 x0) (kernelRun0_B.sl.v744 c arg3 harg3 arg4 harg4 arg5 harg5 arg6 harg6 arg7 harg7 arg18 arg24 harg24 arg28 x1 x2 x3 x4 x5 xs6) (ix2 r k) = _
  exact ex_of (r_2 hi) (sk14 H) (v744 H HL) r k

include H HL hi in
theorem d2_14 (r : Fin 128) : (kernelRun0_B.sl.r_48 c i arg2 harg2 arg3 harg3 arg4 harg4 arg5 harg5 arg6 harg6 arg7 harg7 arg18 arg24 harg24 arg28 x0 x1 x2 x3 x4 x5 xs6) (ix2 r 0) = Ideal.div 1 (kden a b (128 * (2 * j + 0) + r) 14) := by
  show k0_pay75 (kernelRun0_B.sl.r_2 i) (kernelRun0_B.sl.r_43 c arg2 harg2 x0) (kernelRun0_B.sl.v744 c arg3 harg3 arg4 harg4 arg5 harg5 arg6 harg6 arg7 harg7 arg18 arg24 harg24 arg28 x1 x2 x3 x4 x5 xs6) (ix2 r 0) = _
  exact rden_of (r_2 hi) (sk14 H) (v744 H HL) r

include H HL hi in
theorem v789 (R : Fin 512) (k : Fin 256) : (kernelRun0_B.sl.v789 c i arg2 harg2 arg3 harg3 arg4 harg4 arg5 harg5 arg6 harg6 arg7 harg7 arg18 arg24 harg24 arg28 arg30 x0 x1 x2 x3 x4 x5 xs6) (ix2 R k) = exF a b (2 * j + 0) (8 * 1 + 2 * (R / 128)) (R % 128) k := by
  refine (rc2 (e := .bf16) (n0 := 512) (n1 := 256) (g := (fun R k => exF a b (2 * j + 0) (8 * 1 + 2 * (R / 128)) (R % 128) k)) (L1 := ((kernelRun0_B.sl.HS12_8 c i arg2 harg2 arg3 harg3 arg4 harg4 arg5 harg5 arg6 harg6 arg7 harg7 arg18 arg24 harg24 arg28 x0 x1 x2 x3 x4 x5 xs6)).take 4) (List.take_append_drop 4 _).symm ?_ _ ?_ R k).trans (by beta_reduce; congr 1 <;> omega)
  · refine pc2 512 256 384 0 128 256 (fun r l => ?_) ?_
    · exact (e2_14 H HL hi r l).trans (by beta_reduce; congr 1 <;> omega)
    refine pc2 512 256 256 0 128 256 (fun r l => ?_) ?_
    · exact (e2_12 H HL hi r l).trans (by beta_reduce; congr 1 <;> omega)
    refine pc2 512 256 128 0 128 256 (fun r l => ?_) ?_
    · exact (e2_10 H HL hi r l).trans (by beta_reduce; congr 1 <;> omega)
    refine pc2 512 256 0 0 128 256 (fun r l => ?_) ?_
    · exact (e2_8 H HL hi r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H HL hi in
theorem e2_9 (r : Fin 128) (k : Fin 256) : (k0_pay132 (kernelRun0_B.sl.r_2 i) (kernelRun0_B.sl.r_29 c arg2 harg2 x0) (kernelRun0_B.sl.v629 c arg3 harg3 arg4 harg4 arg5 harg5 arg6 harg6 arg7 harg7 arg18 arg25 harg25 arg29 x1 x2 x3 x4 x5 xs7)) (ix2 r k) = exF a b (2 * j + 0) 9 r k := by
  show k0_pay74 (kernelRun0_B.sl.r_2 i) (kernelRun0_B.sl.r_29 c arg2 harg2 x0) (kernelRun0_B.sl.v629 c arg3 harg3 arg4 harg4 arg5 harg5 arg6 harg6 arg7 harg7 arg18 arg25 harg25 arg29 x1 x2 x3 x4 x5 xs7) (ix2 r k) = _
  exact ex_of (r_2 hi) (sk9 H) (v629 H HL) r k

include H HL hi in
theorem d2_9 (r : Fin 128) : (kernelRun0_B.sl.r_32 c i arg2 harg2 arg3 harg3 arg4 harg4 arg5 harg5 arg6 harg6 arg7 harg7 arg18 arg25 harg25 arg29 x0 x1 x2 x3 x4 x5 xs7) (ix2 r 0) = Ideal.div 1 (kden a b (128 * (2 * j + 0) + r) 9) := by
  show k0_pay75 (kernelRun0_B.sl.r_2 i) (kernelRun0_B.sl.r_29 c arg2 harg2 x0) (kernelRun0_B.sl.v629 c arg3 harg3 arg4 harg4 arg5 harg5 arg6 harg6 arg7 harg7 arg18 arg25 harg25 arg29 x1 x2 x3 x4 x5 xs7) (ix2 r 0) = _
  exact rden_of (r_2 hi) (sk9 H) (v629 H HL) r

include H HL hi in
theorem e2_11 (r : Fin 128) (k : Fin 256) : (k0_pay144 (kernelRun0_B.sl.r_2 i) (kernelRun0_B.sl.r_36 c arg2 harg2 x0) (kernelRun0_B.sl.v675 c arg3 harg3 arg4 harg4 arg5 harg5 arg6 harg6 arg7 harg7 arg18 arg25 harg25 arg29 x1 x2 x3 x4 x5 xs7)) (ix2 r k) = exF a b (2 * j + 0) 11 r k := by
  show k0_pay74 (kernelRun0_B.sl.r_2 i) (kernelRun0_B.sl.r_36 c arg2 harg2 x0) (kernelRun0_B.sl.v675 c arg3 harg3 arg4 harg4 arg5 harg5 arg6 harg6 arg7 harg7 arg18 arg25 harg25 arg29 x1 x2 x3 x4 x5 xs7) (ix2 r k) = _
  exact ex_of (r_2 hi) (sk11 H) (v675 H HL) r k

include H HL hi in
theorem d2_11 (r : Fin 128) : (kernelRun0_B.sl.r_39 c i arg2 harg2 arg3 harg3 arg4 harg4 arg5 harg5 arg6 harg6 arg7 harg7 arg18 arg25 harg25 arg29 x0 x1 x2 x3 x4 x5 xs7) (ix2 r 0) = Ideal.div 1 (kden a b (128 * (2 * j + 0) + r) 11) := by
  show k0_pay75 (kernelRun0_B.sl.r_2 i) (kernelRun0_B.sl.r_36 c arg2 harg2 x0) (kernelRun0_B.sl.v675 c arg3 harg3 arg4 harg4 arg5 harg5 arg6 harg6 arg7 harg7 arg18 arg25 harg25 arg29 x1 x2 x3 x4 x5 xs7) (ix2 r 0) = _
  exact rden_of (r_2 hi) (sk11 H) (v675 H HL) r

include H HL hi in
theorem e2_13 (r : Fin 128) (k : Fin 256) : (k0_pay155 (kernelRun0_B.sl.r_2 i) (kernelRun0_B.sl.r_42 c arg2 harg2 x0) (kernelRun0_B.sl.v721 c arg3 harg3 arg4 harg4 arg5 harg5 arg6 harg6 arg7 harg7 arg18 arg25 harg25 arg29 x1 x2 x3 x4 x5 xs7)) (ix2 r k) = exF a b (2 * j + 0) 13 r k := by
  show k0_pay74 (kernelRun0_B.sl.r_2 i) (kernelRun0_B.sl.r_42 c arg2 harg2 x0) (kernelRun0_B.sl.v721 c arg3 harg3 arg4 harg4 arg5 harg5 arg6 harg6 arg7 harg7 arg18 arg25 harg25 arg29 x1 x2 x3 x4 x5 xs7) (ix2 r k) = _
  exact ex_of (r_2 hi) (sk13 H) (v721 H HL) r k

include H HL hi in
theorem d2_13 (r : Fin 128) : (kernelRun0_B.sl.r_45 c i arg2 harg2 arg3 harg3 arg4 harg4 arg5 harg5 arg6 harg6 arg7 harg7 arg18 arg25 harg25 arg29 x0 x1 x2 x3 x4 x5 xs7) (ix2 r 0) = Ideal.div 1 (kden a b (128 * (2 * j + 0) + r) 13) := by
  show k0_pay75 (kernelRun0_B.sl.r_2 i) (kernelRun0_B.sl.r_42 c arg2 harg2 x0) (kernelRun0_B.sl.v721 c arg3 harg3 arg4 harg4 arg5 harg5 arg6 harg6 arg7 harg7 arg18 arg25 harg25 arg29 x1 x2 x3 x4 x5 xs7) (ix2 r 0) = _
  exact rden_of (r_2 hi) (sk13 H) (v721 H HL) r

include H HL hi in
theorem e2_15 (r : Fin 128) (k : Fin 256) : (k0_pay165 (kernelRun0_B.sl.r_2 i) (kernelRun0_B.sl.r_47 c arg2 harg2 x0) (kernelRun0_B.sl.v767 c arg3 harg3 arg4 harg4 arg5 harg5 arg6 harg6 arg7 harg7 arg18 arg25 harg25 arg29 x1 x2 x3 x4 x5 xs7)) (ix2 r k) = exF a b (2 * j + 0) 15 r k := by
  show k0_pay74 (kernelRun0_B.sl.r_2 i) (kernelRun0_B.sl.r_47 c arg2 harg2 x0) (kernelRun0_B.sl.v767 c arg3 harg3 arg4 harg4 arg5 harg5 arg6 harg6 arg7 harg7 arg18 arg25 harg25 arg29 x1 x2 x3 x4 x5 xs7) (ix2 r k) = _
  exact ex_of (r_2 hi) (sk15 H) (v767 H HL) r k

include H HL hi in
theorem d2_15 (r : Fin 128) : (kernelRun0_B.sl.r_49 c i arg2 harg2 arg3 harg3 arg4 harg4 arg5 harg5 arg6 harg6 arg7 harg7 arg18 arg25 harg25 arg29 x0 x1 x2 x3 x4 x5 xs7) (ix2 r 0) = Ideal.div 1 (kden a b (128 * (2 * j + 0) + r) 15) := by
  show k0_pay75 (kernelRun0_B.sl.r_2 i) (kernelRun0_B.sl.r_47 c arg2 harg2 x0) (kernelRun0_B.sl.v767 c arg3 harg3 arg4 harg4 arg5 harg5 arg6 harg6 arg7 harg7 arg18 arg25 harg25 arg29 x1 x2 x3 x4 x5 xs7) (ix2 r 0) = _
  exact rden_of (r_2 hi) (sk15 H) (v767 H HL) r

include H HL hi in
theorem v793 (R : Fin 512) (k : Fin 256) : (kernelRun0_B.sl.v793 c i arg2 harg2 arg3 harg3 arg4 harg4 arg5 harg5 arg6 harg6 arg7 harg7 arg18 arg25 harg25 arg29 arg31 x0 x1 x2 x3 x4 x5 xs7) (ix2 R k) = exF a b (2 * j + 0) (8 * 1 + (2 * (R / 128) + 1)) (R % 128) k := by
  refine (rc2 (e := .bf16) (n0 := 512) (n1 := 256) (g := (fun R k => exF a b (2 * j + 0) (8 * 1 + (2 * (R / 128) + 1)) (R % 128) k)) (L1 := ((kernelRun0_B.sl.HS13_8 c i arg2 harg2 arg3 harg3 arg4 harg4 arg5 harg5 arg6 harg6 arg7 harg7 arg18 arg25 harg25 arg29 x0 x1 x2 x3 x4 x5 xs7)).take 4) (List.take_append_drop 4 _).symm ?_ _ ?_ R k).trans (by beta_reduce; congr 1 <;> omega)
  · refine pieces_mem (piece2 (g := (fun R k => exF a b (2 * j + 0) (8 * 1 + (2 * (R / 128) + 1)) (R % 128) k)) (e := .bf16) (n0 := 512) (n1 := 256) (o0 := 384) (o1 := 0) (m0 := 128) (m1 := 256) (inb := by decide) fun r l => ?_) ?_
    · exact (e2_15 H HL hi r l).trans (by beta_reduce; congr 1 <;> omega)
    refine pieces_mem (piece2 (g := (fun R k => exF a b (2 * j + 0) (8 * 1 + (2 * (R / 128) + 1)) (R % 128) k)) (e := .bf16) (n0 := 512) (n1 := 256) (o0 := 256) (o1 := 0) (m0 := 128) (m1 := 256) (inb := by decide) fun r l => ?_) ?_
    · exact (e2_13 H HL hi r l).trans (by beta_reduce; congr 1 <;> omega)
    refine pieces_mem (piece2 (g := (fun R k => exF a b (2 * j + 0) (8 * 1 + (2 * (R / 128) + 1)) (R % 128) k)) (e := .bf16) (n0 := 512) (n1 := 256) (o0 := 128) (o1 := 0) (m0 := 128) (m1 := 256) (inb := by decide) fun r l => ?_) ?_
    · exact (e2_11 H HL hi r l).trans (by beta_reduce; congr 1 <;> omega)
    refine pieces_mem (piece2 (g := (fun R k => exF a b (2 * j + 0) (8 * 1 + (2 * (R / 128) + 1)) (R % 128) k)) (e := .bf16) (n0 := 512) (n1 := 256) (o0 := 0) (o1 := 0) (m0 := 128) (m1 := 256) (inb := by decide) fun r l => ?_) ?_
    · exact (e2_9 H HL hi r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H HL hi in
theorem v797 (R : Fin 512) (l : Fin 128) : (kernelRun0_B.sl.v797 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (ix2 R l) =
    ∑ k : Fin 256, exF a b (2 * j + 0) (8 * 1 + 2 * (R / 128) + l / 64) (R % 128) k * VH a b (128 * (2 * j + 0) + k) 1 (l % 64) := by
  show k0_pay112 (kernelRun0_B.sl.v789 c i arg2 harg2 arg3 harg3 arg4 harg4 arg5 harg5 arg6 harg6 arg7 harg7 arg18 arg24 harg24 arg28 arg30 x0 x1 x2 x3 x4 x5 xs6) (kernelRun0_B.sl.v790 c arg3 harg3 arg6 harg6 arg7 harg7 arg26 harg26 x1 x4 x5 xs8) (kernelRun0_B.sl.v793 c i arg2 harg2 arg3 harg3 arg4 harg4 arg5 harg5 arg6 harg6 arg7 harg7 arg18 arg25 harg25 arg29 arg31 x0 x1 x2 x3 x4 x5 xs7) (kernelRun0_B.sl.v794 c arg3 harg3 arg6 harg6 arg7 harg7 arg27 harg27 x1 x4 x5 xs9) (ix2 R l) = _
  exact wv_of (v789 H HL hi) (v793 H HL hi) (v790 H HL) (v794 H HL) R l

include H in
theorem v805 (r l : Fin 128) : (kernelRun0_B.sl.v805 c arg3 harg3 arg6 harg6 arg7 harg7 arg19 x1 x4 x5) (ix2 r l) = PJ a b (128 * (2 * j + 0) + r) (1280 + (128 * (4 * 1 + 0) + l)) :=
  (rcm (hs1 H) _ mh (by decide) r l).trans (by beta_reduce; congr 1 <;> omega)

include H HL hi fa in
theorem v812 (r l : Fin 128) : (kernelRun0_B.sl.v812 c i arg2 harg2 arg3 harg3 arg4 harg4 arg5 harg5 arg6 harg6 arg7 harg7 arg18 arg19 arg24 harg24 arg25 harg25 arg26 harg26 arg27 harg27 arg28 arg29 arg30 arg31 x0 x1 x2 x3 x4 x5 xs6 xs7 xs8 xs9) (ix2 r l) = AIN a b (128 * (2 * j + 0) + r) (128 * (4 * 1 + 0) + l) := by
  show ainV 0 slices_S512x128_o0_0_S128x128 (cmpi .slt kernelRun0_B.sl.v64 kernelRun0_B.sl.v65) (kernelRun0_B.sl.r_31 c i arg2 harg2 arg3 harg3 arg4 harg4 arg5 harg5 arg6 harg6 arg7 harg7 arg18 arg24 harg24 arg28 x0 x1 x2 x3 x4 x5 xs6) (kernelRun0_B.sl.r_32 c i arg2 harg2 arg3 harg3 arg4 harg4 arg5 harg5 arg6 harg6 arg7 harg7 arg18 arg25 harg25 arg29 x0 x1 x2 x3 x4 x5 xs7) (kernelRun0_B.sl.v797 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (kernelRun0_B.sl.v805 c arg3 harg3 arg6 harg6 arg7 harg7 arg19 x1 x4 x5) (ix2 r l) = _
  exact ainV_of (m := (2 * j + 0)) (g := 1) (p := 0) (by omega) (by omega) lo128 (d2_8 H HL hi) (d2_9 H HL hi) (v797 H HL hi) (v805 H) fa r l

include H in
theorem v820 (r l : Fin 128) : (kernelRun0_B.sl.v820 c arg3 harg3 arg6 harg6 arg7 harg7 arg19 x1 x4 x5) (ix2 r l) = PJ a b (128 * (2 * j + 0) + r) (1280 + (128 * (4 * 1 + 1) + l)) :=
  (rcm (hs1 H) _ mh (by decide) r l).trans (by beta_reduce; congr 1 <;> omega)

include H HL hi fa in
theorem v827 (r l : Fin 128) : (kernelRun0_B.sl.v827 c i arg2 harg2 arg3 harg3 arg4 harg4 arg5 harg5 arg6 harg6 arg7 harg7 arg18 arg19 arg24 harg24 arg25 harg25 arg26 harg26 arg27 harg27 arg28 arg29 arg30 arg31 x0 x1 x2 x3 x4 x5 xs6 xs7 xs8 xs9) (ix2 r l) = AIN a b (128 * (2 * j + 0) + r) (128 * (4 * 1 + 1) + l) := by
  show ainV 128 slices_S512x128_o128_0_S128x128 (cmpi .slt kernelRun0_B.sl.v64 kernelRun0_B.sl.v65) (kernelRun0_B.sl.r_38 c i arg2 harg2 arg3 harg3 arg4 harg4 arg5 harg5 arg6 harg6 arg7 harg7 arg18 arg24 harg24 arg28 x0 x1 x2 x3 x4 x5 xs6) (kernelRun0_B.sl.r_39 c i arg2 harg2 arg3 harg3 arg4 harg4 arg5 harg5 arg6 harg6 arg7 harg7 arg18 arg25 harg25 arg29 x0 x1 x2 x3 x4 x5 xs7) (kernelRun0_B.sl.v797 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (kernelRun0_B.sl.v820 c arg3 harg3 arg6 harg6 arg7 harg7 arg19 x1 x4 x5) (ix2 r l) = _
  exact ainV_of (m := (2 * j + 0)) (g := 1) (p := 1) (by omega) (by omega) lo128 (d2_10 H HL hi) (d2_11 H HL hi) (v797 H HL hi) (v820 H) fa r l

include H in
theorem v835 (r l : Fin 128) : (kernelRun0_B.sl.v835 c arg3 harg3 arg6 harg6 arg7 harg7 arg19 x1 x4 x5) (ix2 r l) = PJ a b (128 * (2 * j + 0) + r) (1280 + (128 * (4 * 1 + 2) + l)) :=
  (rcm (hs1 H) _ mh (by decide) r l).trans (by beta_reduce; congr 1 <;> omega)

include H HL hi fa in
theorem v842 (r l : Fin 128) : (kernelRun0_B.sl.v842 c i arg2 harg2 arg3 harg3 arg4 harg4 arg5 harg5 arg6 harg6 arg7 harg7 arg18 arg19 arg24 harg24 arg25 harg25 arg26 harg26 arg27 harg27 arg28 arg29 arg30 arg31 x0 x1 x2 x3 x4 x5 xs6 xs7 xs8 xs9) (ix2 r l) = AIN a b (128 * (2 * j + 0) + r) (128 * (4 * 1 + 2) + l) := by
  show ainV 256 slices_S512x128_o256_0_S128x128 (cmpi .slt kernelRun0_B.sl.v64 kernelRun0_B.sl.v65) (kernelRun0_B.sl.r_44 c i arg2 harg2 arg3 harg3 arg4 harg4 arg5 harg5 arg6 harg6 arg7 harg7 arg18 arg24 harg24 arg28 x0 x1 x2 x3 x4 x5 xs6) (kernelRun0_B.sl.r_45 c i arg2 harg2 arg3 harg3 arg4 harg4 arg5 harg5 arg6 harg6 arg7 harg7 arg18 arg25 harg25 arg29 x0 x1 x2 x3 x4 x5 xs7) (kernelRun0_B.sl.v797 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (kernelRun0_B.sl.v835 c arg3 harg3 arg6 harg6 arg7 harg7 arg19 x1 x4 x5) (ix2 r l) = _
  exact ainV_of (m := (2 * j + 0)) (g := 1) (p := 2) (by omega) (by omega) lo128 (d2_12 H HL hi) (d2_13 H HL hi) (v797 H HL hi) (v835 H) fa r l

include H in
theorem v850 (r l : Fin 128) : (kernelRun0_B.sl.v850 c arg3 harg3 arg6 harg6 arg7 harg7 arg19 x1 x4 x5) (ix2 r l) = PJ a b (128 * (2 * j + 0) + r) (1280 + (128 * (4 * 1 + 3) + l)) :=
  (rcm (hs1 H) _ mh (by decide) r l).trans (by beta_reduce; congr 1 <;> omega)

include H HL hi fa in
theorem v857 (r l : Fin 128) : (kernelRun0_B.sl.v857 c i arg2 harg2 arg3 harg3 arg4 harg4 arg5 harg5 arg6 harg6 arg7 harg7 arg18 arg19 arg24 harg24 arg25 harg25 arg26 harg26 arg27 harg27 arg28 arg29 arg30 arg31 x0 x1 x2 x3 x4 x5 xs6 xs7 xs8 xs9) (ix2 r l) = AIN a b (128 * (2 * j + 0) + r) (128 * (4 * 1 + 3) + l) := by
  show ainV 384 slices_S512x128_o384_0_S128x128 (cmpi .slt kernelRun0_B.sl.v64 kernelRun0_B.sl.v65) (kernelRun0_B.sl.r_48 c i arg2 harg2 arg3 harg3 arg4 harg4 arg5 harg5 arg6 harg6 arg7 harg7 arg18 arg24 harg24 arg28 x0 x1 x2 x3 x4 x5 xs6) (kernelRun0_B.sl.r_49 c i arg2 harg2 arg3 harg3 arg4 harg4 arg5 harg5 arg6 harg6 arg7 harg7 arg18 arg25 harg25 arg29 x0 x1 x2 x3 x4 x5 xs7) (kernelRun0_B.sl.v797 c i arg2 harg2 arg3 harg3 arg4 harg4 arg5 harg5 arg6 harg6 arg7 harg7 arg18 arg24 harg24 arg25 harg25 arg26 harg26 arg27 harg27 arg28 arg29 arg30 arg31 x0 x1 x2 x3 x4 x5 xs6 xs7 xs8 xs9) (kernelRun0_B.sl.v850 c arg3 harg3 arg6 harg6 arg7 harg7 arg19 x1 x4 x5) (ix2 r l) = _
  exact ainV_of (m := (2 * j + 0)) (g := 1) (p := 3) (by omega) (by omega) lo128 (d2_14 H HL hi) (d2_15 H HL hi) (v797 H HL hi) (v850 H) fa r l

end Cert.PtB

end
-- ==== Proof.PtB5.lean ====
/- Grid points of case B: the attention of query block 1 against key group 0. -/
module

public import proofs.«01_k».proof.Proof.PtB2

@[expose] public section

set_option maxRecDepth 16384
set_option maxHeartbeats 1000000

noncomputable section

namespace Cert.PtB

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg19 : Memref sig .tc .vmem S256x1024 .f32} {arg24 arg25 arg26 arg27 : Memref sig .tc .vmem S2x384x128 .bf16}
  {arg28 arg29 : Memref sig .tc .vmem S512x256 .f32} {arg30 arg31 : Memref sig .tc .vmem S512x256 .bf16} {harg2 : arg2.IsWhole} {harg3 : arg3.IsWhole}
  {harg4 : arg4.IsWhole} {harg5 : arg5.IsWhole} {harg6 : arg6.IsWhole} {harg7 : arg7.IsWhole} {harg24 : arg24.IsWhole} {harg25 : arg25.IsWhole}
  {x0 : Vec Ideal S16 .f32} {x1 : Vec Ideal S1x256x1024 .f32} {x2 x3 : Vec Ideal S256x128 .f32} {x4 x9 x10 x14 : Vec Ideal S1x1024 .f32}
  {x5 : Vec Ideal S1024x7424 .bf16} {x6 : Vec Ideal S1x2048 .f32} {x7 : Vec Ideal S8x128x128 .f32} {x8 : Vec Ideal S128x1024 .f32}
  {x11 x12 x13 : Vec Ideal S1024x1024 .bf16}
  {xs6 xs7 xs8 xs9 : Vec Ideal S2x384x128 .bf16}

variable (H : Blk a b j x0 x1 x2 x3 x4 x5 x6 x7 x8 x9 x10 x11 x12 x13 x14) (HL : Halo a b j xs6 xs7 xs8 xs9) (hi : (i 1).val = j) (fa : Finite a)

include H in
theorem sce3 (R : Fin 512) (k : Fin 256) : k0_pay63 (kernelRun0_B.sl.v858 c arg3 harg3 arg4 harg4 arg5 harg5 arg6 harg6 arg7 harg7 arg18 x1 x2 x3 x4 x5) (kernelRun0_B.sl.v859 c arg3 harg3 arg4 harg4 arg5 harg5 arg6 harg6 arg7 harg7 arg18 x1 x2 x3 x4 x5) (kernelRun0_B.sl.v860 c arg3 harg3 arg4 harg4 arg5 harg5 arg6 harg6 arg7 harg7 arg18 x1 x2 x3 x4 x5) (kernelRun0_B.sl.v861 c arg3 harg3 arg4 harg4 arg5 harg5 arg6 harg6 arg7 harg7 arg18 x1 x2 x3 x4 x5) (kernelRun0_B.sl.v863 c arg3 harg3 arg4 harg4 arg5 harg5 arg6 harg6 arg7 harg7 arg24 x1 x2 x3 x4 x5) (ix2 R k) = scF a b (2 * j + 1) (8 * 0 + 2 * (R / 128)) (R % 128) k :=
  scoreE_of (v858 H) (v859 H) (v860 H) (v861 H) (v863 H) R k

include H in
theorem v876 (r : Fin 128) (k : Fin 256) : (kernelRun0_B.sl.v876 c arg3 harg3 arg4 harg4 arg5 harg5 arg6 harg6 arg7 harg7 arg18 arg24 harg24 arg28 x1 x2 x3 x4 x5 xs6) (ix2 r k) = scF a b (2 * j + 1) 0 r k := by
  refine (rc2 (e := .f32) (n0 := 512) (n1 := 256) (g := (fun R k => scF a b (2 * j + 1) (8 * 0 + 2 * (R / 128)) (R % 128) k)) (L1 := ((kernelRun0_B.sl.HS10_3 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 1) (8 * 0 + 2 * (R / 128)) (R % 128) k)) (n0 := 512) (n1 := 256) (o0 := 0) (o1 := 0) (m0 := 512) (m1 := 256) (inb := by decide) fun r l => ?_) True.intro
    exact (sce3 H r l).trans (by beta_reduce; congr 1 <;> (first | omega | (congr 2; omega)))
  · exact fun y h1 h2 h3 h4 => ⟨_, mh, in2 (inb := by decide) (by omega)⟩

include H in
theorem v922 (r : Fin 128) (k : Fin 256) : (kernelRun0_B.sl.v922 c arg3 harg3 arg4 harg4 arg5 harg5 arg6 harg6 arg7 harg7 arg18 arg24 harg24 arg28 x1 x2 x3 x4 x5 xs6) (ix2 r k) = scF a b (2 * j + 1) 2 r k := by
  refine (rc2 (e := .f32) (n0 := 512) (n1 := 256) (g := (fun R k => scF a b (2 * j + 1) (8 * 0 + 2 * (R / 128)) (R % 128) k)) (L1 := ((kernelRun0_B.sl.HS10_3 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 1) (8 * 0 + 2 * (R / 128)) (R % 128) k)) (n0 := 512) (n1 := 256) (o0 := 0) (o1 := 0) (m0 := 512) (m1 := 256) (inb := by decide) fun r l => ?_) True.intro
    exact (sce3 H r l).trans (by beta_reduce; congr 1 <;> (first | omega | (congr 2; omega)))
  · exact fun y h1 h2 h3 h4 => ⟨_, mh, in2 (inb := by decide) (by omega)⟩

include H in
theorem v968 (r : Fin 128) (k : Fin 256) : (kernelRun0_B.sl.v968 c arg3 harg3 arg4 harg4 arg5 harg5 arg6 harg6 arg7 harg7 arg18 arg24 harg24 arg28 x1 x2 x3 x4 x5 xs6) (ix2 r k) = scF a b (2 * j + 1) 4 r k := by
  refine (rc2 (e := .f32) (n0 := 512) (n1 := 256) (g := (fun R k => scF a b (2 * j + 1) (8 * 0 + 2 * (R / 128)) (R % 128) k)) (L1 := ((kernelRun0_B.sl.HS10_3 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 1) (8 * 0 + 2 * (R / 128)) (R % 128) k)) (n0 := 512) (n1 := 256) (o0 := 0) (o1 := 0) (m0 := 512) (m1 := 256) (inb := by decide) fun r l => ?_) True.intro
    exact (sce3 H r l).trans (by beta_reduce; congr 1 <;> (first | omega | (congr 2; omega)))
  · exact fun y h1 h2 h3 h4 => ⟨_, mh, in2 (inb := by decide) (by omega)⟩

include H in
theorem v1014 (r : Fin 128) (k : Fin 256) : (kernelRun0_B.sl.v1014 c arg3 harg3 arg4 harg4 arg5 harg5 arg6 harg6 arg7 harg7 arg18 arg24 harg24 arg28 x1 x2 x3 x4 x5 xs6) (ix2 r k) = scF a b (2 * j + 1) 6 r k := by
  refine (rc2 (e := .f32) (n0 := 512) (n1 := 256) (g := (fun R k => scF a b (2 * j + 1) (8 * 0 + 2 * (R / 128)) (R % 128) k)) (L1 := ((kernelRun0_B.sl.HS10_3 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 1) (8 * 0 + 2 * (R / 128)) (R % 128) k)) (n0 := 512) (n1 := 256) (o0 := 0) (o1 := 0) (m0 := 512) (m1 := 256) (inb := by decide) fun r l => ?_) True.intro
    exact (sce3 H r l).trans (by beta_reduce; congr 1 <;> (first | omega | (congr 2; omega)))
  · exact fun y h1 h2 h3 h4 => ⟨_, mh, in2 (inb := by decide) (by omega)⟩

include H in
theorem sco3 (R : Fin 512) (k : Fin 256) : k0_pay63 (kernelRun0_B.sl.v858 c arg3 harg3 arg4 harg4 arg5 harg5 arg6 harg6 arg7 harg7 arg18 x1 x2 x3 x4 x5) (kernelRun0_B.sl.v859 c arg3 harg3 arg4 harg4 arg5 harg5 arg6 harg6 arg7 harg7 arg18 x1 x2 x3 x4 x5) (kernelRun0_B.sl.v860 c arg3 harg3 arg4 harg4 arg5 harg5 arg6 harg6 arg7 harg7 arg18 x1 x2 x3 x4 x5) (kernelRun0_B.sl.v861 c arg3 harg3 arg4 harg4 arg5 harg5 arg6 harg6 arg7 harg7 arg18 x1 x2 x3 x4 x5) (kernelRun0_B.sl.v869 c arg3 harg3 arg4 harg4 arg5 harg5 arg6 harg6 arg7 harg7 arg25 x1 x2 x3 x4 x5) (ix2 R k) = scF a b (2 * j + 1) (8 * 0 + (2 * (R / 128) + 1)) (R % 128) k :=
  scoreO_of (v858 H) (v859 H) (v860 H) (v861 H) (v869 H) R k

include H in
theorem v899 (r : Fin 128) (k : Fin 256) : (kernelRun0_B.sl.v899 c arg3 harg3 arg4 harg4 arg5 harg5 arg6 harg6 arg7 harg7 arg18 arg25 harg25 arg29 x1 x2 x3 x4 x5 xs7) (ix2 r k) = scF a b (2 * j + 1) 1 r k := by
  refine (rc2 (e := .f32) (n0 := 512) (n1 := 256) (g := (fun R k => scF a b (2 * j + 1) (8 * 0 + (2 * (R / 128) + 1)) (R % 128) k)) (L1 := ((kernelRun0_B.sl.HS11_3 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 1) (8 * 0 + (2 * (R / 128) + 1)) (R % 128) k)) (n0 := 512) (n1 := 256) (o0 := 0) (o1 := 0) (m0 := 512) (m1 := 256) (inb := by decide) fun r l => ?_) True.intro
    exact (sco3 H r l).trans (by beta_reduce; congr 1 <;> (first | omega | (congr 2; omega)))
  · exact fun y h1 h2 h3 h4 => ⟨_, mh, in2 (inb := by decide) (by omega)⟩

include H in
theorem v945 (r : Fin 128) (k : Fin 256) : (kernelRun0_B.sl.v945 c arg3 harg3 arg4 harg4 arg5 harg5 arg6 harg6 arg7 harg7 arg18 arg25 harg25 arg29 x1 x2 x3 x4 x5 xs7) (ix2 r k) = scF a b (2 * j + 1) 3 r k := by
  refine (rc2 (e := .f32) (n0 := 512) (n1 := 256) (g := (fun R k => scF a b (2 * j + 1) (8 * 0 + (2 * (R / 128) + 1)) (R % 128) k)) (L1 := ((kernelRun0_B.sl.HS11_3 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 1) (8 * 0 + (2 * (R / 128) + 1)) (R % 128) k)) (n0 := 512) (n1 := 256) (o0 := 0) (o1 := 0) (m0 := 512) (m1 := 256) (inb := by decide) fun r l => ?_) True.intro
    exact (sco3 H r l).trans (by beta_reduce; congr 1 <;> (first | omega | (congr 2; omega)))
  · exact fun y h1 h2 h3 h4 => ⟨_, mh, in2 (inb := by decide) (by omega)⟩

include H in
theorem v991 (r : Fin 128) (k : Fin 256) : (kernelRun0_B.sl.v991 c arg3 harg3 arg4 harg4 arg5 harg5 arg6 harg6 arg7 harg7 arg18 arg25 harg25 arg29 x1 x2 x3 x4 x5 xs7) (ix2 r k) = scF a b (2 * j + 1) 5 r k := by
  refine (rc2 (e := .f32) (n0 := 512) (n1 := 256) (g := (fun R k => scF a b (2 * j + 1) (8 * 0 + (2 * (R / 128) + 1)) (R % 128) k)) (L1 := ((kernelRun0_B.sl.HS11_3 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 1) (8 * 0 + (2 * (R / 128) + 1)) (R % 128) k)) (n0 := 512) (n1 := 256) (o0 := 0) (o1 := 0) (m0 := 512) (m1 := 256) (inb := by decide) fun r l => ?_) True.intro
    exact (sco3 H r l).trans (by beta_reduce; congr 1 <;> (first | omega | (congr 2; omega)))
  · exact fun y h1 h2 h3 h4 => ⟨_, mh, in2 (inb := by decide) (by omega)⟩

include H in
theorem v1037 (r : Fin 128) (k : Fin 256) : (kernelRun0_B.sl.v1037 c arg3 harg3 arg4 harg4 arg5 harg5 arg6 harg6 arg7 harg7 arg18 arg25 harg25 arg29 x1 x2 x3 x4 x5 xs7) (ix2 r k) = scF a b (2 * j + 1) 7 r k := by
  refine (rc2 (e := .f32) (n0 := 512) (n1 := 256) (g := (fun R k => scF a b (2 * j + 1) (8 * 0 + (2 * (R / 128) + 1)) (R % 128) k)) (L1 := ((kernelRun0_B.sl.HS11_3 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 1) (8 * 0 + (2 * (R / 128) + 1)) (R % 128) k)) (n0 := 512) (n1 := 256) (o0 := 0) (o1 := 0) (m0 := 512) (m1 := 256) (inb := by decide) fun r l => ?_) True.intro
    exact (sco3 H r l).trans (by beta_reduce; congr 1 <;> (first | omega | (congr 2; omega)))
  · exact fun y h1 h2 h3 h4 => ⟨_, mh, in2 (inb := by decide) (by omega)⟩

include H in
theorem e3_0 (r : Fin 128) (k : Fin 256) : (k0_pay180 kernelRun0_B.sl.r_1 (kernelRun0_B.sl.r c arg2 harg2 x0) (kernelRun0_B.sl.v876 c arg3 harg3 arg4 harg4 arg5 harg5 arg6 harg6 arg7 harg7 arg18 arg24 harg24 arg28 x1 x2 x3 x4 x5 xs6)) (ix2 r k) = exF a b (2 * j + 1) 0 r k := by
  show k0_pay74 kernelRun0_B.sl.r_1 (kernelRun0_B.sl.r c arg2 harg2 x0) (kernelRun0_B.sl.v876 c arg3 harg3 arg4 harg4 arg5 harg5 arg6 harg6 arg7 harg7 arg18 arg24 harg24 arg28 x1 x2 x3 x4 x5 xs6) (ix2 r k) = _
  exact ex_of (r_1 (by omega)) (sk0 H) (v876 H) r k

include H in
theorem d3_0 (r : Fin 128) : (kernelRun0_B.sl.r_50 c arg2 harg2 arg3 harg3 arg4 harg4 arg5 harg5 arg6 harg6 arg7 harg7 arg18 arg24 harg24 arg28 x0 x1 x2 x3 x4 x5 xs6) (ix2 r 0) = Ideal.div 1 (kden a b (128 * (2 * j + 1) + r) 0) := by
  show k0_pay75 kernelRun0_B.sl.r_1 (kernelRun0_B.sl.r c arg2 harg2 x0) (kernelRun0_B.sl.v876 c arg3 harg3 arg4 harg4 arg5 harg5 arg6 harg6 arg7 harg7 arg18 arg24 harg24 arg28 x1 x2 x3 x4 x5 xs6) (ix2 r 0) = _
  exact rden_of (r_1 (by omega)) (sk0 H) (v876 H) r

include H in
theorem e3_2 (r : Fin 128) (k : Fin 256) : (k0_pay191 kernelRun0_B.sl.r_1 (kernelRun0_B.sl.r_6 c arg2 harg2 x0) (kernelRun0_B.sl.v922 c arg3 harg3 arg4 harg4 arg5 harg5 arg6 harg6 arg7 harg7 arg18 arg24 harg24 arg28 x1 x2 x3 x4 x5 xs6)) (ix2 r k) = exF a b (2 * j + 1) 2 r k := by
  show k0_pay74 kernelRun0_B.sl.r_1 (kernelRun0_B.sl.r_6 c arg2 harg2 x0) (kernelRun0_B.sl.v922 c arg3 harg3 arg4 harg4 arg5 harg5 arg6 harg6 arg7 harg7 arg18 arg24 harg24 arg28 x1 x2 x3 x4 x5 xs6) (ix2 r k) = _
  exact ex_of (r_1 (by omega)) (sk2 H) (v922 H) r k

include H in
theorem d3_2 (r : Fin 128) : (kernelRun0_B.sl.r_54 c arg2 harg2 arg3 harg3 arg4 harg4 arg5 harg5 arg6 harg6 arg7 harg7 arg18 arg24 harg24 arg28 x0 x1 x2 x3 x4 x5 xs6) (ix2 r 0) = Ideal.div 1 (kden a b (128 * (2 * j + 1) + r) 2) := by
  show k0_pay75 kernelRun0_B.sl.r_1 (kernelRun0_B.sl.r_6 c arg2 harg2 x0) (kernelRun0_B.sl.v922 c arg3 harg3 arg4 harg4 arg5 harg5 arg6 harg6 arg7 harg7 arg18 arg24 harg24 arg28 x1 x2 x3 x4 x5 xs6) (ix2 r 0) = _
  exact rden_of (r_1 (by omega)) (sk2 H) (v922 H) r

include H in
theorem e3_4 (r : Fin 128) (k : Fin 256) : (k0_pay202 kernelRun0_B.sl.r_1 (kernelRun0_B.sl.r_12 c arg2 harg2 x0) (kernelRun0_B.sl.v968 c arg3 harg3 arg4 harg4 arg5 harg5 arg6 harg6 arg7 harg7 arg18 arg24 harg24 arg28 x1 x2 x3 x4 x5 xs6)) (ix2 r k) = exF a b (2 * j + 1) 4 r k := by
  show k0_pay74 kernelRun0_B.sl.r_1 (kernelRun0_B.sl.r_12 c arg2 harg2 x0) (kernelRun0_B.sl.v968 c arg3 harg3 arg4 harg4 arg5 harg5 arg6 harg6 arg7 harg7 arg18 arg24 harg24 arg28 x1 x2 x3 x4 x5 xs6) (ix2 r k) = _
  exact ex_of (r_1 (by omega)) (sk4 H) (v968 H) r k

include H in
theorem d3_4 (r : Fin 128) : (kernelRun0_B.sl.r_57 c arg2 harg2 arg3 harg3 arg4 harg4 arg5 harg5 arg6 harg6 arg7 harg7 arg18 arg24 harg24 arg28 x0 x1 x2 x3 x4 x5 xs6) (ix2 r 0) = Ideal.div 1 (kden a b (128 * (2 * j + 1) + r) 4) := by
  show k0_pay75 kernelRun0_B.sl.r_1 (kernelRun0_B.sl.r_12 c arg2 harg2 x0) (kernelRun0_B.sl.v968 c arg3 harg3 arg4 harg4 arg5 harg5 arg6 harg6 arg7 harg7 arg18 arg24 harg24 arg28 x1 x2 x3 x4 x5 xs6) (ix2 r 0) = _
  exact rden_of (r_1 (by omega)) (sk4 H) (v968 H) r

include H in
theorem e3_6 (r : Fin 128) (k : Fin 256) : (k0_pay214 (kernelRun0_B.sl.r_60 c arg2 harg2 arg3 harg3 arg4 harg4 arg5 harg5 arg6 harg6 arg7 harg7 arg18 arg24 harg24 arg28 x0 x1 x2 x3 x4 x5 xs6)) (ix2 r k) = exF a b (2 * j + 1) 6 r k := by
  show k0_pay74 kernelRun0_B.sl.r_1 (kernelRun0_B.sl.r_18 c arg2 harg2 x0) (kernelRun0_B.sl.v1014 c arg3 harg3 arg4 harg4 arg5 harg5 arg6 harg6 arg7 harg7 arg18 arg24 harg24 arg28 x1 x2 x3 x4 x5 xs6) (ix2 r k) = _
  exact ex_of (r_1 (by omega)) (sk6 H) (v1014 H) r k

include H in
theorem d3_6 (r : Fin 128) : (kernelRun0_B.sl.r_61 c arg2 harg2 arg3 harg3 arg4 harg4 arg5 harg5 arg6 harg6 arg7 harg7 arg18 arg24 harg24 arg28 x0 x1 x2 x3 x4 x5 xs6) (ix2 r 0) = Ideal.div 1 (kden a b (128 * (2 * j + 1) + r) 6) := by
  show k0_pay75 kernelRun0_B.sl.r_1 (kernelRun0_B.sl.r_18 c arg2 harg2 x0) (kernelRun0_B.sl.v1014 c arg3 harg3 arg4 harg4 arg5 harg5 arg6 harg6 arg7 harg7 arg18 arg24 harg24 arg28 x1 x2 x3 x4 x5 xs6) (ix2 r 0) = _
  exact rden_of (r_1 (by omega)) (sk6 H) (v1014 H) r

include H in
theorem v1059 (R : Fin 512) (k : Fin 256) : (kernelRun0_B.sl.v1059 c i arg2 harg2 arg3 harg3 arg4 harg4 arg5 harg5 arg6 harg6 arg7 harg7 arg18 arg24 harg24 arg28 arg30 x0 x1 x2 x3 x4 x5 xs6) (ix2 R k) = exF a b (2 * j + 1) (8 * 0 + 2 * (R / 128)) (R % 128) k := by
  refine (rc2 (e := .bf16) (n0 := 512) (n1 := 256) (g := (fun R k => exF a b (2 * j + 1) (8 * 0 + 2 * (R / 128)) (R % 128) k)) (L1 := ((kernelRun0_B.sl.HS12_12 c i arg2 harg2 arg3 harg3 arg4 harg4 arg5 harg5 arg6 harg6 arg7 harg7 arg18 arg24 harg24 arg28 x0 x1 x2 x3 x4 x5 xs6)).take 4) (List.take_append_drop 4 _).symm ?_ _ ?_ R k).trans (by beta_reduce; congr 1 <;> omega)
  · refine pc2 512 256 384 0 128 256 (fun r l => ?_) ?_
    · exact (e3_6 H r l).trans (by beta_reduce; congr 1 <;> omega)
    refine pc2 512 256 256 0 128 256 (fun r l => ?_) ?_
    · exact (e3_4 H r l).trans (by beta_reduce; congr 1 <;> omega)
    refine pc2 512 256 128 0 128 256 (fun r l => ?_) ?_
    · exact (e3_2 H r l).trans (by beta_reduce; congr 1 <;> omega)
    refine pc2 512 256 0 0 128 256 (fun r l => ?_) ?_
    · exact (e3_0 H r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H in
theorem e3_1 (r : Fin 128) (k : Fin 256) : (k0_pay186 (kernelRun0_B.sl.r_5 c arg2 harg2 x0) (kernelRun0_B.sl.r_51 c arg3 harg3 arg4 harg4 arg5 harg5 arg6 harg6 arg7 harg7 arg18 arg25 harg25 arg29 x1 x2 x3 x4 x5 xs7) (kernelRun0_B.sl.r_52 c arg3 harg3 arg4 harg4 arg5 harg5 arg6 harg6 arg7 harg7 arg18 arg25 harg25 arg29 x1 x2 x3 x4 x5 xs7)) (ix2 r k) = exF a b (2 * j + 1) 1 r k := by
  show k0_pay74 kernelRun0_B.sl.r_1 (kernelRun0_B.sl.r_5 c arg2 harg2 x0) (kernelRun0_B.sl.v899 c arg3 harg3 arg4 harg4 arg5 harg5 arg6 harg6 arg7 harg7 arg18 arg25 harg25 arg29 x1 x2 x3 x4 x5 xs7) (ix2 r k) = _
  exact ex_of (r_1 (by omega)) (sk1 H) (v899 H) r k

include H in
theorem d3_1 (r : Fin 128) : (kernelRun0_B.sl.r_53 c arg2 harg2 arg3 harg3 arg4 harg4 arg5 harg5 arg6 harg6 arg7 harg7 arg18 arg25 harg25 arg29 x0 x1 x2 x3 x4 x5 xs7) (ix2 r 0) = Ideal.div 1 (kden a b (128 * (2 * j + 1) + r) 1) := by
  show k0_pay75 kernelRun0_B.sl.r_1 (kernelRun0_B.sl.r_5 c arg2 harg2 x0) (kernelRun0_B.sl.v899 c arg3 harg3 arg4 harg4 arg5 harg5 arg6 harg6 arg7 harg7 arg18 arg25 harg25 arg29 x1 x2 x3 x4 x5 xs7) (ix2 r 0) = _
  exact rden_of (r_1 (by omega)) (sk1 H) (v899 H) r

include H in
theorem e3_3 (r : Fin 128) (k : Fin 256) : (k0_pay196 kernelRun0_B.sl.r_1 (kernelRun0_B.sl.r_9 c arg2 harg2 x0) (kernelRun0_B.sl.v945 c arg3 harg3 arg4 harg4 arg5 harg5 arg6 harg6 arg7 harg7 arg18 arg25 harg25 arg29 x1 x2 x3 x4 x5 xs7)) (ix2 r k) = exF a b (2 * j + 1) 3 r k := by
  show k0_pay74 kernelRun0_B.sl.r_1 (kernelRun0_B.sl.r_9 c arg2 harg2 x0) (kernelRun0_B.sl.v945 c arg3 harg3 arg4 harg4 arg5 harg5 arg6 harg6 arg7 harg7 arg18 arg25 harg25 arg29 x1 x2 x3 x4 x5 xs7) (ix2 r k) = _
  exact ex_of (r_1 (by omega)) (sk3 H) (v945 H) r k

include H in
theorem d3_3 (r : Fin 128) : (kernelRun0_B.sl.r_55 c arg2 harg2 arg3 harg3 arg4 harg4 arg5 harg5 arg6 harg6 arg7 harg7 arg18 arg25 harg25 arg29 x0 x1 x2 x3 x4 x5 xs7) (ix2 r 0) = Ideal.div 1 (kden a b (128 * (2 * j + 1) + r) 3) := by
  show k0_pay75 kernelRun0_B.sl.r_1 (kernelRun0_B.sl.r_9 c arg2 harg2 x0) (kernelRun0_B.sl.v945 c arg3 harg3 arg4 harg4 arg5 harg5 arg6 harg6 arg7 harg7 arg18 arg25 harg25 arg29 x1 x2 x3 x4 x5 xs7) (ix2 r 0) = _
  exact rden_of (r_1 (by omega)) (sk3 H) (v945 H) r

include H in
theorem e3_5 (r : Fin 128) (k : Fin 256) : (k0_pay207 kernelRun0_B.sl.r_1 (kernelRun0_B.sl.r_13 c arg2 harg2 x0) (kernelRun0_B.sl.v991 c arg3 harg3 arg4 harg4 arg5 harg5 arg6 harg6 arg7 harg7 arg18 arg25 harg25 arg29 x1 x2 x3 x4 x5 xs7)) (ix2 r k) = exF a b (2 * j + 1) 5 r k := by
  show k0_pay74 kernelRun0_B.sl.r_1 (kernelRun0_B.sl.r_13 c arg2 harg2 x0) (kernelRun0_B.sl.v991 c arg3 harg3 arg4 harg4 arg5 harg5 arg6 harg6 arg7 harg7 arg18 arg25 harg25 arg29 x1 x2 x3 x4 x5 xs7) (ix2 r k) = _
  exact ex_of (r_1 (by omega)) (sk5 H) (v991 H) r k

include H in
theorem d3_5 (r : Fin 128) : (kernelRun0_B.sl.r_58 c arg2 harg2 arg3 harg3 arg4 harg4 arg5 harg5 arg6 harg6 arg7 harg7 arg18 arg25 harg25 arg29 x0 x1 x2 x3 x4 x5 xs7) (ix2 r 0) = Ideal.div 1 (kden a b (128 * (2 * j + 1) + r) 5) := by
  show k0_pay75 kernelRun0_B.sl.r_1 (kernelRun0_B.sl.r_13 c arg2 harg2 x0) (kernelRun0_B.sl.v991 c arg3 harg3 arg4 harg4 arg5 harg5 arg6 harg6 arg7 harg7 arg18 arg25 harg25 arg29 x1 x2 x3 x4 x5 xs7) (ix2 r 0) = _
  exact rden_of (r_1 (by omega)) (sk5 H) (v991 H) r

include H in
theorem e3_7 (r : Fin 128) (k : Fin 256) : (k0_pay219 kernelRun0_B.sl.r_1 (kernelRun0_B.sl.r_19 c arg2 harg2 x0) (kernelRun0_B.sl.v1037 c arg3 harg3 arg4 harg4 arg5 harg5 arg6 harg6 arg7 harg7 arg18 arg25 harg25 arg29 x1 x2 x3 x4 x5 xs7)) (ix2 r k) = exF a b (2 * j + 1) 7 r k := by
  show k0_pay74 kernelRun0_B.sl.r_1 (kernelRun0_B.sl.r_19 c arg2 harg2 x0) (kernelRun0_B.sl.v1037 c arg3 harg3 arg4 harg4 arg5 harg5 arg6 harg6 arg7 harg7 arg18 arg25 harg25 arg29 x1 x2 x3 x4 x5 xs7) (ix2 r k) = _
  exact ex_of (r_1 (by omega)) (sk7 H) (v1037 H) r k

include H in
theorem d3_7 (r : Fin 128) : (kernelRun0_B.sl.r_62 c arg2 harg2 arg3 harg3 arg4 harg4 arg5 harg5 arg6 harg6 arg7 harg7 arg18 arg25 harg25 arg29 x0 x1 x2 x3 x4 x5 xs7) (ix2 r 0) = Ideal.div 1 (kden a b (128 * (2 * j + 1) + r) 7) := by
  show k0_pay75 kernelRun0_B.sl.r_1 (kernelRun0_B.sl.r_19 c arg2 harg2 x0) (kernelRun0_B.sl.v1037 c arg3 harg3 arg4 harg4 arg5 harg5 arg6 harg6 arg7 harg7 arg18 arg25 harg25 arg29 x1 x2 x3 x4 x5 xs7) (ix2 r 0) = _
  exact rden_of (r_1 (by omega)) (sk7 H) (v1037 H) r

include H in
theorem v1063 (R : Fin 512) (k : Fin 256) : (kernelRun0_B.sl.v1063 c i arg2 harg2 arg3 harg3 arg4 harg4 arg5 harg5 arg6 harg6 arg7 harg7 arg18 arg25 harg25 arg29 arg31 x0 x1 x2 x3 x4 x5 xs7) (ix2 R k) = exF a b (2 * j + 1) (8 * 0 + (2 * (R / 128) + 1)) (R % 128) k := by
  refine (rc2 (e := .bf16) (n0 := 512) (n1 := 256) (g := (fun R k => exF a b (2 * j + 1) (8 * 0 + (2 * (R / 128) + 1)) (R % 128) k)) (L1 := ((kernelRun0_B.sl.HS13_12 c i arg2 harg2 arg3 harg3 arg4 harg4 arg5 harg5 arg6 harg6 arg7 harg7 arg18 arg25 harg25 arg29 x0 x1 x2 x3 x4 x5 xs7)).take 4) (List.take_append_drop 4 _).symm ?_ _ ?_ R k).trans (by beta_reduce; congr 1 <;> omega)
  · refine pieces_mem (piece2 (g := (fun R k => exF a b (2 * j + 1) (8 * 0 + (2 * (R / 128) + 1)) (R % 128) k)) (e := .bf16) (n0 := 512) (n1 := 256) (o0 := 384) (o1 := 0) (m0 := 128) (m1 := 256) (inb := by decide) fun r l => ?_) ?_
    · exact (e3_7 H r l).trans (by beta_reduce; congr 1 <;> omega)
    refine pieces_mem (piece2 (g := (fun R k => exF a b (2 * j + 1) (8 * 0 + (2 * (R / 128) + 1)) (R % 128) k)) (e := .bf16) (n0 := 512) (n1 := 256) (o0 := 256) (o1 := 0) (m0 := 128) (m1 := 256) (inb := by decide) fun r l => ?_) ?_
    · exact (e3_5 H r l).trans (by beta_reduce; congr 1 <;> omega)
    refine pieces_mem (piece2 (g := (fun R k => exF a b (2 * j + 1) (8 * 0 + (2 * (R / 128) + 1)) (R % 128) k)) (e := .bf16) (n0 := 512) (n1 := 256) (o0 := 128) (o1 := 0) (m0 := 128) (m1 := 256) (inb := by decide) fun r l => ?_) ?_
    · exact (e3_3 H r l).trans (by beta_reduce; congr 1 <;> omega)
    refine pieces_mem (piece2 (g := (fun R k => exF a b (2 * j + 1) (8 * 0 + (2 * (R / 128) + 1)) (R % 128) k)) (e := .bf16) (n0 := 512) (n1 := 256) (o0 := 0) (o1 := 0) (m0 := 128) (m1 := 256) (inb := by decide) fun r l => ?_) ?_
    · exact (e3_1 H r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H in
theorem v1067 (R : Fin 512) (l : Fin 128) : (kernelRun0_B.sl.v1067 c i arg2 harg2 arg3 harg3 arg4 harg4 arg5 harg5 arg6 harg6 arg7 harg7 arg18 arg24 harg24 arg25 harg25 arg26 arg27 arg28 arg29 arg30 arg31 x0 x1 x2 x3 x4 x5 xs6 xs7) (ix2 R l) =
    ∑ k : Fin 256, exF a b (2 * j + 1) (8 * 0 + 2 * (R / 128) + l / 64) (R % 128) k * VH a b (128 * (2 * j + 1) + k) 0 (l % 64) := by
  show k0_pay112 (kernelRun0_B.sl.v1059 c i arg2 harg2 arg3 harg3 arg4 harg4 arg5 harg5 arg6 harg6 arg7 harg7 arg18 arg24 harg24 arg28 arg30 x0 x1 x2 x3 x4 x5 xs6) (kernelRun0_B.sl.v1060 c arg3 harg3 arg6 harg6 arg7 harg7 arg26 x1 x4 x5) (kernelRun0_B.sl.v1063 c i arg2 harg2 arg3 harg3 arg4 harg4 arg5 harg5 arg6 harg6 arg7 harg7 arg18 arg25 harg25 arg29 arg31 x0 x1 x2 x3 x4 x5 xs7) (kernelRun0_B.sl.v1064 c arg3 harg3 arg6 harg6 arg7 harg7 arg27 x1 x4 x5) (ix2 R l) = _
  exact wv_of (v1059 H) (v1063 H) (v1060 H) (v1064 H) R l

include H in
theorem v1075 (r l : Fin 128) : (kernelRun0_B.sl.v1075 c arg3 harg3 arg6 harg6 arg7 harg7 arg19 x1 x4 x5) (ix2 r l) = PJ a b (128 * (2 * j + 1) + r) (1280 + (128 * (4 * 0 + 0) + l)) :=
  (rcm (hs1 H) _ mh (by decide) r l).trans (by beta_reduce; congr 1 <;> omega)

include H fa in
theorem v1082 (r l : Fin 128) : (kernelRun0_B.sl.v1082 c i arg2 harg2 arg3 harg3 arg4 harg4 arg5 harg5 arg6 harg6 arg7 harg7 arg18 arg19 arg24 harg24 arg25 harg25 arg26 arg27 arg28 arg29 arg30 arg31 x0 x1 x2 x3 x4 x5 xs6 xs7) (ix2 r l) = AIN a b (128 * (2 * j + 1) + r) (128 * (4 * 0 + 0) + l) := by
  show ainV 0 slices_S512x128_o0_0_S128x128 (cmpi .slt kernelRun0_B.sl.v64 kernelRun0_B.sl.v65) (kernelRun0_B.sl.r_50 c arg2 harg2 arg3 harg3 arg4 harg4 arg5 harg5 arg6 harg6 arg7 harg7 arg18 arg24 harg24 arg28 x0 x1 x2 x3 x4 x5 xs6) (kernelRun0_B.sl.r_53 c arg2 harg2 arg3 harg3 arg4 harg4 arg5 harg5 arg6 harg6 arg7 harg7 arg18 arg25 harg25 arg29 x0 x1 x2 x3 x4 x5 xs7) (kernelRun0_B.sl.v1067 c i arg2 harg2 arg3 harg3 arg4 harg4 arg5 harg5 arg6 harg6 arg7 harg7 arg18 arg24 harg24 arg25 harg25 arg26 arg27 arg28 arg29 arg30 arg31 x0 x1 x2 x3 x4 x5 xs6 xs7) (kernelRun0_B.sl.v1075 c arg3 harg3 arg6 harg6 arg7 harg7 arg19 x1 x4 x5) (ix2 r l) = _
  exact ainV_of (m := (2 * j + 1)) (g := 0) (p := 0) (by omega) (by omega) lo128 (d3_0 H) (d3_1 H) (v1067 H) (v1075 H) fa r l

include H in
theorem v1090 (r l : Fin 128) : (kernelRun0_B.sl.v1090 c arg3 harg3 arg6 harg6 arg7 harg7 arg19 x1 x4 x5) (ix2 r l) = PJ a b (128 * (2 * j + 1) + r) (1280 + (128 * (4 * 0 + 1) + l)) :=
  (rcm (hs1 H) _ mh (by decide) r l).trans (by beta_reduce; congr 1 <;> omega)

include H fa in
theorem v1097 (r l : Fin 128) : (kernelRun0_B.sl.v1097 c i arg2 harg2 arg3 harg3 arg4 harg4 arg5 harg5 arg6 harg6 arg7 harg7 arg18 arg19 arg24 harg24 arg25 harg25 arg26 arg27 arg28 arg29 arg30 arg31 x0 x1 x2 x3 x4 x5 xs6 xs7) (ix2 r l) = AIN a b (128 * (2 * j + 1) + r) (128 * (4 * 0 + 1) + l) := by
  show ainV 128 slices_S512x128_o128_0_S128x128 (cmpi .slt kernelRun0_B.sl.v64 kernelRun0_B.sl.v65) (kernelRun0_B.sl.r_54 c arg2 harg2 arg3 harg3 arg4 harg4 arg5 harg5 arg6 harg6 arg7 harg7 arg18 arg24 harg24 arg28 x0 x1 x2 x3 x4 x5 xs6) (kernelRun0_B.sl.r_55 c arg2 harg2 arg3 harg3 arg4 harg4 arg5 harg5 arg6 harg6 arg7 harg7 arg18 arg25 harg25 arg29 x0 x1 x2 x3 x4 x5 xs7) (kernelRun0_B.sl.v1067 c i arg2 harg2 arg3 harg3 arg4 harg4 arg5 harg5 arg6 harg6 arg7 harg7 arg18 arg24 harg24 arg25 harg25 arg26 arg27 arg28 arg29 arg30 arg31 x0 x1 x2 x3 x4 x5 xs6 xs7) (kernelRun0_B.sl.v1090 c arg3 harg3 arg6 harg6 arg7 harg7 arg19 x1 x4 x5) (ix2 r l) = _
  exact ainV_of (m := (2 * j + 1)) (g := 0) (p := 1) (by omega) (by omega) lo128 (d3_2 H) (d3_3 H) (v1067 H) (v1090 H) fa r l

include H in
theorem v1105 (r l : Fin 128) : (kernelRun0_B.sl.v1105 c arg3 harg3 arg6 harg6 arg7 harg7 arg19 x1 x4 x5) (ix2 r l) = PJ a b (128 * (2 * j + 1) + r) (1280 + (128 * (4 * 0 + 2) + l)) :=
  (rcm (hs1 H) _ mh (by decide) r l).trans (by beta_reduce; congr 1 <;> omega)

include H fa in
theorem v1112 (r l : Fin 128) : (kernelRun0_B.sl.v1112 c i arg2 harg2 arg3 harg3 arg4 harg4 arg5 harg5 arg6 harg6 arg7 harg7 arg18 arg19 arg24 harg24 arg25 harg25 arg26 arg27 arg28 arg29 arg30 arg31 x0 x1 x2 x3 x4 x5 xs6 xs7) (ix2 r l) = AIN a b (128 * (2 * j + 1) + r) (128 * (4 * 0 + 2) + l) := by
  show ainV 256 slices_S512x128_o256_0_S128x128 (cmpi .slt kernelRun0_B.sl.v64 kernelRun0_B.sl.v65) (kernelRun0_B.sl.r_57 c arg2 harg2 arg3 harg3 arg4 harg4 arg5 harg5 arg6 harg6 arg7 harg7 arg18 arg24 harg24 arg28 x0 x1 x2 x3 x4 x5 xs6) (kernelRun0_B.sl.r_58 c arg2 harg2 arg3 harg3 arg4 harg4 arg5 harg5 arg6 harg6 arg7 harg7 arg18 arg25 harg25 arg29 x0 x1 x2 x3 x4 x5 xs7) (kernelRun0_B.sl.v1067 c i arg2 harg2 arg3 harg3 arg4 harg4 arg5 harg5 arg6 harg6 arg7 harg7 arg18 arg24 harg24 arg25 harg25 arg26 arg27 arg28 arg29 arg30 arg31 x0 x1 x2 x3 x4 x5 xs6 xs7) (kernelRun0_B.sl.v1105 c arg3 harg3 arg6 harg6 arg7 harg7 arg19 x1 x4 x5) (ix2 r l) = _
  exact ainV_of (m := (2 * j + 1)) (g := 0) (p := 2) (by omega) (by omega) lo128 (d3_4 H) (d3_5 H) (v1067 H) (v1105 H) fa r l

include H in
theorem v1120 (r l : Fin 128) : (kernelRun0_B.sl.v1120 c arg3 harg3 arg6 harg6 arg7 harg7 arg19 x1 x4 x5) (ix2 r l) = PJ a b (128 * (2 * j + 1) + r) (1280 + (128 * (4 * 0 + 3) + l)) :=
  (rcm (hs1 H) _ mh (by decide) r l).trans (by beta_reduce; congr 1 <;> omega)

include H fa in
theorem v1127 (r l : Fin 128) : (kernelRun0_B.sl.v1127 c i arg2 harg2 arg3 harg3 arg4 harg4 arg5 harg5 arg6 harg6 arg7 harg7 arg18 arg19 arg24 harg24 arg25 harg25 arg26 arg27 arg28 arg29 arg30 arg31 x0 x1 x2 x3 x4 x5 xs6 xs7) (ix2 r l) = AIN a b (128 * (2 * j + 1) + r) (128 * (4 * 0 + 3) + l) := by
  show ainV 384 slices_S512x128_o384_0_S128x128 (cmpi .slt kernelRun0_B.sl.v64 kernelRun0_B.sl.v65) (kernelRun0_B.sl.r_61 c arg2 harg2 arg3 harg3 arg4 harg4 arg5 harg5 arg6 harg6 arg7 harg7 arg18 arg24 harg24 arg28 x0 x1 x2 x3 x4 x5 xs6) (kernelRun0_B.sl.r_62 c arg2 harg2 arg3 harg3 arg4 harg4 arg5 harg5 arg6 harg6 arg7 harg7 arg18 arg25 harg25 arg29 x0 x1 x2 x3 x4 x5 xs7) (kernelRun0_B.sl.v1067 c i arg2 harg2 arg3 harg3 arg4 harg4 arg5 harg5 arg6 harg6 arg7 harg7 arg18 arg24 harg24 arg25 harg25 arg26 arg27 arg28 arg29 arg30 arg31 x0 x1 x2 x3 x4 x5 xs6 xs7) (kernelRun0_B.sl.v1120 c arg3 harg3 arg6 harg6 arg7 harg7 arg19 x1 x4 x5) (ix2 r l) = _
  exact ainV_of (m := (2 * j + 1)) (g := 0) (p := 3) (by omega) (by omega) lo128 (d3_6 H) (d3_7 H) (v1067 H) (v1120 H) fa r l

end Cert.PtB

end
-- ==== Proof.PtB6.lean ====
/- Grid points of case B: the attention of query block 1 against key group 1. -/
module

public import proofs.«01_k».proof.Proof.PtB2

@[expose] public section

set_option maxRecDepth 16384
set_option maxHeartbeats 1000000

noncomputable section

namespace Cert.PtB

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 : Memref sig .tc .vmem S1x1024 .f32} {arg7 : Memref sig .tc .vmem S1024x7424 .bf16} {arg18 : Memref sig .tc .vmem S256x1024 .bf16}
  {arg19 : Memref sig .tc .vmem S256x1024 .f32} {arg24 arg25 arg26 arg27 : Memref sig .tc .vmem S2x384x128 .bf16}
  {arg28 arg29 : Memref sig .tc .vmem S512x256 .f32} {arg30 arg31 : Memref sig .tc .vmem S512x256 .bf16} {harg2 : arg2.IsWhole} {harg3 : arg3.IsWhole}
  {harg4 : arg4.IsWhole} {harg5 : arg5.IsWhole} {harg6 : arg6.IsWhole} {harg7 : arg7.IsWhole} {harg24 : arg24.IsWhole} {harg25 : arg25.IsWhole}
  {x0 : Vec Ideal S16 .f32} {x1 : Vec Ideal S1x256x1024 .f32} {x2 x3 : Vec Ideal S256x128 .f32} {x4 x9 x10 x14 : Vec Ideal S1x1024 .f32}
  {x5 : Vec Ideal S1024x7424 .bf16} {x6 : Vec Ideal S1x2048 .f32} {x7 : Vec Ideal S8x128x128 .f32} {x8 : Vec Ideal S128x1024 .f32}
  {x11 x12 x13 : Vec Ideal S1024x1024 .bf16}
  {xs6 xs7 xs8 xs9 : Vec Ideal S2x384x128 .bf16}

variable (H : Blk a b j x0 x1 x2 x3 x4 x5 x6 x7 x8 x9 x10 x11 x12 x13 x14) (HL : Halo a b j xs6 xs7 xs8 xs9) (hi : (i 1).val = j) (fa : Finite a)

include H in
theorem sce4 (R : Fin 512) (k : Fin 256) : k0_pay63 (kernelRun0_B.sl.v1128 c arg3 harg3 arg4 harg4 arg5 harg5 arg6 harg6 arg7 harg7 arg18 x1 x2 x3 x4 x5) (kernelRun0_B.sl.v1129 c arg3 harg3 arg4 harg4 arg5 harg5 arg6 harg6 arg7 harg7 arg18 x1 x2 x3 x4 x5) (kernelRun0_B.sl.v1130 c arg3 harg3 arg4 harg4 arg5 harg5 arg6 harg6 arg7 harg7 arg18 x1 x2 x3 x4 x5) (kernelRun0_B.sl.v1131 c arg3 harg3 arg4 harg4 arg5 harg5 arg6 harg6 arg7 harg7 arg18 x1 x2 x3 x4 x5) (kernelRun0_B.sl.v1133 c arg3 harg3 arg4 harg4 arg5 harg5 arg6 harg6 arg7 harg7 arg24 x1 x2 x3 x4 x5) (ix2 R k) = scF a b (2 * j + 1) (8 * 1 + 2 * (R / 128)) (R % 128) k :=
  scoreE_of (v1128 H) (v1129 H) (v1130 H) (v1131 H) (v1133 H) R k

include H in
theorem v1146 (r : Fin 128) (k : Fin 256) : (kernelRun0_B.sl.v1146 c arg3 harg3 arg4 harg4 arg5 harg5 arg6 harg6 arg7 harg7 arg18 arg24 harg24 arg28 x1 x2 x3 x4 x5 xs6) (ix2 r k) = scF a b (2 * j + 1) 8 r k := by
  refine (rc2 (e := .f32) (n0 := 512) (n1 := 256) (g := (fun R k => scF a b (2 * j + 1) (8 * 1 + 2 * (R / 128)) (R % 128) k)) (L1 := ((kernelRun0_B.sl.HS10_4 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 1) (8 * 1 + 2 * (R / 128)) (R % 128) k)) (n0 := 512) (n1 := 256) (o0 := 0) (o1 := 0) (m0 := 512) (m1 := 256) (inb := by decide) fun r l => ?_) True.intro
    exact (sce4 H r l).trans (by beta_reduce; congr 1 <;> (first | omega | (congr 2; omega)))
  · exact fun y h1 h2 h3 h4 => ⟨_, mh, in2 (inb := by decide) (by omega)⟩

include H in
theorem v1192 (r : Fin 128) (k : Fin 256) : (kernelRun0_B.sl.v1192 c arg3 harg3 arg4 harg4 arg5 harg5 arg6 harg6 arg7 harg7 arg18 arg24 harg24 arg28 x1 x2 x3 x4 x5 xs6) (ix2 r k) = scF a b (2 * j + 1) 10 r k := by
  refine (rc2 (e := .f32) (n0 := 512) (n1 := 256) (g := (fun R k => scF a b (2 * j + 1) (8 * 1 + 2 * (R / 128)) (R % 128) k)) (L1 := ((kernelRun0_B.sl.HS10_4 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 1) (8 * 1 + 2 * (R / 128)) (R % 128) k)) (n0 := 512) (n1 := 256) (o0 := 0) (o1 := 0) (m0 := 512) (m1 := 256) (inb := by decide) fun r l => ?_) True.intro
    exact (sce4 H r l).trans (by beta_reduce; congr 1 <;> (first | omega | (congr 2; omega)))
  · exact fun y h1 h2 h3 h4 => ⟨_, mh, in2 (inb := by decide) (by omega)⟩

include H in
theorem v1238 (r : Fin 128) (k : Fin 256) : (kernelRun0_B.sl.v1238 c arg3 harg3 arg4 harg4 arg5 harg5 arg6 harg6 arg7 harg7 arg18 arg24 harg24 arg28 x1 x2 x3 x4 x5 xs6) (ix2 r k) = scF a b (2 * j + 1) 12 r k := by
  refine (rc2 (e := .f32) (n0 := 512) (n1 := 256) (g := (fun R k => scF a b (2 * j + 1) (8 * 1 + 2 * (R / 128)) (R % 128) k)) (L1 := ((kernelRun0_B.sl.HS10_4 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 1) (8 * 1 + 2 * (R / 128)) (R % 128) k)) (n0 := 512) (n1 := 256) (o0 := 0) (o1 := 0) (m0 := 512) (m1 := 256) (inb := by decide) fun r l => ?_) True.intro
    exact (sce4 H r l).trans (by beta_reduce; congr 1 <;> (first | omega | (congr 2; omega)))
  · exact fun y h1 h2 h3 h4 => ⟨_, mh, in2 (inb := by decide) (by omega)⟩

include H in
theorem v1284 (r : Fin 128) (k : Fin 256) : (kernelRun0_B.sl.v1284 c arg3 harg3 arg4 harg4 arg5 harg5 arg6 harg6 arg7 harg7 arg18 arg24 harg24 arg28 x1 x2 x3 x4 x5 xs6) (ix2 r k) = scF a b (2 * j + 1) 14 r k := by
  refine (rc2 (e := .f32) (n0 := 512) (n1 := 256) (g := (fun R k => scF a b (2 * j + 1) (8 * 1 + 2 * (R / 128)) (R % 128) k)) (L1 := ((kernelRun0_B.sl.HS10_4 c arg3 harg3 arg4 harg4 arg5 harg5 arg6 harg6 arg7 harg7 arg18 arg24 harg24 x1 x2 x3 x4 x5 xs6)).take 1) (List.take_append_drop 1 _).symm ?_ _ ?_ r k).trans (by beta_reduce; congr 1 <;> omega)
  · refine pieces_mem (piece2 (e := .f32) (g := (fun R k => scF a b (2 * j + 1) (8 * 1 + 2 * (R / 128)) (R % 128) k)) (n0 := 512) (n1 := 256) (o0 := 0) (o1 := 0) (m0 := 512) (m1 := 256) (inb := by decide) fun r l => ?_) True.intro
    exact (sce4 H r l).trans (by beta_reduce; congr 1 <;> (first | omega | (congr 2; omega)))
  · exact fun y h1 h2 h3 h4 => ⟨_, mh, in2 (inb := by decide) (by omega)⟩

include H in
theorem sco4 (R : Fin 512) (k : Fin 256) : k0_pay63 (kernelRun0_B.sl.v1128 c arg3 harg3 arg4 harg4 arg5 harg5 arg6 harg6 arg7 harg7 arg18 x1 x2 x3 x4 x5) (kernelRun0_B.sl.v1129 c arg3 harg3 arg4 harg4 arg5 harg5 arg6 harg6 arg7 harg7 arg18 x1 x2 x3 x4 x5) (kernelRun0_B.sl.v1130 c arg3 harg3 arg4 harg4 arg5 harg5 arg6 harg6 arg7 harg7 arg18 x1 x2 x3 x4 x5) (kernelRun0_B.sl.v1131 c arg3 harg3 arg4 harg4 arg5 harg5 arg6 harg6 arg7 harg7 arg18 x1 x2 x3 x4 x5) (kernelRun0_B.sl.v1139 c arg3 harg3 arg4 harg4 arg5 harg5 arg6 harg6 arg7 harg7 arg25 x1 x2 x3 x4 x5) (ix2 R k) = scF a b (2 * j + 1) (8 * 1 + (2 * (R / 128) + 1)) (R % 128) k :=
  scoreO_of (v1128 H) (v1129 H) (v1130 H) (v1131 H) (v1139 H) R k

include H in
theorem v1169 (r : Fin 128) (k : Fin 256) : (kernelRun0_B.sl.v1169 c arg3 harg3 arg4 harg4 arg5 harg5 arg6 harg6 arg7 harg7 arg18 arg25 harg25 arg29 x1 x2 x3 x4 x5 xs7) (ix2 r k) = scF a b (2 * j + 1) 9 r k := by
  refine (rc2 (e := .f32) (n0 := 512) (n1 := 256) (g := (fun R k => scF a b (2 * j + 1) (8 * 1 + (2 * (R / 128) + 1)) (R % 128) k)) (L1 := ((kernelRun0_B.sl.HS11_4 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 1) (8 * 1 + (2 * (R / 128) + 1)) (R % 128) k)) (n0 := 512) (n1 := 256) (o0 := 0) (o1 := 0) (m0 := 512) (m1 := 256) (inb := by decide) fun r l => ?_) True.intro
    exact (sco4 H r l).trans (by beta_reduce; congr 1 <;> (first | omega | (congr 2; omega)))
  · exact fun y h1 h2 h3 h4 => ⟨_, mh, in2 (inb := by decide) (by omega)⟩

include H in
theorem v1215 (r : Fin 128) (k : Fin 256) : (kernelRun0_B.sl.v1215 c arg3 harg3 arg4 harg4 arg5 harg5 arg6 harg6 arg7 harg7 arg18 arg25 harg25 arg29 x1 x2 x3 x4 x5 xs7) (ix2 r k) = scF a b (2 * j + 1) 11 r k := by
  refine (rc2 (e := .f32) (n0 := 512) (n1 := 256) (g := (fun R k => scF a b (2 * j + 1) (8 * 1 + (2 * (R / 128) + 1)) (R % 128) k)) (L1 := ((kernelRun0_B.sl.HS11_4 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 1) (8 * 1 + (2 * (R / 128) + 1)) (R % 128) k)) (n0 := 512) (n1 := 256) (o0 := 0) (o1 := 0) (m0 := 512) (m1 := 256) (inb := by decide) fun r l => ?_) True.intro
    exact (sco4 H r l).trans (by beta_reduce; congr 1 <;> (first | omega | (congr 2; omega)))
  · exact fun y h1 h2 h3 h4 => ⟨_, mh, in2 (inb := by decide) (by omega)⟩

include H in
theorem v1261 (r : Fin 128) (k : Fin 256) : (kernelRun0_B.sl.v1261 c arg3 harg3 arg4 harg4 arg5 harg5 arg6 harg6 arg7 harg7 arg18 arg25 harg25 arg29 x1 x2 x3 x4 x5 xs7) (ix2 r k) = scF a b (2 * j + 1) 13 r k := by
  refine (rc2 (e := .f32) (n0 := 512) (n1 := 256) (g := (fun R k => scF a b (2 * j + 1) (8 * 1 + (2 * (R / 128) + 1)) (R % 128) k)) (L1 := ((kernelRun0_B.sl.HS11_4 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 1) (8 * 1 + (2 * (R / 128) + 1)) (R % 128) k)) (n0 := 512) (n1 := 256) (o0 := 0) (o1 := 0) (m0 := 512) (m1 := 256) (inb := by decide) fun r l => ?_) True.intro
    exact (sco4 H r l).trans (by beta_reduce; congr 1 <;> (first | omega | (congr 2; omega)))
  · exact fun y h1 h2 h3 h4 => ⟨_, mh, in2 (inb := by decide) (by omega)⟩

include H in
theorem v1307 (r : Fin 128) (k : Fin 256) : (kernelRun0_B.sl.v1307 c arg3 harg3 arg4 harg4 arg5 harg5 arg6 harg6 arg7 harg7 arg18 arg25 harg25 arg29 x1 x2 x3 x4 x5 xs7) (ix2 r k) = scF a b (2 * j + 1) 15 r k := by
  refine (rc2 (e := .f32) (n0 := 512) (n1 := 256) (g := (fun R k => scF a b (2 * j + 1) (8 * 1 + (2 * (R / 128) + 1)) (R % 128) k)) (L1 := ((kernelRun0_B.sl.HS11_4 c arg3 harg3 arg4 harg4 arg5 harg5 arg6 harg6 arg7 harg7 arg18 arg25 harg25 x1 x2 x3 x4 x5 xs7)).take 1) (List.take_append_drop 1 _).symm ?_ _ ?_ r k).trans (by beta_reduce; congr 1 <;> omega)
  · refine pieces_mem (piece2 (e := .f32) (g := (fun R k => scF a b (2 * j + 1) (8 * 1 + (2 * (R / 128) + 1)) (R % 128) k)) (n0 := 512) (n1 := 256) (o0 := 0) (o1 := 0) (m0 := 512) (m1 := 256) (inb := by decide) fun r l => ?_) True.intro
    exact (sco4 H r l).trans (by beta_reduce; congr 1 <;> (first | omega | (congr 2; omega)))
  · exact fun y h1 h2 h3 h4 => ⟨_, mh, in2 (inb := by decide) (by omega)⟩

include H in
theorem e4_8 (r : Fin 128) (k : Fin 256) : (k0_pay235 kernelRun0_B.sl.r_1 (kernelRun0_B.sl.r_26 c arg2 harg2 x0) (kernelRun0_B.sl.v1146 c arg3 harg3 arg4 harg4 arg5 harg5 arg6 harg6 arg7 harg7 arg18 arg24 harg24 arg28 x1 x2 x3 x4 x5 xs6)) (ix2 r k) = exF a b (2 * j + 1) 8 r k := by
  show k0_pay74 kernelRun0_B.sl.r_1 (kernelRun0_B.sl.r_26 c arg2 harg2 x0) (kernelRun0_B.sl.v1146 c arg3 harg3 arg4 harg4 arg5 harg5 arg6 harg6 arg7 harg7 arg18 arg24 harg24 arg28 x1 x2 x3 x4 x5 xs6) (ix2 r k) = _
  exact ex_of (r_1 (by omega)) (sk8 H) (v1146 H) r k

include H in
theorem d4_8 (r : Fin 128) : (kernelRun0_B.sl.r_65 c arg2 harg2 arg3 harg3 arg4 harg4 arg5 harg5 arg6 harg6 arg7 harg7 arg18 arg24 harg24 arg28 x0 x1 x2 x3 x4 x5 xs6) (ix2 r 0) = Ideal.div 1 (kden a b (128 * (2 * j + 1) + r) 8) := by
  show k0_pay75 kernelRun0_B.sl.r_1 (kernelRun0_B.sl.r_26 c arg2 harg2 x0) (kernelRun0_B.sl.v1146 c arg3 harg3 arg4 harg4 arg5 harg5 arg6 harg6 arg7 harg7 arg18 arg24 harg24 arg28 x1 x2 x3 x4 x5 xs6) (ix2 r 0) = _
  exact rden_of (r_1 (by omega)) (sk8 H) (v1146 H) r

include H in
theorem e4_10 (r : Fin 128) (k : Fin 256) : (k0_pay247 kernelRun0_B.sl.r_1 (kernelRun0_B.sl.r_30 c arg2 harg2 x0) (kernelRun0_B.sl.v1192 c arg3 harg3 arg4 harg4 arg5 harg5 arg6 harg6 arg7 harg7 arg18 arg24 harg24 arg28 x1 x2 x3 x4 x5 xs6)) (ix2 r k) = exF a b (2 * j + 1) 10 r k := by
  show k0_pay74 kernelRun0_B.sl.r_1 (kernelRun0_B.sl.r_30 c arg2 harg2 x0) (kernelRun0_B.sl.v1192 c arg3 harg3 arg4 harg4 arg5 harg5 arg6 harg6 arg7 harg7 arg18 arg24 harg24 arg28 x1 x2 x3 x4 x5 xs6) (ix2 r k) = _
  exact ex_of (r_1 (by omega)) (sk10 H) (v1192 H) r k

include H in
theorem d4_10 (r : Fin 128) : (kernelRun0_B.sl.r_69 c arg2 harg2 arg3 harg3 arg4 harg4 arg5 harg5 arg6 harg6 arg7 harg7 arg18 arg24 harg24 arg28 x0 x1 x2 x3 x4 x5 xs6) (ix2 r 0) = Ideal.div 1 (kden a b (128 * (2 * j + 1) + r) 10) := by
  show k0_pay75 kernelRun0_B.sl.r_1 (kernelRun0_B.sl.r_30 c arg2 harg2 x0) (kernelRun0_B.sl.v1192 c arg3 harg3 arg4 harg4 arg5 harg5 arg6 harg6 arg7 harg7 arg18 arg24 harg24 arg28 x1 x2 x3 x4 x5 xs6) (ix2 r 0) = _
  exact rden_of (r_1 (by omega)) (sk10 H) (v1192 H) r

include H in
theorem e4_12 (r : Fin 128) (k : Fin 256) : (k0_pay259 kernelRun0_B.sl.r_1 (kernelRun0_B.sl.r_37 c arg2 harg2 x0) (kernelRun0_B.sl.v1238 c arg3 harg3 arg4 harg4 arg5 harg5 arg6 harg6 arg7 harg7 arg18 arg24 harg24 arg28 x1 x2 x3 x4 x5 xs6)) (ix2 r k) = exF a b (2 * j + 1) 12 r k := by
  show k0_pay74 kernelRun0_B.sl.r_1 (kernelRun0_B.sl.r_37 c arg2 harg2 x0) (kernelRun0_B.sl.v1238 c arg3 harg3 arg4 harg4 arg5 harg5 arg6 harg6 arg7 harg7 arg18 arg24 harg24 arg28 x1 x2 x3 x4 x5 xs6) (ix2 r k) = _
  exact ex_of (r_1 (by omega)) (sk12 H) (v1238 H) r k

include H in
theorem d4_12 (r : Fin 128) : (kernelRun0_B.sl.r_75 c arg2 harg2 arg3 harg3 arg4 harg4 arg5 harg5 arg6 harg6 arg7 harg7 arg18 arg24 harg24 arg28 x0 x1 x2 x3 x4 x5 xs6) (ix2 r 0) = Ideal.div 1 (kden a b (128 * (2 * j + 1) + r) 12) := by
  show k0_pay75 kernelRun0_B.sl.r_1 (kernelRun0_B.sl.r_37 c arg2 harg2 x0) (kernelRun0_B.sl.v1238 c arg3 harg3 arg4 harg4 arg5 harg5 arg6 harg6 arg7 harg7 arg18 arg24 harg24 arg28 x1 x2 x3 x4 x5 xs6) (ix2 r 0) = _
  exact rden_of (r_1 (by omega)) (sk12 H) (v1238 H) r

include H in
theorem e4_14 (r : Fin 128) (k : Fin 256) : (k0_pay270 kernelRun0_B.sl.r_1 (kernelRun0_B.sl.r_43 c arg2 harg2 x0) (kernelRun0_B.sl.v1284 c arg3 harg3 arg4 harg4 arg5 harg5 arg6 harg6 arg7 harg7 arg18 arg24 harg24 arg28 x1 x2 x3 x4 x5 xs6)) (ix2 r k) = exF a b (2 * j + 1) 14 r k := by
  show k0_pay74 kernelRun0_B.sl.r_1 (kernelRun0_B.sl.r_43 c arg2 harg2 x0) (kernelRun0_B.sl.v1284 c arg3 harg3 arg4 harg4 arg5 harg5 arg6 harg6 arg7 harg7 arg18 arg24 harg24 arg28 x1 x2 x3 x4 x5 xs6) (ix2 r k) = _
  exact ex_of (r_1 (by omega)) (sk14 H) (v1284 H) r k

include H in
theorem d4_14 (r : Fin 128) : (kernelRun0_B.sl.r_80 c arg2 harg2 arg3 harg3 arg4 harg4 arg5 harg5 arg6 harg6 arg7 harg7 arg18 arg24 harg24 arg28 x0 x1 x2 x3 x4 x5 xs6) (ix2 r 0) = Ideal.div 1 (kden a b (128 * (2 * j + 1) + r) 14) := by
  show k0_pay75 kernelRun0_B.sl.r_1 (kernelRun0_B.sl.r_43 c arg2 harg2 x0) (kernelRun0_B.sl.v1284 c arg3 harg3 arg4 harg4 arg5 harg5 arg6 harg6 arg7 harg7 arg18 arg24 harg24 arg28 x1 x2 x3 x4 x5 xs6) (ix2 r 0) = _
  exact rden_of (r_1 (by omega)) (sk14 H) (v1284 H) r

include H in
theorem v1329 (R : Fin 512) (k : Fin 256) : (kernelRun0_B.sl.v1329 c i arg2 harg2 arg3 harg3 arg4 harg4 arg5 harg5 arg6 harg6 arg7 harg7 arg18 arg24 harg24 arg28 arg30 x0 x1 x2 x3 x4 x5 xs6) (ix2 R k) = exF a b (2 * j + 1) (8 * 1 + 2 * (R / 128)) (R % 128) k := by
  refine (rc2 (e := .bf16) (n0 := 512) (n1 := 256) (g := (fun R k => exF a b (2 * j + 1) (8 * 1 + 2 * (R / 128)) (R % 128) k)) (L1 := ((kernelRun0_B.sl.HS12_16 c i arg2 harg2 arg3 harg3 arg4 harg4 arg5 harg5 arg6 harg6 arg7 harg7 arg18 arg24 harg24 arg28 x0 x1 x2 x3 x4 x5 xs6)).take 4) (List.take_append_drop 4 _).symm ?_ _ ?_ R k).trans (by beta_reduce; congr 1 <;> omega)
  · refine pc2 512 256 384 0 128 256 (fun r l => ?_) ?_
    · exact (e4_14 H r l).trans (by beta_reduce; congr 1 <;> omega)
    refine pc2 512 256 256 0 128 256 (fun r l => ?_) ?_
    · exact (e4_12 H r l).trans (by beta_reduce; congr 1 <;> omega)
    refine pc2 512 256 128 0 128 256 (fun r l => ?_) ?_
    · exact (e4_10 H r l).trans (by beta_reduce; congr 1 <;> omega)
    refine pc2 512 256 0 0 128 256 (fun r l => ?_) ?_
    · exact (e4_8 H r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H in
theorem e4_9 (r : Fin 128) (k : Fin 256) : (k0_pay242 (kernelRun0_B.sl.r_67 c arg2 harg2 arg3 harg3 arg4 harg4 arg5 harg5 arg6 harg6 arg7 harg7 arg18 arg25 harg25 arg29 x0 x1 x2 x3 x4 x5 xs7)) (ix2 r k) = exF a b (2 * j + 1) 9 r k := by
  show k0_pay74 kernelRun0_B.sl.r_1 (kernelRun0_B.sl.r_29 c arg2 harg2 x0) (kernelRun0_B.sl.v1169 c arg3 harg3 arg4 harg4 arg5 harg5 arg6 harg6 arg7 harg7 arg18 arg25 harg25 arg29 x1 x2 x3 x4 x5 xs7) (ix2 r k) = _
  exact ex_of (r_1 (by omega)) (sk9 H) (v1169 H) r k

include H in
theorem d4_9 (r : Fin 128) : (kernelRun0_B.sl.r_68 c arg2 harg2 arg3 harg3 arg4 harg4 arg5 harg5 arg6 harg6 arg7 harg7 arg18 arg25 harg25 arg29 x0 x1 x2 x3 x4 x5 xs7) (ix2 r 0) = Ideal.div 1 (kden a b (128 * (2 * j + 1) + r) 9) := by
  show k0_pay75 kernelRun0_B.sl.r_1 (kernelRun0_B.sl.r_29 c arg2 harg2 x0) (kernelRun0_B.sl.v1169 c arg3 harg3 arg4 harg4 arg5 harg5 arg6 harg6 arg7 harg7 arg18 arg25 harg25 arg29 x1 x2 x3 x4 x5 xs7) (ix2 r 0) = _
  exact rden_of (r_1 (by omega)) (sk9 H) (v1169 H) r

include H in
theorem e4_11 (r : Fin 128) (k : Fin 256) : (k0_pay254 (kernelRun0_B.sl.r_71 c arg2 harg2 arg3 harg3 arg4 harg4 arg5 harg5 arg6 harg6 arg7 harg7 arg18 arg25 harg25 arg29 x0 x1 x2 x3 x4 x5 xs7)) (ix2 r k) = exF a b (2 * j + 1) 11 r k := by
  show k0_pay74 kernelRun0_B.sl.r_1 (kernelRun0_B.sl.r_36 c arg2 harg2 x0) (kernelRun0_B.sl.v1215 c arg3 harg3 arg4 harg4 arg5 harg5 arg6 harg6 arg7 harg7 arg18 arg25 harg25 arg29 x1 x2 x3 x4 x5 xs7) (ix2 r k) = _
  exact ex_of (r_1 (by omega)) (sk11 H) (v1215 H) r k

include H in
theorem d4_11 (r : Fin 128) : (kernelRun0_B.sl.r_74 c arg2 harg2 arg3 harg3 arg4 harg4 arg5 harg5 arg6 harg6 arg7 harg7 arg18 arg25 harg25 arg29 x0 x1 x2 x3 x4 x5 xs7) (ix2 r 0) = Ideal.div 1 (kden a b (128 * (2 * j + 1) + r) 11) := by
  show k0_pay75 kernelRun0_B.sl.r_1 (kernelRun0_B.sl.r_36 c arg2 harg2 x0) (kernelRun0_B.sl.v1215 c arg3 harg3 arg4 harg4 arg5 harg5 arg6 harg6 arg7 harg7 arg18 arg25 harg25 arg29 x1 x2 x3 x4 x5 xs7) (ix2 r 0) = _
  exact rden_of (r_1 (by omega)) (sk11 H) (v1215 H) r

include H in
theorem e4_13 (r : Fin 128) (k : Fin 256) : (k0_pay265 (kernelRun0_B.sl.r_76 c arg3 harg3 arg4 harg4 arg5 harg5 arg6 harg6 arg7 harg7 arg18 arg25 harg25 arg29 x1 x2 x3 x4 x5 xs7) (kernelRun0_B.sl.r_78 c arg2 harg2 arg3 harg3 arg4 harg4 arg5 harg5 arg6 harg6 arg7 harg7 arg18 arg25 harg25 arg29 x0 x1 x2 x3 x4 x5 xs7)) (ix2 r k) = exF a b (2 * j + 1) 13 r k := by
  show k0_pay74 kernelRun0_B.sl.r_1 (kernelRun0_B.sl.r_42 c arg2 harg2 x0) (kernelRun0_B.sl.v1261 c arg3 harg3 arg4 harg4 arg5 harg5 arg6 harg6 arg7 harg7 arg18 arg25 harg25 arg29 x1 x2 x3 x4 x5 xs7) (ix2 r k) = _
  exact ex_of (r_1 (by omega)) (sk13 H) (v1261 H) r k

include H in
theorem d4_13 (r : Fin 128) : (kernelRun0_B.sl.r_79 c arg2 harg2 arg3 harg3 arg4 harg4 arg5 harg5 arg6 harg6 arg7 harg7 arg18 arg25 harg25 arg29 x0 x1 x2 x3 x4 x5 xs7) (ix2 r 0) = Ideal.div 1 (kden a b (128 * (2 * j + 1) + r) 13) := by
  show k0_pay75 kernelRun0_B.sl.r_1 (kernelRun0_B.sl.r_42 c arg2 harg2 x0) (kernelRun0_B.sl.v1261 c arg3 harg3 arg4 harg4 arg5 harg5 arg6 harg6 arg7 harg7 arg18 arg25 harg25 arg29 x1 x2 x3 x4 x5 xs7) (ix2 r 0) = _
  exact rden_of (r_1 (by omega)) (sk13 H) (v1261 H) r

include H in
theorem e4_15 (r : Fin 128) (k : Fin 256) : (kernelRun0_B.sl.v1326 c arg2 harg2 arg3 harg3 arg4 harg4 arg5 harg5 arg6 harg6 arg7 harg7 arg18 arg25 harg25 arg29 x0 x1 x2 x3 x4 x5 xs7) (ix2 r k) = exF a b (2 * j + 1) 15 r k := by
  show k0_pay74 kernelRun0_B.sl.r_1 (kernelRun0_B.sl.r_47 c arg2 harg2 x0) (kernelRun0_B.sl.v1307 c arg3 harg3 arg4 harg4 arg5 harg5 arg6 harg6 arg7 harg7 arg18 arg25 harg25 arg29 x1 x2 x3 x4 x5 xs7) (ix2 r k) = _
  exact ex_of (r_1 (by omega)) (sk15 H) (v1307 H) r k

include H in
theorem d4_15 (r : Fin 128) : (kernelRun0_B.sl.v1328 c arg2 harg2 arg3 harg3 arg4 harg4 arg5 harg5 arg6 harg6 arg7 harg7 arg18 arg25 harg25 arg29 x0 x1 x2 x3 x4 x5 xs7) (ix2 r 0) = Ideal.div 1 (kden a b (128 * (2 * j + 1) + r) 15) := by
  show k0_pay75 kernelRun0_B.sl.r_1 (kernelRun0_B.sl.r_47 c arg2 harg2 x0) (kernelRun0_B.sl.v1307 c arg3 harg3 arg4 harg4 arg5 harg5 arg6 harg6 arg7 harg7 arg18 arg25 harg25 arg29 x1 x2 x3 x4 x5 xs7) (ix2 r 0) = _
  exact rden_of (r_1 (by omega)) (sk15 H) (v1307 H) r

include H in
theorem v1333 (R : Fin 512) (k : Fin 256) : (kernelRun0_B.sl.v1333 c i arg2 harg2 arg3 harg3 arg4 harg4 arg5 harg5 arg6 harg6 arg7 harg7 arg18 arg25 harg25 arg29 arg31 x0 x1 x2 x3 x4 x5 xs7) (ix2 R k) = exF a b (2 * j + 1) (8 * 1 + (2 * (R / 128) + 1)) (R % 128) k := by
  refine (rc2 (e := .bf16) (n0 := 512) (n1 := 256) (g := (fun R k => exF a b (2 * j + 1) (8 * 1 + (2 * (R / 128) + 1)) (R % 128) k)) (L1 := ((kernelRun0_B.sl.HS13_16 c i arg2 harg2 arg3 harg3 arg4 harg4 arg5 harg5 arg6 harg6 arg7 harg7 arg18 arg25 harg25 arg29 x0 x1 x2 x3 x4 x5 xs7)).take 4) (List.take_append_drop 4 _).symm ?_ _ ?_ R k).trans (by beta_reduce; congr 1 <;> omega)
  · refine pieces_mem (piece2 (g := (fun R k => exF a b (2 * j + 1) (8 * 1 + (2 * (R / 128) + 1)) (R % 128) k)) (e := .bf16) (n0 := 512) (n1 := 256) (o0 := 384) (o1 := 0) (m0 := 128) (m1 := 256) (inb := by decide) fun r l => ?_) ?_
    · exact (e4_15 H r l).trans (by beta_reduce; congr 1 <;> omega)
    refine pieces_mem (piece2 (g := (fun R k => exF a b (2 * j + 1) (8 * 1 + (2 * (R / 128) + 1)) (R % 128) k)) (e := .bf16) (n0 := 512) (n1 := 256) (o0 := 256) (o1 := 0) (m0 := 128) (m1 := 256) (inb := by decide) fun r l => ?_) ?_
    · exact (e4_13 H r l).trans (by beta_reduce; congr 1 <;> omega)
    refine pieces_mem (piece2 (g := (fun R k => exF a b (2 * j + 1) (8 * 1 + (2 * (R / 128) + 1)) (R % 128) k)) (e := .bf16) (n0 := 512) (n1 := 256) (o0 := 128) (o1 := 0) (m0 := 128) (m1 := 256) (inb := by decide) fun r l => ?_) ?_
    · exact (e4_11 H r l).trans (by beta_reduce; congr 1 <;> omega)
    refine pieces_mem (piece2 (g := (fun R k => exF a b (2 * j + 1) (8 * 1 + (2 * (R / 128) + 1)) (R % 128) k)) (e := .bf16) (n0 := 512) (n1 := 256) (o0 := 0) (o1 := 0) (m0 := 128) (m1 := 256) (inb := by decide) fun r l => ?_) ?_
    · exact (e4_9 H r l).trans (by beta_reduce; congr 1 <;> omega)
    exact True.intro
  · intro y h1 h2 h3 h4
    rcases (show (y 0).val / 128 = 0 ∨ (y 0).val / 128 = 1 ∨ (y 0).val / 128 = 2 ∨ (y 0).val / 128 = 3 by omega) with h | h | h | h
    · exact ⟨_, (mt (mt (mt mh))), in2 (inb := by decide) (by omega)⟩
    · exact ⟨_, (mt (mt mh)), in2 (inb := by decide) (by omega)⟩
    · exact ⟨_, (mt mh), in2 (inb := by decide) (by omega)⟩
    · exact ⟨_, mh, in2 (inb := by decide) (by omega)⟩

include H in
theorem v1337 (R : Fin 512) (l : Fin 128) : (kernelRun0_B.sl.v1337 c i arg2 harg2 arg3 harg3 arg4 harg4 arg5 harg5 arg6 harg6 arg7 harg7 arg18 arg24 harg24 arg25 harg25 arg26 arg27 arg28 arg29 arg30 arg31 x0 x1 x2 x3 x4 x5 xs6 xs7) (ix2 R l) =
    ∑ k : Fin 256, exF a b (2 * j + 1) (8 * 1 + 2 * (R / 128) + l / 64) (R % 128) k * VH a b (128 * (2 * j + 1) + k) 1 (l % 64) := by
  show k0_pay112 (kernelRun0_B.sl.v1329 c i arg2 harg2 arg3 harg3 arg4 harg4 arg5 harg5 arg6 harg6 arg7 harg7 arg18 arg24 harg24 arg28 arg30 x0 x1 x2 x3 x4 x5 xs6) (kernelRun0_B.sl.v1330 c arg3 harg3 arg6 harg6 arg7 harg7 arg26 x1 x4 x5) (kernelRun0_B.sl.v1333 c i arg2 harg2 arg3 harg3 arg4 harg4 arg5 harg5 arg6 harg6 arg7 harg7 arg18 arg25 harg25 arg29 arg31 x0 x1 x2 x3 x4 x5 xs7) (kernelRun0_B.sl.v1334 c arg3 harg3 arg6 harg6 arg7 harg7 arg27 x1 x4 x5) (ix2 R l) = _
  exact wv_of (v1329 H) (v1333 H) (v1330 H) (v1334 H) R l

include H in
theorem v1345 (r l : Fin 128) : (kernelRun0_B.sl.v1345 c arg3 harg3 arg6 harg6 arg7 harg7 arg19 x1 x4 x5) (ix2 r l) = PJ a b (128 * (2 * j + 1) + r) (1280 + (128 * (4 * 1 + 0) + l)) :=
  (rcm (hs1 H) _ mh (by decide) r l).trans (by beta_reduce; congr 1 <;> omega)

include H fa in
theorem v1352 (r l : Fin 128) : (kernelRun0_B.sl.v1352 c i arg2 harg2 arg3 harg3 arg4 harg4 arg5 harg5 arg6 harg6 arg7 harg7 arg18 arg19 arg24 harg24 arg25 harg25 arg26 arg27 arg28 arg29 arg30 arg31 x0 x1 x2 x3 x4 x5 xs6 xs7) (ix2 r l) = AIN a b (128 * (2 * j + 1) + r) (128 * (4 * 1 + 0) + l) := by
  show ainV 0 slices_S512x128_o0_0_S128x128 (cmpi .slt kernelRun0_B.sl.v64 kernelRun0_B.sl.v65) (kernelRun0_B.sl.r_65 c arg2 harg2 arg3 harg3 arg4 harg4 arg5 harg5 arg6 harg6 arg7 harg7 arg18 arg24 harg24 arg28 x0 x1 x2 x3 x4 x5 xs6) (kernelRun0_B.sl.r_68 c arg2 harg2 arg3 harg3 arg4 harg4 arg5 harg5 arg6 harg6 arg7 harg7 arg18 arg25 harg25 arg29 x0 x1 x2 x3 x4 x5 xs7) (kernelRun0_B.sl.v1337 c i arg2 harg2 arg3 harg3 arg4 harg4 arg5 harg5 arg6 harg6 arg7 harg7 arg18 arg24 harg24 arg25 harg25 arg26 arg27 arg28 arg29 arg30 arg31 x0 x1 x2 x3 x4 x5 xs6 xs7) (kernelRun0_B.sl.v1345 c arg3 harg3 arg6 harg6 arg7 harg7 arg19 x1 x4 x5) (ix2 r l) = _
  exact ainV_of (m := (2 * j + 1)) (g := 1) (p := 0) (by omega) (by omega) lo128 (d4_8 H) (d4_9 H) (v1337 H) (v1345 H) fa r l

include H in
theorem v1360 (r l : Fin 128) : (kernelRun0_B.sl.v1360 c arg3 harg3 arg6 harg6 arg7 harg7 arg19 x1 x4 x5) (ix2 r l) = PJ a b (128 * (2 * j + 1) + r) (1280 + (128 * (4 * 1 + 1) + l)) :=
  (rcm (hs1 H) _ mh (by decide) r l).trans (by beta_reduce; congr 1 <;> omega)

include H fa in
theorem v1367 (r l : Fin 128) : (kernelRun0_B.sl.v1367 c i arg2 harg2 arg3 harg3 arg4 harg4 arg5 harg5 arg6 harg6 arg7 harg7 arg18 arg19 arg24 harg24 arg25 harg25 arg26 arg27 arg28 arg29 arg30 arg31 x0 x1 x2 x3 x4 x5 xs6 xs7) (ix2 r l) = AIN a b (128 * (2 * j + 1) + r) (128 * (4 * 1 + 1) + l) := by
  show ainV 128 slices_S512x128_o128_0_S128x128 (cmpi .slt kernelRun0_B.sl.v64 kernelRun0_B.sl.v65) (kernelRun0_B.sl.r_69 c arg2 harg2 arg3 harg3 arg4 harg4 arg5 harg5 arg6 harg6 arg7 harg7 arg18 arg24 harg24 arg28 x0 x1 x2 x3 x4 x5 xs6) (kernelRun0_B.sl.r_74 c arg2 harg2 arg3 harg3 arg4 harg4 arg5 harg5 arg6 harg6 arg7 harg7 arg18 arg25 harg25 arg29 x0 x1 x2 x3 x4 x5 xs7) (kernelRun0_B.sl.v1337 c i arg2 harg2 arg3 harg3 arg4 harg4 arg5 harg5 arg6 harg6 arg7 harg7 arg18 arg24 harg24 arg25 harg25 arg26 arg27 arg28 arg29 arg30 arg31 x0 x1 x2 x3 x4 x5 xs6 xs7) (kernelRun0_B.sl.v1360 c arg3 harg3 arg6 harg6 arg7 harg7 arg19 x1 x4 x5) (ix2 r l) = _
  exact ainV_of (m := (2 * j + 1)) (g := 1) (p := 1) (by omega) (by omega) lo128 (d4_10 H) (d4_11 H) (v1337 H) (v1360 H) fa r l

include H in
theorem v1375 (r l : Fin 128) : (kernelRun0_B.sl.v1375 c arg3 harg3 arg6 harg6 arg7 harg7 arg19 x1 x4 x5) (ix2 r l) = PJ a b (128 * (2 * j + 1) + r) (1280 + (128 * (4 * 1 + 2) + l)) :=
  (rcm (hs1 H) _ mh (by decide) r l).trans (by beta_reduce; congr 1 <;> omega)

include H fa in
theorem v1382 (r l : Fin 128) : (kernelRun0_B.sl.v1382 c i arg2 harg2 arg3 harg3 arg4 harg4 arg5 harg5 arg6 harg6 arg7 harg7 arg18 arg19 arg24 harg24 arg25 harg25 arg26 arg27 arg28 arg29 arg30 arg31 x0 x1 x2 x3 x4 x5 xs6 xs7) (ix2 r l) = AIN a b (128 * (2 * j + 1) + r) (128 * (4 * 1 + 2) + l) := by
  show ainV 256 slices_S512x128_o256_0_S128x128 (cmpi .slt kernelRun0_B.sl.v64 kernelRun0_B.sl.v65) (kernelRun0_B.sl.r_75 c arg2 harg2 arg3 harg3 arg4 harg4 arg5 harg5 arg6 harg6 arg7 harg7 arg18 arg24 harg24 arg28 x0 x1 x2 x3 x4 x5 xs6) (kernelRun0_B.sl.r_79 c arg2 harg2 arg3 harg3 arg4 harg4 arg5 harg5 arg6 harg6 arg7 harg7 arg18 arg25 harg25 arg29 x0 x1 x2 x3 x4 x5 xs7) (kernelRun0_B.sl.v1337 c i arg2 harg2 arg3 harg3 arg4 harg4 arg5 harg5 arg6 harg6 arg7 harg7 arg18 arg24 harg24 arg25 harg25 arg26 arg27 arg28 arg29 arg30 arg31 x0 x1 x2 x3 x4 x5 xs6 xs7) (kernelRun0_B.sl.v1375 c arg3 harg3 arg6 harg6 arg7 harg7 arg19 x1 x4 x5) (ix2 r l) = _
  exact ainV_of (m := (2 * j + 1)) (g := 1) (p := 2) (by omega) (by omega) lo128 (d4_12 H) (d4_13 H) (v1337 H) (v1375 H) fa r l

include H in
theorem v1390 (r l : Fin 128) : (kernelRun0_B.sl.v1390 c arg3 harg3 arg6 harg6 arg7 harg7 arg19 x1 x4 x5) (ix2 r l) = PJ a b (128 * (2 * j + 1) + r) (1280 + (128 * (4 * 1 + 3) + l)) :=
  (rcm (hs1 H) _ mh (by decide) r l).trans (by beta_reduce; congr 1 <;> omega)

include H fa in
theorem v1397 (r l : Fin 128) : (kernelRun0_B.sl.v1397 c i arg2 harg2 arg3 harg3 arg4 harg4 arg5 harg5 arg6 harg6 arg7 harg7 arg18 arg19 arg24 harg24 arg25 harg25 arg26 arg27 arg28 arg29 arg30 arg31 x0 x1 x2 x3 x4 x5 xs6 xs7) (ix2 r l) = AIN a b (128 * (2 * j + 1) + r) (128 * (4 * 1 + 3) + l) := by
  show ainV 384 slices_S512x128_o384_0_S128x128 (cmpi .slt kernelRun0_B.sl.v64 kernelRun0_B.sl.v65) (kernelRun0_B.sl.r_80 c arg2 harg2 arg3 harg3 arg4 harg4 arg5 harg5 arg6 harg6 arg7 harg7 arg18 arg24 harg24 arg28 x0 x1 x2 x3 x4 x5 xs6) (kernelRun0_B.sl.v1328 c arg2 harg2 arg3 harg3 arg4 harg4 arg5 harg5 arg6 harg6 arg7 harg7 arg18 arg25 harg25 arg29 x0 x1 x2 x3 x4 x5 xs7) (kernelRun0_B.sl.v1337 c i arg2 harg2 arg3 harg3 arg4 harg4 arg5 harg5 arg6 harg6 arg7 harg7 arg18 arg24 harg24 arg25 harg25 arg26 arg27 arg28 arg29 arg30 arg31 x0 x1 x2 x3 x4 x5 xs6 xs7) (kernelRun0_B.sl.v1390 c arg3 harg3 arg6 harg6 arg7 harg7 arg19 x1 x4 x5) (ix2 r l) = _
  exact ainV_of (m := (2 * j + 1)) (g := 1) (p := 3) (by omega) (by omega) lo128 (d4_14 H) (d4_15 H) (v1337 H) (v1390 H) fa r l

end Cert.PtB

end
-- ==== Proof.PtB7.lean ====
/- Grid points of case B: the spatial gating branch. -/
module

public import proofs.«01_k».proof.Proof.PtB2

@[expose] public section

set_option maxRecDepth 16384
set_option maxHeartbeats 1000000

noncomputable section

namespace Cert.PtB

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg3 : Memref sig .tc .vmem S1x256x1024 .f32} {arg6 arg11 arg12 : Memref sig .tc .vmem S1x1024 .f32} {arg7 : Memref sig .tc .vmem S1024x7424 .bf16}
  {arg9 : Memref sig .tc .vmem S8x128x128 .f32} {arg10 : Memref sig .tc .vmem S128x1024 .f32}
  {arg20 arg21 arg22 : Memref sig .tc .vmem S256x1024 .f32} {harg3 : arg3.IsWhole} {harg6 : arg6.IsWhole} {harg7 : arg7.IsWhole}
  {harg9 : arg9.IsWhole} {harg10 : arg10.IsWhole} {harg11 : arg11.IsWhole} {harg12 : arg12.IsWhole} {x0 : Vec Ideal S16 .f32}
  {x1 : Vec Ideal S1x256x1024 .f32} {x2 x3 : Vec Ideal S256x128 .f32} {x4 x9 x10 x14 : Vec Ideal S1x1024 .f32} {x5 : Vec Ideal S1024x7424 .bf16}
  {x6 : Vec Ideal S1x2048 .f32} {x7 : Vec Ideal S8x128x128 .f32} {x8 : Vec Ideal S128x1024 .f32} {x11 x12 x13 : Vec Ideal S1024x1024 .bf16}
  {xs6 xs7 xs8 xs9 : Vec Ideal S2x384x128 .bf16}

variable (H : Blk a b j x0 x1 x2 x3 x4 x5 x6 x7 x8 x9 x10 x11 x12 x13 x14)

include H in
theorem v1493 (r l : Fin 128) : (kernelRun0_B.sl.v1493 c arg9 harg9 x7) (ix2 r l) = wm a 0 r l :=
  wm_of causal (fun r l => (rd3 harg9 (g := fun g i j => a.sgw g i j) H.h7 _ 0 r l).trans (by beta_reduce; congr 1 <;> omega)) r l

include H in
theorem v1498 (r l : Fin 128) : (kernelRun0_B.sl.v1498 c arg9 harg9 x7) (ix2 r l) = wm a 1 r l :=
  wm_of causal (fun r l => (rd3 harg9 (g := fun g i j => a.sgw g i j) H.h7 _ 0 r l).trans (by beta_reduce; congr 1 <;> omega)) r l

include H in
theorem v1503 (r l : Fin 128) : (kernelRun0_B.sl.v1503 c arg9 harg9 x7) (ix2 r l) = wm a 2 r l :=
  wm_of causal (fun r l => (rd3 harg9 (g := fun g i j => a.sgw g i j) H.h7 _ 0 r l).trans (by beta_reduce; congr 1 <;> omega)) r l

include H in
theorem v1508 (r l : Fin 128) : (kernelRun0_B.sl.v1508 c arg9 harg9 x7) (ix2 r l) = wm a 3 r l :=
  wm_of causal (fun r l => (rd3 harg9 (g := fun g i j => a.sgw g i j) H.h7 _ 0 r l).trans (by beta_reduce; congr 1 <;> omega)) r l

include H in
theorem v1513 (r l : Fin 128) : (kernelRun0_B.sl.v1513 c arg9 harg9 x7) (ix2 r l) = wm a 4 r l :=
  wm_of causal (fun r l => (rd3 harg9 (g := fun g i j => a.sgw g i j) H.h7 _ 0 r l).trans (by beta_reduce; congr 1 <;> omega)) r l

include H in
theorem v1518 (r l : Fin 128) : (kernelRun0_B.sl.v1518 c arg9 harg9 x7) (ix2 r l) = wm a 5 r l :=
  wm_of causal (fun r l => (rd3 harg9 (g := fun g i j => a.sgw g i j) H.h7 _ 0 r l).trans (by beta_reduce; congr 1 <;> omega)) r l

include H in
theorem v1523 (r l : Fin 128) : (kernelRun0_B.sl.v1523 c arg9 harg9 x7) (ix2 r l) = wm a 6 r l :=
  wm_of causal (fun r l => (rd3 harg9 (g := fun g i j => a.sgw g i j) H.h7 _ 0 r l).trans (by beta_reduce; congr 1 <;> omega)) r l

include H in
theorem v1528 (r l : Fin 128) : (kernelRun0_B.sl.v1528 c arg9 harg9 x7) (ix2 r l) = wm a 7 r l :=
  wm_of causal (fun r l => (rd3 harg9 (g := fun g i j => a.sgw g i j) H.h7 _ 0 r l).trans (by beta_reduce; congr 1 <;> omega)) r l

include H in
theorem v1529 (r : Fin 128) (l : Fin 1024) : (kernelRun0_B.sl.v1529 c arg3 harg3 arg6 harg6 arg7 harg7 arg21 x1 x4 x5) (ix2 r l) = PJ a b (128 * (2 * j + 0) + r) (3328 + l) :=
  (rcm (hs3 H) _ mh (by decide) r l).trans (by beta_reduce; congr 1 <;> omega)

include H in
theorem v1562 (r : Fin 128) (q : Fin 1024) : (kernelRun0_B.sl.v1562 c arg3 harg3 arg6 harg6 arg7 harg7 arg11 harg11 arg12 harg12 arg21 x1 x4 x5 x9 x10) (ix2 r q) = VN a b (128 * (2 * j + 0) + r) q :=
  vn_of (v1529 H) (fun c => (rd2 harg11 (g := fun _ c => a.lng c) H.h9 _ 0 c).trans (by beta_reduce; congr 1 <;> omega)) (fun c => (rd2 harg12 (g := fun _ c => a.lnb c) H.h10 _ 0 c).trans (by beta_reduce; congr 1 <;> omega)) r q

include H in
theorem v1568 (r : Fin 128) (l : Fin 128) : (kernelRun0_B.sl.v1568 c arg3 harg3 arg6 harg6 arg7 harg7 arg20 x1 x4 x5) (ix2 r l) = PJ a b (128 * (2 * j + 0) + r) (2304 + (128 * 0 + l)) :=
  (rcm (hs2 H) _ mh (by decide) r l).trans (by beta_reduce; congr 1 <;> omega)

include H in
theorem v1578 (r : Fin 128) (l : Fin 128) : (kernelRun0_B.sl.v1578 c arg3 harg3 arg6 harg6 arg7 harg7 arg22 x1 x4 x5) (ix2 r l) = PJ a b (128 * (2 * j + 0) + r) (4352 + (128 * 0 + l)) :=
  (rcm (hs4 H) _ mh (by decide) r l).trans (by beta_reduce; congr 1 <;> omega)

include H in
theorem v1585 (r l : Fin 128) : (kernelRun0_B.sl.v1585 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 0 + l) := by
  show sinV 0 slices_S128x1024_o0_0_S128x128 (kernelRun0_B.sl.v1493 c arg9 harg9 x7) (kernelRun0_B.sl.v1562 c arg3 harg3 arg6 harg6 arg7 harg7 arg11 harg11 arg12 harg12 arg21 x1 x4 x5 x9 x10) (View.readAt (Elt Ideal) arg10.view (Rect.unit (s := S128x1024) ![0, 0] S128x128.size (by decide)).toLoadRect (harg10.unread x8)) (kernelRun0_B.sl.v1568 c arg3 harg3 arg6 harg6 arg7 harg7 arg20 x1 x4 x5) (kernelRun0_B.sl.v1578 c arg3 harg3 arg6 harg6 arg7 harg7 arg22 x1 x4 x5) (ix2 r l) = _
  exact sinV_of (m := 2 * j + 0) (g := 0) (by omega) (v1493 H) (v1562 H) (fun i j => (rd2 harg10 (g := fun i c => a.sgb (c / 128) i) H.h8 _ i j).trans (by beta_reduce; congr 1 <;> omega)) (v1568 H) (v1578 H) r l

include H in
theorem v1591 (r : Fin 128) (l : Fin 128) : (kernelRun0_B.sl.v1591 c arg3 harg3 arg6 harg6 arg7 harg7 arg20 x1 x4 x5) (ix2 r l) = PJ a b (128 * (2 * j + 0) + r) (2304 + (128 * 1 + l)) :=
  (rcm (hs2 H) _ mh (by decide) r l).trans (by beta_reduce; congr 1 <;> omega)

include H in
theorem v1601 (r : Fin 128) (l : Fin 128) : (kernelRun0_B.sl.v1601 c arg3 harg3 arg6 harg6 arg7 harg7 arg22 x1 x4 x5) (ix2 r l) = PJ a b (128 * (2 * j + 0) + r) (4352 + (128 * 1 + l)) :=
  (rcm (hs4 H) _ mh (by decide) r l).trans (by beta_reduce; congr 1 <;> omega)

include H in
theorem v1608 (r l : Fin 128) : (kernelRun0_B.sl.v1608 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 1 + l) := by
  show sinV 128 slices_S128x1024_o0_128_S128x128 (kernelRun0_B.sl.v1498 c arg9 harg9 x7) (kernelRun0_B.sl.v1562 c arg3 harg3 arg6 harg6 arg7 harg7 arg11 harg11 arg12 harg12 arg21 x1 x4 x5 x9 x10) (View.readAt (Elt Ideal) arg10.view (Rect.unit (s := S128x1024) ![0, 128] S128x128.size (by decide)).toLoadRect (harg10.unread x8)) (kernelRun0_B.sl.v1591 c arg3 harg3 arg6 harg6 arg7 harg7 arg20 x1 x4 x5) (kernelRun0_B.sl.v1601 c arg3 harg3 arg6 harg6 arg7 harg7 arg22 x1 x4 x5) (ix2 r l) = _
  exact sinV_of (m := 2 * j + 0) (g := 1) (by omega) (v1498 H) (v1562 H) (fun i j => (rd2 harg10 (g := fun i c => a.sgb (c / 128) i) H.h8 _ i j).trans (by beta_reduce; congr 1 <;> omega)) (v1591 H) (v1601 H) r l

include H in
theorem v1614 (r : Fin 128) (l : Fin 128) : (kernelRun0_B.sl.v1614 c arg3 harg3 arg6 harg6 arg7 harg7 arg20 x1 x4 x5) (ix2 r l) = PJ a b (128 * (2 * j + 0) + r) (2304 + (128 * 2 + l)) :=
  (rcm (hs2 H) _ mh (by decide) r l).trans (by beta_reduce; congr 1 <;> omega)

include H in
theorem v1624 (r : Fin 128) (l : Fin 128) : (kernelRun0_B.sl.v1624 c arg3 harg3 arg6 harg6 arg7 harg7 arg22 x1 x4 x5) (ix2 r l) = PJ a b (128 * (2 * j + 0) + r) (4352 + (128 * 2 + l)) :=
  (rcm (hs4 H) _ mh (by decide) r l).trans (by beta_reduce; congr 1 <;> omega)

include H in
theorem v1631 (r l : Fin 128) : (kernelRun0_B.sl.v1631 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 2 + l) := by
  show sinV 256 slices_S128x1024_o0_256_S128x128 (kernelRun0_B.sl.v1503 c arg9 harg9 x7) (kernelRun0_B.sl.v1562 c arg3 harg3 arg6 harg6 arg7 harg7 arg11 harg11 arg12 harg12 arg21 x1 x4 x5 x9 x10) (View.readAt (Elt Ideal) arg10.view (Rect.unit (s := S128x1024) ![0, 256] S128x128.size (by decide)).toLoadRect (harg10.unread x8)) (kernelRun0_B.sl.v1614 c arg3 harg3 arg6 harg6 arg7 harg7 arg20 x1 x4 x5) (kernelRun0_B.sl.v1624 c arg3 harg3 arg6 harg6 arg7 harg7 arg22 x1 x4 x5) (ix2 r l) = _
  exact sinV_of (m := 2 * j + 0) (g := 2) (by omega) (v1503 H) (v1562 H) (fun i j => (rd2 harg10 (g := fun i c => a.sgb (c / 128) i) H.h8 _ i j).trans (by beta_reduce; congr 1 <;> omega)) (v1614 H) (v1624 H) r l

include H in
theorem v1637 (r : Fin 128) (l : Fin 128) : (kernelRun0_B.sl.v1637 c arg3 harg3 arg6 harg6 arg7 harg7 arg20 x1 x4 x5) (ix2 r l) = PJ a b (128 * (2 * j + 0) + r) (2304 + (128 * 3 + l)) :=
  (rcm (hs2 H) _ mh (by decide) r l).trans (by beta_reduce; congr 1 <;> omega)

include H in
theorem v1647 (r : Fin 128) (l : Fin 128) : (kernelRun0_B.sl.v1647 c arg3 harg3 arg6 harg6 arg7 harg7 arg22 x1 x4 x5) (ix2 r l) = PJ a b (128 * (2 * j + 0) + r) (4352 + (128 * 3 + l)) :=
  (rcm (hs4 H) _ mh (by decide) r l).trans (by beta_reduce; congr 1 <;> omega)

include H in
theorem v1654 (r l : Fin 128) : (kernelRun0_B.sl.v1654 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 3 + l) := by
  show sinV 384 slices_S128x1024_o0_384_S128x128 (kernelRun0_B.sl.v1508 c arg9 harg9 x7) (kernelRun0_B.sl.v1562 c arg3 harg3 arg6 harg6 arg7 harg7 arg11 harg11 arg12 harg12 arg21 x1 x4 x5 x9 x10) (View.readAt (Elt Ideal) arg10.view (Rect.unit (s := S128x1024) ![0, 384] S128x128.size (by decide)).toLoadRect (harg10.unread x8)) (kernelRun0_B.sl.v1637 c arg3 harg3 arg6 harg6 arg7 harg7 arg20 x1 x4 x5) (kernelRun0_B.sl.v1647 c arg3 harg3 arg6 harg6 arg7 harg7 arg22 x1 x4 x5) (ix2 r l) = _
  exact sinV_of (m := 2 * j + 0) (g := 3) (by omega) (v1508 H) (v1562 H) (fun i j => (rd2 harg10 (g := fun i c => a.sgb (c / 128) i) H.h8 _ i j).trans (by beta_reduce; congr 1 <;> omega)) (v1637 H) (v1647 H) r l

include H in
theorem v1660 (r : Fin 128) (l : Fin 128) : (kernelRun0_B.sl.v1660 c arg3 harg3 arg6 harg6 arg7 harg7 arg20 x1 x4 x5) (ix2 r l) = PJ a b (128 * (2 * j + 0) + r) (2304 + (128 * 4 + l)) :=
  (rcm (hs2 H) _ mh (by decide) r l).trans (by beta_reduce; congr 1 <;> omega)

include H in
theorem v1670 (r : Fin 128) (l : Fin 128) : (kernelRun0_B.sl.v1670 c arg3 harg3 arg6 harg6 arg7 harg7 arg22 x1 x4 x5) (ix2 r l) = PJ a b (128 * (2 * j + 0) + r) (4352 + (128 * 4 + l)) :=
  (rcm (hs4 H) _ mh (by decide) r l).trans (by beta_reduce; congr 1 <;> omega)

include H in
theorem v1677 (r l : Fin 128) : (kernelRun0_B.sl.v1677 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 4 + l) := by
  show sinV 512 slices_S128x1024_o0_512_S128x128 (kernelRun0_B.sl.v1513 c arg9 harg9 x7) (kernelRun0_B.sl.v1562 c arg3 harg3 arg6 harg6 arg7 harg7 arg11 harg11 arg12 harg12 arg21 x1 x4 x5 x9 x10) (View.readAt (Elt Ideal) arg10.view (Rect.unit (s := S128x1024) ![0, 512] S128x128.size (by decide)).toLoadRect (harg10.unread x8)) (kernelRun0_B.sl.v1660 c arg3 harg3 arg6 harg6 arg7 harg7 arg20 x1 x4 x5) (kernelRun0_B.sl.v1670 c arg3 harg3 arg6 harg6 arg7 harg7 arg22 x1 x4 x5) (ix2 r l) = _
  exact sinV_of (m := 2 * j + 0) (g := 4) (by omega) (v1513 H) (v1562 H) (fun i j => (rd2 harg10 (g := fun i c => a.sgb (c / 128) i) H.h8 _ i j).trans (by beta_reduce; congr 1 <;> omega)) (v1660 H) (v1670 H) r l

include H in
theorem v1683 (r : Fin 128) (l : Fin 128) : (kernelRun0_B.sl.v1683 c arg3 harg3 arg6 harg6 arg7 harg7 arg20 x1 x4 x5) (ix2 r l) = PJ a b (128 * (2 * j + 0) + r) (2304 + (128 * 5 + l)) :=
  (rcm (hs2 H) _ mh (by decide) r l).trans (by beta_reduce; congr 1 <;> omega)

include H in
theorem v1693 (r : Fin 128) (l : Fin 128) : (kernelRun0_B.sl.v1693 c arg3 harg3 arg6 harg6 arg7 harg7 arg22 x1 x4 x5) (ix2 r l) = PJ a b (128 * (2 * j + 0) + r) (4352 + (128 * 5 + l)) :=
  (rcm (hs4 H) _ mh (by decide) r l).trans (by beta_reduce; congr 1 <;> omega)

include H in
theorem v1700 (r l : Fin 128) : (kernelRun0_B.sl.v1700 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 5 + l) := by
  show sinV 640 slices_S128x1024_o0_640_S128x128 (kernelRun0_B.sl.v1518 c arg9 harg9 x7) (kernelRun0_B.sl.v1562 c arg3 harg3 arg6 harg6 arg7 harg7 arg11 harg11 arg12 harg12 arg21 x1 x4 x5 x9 x10) (View.readAt (Elt Ideal) arg10.view (Rect.unit (s := S128x1024) ![0, 640] S128x128.size (by decide)).toLoadRect (harg10.unread x8)) (kernelRun0_B.sl.v1683 c arg3 harg3 arg6 harg6 arg7 harg7 arg20 x1 x4 x5) (kernelRun0_B.sl.v1693 c arg3 harg3 arg6 harg6 arg7 harg7 arg22 x1 x4 x5) (ix2 r l) = _
  exact sinV_of (m := 2 * j + 0) (g := 5) (by omega) (v1518 H) (v1562 H) (fun i j => (rd2 harg10 (g := fun i c => a.sgb (c / 128) i) H.h8 _ i j).trans (by beta_reduce; congr 1 <;> omega)) (v1683 H) (v1693 H) r l

include H in
theorem v1706 (r : Fin 128) (l : Fin 128) : (kernelRun0_B.sl.v1706 c arg3 harg3 arg6 harg6 arg7 harg7 arg20 x1 x4 x5) (ix2 r l) = PJ a b (128 * (2 * j + 0) + r) (2304 + (128 * 6 + l)) :=
  (rcm (hs2 H) _ mh (by decide) r l).trans (by beta_reduce; congr 1 <;> omega)

include H in
theorem v1716 (r : Fin 128) (l : Fin 128) : (kernelRun0_B.sl.v1716 c arg3 harg3 arg6 harg6 arg7 harg7 arg22 x1 x4 x5) (ix2 r l) = PJ a b (128 * (2 * j + 0) + r) (4352 + (128 * 6 + l)) :=
  (rcm (hs4 H) _ mh (by decide) r l).trans (by beta_reduce; congr 1 <;> omega)

include H in
theorem v1723 (r l : Fin 128) : (kernelRun0_B.sl.v1723 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 6 + l) := by
  show sinV 768 slices_S128x1024_o0_768_S128x128 (kernelRun0_B.sl.v1523 c arg9 harg9 x7) (kernelRun0_B.sl.v1562 c arg3 harg3 arg6 harg6 arg7 harg7 arg11 harg11 arg12 harg12 arg21 x1 x4 x5 x9 x10) (View.readAt (Elt Ideal) arg10.view (Rect.unit (s := S128x1024) ![0, 768] S128x128.size (by decide)).toLoadRect (harg10.unread x8)) (kernelRun0_B.sl.v1706 c arg3 harg3 arg6 harg6 arg7 harg7 arg20 x1 x4 x5) (kernelRun0_B.sl.v1716 c arg3 harg3 arg6 harg6 arg7 harg7 arg22 x1 x4 x5) (ix2 r l) = _
  exact sinV_of (m := 2 * j + 0) (g := 6) (by omega) (v1523 H) (v1562 H) (fun i j => (rd2 harg10 (g := fun i c => a.sgb (c / 128) i) H.h8 _ i j).trans (by beta_reduce; congr 1 <;> omega)) (v1706 H) (v1716 H) r l

include H in
theorem v1729 (r : Fin 128) (l : Fin 128) : (kernelRun0_B.sl.v1729 c arg3 harg3 arg6 harg6 arg7 harg7 arg20 x1 x4 x5) (ix2 r l) = PJ a b (128 * (2 * j + 0) + r) (2304 + (128 * 7 + l)) :=
  (rcm (hs2 H) _ mh (by decide) r l).trans (by beta_reduce; congr 1 <;> omega)

include H in
theorem v1739 (r : Fin 128) (l : Fin 128) : (kernelRun0_B.sl.v1739 c arg3 harg3 arg6 harg6 arg7 harg7 arg22 x1 x4 x5) (ix2 r l) = PJ a b (128 * (2 * j + 0) + r) (4352 + (128 * 7 + l)) :=
  (rcm (hs4 H) _ mh (by decide) r l).trans (by beta_reduce; congr 1 <;> omega)

include H in
theorem v1746 (r l : Fin 128) : (kernelRun0_B.sl.v1746 c arg3 harg3 arg6 harg6 arg7 harg7 arg9 harg9 arg10 harg10 arg11 harg11 arg12 harg12 arg20 arg21 arg22 x1 x4 x5 x7 x8 x9 x10) (ix2 r l) = SIN a b (128 * (2 * j + 0) + r) (128 * 7 + l) := by
  show sinV 896 slices_S128x1024_o0_896_S128x128 (kernelRun0_B.sl.v1528 c arg9 harg9 x7) (kernelRun0_B.sl.v1562 c arg3 harg3 arg6 harg6 arg7 harg7 arg11 harg11 arg12 harg12 arg21 x1 x4 x5 x9 x10) (View.readAt (Elt Ideal) arg10.view (Rect.unit (s := S128x1024) ![0, 896] S128x128.size (by decide)).toLoadRect (harg10.unread x8)) (kernelRun0_B.sl.v1729 c arg3 harg3 arg6 harg6 arg7 harg7 arg20 x1 x4 x5) (kernelRun0_B.sl.v1739 c arg3 harg3 arg6 harg6 arg7 harg7 arg22 x1 x4 x5) (ix2 r l) = _
  exact sinV_of (m := 2 * j + 0) (g := 7) (by omega) (v1528 H) (v1562 H) (fun i j => (rd2 harg10 (g := fun i c => a.sgb (c / 128) i) H.h8 _ i j).trans (by beta_reduce; congr 1 <;> omega)) (v1729 H) (v1739 H) r l

include H in
theorem v1747 (r : Fin 128) (l : Fin 1024) : (kernelRun0_B.sl.v1747 c arg3 harg3 arg6 harg6 arg7 harg7 arg21 x1 x4 x5) (ix2 r l) = PJ a b (128 * (2 * j + 1) + r) (3328 + l) :=
  (rcm (hs3 H) _ mh (by decide) r l).trans (by beta_reduce; congr 1 <;> omega)

include H in
theorem v1780 (r : Fin 128) (q : Fin 1024) : (kernelRun0_B.sl.v1780 c arg3 harg3 arg6 harg6 arg7 harg7 arg11 harg11 arg12 harg12 arg21 x1 x4 x5 x9 x10) (ix2 r q) = VN a b (128 * (2 * j + 1) + r) q :=
  vn_of (v1747 H) (fun c => (rd2 harg11 (g := fun _ c => a.lng c) H.h9 _ 0 c).trans (by beta_reduce; congr 1 <;> omega)) (fun c => (rd2 harg12 (g := fun _ c => a.lnb c) H.h10 _ 0 c).trans (by beta_reduce; congr 1 <;> omega)) r q

include H in
theorem v1786 (r : Fin 128) (l : Fin 128) : (kernelRun0_B.sl.v1786 c arg3 harg3 arg6 harg6 arg7 harg7 arg20 x1 x4 x5) (ix2 r l) = PJ a b (128 * (2 * j + 1) + r) (2304 + (128 * 0 + l)) :=
  (rcm (hs2 H) _ mh (by decide) r l).trans (by beta_reduce; congr 1 <;> omega)

include H in
theorem v1796 (r : Fin 128) (l : Fin 128) : (kernelRun0_B.sl.v1796 c arg3 harg3 arg6 harg6 arg7 harg7 arg22 x1 x4 x5) (ix2 r l) = PJ a b (128 * (2 * j + 1) + r) (4352 + (128 * 0 + l)) :=
  (rcm (hs4 H) _ mh (by decide) r l).trans (by beta_reduce; congr 1 <;> omega)

include H in
theorem v1803 (r l : Fin 128) : (kernelRun0_B.sl.v1803 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 0 + l) := by
  show sinV 0 slices_S128x1024_o0_0_S128x128 (kernelRun0_B.sl.v1493 c arg9 harg9 x7) (kernelRun0_B.sl.v1780 c arg3 harg3 arg6 harg6 arg7 harg7 arg11 harg11 arg12 harg12 arg21 x1 x4 x5 x9 x10) (View.readAt (Elt Ideal) arg10.view (Rect.unit (s := S128x1024) ![0, 0] S128x128.size (by decide)).toLoadRect (harg10.unread x8)) (kernelRun0_B.sl.v1786 c arg3 harg3 arg6 harg6 arg7 harg7 arg20 x1 x4 x5) (kernelRun0_B.sl.v1796 c arg3 harg3 arg6 harg6 arg7 harg7 arg22 x1 x4 x5) (ix2 r l) = _
  exact sinV_of (m := 2 * j + 1) (g := 0) (by omega) (v1493 H) (v1780 H) (fun i j => (rd2 harg10 (g := fun i c => a.sgb (c / 128) i) H.h8 _ i j).trans (by beta_reduce; congr 1 <;> omega)) (v1786 H) (v1796 H) r l

include H in
theorem v1809 (r : Fin 128) (l : Fin 128) : (kernelRun0_B.sl.v1809 c arg3 harg3 arg6 harg6 arg7 harg7 arg20 x1 x4 x5) (ix2 r l) = PJ a b (128 * (2 * j + 1) + r) (2304 + (128 * 1 + l)) :=
  (rcm (hs2 H) _ mh (by decide) r l).trans (by beta_reduce; congr 1 <;> omega)

include H in
theorem v1819 (r : Fin 128) (l : Fin 128) : (kernelRun0_B.sl.v1819 c arg3 harg3 arg6 harg6 arg7 harg7 arg22 x1 x4 x5) (ix2 r l) = PJ a b (128 * (2 * j + 1) + r) (4352 + (128 * 1 + l)) :=
  (rcm (hs4 H) _ mh (by decide) r l).trans (by beta_reduce; congr 1 <;> omega)

include H in
theorem v1826 (r l : Fin 128) : (kernelRun0_B.sl.v1826 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 1 + l) := by
  show sinV 128 slices_S128x1024_o0_128_S128x128 (kernelRun0_B.sl.v1498 c arg9 harg9 x7) (kernelRun0_B.sl.v1780 c arg3 harg3 arg6 harg6 arg7 harg7 arg11 harg11 arg12 harg12 arg21 x1 x4 x5 x9 x10) (View.readAt (Elt Ideal) arg10.view (Rect.unit (s := S128x1024) ![0, 128] S128x128.size (by decide)).toLoadRect (harg10.unread x8)) (kernelRun0_B.sl.v1809 c arg3 harg3 arg6 harg6 arg7 harg7 arg20 x1 x4 x5) (kernelRun0_B.sl.v1819 c arg3 harg3 arg6 harg6 arg7 harg7 arg22 x1 x4 x5) (ix2 r l) = _
  exact sinV_of (m := 2 * j + 1) (g := 1) (by omega) (v1498 H) (v1780 H) (fun i j => (rd2 harg10 (g := fun i c => a.sgb (c / 128) i) H.h8 _ i j).trans (by beta_reduce; congr 1 <;> omega)) (v1809 H) (v1819 H) r l

include H in
theorem v1832 (r : Fin 128) (l : Fin 128) : (kernelRun0_B.sl.v1832 c arg3 harg3 arg6 harg6 arg7 harg7 arg20 x1 x4 x5) (ix2 r l) = PJ a b (128 * (2 * j + 1) + r) (2304 + (128 * 2 + l)) :=
  (rcm (hs2 H) _ mh (by decide) r l).trans (by beta_reduce; congr 1 <;> omega)

include H in
theorem v1842 (r : Fin 128) (l : Fin 128) : (kernelRun0_B.sl.v1842 c arg3 harg3 arg6 harg6 arg7 harg7 arg22 x1 x4 x5) (ix2 r l) = PJ a b (128 * (2 * j + 1) + r) (4352 + (128 * 2 + l)) :=
  (rcm (hs4 H) _ mh (by decide) r l).trans (by beta_reduce; congr 1 <;> omega)

include H in
theorem v1849 (r l : Fin 128) : (kernelRun0_B.sl.v1849 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 2 + l) := by
  show sinV 256 slices_S128x1024_o0_256_S128x128 (kernelRun0_B.sl.v1503 c arg9 harg9 x7) (kernelRun0_B.sl.v1780 c arg3 harg3 arg6 harg6 arg7 harg7 arg11 harg11 arg12 harg12 arg21 x1 x4 x5 x9 x10) (View.readAt (Elt Ideal) arg10.view (Rect.unit (s := S128x1024) ![0, 256] S128x128.size (by decide)).toLoadRect (harg10.unread x8)) (kernelRun0_B.sl.v1832 c arg3 harg3 arg6 harg6 arg7 harg7 arg20 x1 x4 x5) (kernelRun0_B.sl.v1842 c arg3 harg3 arg6 harg6 arg7 harg7 arg22 x1 x4 x5) (ix2 r l) = _
  exact sinV_of (m := 2 * j + 1) (g := 2) (by omega) (v1503 H) (v1780 H) (fun i j => (rd2 harg10 (g := fun i c => a.sgb (c / 128) i) H.h8 _ i j).trans (by beta_reduce; congr 1 <;> omega)) (v1832 H) (v1842 H) r l

include H in
theorem v1855 (r : Fin 128) (l : Fin 128) : (kernelRun0_B.sl.v1855 c arg3 harg3 arg6 harg6 arg7 harg7 arg20 x1 x4 x5) (ix2 r l) = PJ a b (128 * (2 * j + 1) + r) (2304 + (128 * 3 + l)) :=
  (rcm (hs2 H) _ mh (by decide) r l).trans (by beta_reduce; congr 1 <;> omega)

include H in
theorem v1865 (r : Fin 128) (l : Fin 128) : (kernelRun0_B.sl.v1865 c arg3 harg3 arg6 harg6 arg7 harg7 arg22 x1 x4 x5) (ix2 r l) = PJ a b (128 * (2 * j + 1) + r) (4352 + (128 * 3 + l)) :=
  (rcm (hs4 H) _ mh (by decide) r l).trans (by beta_reduce; congr 1 <;> omega)

include H in
theorem v1872 (r l : Fin 128) : (kernelRun0_B.sl.v1872 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 3 + l) := by
  show sinV 384 slices_S128x1024_o0_384_S128x128 (kernelRun0_B.sl.v1508 c arg9 harg9 x7) (kernelRun0_B.sl.v1780 c arg3 harg3 arg6 harg6 arg7 harg7 arg11 harg11 arg12 harg12 arg21 x1 x4 x5 x9 x10) (View.readAt (Elt Ideal) arg10.view (Rect.unit (s := S128x1024) ![0, 384] S128x128.size (by decide)).toLoadRect (harg10.unread x8)) (kernelRun0_B.sl.v1855 c arg3 harg3 arg6 harg6 arg7 harg7 arg20 x1 x4 x5) (kernelRun0_B.sl.v1865 c arg3 harg3 arg6 harg6 arg7 harg7 arg22 x1 x4 x5) (ix2 r l) = _
  exact sinV_of (m := 2 * j + 1) (g := 3) (by omega) (v1508 H) (v1780 H) (fun i j => (rd2 harg10 (g := fun i c => a.sgb (c / 128) i) H.h8 _ i j).trans (by beta_reduce; congr 1 <;> omega)) (v1855 H) (v1865 H) r l

include H in
theorem v1878 (r : Fin 128) (l : Fin 128) : (kernelRun0_B.sl.v1878 c arg3 harg3 arg6 harg6 arg7 harg7 arg20 x1 x4 x5) (ix2 r l) = PJ a b (128 * (2 * j + 1) + r) (2304 + (128 * 4 + l)) :=
  (rcm (hs2 H) _ mh (by decide) r l).trans (by beta_reduce; congr 1 <;> omega)

include H in
theorem v1888 (r : Fin 128) (l : Fin 128) : (kernelRun0_B.sl.v1888 c arg3 harg3 arg6 harg6 arg7 harg7 arg22 x1 x4 x5) (ix2 r l) = PJ a b (128 * (2 * j + 1) + r) (4352 + (128 * 4 + l)) :=
  (rcm (hs4 H) _ mh (by decide) r l).trans (by beta_reduce; congr 1 <;> omega)

include H in
theorem v1895 (r l : Fin 128) : (kernelRun0_B.sl.v1895 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 4 + l) := by
  show sinV 512 slices_S128x1024_o0_512_S128x128 (kernelRun0_B.sl.v1513 c arg9 harg9 x7) (kernelRun0_B.sl.v1780 c arg3 harg3 arg6 harg6 arg7 harg7 arg11 harg11 arg12 harg12 arg21 x1 x4 x5 x9 x10) (View.readAt (Elt Ideal) arg10.view (Rect.unit (s := S128x1024) ![0, 512] S128x128.size (by decide)).toLoadRect (harg10.unread x8)) (kernelRun0_B.sl.v1878 c arg3 harg3 arg6 harg6 arg7 harg7 arg20 x1 x4 x5) (kernelRun0_B.sl.v1888 c arg3 harg3 arg6 harg6 arg7 harg7 arg22 x1 x4 x5) (ix2 r l) = _
  exact sinV_of (m := 2 * j + 1) (g := 4) (by omega) (v1513 H) (v1780 H) (fun i j => (rd2 harg10 (g := fun i c => a.sgb (c / 128) i) H.h8 _ i j).trans (by beta_reduce; congr 1 <;> omega)) (v1878 H) (v1888 H) r l

include H in
theorem v1901 (r : Fin 128) (l : Fin 128) : (kernelRun0_B.sl.v1901 c arg3 harg3 arg6 harg6 arg7 harg7 arg20 x1 x4 x5) (ix2 r l) = PJ a b (128 * (2 * j + 1) + r) (2304 + (128 * 5 + l)) :=
  (rcm (hs2 H) _ mh (by decide) r l).trans (by beta_reduce; congr 1 <;> omega)

include H in
theorem v1911 (r : Fin 128) (l : Fin 128) : (kernelRun0_B.sl.v1911 c arg3 harg3 arg6 harg6 arg7 harg7 arg22 x1 x4 x5) (ix2 r l) = PJ a b (128 * (2 * j + 1) + r) (4352 + (128 * 5 + l)) :=
  (rcm (hs4 H) _ mh (by decide) r l).trans (by beta_reduce; congr 1 <;> omega)

include H in
theorem v1918 (r l : Fin 128) : (kernelRun0_B.sl.v1918 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 5 + l) := by
  show sinV 640 slices_S128x1024_o0_640_S128x128 (kernelRun0_B.sl.v1518 c arg9 harg9 x7) (kernelRun0_B.sl.v1780 c arg3 harg3 arg6 harg6 arg7 harg7 arg11 harg11 arg12 harg12 arg21 x1 x4 x5 x9 x10) (View.readAt (Elt Ideal) arg10.view (Rect.unit (s := S128x1024) ![0, 640] S128x128.size (by decide)).toLoadRect (harg10.unread x8)) (kernelRun0_B.sl.v1901 c arg3 harg3 arg6 harg6 arg7 harg7 arg20 x1 x4 x5) (kernelRun0_B.sl.v1911 c arg3 harg3 arg6 harg6 arg7 harg7 arg22 x1 x4 x5) (ix2 r l) = _
  exact sinV_of (m := 2 * j + 1) (g := 5) (by omega) (v1518 H) (v1780 H) (fun i j => (rd2 harg10 (g := fun i c => a.sgb (c / 128) i) H.h8 _ i j).trans (by beta_reduce; congr 1 <;> omega)) (v1901 H) (v1911 H) r l

include H in
theorem v1924 (r : Fin 128) (l : Fin 128) : (kernelRun0_B.sl.v1924 c arg3 harg3 arg6 harg6 arg7 harg7 arg20 x1 x4 x5) (ix2 r l) = PJ a b (128 * (2 * j + 1) + r) (2304 + (128 * 6 + l)) :=
  (rcm (hs2 H) _ mh (by decide) r l).trans (by beta_reduce; congr 1 <;> omega)

include H in
theorem v1934 (r : Fin 128) (l : Fin 128) : (kernelRun0_B.sl.v1934 c arg3 harg3 arg6 harg6 arg7 harg7 arg22 x1 x4 x5) (ix2 r l) = PJ a b (128 * (2 * j + 1) + r) (4352 + (128 * 6 + l)) :=
  (rcm (hs4 H) _ mh (by decide) r l).trans (by beta_reduce; congr 1 <;> omega)

include H in
theorem v1941 (r l : Fin 128) : (kernelRun0_B.sl.v1941 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 6 + l) := by
  show sinV 768 slices_S128x1024_o0_768_S128x128 (kernelRun0_B.sl.v1523 c arg9 harg9 x7) (kernelRun0_B.sl.v1780 c arg3 harg3 arg6 harg6 arg7 harg7 arg11 harg11 arg12 harg12 arg21 x1 x4 x5 x9 x10) (View.readAt (Elt Ideal) arg10.view (Rect.unit (s := S128x1024) ![0, 768] S128x128.size (by decide)).toLoadRect (harg10.unread x8)) (kernelRun0_B.sl.v1924 c arg3 harg3 arg6 harg6 arg7 harg7 arg20 x1 x4 x5) (kernelRun0_B.sl.v1934 c arg3 harg3 arg6 harg6 arg7 harg7 arg22 x1 x4 x5) (ix2 r l) = _
  exact sinV_of (m := 2 * j + 1) (g := 6) (by omega) (v1523 H) (v1780 H) (fun i j => (rd2 harg10 (g := fun i c => a.sgb (c / 128) i) H.h8 _ i j).trans (by beta_reduce; congr 1 <;> omega)) (v1924 H) (v1934 H) r l

include H in
theorem v1947 (r : Fin 128) (l : Fin 128) : (kernelRun0_B.sl.v1947 c arg3 harg3 arg6 harg6 arg7 harg7 arg20 x1 x4 x5) (ix2 r l) = PJ a b (128 * (2 * j + 1) + r) (2304 + (128 * 7 + l)) :=
  (rcm (hs2 H) _ mh (by decide) r l).trans (by beta_reduce; congr 1 <;> omega)

include H in
theorem v1957 (r : Fin 128) (l : Fin 128) : (kernelRun0_B.sl.v1957 c arg3 harg3 arg6 harg6 arg7 harg7 arg22 x1 x4 x5) (ix2 r l) = PJ a b (128 * (2 * j + 1) + r) (4352 + (128 * 7 + l)) :=
  (rcm (hs4 H) _ mh (by decide) r l).trans (by beta_reduce; congr 1 <;> omega)

include H in
theorem v1964 (r l : Fin 128) : (kernelRun0_B.sl.v1964 c arg3 harg3 arg6 harg6 arg7 harg7 arg9 harg9 arg10 harg10 arg11 harg11 arg12 harg12 arg20 arg21 arg22 x1 x4 x5 x7 x8 x9 x10) (ix2 r l) = SIN a b (128 * (2 * j + 1) + r) (128 * 7 + l) := by
  show sinV 896 slices_S128x1024_o0_896_S128x128 (kernelRun0_B.sl.v1528 c arg9 harg9 x7) (kernelRun0_B.sl.v1780 c arg3 harg3 arg6 harg6 arg7 harg7 arg11 harg11 arg12 harg12 arg21 x1 x4 x5 x9 x10) (View.readAt (Elt Ideal) arg10.view (Rect.unit (s := S128x1024) ![0, 896] S128x128.size (by decide)).toLoadRect (harg10.unread x8)) (kernelRun0_B.sl.v1947 c arg3 harg3 arg6 harg6 arg7 harg7 arg20 x1 x4 x5) (kernelRun0_B.sl.v1957 c arg3 harg3 arg6 harg6 arg7 harg7 arg22 x1 x4 x5) (ix2 r l) = _
  exact sinV_of (m := 2 * j + 1) (g := 7) (by omega) (v1528 H) (v1780 H) (fun i j => (rd2 harg10 (g := fun i c => a.sgb (c / 128) i) H.h8 _ i j).trans (by beta_reduce; congr 1 <;> omega)) (v1947 H) (v1957 H) r l

end Cert.PtB

end
-- ==== Proof.PtB8.lean ====
/- Grid points of case B: the gated merge, the output, and the rows of keys and values left to the next point. -/
module

public import proofs.«01_k».proof.Proof.PtB3
public import proofs.«01_k».proof.Proof.PtB4
public import proofs.«01_k».proof.Proof.PtB5
public import proofs.«01_k».proof.Proof.PtB6
public import proofs.«01_k».proof.Proof.PtB7

@[expose] public section

set_option maxRecDepth 16384
set_option maxHeartbeats 1000000

noncomputable section

namespace Cert.PtB

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 : Memref sig .tc .vmem S1x256x1024 .f32} {arg4 arg5 : Memref sig .tc .vmem S256x128 .f32}
  {arg6 arg11 arg12 arg16 : Memref sig .tc .vmem S1x1024 .f32} {arg7 : Memref sig .tc .vmem S1024x7424 .bf16}
  {arg8 : Memref sig .tc .vmem S1x2048 .f32} {arg9 : Memref sig .tc .vmem S8x128x128 .f32} {arg10 : Memref sig .tc .vmem S128x1024 .f32}
  {arg13 arg14 arg15 : Memref sig .tc .vmem S1024x1024 .bf16} {arg18 arg32 arg33 : Memref sig .tc .vmem S256x1024 .bf16}
  {arg19 arg20 arg21 arg22 : Memref sig .tc .vmem S256x1024 .f32} {arg23 : Memref sig .tc .vmem S256x2048 .f32}
  {arg24 arg25 arg26 arg27 : Memref sig .tc .vmem S2x384x128 .bf16} {arg28 arg29 : Memref sig .tc .vmem S512x256 .f32}
  {arg30 arg31 : Memref sig .tc .vmem S512x256 .bf16} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole} {harg11 : arg11.IsWhole}
  {harg12 : arg12.IsWhole} {harg13 : arg13.IsWhole} {harg14 : arg14.IsWhole} {harg15 : arg15.IsWhole} {harg16 : arg16.IsWhole}
  {harg24 : arg24.IsWhole} {harg25 : arg25.IsWhole} {harg26 : arg26.IsWhole} {harg27 : arg27.IsWhole} {x0 : Vec Ideal S16 .f32}
  {x1 : Vec Ideal S1x256x1024 .f32} {x2 x3 : Vec Ideal S256x128 .f32} {x4 x9 x10 x14 : Vec Ideal S1x1024 .f32} {x5 : Vec Ideal S1024x7424 .bf16}
  {x6 : Vec Ideal S1x2048 .f32} {x7 : Vec Ideal S8x128x128 .f32} {x8 : Vec Ideal S128x1024 .f32} {x11 x12 x13 : Vec Ideal S1024x1024 .bf16}
  {xs6 xs7 xs8 xs9 : Vec Ideal S2x384x128 .bf16}

variable (H : Blk a b j x0 x1 x2 x3 x4 x5 x6 x7 x8 x9 x10 x11 x12 x13 x14) (HL : Halo a b j xs6 xs7 xs8 xs9) (hi : (i 1).val = j) (fa : Finite a)

include H HL hi fa in
theorem hs_AIN : View.PiecesOf (at2 (fun r c => AIN a b (256 * j + r) c)) (kernelRun0_B.sl.HS14_16 c i arg2 harg2 arg3 harg3 arg4 harg4 arg5 harg5 arg6 harg6 arg7 harg7 arg18 arg19 arg24 harg24 arg25 harg25 arg26 harg26 arg27 harg27 arg28 arg29 arg30 arg31 x0 x1 x2 x3 x4 x5 xs6 xs7 xs8 xs9) :=
  by
  refine pc2 256 1024 128 896 128 128 (fun r l => ?_) ?_
  · exact (v1397 H fa r l).trans (by beta_reduce; congr 1 <;> omega)
  refine pc2 256 1024 128 768 128 128 (fun r l => ?_) ?_
  · exact (v1382 H fa r l).trans (by beta_reduce; congr 1 <;> omega)
  refine pc2 256 1024 128 640 128 128 (fun r l => ?_) ?_
  · exact (v1367 H fa r l).trans (by beta_reduce; congr 1 <;> omega)
  refine pc2 256 1024 128 512 128 128 (fun r l => ?_) ?_
  · exact (v1352 H fa r l).trans (by beta_reduce; congr 1 <;> omega)
  refine pc2 256 1024 128 384 128 128 (fun r l => ?_) ?_
  · exact (v1127 H fa r l).trans (by beta_reduce; congr 1 <;> omega)
  refine pc2 256 1024 128 256 128 128 (fun r l => ?_) ?_
  · exact (v1112 H fa r l).trans (by beta_reduce; congr 1 <;> omega)
  refine pc2 256 1024 128 128 128 128 (fun r l => ?_) ?_
  · exact (v1097 H fa r l).trans (by beta_reduce; congr 1 <;> omega)
  refine pc2 256 1024 128 0 128 128 (fun r l => ?_) ?_
  · exact (v1082 H fa r l).trans (by beta_reduce; congr 1 <;> omega)
  refine pc2 256 1024 0 896 128 128 (fun r l => ?_) ?_
  · exact (v857 H HL hi fa r l).trans (by beta_reduce; congr 1 <;> omega)
  refine pc2 256 1024 0 768 128 128 (fun r l => ?_) ?_
  · exact (v842 H HL hi fa r l).trans (by beta_reduce; congr 1 <;> omega)
  refine pc2 256 1024 0 640 128 128 (fun r l => ?_) ?_
  · exact (v827 H HL hi fa r l).trans (by beta_reduce; congr 1 <;> omega)
  refine pc2 256 1024 0 512 128 128 (fun r l => ?_) ?_
  · exact (v812 H HL hi fa r l).trans (by beta_reduce; congr 1 <;> omega)
  refine pc2 256 1024 0 384 128 128 (fun r l => ?_) ?_
  · exact (v587 H HL hi fa r l).trans (by beta_reduce; congr 1 <;> omega)
  refine pc2 256 1024 0 256 128 128 (fun r l => ?_) ?_
  · exact (v572 H HL hi fa r l).trans (by beta_reduce; congr 1 <;> omega)
  refine pc2 256 1024 0 128 128 128 (fun r l => ?_) ?_
  · exact (v557 H HL hi fa r l).trans (by beta_reduce; congr 1 <;> omega)
  refine pc2 256 1024 0 0 128 128 (fun r l => ?_) ?_
  · exact (v542 H HL hi fa r l).trans (by beta_reduce; congr 1 <;> omega)
  exact True.intro

include H HL hi fa in
theorem v1965 (r : Fin 256) (q : Fin 1024) : (kernelRun0_B.sl.v1965 c i arg2 harg2 arg3 harg3 arg4 harg4 arg5 harg5 arg6 harg6 arg7 harg7 arg18 arg19 arg24 harg24 arg25 harg25 arg26 harg26 arg27 harg27 arg28 arg29 arg30 arg31 arg32 x0 x1 x2 x3 x4 x5 xs6 xs7 xs8 xs9) (ix2 r q) = AIN a b (256 * j + r) q := by
  refine (rc2 (e := .bf16) (n0 := 256) (n1 := 1024) (g := (fun r c => AIN a b (256 * j + r) c)) (L2 := []) (List.append_nil _).symm (hs_AIN H HL hi fa) _ ?_ r q).trans (by beta_reduce; congr 1 <;> omega)
  · intro y h1 h2 h3 h4
    rcases (show (y 0).val / 128 = 0 ∨ (y 0).val / 128 = 1 by omega) with h | h <;>
      rcases (show (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 by omega) with h' | h' | h' | h' | h' | h' | h' | h'
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), in2 (inb := by decide) (by omega)⟩
    · exact ⟨_, (List.mem_cons_of_mem _ (List.mem_cons_of_mem _ (List.mem_cons_of_mem _ (List.mem_cons_of_mem _ (List.mem_cons_of_mem _ (List.mem_cons_of_mem _ List.mem_cons_self)))))), in2 (inb := by decide) (by omega)⟩
    · exact ⟨_, (List.mem_cons_of_mem _ (List.mem_cons_of_mem _ (List.mem_cons_of_mem _ (List.mem_cons_of_mem _ (List.mem_cons_of_mem _ List.mem_cons_self))))), in2 (inb := by decide) (by omega)⟩
    · exact ⟨_, (List.mem_cons_of_mem _ (List.mem_cons_of_mem _ (List.mem_cons_of_mem _ (List.mem_cons_of_mem _ List.mem_cons_self)))), in2 (inb := by decide) (by omega)⟩
    · exact ⟨_, (List.mem_cons_of_mem _ (List.mem_cons_of_mem _ (List.mem_cons_of_mem _ List.mem_cons_self))), in2 (inb := by decide) (by omega)⟩
    · exact ⟨_, (List.mem_cons_of_mem _ (List.mem_cons_of_mem _ List.mem_cons_self)), in2 (inb := by decide) (by omega)⟩
    · exact ⟨_, (List.mem_cons_of_mem _ List.mem_cons_self), in2 (inb := by decide) (by omega)⟩
    · exact ⟨_, List.mem_cons_self, in2 (inb := by decide) (by omega)⟩

include H in
theorem hs_SIN : View.PiecesOf (at2 (fun r c => SIN a b (256 * j + r) c)) (kernelRun0_B.sl.HS15_16 c arg3 harg3 arg6 harg6 arg7 harg7 arg9 harg9 arg10 harg10 arg11 harg11 arg12 harg12 arg20 arg21 arg22 x1 x4 x5 x7 x8 x9 x10) :=
  by
  refine pc2 256 1024 128 896 128 128 (fun r l => ?_) ?_
  · exact (v1964 H r l).trans (by beta_reduce; congr 1 <;> omega)
  refine pc2 256 1024 128 768 128 128 (fun r l => ?_) ?_
  · exact (v1941 H r l).trans (by beta_reduce; congr 1 <;> omega)
  refine pc2 256 1024 128 640 128 128 (fun r l => ?_) ?_
  · exact (v1918 H r l).trans (by beta_reduce; congr 1 <;> omega)
  refine pc2 256 1024 128 512 128 128 (fun r l => ?_) ?_
  · exact (v1895 H r l).trans (by beta_reduce; congr 1 <;> omega)
  refine pc2 256 1024 128 384 128 128 (fun r l => ?_) ?_
  · exact (v1872 H r l).trans (by beta_reduce; congr 1 <;> omega)
  refine pc2 256 1024 128 256 128 128 (fun r l => ?_) ?_
  · exact (v1849 H r l).trans (by beta_reduce; congr 1 <;> omega)
  refine pc2 256 1024 128 128 128 128 (fun r l => ?_) ?_
  · exact (v1826 H r l).trans (by beta_reduce; congr 1 <;> omega)
  refine pc2 256 1024 128 0 128 128 (fun r l => ?_) ?_
  · exact (v1803 H r l).trans (by beta_reduce; congr 1 <;> omega)
  refine pc2 256 1024 0 896 128 128 (fun r l => ?_) ?_
  · exact (v1746 H r l).trans (by beta_reduce; congr 1 <;> omega)
  refine pc2 256 1024 0 768 128 128 (fun r l => ?_) ?_
  · exact (v1723 H r l).trans (by beta_reduce; congr 1 <;> omega)
  refine pc2 256 1024 0 640 128 128 (fun r l => ?_) ?_
  · exact (v1700 H r l).trans (by beta_reduce; congr 1 <;> omega)
  refine pc2 256 1024 0 512 128 128 (fun r l => ?_) ?_
  · exact (v1677 H r l).trans (by beta_reduce; congr 1 <;> omega)
  refine pc2 256 1024 0 384 128 128 (fun r l => ?_) ?_
  · exact (v1654 H r l).trans (by beta_reduce; congr 1 <;> omega)
  refine pc2 256 1024 0 256 128 128 (fun r l => ?_) ?_
  · exact (v1631 H r l).trans (by beta_reduce; congr 1 <;> omega)
  refine pc2 256 1024 0 128 128 128 (fun r l => ?_) ?_
  · exact (v1608 H r l).trans (by beta_reduce; congr 1 <;> omega)
  refine pc2 256 1024 0 0 128 128 (fun r l => ?_) ?_
  · exact (v1585 H r l).trans (by beta_reduce; congr 1 <;> omega)
  exact True.intro

include H in
theorem v1969 (r : Fin 256) (q : Fin 1024) : (kernelRun0_B.sl.v1969 c arg3 harg3 arg6 harg6 arg7 harg7 arg9 harg9 arg10 harg10 arg11 harg11 arg12 harg12 arg20 arg21 arg22 arg33 x1 x4 x5 x7 x8 x9 x10) (ix2 r q) = SIN a b (256 * j + r) q := by
  refine (rc2 (e := .bf16) (n0 := 256) (n1 := 1024) (g := (fun r c => SIN a b (256 * j + r) c)) (L2 := []) (List.append_nil _).symm (hs_SIN H) _ ?_ r q).trans (by beta_reduce; congr 1 <;> omega)
  · intro y h1 h2 h3 h4
    rcases (show (y 0).val / 128 = 0 ∨ (y 0).val / 128 = 1 by omega) with h | h <;>
      rcases (show (y 1).val / 128 = 0 ∨ (y 1).val / 128 = 1 ∨ (y 1).val / 128 = 2 ∨ (y 1).val / 128 = 3 ∨ (y 1).val / 128 = 4 ∨ (y 1).val / 128 = 5 ∨ (y 1).val / 128 = 6 ∨ (y 1).val / 128 = 7 by omega) with h' | h' | h' | h' | h' | h' | h' | h'
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), in2 (inb := by decide) (by omega)⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), in2 (inb := by decide) (by omega)⟩
    · exact ⟨_, (List.mem_cons_of_mem _ (List.mem_cons_of_mem _ (List.mem_cons_of_mem _ (List.mem_cons_of_mem _ (List.mem_cons_of_mem _ (List.mem_cons_of_mem _ List.mem_cons_self)))))), in2 (inb := by decide) (by omega)⟩
    · exact ⟨_, (List.mem_cons_of_mem _ (List.mem_cons_of_mem _ (List.mem_cons_of_mem _ (List.mem_cons_of_mem _ (List.mem_cons_of_mem _ List.mem_cons_self))))), in2 (inb := by decide) (by omega)⟩
    · exact ⟨_, (List.mem_cons_of_mem _ (List.mem_cons_of_mem _ (List.mem_cons_of_mem _ (List.mem_cons_of_mem _ List.mem_cons_self)))), in2 (inb := by decide) (by omega)⟩
    · exact ⟨_, (List.mem_cons_of_mem _ (List.mem_cons_of_mem _ (List.mem_cons_of_mem _ List.mem_cons_self))), in2 (inb := by decide) (by omega)⟩
    · exact ⟨_, (List.mem_cons_of_mem _ (List.mem_cons_of_mem _ List.mem_cons_self)), in2 (inb := by decide) (by omega)⟩
    · exact ⟨_, (List.mem_cons_of_mem _ List.mem_cons_self), in2 (inb := by decide) (by omega)⟩
    · exact ⟨_, List.mem_cons_self, in2 (inb := by decide) (by omega)⟩

include H in
theorem v1973 (r : Fin 256) (n : Fin 2048) : (kernelRun0_B.sl.v1973 c arg3 harg3 arg6 harg6 arg7 harg7 arg23 x1 x4 x5) (ix2 r n) = PJ a b (256 * j + r) (5376 + n) :=
  (rcm (hs5 H) _ List.mem_cons_self (by decide) r n).trans (by beta_reduce; congr 1 <;> omega)

include H HL hi fa in
theorem v1984 (r : Fin 256) (q : Fin 1024) : (kernelRun0_B.sl.v1984 c i arg2 harg2 arg3 harg3 arg4 harg4 arg5 harg5 arg6 harg6 arg7 harg7 arg8 harg8 arg9 harg9 arg10 harg10 arg11 harg11 arg12 harg12 arg13 harg13 arg14 harg14 arg18 arg19 arg20 arg21 arg22 arg23 arg24 harg24 arg25 harg25 arg26 harg26 arg27 harg27 arg28 arg29 arg30 arg31 arg32 arg33 x0 x1 x2 x3 x4 x5 x6 x7 x8 x9 x10 x11 x12 xs6 xs7 xs8 xs9) (ix2 r q) = Y a b (256 * j + r) q := by
  show yV (kernelRun0_B.sl.v1965 c i arg2 harg2 arg3 harg3 arg4 harg4 arg5 harg5 arg6 harg6 arg7 harg7 arg18 arg19 arg24 harg24 arg25 harg25 arg26 harg26 arg27 harg27 arg28 arg29 arg30 arg31 arg32 x0 x1 x2 x3 x4 x5 xs6 xs7 xs8 xs9) (View.readAt (Elt Ideal) arg13.view (Rect.unit (s := S1024x1024) ![0, 0] S1024x1024.size (by decide)).toLoadRect (harg13.unread x11)) (kernelRun0_B.sl.v1969 c arg3 harg3 arg6 harg6 arg7 harg7 arg9 harg9 arg10 harg10 arg11 harg11 arg12 harg12 arg20 arg21 arg22 arg33 x1 x4 x5 x7 x8 x9 x10) (View.readAt (Elt Ideal) arg14.view (Rect.unit (s := S1024x1024) ![0, 0] S1024x1024.size (by decide)).toLoadRect (harg14.unread x12)) (kernelRun0_B.sl.v1973 c arg3 harg3 arg6 harg6 arg7 harg7 arg23 x1 x4 x5) (View.readAt (Elt Ideal) arg8.view (Rect.unit (s := S1x2048) ![0, 0] S1x2048.size (by decide)).toLoadRect (harg8.unread x6)) (ix2 r q) = _
  exact yV_of (v1965 H HL hi fa) (v1969 H) (fun k n => (rd2 harg13 (g := fun k n => a.wao k n) H.h11 _ k n).trans (by beta_reduce; congr 1 <;> omega)) (fun k n => (rd2 harg14 (g := fun k n => a.wso k n) H.h12 _ k n).trans (by beta_reduce; congr 1 <;> omega)) (v1973 H) (fun n => (rd2 harg8 (g := fun _ n => a.bm n) H.h6 _ 0 n).trans (by beta_reduce; congr 1 <;> omega)) r q

include H HL hi fa in
theorem v1988 (r : Fin 256) (q : Fin 1024) : (kernelRun0_B.sl.v1988 c i arg2 harg2 arg3 harg3 arg4 harg4 arg5 harg5 arg6 harg6 arg7 harg7 arg8 harg8 arg9 harg9 arg10 harg10 arg11 harg11 arg12 harg12 arg13 harg13 arg14 harg14 arg15 harg15 arg18 arg19 arg20 arg21 arg22 arg23 arg24 harg24 arg25 harg25 arg26 harg26 arg27 harg27 arg28 arg29 arg30 arg31 arg32 arg33 x0 x1 x2 x3 x4 x5 x6 x7 x8 x9 x10 x11 x12 x13 xs6 xs7 xs8 xs9) (ix2 r q) = Spec.O a b (256 * j + r) q := by
  show oV (View.readAt (Elt Ideal) arg3.view (Rect.unit (s := S1x256x1024) ![0, 0, 0] S1x256x1024.size (by decide)).toLoadRect (harg3.unread x1)) (kernelRun0_B.sl.v1984 c i arg2 harg2 arg3 harg3 arg4 harg4 arg5 harg5 arg6 harg6 arg7 harg7 arg8 harg8 arg9 harg9 arg10 harg10 arg11 harg11 arg12 harg12 arg13 harg13 arg14 harg14 arg18 arg19 arg20 arg21 arg22 arg23 arg24 harg24 arg25 harg25 arg26 harg26 arg27 harg27 arg28 arg29 arg30 arg31 arg32 arg33 x0 x1 x2 x3 x4 x5 x6 x7 x8 x9 x10 x11 x12 xs6 xs7 xs8 xs9) (View.readAt (Elt Ideal) arg15.view (Rect.unit (s := S1024x1024) ![0, 0] S1024x1024.size (by decide)).toLoadRect (harg15.unread x13)) (ix2 r q) = _
  exact oV_of (fun r d => (rd3 harg3 (g := fun _ r d => a.x b (256 * j + r) d) H.h1 _ 0 r d).trans (by beta_reduce; congr 1 <;> omega)) (v1984 H HL hi fa) (fun k n => (rd2 harg15 (g := fun k n => a.wo k n) H.h13 _ k n).trans (by beta_reduce; congr 1 <;> omega)) r q

include H HL hi fa in
/-- The block of the result. -/
theorem result (p : Fin 1) (r : Fin 256) (q : Fin 1024) : k0_pay1 (kernelRun0_B.sl.r_83 c i arg2 harg2 arg3 harg3 arg4 harg4 arg5 harg5 arg6 harg6 arg7 harg7 arg8 harg8 arg9 harg9 arg10 harg10 arg11 harg11 arg12 harg12 arg13 harg13 arg14 harg14 arg15 harg15 arg18 arg19 arg20 arg21 arg22 arg23 arg24 harg24 arg25 harg25 arg26 harg26 arg27 harg27 arg28 arg29 arg30 arg31 arg32 arg33 x0 x1 x2 x3 x4 x5 x6 x7 x8 x9 x10 x11 x12 x13 xs6 xs7 xs8 xs9) (kernelRun0_B.sl.r_84 c arg16 harg16 x14) (ix3 p r q) = OUT a b (256 * j + r) q := by
  obtain rfl : p = 0 := Subsingleton.elim _ _
  show outV (kernelRun0_B.sl.v1988 c i arg2 harg2 arg3 harg3 arg4 harg4 arg5 harg5 arg6 harg6 arg7 harg7 arg8 harg8 arg9 harg9 arg10 harg10 arg11 harg11 arg12 harg12 arg13 harg13 arg14 harg14 arg15 harg15 arg18 arg19 arg20 arg21 arg22 arg23 arg24 harg24 arg25 harg25 arg26 harg26 arg27 harg27 arg28 arg29 arg30 arg31 arg32 arg33 x0 x1 x2 x3 x4 x5 x6 x7 x8 x9 x10 x11 x12 x13 xs6 xs7 xs8 xs9) (View.readAt (Elt Ideal) arg16.view (Rect.unit (s := S1x1024) ![0, 0] S1x1024.size (by decide)).toLoadRect (harg16.unread x14)) (ix3 0 r q) = _
  exact outV_of (v1988 H HL hi fa) (fun n => (rd2 harg16 (g := fun _ n => a.fg n) H.h14 _ 0 n).trans (by beta_reduce; congr 1 <;> omega)) r q

include H in
theorem v1398 (r l : Fin 128) : (kernelRun0_B.sl.v1398 c arg3 harg3 arg4 harg4 arg5 harg5 arg6 harg6 arg7 harg7 arg24 x1 x2 x3 x4 x5) (ix3 0 r l) = kaF a b (256 * (j + 1) + r) 0 l :=
  (rc3 (L2 := []) (List.append_nil _).symm (hs6 H) _ (fun y h1 h2 h3 h4 h5 h6 => ⟨_, (List.mem_cons_of_mem _ List.mem_cons_self), in3 (inb := by decide) (by omega)⟩) 0 r l).trans (by beta_reduce; congr 1 <;> (try simp only [Fin.val_zero]) <;> omega)

include H in
theorem v1402 (p : Fin 1) (r l : Fin 128) : (kernelRun0_B.sl.v1402 c arg3 harg3 arg4 harg4 arg5 harg5 arg6 harg6 arg7 harg7 arg24 x1 x2 x3 x4 x5) (ix3 p r l) = kaF a b (256 * (j + 1) + r) 0 l := by
  pointwise [kernelRun0_B.sl.v1402, kernelRun0_B.sl.v1399]
  exact v1398 H r l

include H in
theorem hs6_1 : View.PiecesOf (at3 (e := .bf16) (fun g R l => if g = 0 ∧ R < 128 then kaF a b (256 * (j + 1) + R) 0 l else kaF a b (256 * j + R) g l)) (((kernelRun0_B.sl.HS6_3 c arg3 harg3 arg4 harg4 arg5 harg5 arg6 harg6 arg7 harg7 arg24 x1 x2 x3 x4 x5)).take 3) :=
  by
  refine pieces_mem (piece3 (g := (fun g R l => if g = 0 ∧ R < 128 then kaF a b (256 * (j + 1) + R) 0 l else kaF a b (256 * j + R) g l)) (e := .bf16) (n0 := 2) (n1 := 384) (n2 := 128) (o0 := 0) (o1 := 0) (o2 := 0) (m0 := 1) (m1 := 128) (m2 := 128) (inb := by decide) fun p r l => ?_) ?_
  · beta_reduce
    rw [if_pos (by omega)]
    exact (v1402 H p r l).trans (by beta_reduce; congr 1 <;> omega)
  refine pieces_mem (piece3 (g := (fun g R l => if g = 0 ∧ R < 128 then kaF a b (256 * (j + 1) + R) 0 l else kaF a b (256 * j + R) g l)) (e := .bf16) (n0 := 2) (n1 := 384) (n2 := 128) (o0 := 1) (o1 := 128) (o2 := 0) (m0 := 1) (m1 := 256) (m2 := 128) (inb := by decide) fun p r l => ?_) ?_
  · beta_reduce
    rw [if_neg (by omega)]
    exact (v201 H p r l).trans (by beta_reduce; congr 1 <;> omega)
  refine pieces_mem (piece3 (g := (fun g R l => if g = 0 ∧ R < 128 then kaF a b (256 * (j + 1) + R) 0 l else kaF a b (256 * j + R) g l)) (e := .bf16) (n0 := 2) (n1 := 384) (n2 := 128) (o0 := 0) (o1 := 128) (o2 := 0) (m0 := 1) (m1 := 256) (m2 := 128) (inb := by decide) fun p r l => ?_) ?_
  · beta_reduce
    rw [if_neg (by omega)]
    exact (v191 H p r l).trans (by beta_reduce; congr 1 <;> omega)
  exact True.intro

include H in
theorem v1418 (r l : Fin 128) : (kernelRun0_B.sl.v1418 c arg3 harg3 arg4 harg4 arg5 harg5 arg6 harg6 arg7 harg7 arg24 x1 x2 x3 x4 x5) (ix3 0 r l) = kaF a b (256 * (j + 1) + r) 1 l :=
  (rc3 (List.take_append_drop 3 _).symm (hs6_1 H) _ (fun y h1 h2 h3 h4 h5 h6 => ⟨_, (List.mem_cons_of_mem _ List.mem_cons_self), in3 (inb := by decide) (by omega)⟩) 0 r l).trans (by
    beta_reduce
    rw [if_neg (by omega)]
    congr 1 <;> (try simp only [Fin.val_zero]) <;> omega)

include H in
theorem v1422 (p : Fin 1) (r l : Fin 128) : (kernelRun0_B.sl.v1422 c arg3 harg3 arg4 harg4 arg5 harg5 arg6 harg6 arg7 harg7 arg24 x1 x2 x3 x4 x5) (ix3 p r l) = kaF a b (256 * (j + 1) + r) 1 l := by
  pointwise [kernelRun0_B.sl.v1422, kernelRun0_B.sl.v1419]
  exact v1418 H r l

include H in
theorem v1403 (r l : Fin 128) : (kernelRun0_B.sl.v1403 c arg3 harg3 arg4 harg4 arg5 harg5 arg6 harg6 arg7 harg7 arg25 x1 x2 x3 x4 x5) (ix3 0 r l) = kbF a b (256 * (j + 1) + r) 0 l :=
  (rc3 (L2 := []) (List.append_nil _).symm (hs7 H) _ (fun y h1 h2 h3 h4 h5 h6 => ⟨_, (List.mem_cons_of_mem _ List.mem_cons_self), in3 (inb := by decide) (by omega)⟩) 0 r l).trans (by beta_reduce; congr 1 <;> (try simp only [Fin.val_zero]) <;> omega)

include H in
theorem v1407 (p : Fin 1) (r l : Fin 128) : (kernelRun0_B.sl.v1407 c arg3 harg3 arg4 harg4 arg5 harg5 arg6 harg6 arg7 harg7 arg25 x1 x2 x3 x4 x5) (ix3 p r l) = kbF a b (256 * (j + 1) + r) 0 l := by
  pointwise [kernelRun0_B.sl.v1407, kernelRun0_B.sl.v1404]
  exact v1403 H r l

include H in
theorem hs7_1 : View.PiecesOf (at3 (e := .bf16) (fun g R l => if g = 0 ∧ R < 128 then kbF a b (256 * (j + 1) + R) 0 l else kbF a b (256 * j + R) g l)) (((kernelRun0_B.sl.HS7_3 c arg3 harg3 arg4 harg4 arg5 harg5 arg6 harg6 arg7 harg7 arg25 x1 x2 x3 x4 x5)).take 3) :=
  by
  refine pieces_mem (piece3 (g := (fun g R l => if g = 0 ∧ R < 128 then kbF a b (256 * (j + 1) + R) 0 l else kbF a b (256 * j + R) g l)) (e := .bf16) (n0 := 2) (n1 := 384) (n2 := 128) (o0 := 0) (o1 := 0) (o2 := 0) (m0 := 1) (m1 := 128) (m2 := 128) (inb := by decide) fun p r l => ?_) ?_
  · beta_reduce
    rw [if_pos (by omega)]
    exact (v1407 H p r l).trans (by beta_reduce; congr 1 <;> omega)
  refine pieces_mem (piece3 (g := (fun g R l => if g = 0 ∧ R < 128 then kbF a b (256 * (j + 1) + R) 0 l else kbF a b (256 * j + R) g l)) (e := .bf16) (n0 := 2) (n1 := 384) (n2 := 128) (o0 := 1) (o1 := 128) (o2 := 0) (m0 := 1) (m1 := 256) (m2 := 128) (inb := by decide) fun p r l => ?_) ?_
  · beta_reduce
    rw [if_neg (by omega)]
    exact (v206 H p r l).trans (by beta_reduce; congr 1 <;> omega)
  refine pieces_mem (piece3 (g := (fun g R l => if g = 0 ∧ R < 128 then kbF a b (256 * (j + 1) + R) 0 l else kbF a b (256 * j + R) g l)) (e := .bf16) (n0 := 2) (n1 := 384) (n2 := 128) (o0 := 0) (o1 := 128) (o2 := 0) (m0 := 1) (m1 := 256) (m2 := 128) (inb := by decide) fun p r l => ?_) ?_
  · beta_reduce
    rw [if_neg (by omega)]
    exact (v196 H p r l).trans (by beta_reduce; congr 1 <;> omega)
  exact True.intro

include H in
theorem v1423 (r l : Fin 128) : (kernelRun0_B.sl.v1423 c arg3 harg3 arg4 harg4 arg5 harg5 arg6 harg6 arg7 harg7 arg25 x1 x2 x3 x4 x5) (ix3 0 r l) = kbF a b (256 * (j + 1) + r) 1 l :=
  (rc3 (List.take_append_drop 3 _).symm (hs7_1 H) _ (fun y h1 h2 h3 h4 h5 h6 => ⟨_, (List.mem_cons_of_mem _ List.mem_cons_self), in3 (inb := by decide) (by omega)⟩) 0 r l).trans (by
    beta_reduce
    rw [if_neg (by omega)]
    congr 1 <;> (try simp only [Fin.val_zero]) <;> omega)

include H in
theorem v1427 (p : Fin 1) (r l : Fin 128) : (kernelRun0_B.sl.v1427 c arg3 harg3 arg4 harg4 arg5 harg5 arg6 harg6 arg7 harg7 arg25 x1 x2 x3 x4 x5) (ix3 p r l) = kbF a b (256 * (j + 1) + r) 1 l := by
  pointwise [kernelRun0_B.sl.v1427, kernelRun0_B.sl.v1424]
  exact v1423 H r l

include H in
theorem v1408 (r l : Fin 128) : (kernelRun0_B.sl.v1408 c arg3 harg3 arg6 harg6 arg7 harg7 arg26 x1 x4 x5) (ix3 0 r l) = vaF a b (256 * (j + 1) + r) 0 l :=
  (rc3 (L2 := []) (List.append_nil _).symm (hs8 H) _ (fun y h1 h2 h3 h4 h5 h6 => ⟨_, (List.mem_cons_of_mem _ List.mem_cons_self), in3 (inb := by decide) (by omega)⟩) 0 r l).trans (by beta_reduce; congr 1 <;> (try simp only [Fin.val_zero]) <;> omega)

include H in
theorem v1412 (p : Fin 1) (r l : Fin 128) : (kernelRun0_B.sl.v1412 c arg3 harg3 arg6 harg6 arg7 harg7 arg26 x1 x4 x5) (ix3 p r l) = vaF a b (256 * (j + 1) + r) 0 l := by
  pointwise [kernelRun0_B.sl.v1412, kernelRun0_B.sl.v1409]
  exact v1408 H r l

include H in
theorem hs8_1 : View.PiecesOf (at3 (e := .bf16) (fun g R l => if g = 0 ∧ R < 128 then vaF a b (256 * (j + 1) + R) 0 l else vaF a b (256 * j + R) g l)) (((kernelRun0_B.sl.HS8_3 c arg3 harg3 arg6 harg6 arg7 harg7 arg26 x1 x4 x5)).take 3) :=
  by
  refine pieces_mem (piece3 (g := (fun g R l => if g = 0 ∧ R < 128 then vaF a b (256 * (j + 1) + R) 0 l else vaF a b (256 * j + R) g l)) (e := .bf16) (n0 := 2) (n1 := 384) (n2 := 128) (o0 := 0) (o1 := 0) (o2 := 0) (m0 := 1) (m1 := 128) (m2 := 128) (inb := by decide) fun p r l => ?_) ?_
  · beta_reduce
    rw [if_pos (by omega)]
    exact (v1412 H p r l).trans (by beta_reduce; congr 1 <;> omega)
  refine pieces_mem (piece3 (g := (fun g R l => if g = 0 ∧ R < 128 then vaF a b (256 * (j + 1) + R) 0 l else vaF a b (256 * j + R) g l)) (e := .bf16) (n0 := 2) (n1 := 384) (n2 := 128) (o0 := 1) (o1 := 128) (o2 := 0) (m0 := 1) (m1 := 256) (m2 := 128) (inb := by decide) fun p r l => ?_) ?_
  · beta_reduce
    rw [if_neg (by omega)]
    exact (v222 H p r l).trans (by beta_reduce; congr 1 <;> omega)
  refine pieces_mem (piece3 (g := (fun g R l => if g = 0 ∧ R < 128 then vaF a b (256 * (j + 1) + R) 0 l else vaF a b (256 * j + R) g l)) (e := .bf16) (n0 := 2) (n1 := 384) (n2 := 128) (o0 := 0) (o1 := 128) (o2 := 0) (m0 := 1) (m1 := 256) (m2 := 128) (inb := by decide) fun p r l => ?_) ?_
  · beta_reduce
    rw [if_neg (by omega)]
    exact (v212 H p r l).trans (by beta_reduce; congr 1 <;> omega)
  exact True.intro

include H in
theorem v1428 (r l : Fin 128) : (kernelRun0_B.sl.v1428 c arg3 harg3 arg6 harg6 arg7 harg7 arg26 x1 x4 x5) (ix3 0 r l) = vaF a b (256 * (j + 1) + r) 1 l :=
  (rc3 (List.take_append_drop 3 _).symm (hs8_1 H) _ (fun y h1 h2 h3 h4 h5 h6 => ⟨_, (List.mem_cons_of_mem _ List.mem_cons_self), in3 (inb := by decide) (by omega)⟩) 0 r l).trans (by
    beta_reduce
    rw [if_neg (by omega)]
    congr 1 <;> (try simp only [Fin.val_zero]) <;> omega)

include H in
theorem v1432 (p : Fin 1) (r l : Fin 128) : (kernelRun0_B.sl.v1432 c arg3 harg3 arg6 harg6 arg7 harg7 arg26 x1 x4 x5) (ix3 p r l) = vaF a b (256 * (j + 1) + r) 1 l := by
  pointwise [kernelRun0_B.sl.v1432, kernelRun0_B.sl.v1429]
  exact v1428 H r l

include H in
theorem v1413 (r l : Fin 128) : (kernelRun0_B.sl.v1413 c arg3 harg3 arg6 harg6 arg7 harg7 arg27 x1 x4 x5) (ix3 0 r l) = vbF a b (256 * (j + 1) + r) 0 l :=
  (rc3 (L2 := []) (List.append_nil _).symm (hs9 H) _ (fun y h1 h2 h3 h4 h5 h6 => ⟨_, (List.mem_cons_of_mem _ List.mem_cons_self), in3 (inb := by decide) (by omega)⟩) 0 r l).trans (by beta_reduce; congr 1 <;> (try simp only [Fin.val_zero]) <;> omega)

include H in
theorem v1417 (p : Fin 1) (r l : Fin 128) : (kernelRun0_B.sl.v1417 c arg3 harg3 arg6 harg6 arg7 harg7 arg27 x1 x4 x5) (ix3 p r l) = vbF a b (256 * (j + 1) + r) 0 l := by
  pointwise [kernelRun0_B.sl.v1417, kernelRun0_B.sl.v1414]
  exact v1413 H r l

include H in
theorem hs9_1 : View.PiecesOf (at3 (e := .bf16) (fun g R l => if g = 0 ∧ R < 128 then vbF a b (256 * (j + 1) + R) 0 l else vbF a b (256 * j + R) g l)) (((kernelRun0_B.sl.HS9_3 c arg3 harg3 arg6 harg6 arg7 harg7 arg27 x1 x4 x5)).take 3) :=
  by
  refine pieces_mem (piece3 (g := (fun g R l => if g = 0 ∧ R < 128 then vbF a b (256 * (j + 1) + R) 0 l else vbF a b (256 * j + R) g l)) (e := .bf16) (n0 := 2) (n1 := 384) (n2 := 128) (o0 := 0) (o1 := 0) (o2 := 0) (m0 := 1) (m1 := 128) (m2 := 128) (inb := by decide) fun p r l => ?_) ?_
  · beta_reduce
    rw [if_pos (by omega)]
    exact (v1417 H p r l).trans (by beta_reduce; congr 1 <;> omega)
  refine pieces_mem (piece3 (g := (fun g R l => if g = 0 ∧ R < 128 then vbF a b (256 * (j + 1) + R) 0 l else vbF a b (256 * j + R) g l)) (e := .bf16) (n0 := 2) (n1 := 384) (n2 := 128) (o0 := 1) (o1 := 128) (o2 := 0) (m0 := 1) (m1 := 256) (m2 := 128) (inb := by decide) fun p r l => ?_) ?_
  · beta_reduce
    rw [if_neg (by omega)]
    exact (v227 H p r l).trans (by beta_reduce; congr 1 <;> omega)
  refine pieces_mem (piece3 (g := (fun g R l => if g = 0 ∧ R < 128 then vbF a b (256 * (j + 1) + R) 0 l else vbF a b (256 * j + R) g l)) (e := .bf16) (n0 := 2) (n1 := 384) (n2 := 128) (o0 := 0) (o1 := 128) (o2 := 0) (m0 := 1) (m1 := 256) (m2 := 128) (inb := by decide) fun p r l => ?_) ?_
  · beta_reduce
    rw [if_neg (by omega)]
    exact (v217 H p r l).trans (by beta_reduce; congr 1 <;> omega)
  exact True.intro

include H in
theorem v1433 (r l : Fin 128) : (kernelRun0_B.sl.v1433 c arg3 harg3 arg6 harg6 arg7 harg7 arg27 x1 x4 x5) (ix3 0 r l) = vbF a b (256 * (j + 1) + r) 1 l :=
  (rc3 (List.take_append_drop 3 _).symm (hs9_1 H) _ (fun y h1 h2 h3 h4 h5 h6 => ⟨_, (List.mem_cons_of_mem _ List.mem_cons_self), in3 (inb := by decide) (by omega)⟩) 0 r l).trans (by
    beta_reduce
    rw [if_neg (by omega)]
    congr 1 <;> (try simp only [Fin.val_zero]) <;> omega)

include H in
theorem v1437 (p : Fin 1) (r l : Fin 128) : (kernelRun0_B.sl.v1437 c arg3 harg3 arg6 harg6 arg7 harg7 arg27 x1 x4 x5) (ix3 p r l) = vbF a b (256 * (j + 1) + r) 1 l := by
  pointwise [kernelRun0_B.sl.v1437, kernelRun0_B.sl.v1434]
  exact v1433 H r l

end Cert.PtB

end
-- ==== Proof.PtB9.lean ====
/- Grid points of case B: the contents the case leaves in the output block and in the carried rows of keys and values. -/
module

public import proofs.«01_k».proof.Proof.PtB8
public import proofs.«01_k».proof.Proof.Gen.KernelIdeal.Frame
public import proofs.«01_k».proof.Proof.KLast

@[expose] public section

set_option maxRecDepth 16384
set_option maxHeartbeats 1000000

noncomputable section

namespace Cert.PtB

open Idealize.ShloMosaic Idealize.ShloMosaic.TcCoe Idealize.SL.Sem
open Cert.KernelIdeal Cert.KernelIdeal.Gen Cert.Spec Cert.KOps Cert.KRead Cert.KMask

variable {a : Args} {b j : ℕ} {c : Dev nD} {i : grid0.Coords}
  {arg2 : Memref sig .tc .smem S16 .f32} {arg3 arg17 : Memref sig .tc .vmem S1x256x1024 .f32} {arg4 arg5 : Memref sig .tc .vmem S256x128 .f32}
  {arg6 arg11 arg12 arg16 : Memref sig .tc .vmem S1x1024 .f32} {arg7 : Memref sig .tc .vmem S1024x7424 .bf16}
  {arg8 : Memref sig .tc .vmem S1x2048 .f32} {arg9 : Memref sig .tc .vmem S8x128x128 .f32} {arg10 : Memref sig .tc .vmem S128x1024 .f32}
  {arg13 arg14 arg15 : Memref sig .tc .vmem S1024x1024 .bf16} {arg18 arg32 arg33 : Memref sig .tc .vmem S256x1024 .bf16}
  {arg19 arg20 arg21 arg22 : Memref sig .tc .vmem S256x1024 .f32} {arg23 : Memref sig .tc .vmem S256x2048 .f32}
  {arg24 arg25 arg26 arg27 : Memref sig .tc .vmem S2x384x128 .bf16} {arg28 arg29 : Memref sig .tc .vmem S512x256 .f32}
  {arg30 arg31 : Memref sig .tc .vmem S512x256 .bf16} {harg2 : arg2.IsWhole} {harg3 : arg3.IsWhole} {harg4 : arg4.IsWhole} {harg5 : arg5.IsWhole}
  {harg6 : arg6.IsWhole} {harg7 : arg7.IsWhole} {harg8 : arg8.IsWhole} {harg9 : arg9.IsWhole} {harg10 : arg10.IsWhole} {harg11 : arg11.IsWhole}
  {harg12 : arg12.IsWhole} {harg13 : arg13.IsWhole} {harg14 : arg14.IsWhole} {harg15 : arg15.IsWhole} {harg16 : arg16.IsWhole}
  {harg17 : arg17.IsWhole} {harg18 : arg18.IsWhole} {harg19 : arg19.IsWhole} {harg20 : arg20.IsWhole} {harg21 : arg21.IsWhole}
  {harg22 : arg22.IsWhole} {harg23 : arg23.IsWhole} {harg24 : arg24.IsWhole} {harg25 : arg25.IsWhole} {harg26 : arg26.IsWhole}
  {harg27 : arg27.IsWhole} {harg28 : arg28.IsWhole} {harg29 : arg29.IsWhole} {harg30 : arg30.IsWhole} {harg31 : arg31.IsWhole}
  {harg32 : arg32.IsWhole} {harg33 : arg33.IsWhole} {x0 : Vec Ideal S16 .f32} {x1 : Vec Ideal S1x256x1024 .f32} {x2 x3 : Vec Ideal S256x128 .f32}
  {x4 x9 x10 x14 : Vec Ideal S1x1024 .f32} {x5 : Vec Ideal S1024x7424 .bf16} {x6 : Vec Ideal S1x2048 .f32} {x7 : Vec Ideal S8x128x128 .f32}
  {x8 : Vec Ideal S128x1024 .f32} {x11 x12 x13 : Vec Ideal S1024x1024 .bf16}
  {xs6 xs7 xs8 xs9 : Vec Ideal S2x384x128 .bf16}

variable (H : Blk a b j x0 x1 x2 x3 x4 x5 x6 x7 x8 x9 x10 x11 x12 x13 x14) (HL : Halo a b j xs6 xs7 xs8 xs9) (hi : (i 1).val = j) (fa : Finite a)

include H HL hi fa in
/-- The output block. -/
theorem out {hc0 : ¬cond0_0 i} (p : Fin 1) (r : Fin 256) (q : Fin 1024) :
    out0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9 (ix3 p r q) = OUT a b (256 * j + r) q := by
  unfold out0_B_15
  refine (read_writes_of VO0_15 _ (at3 (fun _ r q => OUT a b (256 * j + r) q)) (ix3 p r q) _ ?_ fun hp => ?_).trans rfl
  · unfold kernelRun0_B
    dsimp only
    refine pieces_mem (piece3 (g := (fun _ r q => OUT a b (256 * j + r) q)) (e := .f32) (n0 := 1) (n1 := 256) (n2 := 1024) (o0 := 0) (o1 := 0) (o2 := 0) (m0 := 1) (m1 := 256) (m2 := 1024) (inb := by decide) fun p r l => ?_) True.intro
    exact (result H HL hi fa p r l).trans (by beta_reduce; congr 1 <;> omega)
  · obtain ⟨pc, h1, h2⟩ := cover0_B_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9 (ix3 p r q)
    exact absurd h2 (hp pc h1)

include H in
theorem left6 {hc0 : ¬cond0_0 i} (g : Fin 2) (R : Fin 384) (l : Fin 128) (hR : R.val < 128) :
    sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9 (ix3 g R l) = kaF a b (256 * (j + 1) + R) g l := by
  unfold sout0_B_6 kernelRun0_B
  dsimp only
  refine (read_first2 VS0_6 _ (at3 (e := .bf16) (fun g R l => kaF a b (256 * (j + 1) + R) g l)) (ix3 g R l) _ _ _
    (pieces_mem (piece3 (g := (fun g R l => kaF a b (256 * (j + 1) + R) g l)) (e := .bf16) (n0 := 2) (n1 := 384) (n2 := 128) (o0 := 1) (o1 := 0) (o2 := 0) (m0 := 1) (m1 := 128) (m2 := 128) (inb := by decide) fun p r l => ?_)
    (pieces_mem (piece3 (g := (fun g R l => kaF a b (256 * (j + 1) + R) g l)) (e := .bf16) (n0 := 2) (n1 := 384) (n2 := 128) (o0 := 0) (o1 := 0) (o2 := 0) (m0 := 1) (m1 := 128) (m2 := 128) (inb := by decide) fun p r l => ?_) True.intro)) ?_).trans rfl
  · exact (v1422 H p r l).trans (by beta_reduce; congr 1 <;> omega)
  · exact (v1402 H p r l).trans (by beta_reduce; congr 1 <;> omega)
  · have hg := g.isLt
    have hl := l.isLt
    by_cases h : g.val = 1
    · exact Or.inl (in3 (inb := by decide) ⟨⟨by show 1 ≤ g.val; omega, by show g.val < 1 + 1; omega⟩, ⟨by show 0 ≤ R.val; omega, by show R.val < 0 + 128; omega⟩, ⟨by show 0 ≤ l.val; omega, by show l.val < 0 + 128; omega⟩⟩)
    · exact Or.inr (in3 (inb := by decide) ⟨⟨by show 0 ≤ g.val; omega, by show g.val < 0 + 1; omega⟩, ⟨by show 0 ≤ R.val; omega, by show R.val < 0 + 128; omega⟩, ⟨by show 0 ≤ l.val; omega, by show l.val < 0 + 128; omega⟩⟩)

include H in
theorem left7 {hc0 : ¬cond0_0 i} (g : Fin 2) (R : Fin 384) (l : Fin 128) (hR : R.val < 128) :
    sout0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9 (ix3 g R l) = kbF a b (256 * (j + 1) + R) g l := by
  unfold sout0_B_7 kernelRun0_B
  dsimp only
  refine (read_first2 VS0_7 _ (at3 (e := .bf16) (fun g R l => kbF a b (256 * (j + 1) + R) g l)) (ix3 g R l) _ _ _
    (pieces_mem (piece3 (g := (fun g R l => kbF a b (256 * (j + 1) + R) g l)) (e := .bf16) (n0 := 2) (n1 := 384) (n2 := 128) (o0 := 1) (o1 := 0) (o2 := 0) (m0 := 1) (m1 := 128) (m2 := 128) (inb := by decide) fun p r l => ?_)
    (pieces_mem (piece3 (g := (fun g R l => kbF a b (256 * (j + 1) + R) g l)) (e := .bf16) (n0 := 2) (n1 := 384) (n2 := 128) (o0 := 0) (o1 := 0) (o2 := 0) (m0 := 1) (m1 := 128) (m2 := 128) (inb := by decide) fun p r l => ?_) True.intro)) ?_).trans rfl
  · exact (v1427 H p r l).trans (by beta_reduce; congr 1 <;> omega)
  · exact (v1407 H p r l).trans (by beta_reduce; congr 1 <;> omega)
  · have hg := g.isLt
    have hl := l.isLt
    by_cases h : g.val = 1
    · exact Or.inl (in3 (inb := by decide) ⟨⟨by show 1 ≤ g.val; omega, by show g.val < 1 + 1; omega⟩, ⟨by show 0 ≤ R.val; omega, by show R.val < 0 + 128; omega⟩, ⟨by show 0 ≤ l.val; omega, by show l.val < 0 + 128; omega⟩⟩)
    · exact Or.inr (in3 (inb := by decide) ⟨⟨by show 0 ≤ g.val; omega, by show g.val < 0 + 1; omega⟩, ⟨by show 0 ≤ R.val; omega, by show R.val < 0 + 128; omega⟩, ⟨by show 0 ≤ l.val; omega, by show l.val < 0 + 128; omega⟩⟩)

include H in
theorem left8 {hc0 : ¬cond0_0 i} (g : Fin 2) (R : Fin 384) (l : Fin 128) (hR : R.val < 128) :
    sout0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9 (ix3 g R l) = vaF a b (256 * (j + 1) + R) g l := by
  unfold sout0_B_8 kernelRun0_B
  dsimp only
  refine (read_first2 VS0_8 _ (at3 (e := .bf16) (fun g R l => vaF a b (256 * (j + 1) + R) g l)) (ix3 g R l) _ _ _
    (pieces_mem (piece3 (g := (fun g R l => vaF a b (256 * (j + 1) + R) g l)) (e := .bf16) (n0 := 2) (n1 := 384) (n2 := 128) (o0 := 1) (o1 := 0) (o2 := 0) (m0 := 1) (m1 := 128) (m2 := 128) (inb := by decide) fun p r l => ?_)
    (pieces_mem (piece3 (g := (fun g R l => vaF a b (256 * (j + 1) + R) g l)) (e := .bf16) (n0 := 2) (n1 := 384) (n2 := 128) (o0 := 0) (o1 := 0) (o2 := 0) (m0 := 1) (m1 := 128) (m2 := 128) (inb := by decide) fun p r l => ?_) True.intro)) ?_).trans rfl
  · exact (v1432 H p r l).trans (by beta_reduce; congr 1 <;> omega)
  · exact (v1412 H p r l).trans (by beta_reduce; congr 1 <;> omega)
  · have hg := g.isLt
    have hl := l.isLt
    by_cases h : g.val = 1
    · exact Or.inl (in3 (inb := by decide) ⟨⟨by show 1 ≤ g.val; omega, by show g.val < 1 + 1; omega⟩, ⟨by show 0 ≤ R.val; omega, by show R.val < 0 + 128; omega⟩, ⟨by show 0 ≤ l.val; omega, by show l.val < 0 + 128; omega⟩⟩)
    · exact Or.inr (in3 (inb := by decide) ⟨⟨by show 0 ≤ g.val; omega, by show g.val < 0 + 1; omega⟩, ⟨by show 0 ≤ R.val; omega, by show R.val < 0 + 128; omega⟩, ⟨by show 0 ≤ l.val; omega, by show l.val < 0 + 128; omega⟩⟩)

include H in
theorem left9 {hc0 : ¬cond0_0 i} (g : Fin 2) (R : Fin 384) (l : Fin 128) (hR : R.val < 128) :
    sout0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9 (ix3 g R l) = vbF a b (256 * (j + 1) + R) g l := by
  unfold sout0_B_9 kernelRun0_B
  dsimp only
  refine (read_first2 VS0_9 _ (at3 (e := .bf16) (fun g R l => vbF a b (256 * (j + 1) + R) g l)) (ix3 g R l) _ _ _
    (pieces_mem (piece3 (g := (fun g R l => vbF a b (256 * (j + 1) + R) g l)) (e := .bf16) (n0 := 2) (n1 := 384) (n2 := 128) (o0 := 1) (o1 := 0) (o2 := 0) (m0 := 1) (m1 := 128) (m2 := 128) (inb := by decide) fun p r l => ?_)
    (pieces_mem (piece3 (g := (fun g R l => vbF a b (256 * (j + 1) + R) g l)) (e := .bf16) (n0 := 2) (n1 := 384) (n2 := 128) (o0 := 0) (o1 := 0) (o2 := 0) (m0 := 1) (m1 := 128) (m2 := 128) (inb := by decide) fun p r l => ?_) True.intro)) ?_).trans rfl
  · exact (v1437 H p r l).trans (by beta_reduce; congr 1 <;> omega)
  · exact (v1417 H p r l).trans (by beta_reduce; congr 1 <;> omega)
  · have hg := g.isLt
    have hl := l.isLt
    by_cases h : g.val = 1
    · exact Or.inl (in3 (inb := by decide) ⟨⟨by show 1 ≤ g.val; omega, by show g.val < 1 + 1; omega⟩, ⟨by show 0 ≤ R.val; omega, by show R.val < 0 + 128; omega⟩, ⟨by show 0 ≤ l.val; omega, by show l.val < 0 + 128; omega⟩⟩)
    · exact Or.inr (in3 (inb := by decide) ⟨⟨by show 0 ≤ g.val; omega, by show g.val < 0 + 1; omega⟩, ⟨by show 0 ≤ R.val; omega, by show R.val < 0 + 128; omega⟩, ⟨by show 0 ≤ l.val; omega, by show l.val < 0 + 128; omega⟩⟩)

include H in
/-- The rows of keys and values left to the next point. -/
theorem left {hc0 : ¬cond0_0 i} : Halo a b (j + 1) (sout0_B_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9) (sout0_B_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9) (sout0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9) (sout0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 hc0 x0 x1 x2 x3 x4 x5 x6 x7 x8 x9 x10 x11 x12 x13 x14 xs6 xs7 xs8 xs9) :=
  ⟨left6 H, left7 H, left8 H, left9 H⟩

end Cert.PtB

end
-- ==== Proof.Host.lean ====
/- What the launch hands the kernel: the layer's arguments read off the argument arrays, the windows' blocks at coordinates. -/
module

public import proofs.«01_k».proof.Proof.KRead
public import proofs.«01_k».proof.Proof.Gen.KernelIdeal.Frame.Runs
public import Idealize.ShloMosaic.Lib.Pipeline.ValueKit
public import Idealize.ShloMosaic.Lib.Claim
public import Idealize.ShloMosaic.Lib.StableHlo.RunRead

@[expose] public section

set_option maxRecDepth 16384

noncomputable section

namespace Cert.Host

open Idealize.ShloMosaic Idealize.ShloMosaic.TcCoe Idealize.SL.Sem
open Cert.KernelIdeal Cert.KernelIdeal.Gen Cert.Spec Cert.KOps Cert.KRead

/-- An array of one axis read at a natural-number coordinate. -/
def rd1 {n : ℕ} (f : Fin n → EReal) (i : ℕ) : EReal := if h : i < n then f ⟨i, h⟩ else 0
/-- Two axes. -/
def rd2 {n m : ℕ} (f : Fin n → Fin m → EReal) (i j : ℕ) : EReal := if h : i < n ∧ j < m then f ⟨i, h.1⟩ ⟨j, h.2⟩ else 0
/-- Three axes. -/
def rd3 {n m o : ℕ} (f : Fin n → Fin m → Fin o → EReal) (i j k : ℕ) : EReal :=
  if h : i < n ∧ j < m ∧ k < o then f ⟨i, h.1⟩ ⟨j, h.2.1⟩ ⟨k, h.2.2⟩ else 0

theorem rd1_fin {n : ℕ} (f : Fin n → EReal) (i : ℕ) (h : i < n) : rd1 f i = f ⟨i, h⟩ := dif_pos h
theorem rd2_fin {n m : ℕ} (f : Fin n → Fin m → EReal) (i j : ℕ) (h : i < n) (h' : j < m) : rd2 f i j = f ⟨i, h⟩ ⟨j, h'⟩ :=
  dif_pos ⟨h, h'⟩
theorem rd3_fin {n m o : ℕ} (f : Fin n → Fin m → Fin o → EReal) (i j k : ℕ) (h : i < n) (h' : j < m) (h'' : k < o) :
    rd3 f i j k = f ⟨i, h⟩ ⟨j, h'⟩ ⟨k, h''⟩ := dif_pos ⟨h, h', h''⟩

/-- The rotation angle of a position at a pair of lanes: the position times `500000 ^ (-2 l / 16)`, in the programs' own
    operations. -/
def ang (s l : ℕ) : EReal :=
  FloatOps.mulf (F := Ideal) (φ := .f32) (FloatOps.sitofp .f32 (BitVec.ofNat 32 s))
    (FloatOps.hostPowf (F := Ideal) (φ := .f32) (FloatOps.ofBits .f32 0x48F42400#32)
      (FloatOps.hostDivf (F := Ideal) (φ := .f32)
        (FloatOps.hostNegf (F := Ideal) (φ := .f32)
          (FloatOps.mulf (F := Ideal) (φ := .f32) (FloatOps.sitofp .f32 (BitVec.ofNat 32 l)) (FloatOps.ofBits .f32 0x40000000#32)))
        (FloatOps.ofBits .f32 0x41800000#32)))

/-- The layer's arguments read off the argument arrays. -/
def args (x0 : (⟨S2x8192x1024, .f32⟩ : BufTy).Contents (Elt Ideal)) (x1 : (⟨S1x1024, .f32⟩ : BufTy).Contents (Elt Ideal))
    (x2 : (⟨S1x1024x7424, .f32⟩ : BufTy).Contents (Elt Ideal)) (x3 : (⟨S1x2048, .f32⟩ : BufTy).Contents (Elt Ideal))
    (x4 : (⟨S1x16, .f32⟩ : BufTy).Contents (Elt Ideal)) (x5 : (⟨S1x8x128x128, .f32⟩ : BufTy).Contents (Elt Ideal))
    (x6 : (⟨S1x8x128, .f32⟩ : BufTy).Contents (Elt Ideal)) (x7 x8 : (⟨S1x1024, .f32⟩ : BufTy).Contents (Elt Ideal))
    (x9 x10 x11 : (⟨S1x1024x1024, .f32⟩ : BufTy).Contents (Elt Ideal)) (x12 : (⟨S1024, .f32⟩ : BufTy).Contents (Elt Ideal)) : Args where
  x := rd3 fun b s d => x0 (ix3 b s d)
  ng := rd1 fun d => x1 (ix2 0 d)
  win := rd2 fun k n => x2 (ix3 0 k n)
  bm := rd1 fun d => x3 (ix2 0 d)
  sk := rd1 fun d => x4 (ix2 0 d)
  sgw := rd3 fun g i j => x5 (ix4 0 g i j)
  sgb := rd2 fun g i => x6 (ix3 0 g i)
  lng := rd1 fun d => x7 (ix2 0 d)
  lnb := rd1 fun d => x8 (ix2 0 d)
  wao := rd2 fun k n => x9 (ix3 0 k n)
  wso := rd2 fun k n => x10 (ix3 0 k n)
  wo := rd2 fun k n => x11 (ix3 0 k n)
  fg := rd1 fun d => x12 (ix1 d)
  ct s l := FloatOps.hostUnary (F := Ideal) (φ := .f32) .cos (ang s l)
  st s l := FloatOps.hostUnary (F := Ideal) (φ := .f32) .sin (ang s l)

variable (m : (ℓ : Loc nD τ sig) → Buf (Elt Ideal) ℓ) (c : Dev nD)

/-- The layer's arguments in a memory. -/
def margs : Args := args (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10)) (m ((c : Thread nD τ).loc main_arg11))
  (m ((c : Thread nD τ).loc main_arg12))

theorem coords0 : ∀ t : Fin cfg0.N, (grid0.coords t 0).val = t.val / 32 := (by decide +kernel : ∀ t : Fin grid0.N, _)
theorem coords1 : ∀ t : Fin cfg0.N, (grid0.coords t 1).val = t.val % 32 := (by decide +kernel : ∀ t : Fin grid0.N, _)

theorem idx1 : ∀ t : Fin cfg0.N, win0_1.index t = ![t.val / 32, t.val % 32, 0] := (by decide +kernel : ∀ t : Fin grid0.N, _)
theorem idx2 : ∀ t : Fin cfg0.N, win0_2.index t = ![t.val % 32, 0] := (by decide +kernel : ∀ t : Fin grid0.N, _)
theorem idx3 : ∀ t : Fin cfg0.N, win0_3.index t = ![t.val % 32, 0] := (by decide +kernel : ∀ t : Fin grid0.N, _)
theorem idx0 : ∀ t : Fin cfg0.N, win0_0.index t = ![0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)

theorem b1 (t : Fin cfg0.N) (p : Fin 1) (r : Fin 256) (d : Fin 1024) :
    iblk m c 1 t (ix3 p r d) = (margs m c).x (t.val / 32) (256 * (t.val % 32) + r.val) d.val := by
  have ht : t.val < 64 := t.isLt
  have hr := r.isLt
  unfold margs args
  dsimp only
  rw [rd3_fin _ _ _ _ (by omega) (by omega) d.isLt]
  show V m c main_arg0 _ = _
  rw [V_main_arg0]
  refine congrArg (m ((c : Thread nD τ).loc main_arg0)) (funext fun a => Fin.ext ?_)
  refine (Pipeline.Window.rect_emb_val win0_1 t _ a rfl).trans ?_
  rw [idx1 t]
  fin_cases a
  · show t.val / 32 * 1 + p.val = t.val / 32; omega
  · show t.val % 32 * 256 + r.val = 256 * (t.val % 32) + r.val; omega
  · show 0 * 1024 + d.val = d.val; omega

theorem b0 (t : Fin cfg0.N) (h : Fin 16) : iblk m c 0 t (ix1 h) = (margs m c).sk h.val := by
  unfold margs args
  dsimp only
  rw [rd1_fin _ _ h.isLt]
  have e : ((cfg0.win 0).blk t).view.emb (ix1 h) = (ix1 h : S16.Idx) := funext fun a => Fin.ext (by
    refine (Pipeline.Window.rect_emb_val win0_0 t _ a rfl).trans ?_
    rw [idx0 t]
    fin_cases a
    · show 0 * 16 + h.val = h.val; omega)
  refine (congrArg (Gen.V m c main_v28) e).trans ?_
  unfold Gen.V
  after_reads_simp
  pointwise

theorem b4 (t : Fin cfg0.N) (p : Fin 1) (d : Fin 1024) : iblk m c 4 t (ix2 p d) = (margs m c).ng d.val := by
  unfold margs args
  dsimp only
  rw [rd1_fin _ _ d.isLt]
  have e : ((cfg0.win 4).blk t).view.emb (ix2 p d) = (ix2 p d : S1x1024.Idx) := funext fun a => Fin.ext (by
    refine (Pipeline.Window.rect_emb_val win0_4 t _ a rfl).trans ?_
    rw [idx4 t]
    fin_cases a
    · show 0 * 1 + p.val = p.val; omega
    · show 0 * 1024 + d.val = d.val; omega)
  refine (congrArg (Gen.V m c main_v42) e).trans ?_
  unfold Gen.V
  after_reads_simp
  pointwise

theorem b6 (t : Fin cfg0.N) (p : Fin 1) (d : Fin 2048) : iblk m c 6 t (ix2 p d) = (margs m c).bm d.val := by
  unfold margs args
  dsimp only
  rw [rd1_fin _ _ d.isLt]
  have e : ((cfg0.win 6).blk t).view.emb (ix2 p d) = (ix2 p d : S1x2048.Idx) := funext fun a => Fin.ext (by
    refine (Pipeline.Window.rect_emb_val win0_6 t _ a rfl).trans ?_
    rw [idx6 t]
    fin_cases a
    · show 0 * 1 + p.val = p.val; omega
    · show 0 * 2048 + d.val = d.val; omega)
  refine (congrArg (Gen.V m c main_v44) e).trans ?_
  unfold Gen.V
  after_reads_simp
  pointwise

theorem b9 (t : Fin cfg0.N) (p : Fin 1) (d : Fin 1024) : iblk m c 9 t (ix2 p d) = (margs m c).lng d.val := by
  unfold margs args
  dsimp only
  rw [rd1_fin _ _ d.isLt]
  have e : ((cfg0.win 9).blk t).view.emb (ix2 p d) = (ix2 p d : S1x1024.Idx) := funext fun a => Fin.ext (by
    refine (Pipeline.Window.rect_emb_val win0_9 t _ a rfl).trans ?_
    rw [idx9 t]
    fin_cases a
    · show 0 * 1 + p.val = p.val; omega
    · show 0 * 1024 + d.val = d.val; omega)
  refine (congrArg (Gen.V m c main_v45) e).trans ?_
  unfold Gen.V
  after_reads_simp
  pointwise

theorem b10 (t : Fin cfg0.N) (p : Fin 1) (d : Fin 1024) : iblk m c 10 t (ix2 p d) = (margs m c).lnb d.val := by
  unfold margs args
  dsimp only
  rw [rd1_fin _ _ d.isLt]
  have e : ((cfg0.win 10).blk t).view.emb (ix2 p d) = (ix2 p d : S1x1024.Idx) := funext fun a => Fin.ext (by
    refine (Pipeline.Window.rect_emb_val win0_10 t _ a rfl).trans ?_
    rw [idx10 t]
    fin_cases a
    · show 0 * 1 + p.val = p.val; omega
    · show 0 * 1024 + d.val = d.val; omega)
  refine (congrArg (Gen.V m c main_v46) e).trans ?_
  unfold Gen.V
  after_reads_simp
  pointwise

theorem b14 (t : Fin cfg0.N) (p : Fin 1) (d : Fin 1024) : iblk m c 14 t (ix2 p d) = (margs m c).fg d.val := by
  unfold margs args
  dsimp only
  rw [rd1_fin _ _ d.isLt]
  have e : ((cfg0.win 14).blk t).view.emb (ix2 p d) = (ix2 p d : S1x1024.Idx) := funext fun a => Fin.ext (by
    refine (Pipeline.Window.rect_emb_val win0_14 t _ a rfl).trans ?_
    rw [idx14 t]
    fin_cases a
    · show 0 * 1 + p.val = p.val; omega
    · show 0 * 1024 + d.val = d.val; omega)
  refine (congrArg (Gen.V m c main_v50) e).trans ?_
  unfold Gen.V
  after_reads_simp
  pointwise

theorem b5 (t : Fin cfg0.N) (k : Fin 1024) (n : Fin 7424) : iblk m c 5 t (ix2 k n) = (margs m c).win k.val n.val := by
  unfold margs args
  dsimp only
  rw [rd2_fin _ _ _ k.isLt n.isLt]
  have e : ((cfg0.win 5).blk t).view.emb (ix2 k n) = (ix2 k n : S1024x7424.Idx) := funext fun a => Fin.ext (by
    refine (Pipeline.Window.rect_emb_val win0_5 t _ a rfl).trans ?_
    rw [idx5 t]
    fin_cases a
    · show 0 * 1024 + k.val = k.val; omega
    · show 0 * 7424 + n.val = n.val; omega)
  refine (congrArg (Gen.V m c main_v43) e).trans ?_
  unfold Gen.V
  after_reads_simp
  pointwise

theorem b11 (t : Fin cfg0.N) (k : Fin 1024) (n : Fin 1024) : iblk m c 11 t (ix2 k n) = (margs m c).wao k.val n.val := by
  unfold margs args
  dsimp only
  rw [rd2_fin _ _ _ k.isLt n.isLt]
  have e : ((cfg0.win 11).blk t).view.emb (ix2 k n) = (ix2 k n : S1024x1024.Idx) := funext fun a => Fin.ext (by
    refine (Pipeline.Window.rect_emb_val win0_11 t _ a rfl).trans ?_
    rw [idx11 t]
    fin_cases a
    · show 0 * 1024 + k.val = k.val; omega
    · show 0 * 1024 + n.val = n.val; omega)
  refine (congrArg (Gen.V m c main_v47) e).trans ?_
  unfold Gen.V
  after_reads_simp
  pointwise

theorem b12 (t : Fin cfg0.N) (k : Fin 1024) (n : Fin 1024) : iblk m c 12 t (ix2 k n) = (margs m c).wso k.val n.val := by
  unfold margs args
  dsimp only
  rw [rd2_fin _ _ _ k.isLt n.isLt]
  have e : ((cfg0.win 12).blk t).view.emb (ix2 k n) = (ix2 k n : S1024x1024.Idx) := funext fun a => Fin.ext (by
    refine (Pipeline.Window.rect_emb_val win0_12 t _ a rfl).trans ?_
    rw [idx12 t]
    fin_cases a
    · show 0 * 1024 + k.val = k.val; omega
    · show 0 * 1024 + n.val = n.val; omega)
  refine (congrArg (Gen.V m c main_v48) e).trans ?_
  unfold Gen.V
  after_reads_simp
  pointwise

theorem b13 (t : Fin cfg0.N) (k : Fin 1024) (n : Fin 1024) : iblk m c 13 t (ix2 k n) = (margs m c).wo k.val n.val := by
  unfold margs args
  dsimp only
  rw [rd2_fin _ _ _ k.isLt n.isLt]
  have e : ((cfg0.win 13).blk t).view.emb (ix2 k n) = (ix2 k n : S1024x1024.Idx) := funext fun a => Fin.ext (by
    refine (Pipeline.Window.rect_emb_val win0_13 t _ a rfl).trans ?_
    rw [idx13 t]
    fin_cases a
    · show 0 * 1024 + k.val = k.val; omega
    · show 0 * 1024 + n.val = n.val; omega)
  refine (congrArg (Gen.V m c main_v49) e).trans ?_
  unfold Gen.V
  after_reads_simp
  pointwise

theorem b7 (t : Fin cfg0.N) (g : Fin 8) (i : Fin 128) (j : Fin 128) : iblk m c 7 t (ix3 g i j) = (margs m c).sgw g.val i.val j.val := by
  unfold margs args
  dsimp only
  rw [rd3_fin _ _ _ _ g.isLt i.isLt j.isLt]
  have e : ((cfg0.win 7).blk t).view.emb (ix3 g i j) = (ix3 g i j : S8x128x128.Idx) := funext fun a => Fin.ext (by
    refine (Pipeline.Window.rect_emb_val win0_7 t _ a rfl).trans ?_
    rw [idx7 t]
    fin_cases a
    · show 0 * 8 + g.val = g.val; omega
    · show 0 * 128 + i.val = i.val; omega
    · show 0 * 128 + j.val = j.val; omega)
  refine (congrArg (Gen.V m c main_v32) e).trans ?_
  unfold Gen.V
  after_reads_simp
  pointwise

theorem b8 (t : Fin cfg0.N) (i : Fin 128) (d : Fin 1024) : iblk m c 8 t (ix2 i d) = (margs m c).sgb (d.val / 128) i.val := by
  unfold margs args
  dsimp only
  rw [rd2_fin _ _ _ (by have := d.isLt; omega) i.isLt]
  have e : ((cfg0.win 8).blk t).view.emb (ix2 i d) = (ix2 i d : S128x1024.Idx) := funext fun a => Fin.ext (by
    refine (Pipeline.Window.rect_emb_val win0_8 t _ a rfl).trans ?_
    rw [idx8 t]
    fin_cases a
    · show 0 * 128 + i.val = i.val; omega
    · show 0 * 1024 + d.val = d.val; omega)
  refine (congrArg (Gen.V m c main_v41) e).trans ?_
  unfold Gen.V
  after_reads_simp
  pointwise

/-! ### The rotation tables -/

/-- A table of 64 lanes laid out twice over 128 lanes. -/
theorem dup (f : S8192x64.Idx → EReal) (h1 : S1x8192x2x64.ShapeCasts S8192x128) (h2 : S1x8192x1x64.BroadcastsInDim S1x8192x2x64 ![0, 1, 2, 3])
    (h3 : S8192x64.ShapeCasts S1x8192x1x64) (r : Fin 8192) (l : Fin 128) :
    shapeCast S8192x128 (broadcastInDim S1x8192x2x64 ![0, 1, 2, 3] h2 (shapeCast S1x8192x1x64 f h3)) h1 (ix2 r l) =
      f (ix2 r ⟨l.val % 64, by omega⟩) := by
  have hl := l.isLt
  have hr := r.isLt
  rw [shapeCast_apply _ h1 (ix2 r l) (ix4 0 r ⟨l.val / 64, by omega⟩ ⟨l.val % 64, by omega⟩)
    (by rewrite [Shape.rowMajor_val_two, Shape.rowMajor_val_four]; show ((0 * 8192 + r.val) * 2 + l.val / 64) * 64 + l.val % 64 = r.val * 128 + l.val; omega)]
  rw [broadcastInDim_apply _ h2 _ _ (ix4 0 r 0 ⟨l.val % 64, by omega⟩) (fun a => match a with
    | ⟨0, _⟩ => by show 0 = if (1 : ℕ) = 1 then 0 else 0; rfl
    | ⟨1, _⟩ => by show r.val = if (8192 : ℕ) = 1 then 0 else r.val; rw [if_neg (by decide)]
    | ⟨2, _⟩ => by show 0 = if (1 : ℕ) = 1 then 0 else l.val / 64; rfl
    | ⟨3, _⟩ => by show l.val % 64 = if (64 : ℕ) = 1 then 0 else l.val % 64; rw [if_neg (by decide)])]
  exact shapeCast_apply _ h3 _ (ix2 r ⟨l.val % 64, by omega⟩)
    (by rewrite [Shape.rowMajor_val_two, Shape.rowMajor_val_four]; show r.val * 64 + l.val % 64 = ((0 * 8192 + r.val) * 1 + 0) * 64 + l.val % 64; omega)

/-- Eight lanes, eight lanes and forty-eight lanes side by side. -/
theorem cat3 (A B : S8192x8.Idx → EReal) (C : S8192x48.Idx → EReal)
    (h : Shape.Concatenates [S8192x8, S8192x8, S8192x48] S8192x64 1) (r : Fin 8192) (l : Fin 64) :
    concatenate S8192x64 1 [⟨S8192x8, A⟩, ⟨S8192x8, B⟩, ⟨S8192x48, C⟩] h (ix2 r l) =
      if h8 : l.val < 8 then A (ix2 r ⟨l.val, h8⟩) else if h16 : l.val < 16 then B (ix2 r ⟨l.val - 8, by omega⟩) else C (ix2 r ⟨l.val - 16, by omega⟩) := by
  have hl := l.isLt
  by_cases h8 : l.val < 8
  · rw [dif_pos h8, concatenate_apply_piece 1 _ _ (ix2 r l) 0 (by show 0 < 3; decide) S8192x8 A rfl rfl 0 rfl
      (ix2 r ⟨l.val, h8⟩) (fun b hb => by match b with | ⟨0, _⟩ => rfl | ⟨1, _⟩ => exact absurd rfl hb) (Nat.zero_add _)]
  · by_cases h16 : l.val < 16
    · rw [dif_neg h8, dif_pos h16, concatenate_apply_piece 1 _ _ (ix2 r l) 1 (by show 1 < 3; decide) S8192x8 B rfl rfl 8 rfl
        (ix2 r ⟨l.val - 8, by omega⟩) (fun b hb => by match b with | ⟨0, _⟩ => rfl | ⟨1, _⟩ => exact absurd rfl hb)
        (by show 8 + (l.val - 8) = l.val; omega)]
    · rw [dif_neg h8, dif_neg h16, concatenate_apply_piece 1 _ _ (ix2 r l) 2 (by show 2 < 3; decide) S8192x48 C rfl rfl 16 rfl
        (ix2 r ⟨l.val - 16, by omega⟩) (fun b hb => by match b with | ⟨0, _⟩ => rfl | ⟨1, _⟩ => exact absurd rfl hb)
        (by show 16 + (l.val - 16) = l.val; omega)]

theorem U15 (r : Fin 8192) (l : Fin 8) : StableHlo.upto (hostOps0 (F := Ideal)) (fun b => m (c, b)) 22 (Proc.tc.devRef main_v15) (ix2 r l) =
    FloatOps.hostUnary (F := Ideal) (φ := .f32) .cos (ang r l) := by
  after_reads_simp
  rfl
theorem U17 (r : Fin 8192) (l : Fin 48) : StableHlo.upto (hostOps0 (F := Ideal)) (fun b => m (c, b)) 22 (Proc.tc.devRef main_v17) (ix2 r l) =
    (1 : EReal) := by
  after_reads_simp
  exact Ideal.ofBits_one_f32
theorem U16 (r : Fin 8192) (l : Fin 8) : StableHlo.upto (hostOps0 (F := Ideal)) (fun b => m (c, b)) 26 (Proc.tc.devRef main_v16) (ix2 r l) =
    FloatOps.hostUnary (F := Ideal) (φ := .f32) .sin (ang r l) := by
  after_reads_simp
  rfl
theorem U19 (r : Fin 8192) (l : Fin 8) : StableHlo.upto (hostOps0 (F := Ideal)) (fun b => m (c, b)) 26 (Proc.tc.devRef main_v19) (ix2 r l) =
    -FloatOps.hostUnary (F := Ideal) (φ := .f32) .sin (ang r l) := by
  after_reads_simp
  rfl
theorem U20 (r : Fin 8192) (l : Fin 48) : StableHlo.upto (hostOps0 (F := Ideal)) (fun b => m (c, b)) 26 (Proc.tc.devRef main_v20) (ix2 r l) =
    (0 : EReal) := by
  after_reads_simp
  exact Ideal.ofBits_zero_f32

theorem V24 (r : Fin 8192) (l : Fin 128) : Gen.V m c main_v24 (ix2 r l) = cosF (margs m c) r l := by
  unfold Gen.V
  after_reads_simp
  refine (dup _ _ _ _ r l).trans ((cat3 _ _ _ _ r _).trans ?_)
  unfold cosF
  refine dite_congr rfl (fun h8 => U15 m c r _) fun h8 => dite_congr rfl (fun h16 => U15 m c r _) fun h16 => U17 m c r _

theorem V27 (r : Fin 8192) (l : Fin 128) : Gen.V m c main_v27 (ix2 r l) = sinF (margs m c) r l := by
  unfold Gen.V
  after_reads_simp
  refine (dup _ _ _ _ r l).trans ((cat3 _ _ _ _ r _).trans ?_)
  unfold sinF
  refine dite_congr rfl (fun h8 => U19 m c r _) fun h8 => dite_congr rfl (fun h16 => U16 m c r _) fun h16 => U20 m c r _

theorem b2 (t : Fin cfg0.N) (r : Fin 256) (l : Fin 128) : iblk m c 2 t (ix2 r l) = cosF (margs m c) (256 * (t.val % 32) + r.val) l.val := by
  have hr := r.isLt
  have e : ((cfg0.win 2).blk t).view.emb (ix2 r l) = (ix2 ⟨256 * (t.val % 32) + r.val, by omega⟩ l : S8192x128.Idx) := funext fun a => Fin.ext (by
    refine (Pipeline.Window.rect_emb_val win0_2 t _ a rfl).trans ?_
    rw [idx2 t]
    fin_cases a
    · show t.val % 32 * 256 + r.val = 256 * (t.val % 32) + r.val; omega
    · show 0 * 128 + l.val = l.val; omega)
  exact (congrArg (Gen.V m c main_v24) e).trans (V24 m c _ l)

theorem b3 (t : Fin cfg0.N) (r : Fin 256) (l : Fin 128) : iblk m c 3 t (ix2 r l) = sinF (margs m c) (256 * (t.val % 32) + r.val) l.val := by
  have hr := r.isLt
  have e : ((cfg0.win 3).blk t).view.emb (ix2 r l) = (ix2 ⟨256 * (t.val % 32) + r.val, by omega⟩ l : S8192x128.Idx) := funext fun a => Fin.ext (by
    refine (Pipeline.Window.rect_emb_val win0_3 t _ a rfl).trans ?_
    rw [idx3 t]
    fin_cases a
    · show t.val % 32 * 256 + r.val = 256 * (t.val % 32) + r.val; omega
    · show 0 * 128 + l.val = l.val; omega)
  exact (congrArg (Gen.V m c main_v27) e).trans (V27 m c _ l)

/-- The windows' blocks of a grid point are the layer's arguments. -/
theorem blk (t : Fin cfg0.N) : Blk (margs m c) (t.val / 32) (t.val % 32) (iblk m c 0 t) (iblk m c 1 t) (iblk m c 2 t) (iblk m c 3 t)
    (iblk m c 4 t) (iblk m c 5 t) (iblk m c 6 t) (iblk m c 7 t) (iblk m c 8 t) (iblk m c 9 t) (iblk m c 10 t) (iblk m c 11 t)
    (iblk m c 12 t) (iblk m c 13 t) (iblk m c 14 t) :=
  ⟨b0 m c t, b1 m c t, b2 m c t, b3 m c t, b4 m c t, b5 m c t, b6 m c t, b7 m c t, b8 m c t, b9 m c t, b10 m c t, b11 m c t,
    b12 m c t, b13 m c t, b14 m c t⟩

end Cert.Host

end
-- ==== Proof.Step.lean ====
/- The sweep over the grid's points: the result array of the kernel is the layer of its arguments. -/
module

public import proofs.«01_k».proof.Proof.PtA9
public import proofs.«01_k».proof.Proof.PtB9
public import proofs.«01_k».proof.Proof.Host
public import proofs.«01_k».proof.Proof.Gen.KernelIdeal.Value

@[expose] public section

set_option maxRecDepth 16384
set_option maxHeartbeats 1000000

noncomputable section

namespace Cert.Step

open Idealize.ShloMosaic Idealize.ShloMosaic.TcCoe Idealize.SL.Sem
open Cert.KernelIdeal Cert.KernelIdeal.Gen Cert.Spec Cert.KOps Cert.KRead Cert.Host

variable (m : (ℓ : Loc nD τ sig) → Buf (Elt Ideal) ℓ) (c : Dev nD)

/-- What a point leaves: its output block and the rows of keys and values carried to the next. -/
def Left (n : ℕ) (o : Vec Ideal S1x256x1024 .f32 × Vec Ideal S2x384x128 .bf16 × Vec Ideal S2x384x128 .bf16 ×
    Vec Ideal S2x384x128 .bf16 × Vec Ideal S2x384x128 .bf16) : Prop :=
  (∀ (p : Fin 1) (r : Fin 256) (q : Fin 1024), o.1 (ix3 p r q) = OUT (margs m c) (n / 32) (256 * (n % 32) + r.val) q.val) ∧
    Halo (margs m c) (n / 32) (n % 32 + 1) o.2.1 o.2.2.1 o.2.2.2.1 o.2.2.2.2

theorem stepA (fa : Finite (margs m c)) (t : Fin cfg0.N) (h0 : t.val % 32 = 0) : Left m c t.val (outsAt0 m c t.val t.isLt) := by
  rw [outsAt0_A m c t h0]
  refine ⟨fun p r q => ?_, ?_⟩
  · dsimp only
    rw [PtA.out (blk m c t) h0 (coords1 t) fa p r q]
  · dsimp only
    exact PtA.left (blk m c t) h0

theorem stepB (fa : Finite (margs m c)) (t : Fin cfg0.N) (h0 : ¬t.val % 32 = 0)
    (hp : Left m c (t.val - 1) (outsAt0 m c (t.val - 1) (Nat.lt_of_le_of_lt (Nat.sub_le _ _) t.isLt))) :
    Left m c t.val (outsAt0 m c t.val t.isLt) := by
  rw [outsAt0_B m c t h0]
  have HL := hp.2
  rw [show (t.val - 1) / 32 = t.val / 32 by omega, show (t.val - 1) % 32 + 1 = t.val % 32 by omega] at HL
  refine ⟨fun p r q => ?_, ?_⟩
  · dsimp only
    rw [PtB.out (blk m c t) HL (coords1 t) fa p r q]
  · dsimp only
    exact PtB.left (blk m c t)

theorem step (fa : Finite (margs m c)) : ∀ (n : ℕ) (hn : n < cfg0.N), Left m c n (outsAt0 m c n hn)
  | 0, hn => stepA m c fa ⟨0, hn⟩ rfl
  | n + 1, hn => by
    by_cases h0 : (n + 1) % 32 = 0
    · exact stepA m c fa ⟨n + 1, hn⟩ h0
    · exact stepB m c fa ⟨n + 1, hn⟩ h0 (step fa n _)

/-- The kernel's result array. -/
theorem out (fa : Finite (margs m c)) (i : S2x8192x1024.Idx) :
    Value.G15 m c i = OUT (margs m c) (i 0).val (i 1).val (i 2).val := by
  have h0 : (i 0).val < 2 := (i 0).isLt
  have h1 : (i 1).val < 8192 := (i 1).isLt
  have h2 : (i 2).val < 1024 := (i 2).isLt
  have ep : Value.pt15Of i = 32 * (i 0).val + (i 1).val / 256 := by
    show 32 * ((i 0).val / 1 - 0) + 1 * ((i 1).val / 256 - 0) + 1 * ((i 2).val / 1024 - 0) = _
    omega
  have hp : Value.pt15Of i < cfg0.N := by rw [ep]; show _ < 64; omega
  unfold Value.G15
  rw [dif_pos hp, ← Value.outsAt0_sweep m c (Value.pt15Of i) hp]
  have el : Value.loc15Of i = (ix3 (0 : Fin 1) (⟨(i 1).val % 256, by omega⟩ : Fin 256) (⟨(i 2).val, h2⟩ : Fin 1024) : S1x256x1024.Idx) :=
    funext fun a => Fin.ext (by
      fin_cases a
      · show (i 0).val % 1 = 0; omega
      · rfl
      · show (i 2).val % 1024 = (i 2).val; omega)
  rw [el, (step m c fa _ hp).1]
  have e0 : Value.pt15Of i / 32 = (i 0).val := by rw [ep]; omega
  have e1 : 256 * (Value.pt15Of i % 32) + (i 1).val % 256 = (i 1).val := by rw [ep]; omega
  show OUT _ (Value.pt15Of i / 32) (256 * (Value.pt15Of i % 32) + (i 1).val % 256) (i 2).val = _
  rw [e0, e1]

end Cert.Step

end
-- ==== Proof.RefA.lean ====
/- The reference's operations read at an index, as the layer's functions of natural-number coordinates: the norm, the input
   projection, the rotated queries and keys, the values. -/
module

public import proofs.«01_k».proof.Proof.Gen.ReferenceIdeal.Read
public import proofs.«01_k».proof.Proof.Spec
public import Idealize.ShloMosaic.Lib.KernelVsHost

@[expose] public section

set_option maxRecDepth 16384

noncomputable section

namespace Cert.RefA

open Idealize.ShloMosaic Idealize.ShloMosaic.TcCoe Idealize.SL.Sem
open Idealize.ShloMosaic.ValueIdx Cert.ReferenceIdeal Cert.ReferenceIdeal.Gen Cert.ReferenceIdeal.Read Cert.Spec

/-- The reference's arguments and rotation tables are the layer's. -/
structure Ref (a : Args) (x0 : (⟨S2x8192x1024, .f32⟩ : BufTy).Contents (Elt Ideal)) (x1 : (⟨S1x1024, .f32⟩ : BufTy).Contents (Elt Ideal))
    (x2 : (⟨S1x1024x7424, .f32⟩ : BufTy).Contents (Elt Ideal)) (x3 : (⟨S1x2048, .f32⟩ : BufTy).Contents (Elt Ideal))
    (x4 : (⟨S1x16, .f32⟩ : BufTy).Contents (Elt Ideal)) (x5 : (⟨S1x8x128x128, .f32⟩ : BufTy).Contents (Elt Ideal))
    (x6 : (⟨S1x8x128, .f32⟩ : BufTy).Contents (Elt Ideal)) (x7 x8 : (⟨S1x1024, .f32⟩ : BufTy).Contents (Elt Ideal))
    (x9 x10 x11 : (⟨S1x1024x1024, .f32⟩ : BufTy).Contents (Elt Ideal)) (x12 : (⟨S1024, .f32⟩ : BufTy).Contents (Elt Ideal)) : Prop where
  h0 : ∀ i, x0 i = a.x (i 0).val (i 1).val (i 2).val
  h1 : ∀ i, x1 i = a.ng (i 1).val
  h2 : ∀ i, x2 i = a.win (i 1).val (i 2).val
  h3 : ∀ i, x3 i = a.bm (i 1).val
  h4 : ∀ i, x4 i = a.sk (i 1).val
  h5 : ∀ i, x5 i = a.sgw (i 1).val (i 2).val (i 3).val
  h6 : ∀ i, x6 i = a.sgb (i 1).val (i 2).val
  h7 : ∀ i, x7 i = a.lng (i 1).val
  h8 : ∀ i, x8 i = a.lnb (i 1).val
  h9 : ∀ i, x9 i = a.wao (i 1).val (i 2).val
  h10 : ∀ i, x10 i = a.wso (i 1).val (i 2).val
  h11 : ∀ i, x11 i = a.wo (i 1).val (i 2).val
  h12 : ∀ i, x12 i = a.fg (i 0).val
  hc : ∀ i, val_main_v40 (F := Ideal) i = a.ct (i 0).val (i 1).val
  hs : ∀ i, val_main_v42 (F := Ideal) i = a.st (i 0).val (i 1).val

section

variable {a : Args} {x0 : (⟨S2x8192x1024, .f32⟩ : BufTy).Contents (Elt Ideal)} {x1 : (⟨S1x1024, .f32⟩ : BufTy).Contents (Elt Ideal)}
  {x2 : (⟨S1x1024x7424, .f32⟩ : BufTy).Contents (Elt Ideal)} {x3 : (⟨S1x2048, .f32⟩ : BufTy).Contents (Elt Ideal)}
  {x4 : (⟨S1x16, .f32⟩ : BufTy).Contents (Elt Ideal)} {x5 : (⟨S1x8x128x128, .f32⟩ : BufTy).Contents (Elt Ideal)}
  {x6 : (⟨S1x8x128, .f32⟩ : BufTy).Contents (Elt Ideal)} {x7 x8 : (⟨S1x1024, .f32⟩ : BufTy).Contents (Elt Ideal)}
  {x9 x10 x11 : (⟨S1x1024x1024, .f32⟩ : BufTy).Contents (Elt Ideal)} {x12 : (⟨S1024, .f32⟩ : BufTy).Contents (Elt Ideal)}
  (H : Ref a x0 x1 x2 x3 x4 x5 x6 x7 x8 x9 x10 x11 x12)
include H

theorem v14 (i : S2x8192x1024.Idx) : val_main_v14 (F := Ideal) x0 x1 i = hid a (i 0).val (i 1).val (i 2).val := by
  simp only [val_main_v14_apply, val_main_v11_apply, val_main_v10_apply, val_main_v9_apply, val_main_v8_apply, val_main_v6_apply,
    val_main_v4_apply, val_main_v3_apply, val_main_v2_apply, val_main_v7_apply, val_main_v5_apply, val_main_cst_apply, val_main_cst_0_apply,
    val_main_cst_1_apply, val_main_v13_apply, val_main_v12_apply, val_main_v1_apply, H.h0, H.h1, Ideal.ofBits_def, Ideal.ofBits_zero_f32, zero_add]
  unfold hid rms
  refine congrArg₂ (fun u v : EReal => u * v) rfl (congrArg a.ng ?_)
  show (i 2).val % 1024 = _
  have h2 : (i 2).val < 1024 := (i 2).isLt
  omega

theorem v16 (i : S2x8192x7424.Idx) : val_main_v16 (F := Ideal) x0 x1 x2 i = PJ a (i 0).val (i 1).val (i 2).val := by
  rw [val_main_v16_apply]
  unfold PJ
  refine Finset.sum_congr rfl fun k _ => ?_
  rw [v14 H, val_main_v15_apply, H.h2]
  have h2 : (i 2).val < 7424 := (i 2).isLt
  have hk := k.isLt
  refine congrArg (_ * ·) (congrArg₂ a.win ?_ ?_)
  · show (k.val * 7424 + (i 2).val) / 7424 % 1024 = k.val; omega
  · show (k.val * 7424 + (i 2).val) % 7424 = (i 2).val; omega

theorem v20 (i : S2x8192x1024.Idx) : val_main_v20 (F := Ideal) x0 x1 x2 i = PJ a (i 0).val (i 1).val (1280 + (i 2).val) := by
  rw [val_main_v20_apply, v16 H]
theorem v21 (i : S2x8192x1024.Idx) : val_main_v21 (F := Ideal) x0 x1 x2 i = PJ a (i 0).val (i 1).val (2304 + (i 2).val) := by
  rw [val_main_v21_apply, v16 H]
theorem v22 (i : S2x8192x1024.Idx) : val_main_v22 (F := Ideal) x0 x1 x2 i = PJ a (i 0).val (i 1).val (3328 + (i 2).val) := by
  rw [val_main_v22_apply, v16 H]
theorem v23 (i : S2x8192x1024.Idx) : val_main_v23 (F := Ideal) x0 x1 x2 i = PJ a (i 0).val (i 1).val (4352 + (i 2).val) := by
  rw [val_main_v23_apply, v16 H]
theorem v24 (i : S2x8192x2048.Idx) : val_main_v24 (F := Ideal) x0 x1 x2 i = PJ a (i 0).val (i 1).val (5376 + (i 2).val) := by
  rw [val_main_v24_apply, v16 H]

theorem v25 (i : S2x8192x16x64.Idx) :
    val_main_v25 (F := Ideal) x0 x1 x2 i = PJ a (i 0).val (i 1).val ((i 2).val * 64 + (i 3).val) := by
  rw [val_main_v25_apply, val_main_v17_apply, v16 H]
  have h0 : (i 0).val < 2 := (i 0).isLt
  have h1 : (i 1).val < 8192 := (i 1).isLt
  have h2 : (i 2).val < 16 := (i 2).isLt
  have h3 : (i 3).val < 64 := (i 3).isLt
  have e0 : ((((i 0).val * 8192 + (i 1).val) * 16 + (i 2).val) * 64 + (i 3).val) / 8388608 = (i 0).val := by omega
  have e1 : ((((i 0).val * 8192 + (i 1).val) * 16 + (i 2).val) * 64 + (i 3).val) / 1024 % 8192 = (i 1).val := by omega
  have e2 : ((((i 0).val * 8192 + (i 1).val) * 16 + (i 2).val) * 64 + (i 3).val) % 1024 = (i 2).val * 64 + (i 3).val := by omega
  dsimp only
  rw [e0, e1, e2]

theorem v58 (i : S2x8192x2x64.Idx) :
    val_main_v58 (F := Ideal) x0 x1 x2 i = PJ a (i 0).val (i 1).val (1024 + ((i 2).val * 64 + (i 3).val)) := by
  rw [val_main_v58_apply, val_main_v18_apply, v16 H]
  have h0 : (i 0).val < 2 := (i 0).isLt
  have h1 : (i 1).val < 8192 := (i 1).isLt
  have h2 : (i 2).val < 2 := (i 2).isLt
  have h3 : (i 3).val < 64 := (i 3).isLt
  have e0 : ((((i 0).val * 8192 + (i 1).val) * 2 + (i 2).val) * 64 + (i 3).val) / 1048576 = (i 0).val := by omega
  have e1 : ((((i 0).val * 8192 + (i 1).val) * 2 + (i 2).val) * 64 + (i 3).val) / 128 % 8192 = (i 1).val := by omega
  have e2 : ((((i 0).val * 8192 + (i 1).val) * 2 + (i 2).val) * 64 + (i 3).val) % 128 = (i 2).val * 64 + (i 3).val := by omega
  dsimp only
  rw [e0, e1, e2]

theorem v91 (i : S2x8192x2x64.Idx) :
    val_main_v91 (F := Ideal) x0 x1 x2 i = V a (i 0).val (i 1).val (i 2).val (i 3).val := by
  rw [val_main_v91_apply, val_main_v19_apply, v16 H]
  have h0 : (i 0).val < 2 := (i 0).isLt
  have h1 : (i 1).val < 8192 := (i 1).isLt
  have h2 : (i 2).val < 2 := (i 2).isLt
  have h3 : (i 3).val < 64 := (i 3).isLt
  have e0 : ((((i 0).val * 8192 + (i 1).val) * 2 + (i 2).val) * 64 + (i 3).val) / 1048576 = (i 0).val := by omega
  have e1 : ((((i 0).val * 8192 + (i 1).val) * 2 + (i 2).val) * 64 + (i 3).val) / 128 % 8192 = (i 1).val := by omega
  have e2 : ((((i 0).val * 8192 + (i 1).val) * 2 + (i 2).val) * 64 + (i 3).val) % 128 = (i 2).val * 64 + (i 3).val := by omega
  dsimp only
  rw [e0, e1, e2]
  rfl

/-! ### The rotation -/

theorem v51 (i : S2x8192x16x8.Idx) : val_main_v51 (F := Ideal) x0 x1 x2 i =
    PJ a (i 0).val (i 1).val ((i 2).val * 64 + (i 3).val) * a.ct (i 1).val (i 3).val -
      PJ a (i 0).val (i 1).val ((i 2).val * 64 + ((i 3).val + 8)) * a.st (i 1).val (i 3).val := by
  simp only [val_main_v51_apply, val_main_v48_apply, val_main_v50_apply, val_main_v44_apply, val_main_v45_apply, val_main_v47_apply,
    val_main_v49_apply, val_main_v41_apply, val_main_v43_apply, H.hc, H.hs, v25 H]
  rw [Nat.add_comm (i 3).val 8]
  rfl

theorem v56 (i : S2x8192x16x8.Idx) : val_main_v56 (F := Ideal) x0 x1 x2 i =
    PJ a (i 0).val (i 1).val ((i 2).val * 64 + ((i 3).val + 8)) * a.ct (i 1).val (i 3).val +
      PJ a (i 0).val (i 1).val ((i 2).val * 64 + (i 3).val) * a.st (i 1).val (i 3).val := by
  simp only [val_main_v56_apply, val_main_v53_apply, val_main_v55_apply, val_main_v44_apply, val_main_v45_apply, val_main_v52_apply,
    val_main_v54_apply, val_main_v41_apply, val_main_v43_apply, H.hc, H.hs, v25 H]
  rw [Nat.add_comm (i 3).val 8]
  rfl

theorem v46 (i : S2x8192x16x48.Idx) : val_main_v46 (F := Ideal) x0 x1 x2 i =
    PJ a (i 0).val (i 1).val ((i 2).val * 64 + (16 + (i 3).val)) := by
  rw [val_main_v46_apply, v25 H]

theorem v84 (i : S2x8192x2x8.Idx) : val_main_v84 (F := Ideal) x0 x1 x2 i =
    PJ a (i 0).val (i 1).val (1024 + ((i 2).val * 64 + (i 3).val)) * a.ct (i 1).val (i 3).val -
      PJ a (i 0).val (i 1).val (1024 + ((i 2).val * 64 + ((i 3).val + 8))) * a.st (i 1).val (i 3).val := by
  have hc' : ∀ i, val_main_v73 (F := Ideal) i = a.ct (i 0).val (i 1).val := H.hc
  have hs' : ∀ i, val_main_v75 (F := Ideal) i = a.st (i 0).val (i 1).val := H.hs
  simp only [val_main_v84_apply, val_main_v81_apply, val_main_v83_apply, val_main_v77_apply, val_main_v78_apply, val_main_v80_apply,
    val_main_v82_apply, val_main_v74_apply, val_main_v76_apply, hc', hs', v58 H]
  rw [Nat.add_comm (i 3).val 8]
  rfl

theorem v89 (i : S2x8192x2x8.Idx) : val_main_v89 (F := Ideal) x0 x1 x2 i =
    PJ a (i 0).val (i 1).val (1024 + ((i 2).val * 64 + ((i 3).val + 8))) * a.ct (i 1).val (i 3).val +
      PJ a (i 0).val (i 1).val (1024 + ((i 2).val * 64 + (i 3).val)) * a.st (i 1).val (i 3).val := by
  have hc' : ∀ i, val_main_v73 (F := Ideal) i = a.ct (i 0).val (i 1).val := H.hc
  have hs' : ∀ i, val_main_v75 (F := Ideal) i = a.st (i 0).val (i 1).val := H.hs
  simp only [val_main_v89_apply, val_main_v86_apply, val_main_v88_apply, val_main_v77_apply, val_main_v78_apply, val_main_v85_apply,
    val_main_v87_apply, val_main_v74_apply, val_main_v76_apply, hc', hs', v58 H]
  rw [Nat.add_comm (i 3).val 8]
  rfl

theorem v79 (i : S2x8192x2x48.Idx) : val_main_v79 (F := Ideal) x0 x1 x2 i =
    PJ a (i 0).val (i 1).val (1024 + ((i 2).val * 64 + (16 + (i 3).val))) := by
  rw [val_main_v79_apply, v58 H]

theorem v57 (i : S2x8192x16x64.Idx) : val_main_v57 (F := Ideal) x0 x1 x2 i = Q a (i 0).val (i 1).val (i 2).val (i 3).val := by
  have h3 : (i 3).val < 64 := (i 3).isLt
  unfold val_main_v57 Q rope
  by_cases h8 : (i 3).val < 8
  · rw [if_pos h8, concatenate_apply_piece 3 _ _ i 0 (by show 0 < 3; decide) S2x8192x16x8 (val_main_v51 (F := Ideal) x0 x1 x2) rfl rfl 0 rfl
      (ix4 (i 0) (i 1) (i 2) ⟨(i 3).val, h8⟩) (fun b hb => by
        match b with | ⟨0, _⟩ => rfl | ⟨1, _⟩ => rfl | ⟨2, _⟩ => rfl | ⟨3, _⟩ => exact absurd rfl hb) (Nat.zero_add _), v51 H]
  · by_cases h16 : (i 3).val < 16
    · rw [if_neg h8, if_pos h16, concatenate_apply_piece 3 _ _ i 1 (by show 1 < 3; decide) S2x8192x16x8 (val_main_v56 (F := Ideal) x0 x1 x2) rfl rfl 8 rfl
        (ix4 (i 0) (i 1) (i 2) ⟨(i 3).val - 8, by omega⟩) (fun b hb => by
          match b with | ⟨0, _⟩ => rfl | ⟨1, _⟩ => rfl | ⟨2, _⟩ => rfl | ⟨3, _⟩ => exact absurd rfl hb)
          (by show 8 + ((i 3).val - 8) = (i 3).val; omega), v56 H]
      show PJ a _ _ (_ + ((i 3).val - 8 + 8)) * _ + _ = _
      rw [Nat.sub_add_cancel (by omega)]
    · rw [if_neg h8, if_neg h16, concatenate_apply_piece 3 _ _ i 2 (by show 2 < 3; decide) S2x8192x16x48 (val_main_v46 (F := Ideal) x0 x1 x2) rfl rfl 16 rfl
        (ix4 (i 0) (i 1) (i 2) ⟨(i 3).val - 16, by omega⟩) (fun b hb => by
          match b with | ⟨0, _⟩ => rfl | ⟨1, _⟩ => rfl | ⟨2, _⟩ => rfl | ⟨3, _⟩ => exact absurd rfl hb)
          (by show 16 + ((i 3).val - 16) = (i 3).val; omega), v46 H]
      show PJ a _ _ (_ + (16 + ((i 3).val - 16))) = _
      rw [Nat.add_sub_cancel' (by omega)]

theorem v90 (i : S2x8192x2x64.Idx) : val_main_v90 (F := Ideal) x0 x1 x2 i = K a (i 0).val (i 1).val (i 2).val (i 3).val := by
  have h3 : (i 3).val < 64 := (i 3).isLt
  unfold val_main_v90 K rope
  by_cases h8 : (i 3).val < 8
  · rw [if_pos h8, concatenate_apply_piece 3 _ _ i 0 (by show 0 < 3; decide) S2x8192x2x8 (val_main_v84 (F := Ideal) x0 x1 x2) rfl rfl 0 rfl
      (ix4 (i 0) (i 1) (i 2) ⟨(i 3).val, h8⟩) (fun b hb => by
        match b with | ⟨0, _⟩ => rfl | ⟨1, _⟩ => rfl | ⟨2, _⟩ => rfl | ⟨3, _⟩ => exact absurd rfl hb) (Nat.zero_add _), v84 H]
  · by_cases h16 : (i 3).val < 16
    · rw [if_neg h8, if_pos h16, concatenate_apply_piece 3 _ _ i 1 (by show 1 < 3; decide) S2x8192x2x8 (val_main_v89 (F := Ideal) x0 x1 x2) rfl rfl 8 rfl
        (ix4 (i 0) (i 1) (i 2) ⟨(i 3).val - 8, by omega⟩) (fun b hb => by
          match b with | ⟨0, _⟩ => rfl | ⟨1, _⟩ => rfl | ⟨2, _⟩ => rfl | ⟨3, _⟩ => exact absurd rfl hb)
          (by show 8 + ((i 3).val - 8) = (i 3).val; omega), v89 H]
      show PJ a _ _ (_ + (_ + ((i 3).val - 8 + 8))) * _ + _ = _
      rw [Nat.sub_add_cancel (by omega)]
    · rw [if_neg h8, if_neg h16, concatenate_apply_piece 3 _ _ i 2 (by show 2 < 3; decide) S2x8192x2x48 (val_main_v79 (F := Ideal) x0 x1 x2) rfl rfl 16 rfl
        (ix4 (i 0) (i 1) (i 2) ⟨(i 3).val - 16, by omega⟩) (fun b hb => by
          match b with | ⟨0, _⟩ => rfl | ⟨1, _⟩ => rfl | ⟨2, _⟩ => rfl | ⟨3, _⟩ => exact absurd rfl hb)
          (by show 16 + ((i 3).val - 16) = (i 3).val; omega), v79 H]
      show PJ a _ _ (_ + (_ + (16 + ((i 3).val - 16)))) = _
      rw [Nat.add_sub_cancel' (by omega)]

end

end Cert.RefA

end
-- ==== Proof.RefB.lean ====
/- The reference's attention read at an index: the padded key and value windows, the scores, the softmax with its sink, the output. -/
module

public import proofs.«01_k».proof.Proof.RefA
public import Idealize.ShloMosaic.Lib.ValueIdxRank6

@[expose] public section

set_option maxRecDepth 16384

noncomputable section

namespace Cert.RefB

open Idealize.ShloMosaic Idealize.ShloMosaic.TcCoe Idealize.SL.Sem
open Idealize.ShloMosaic.ValueIdx Cert.ReferenceIdeal Cert.ReferenceIdeal.Gen Cert.ReferenceIdeal.Read Cert.Spec Cert.RefA

/-- Whether a chunk of keys lies in the sequence, as the comparison's word. -/
theorem chunk_word : ∀ (n : Fin 128) (c : Fin 3),
    IntOp.cmpi .sge (IntOp.addi (IntOp.subi (BitVec.ofNat 32 n.val) 2#32) (BitVec.ofNat 32 c.val)) 0#32 =
      if 2 ≤ n.val + c.val then 1#1 else 0#1 := by decide +kernel

theorem v120 (i : S128x3.Idx) : val_main_v120 (F := Ideal) i = if 2 ≤ (i 0).val + (i 1).val then 1#1 else 0#1 := by
  simp only [val_main_v120_apply, val_main_v118_apply, val_main_v116_apply, val_main_v113_apply, val_main_v111_apply, val_main_v110_apply,
    val_main_v112_apply, val_main_c_10_apply, val_main_v117_apply, val_main_v115_apply, val_main_v114_apply, val_main_v119_apply,
    val_main_c_11_apply]
  exact chunk_word (i 0) (i 1)

theorem mask (i : S2x2x8x128x64x192.Idx) :
    val_main_call2_v1 (F := Ideal) i = if 128 ≤ 64 * (i 3).val + (i 5).val then 1#1 else 0#1 := by
  rw [val_main_call2_v1_apply, val_main_v123_apply, val_main_v122_apply, val_main_v121_apply, v120]
  have h3 : (i 3).val < 128 := (i 3).isLt
  have h5 : (i 5).val < 192 := (i 5).isLt
  show (if 2 ≤ ((i 3).val * 192 + (i 5).val) / 192 + ((i 3).val * 192 + (i 5).val) / 64 % 3 then 1#1 else 0#1) = _
  by_cases h : 128 ≤ 64 * (i 3).val + (i 5).val
  · rw [if_pos h, if_pos (by omega)]
  · rw [if_neg h, if_neg (by omega)]

/-- A fold of maxima from minus infinity. -/
theorem fold_max (f : Fin 192 → EReal) : Finset.fold max (Ideal.ofBits FTy.f32 0xFF800000#32) f Finset.univ = Finset.univ.sup f := by
  rw [show Ideal.ofBits FTy.f32 0xFF800000#32 = ⊥ by simp [Ideal.ofBits, Ideal.ieee]]; rfl

section

variable {a : Args} {x0 : (⟨S2x8192x1024, .f32⟩ : BufTy).Contents (Elt Ideal)} {x1 : (⟨S1x1024, .f32⟩ : BufTy).Contents (Elt Ideal)}
  {x2 : (⟨S1x1024x7424, .f32⟩ : BufTy).Contents (Elt Ideal)} {x3 : (⟨S1x2048, .f32⟩ : BufTy).Contents (Elt Ideal)}
  {x4 : (⟨S1x16, .f32⟩ : BufTy).Contents (Elt Ideal)} {x5 : (⟨S1x8x128x128, .f32⟩ : BufTy).Contents (Elt Ideal)}
  {x6 : (⟨S1x8x128, .f32⟩ : BufTy).Contents (Elt Ideal)} {x7 x8 : (⟨S1x1024, .f32⟩ : BufTy).Contents (Elt Ideal)}
  {x9 x10 x11 : (⟨S1x1024x1024, .f32⟩ : BufTy).Contents (Elt Ideal)} {x12 : (⟨S1024, .f32⟩ : BufTy).Contents (Elt Ideal)}
  (H : Ref a x0 x1 x2 x3 x4 x5 x6 x7 x8 x9 x10 x11 x12)
include H

theorem v93 (i : S2x128x64x2x8x64.Idx) : val_main_v93 (F := Ideal) x0 x1 x2 i =
    Q a (i 0).val (64 * (i 1).val + (i 2).val) (8 * (i 3).val + (i 4).val) (i 5).val := by
  have h1 : (i 1).val < 128 := (i 1).isLt
  have h2 : (i 2).val < 64 := (i 2).isLt
  have h3 : (i 3).val < 2 := (i 3).isLt
  have h4 : (i 4).val < 8 := (i 4).isLt
  unfold val_main_v93
  exact (shapeCast_apply _ _ i (ix4 (i 0) ⟨64 * (i 1).val + (i 2).val, by omega⟩ ⟨8 * (i 3).val + (i 4).val, by omega⟩ (i 5)) (by
    rewrite [Shape.rowMajor_val_four, Shape.rowMajor_val_six]
    show (((i 0).val * 8192 + (64 * (i 1).val + (i 2).val)) * 16 + (8 * (i 3).val + (i 4).val)) * 64 + (i 5).val =
      (((((i 0).val * 128 + (i 1).val) * 64 + (i 2).val) * 2 + (i 3).val) * 8 + (i 4).val) * 64 + (i 5).val
    omega)).trans (RefA.v57 H _)

theorem v94 (i : S2x128x64x2x64.Idx) : val_main_v94 (F := Ideal) x0 x1 x2 i =
    K a (i 0).val (64 * (i 1).val + (i 2).val) (i 3).val (i 4).val := by
  rw [val_main_v94_apply, RefA.v90 H]
  have h0 : (i 0).val < 2 := (i 0).isLt
  have h1 : (i 1).val < 128 := (i 1).isLt
  have h2 : (i 2).val < 64 := (i 2).isLt
  have h3 : (i 3).val < 2 := (i 3).isLt
  have h4 : (i 4).val < 64 := (i 4).isLt
  have e0 : (((((i 0).val * 128 + (i 1).val) * 64 + (i 2).val) * 2 + (i 3).val) * 64 + (i 4).val) / 1048576 = (i 0).val := by omega
  have e1 : (((((i 0).val * 128 + (i 1).val) * 64 + (i 2).val) * 2 + (i 3).val) * 64 + (i 4).val) / 128 % 8192 = 64 * (i 1).val + (i 2).val := by omega
  have e2 : (((((i 0).val * 128 + (i 1).val) * 64 + (i 2).val) * 2 + (i 3).val) * 64 + (i 4).val) / 64 % 2 = (i 3).val := by omega
  have e3 : (((((i 0).val * 128 + (i 1).val) * 64 + (i 2).val) * 2 + (i 3).val) * 64 + (i 4).val) % 64 = (i 4).val := by omega
  dsimp only
  rw [e0, e1, e2, e3]

theorem v96 (i : S2x128x64x2x64.Idx) : val_main_v96 (F := Ideal) x0 x1 x2 i =
    V a (i 0).val (64 * (i 1).val + (i 2).val) (i 3).val (i 4).val := by
  rw [val_main_v96_apply, RefA.v91 H]
  have h0 : (i 0).val < 2 := (i 0).isLt
  have h1 : (i 1).val < 128 := (i 1).isLt
  have h2 : (i 2).val < 64 := (i 2).isLt
  have h3 : (i 3).val < 2 := (i 3).isLt
  have h4 : (i 4).val < 64 := (i 4).isLt
  have e0 : (((((i 0).val * 128 + (i 1).val) * 64 + (i 2).val) * 2 + (i 3).val) * 64 + (i 4).val) / 1048576 = (i 0).val := by omega
  have e1 : (((((i 0).val * 128 + (i 1).val) * 64 + (i 2).val) * 2 + (i 3).val) * 64 + (i 4).val) / 128 % 8192 = 64 * (i 1).val + (i 2).val := by omega
  have e2 : (((((i 0).val * 128 + (i 1).val) * 64 + (i 2).val) * 2 + (i 3).val) * 64 + (i 4).val) / 64 % 2 = (i 3).val := by omega
  have e3 : (((((i 0).val * 128 + (i 1).val) * 64 + (i 2).val) * 2 + (i 3).val) * 64 + (i 4).val) % 64 = (i 4).val := by omega
  dsimp only
  rw [e0, e1, e2, e3]

omit H in
/-- The padding's word is zero. -/
theorem word_zero : FloatOps.sitofp (F := Ideal) FTy.f32 0#32 = 0 := by
  show (((0#32 : BitVec 32).toInt : ℝ) : EReal) = 0
  simp

omit H in
/-- Two chunks of a value in front of 128 chunks. -/
theorem pad_of (f : ℕ → ℕ → ℕ → ℕ → EReal) (x : (⟨S2x128x64x2x64, .f32⟩ : BufTy).Contents (Elt Ideal))
    (v : (⟨S_, .f32⟩ : BufTy).Contents (Elt Ideal)) (hv : ∀ i, v i = 0)
    (hx : ∀ i, x i = f (i 0).val (64 * (i 1).val + (i 2).val) (i 3).val (i 4).val) (i : S2x130x64x2x64.Idx) :
    pad S2x130x64x2x64 ![0, 2, 0, 0, 0] ![0, 0, 0, 0, 0] ![0, 0, 0, 0, 0] x v pads_S2x128x64x2x64_S2x130x64x2x64_000_200_000_000_000 h_S_ i =
      if 128 ≤ 64 * (i 1).val + (i 2).val then f (i 0).val (64 * (i 1).val + (i 2).val - 128) (i 3).val (i 4).val else 0 := by
  have h1 : (i 1).val < 130 := (i 1).isLt
  have h2 : (i 2).val < 64 := (i 2).isLt
  by_cases h : 2 ≤ (i 1).val
  · rw [if_pos (by omega), pad_apply_of_inside _ _ _ x v _ _ i (ix5 (i 0) ⟨(i 1).val - 2, by omega⟩ (i 2) (i 3) (i 4)) (fun b => by
      match b with
      | ⟨0, _⟩ => show (i 0).val = 0 + (i 0).val * 1; omega
      | ⟨1, _⟩ => show (i 1).val = 2 + ((i 1).val - 2) * 1; omega
      | ⟨2, _⟩ => show (i 2).val = 0 + (i 2).val * 1; omega
      | ⟨3, _⟩ => show (i 3).val = 0 + (i 3).val * 1; omega
      | ⟨4, _⟩ => show (i 4).val = 0 + (i 4).val * 1; omega), hx]
    show f (i 0).val (64 * ((i 1).val - 2) + (i 2).val) (i 3).val (i 4).val = _
    rw [show 64 * ((i 1).val - 2) + (i 2).val = 64 * (i 1).val + (i 2).val - 128 by omega]
  · rw [if_neg (by omega), pad_apply_of_not_inside _ _ _ x v _ _ i 1 (fun hh => h hh.1), hv]

theorem v95 (i : S2x130x64x2x64.Idx) : val_main_v95 (F := Ideal) x0 x1 x2 i =
    KH a (i 0).val (64 * (i 1).val + (i 2).val) (i 3).val (i 4).val :=
  pad_of (K a) _ _ (fun i => by rw [val_main_call0_v0_apply, val_main_c_apply]; exact word_zero) (v94 H) i

theorem v97 (i : S2x130x64x2x64.Idx) : val_main_v97 (F := Ideal) x0 x1 x2 i =
    VH a (i 0).val (64 * (i 1).val + (i 2).val) (i 3).val (i 4).val :=
  pad_of (V a) _ _ (fun i => by rw [val_main_call1_v0_apply, val_main_c_8_apply]; exact word_zero) (v96 H) i

omit H in
/-- Three shifted slices joined are the window of 192. -/
theorem window_of (f : ℕ → ℕ → ℕ → ℕ → EReal) (y0 y1 y2 : (⟨S2x128x64x2x64, .f32⟩ : BufTy).Contents (Elt Ideal))
    (h0 : ∀ i, y0 i = f (i 0).val (64 * (i 1).val + (i 2).val) (i 3).val (i 4).val)
    (h1 : ∀ i, y1 i = f (i 0).val (64 * (1 + (i 1).val) + (i 2).val) (i 3).val (i 4).val)
    (h2 : ∀ i, y2 i = f (i 0).val (64 * (2 + (i 1).val) + (i 2).val) (i 3).val (i 4).val) (i : S2x128x192x2x64.Idx) :
    concatenate S2x128x192x2x64 2 [⟨S2x128x64x2x64, y0⟩, ⟨S2x128x64x2x64, y1⟩, ⟨S2x128x64x2x64, y2⟩]
        concatenates_S2x128x64x2x64_S2x128x64x2x64_S2x128x64x2x64_S2x128x192x2x64_d2 i =
      f (i 0).val (64 * (i 1).val + (i 2).val) (i 3).val (i 4).val := by
  have hi : (i 2).val < 192 := (i 2).isLt
  by_cases hA : (i 2).val < 64
  · rw [concatenate_apply_piece 2 _ _ i 0 (by show 0 < 3; decide) S2x128x64x2x64 y0 rfl rfl 0 rfl
      (ix5 (i 0) (i 1) ⟨(i 2).val, hA⟩ (i 3) (i 4)) (fun b hb => by
        match b with | ⟨0, _⟩ => rfl | ⟨1, _⟩ => rfl | ⟨2, _⟩ => exact absurd rfl hb | ⟨3, _⟩ => rfl | ⟨4, _⟩ => rfl) (Nat.zero_add _), h0]
  · by_cases hB : (i 2).val < 128
    · rw [concatenate_apply_piece 2 _ _ i 1 (by show 1 < 3; decide) S2x128x64x2x64 y1 rfl rfl 64 rfl
        (ix5 (i 0) (i 1) ⟨(i 2).val - 64, by omega⟩ (i 3) (i 4)) (fun b hb => by
          match b with | ⟨0, _⟩ => rfl | ⟨1, _⟩ => rfl | ⟨2, _⟩ => exact absurd rfl hb | ⟨3, _⟩ => rfl | ⟨4, _⟩ => rfl)
          (by show 64 + ((i 2).val - 64) = (i 2).val; omega), h1]
      show f _ (64 * (1 + (i 1).val) + ((i 2).val - 64)) _ _ = _
      congr 1; omega
    · rw [concatenate_apply_piece 2 _ _ i 2 (by show 2 < 3; decide) S2x128x64x2x64 y2 rfl rfl 128 rfl
        (ix5 (i 0) (i 1) ⟨(i 2).val - 128, by omega⟩ (i 3) (i 4)) (fun b hb => by
          match b with | ⟨0, _⟩ => rfl | ⟨1, _⟩ => rfl | ⟨2, _⟩ => exact absurd rfl hb | ⟨3, _⟩ => rfl | ⟨4, _⟩ => rfl)
          (by show 128 + ((i 2).val - 128) = (i 2).val; omega), h2]
      show f _ (64 * (2 + (i 1).val) + ((i 2).val - 128)) _ _ = _
      congr 1; omega

theorem v101 (i : S2x128x192x2x64.Idx) : val_main_v101 (F := Ideal) x0 x1 x2 i =
    KH a (i 0).val (64 * (i 1).val + (i 2).val) (i 3).val (i 4).val :=
  window_of (KH a) _ _ _ (fun i => by rw [val_main_v98_apply, v95 H]) (fun i => by rw [val_main_v99_apply, v95 H])
    (fun i => by rw [val_main_v100_apply, v95 H]) i

theorem v105 (i : S2x128x192x2x64.Idx) : val_main_v105 (F := Ideal) x0 x1 x2 i =
    VH a (i 0).val (64 * (i 1).val + (i 2).val) (i 3).val (i 4).val :=
  window_of (VH a) _ _ _ (fun i => by rw [val_main_v102_apply, v97 H]) (fun i => by rw [val_main_v103_apply, v97 H])
    (fun i => by rw [val_main_v104_apply, v97 H]) i

/-! ### The softmax -/

theorem v124 (i : S2x2x8x128x64x192.Idx) : val_main_v124 (F := Ideal) x0 x1 x2 i =
    SC a (i 0).val (64 * (i 3).val + (i 4).val) (8 * (i 1).val + (i 2).val) (i 5).val := by
  have h2 : (i 2).val < 8 := (i 2).isLt
  have h4 : (i 4).val < 64 := (i 4).isLt
  rw [val_main_v124_apply, mask, val_main_v109_apply, val_main_v107_apply, val_main_v106_apply, val_main_v108_apply, val_main_cst_9_apply,
    val_main_call2_v2_apply, val_main_call2_v0_apply, val_main_cst_12_apply]
  simp only [v101 H, v93 H]
  unfold SC
  rw [show (64 * (i 3).val + (i 4).val) / 64 = (i 3).val by omega, show (8 * (i 1).val + (i 2).val) / 8 = (i 1).val by omega]
  by_cases h : 128 ≤ 64 * (i 3).val + (i 5).val
  · rw [if_pos h, if_pos h]; rfl
  · rw [if_neg h, if_neg h]
    show Ideal.ofBits FTy.f32 0xFF800000#32 = ⊥
    simp [Ideal.ofBits, Ideal.ieee]

theorem v126 (i : S2x2x8x128x64x1.Idx) : val_main_v129 (F := Ideal) x4 i = a.sk (8 * (i 1).val + (i 2).val) := by
  have h1 : (i 1).val < 2 := (i 1).isLt
  have h2 : (i 2).val < 8 := (i 2).isLt
  rw [val_main_v129_apply, val_main_v126_apply, val_main_v125_apply, val_main_v92_apply, H.h4]
  refine congrArg a.sk ?_
  show ((i 1).val * 8 + (i 2).val) % 16 = _
  omega

theorem v127 (i : S2x2x8x128x64.Idx) : val_main_v127 (F := Ideal) x0 x1 x2 i =
    Finset.univ.sup fun k : Fin 192 => SC a (i 0).val (64 * (i 3).val + (i 4).val) (8 * (i 1).val + (i 2).val) k := by
  have e : (fun k : Fin 192 => SC a (i 0).val (64 * (i 3).val + (i 4).val) (8 * (i 1).val + (i 2).val) k) =
      fun k : Fin 192 => val_main_v124 (F := Ideal) x0 x1 x2 (ix6 (i 0) (i 1) (i 2) (i 3) (i 4) k) := funext fun k => by rw [v124 H]
  rw [e]
  unfold val_main_v127
  generalize val_main_v124 (F := Ideal) x0 x1 x2 = y
  have hr : S2x2x8x128x64x192.Reduces [5] S2x2x8x128x64 := by decide
  unfold val_main_cst_13
  rw [hostReduce_maximumf_eq_multiReduction (F := Ideal) y _ _ _ hr (by decide) (by decide), Ideal.multiReduction_maximumf_single]
  refine (congrArg (fun f => Finset.fold max _ f Finset.univ) (?_ : _ = fun k : Fin 192 => y (ix6 (i 0) (i 1) (i 2) (i 3) (i 4) k))).trans (fold_max _)
  exact funext fun k => congrArg y (funext fun b => Fin.ext (by
    match b with | ⟨0, _⟩ => rfl | ⟨1, _⟩ => rfl | ⟨2, _⟩ => rfl | ⟨3, _⟩ => rfl | ⟨4, _⟩ => rfl | ⟨5, _⟩ => rfl))

theorem v130 (i : S2x2x8x128x64x1.Idx) : val_main_v130 (F := Ideal) x0 x1 x2 x4 i =
    mx a (i 0).val (64 * (i 3).val + (i 4).val) (8 * (i 1).val + (i 2).val) := by
  rw [val_main_v130_apply, val_main_v128_apply, v127 H, v126 H]
  rfl

theorem v133 (i : S2x2x8x128x64x192.Idx) : val_main_v133 (F := Ideal) x0 x1 x2 x4 i =
    Ideal.exp (SC a (i 0).val (64 * (i 3).val + (i 4).val) (8 * (i 1).val + (i 2).val) (i 5).val -
      mx a (i 0).val (64 * (i 3).val + (i 4).val) (8 * (i 1).val + (i 2).val)) := by
  rw [val_main_v133_apply, val_main_v132_apply, val_main_v131_apply, v124 H, v130 H]
  rfl

theorem v139 (i : S2x2x8x128x64x1.Idx) : val_main_v139 (F := Ideal) x0 x1 x2 x4 i =
    den a (i 0).val (64 * (i 3).val + (i 4).val) (8 * (i 1).val + (i 2).val) := by
  have e : val_main_v136 (F := Ideal) x4 = val_main_v129 (F := Ideal) x4 := rfl
  rw [val_main_v139_apply, val_main_v135_apply, val_main_v134_apply, val_main_v138_apply, val_main_v137_apply, v130 H, e, v126 H,
    val_main_cst_14_apply]
  simp only [v133 H, Ideal.ofBits_def, Ideal.ofBits_zero_f32, zero_add]
  rfl

theorem v141 (i : S2x2x8x128x64x192.Idx) : val_main_v141 (F := Ideal) x0 x1 x2 x4 i =
    Ideal.div (Ideal.exp (SC a (i 0).val (64 * (i 3).val + (i 4).val) (8 * (i 1).val + (i 2).val) (i 5).val -
      mx a (i 0).val (64 * (i 3).val + (i 4).val) (8 * (i 1).val + (i 2).val)))
      (den a (i 0).val (64 * (i 3).val + (i 4).val) (8 * (i 1).val + (i 2).val)) := by
  rw [val_main_v141_apply, val_main_v140_apply, v133 H, v139 H]
  rfl

theorem v143 (i : S2x128x64x2x8x64.Idx) : val_main_v143 (F := Ideal) x0 x1 x2 x4 i =
    att a (i 0).val (64 * (i 1).val + (i 2).val) (8 * (i 3).val + (i 4).val) (i 5).val := by
  have h2 : (i 2).val < 64 := (i 2).isLt
  have h4 : (i 4).val < 8 := (i 4).isLt
  rw [val_main_v143_apply, val_main_v142_apply]
  simp only [v105 H, v141 H]
  unfold att
  rw [show (64 * (i 1).val + (i 2).val) / 64 = (i 1).val by omega, show (8 * (i 3).val + (i 4).val) / 8 = (i 3).val by omega]

theorem v144 (i : S2x8192x1024.Idx) : val_main_v144 (F := Ideal) x0 x1 x2 x4 i =
    att a (i 0).val (i 1).val ((i 2).val / 64) ((i 2).val % 64) := by
  have h1 : (i 1).val < 8192 := (i 1).isLt
  have h2 : (i 2).val < 1024 := (i 2).isLt
  unfold val_main_v144
  refine (shapeCast_apply _ _ i (ix6 (i 0) ⟨(i 1).val / 64, by omega⟩ ⟨(i 1).val % 64, by omega⟩ ⟨(i 2).val / 512, by omega⟩
    ⟨(i 2).val / 64 % 8, by omega⟩ ⟨(i 2).val % 64, by omega⟩) (by
    rewrite [Shape.rowMajor_val_six, Shape.rowMajor_val_three]
    show (((((i 0).val * 128 + (i 1).val / 64) * 64 + (i 1).val % 64) * 2 + (i 2).val / 512) * 8 + (i 2).val / 64 % 8) * 64 + (i 2).val % 64 =
      ((i 0).val * 8192 + (i 1).val) * 1024 + (i 2).val
    omega)).trans ((v143 H _).trans ?_)
  show att a _ (64 * ((i 1).val / 64) + (i 1).val % 64) (8 * ((i 2).val / 512) + (i 2).val / 64 % 8) _ = _
  congr 1 <;> omega

end

end Cert.RefB

end
-- ==== Proof.RefC.lean ====
/- The reference read at an index from the attention output on: the gates, the gelus, the layer norm, the spatial mixing, the
   output projections and the last norm. -/
module

public import proofs.«01_k».proof.Proof.RefB

@[expose] public section

set_option maxRecDepth 16384

noncomputable section

namespace Cert.RefC

open Idealize.ShloMosaic Idealize.ShloMosaic.TcCoe Idealize.SL.Sem
open Idealize.ShloMosaic.ValueIdx Cert.ReferenceIdeal Cert.ReferenceIdeal.Gen Cert.ReferenceIdeal.Read Cert.Spec Cert.RefA Cert.RefB

theorem one_f32 : Ideal.ofBits FTy.f32 0x3F800000#32 = 1 := Ideal.ofBits_one_f32

/-- A position's chunk of 64, as the floor division computes it. -/
theorem chunk_of : ∀ n : Fin 128, val_main_v191 (F := Ideal) (ix1 n) = BitVec.ofNat 32 (n.val / 64) := by
  intro n
  simp only [val_main_v191_apply, val_main_call4_v11_apply, val_main_call4_v6_apply, val_main_call4_v5_apply, val_main_call4_v10_apply,
    val_main_call4_v8_apply, val_main_call4_v7_apply, val_main_call4_v0_apply, val_main_c_24_apply, val_main_call4_v9_apply,
    val_main_call4_c_apply, val_main_call4_v13_apply, val_main_call4_v12_apply, val_main_call4_c_0_apply, val_main_call4_v2_apply,
    val_main_call4_v1_apply, val_main_v190_apply]
  unfold val_main_call4_v3 val_main_call4_v4
  revert n
  decide +kernel

theorem le_word : ∀ p q : Fin 2, IntOp.cmpi .sle (BitVec.ofNat 32 p.val) (BitVec.ofNat 32 q.val) = if p.val ≤ q.val then 1#1 else 0#1 := by
  decide +kernel

theorem v196 (i : S128x128.Idx) : val_main_v196 (F := Ideal) i = if (i 1).val / 64 ≤ (i 0).val / 64 then 1#1 else 0#1 := by
  have h0 : (i 0).val < 128 := (i 0).isLt
  have h1 : (i 1).val < 128 := (i 1).isLt
  rw [val_main_v196_apply, val_main_v194_apply, val_main_v192_apply, val_main_v195_apply, val_main_v193_apply]
  have e0 : idx_main_v192 (idx_main_v194 i) = ix1 (i 1) := funext fun b => by match b with | ⟨0, _⟩ => rfl
  have e1 : idx_main_v193 (idx_main_v195 i) = ix1 (i 0) := funext fun b => by match b with | ⟨0, _⟩ => rfl
  rw [e0, e1]
  refine (congrArg₂ (fun u v : BitVec 32 => IntOp.cmpi .sle u v) (chunk_of (i 1)) (chunk_of (i 0))).trans ?_
  exact le_word ⟨(i 1).val / 64, by omega⟩ ⟨(i 0).val / 64, by omega⟩

section

variable {a : Args} {x0 : (⟨S2x8192x1024, .f32⟩ : BufTy).Contents (Elt Ideal)} {x1 : (⟨S1x1024, .f32⟩ : BufTy).Contents (Elt Ideal)}
  {x2 : (⟨S1x1024x7424, .f32⟩ : BufTy).Contents (Elt Ideal)} {x3 : (⟨S1x2048, .f32⟩ : BufTy).Contents (Elt Ideal)}
  {x4 : (⟨S1x16, .f32⟩ : BufTy).Contents (Elt Ideal)} {x5 : (⟨S1x8x128x128, .f32⟩ : BufTy).Contents (Elt Ideal)}
  {x6 : (⟨S1x8x128, .f32⟩ : BufTy).Contents (Elt Ideal)} {x7 x8 : (⟨S1x1024, .f32⟩ : BufTy).Contents (Elt Ideal)}
  {x9 x10 x11 : (⟨S1x1024x1024, .f32⟩ : BufTy).Contents (Elt Ideal)} {x12 : (⟨S1024, .f32⟩ : BufTy).Contents (Elt Ideal)}
  (H : Ref a x0 x1 x2 x3 x4 x5 x6 x7 x8 x9 x10 x11 x12)
include H

theorem v145 (i : S2x8192x1024.Idx) : val_main_v145 (F := Ideal) x0 x1 x2 i = silu (PJ a (i 0).val (i 1).val (1280 + (i 2).val)) := by
  simp only [val_main_v145_apply, val_main_call3_v5_apply, val_main_call3_v4_apply, val_main_call3_cst_0_apply, val_main_call3_v3_apply,
    val_main_call3_v2_apply, val_main_call3_cst_apply, val_main_call3_v1_apply, val_main_call3_v0_apply, v20 H, Ideal.ofBits_def, one_f32]
  rfl

theorem v146 (i : S2x8192x1024.Idx) : val_main_v146 (F := Ideal) x0 x1 x2 x4 i = AIN a (i 0).val (i 1).val (i 2).val := by
  rw [val_main_v146_apply, v144 H, v145 H]
  rfl

theorem v208 (i : S2x8192x1024.Idx) : val_main_v208 (F := Ideal) x0 x1 x2 i = silu (PJ a (i 0).val (i 1).val (4352 + (i 2).val)) := by
  simp only [val_main_v208_apply, val_main_call6_v5_apply, val_main_call6_v4_apply, val_main_call6_cst_0_apply, val_main_call6_v3_apply,
    val_main_call6_v2_apply, val_main_call6_cst_apply, val_main_call6_v1_apply, val_main_call6_v0_apply, v23 H, Ideal.ofBits_def, one_f32]
  rfl

omit H in
theorem gelu_of (z : EReal) : half * z * Ideal.erfc (-z * rs2) = gelu z := by
  rw [neg_mul, Ideal.erfc_neg]
  rfl

theorem v155 (i : S2x8192x1024.Idx) : val_main_v155 (F := Ideal) x0 x1 x2 i = gelu (PJ a (i 0).val (i 1).val (2304 + (i 2).val)) := by
  rw [val_main_v155_apply, val_main_v150_apply, val_main_v149_apply, val_main_cst_15_apply, val_main_v154_apply, val_main_v153_apply,
    val_main_v151_apply, val_main_v152_apply, val_main_cst_16_apply, v21 H]
  exact gelu_of _

theorem v162 (i : S2x8192x1024.Idx) : val_main_v162 (F := Ideal) x0 x1 x2 i = gelu (PJ a (i 0).val (i 1).val (3328 + (i 2).val)) := by
  rw [val_main_v162_apply, val_main_v157_apply, val_main_v156_apply, val_main_cst_17_apply, val_main_v161_apply, val_main_v160_apply,
    val_main_v158_apply, val_main_v159_apply, val_main_cst_18_apply, v22 H]
  exact gelu_of _

/-- The row mean of the gelu. -/
theorem v170 (i : S2x8192x1.Idx) : val_main_v170 (F := Ideal) x0 x1 x2 i =
    Ideal.div (∑ e : Fin 1024, gelu (PJ a (i 0).val (i 1).val (3328 + e.val))) cN := by
  rw [val_main_v170_apply, val_main_v168_apply, val_main_v167_apply, val_main_v169_apply, val_main_cst_20_apply, val_main_cst_19_apply]
  simp only [v162 H, Ideal.ofBits_def, Ideal.ofBits_zero_f32, zero_add]
  rfl

theorem v172 (i : S2x8192x1024.Idx) : val_main_v172 (F := Ideal) x0 x1 x2 i =
    gelu (PJ a (i 0).val (i 1).val (3328 + (i 2).val)) -
      Ideal.div (∑ e : Fin 1024, gelu (PJ a (i 0).val (i 1).val (3328 + e.val))) cN := by
  rw [val_main_v172_apply, val_main_v171_apply, v162 H, v170 H]
  rfl

theorem v180 (i : S2x8192x1.Idx) : val_main_v180 (F := Ideal) x0 x1 x2 i =
    Ideal.rsqrt (Ideal.div (∑ e : Fin 1024, (gelu (PJ a (i 0).val (i 1).val (3328 + e.val)) -
        Ideal.div (∑ e : Fin 1024, gelu (PJ a (i 0).val (i 1).val (3328 + e.val))) cN) *
      (gelu (PJ a (i 0).val (i 1).val (3328 + e.val)) -
        Ideal.div (∑ e : Fin 1024, gelu (PJ a (i 0).val (i 1).val (3328 + e.val))) cN)) cN + eps) := by
  rw [val_main_v180_apply, val_main_v179_apply, val_main_v177_apply, val_main_v175_apply, val_main_v174_apply, val_main_v176_apply,
    val_main_cst_22_apply, val_main_cst_21_apply, val_main_v178_apply, val_main_cst_23_apply]
  simp only [val_main_v173_apply, v172 H, Ideal.ofBits_def, Ideal.ofBits_zero_f32, zero_add]
  rfl

theorem v188 (i : S2x8192x1024.Idx) : val_main_v188 (F := Ideal) x0 x1 x2 x7 x8 i = VN a (i 0).val (i 1).val (i 2).val := by
  have h2 : (i 2).val < 1024 := (i 2).isLt
  rw [val_main_v188_apply, val_main_v185_apply, val_main_v182_apply, v172 H, val_main_v181_apply, v180 H, val_main_v184_apply,
    val_main_v183_apply, val_main_v165_apply, val_main_v187_apply, val_main_v186_apply, val_main_v166_apply, H.h7, H.h8]
  have e : (i 2).val % 1024 = (i 2).val := by omega
  show _ * a.lng ((i 2).val % 1024) + a.lnb ((i 2).val % 1024) = _
  rw [e]
  rfl

theorem v189 (i : S2x64x128x8x128.Idx) : val_main_v189 (F := Ideal) x0 x1 x2 x7 x8 i =
    VN a (i 0).val (128 * (i 1).val + (i 2).val) (128 * (i 3).val + (i 4).val) := by
  rw [val_main_v189_apply, v188 H]
  have h0 : (i 0).val < 2 := (i 0).isLt
  have h1 : (i 1).val < 64 := (i 1).isLt
  have h2 : (i 2).val < 128 := (i 2).isLt
  have h3 : (i 3).val < 8 := (i 3).isLt
  have h4 : (i 4).val < 128 := (i 4).isLt
  have e0 : (((((i 0).val * 64 + (i 1).val) * 128 + (i 2).val) * 8 + (i 3).val) * 128 + (i 4).val) / 8388608 = (i 0).val := by omega
  have e1 : (((((i 0).val * 64 + (i 1).val) * 128 + (i 2).val) * 8 + (i 3).val) * 128 + (i 4).val) / 1024 % 8192 = 128 * (i 1).val + (i 2).val := by
    omega
  have e2 : (((((i 0).val * 64 + (i 1).val) * 128 + (i 2).val) * 8 + (i 3).val) * 128 + (i 4).val) % 1024 = 128 * (i 3).val + (i 4).val := by omega
  dsimp only
  rw [e0, e1, e2]

theorem v199 (i : S8x128x128.Idx) : val_main_v199 (F := Ideal) x5 i = wm a (i 0).val (i 1).val (i 2).val := by
  rw [val_main_v199_apply, val_main_call5_v0_apply, val_main_v197_apply, v196, val_main_v163_apply, H.h5, val_main_v198_apply,
    val_main_cst_25_apply]
  have h0 : (i 0).val < 8 := (i 0).isLt
  have h1 : (i 1).val < 128 := (i 1).isLt
  have h2 : (i 2).val < 128 := (i 2).isLt
  have e0 : (((i 0).val * 128 + (i 1).val) * 128 + (i 2).val) / 16384 % 8 = (i 0).val := by omega
  have e1 : (((i 0).val * 128 + (i 1).val) * 128 + (i 2).val) / 128 % 128 = (i 1).val := by omega
  have e2 : (((i 0).val * 128 + (i 1).val) * 128 + (i 2).val) % 128 = (i 2).val := by omega
  dsimp only
  rw [e0, e1, e2]
  unfold wm
  by_cases h : (i 2).val / 64 ≤ (i 1).val / 64
  · rw [if_pos h, if_pos h]; rfl
  · rw [if_neg h, if_neg h]
    exact Ideal.ofBits_zero_f32

theorem v205 (i : S2x64x128x8x128.Idx) : val_main_v205 (F := Ideal) x0 x1 x2 x5 x6 x7 x8 i =
    MX a (i 0).val (128 * (i 1).val + (i 2).val) (128 * (i 3).val + (i 4).val) := by
  have h2 : (i 2).val < 128 := (i 2).isLt
  have h3 : (i 3).val < 8 := (i 3).isLt
  have h4 : (i 4).val < 128 := (i 4).isLt
  rw [val_main_v205_apply, val_main_v201_apply, val_main_v200_apply, val_main_v204_apply, val_main_v203_apply, val_main_v202_apply,
    val_main_v164_apply, H.h6]
  simp only [v189 H, v199 H]
  unfold MX
  rw [show (128 * (i 3).val + (i 4).val) / 128 = (i 3).val by omega, show (128 * (i 1).val + (i 2).val) % 128 = (i 2).val by omega,
    show (128 * (i 1).val + (i 2).val) / 128 = (i 1).val by omega]
  refine congrArg₂ (fun u v : EReal => u + v) (Finset.sum_congr rfl fun k _ => mul_comm _ _) (congrArg₂ a.sgb ?_ ?_)
  · show ((i 3).val * 128 + (i 2).val) / 128 % 8 = _; omega
  · show ((i 3).val * 128 + (i 2).val) % 128 = _; omega

theorem v206 (i : S2x8192x1024.Idx) : val_main_v206 (F := Ideal) x0 x1 x2 x5 x6 x7 x8 i = MX a (i 0).val (i 1).val (i 2).val := by
  rw [val_main_v206_apply, v205 H]
  have h0 : (i 0).val < 2 := (i 0).isLt
  have h1 : (i 1).val < 8192 := (i 1).isLt
  have h2 : (i 2).val < 1024 := (i 2).isLt
  have e0 : (((i 0).val * 8192 + (i 1).val) * 1024 + (i 2).val) / 8388608 = (i 0).val := by omega
  have e1 : 128 * ((((i 0).val * 8192 + (i 1).val) * 1024 + (i 2).val) / 131072 % 64) +
    (((i 0).val * 8192 + (i 1).val) * 1024 + (i 2).val) / 1024 % 128 = (i 1).val := by omega
  have e2 : 128 * ((((i 0).val * 8192 + (i 1).val) * 1024 + (i 2).val) / 128 % 8) +
    (((i 0).val * 8192 + (i 1).val) * 1024 + (i 2).val) % 128 = (i 2).val := by omega
  dsimp only
  rw [e0, e1, e2]

theorem v209 (i : S2x8192x1024.Idx) : val_main_v209 (F := Ideal) x0 x1 x2 x5 x6 x7 x8 i = SIN a (i 0).val (i 1).val (i 2).val := by
  rw [val_main_v209_apply, val_main_v207_apply, v155 H, v206 H, v208 H]
  rfl

theorem v221 (i : S2x8192x2048.Idx) : val_main_v221 (F := Ideal) x0 x1 x2 x3 i = gate a (i 0).val (i 1).val (i 2).val := by
  have h2 : (i 2).val < 2048 := (i 2).isLt
  simp only [val_main_v221_apply, val_main_v220_apply, val_main_cst_27_apply, val_main_v219_apply, val_main_v218_apply, val_main_cst_26_apply,
    val_main_v217_apply, val_main_v216_apply, val_main_v215_apply, v24 H, val_main_v214_apply, val_main_v213_apply, val_main_v212_apply, H.h3,
    Ideal.ofBits_def, one_f32]
  rw [show (i 2).val % 2048 = (i 2).val by omega]
  rfl

theorem v148 (i : S2x8192x1024.Idx) : val_main_v148 (F := Ideal) x0 x1 x2 x4 x9 i =
    ∑ k : Fin 1024, AIN a (i 0).val (i 1).val k * a.wao k (i 2).val := by
  rw [val_main_v148_apply]
  refine Finset.sum_congr rfl fun k _ => ?_
  rw [v146 H, val_main_v147_apply, H.h9]
  have h2 : (i 2).val < 1024 := (i 2).isLt
  have hk := k.isLt
  refine congrArg (_ * ·) (congrArg₂ a.wao ?_ ?_)
  · show (k.val * 1024 + (i 2).val) / 1024 % 1024 = k.val; omega
  · show (k.val * 1024 + (i 2).val) % 1024 = (i 2).val; omega

theorem v211 (i : S2x8192x1024.Idx) : val_main_v211 (F := Ideal) x0 x1 x2 x5 x6 x7 x8 x10 i =
    ∑ k : Fin 1024, SIN a (i 0).val (i 1).val k * a.wso k (i 2).val := by
  rw [val_main_v211_apply]
  refine Finset.sum_congr rfl fun k _ => ?_
  rw [v209 H, val_main_v210_apply, H.h10]
  have h2 : (i 2).val < 1024 := (i 2).isLt
  have hk := k.isLt
  refine congrArg (_ * ·) (congrArg₂ a.wso ?_ ?_)
  · show (k.val * 1024 + (i 2).val) / 1024 % 1024 = k.val; omega
  · show (k.val * 1024 + (i 2).val) % 1024 = (i 2).val; omega

theorem v226 (i : S2x8192x1024.Idx) : val_main_v226 (F := Ideal) x0 x1 x2 x3 x4 x5 x6 x7 x8 x9 x10 i = Y a (i 0).val (i 1).val (i 2).val := by
  rw [val_main_v226_apply, val_main_v224_apply, val_main_v225_apply, val_main_v222_apply, val_main_v223_apply, v221 H, v221 H, v148 H, v211 H]
  rfl

theorem v229 (i : S2x8192x1024.Idx) :
    val_main_v229 (F := Ideal) x0 x1 x2 x3 x4 x5 x6 x7 x8 x9 x10 x11 i = O a (i 0).val (i 1).val (i 2).val := by
  rw [val_main_v229_apply, H.h0, val_main_v228_apply]
  refine congrArg₂ (fun u v : EReal => u + v) rfl (Finset.sum_congr rfl fun k _ => ?_)
  rw [v226 H, val_main_v227_apply, H.h11]
  have h2 : (i 2).val < 1024 := (i 2).isLt
  have hk := k.isLt
  refine congrArg (_ * ·) (congrArg₂ a.wo ?_ ?_)
  · show (k.val * 1024 + (i 2).val) / 1024 % 1024 = k.val; omega
  · show (k.val * 1024 + (i 2).val) % 1024 = (i 2).val; omega

/-- The reference's result is the layer's. -/
theorem v242 (i : S2x8192x1024.Idx) :
    val_main_v242 (F := Ideal) x0 x1 x2 x3 x4 x5 x6 x7 x8 x9 x10 x11 x12 i = OUT a (i 0).val (i 1).val (i 2).val := by
  simp only [val_main_v242_apply, val_main_v239_apply, val_main_v238_apply, val_main_v237_apply, val_main_v236_apply, val_main_v235_apply,
    val_main_cst_30_apply, val_main_v234_apply, val_main_v233_apply, val_main_cst_29_apply, val_main_v232_apply, val_main_v231_apply,
    val_main_cst_28_apply, val_main_v230_apply, v229 H, val_main_v241_apply, val_main_v240_apply, H.h12, Ideal.ofBits_def,
    Ideal.ofBits_zero_f32, zero_add]
  rfl

end

end Cert.RefC

end
-- ==== Proof.RefArgs.lean ====
/- The reference's arguments and rotation tables are the layer's arguments read off the argument arrays. -/
module

public import proofs.«01_k».proof.Proof.Host
public import proofs.«01_k».proof.Proof.RefA

@[expose] public section

set_option maxRecDepth 16384

noncomputable section

namespace Cert.RefArgs

open Idealize.ShloMosaic Idealize.ShloMosaic.TcCoe Idealize.SL.Sem
open Cert.ReferenceIdeal Cert.ReferenceIdeal.Gen Cert.ReferenceIdeal.Read Cert.Spec Cert.RefA Cert.Host

/-- The one coordinate of a unit axis. -/
theorem unit0 (j : Fin 1) : j = 0 := Fin.ext (by omega)

theorem ref (x0 : (⟨S2x8192x1024, .f32⟩ : BufTy).Contents (Elt Ideal)) (x1 : (⟨S1x1024, .f32⟩ : BufTy).Contents (Elt Ideal))
    (x2 : (⟨S1x1024x7424, .f32⟩ : BufTy).Contents (Elt Ideal)) (x3 : (⟨S1x2048, .f32⟩ : BufTy).Contents (Elt Ideal))
    (x4 : (⟨S1x16, .f32⟩ : BufTy).Contents (Elt Ideal)) (x5 : (⟨S1x8x128x128, .f32⟩ : BufTy).Contents (Elt Ideal))
    (x6 : (⟨S1x8x128, .f32⟩ : BufTy).Contents (Elt Ideal)) (x7 x8 : (⟨S1x1024, .f32⟩ : BufTy).Contents (Elt Ideal))
    (x9 x10 x11 : (⟨S1x1024x1024, .f32⟩ : BufTy).Contents (Elt Ideal)) (x12 : (⟨S1024, .f32⟩ : BufTy).Contents (Elt Ideal)) :
    Ref (args x0 x1 x2 x3 x4 x5 x6 x7 x8 x9 x10 x11 x12) x0 x1 x2 x3 x4 x5 x6 x7 x8 x9 x10 x11 x12 where
  h0 i := by
    refine Eq.trans ?_ (rd3_fin (fun b s d => x0 (Idealize.ShloMosaic.ix3 b s d)) _ _ _ (i 0).isLt (i 1).isLt (i 2).isLt).symm
    exact congrArg x0 (funext fun b => by match b with | ⟨0, _⟩ => rfl | ⟨1, _⟩ => rfl | ⟨2, _⟩ => rfl)
  h1 i := by
    refine Eq.trans ?_ (rd1_fin (fun d => x1 (Idealize.ShloMosaic.ix2 0 d)) _ (i 1).isLt).symm
    exact congrArg x1 (funext fun b => by match b with | ⟨0, _⟩ => exact unit0 (i 0) | ⟨1, _⟩ => rfl)
  h2 i := by
    refine Eq.trans ?_ (rd2_fin (fun j n => x2 (Idealize.ShloMosaic.ix3 0 j n)) _ _ (i 1).isLt (i 2).isLt).symm
    exact congrArg x2 (funext fun b => by match b with | ⟨0, _⟩ => exact unit0 (i 0) | ⟨1, _⟩ => rfl | ⟨2, _⟩ => rfl)
  h3 i := by
    refine Eq.trans ?_ (rd1_fin (fun d => x3 (Idealize.ShloMosaic.ix2 0 d)) _ (i 1).isLt).symm
    exact congrArg x3 (funext fun b => by match b with | ⟨0, _⟩ => exact unit0 (i 0) | ⟨1, _⟩ => rfl)
  h4 i := by
    refine Eq.trans ?_ (rd1_fin (fun d => x4 (Idealize.ShloMosaic.ix2 0 d)) _ (i 1).isLt).symm
    exact congrArg x4 (funext fun b => by match b with | ⟨0, _⟩ => exact unit0 (i 0) | ⟨1, _⟩ => rfl)
  h5 i := by
    refine Eq.trans ?_ (rd3_fin (fun g j n => x5 (Idealize.ShloMosaic.ix4 0 g j n)) _ _ _ (i 1).isLt (i 2).isLt (i 3).isLt).symm
    exact congrArg x5 (funext fun b => by match b with | ⟨0, _⟩ => exact unit0 (i 0) | ⟨1, _⟩ => rfl | ⟨2, _⟩ => rfl | ⟨3, _⟩ => rfl)
  h6 i := by
    refine Eq.trans ?_ (rd2_fin (fun j n => x6 (Idealize.ShloMosaic.ix3 0 j n)) _ _ (i 1).isLt (i 2).isLt).symm
    exact congrArg x6 (funext fun b => by match b with | ⟨0, _⟩ => exact unit0 (i 0) | ⟨1, _⟩ => rfl | ⟨2, _⟩ => rfl)
  h7 i := by
    refine Eq.trans ?_ (rd1_fin (fun d => x7 (Idealize.ShloMosaic.ix2 0 d)) _ (i 1).isLt).symm
    exact congrArg x7 (funext fun b => by match b with | ⟨0, _⟩ => exact unit0 (i 0) | ⟨1, _⟩ => rfl)
  h8 i := by
    refine Eq.trans ?_ (rd1_fin (fun d => x8 (Idealize.ShloMosaic.ix2 0 d)) _ (i 1).isLt).symm
    exact congrArg x8 (funext fun b => by match b with | ⟨0, _⟩ => exact unit0 (i 0) | ⟨1, _⟩ => rfl)
  h9 i := by
    refine Eq.trans ?_ (rd2_fin (fun j n => x9 (Idealize.ShloMosaic.ix3 0 j n)) _ _ (i 1).isLt (i 2).isLt).symm
    exact congrArg x9 (funext fun b => by match b with | ⟨0, _⟩ => exact unit0 (i 0) | ⟨1, _⟩ => rfl | ⟨2, _⟩ => rfl)
  h10 i := by
    refine Eq.trans ?_ (rd2_fin (fun j n => x10 (Idealize.ShloMosaic.ix3 0 j n)) _ _ (i 1).isLt (i 2).isLt).symm
    exact congrArg x10 (funext fun b => by match b with | ⟨0, _⟩ => exact unit0 (i 0) | ⟨1, _⟩ => rfl | ⟨2, _⟩ => rfl)
  h11 i := by
    refine Eq.trans ?_ (rd2_fin (fun j n => x11 (Idealize.ShloMosaic.ix3 0 j n)) _ _ (i 1).isLt (i 2).isLt).symm
    exact congrArg x11 (funext fun b => by match b with | ⟨0, _⟩ => exact unit0 (i 0) | ⟨1, _⟩ => rfl | ⟨2, _⟩ => rfl)
  h12 i := by
    refine Eq.trans ?_ (rd1_fin (fun d => x12 (Idealize.ShloMosaic.ix1 d)) _ (i 0).isLt).symm
    exact congrArg x12 (funext fun b => by match b with | ⟨0, _⟩ => rfl)
  hc i := rfl
  hs i := rfl

end Cert.RefArgs

end
-- ==== Proof.FiniteArgs.lean ====
/- The precondition at the layer's arguments: the input, the first norm's gain and the projection are real, a sink is below
   plus infinity; the rotation tables are real. -/
module

public import proofs.«01_k».proof.Proof.Host
public import proofs.«01_k».proof.Proof.Alg
public import proofs.«01_k».proof.Pre_finite_scores

@[expose] public section

set_option maxRecDepth 16384

noncomputable section

namespace Cert.FiniteArgs

open Idealize.ShloMosaic Idealize.ShloMosaic.TcCoe Idealize.SL.Sem
open Cert.KernelIdeal Cert.Spec Cert.Host

theorem two_real : Ideal.ofBits .f32 0x40000000#32 = ((2 : ℝ) : EReal) := by
  simp [Ideal.ofBits, Ideal.ieee, -EReal.coe_mul, -EReal.coe_pow]; try norm_num
theorem sixteen_real : Ideal.ofBits .f32 0x41800000#32 = ((16 : ℝ) : EReal) := by
  simp [Ideal.ofBits, Ideal.ieee, -EReal.coe_mul, -EReal.coe_pow]; try norm_num
theorem base_real : ∃ r : ℝ, Ideal.ofBits .f32 0x48F42400#32 = r := by
  simp [Ideal.ofBits, Ideal.ieee, -EReal.coe_mul, -EReal.coe_pow]
theorem top_bits : Ideal.ofBits .f32 0x7F800000#32 = ⊤ := by
  simp [Ideal.ofBits, Ideal.ieee]

theorem ang_real (s l : ℕ) : IsR (ang s l) := by
  obtain ⟨b, hb⟩ := base_real
  show IsR ((((BitVec.ofNat 32 s).toInt : ℝ) : EReal) * Ideal.pow (Ideal.ofBits .f32 0x48F42400#32)
    (Ideal.div (-((((BitVec.ofNat 32 l).toInt : ℝ) : EReal) * Ideal.ofBits .f32 0x40000000#32)) (Ideal.ofBits .f32 0x41800000#32)))
  refine IsR.mul ⟨_, rfl⟩ ?_
  have hd : Ideal.div (-((((BitVec.ofNat 32 l).toInt : ℝ) : EReal) * ((2 : ℝ) : EReal))) ((16 : ℝ) : EReal)
      = ((-(((BitVec.ofNat 32 l).toInt : ℝ) * 2) * (16 : ℝ)⁻¹ : ℝ) : EReal) := by
    unfold Ideal.div
    rw [if_neg (by norm_num), EReal.coe_mul, EReal.coe_inv, EReal.coe_neg, EReal.coe_mul]
  rw [two_real, sixteen_real, hb, hd]
  exact ⟨_, rfl⟩

theorem cos_real {v : EReal} (h : IsR v) : IsR (FloatOps.hostUnary (F := Ideal) (φ := .f32) .cos v) := by
  obtain ⟨r, rfl⟩ := h; exact ⟨Real.cos r, rfl⟩
theorem sin_real {v : EReal} (h : IsR v) : IsR (FloatOps.hostUnary (F := Ideal) (φ := .f32) .sin v) := by
  obtain ⟨r, rfl⟩ := h; exact ⟨Real.sin r, rfl⟩

theorem of_lt_bit {v : EReal} (h : Ideal.cmp .olt v (Ideal.ofBits .f32 0x7F800000#32) = 1#1) : v < ⊤ := by
  rw [top_bits] at h
  by_contra hn
  have : Ideal.cmp .olt v ⊤ = 0#1 := by unfold Ideal.cmp; rw [decide_eq_false hn]; rfl
  rw [this] at h
  exact absurd h (by decide)
theorem of_gt_bit {v : EReal} (h : Ideal.cmp .ogt v (-Ideal.ofBits .f32 0x7F800000#32) = 1#1) : ⊥ < v := by
  rw [top_bits, EReal.neg_top] at h
  by_contra hn
  have : Ideal.cmp .ogt v ⊥ = 0#1 := by unfold Ideal.cmp; rw [decide_eq_false hn]; rfl
  rw [this] at h
  exact absurd h (by decide)
theorem and_bit : ∀ {u v : BitVec 1}, u &&& v = 1#1 → u = 1#1 ∧ v = 1#1 := by decide

theorem real_of_bits {v : EReal}
    (h : Ideal.cmp .olt v (Ideal.ofBits .f32 0x7F800000#32) &&& Ideal.cmp .ogt v (-Ideal.ofBits .f32 0x7F800000#32) = 1#1) : IsR v :=
  IsR.of_lt (of_lt_bit (and_bit h).1) (of_gt_bit (and_bit h).2)

theorem rd1_all {P : EReal → Prop} (h0 : P 0) {n : ℕ} {f : Fin n → EReal} (h : ∀ i, P (f i)) (i : ℕ) : P (rd1 f i) := by
  unfold rd1; split
  · exact h _
  · exact h0
theorem rd2_all {P : EReal → Prop} (h0 : P 0) {n m : ℕ} {f : Fin n → Fin m → EReal} (h : ∀ i j, P (f i j)) (i j : ℕ) : P (rd2 f i j) := by
  unfold rd2; split
  · exact h _ _
  · exact h0
theorem rd3_all {P : EReal → Prop} (h0 : P 0) {n m o : ℕ} {f : Fin n → Fin m → Fin o → EReal} (h : ∀ i j k, P (f i j k)) (i j k : ℕ) :
    P (rd3 f i j k) := by
  unfold rd3; split
  · exact h _ _ _
  · exact h0

section

variable [Cert.Pre_finite_scores.Facts]
  {x0 : (⟨S2x8192x1024, .f32⟩ : BufTy).Contents (Elt Ideal)} {x1 : (⟨S1x1024, .f32⟩ : BufTy).Contents (Elt Ideal)}
  {x2 : (⟨S1x1024x7424, .f32⟩ : BufTy).Contents (Elt Ideal)} {x3 : (⟨S1x2048, .f32⟩ : BufTy).Contents (Elt Ideal)}
  {x4 : (⟨S1x16, .f32⟩ : BufTy).Contents (Elt Ideal)} {x5 : (⟨S1x8x128x128, .f32⟩ : BufTy).Contents (Elt Ideal)}
  {x6 : (⟨S1x8x128, .f32⟩ : BufTy).Contents (Elt Ideal)} {x7 x8 : (⟨S1x1024, .f32⟩ : BufTy).Contents (Elt Ideal)}
  {x9 x10 x11 : (⟨S1x1024x1024, .f32⟩ : BufTy).Contents (Elt Ideal)} {x12 : (⟨S1024, .f32⟩ : BufTy).Contents (Elt Ideal)}

/-- Arguments that meet the precondition are the finite ones the layer's algebra is stated at. -/
theorem finite (h0 : (Cert.Pre_finite_scores.fn (F := Ideal) x0 x1 x2 x3 x4 x5 x6 x7 x8 x9 x10 x11 x12).1 = fun _ => 1#1)
    (h1 : (Cert.Pre_finite_scores.fn (F := Ideal) x0 x1 x2 x3 x4 x5 x6 x7 x8 x9 x10 x11 x12).2.1 = fun _ => 1#1)
    (h2 : (Cert.Pre_finite_scores.fn (F := Ideal) x0 x1 x2 x3 x4 x5 x6 x7 x8 x9 x10 x11 x12).2.2.1 = fun _ => 1#1)
    (h3 : (Cert.Pre_finite_scores.fn (F := Ideal) x0 x1 x2 x3 x4 x5 x6 x7 x8 x9 x10 x11 x12).2.2.2 = fun _ => 1#1) :
    Finite (args x0 x1 x2 x3 x4 x5 x6 x7 x8 x9 x10 x11 x12) where
  x := rd3_all IsR.zero fun b s d => real_of_bits (congrFun h0 (ix3 b s d))
  ng := rd1_all IsR.zero fun d => real_of_bits (congrFun h1 (ix2 0 d))
  win := rd2_all IsR.zero fun k n => real_of_bits (congrFun h2 (ix3 0 k n))
  ct s l := cos_real (ang_real s l)
  st s l := sin_real (ang_real s l)
  sk := rd1_all (P := fun v => v < ⊤) EReal.zero_lt_top fun h => of_lt_bit (congrFun h3 (ix2 0 h))

end

end Cert.FiniteArgs

end
-- ==== Proof.Same.lean ====
/- The value claim: at finite scores the kernel and the reference leave the same array. -/
module

public import proofs.«01_k».proof.Defs
public import proofs.«01_k».proof.Proof.Step
public import proofs.«01_k».proof.Proof.RefC
public import proofs.«01_k».proof.Proof.RefArgs
public import proofs.«01_k».proof.Proof.FiniteArgs

@[expose] public section

set_option maxRecDepth 16384

noncomputable section

namespace Cert.Same

open Idealize.ShloMosaic Idealize.SL.Sem
open Cert.ReferenceIdeal Cert.ReferenceIdeal.Gen Cert.ReferenceIdeal.Read

instance preFacts : Cert.Pre_finite_scores.Facts := ⟨by decide, by decide, by decide, by decide⟩

/-- The reference's result of the kernel's arguments is the kernel's result. -/
theorem same (m : (ℓ : Loc Cert.KernelIdeal.nD Cert.KernelIdeal.τ Cert.KernelIdeal.sig) → Buf (Elt Ideal) ℓ) (c : Dev Cert.KernelIdeal.nD)
    (fa : Cert.Spec.Finite (Cert.Host.margs m c))
    (y0 : (⟨S2x8192x1024, .f32⟩ : BufTy).Contents (Elt Ideal)) (e0 : y0 = m ((c.tc : Thread Cert.KernelIdeal.nD Cert.KernelIdeal.τ).loc Cert.KernelIdeal.main_arg0))
    (y1 : (⟨S1x1024, .f32⟩ : BufTy).Contents (Elt Ideal)) (e1 : y1 = m ((c.tc : Thread Cert.KernelIdeal.nD Cert.KernelIdeal.τ).loc Cert.KernelIdeal.main_arg1))
    (y2 : (⟨S1x1024x7424, .f32⟩ : BufTy).Contents (Elt Ideal)) (e2 : y2 = m ((c.tc : Thread Cert.KernelIdeal.nD Cert.KernelIdeal.τ).loc Cert.KernelIdeal.main_arg2))
    (y3 : (⟨S1x2048, .f32⟩ : BufTy).Contents (Elt Ideal)) (e3 : y3 = m ((c.tc : Thread Cert.KernelIdeal.nD Cert.KernelIdeal.τ).loc Cert.KernelIdeal.main_arg3))
    (y4 : (⟨S1x16, .f32⟩ : BufTy).Contents (Elt Ideal)) (e4 : y4 = m ((c.tc : Thread Cert.KernelIdeal.nD Cert.KernelIdeal.τ).loc Cert.KernelIdeal.main_arg4))
    (y5 : (⟨S1x8x128x128, .f32⟩ : BufTy).Contents (Elt Ideal)) (e5 : y5 = m ((c.tc : Thread Cert.KernelIdeal.nD Cert.KernelIdeal.τ).loc Cert.KernelIdeal.main_arg5))
    (y6 : (⟨S1x8x128, .f32⟩ : BufTy).Contents (Elt Ideal)) (e6 : y6 = m ((c.tc : Thread Cert.KernelIdeal.nD Cert.KernelIdeal.τ).loc Cert.KernelIdeal.main_arg6))
    (y7 : (⟨S1x1024, .f32⟩ : BufTy).Contents (Elt Ideal)) (e7 : y7 = m ((c.tc : Thread Cert.KernelIdeal.nD Cert.KernelIdeal.τ).loc Cert.KernelIdeal.main_arg7))
    (y8 : (⟨S1x1024, .f32⟩ : BufTy).Contents (Elt Ideal)) (e8 : y8 = m ((c.tc : Thread Cert.KernelIdeal.nD Cert.KernelIdeal.τ).loc Cert.KernelIdeal.main_arg8))
    (y9 : (⟨S1x1024x1024, .f32⟩ : BufTy).Contents (Elt Ideal)) (e9 : y9 = m ((c.tc : Thread Cert.KernelIdeal.nD Cert.KernelIdeal.τ).loc Cert.KernelIdeal.main_arg9))
    (y10 : (⟨S1x1024x1024, .f32⟩ : BufTy).Contents (Elt Ideal)) (e10 : y10 = m ((c.tc : Thread Cert.KernelIdeal.nD Cert.KernelIdeal.τ).loc Cert.KernelIdeal.main_arg10))
    (y11 : (⟨S1x1024x1024, .f32⟩ : BufTy).Contents (Elt Ideal)) (e11 : y11 = m ((c.tc : Thread Cert.KernelIdeal.nD Cert.KernelIdeal.τ).loc Cert.KernelIdeal.main_arg11))
    (y12 : (⟨S1024, .f32⟩ : BufTy).Contents (Elt Ideal)) (e12 : y12 = m ((c.tc : Thread Cert.KernelIdeal.nD Cert.KernelIdeal.τ).loc Cert.KernelIdeal.main_arg12)) :
    val_main_v242 (F := Ideal) y0 y1 y2 y3 y4 y5 y6 y7 y8 y9 y10 y11 y12 = Cert.KernelIdeal.Value.G15 m c := by
  subst e0 e1 e2 e3 e4 e5 e6 e7 e8 e9 e10 e11 e12
  funext i
  exact (Cert.RefC.v242 (Cert.RefArgs.ref _ _ _ _ _ _ _ _ _ _ _ _ _) i).trans (Cert.Step.out m c fa i).symm

theorem algebraic : algebraic_KernelIdeal_ReferenceIdeal_pre_finite_scores := by
  intro m g m' g' hpre hagree
  refine ⟨_, Cert.KernelIdeal.Value.run (F := Ideal) m g, ?_⟩
  refine (θ_run Cert.ReferenceIdeal.defs _ _).mono (fun _ h c => ⟨?_, (h c).2⟩) (Cert.ReferenceIdeal.Value.run (F := Ideal) m' g')
  obtain ⟨a0, a1, a2, a3, a4, a5, a6, a7, a8, a9, a10, a11, a12⟩ := hagree c
  obtain ⟨p0, p1, p2, p3⟩ := hpre c
  refine ((h c).1.trans (val_main_v242_eq (StableHlo.launchContents m' c))).trans ?_
  exact same m c (Cert.FiniteArgs.finite p0 p1 p2 p3) _ a0 _ a1 _ a2 _ a3 _ a4 _ a5 _ a6 _ a7 _ a8 _ a9 _ a10 _ a11 _ a12

end Cert.Same

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Same
public import Idealize.ShloMosaic.Adequacy
public import Idealize.ShloMosaic.Init
public import Idealize.ShloMosaic.Lib.Quiescent

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : preserves_Kernel_KernelIdeal :=
  IdealRules.named_const.statement Cert.KernelIdeal.κ "mask" .f32 0xF149F2CA#32 ⊥ rfl

theorem claim : Cert.Claim := ⟨Cert.Kernel.Gen.facts, Cert.KernelIdeal.Gen.facts, Cert.ReferenceIdeal.Gen.facts, Cert.Same.preFacts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, preserves, Cert.Same.algebraic⟩

end Cert.Proof

end
